-- ==== Defs.lean ====
def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Attn1 (m : (ℓ : Loc Cert.Attn1.nD Cert.Attn1.τ Cert.Attn1.sig) → Buf (Elt Bits) ℓ) : Prop :=
  True

def Pre_Attn1Ideal (m : (ℓ : Loc Cert.Attn1Ideal.nD Cert.Attn1Ideal.τ Cert.Attn1Ideal.sig) → Buf (Elt Ideal) ℓ) : Prop :=
  True

def Pre_Attn1Ideal_attn_finite [hPre_attn_finite : Cert.Pre_attn_finite.Facts] (m : (ℓ : Loc Cert.Attn1Ideal.nD Cert.Attn1Ideal.τ Cert.Attn1Ideal.sig) → Buf (Elt Ideal) ℓ) : Prop :=
  ∀ c : Dev Cert.Attn1Ideal.nD,
    (Cert.Pre_attn_finite.fn (F := Ideal) (m ((c.tc : Thread Cert.Attn1Ideal.nD Cert.Attn1Ideal.τ).loc Cert.Attn1Ideal.main_arg0)) (m ((c.tc : Thread Cert.Attn1Ideal.nD Cert.Attn1Ideal.τ).loc Cert.Attn1Ideal.main_arg1)) (m ((c.tc : Thread Cert.Attn1Ideal.nD Cert.Attn1Ideal.τ).loc Cert.Attn1Ideal.main_arg2)) (m ((c.tc : Thread Cert.Attn1Ideal.nD Cert.Attn1Ideal.τ).loc Cert.Attn1Ideal.main_arg3)) (m ((c.tc : Thread Cert.Attn1Ideal.nD Cert.Attn1Ideal.τ).loc Cert.Attn1Ideal.main_arg4))) = (fun _ => 1#1)

def Pre_Attn1RefIdeal (m : (ℓ : Loc Cert.Attn1RefIdeal.nD Cert.Attn1RefIdeal.τ Cert.Attn1RefIdeal.sig) → Buf (Elt Ideal) ℓ) : Prop :=
  True

def Pre_Attn1RefIdeal_attn_finite [hPre_attn_finite : Cert.Pre_attn_finite.Facts] (m : (ℓ : Loc Cert.Attn1RefIdeal.nD Cert.Attn1RefIdeal.τ Cert.Attn1RefIdeal.sig) → Buf (Elt Ideal) ℓ) : Prop :=
  ∀ c : Dev Cert.Attn1RefIdeal.nD,
    (Cert.Pre_attn_finite.fn (F := Ideal) (m ((c.tc : Thread Cert.Attn1RefIdeal.nD Cert.Attn1RefIdeal.τ).loc Cert.Attn1RefIdeal.main_arg0)) (m ((c.tc : Thread Cert.Attn1RefIdeal.nD Cert.Attn1RefIdeal.τ).loc Cert.Attn1RefIdeal.main_arg1)) (m ((c.tc : Thread Cert.Attn1RefIdeal.nD Cert.Attn1RefIdeal.τ).loc Cert.Attn1RefIdeal.main_arg2)) (m ((c.tc : Thread Cert.Attn1RefIdeal.nD Cert.Attn1RefIdeal.τ).loc Cert.Attn1RefIdeal.main_arg3)) (m ((c.tc : Thread Cert.Attn1RefIdeal.nD Cert.Attn1RefIdeal.τ).loc Cert.Attn1RefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_out_finite [hPre_out_finite : Cert.Pre_out_finite.Facts] (m : (ℓ : Loc Cert.OutIdeal.nD Cert.OutIdeal.τ Cert.OutIdeal.sig) → Buf (Elt Ideal) ℓ) : Prop :=
  ∀ c : Dev Cert.OutIdeal.nD,
    (Cert.Pre_out_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8)) (m ((c.tc : Thread Cert.OutIdeal.nD Cert.OutIdeal.τ).loc Cert.OutIdeal.main_arg9)) (m ((c.tc : Thread Cert.OutIdeal.nD Cert.OutIdeal.τ).loc Cert.OutIdeal.main_arg10))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_out_finite [hPre_out_finite : Cert.Pre_out_finite.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7)) (m ((c.tc : Thread Cert.OutRefIdeal.nD Cert.OutRefIdeal.τ).loc Cert.OutRefIdeal.main_arg8)) (m ((c.tc : Thread Cert.OutRefIdeal.nD Cert.OutRefIdeal.τ).loc Cert.OutRefIdeal.main_arg9)) (m ((c.tc : Thread Cert.OutRefIdeal.nD Cert.OutRefIdeal.τ).loc Cert.OutRefIdeal.main_arg10))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))) = (fun _ => 1#1)

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_Attn1 [hAttn1 : Cert.Attn1.Facts] : Prop :=
  ∀ (m : (ℓ : Loc Cert.Attn1.nD Cert.Attn1.τ Cert.Attn1.sig) → Buf (Elt Bits) ℓ) (g : Dev Cert.Attn1.nD → PrngReg), Pre_Attn1 m →
    θ_run (Cert.Attn1.defs (F := Bits)) (onTc (τ := Cert.Attn1.τ) (Cert.Attn1.main (F := Bits))) ⟨m, fun _ => 0, g⟩ (fun r => (∀ c : Dev Cert.Attn1.nD,
      r.2.mem ((c.tc : Thread Cert.Attn1.nD Cert.Attn1.τ).loc Cert.Attn1.main_arg0) = m ((c.tc : Thread Cert.Attn1.nD Cert.Attn1.τ).loc Cert.Attn1.main_arg0)
      ∧ r.2.mem ((c.tc : Thread Cert.Attn1.nD Cert.Attn1.τ).loc Cert.Attn1.main_arg1) = m ((c.tc : Thread Cert.Attn1.nD Cert.Attn1.τ).loc Cert.Attn1.main_arg1)
      ∧ r.2.mem ((c.tc : Thread Cert.Attn1.nD Cert.Attn1.τ).loc Cert.Attn1.main_arg2) = m ((c.tc : Thread Cert.Attn1.nD Cert.Attn1.τ).loc Cert.Attn1.main_arg2)
      ∧ r.2.mem ((c.tc : Thread Cert.Attn1.nD Cert.Attn1.τ).loc Cert.Attn1.main_arg3) = m ((c.tc : Thread Cert.Attn1.nD Cert.Attn1.τ).loc Cert.Attn1.main_arg3)
      ∧ r.2.mem ((c.tc : Thread Cert.Attn1.nD Cert.Attn1.τ).loc Cert.Attn1.main_arg4) = m ((c.tc : Thread Cert.Attn1.nD Cert.Attn1.τ).loc Cert.Attn1.main_arg4))
      ∧ r.2.sem = fun _ => 0)

def quiescent_Attn1Ideal [hAttn1Ideal : Cert.Attn1Ideal.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0)
      ∧ r.2.mem ((c.tc : Thread Cert.Attn1Ideal.nD Cert.Attn1Ideal.τ).loc Cert.Attn1Ideal.main_arg1) = m ((c.tc : Thread Cert.Attn1Ideal.nD Cert.Attn1Ideal.τ).loc Cert.Attn1Ideal.main_arg1)
      ∧ r.2.mem ((c.tc : Thread Cert.Attn1Ideal.nD Cert.Attn1Ideal.τ).loc Cert.Attn1Ideal.main_arg2) = m ((c.tc : Thread Cert.Attn1Ideal.nD Cert.Attn1Ideal.τ).loc Cert.Attn1Ideal.main_arg2)
      ∧ r.2.mem ((c.tc : Thread Cert.Attn1Ideal.nD Cert.Attn1Ideal.τ).loc Cert.Attn1Ideal.main_arg3) = m ((c.tc : Thread Cert.Attn1Ideal.nD Cert.Attn1Ideal.τ).loc Cert.Attn1Ideal.main_arg3)
      ∧ r.2.mem ((c.tc : Thread Cert.Attn1Ideal.nD Cert.Attn1Ideal.τ).loc Cert.Attn1Ideal.main_arg4) = m ((c.tc : Thread Cert.Attn1Ideal.nD Cert.Attn1Ideal.τ).loc Cert.Attn1Ideal.main_arg4))
      ∧ r.2.sem = fun _ => 0)

def quiescent_Attn1Ideal_pre_attn_finite [hAttn1Ideal : Cert.Attn1Ideal.Facts] [hPre_attn_finite : Cert.Pre_attn_finite.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal_attn_finite m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0)
      ∧ r.2.mem ((c.tc : Thread Cert.Attn1Ideal.nD Cert.Attn1Ideal.τ).loc Cert.Attn1Ideal.main_arg1) = m ((c.tc : Thread Cert.Attn1Ideal.nD Cert.Attn1Ideal.τ).loc Cert.Attn1Ideal.main_arg1)
      ∧ r.2.mem ((c.tc : Thread Cert.Attn1Ideal.nD Cert.Attn1Ideal.τ).loc Cert.Attn1Ideal.main_arg2) = m ((c.tc : Thread Cert.Attn1Ideal.nD Cert.Attn1Ideal.τ).loc Cert.Attn1Ideal.main_arg2)
      ∧ r.2.mem ((c.tc : Thread Cert.Attn1Ideal.nD Cert.Attn1Ideal.τ).loc Cert.Attn1Ideal.main_arg3) = m ((c.tc : Thread Cert.Attn1Ideal.nD Cert.Attn1Ideal.τ).loc Cert.Attn1Ideal.main_arg3)
      ∧ r.2.mem ((c.tc : Thread Cert.Attn1Ideal.nD Cert.Attn1Ideal.τ).loc Cert.Attn1Ideal.main_arg4) = m ((c.tc : Thread Cert.Attn1Ideal.nD Cert.Attn1Ideal.τ).loc Cert.Attn1Ideal.main_arg4))
      ∧ r.2.sem = fun _ => 0)

def quiescent_Attn1RefIdeal [hAttn1RefIdeal : Cert.Attn1RefIdeal.Facts] : Prop :=
  ∀ (m : (ℓ : Loc Cert.Attn1RefIdeal.nD Cert.Attn1RefIdeal.τ Cert.Attn1RefIdeal.sig) → Buf (Elt Ideal) ℓ) (g : Dev Cert.Attn1RefIdeal.nD → PrngReg), Pre_Attn1RefIdeal m →
    θ_run (Cert.Attn1RefIdeal.defs (F := Ideal)) (onTc (τ := Cert.Attn1RefIdeal.τ) (Cert.Attn1RefIdeal.main (F := Ideal))) ⟨m, fun _ => 0, g⟩ (fun r => (∀ c : Dev Cert.Attn1RefIdeal.nD,
      r.2.mem ((c.tc : Thread Cert.Attn1RefIdeal.nD Cert.Attn1RefIdeal.τ).loc Cert.Attn1RefIdeal.main_arg0) = m ((c.tc : Thread Cert.Attn1RefIdeal.nD Cert.Attn1RefIdeal.τ).loc Cert.Attn1RefIdeal.main_arg0)
      ∧ r.2.mem ((c.tc : Thread Cert.Attn1RefIdeal.nD Cert.Attn1RefIdeal.τ).loc Cert.Attn1RefIdeal.main_arg1) = m ((c.tc : Thread Cert.Attn1RefIdeal.nD Cert.Attn1RefIdeal.τ).loc Cert.Attn1RefIdeal.main_arg1)
      ∧ r.2.mem ((c.tc : Thread Cert.Attn1RefIdeal.nD Cert.Attn1RefIdeal.τ).loc Cert.Attn1RefIdeal.main_arg2) = m ((c.tc : Thread Cert.Attn1RefIdeal.nD Cert.Attn1RefIdeal.τ).loc Cert.Attn1RefIdeal.main_arg2)
      ∧ r.2.mem ((c.tc : Thread Cert.Attn1RefIdeal.nD Cert.Attn1RefIdeal.τ).loc Cert.Attn1RefIdeal.main_arg3) = m ((c.tc : Thread Cert.Attn1RefIdeal.nD Cert.Attn1RefIdeal.τ).loc Cert.Attn1RefIdeal.main_arg3)
      ∧ r.2.mem ((c.tc : Thread Cert.Attn1RefIdeal.nD Cert.Attn1RefIdeal.τ).loc Cert.Attn1RefIdeal.main_arg4) = m ((c.tc : Thread Cert.Attn1RefIdeal.nD Cert.Attn1RefIdeal.τ).loc Cert.Attn1RefIdeal.main_arg4))
      ∧ r.2.sem = fun _ => 0)

def quiescent_Attn1RefIdeal_pre_attn_finite [hAttn1RefIdeal : Cert.Attn1RefIdeal.Facts] [hPre_attn_finite : Cert.Pre_attn_finite.Facts] : Prop :=
  ∀ (m : (ℓ : Loc Cert.Attn1RefIdeal.nD Cert.Attn1RefIdeal.τ Cert.Attn1RefIdeal.sig) → Buf (Elt Ideal) ℓ) (g : Dev Cert.Attn1RefIdeal.nD → PrngReg), Pre_Attn1RefIdeal_attn_finite m →
    θ_run (Cert.Attn1RefIdeal.defs (F := Ideal)) (onTc (τ := Cert.Attn1RefIdeal.τ) (Cert.Attn1RefIdeal.main (F := Ideal))) ⟨m, fun _ => 0, g⟩ (fun r => (∀ c : Dev Cert.Attn1RefIdeal.nD,
      r.2.mem ((c.tc : Thread Cert.Attn1RefIdeal.nD Cert.Attn1RefIdeal.τ).loc Cert.Attn1RefIdeal.main_arg0) = m ((c.tc : Thread Cert.Attn1RefIdeal.nD Cert.Attn1RefIdeal.τ).loc Cert.Attn1RefIdeal.main_arg0)
      ∧ r.2.mem ((c.tc : Thread Cert.Attn1RefIdeal.nD Cert.Attn1RefIdeal.τ).loc Cert.Attn1RefIdeal.main_arg1) = m ((c.tc : Thread Cert.Attn1RefIdeal.nD Cert.Attn1RefIdeal.τ).loc Cert.Attn1RefIdeal.main_arg1)
      ∧ r.2.mem ((c.tc : Thread Cert.Attn1RefIdeal.nD Cert.Attn1RefIdeal.τ).loc Cert.Attn1RefIdeal.main_arg2) = m ((c.tc : Thread Cert.Attn1RefIdeal.nD Cert.Attn1RefIdeal.τ).loc Cert.Attn1RefIdeal.main_arg2)
      ∧ r.2.mem ((c.tc : Thread Cert.Attn1RefIdeal.nD Cert.Attn1RefIdeal.τ).loc Cert.Attn1RefIdeal.main_arg3) = m ((c.tc : Thread Cert.Attn1RefIdeal.nD Cert.Attn1RefIdeal.τ).loc Cert.Attn1RefIdeal.main_arg3)
      ∧ r.2.mem ((c.tc : Thread Cert.Attn1RefIdeal.nD Cert.Attn1RefIdeal.τ).loc Cert.Attn1RefIdeal.main_arg4) = m ((c.tc : Thread Cert.Attn1RefIdeal.nD Cert.Attn1RefIdeal.τ).loc Cert.Attn1RefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ r.2.sem = fun _ => 0)

def quiescent_OutIdeal_pre_out_finite [hOutIdeal : Cert.OutIdeal.Facts] [hPre_out_finite : Cert.Pre_out_finite.Facts] : Prop :=
  ∀ (m : (ℓ : Loc Cert.OutIdeal.nD Cert.OutIdeal.τ Cert.OutIdeal.sig) → Buf (Elt Ideal) ℓ) (g : Dev Cert.OutIdeal.nD → PrngReg), Pre_OutIdeal_out_finite m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10))
      ∧ r.2.sem = fun _ => 0)

def quiescent_OutRefIdeal_pre_out_finite [hOutRefIdeal : Cert.OutRefIdeal.Facts] [hPre_out_finite : Cert.Pre_out_finite.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_out_finite m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def preserves_InBwd_InBwdIdeal : Prop :=
  True

def algebraic_InBwdIdeal_InRefIdeal [hInBwdIdeal : Cert.InBwdIdeal.Facts] [hInRefIdeal : Cert.InRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InRefIdeal.nD Cert.InRefIdeal.τ Cert.InRefIdeal.sig) → Buf (Elt Ideal) ℓ) (g' : Dev Cert.InRefIdeal.nD → PrngReg), Pre_InBwdIdeal m →
    (∀ c : Dev Cert.InBwdIdeal.nD,
      m' ((c.tc : Thread Cert.InRefIdeal.nD Cert.InRefIdeal.τ).loc Cert.InRefIdeal.main_arg0) = m ((c.tc : Thread Cert.InBwdIdeal.nD Cert.InBwdIdeal.τ).loc Cert.InBwdIdeal.main_arg0)
      ∧ m' ((c.tc : Thread Cert.InRefIdeal.nD Cert.InRefIdeal.τ).loc Cert.InRefIdeal.main_arg1) = m ((c.tc : Thread Cert.InBwdIdeal.nD Cert.InBwdIdeal.τ).loc Cert.InBwdIdeal.main_arg1)
      ∧ m' ((c.tc : Thread Cert.InRefIdeal.nD Cert.InRefIdeal.τ).loc Cert.InRefIdeal.main_arg2) = m ((c.tc : Thread Cert.InBwdIdeal.nD Cert.InBwdIdeal.τ).loc Cert.InBwdIdeal.main_arg2)
      ∧ m' ((c.tc : Thread Cert.InRefIdeal.nD Cert.InRefIdeal.τ).loc Cert.InRefIdeal.main_arg3) = m ((c.tc : Thread Cert.InBwdIdeal.nD Cert.InBwdIdeal.τ).loc Cert.InBwdIdeal.main_arg3)
      ∧ m' ((c.tc : Thread Cert.InRefIdeal.nD Cert.InRefIdeal.τ).loc Cert.InRefIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v35_0)) (v1 : (c : Dev Cert.InBwdIdeal.nD) → Buf (Elt Ideal) ((c.tc : Thread Cert.InBwdIdeal.nD Cert.InBwdIdeal.τ).loc Cert.InBwdIdeal.main_v35_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v35_0) = v0 c
          ∧ r.2.mem ((c.tc : Thread Cert.InBwdIdeal.nD Cert.InBwdIdeal.τ).loc Cert.InBwdIdeal.main_v35_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v43) = v0 c
          ∧ r.2.mem ((c.tc : Thread Cert.InRefIdeal.nD Cert.InRefIdeal.τ).loc Cert.InRefIdeal.main_v42) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_Attn1_Attn1Ideal : Prop :=
  IdealRules.named_const.Statement Cert.Attn1Ideal.κ "mask" .f32 0xF149F2CA#32 ⊥

def algebraic_Attn1Ideal_Attn1RefIdeal_pre_attn_finite [hAttn1Ideal : Cert.Attn1Ideal.Facts] [hAttn1RefIdeal : Cert.Attn1RefIdeal.Facts] [hPre_attn_finite : Cert.Pre_attn_finite.Facts] : Prop :=
  ∀ (m : (ℓ : Loc Cert.Attn1Ideal.nD Cert.Attn1Ideal.τ Cert.Attn1Ideal.sig) → Buf (Elt Ideal) ℓ) (g : Dev Cert.Attn1Ideal.nD → PrngReg)
    (m' : (ℓ : Loc Cert.Attn1RefIdeal.nD Cert.Attn1RefIdeal.τ Cert.Attn1RefIdeal.sig) → Buf (Elt Ideal) ℓ) (g' : Dev Cert.Attn1RefIdeal.nD → PrngReg), Pre_Attn1Ideal_attn_finite m →
    (∀ c : Dev Cert.Attn1Ideal.nD,
      m' ((c.tc : Thread Cert.Attn1RefIdeal.nD Cert.Attn1RefIdeal.τ).loc Cert.Attn1RefIdeal.main_arg0) = m ((c.tc : Thread Cert.Attn1Ideal.nD Cert.Attn1Ideal.τ).loc Cert.Attn1Ideal.main_arg0)
      ∧ m' ((c.tc : Thread Cert.Attn1RefIdeal.nD Cert.Attn1RefIdeal.τ).loc Cert.Attn1RefIdeal.main_arg1) = m ((c.tc : Thread Cert.Attn1Ideal.nD Cert.Attn1Ideal.τ).loc Cert.Attn1Ideal.main_arg1)
      ∧ m' ((c.tc : Thread Cert.Attn1RefIdeal.nD Cert.Attn1RefIdeal.τ).loc Cert.Attn1RefIdeal.main_arg2) = m ((c.tc : Thread Cert.Attn1Ideal.nD Cert.Attn1Ideal.τ).loc Cert.Attn1Ideal.main_arg2)
      ∧ m' ((c.tc : Thread Cert.Attn1RefIdeal.nD Cert.Attn1RefIdeal.τ).loc Cert.Attn1RefIdeal.main_arg3) = m ((c.tc : Thread Cert.Attn1Ideal.nD Cert.Attn1Ideal.τ).loc Cert.Attn1Ideal.main_arg3)
      ∧ m' ((c.tc : Thread Cert.Attn1RefIdeal.nD Cert.Attn1RefIdeal.τ).loc Cert.Attn1RefIdeal.main_arg4) = m ((c.tc : Thread Cert.Attn1Ideal.nD Cert.Attn1Ideal.τ).loc Cert.Attn1Ideal.main_arg4)) →
    ∃ (v0 : (c : Dev Cert.Attn1Ideal.nD) → Buf (Elt Ideal) ((c.tc : Thread Cert.Attn1Ideal.nD Cert.Attn1Ideal.τ).loc Cert.Attn1Ideal.main_v8_0)) (v1 : (c : Dev Cert.Attn1Ideal.nD) → Buf (Elt Ideal) ((c.tc : Thread Cert.Attn1Ideal.nD Cert.Attn1Ideal.τ).loc Cert.Attn1Ideal.main_v8_1)) (v2 : (c : Dev Cert.Attn1Ideal.nD) → Buf (Elt Ideal) ((c.tc : Thread Cert.Attn1Ideal.nD Cert.Attn1Ideal.τ).loc Cert.Attn1Ideal.main_v19)) (v3 : (c : Dev Cert.Attn1Ideal.nD) → Buf (Elt Ideal) ((c.tc : Thread Cert.Attn1Ideal.nD Cert.Attn1Ideal.τ).loc Cert.Attn1Ideal.main_v20)) (v4 : (c : Dev Cert.Attn1Ideal.nD) → Buf (Elt Ideal) ((c.tc : Thread Cert.Attn1Ideal.nD Cert.Attn1Ideal.τ).loc Cert.Attn1Ideal.main_v21)),
      θ_run (Cert.Attn1Ideal.defs (F := Ideal)) (onTc (τ := Cert.Attn1Ideal.τ) (Cert.Attn1Ideal.main (F := Ideal))) ⟨m, fun _ => 0, g⟩ (fun r => ∀ c : Dev Cert.Attn1Ideal.nD,
          r.2.mem ((c.tc : Thread Cert.Attn1Ideal.nD Cert.Attn1Ideal.τ).loc Cert.Attn1Ideal.main_v8_0) = v0 c
          ∧ r.2.mem ((c.tc : Thread Cert.Attn1Ideal.nD Cert.Attn1Ideal.τ).loc Cert.Attn1Ideal.main_v8_1) = v1 c
          ∧ r.2.mem ((c.tc : Thread Cert.Attn1Ideal.nD Cert.Attn1Ideal.τ).loc Cert.Attn1Ideal.main_v19) = v2 c
          ∧ r.2.mem ((c.tc : Thread Cert.Attn1Ideal.nD Cert.Attn1Ideal.τ).loc Cert.Attn1Ideal.main_v20) = v3 c
          ∧ r.2.mem ((c.tc : Thread Cert.Attn1Ideal.nD Cert.Attn1Ideal.τ).loc Cert.Attn1Ideal.main_v21) = v4 c
          ∧ r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0)
          ∧ r.2.mem ((c.tc : Thread Cert.Attn1Ideal.nD Cert.Attn1Ideal.τ).loc Cert.Attn1Ideal.main_arg1) = m ((c.tc : Thread Cert.Attn1Ideal.nD Cert.Attn1Ideal.τ).loc Cert.Attn1Ideal.main_arg1)
          ∧ r.2.mem ((c.tc : Thread Cert.Attn1Ideal.nD Cert.Attn1Ideal.τ).loc Cert.Attn1Ideal.main_arg2) = m ((c.tc : Thread Cert.Attn1Ideal.nD Cert.Attn1Ideal.τ).loc Cert.Attn1Ideal.main_arg2)
          ∧ r.2.mem ((c.tc : Thread Cert.Attn1Ideal.nD Cert.Attn1Ideal.τ).loc Cert.Attn1Ideal.main_arg3) = m ((c.tc : Thread Cert.Attn1Ideal.nD Cert.Attn1Ideal.τ).loc Cert.Attn1Ideal.main_arg3)
          ∧ r.2.mem ((c.tc : Thread Cert.Attn1Ideal.nD Cert.Attn1Ideal.τ).loc Cert.Attn1Ideal.main_arg4) = m ((c.tc : Thread Cert.Attn1Ideal.nD Cert.Attn1Ideal.τ).loc Cert.Attn1Ideal.main_arg4))
      ∧ θ_run (Cert.Attn1RefIdeal.defs (F := Ideal)) (onTc (τ := Cert.Attn1RefIdeal.τ) (Cert.Attn1RefIdeal.main (F := Ideal))) ⟨m', fun _ => 0, g'⟩ (fun r => ∀ c : Dev Cert.Attn1RefIdeal.nD,
          r.2.mem ((c.tc : Thread Cert.Attn1RefIdeal.nD Cert.Attn1RefIdeal.τ).loc Cert.Attn1RefIdeal.main_v195) = v0 c
          ∧ r.2.mem ((c.tc : Thread Cert.Attn1RefIdeal.nD Cert.Attn1RefIdeal.τ).loc Cert.Attn1RefIdeal.main_v196) = v1 c
          ∧ r.2.mem ((c.tc : Thread Cert.Attn1RefIdeal.nD Cert.Attn1RefIdeal.τ).loc Cert.Attn1RefIdeal.main_v197) = v2 c
          ∧ r.2.mem ((c.tc : Thread Cert.Attn1RefIdeal.nD Cert.Attn1RefIdeal.τ).loc Cert.Attn1RefIdeal.main_v198) = v3 c
          ∧ r.2.mem ((c.tc : Thread Cert.Attn1RefIdeal.nD Cert.Attn1RefIdeal.τ).loc Cert.Attn1RefIdeal.main_v199) = v4 c
          ∧ r.2.mem ((c.tc : Thread Cert.Attn1RefIdeal.nD Cert.Attn1RefIdeal.τ).loc Cert.Attn1RefIdeal.main_arg0) = m' ((c.tc : Thread Cert.Attn1RefIdeal.nD Cert.Attn1RefIdeal.τ).loc Cert.Attn1RefIdeal.main_arg0)
          ∧ r.2.mem ((c.tc : Thread Cert.Attn1RefIdeal.nD Cert.Attn1RefIdeal.τ).loc Cert.Attn1RefIdeal.main_arg1) = m' ((c.tc : Thread Cert.Attn1RefIdeal.nD Cert.Attn1RefIdeal.τ).loc Cert.Attn1RefIdeal.main_arg1)
          ∧ r.2.mem ((c.tc : Thread Cert.Attn1RefIdeal.nD Cert.Attn1RefIdeal.τ).loc Cert.Attn1RefIdeal.main_arg2) = m' ((c.tc : Thread Cert.Attn1RefIdeal.nD Cert.Attn1RefIdeal.τ).loc Cert.Attn1RefIdeal.main_arg2)
          ∧ r.2.mem ((c.tc : Thread Cert.Attn1RefIdeal.nD Cert.Attn1RefIdeal.τ).loc Cert.Attn1RefIdeal.main_arg3) = m' ((c.tc : Thread Cert.Attn1RefIdeal.nD Cert.Attn1RefIdeal.τ).loc Cert.Attn1RefIdeal.main_arg3)
          ∧ r.2.mem ((c.tc : Thread Cert.Attn1RefIdeal.nD Cert.Attn1RefIdeal.τ).loc Cert.Attn1RefIdeal.main_arg4) = m' ((c.tc : Thread Cert.Attn1RefIdeal.nD Cert.Attn1RefIdeal.τ).loc Cert.Attn1RefIdeal.main_arg4))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v9_0)) (v1 : (c : Dev Cert.FfnIdeal.nD) → Buf (Elt Ideal) ((c.tc : Thread Cert.FfnIdeal.nD Cert.FfnIdeal.τ).loc Cert.FfnIdeal.main_v13)) (v2 : (c : Dev Cert.FfnIdeal.nD) → Buf (Elt Ideal) ((c.tc : Thread Cert.FfnIdeal.nD Cert.FfnIdeal.τ).loc Cert.FfnIdeal.main_v14)) (v3 : (c : Dev Cert.FfnIdeal.nD) → Buf (Elt Ideal) ((c.tc : Thread Cert.FfnIdeal.nD Cert.FfnIdeal.τ).loc Cert.FfnIdeal.main_v9_3)) (v4 : (c : Dev Cert.FfnIdeal.nD) → Buf (Elt Ideal) ((c.tc : Thread Cert.FfnIdeal.nD Cert.FfnIdeal.τ).loc Cert.FfnIdeal.main_v12_0)) (v5 : (c : Dev Cert.FfnIdeal.nD) → Buf (Elt Ideal) ((c.tc : Thread Cert.FfnIdeal.nD Cert.FfnIdeal.τ).loc Cert.FfnIdeal.main_v15)) (v6 : (c : Dev Cert.FfnIdeal.nD) → Buf (Elt Ideal) ((c.tc : Thread Cert.FfnIdeal.nD Cert.FfnIdeal.τ).loc Cert.FfnIdeal.main_v16)) (v7 : (c : Dev Cert.FfnIdeal.nD) → Buf (Elt Ideal) ((c.tc : Thread Cert.FfnIdeal.nD Cert.FfnIdeal.τ).loc Cert.FfnIdeal.main_v17)) (v8 : (c : Dev Cert.FfnIdeal.nD) → Buf (Elt Ideal) ((c.tc : Thread Cert.FfnIdeal.nD Cert.FfnIdeal.τ).loc Cert.FfnIdeal.main_v18)) (v9 : (c : Dev Cert.FfnIdeal.nD) → Buf (Elt Ideal) ((c.tc : Thread Cert.FfnIdeal.nD Cert.FfnIdeal.τ).loc Cert.FfnIdeal.main_v19)) (v10 : (c : Dev Cert.FfnIdeal.nD) → Buf (Elt Ideal) ((c.tc : Thread Cert.FfnIdeal.nD Cert.FfnIdeal.τ).loc Cert.FfnIdeal.main_v12_6)) (v11 : (c : Dev Cert.FfnIdeal.nD) → Buf (Elt Ideal) ((c.tc : Thread Cert.FfnIdeal.nD Cert.FfnIdeal.τ).loc Cert.FfnIdeal.main_v12_7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9_0) = v0 c
          ∧ r.2.mem ((c.tc : Thread Cert.FfnIdeal.nD Cert.FfnIdeal.τ).loc Cert.FfnIdeal.main_v13) = v1 c
          ∧ r.2.mem ((c.tc : Thread Cert.FfnIdeal.nD Cert.FfnIdeal.τ).loc Cert.FfnIdeal.main_v14) = v2 c
          ∧ r.2.mem ((c.tc : Thread Cert.FfnIdeal.nD Cert.FfnIdeal.τ).loc Cert.FfnIdeal.main_v9_3) = v3 c
          ∧ r.2.mem ((c.tc : Thread Cert.FfnIdeal.nD Cert.FfnIdeal.τ).loc Cert.FfnIdeal.main_v12_0) = v4 c
          ∧ r.2.mem ((c.tc : Thread Cert.FfnIdeal.nD Cert.FfnIdeal.τ).loc Cert.FfnIdeal.main_v15) = v5 c
          ∧ r.2.mem ((c.tc : Thread Cert.FfnIdeal.nD Cert.FfnIdeal.τ).loc Cert.FfnIdeal.main_v16) = v6 c
          ∧ r.2.mem ((c.tc : Thread Cert.FfnIdeal.nD Cert.FfnIdeal.τ).loc Cert.FfnIdeal.main_v17) = v7 c
          ∧ r.2.mem ((c.tc : Thread Cert.FfnIdeal.nD Cert.FfnIdeal.τ).loc Cert.FfnIdeal.main_v18) = v8 c
          ∧ r.2.mem ((c.tc : Thread Cert.FfnIdeal.nD Cert.FfnIdeal.τ).loc Cert.FfnIdeal.main_v19) = v9 c
          ∧ r.2.mem ((c.tc : Thread Cert.FfnIdeal.nD Cert.FfnIdeal.τ).loc Cert.FfnIdeal.main_v12_6) = v10 c
          ∧ r.2.mem ((c.tc : Thread Cert.FfnIdeal.nD Cert.FfnIdeal.τ).loc Cert.FfnIdeal.main_v12_7) = v11 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v105) = v0 c
          ∧ r.2.mem ((c.tc : Thread Cert.FfnRefIdeal.nD Cert.FfnRefIdeal.τ).loc Cert.FfnRefIdeal.main_v106) = v1 c
          ∧ r.2.mem ((c.tc : Thread Cert.FfnRefIdeal.nD Cert.FfnRefIdeal.τ).loc Cert.FfnRefIdeal.main_v107) = v2 c
          ∧ r.2.mem ((c.tc : Thread Cert.FfnRefIdeal.nD Cert.FfnRefIdeal.τ).loc Cert.FfnRefIdeal.main_v108) = v3 c
          ∧ r.2.mem ((c.tc : Thread Cert.FfnRefIdeal.nD Cert.FfnRefIdeal.τ).loc Cert.FfnRefIdeal.main_v109) = v4 c
          ∧ r.2.mem ((c.tc : Thread Cert.FfnRefIdeal.nD Cert.FfnRefIdeal.τ).loc Cert.FfnRefIdeal.main_v110) = v5 c
          ∧ r.2.mem ((c.tc : Thread Cert.FfnRefIdeal.nD Cert.FfnRefIdeal.τ).loc Cert.FfnRefIdeal.main_v111) = v6 c
          ∧ r.2.mem ((c.tc : Thread Cert.FfnRefIdeal.nD Cert.FfnRefIdeal.τ).loc Cert.FfnRefIdeal.main_v112) = v7 c
          ∧ r.2.mem ((c.tc : Thread Cert.FfnRefIdeal.nD Cert.FfnRefIdeal.τ).loc Cert.FfnRefIdeal.main_v113) = v8 c
          ∧ r.2.mem ((c.tc : Thread Cert.FfnRefIdeal.nD Cert.FfnRefIdeal.τ).loc Cert.FfnRefIdeal.main_v114) = v9 c
          ∧ r.2.mem ((c.tc : Thread Cert.FfnRefIdeal.nD Cert.FfnRefIdeal.τ).loc Cert.FfnRefIdeal.main_v104) = v10 c
          ∧ r.2.mem ((c.tc : Thread Cert.FfnRefIdeal.nD Cert.FfnRefIdeal.τ).loc Cert.FfnRefIdeal.main_v74) = v11 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Out_OutIdeal : Prop :=
  True

def algebraic_OutIdeal_OutRefIdeal_pre_out_finite [hOutIdeal : Cert.OutIdeal.Facts] [hOutRefIdeal : Cert.OutRefIdeal.Facts] [hPre_out_finite : Cert.Pre_out_finite.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_out_finite m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)) →
    ∃ (v0 : (c : Dev Cert.OutIdeal.nD) → Buf (Elt Ideal) ((c.tc : Thread Cert.OutIdeal.nD Cert.OutIdeal.τ).loc Cert.OutIdeal.main_v26_0)) (v1 : (c : Dev Cert.OutIdeal.nD) → Buf (Elt Ideal) ((c.tc : Thread Cert.OutIdeal.nD Cert.OutIdeal.τ).loc Cert.OutIdeal.main_v29)) (v2 : (c : Dev Cert.OutIdeal.nD) → Buf (Elt Ideal) ((c.tc : Thread Cert.OutIdeal.nD Cert.OutIdeal.τ).loc Cert.OutIdeal.main_v28_0)) (v3 : (c : Dev Cert.OutIdeal.nD) → Buf (Elt Ideal) ((c.tc : Thread Cert.OutIdeal.nD Cert.OutIdeal.τ).loc Cert.OutIdeal.main_v30)) (v4 : (c : Dev Cert.OutIdeal.nD) → Buf (Elt Ideal) ((c.tc : Thread Cert.OutIdeal.nD Cert.OutIdeal.τ).loc Cert.OutIdeal.main_v31)) (v5 : (c : Dev Cert.OutIdeal.nD) → Buf (Elt Ideal) ((c.tc : Thread Cert.OutIdeal.nD Cert.OutIdeal.τ).loc Cert.OutIdeal.main_v28_3)) (v6 : (c : Dev Cert.OutIdeal.nD) → Buf (Elt Ideal) ((c.tc : Thread Cert.OutIdeal.nD Cert.OutIdeal.τ).loc Cert.OutIdeal.main_v28_4)) (v7 : (c : Dev Cert.OutIdeal.nD) → Buf (Elt Ideal) ((c.tc : Thread Cert.OutIdeal.nD Cert.OutIdeal.τ).loc Cert.OutIdeal.main_v28_5)) (v8 : (c : Dev Cert.OutIdeal.nD) → Buf (Elt Ideal) ((c.tc : Thread Cert.OutIdeal.nD Cert.OutIdeal.τ).loc Cert.OutIdeal.main_v28_6)) (v9 : (c : Dev Cert.OutIdeal.nD) → Buf (Elt Ideal) ((c.tc : Thread Cert.OutIdeal.nD Cert.OutIdeal.τ).loc Cert.OutIdeal.main_v28_7)) (v10 : (c : Dev Cert.OutIdeal.nD) → Buf (Elt Ideal) ((c.tc : Thread Cert.OutIdeal.nD Cert.OutIdeal.τ).loc Cert.OutIdeal.main_v28_8)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v26_0) = v0 c
          ∧ r.2.mem ((c.tc : Thread Cert.OutIdeal.nD Cert.OutIdeal.τ).loc Cert.OutIdeal.main_v29) = v1 c
          ∧ r.2.mem ((c.tc : Thread Cert.OutIdeal.nD Cert.OutIdeal.τ).loc Cert.OutIdeal.main_v28_0) = v2 c
          ∧ r.2.mem ((c.tc : Thread Cert.OutIdeal.nD Cert.OutIdeal.τ).loc Cert.OutIdeal.main_v30) = v3 c
          ∧ r.2.mem ((c.tc : Thread Cert.OutIdeal.nD Cert.OutIdeal.τ).loc Cert.OutIdeal.main_v31) = v4 c
          ∧ r.2.mem ((c.tc : Thread Cert.OutIdeal.nD Cert.OutIdeal.τ).loc Cert.OutIdeal.main_v28_3) = v5 c
          ∧ r.2.mem ((c.tc : Thread Cert.OutIdeal.nD Cert.OutIdeal.τ).loc Cert.OutIdeal.main_v28_4) = v6 c
          ∧ r.2.mem ((c.tc : Thread Cert.OutIdeal.nD Cert.OutIdeal.τ).loc Cert.OutIdeal.main_v28_5) = v7 c
          ∧ r.2.mem ((c.tc : Thread Cert.OutIdeal.nD Cert.OutIdeal.τ).loc Cert.OutIdeal.main_v28_6) = v8 c
          ∧ r.2.mem ((c.tc : Thread Cert.OutIdeal.nD Cert.OutIdeal.τ).loc Cert.OutIdeal.main_v28_7) = v9 c
          ∧ r.2.mem ((c.tc : Thread Cert.OutIdeal.nD Cert.OutIdeal.τ).loc Cert.OutIdeal.main_v28_8) = v10 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v149) = v0 c
          ∧ r.2.mem ((c.tc : Thread Cert.OutRefIdeal.nD Cert.OutRefIdeal.τ).loc Cert.OutRefIdeal.main_v150) = v1 c
          ∧ r.2.mem ((c.tc : Thread Cert.OutRefIdeal.nD Cert.OutRefIdeal.τ).loc Cert.OutRefIdeal.main_v151) = v2 c
          ∧ r.2.mem ((c.tc : Thread Cert.OutRefIdeal.nD Cert.OutRefIdeal.τ).loc Cert.OutRefIdeal.main_v152) = v3 c
          ∧ r.2.mem ((c.tc : Thread Cert.OutRefIdeal.nD Cert.OutRefIdeal.τ).loc Cert.OutRefIdeal.main_v153) = v4 c
          ∧ r.2.mem ((c.tc : Thread Cert.OutRefIdeal.nD Cert.OutRefIdeal.τ).loc Cert.OutRefIdeal.main_v154) = v5 c
          ∧ r.2.mem ((c.tc : Thread Cert.OutRefIdeal.nD Cert.OutRefIdeal.τ).loc Cert.OutRefIdeal.main_v155) = v6 c
          ∧ r.2.mem ((c.tc : Thread Cert.OutRefIdeal.nD Cert.OutRefIdeal.τ).loc Cert.OutRefIdeal.main_v161) = v7 c
          ∧ r.2.mem ((c.tc : Thread Cert.OutRefIdeal.nD Cert.OutRefIdeal.τ).loc Cert.OutRefIdeal.main_v167) = v8 c
          ∧ r.2.mem ((c.tc : Thread Cert.OutRefIdeal.nD Cert.OutRefIdeal.τ).loc Cert.OutRefIdeal.main_v173) = v9 c
          ∧ r.2.mem ((c.tc : Thread Cert.OutRefIdeal.nD Cert.OutRefIdeal.τ).loc Cert.OutRefIdeal.main_v93) = v10 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v28)) (v1 : (c : Dev Cert.PoolIdeal.nD) → Buf (Elt Ideal) ((c.tc : Thread Cert.PoolIdeal.nD Cert.PoolIdeal.τ).loc Cert.PoolIdeal.main_v29)) (v2 : (c : Dev Cert.PoolIdeal.nD) → Buf (Elt Ideal) ((c.tc : Thread Cert.PoolIdeal.nD Cert.PoolIdeal.τ).loc Cert.PoolIdeal.main_v27)) (v3 : (c : Dev Cert.PoolIdeal.nD) → Buf (Elt Ideal) ((c.tc : Thread Cert.PoolIdeal.nD Cert.PoolIdeal.τ).loc Cert.PoolIdeal.main_v18_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v28) = v0 c
          ∧ r.2.mem ((c.tc : Thread Cert.PoolIdeal.nD Cert.PoolIdeal.τ).loc Cert.PoolIdeal.main_v29) = v1 c
          ∧ r.2.mem ((c.tc : Thread Cert.PoolIdeal.nD Cert.PoolIdeal.τ).loc Cert.PoolIdeal.main_v27) = v2 c
          ∧ r.2.mem ((c.tc : Thread Cert.PoolIdeal.nD Cert.PoolIdeal.τ).loc Cert.PoolIdeal.main_v18_2) = v3 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v180) = v0 c
          ∧ r.2.mem ((c.tc : Thread Cert.PoolRefIdeal.nD Cert.PoolRefIdeal.τ).loc Cert.PoolRefIdeal.main_v181) = v1 c
          ∧ r.2.mem ((c.tc : Thread Cert.PoolRefIdeal.nD Cert.PoolRefIdeal.τ).loc Cert.PoolRefIdeal.main_v182) = v2 c
          ∧ r.2.mem ((c.tc : Thread Cert.PoolRefIdeal.nD Cert.PoolRefIdeal.τ).loc Cert.PoolRefIdeal.main_v178) = v3 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v4_0)) (v1 : (c : Dev Cert.InFwdIdeal.nD) → Buf (Elt Ideal) ((c.tc : Thread Cert.InFwdIdeal.nD Cert.InFwdIdeal.τ).loc Cert.InFwdIdeal.main_v4_1)) (v2 : (c : Dev Cert.InFwdIdeal.nD) → Buf (Elt Ideal) ((c.tc : Thread Cert.InFwdIdeal.nD Cert.InFwdIdeal.τ).loc Cert.InFwdIdeal.main_v4_2)) (v3 : (c : Dev Cert.InFwdIdeal.nD) → Buf (Elt Ideal) ((c.tc : Thread Cert.InFwdIdeal.nD Cert.InFwdIdeal.τ).loc Cert.InFwdIdeal.main_v4_3)) (v4 : (c : Dev Cert.InFwdIdeal.nD) → Buf (Elt Ideal) ((c.tc : Thread Cert.InFwdIdeal.nD Cert.InFwdIdeal.τ).loc Cert.InFwdIdeal.main_v4_4)) (v5 : (c : Dev Cert.InFwdIdeal.nD) → Buf (Elt Ideal) ((c.tc : Thread Cert.InFwdIdeal.nD Cert.InFwdIdeal.τ).loc Cert.InFwdIdeal.main_v4_5)) (v6 : (c : Dev Cert.InFwdIdeal.nD) → Buf (Elt Ideal) ((c.tc : Thread Cert.InFwdIdeal.nD Cert.InFwdIdeal.τ).loc Cert.InFwdIdeal.main_v4_6)) (v7 : (c : Dev Cert.InFwdIdeal.nD) → Buf (Elt Ideal) ((c.tc : Thread Cert.InFwdIdeal.nD Cert.InFwdIdeal.τ).loc Cert.InFwdIdeal.main_v4_7)) (v8 : (c : Dev Cert.InFwdIdeal.nD) → Buf (Elt Ideal) ((c.tc : Thread Cert.InFwdIdeal.nD Cert.InFwdIdeal.τ).loc Cert.InFwdIdeal.main_v4_8)) (v9 : (c : Dev Cert.InFwdIdeal.nD) → Buf (Elt Ideal) ((c.tc : Thread Cert.InFwdIdeal.nD Cert.InFwdIdeal.τ).loc Cert.InFwdIdeal.main_v4_9)) (v10 : (c : Dev Cert.InFwdIdeal.nD) → Buf (Elt Ideal) ((c.tc : Thread Cert.InFwdIdeal.nD Cert.InFwdIdeal.τ).loc Cert.InFwdIdeal.main_v4_10)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v4_0) = v0 c
          ∧ r.2.mem ((c.tc : Thread Cert.InFwdIdeal.nD Cert.InFwdIdeal.τ).loc Cert.InFwdIdeal.main_v4_1) = v1 c
          ∧ r.2.mem ((c.tc : Thread Cert.InFwdIdeal.nD Cert.InFwdIdeal.τ).loc Cert.InFwdIdeal.main_v4_2) = v2 c
          ∧ r.2.mem ((c.tc : Thread Cert.InFwdIdeal.nD Cert.InFwdIdeal.τ).loc Cert.InFwdIdeal.main_v4_3) = v3 c
          ∧ r.2.mem ((c.tc : Thread Cert.InFwdIdeal.nD Cert.InFwdIdeal.τ).loc Cert.InFwdIdeal.main_v4_4) = v4 c
          ∧ r.2.mem ((c.tc : Thread Cert.InFwdIdeal.nD Cert.InFwdIdeal.τ).loc Cert.InFwdIdeal.main_v4_5) = v5 c
          ∧ r.2.mem ((c.tc : Thread Cert.InFwdIdeal.nD Cert.InFwdIdeal.τ).loc Cert.InFwdIdeal.main_v4_6) = v6 c
          ∧ r.2.mem ((c.tc : Thread Cert.InFwdIdeal.nD Cert.InFwdIdeal.τ).loc Cert.InFwdIdeal.main_v4_7) = v7 c
          ∧ r.2.mem ((c.tc : Thread Cert.InFwdIdeal.nD Cert.InFwdIdeal.τ).loc Cert.InFwdIdeal.main_v4_8) = v8 c
          ∧ r.2.mem ((c.tc : Thread Cert.InFwdIdeal.nD Cert.InFwdIdeal.τ).loc Cert.InFwdIdeal.main_v4_9) = v9 c
          ∧ r.2.mem ((c.tc : Thread Cert.InFwdIdeal.nD Cert.InFwdIdeal.τ).loc Cert.InFwdIdeal.main_v4_10) = v10 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v49) = v0 c
          ∧ r.2.mem ((c.tc : Thread Cert.InFwdRefIdeal.nD Cert.InFwdRefIdeal.τ).loc Cert.InFwdRefIdeal.main_v50) = v1 c
          ∧ r.2.mem ((c.tc : Thread Cert.InFwdRefIdeal.nD Cert.InFwdRefIdeal.τ).loc Cert.InFwdRefIdeal.main_v29) = v2 c
          ∧ r.2.mem ((c.tc : Thread Cert.InFwdRefIdeal.nD Cert.InFwdRefIdeal.τ).loc Cert.InFwdRefIdeal.main_v31) = v3 c
          ∧ r.2.mem ((c.tc : Thread Cert.InFwdRefIdeal.nD Cert.InFwdRefIdeal.τ).loc Cert.InFwdRefIdeal.main_v33) = v4 c
          ∧ r.2.mem ((c.tc : Thread Cert.InFwdRefIdeal.nD Cert.InFwdRefIdeal.τ).loc Cert.InFwdRefIdeal.main_v36) = v5 c
          ∧ r.2.mem ((c.tc : Thread Cert.InFwdRefIdeal.nD Cert.InFwdRefIdeal.τ).loc Cert.InFwdRefIdeal.main_v38) = v6 c
          ∧ r.2.mem ((c.tc : Thread Cert.InFwdRefIdeal.nD Cert.InFwdRefIdeal.τ).loc Cert.InFwdRefIdeal.main_v40) = v7 c
          ∧ r.2.mem ((c.tc : Thread Cert.InFwdRefIdeal.nD Cert.InFwdRefIdeal.τ).loc Cert.InFwdRefIdeal.main_v43) = v8 c
          ∧ r.2.mem ((c.tc : Thread Cert.InFwdRefIdeal.nD Cert.InFwdRefIdeal.τ).loc Cert.InFwdRefIdeal.main_v45) = v9 c
          ∧ r.2.mem ((c.tc : Thread Cert.InFwdRefIdeal.nD Cert.InFwdRefIdeal.τ).loc Cert.InFwdRefIdeal.main_v47) = v10 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def Claim : Prop :=
  ∃ (hInBwd : Cert.InBwd.Facts) (hInBwdIdeal : Cert.InBwdIdeal.Facts) (hInRefIdeal : Cert.InRefIdeal.Facts) (hAttn1 : Cert.Attn1.Facts) (hAttn1Ideal : Cert.Attn1Ideal.Facts) (hAttn1RefIdeal : Cert.Attn1RefIdeal.Facts) (hFfn : Cert.Ffn.Facts) (hFfnIdeal : Cert.FfnIdeal.Facts) (hFfnRefIdeal : Cert.FfnRefIdeal.Facts) (hOut : Cert.Out.Facts) (hOutIdeal : Cert.OutIdeal.Facts) (hOutRefIdeal : Cert.OutRefIdeal.Facts) (hPool : Cert.Pool.Facts) (hPoolIdeal : Cert.PoolIdeal.Facts) (hPoolRefIdeal : Cert.PoolRefIdeal.Facts) (hInFwd : Cert.InFwd.Facts) (hInFwdIdeal : Cert.InFwdIdeal.Facts) (hInFwdRefIdeal : Cert.InFwdRefIdeal.Facts) (hPre_attn_finite : Cert.Pre_attn_finite.Facts) (hPre_ffn_finite : Cert.Pre_ffn_finite.Facts) (hPre_out_finite : Cert.Pre_out_finite.Facts) (hPre_pool_finite : Cert.Pre_pool_finite.Facts),
    quiescent_InBwd (hInBwd := hInBwd)
    ∧ quiescent_InBwdIdeal (hInBwdIdeal := hInBwdIdeal)
    ∧ quiescent_InRefIdeal (hInRefIdeal := hInRefIdeal)
    ∧ quiescent_Attn1 (hAttn1 := hAttn1)
    ∧ quiescent_Attn1Ideal (hAttn1Ideal := hAttn1Ideal)
    ∧ quiescent_Attn1Ideal_pre_attn_finite (hAttn1Ideal := hAttn1Ideal) (hPre_attn_finite := hPre_attn_finite)
    ∧ quiescent_Attn1RefIdeal (hAttn1RefIdeal := hAttn1RefIdeal)
    ∧ quiescent_Attn1RefIdeal_pre_attn_finite (hAttn1RefIdeal := hAttn1RefIdeal) (hPre_attn_finite := hPre_attn_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Out (hOut := hOut)
    ∧ quiescent_OutIdeal (hOutIdeal := hOutIdeal)
    ∧ quiescent_OutIdeal_pre_out_finite (hOutIdeal := hOutIdeal) (hPre_out_finite := hPre_out_finite)
    ∧ quiescent_OutRefIdeal (hOutRefIdeal := hOutRefIdeal)
    ∧ quiescent_OutRefIdeal_pre_out_finite (hOutRefIdeal := hOutRefIdeal) (hPre_out_finite := hPre_out_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_InFwd (hInFwd := hInFwd)
    ∧ quiescent_InFwdIdeal (hInFwdIdeal := hInFwdIdeal)
    ∧ quiescent_InFwdRefIdeal (hInFwdRefIdeal := hInFwdRefIdeal)
    ∧ preserves_InBwd_InBwdIdeal
    ∧ algebraic_InBwdIdeal_InRefIdeal (hInBwdIdeal := hInBwdIdeal) (hInRefIdeal := hInRefIdeal)
    ∧ preserves_Attn1_Attn1Ideal
    ∧ algebraic_Attn1Ideal_Attn1RefIdeal_pre_attn_finite (hAttn1Ideal := hAttn1Ideal) (hAttn1RefIdeal := hAttn1RefIdeal) (hPre_attn_finite := hPre_attn_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Out_OutIdeal
    ∧ algebraic_OutIdeal_OutRefIdeal_pre_out_finite (hOutIdeal := hOutIdeal) (hOutRefIdeal := hOutRefIdeal) (hPre_out_finite := hPre_out_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_InFwd_InFwdIdeal
    ∧ algebraic_InFwdIdeal_InFwdRefIdeal (hInFwdIdeal := hInFwdIdeal) (hInFwdRefIdeal := hInFwdRefIdeal)
-- ==== Pre_attn_finite.lean ====
abbrev S1x8192x4x64 : Shape := ⟨4, ![1, 8192, 4, 64]⟩
abbrev S1x8192x4 : Shape := ⟨3, ![1, 8192, 4]⟩
abbrev S_ : Shape := ⟨0, ![]⟩
abbrev S1x8192x4x1 : Shape := ⟨4, ![1, 8192, 4, 1]⟩

class Facts : Prop where
  bcast_S_S1x8192x4x64 : S_.BroadcastsInDim S1x8192x4x64 (![] : Fin 0 → Fin S1x8192x4x64.rank)
  bcast_S_S1x8192x4 : S_.BroadcastsInDim S1x8192x4 (![] : Fin 0 → Fin S1x8192x4.rank)
  bcast_S1x8192x4_S1x8192x4x1_0_1_2 : S1x8192x4.BroadcastsInDim S1x8192x4x1 (![0, 1, 2] : Fin 3 → Fin S1x8192x4x1.rank)
  bcast_S1x8192x4x1_S1x8192x4x64_0_1_2_3 : S1x8192x4x1.BroadcastsInDim S1x8192x4x64 (![0, 1, 2, 3] : Fin 4 → Fin S1x8192x4x64.rank)

variable [Facts]

def fn_part1 {F : FTy → Type} [FloatOps F] (main_v14 : IVec S1x8192x4x64 1) (main_v18 : IVec S1x8192x4x1 1) : IVec S1x8192x4x64 1 :=
  let main_v19 : IVec S1x8192x4x64 1 := broadcastInDim S1x8192x4x64 ![0, 1, 2, 3] bcast_S1x8192x4x1_S1x8192x4x64_0_1_2_3 main_v18
  let main_v20 : IVec S1x8192x4x64 1 := andi main_v14 main_v19
  main_v20

def fn {F : FTy → Type} [FloatOps F] (main_arg0 : FVec F S1x8192x4x64 .f32) (main_arg1 : FVec F S1x8192x4x64 .f32) (main_arg2 : FVec F S1x8192x4x64 .f32) (main_arg3 : FVec F S1x8192x4x64 .f32) (main_arg4 : FVec F S1x8192x4 .f32) : IVec S1x8192x4x64 1 :=
  let main_v0 : FVec F S1x8192x4x64 .f32 := Host.absf main_arg0
  let main_cst : FVec F S_ .f32 := constant S_ .f32 0x7F800000#32
  let main_v1 : FVec F S1x8192x4x64 .f32 := broadcastInDim S1x8192x4x64 ![] bcast_S_S1x8192x4x64 main_cst
  let main_v2 : IVec S1x8192x4x64 1 := cmpf .olt main_v0 main_v1
  let main_v3 : FVec F S1x8192x4x64 .f32 := Host.absf main_arg1
  let main_cst_0 : FVec F S_ .f32 := constant S_ .f32 0x7F800000#32
  let main_v4 : FVec F S1x8192x4x64 .f32 := broadcastInDim S1x8192x4x64 ![] bcast_S_S1x8192x4x64 main_cst_0
  let main_v5 : IVec S1x8192x4x64 1 := cmpf .olt main_v3 main_v4
  let main_v6 : IVec S1x8192x4x64 1 := andi main_v2 main_v5
  let main_v7 : FVec F S1x8192x4x64 .f32 := Host.absf main_arg2
  let main_cst_1 : FVec F S_ .f32 := constant S_ .f32 0x7F800000#32
  let main_v8 : FVec F S1x8192x4x64 .f32 := broadcastInDim S1x8192x4x64 ![] bcast_S_S1x8192x4x64 main_cst_1
  let main_v9 : IVec S1x8192x4x64 1 := cmpf .olt main_v7 main_v8
  let main_v10 : IVec S1x8192x4x64 1 := andi main_v6 main_v9
  let main_v11 : FVec F S1x8192x4x64 .f32 := Host.absf main_arg3
  let main_cst_2 : FVec F S_ .f32 := constant S_ .f32 0x7F800000#32
  let main_v12 : FVec F S1x8192x4x64 .f32 := broadcastInDim S1x8192x4x64 ![] bcast_S_S1x8192x4x64 main_cst_2
  let main_v13 : IVec S1x8192x4x64 1 := cmpf .olt main_v11 main_v12
  let main_v14 : IVec S1x8192x4x64 1 := andi main_v10 main_v13
  let main_v15 : FVec F S1x8192x4 .f32 := Host.absf main_arg4
  let main_cst_3 : FVec F S_ .f32 := constant S_ .f32 0x7F800000#32
  let main_v16 : FVec F S1x8192x4 .f32 := broadcastInDim S1x8192x4 ![] bcast_S_S1x8192x4 main_cst_3
  let main_v17 : IVec S1x8192x4 1 := cmpf .olt main_v15 main_v16
  let main_v18 : IVec S1x8192x4x1 1 := broadcastInDim S1x8192x4x1 ![0, 1, 2] bcast_S1x8192x4_S1x8192x4x1_0_1_2 main_v17
  fn_part1 (F := F) main_v14 main_v18
-- ==== Pre_ffn_finite.lean ====
abbrev S1x8192x1024 : Shape := ⟨3, ![1, 8192, 1024]⟩
abbrev S1x1024 : Shape := ⟨2, ![1, 1024]⟩
abbrev S1x1024x2752 : Shape := ⟨3, ![1, 1024, 2752]⟩
abbrev S1x2752x1024 : Shape := ⟨3, ![1, 2752, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2752 : S_.BroadcastsInDim S1x1024x2752 (![] : Fin 0 → Fin S1x1024x2752.rank)
  reducesTo_S1x1024x2752_S_d0_1_2 : S1x1024x2752.ReducesTo [0, 1, 2] S_
  bcast_S_S1x2752x1024 : S_.BroadcastsInDim S1x2752x1024 (![] : Fin 0 → Fin S1x2752x1024.rank)
  reducesTo_S1x2752x1024_S_d0_1_2 : S1x2752x1024.ReducesTo [0, 1, 2] S_

variable [Facts]

def fn_part1 {F : FTy → Type} [FloatOps F] (main_arg4 : FVec F S1x2752x1024 .f32) (main_arg5 : FVec F S1x1024 .f32) (main_arg6 : FVec F S1x8192x1024 .f32) (main_v13 : IVec S_ 1) (main_v16 : IVec S1x1024x2752 1) : IVec S_ 1 :=
  let main_c_5 : IVec S_ 1 := constantI S_ 1 1#1
  let main_v17 : IVec S_ 1 := (fun x v => Host.reduce IntOp.andi x v reducesTo_S1x1024x2752_S_d0_1_2 h_S_) main_v16 main_c_5
  let main_v18 : IVec S_ 1 := andi main_v13 main_v17
  let main_v19 : FVec F S1x2752x1024 .f32 := Host.absf main_arg4
  let main_cst_6 : FVec F S_ .f32 := constant S_ .f32 0x7F800000#32
  let main_v20 : FVec F S1x2752x1024 .f32 := broadcastInDim S1x2752x1024 ![] bcast_S_S1x2752x1024 main_cst_6
  let main_v21 : IVec S1x2752x1024 1 := cmpf .olt main_v19 main_v20
  let main_c_7 : IVec S_ 1 := constantI S_ 1 1#1
  let main_v22 : IVec S_ 1 := (fun x v => Host.reduce IntOp.andi x v reducesTo_S1x2752x1024_S_d0_1_2 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x8192x1024 .f32 := Host.absf main_arg6
  let main_cst_10 : FVec F S_ .f32 := constant S_ .f32 0x7F800000#32
  let main_v30 : FVec F S1x8192x1024 .f32 := broadcastInDim S1x8192x1024 ![] bcast_S_S1x8192x1024 main_cst_10
  let main_v31 : IVec S1x8192x1024 1 := cmpf .olt main_v29 main_v30
  let main_c_11 : IVec S_ 1 := constantI S_ 1 1#1
  let main_v32 : IVec S_ 1 := (fun x v => Host.reduce IntOp.andi x v reducesTo_S1x8192x1024_S_d0_1_2 h_S_) main_v31 main_c_11
  let main_v33 : IVec S_ 1 := andi main_v28 main_v32
  main_v33

def fn {F : FTy → Type} [FloatOps F] (main_arg0 : FVec F S1x8192x1024 .f32) (main_arg1 : FVec F S1x1024 .f32) (main_arg2 : FVec F S1x1024x2752 .f32) (main_arg3 : FVec F S1x1024x2752 .f32) (main_arg4 : FVec F S1x2752x1024 .f32) (main_arg5 : FVec F S1x1024 .f32) (main_arg6 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2752 .f32 := Host.absf main_arg2
  let main_cst_2 : FVec F S_ .f32 := constant S_ .f32 0x7F800000#32
  let main_v10 : FVec F S1x1024x2752 .f32 := broadcastInDim S1x1024x2752 ![] bcast_S_S1x1024x2752 main_cst_2
  let main_v11 : IVec S1x1024x2752 1 := cmpf .olt main_v9 main_v10
  let main_c_3 : IVec S_ 1 := constantI S_ 1 1#1
  let main_v12 : IVec S_ 1 := (fun x v => Host.reduce IntOp.andi x v reducesTo_S1x1024x2752_S_d0_1_2 h_S_) main_v11 main_c_3
  let main_v13 : IVec S_ 1 := andi main_v8 main_v12
  let main_v14 : FVec F S1x1024x2752 .f32 := Host.absf main_arg3
  let main_cst_4 : FVec F S_ .f32 := constant S_ .f32 0x7F800000#32
  let main_v15 : FVec F S1x1024x2752 .f32 := broadcastInDim S1x1024x2752 ![] bcast_S_S1x1024x2752 main_cst_4
  let main_v16 : IVec S1x1024x2752 1 := cmpf .olt main_v14 main_v15
  fn_part1 (F := F) main_arg4 main_arg5 main_arg6 main_v13 main_v16
-- ==== Pre_out_finite.lean ====
abbrev S1x8192x256 : Shape := ⟨3, ![1, 8192, 256]⟩
abbrev S1x8192x4x64 : Shape := ⟨4, ![1, 8192, 4, 64]⟩
abbrev S1x8192x4 : Shape := ⟨3, ![1, 8192, 4]⟩
abbrev S1x8192x1024 : Shape := ⟨3, ![1, 8192, 1024]⟩
abbrev S1x1024x1024 : Shape := ⟨3, ![1, 1024, 1024]⟩
abbrev S1x1024 : Shape := ⟨2, ![1, 1024]⟩
abbrev S_ : Shape := ⟨0, ![]⟩

class Facts : Prop where
  bcast_S_S1x8192x4x64 : S_.BroadcastsInDim S1x8192x4x64 (![] : Fin 0 → Fin S1x8192x4x64.rank)
  reducesTo_S1x8192x4x64_S_d0_1_2_3 : S1x8192x4x64.ReducesTo [0, 1, 2, 3] S_
  h_S_ : 0 < S_.numel
  bcast_S_S1x8192x4 : S_.BroadcastsInDim S1x8192x4 (![] : Fin 0 → Fin S1x8192x4.rank)
  reducesTo_S1x8192x4_S_d0_1_2 : S1x8192x4.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x8192x1024 : S_.BroadcastsInDim S1x8192x1024 (![] : Fin 0 → Fin S1x8192x1024.rank)
  reducesTo_S1x8192x1024_S_d0_1_2 : S1x8192x1024.ReducesTo [0, 1, 2] S_

variable [Facts]

def fn_part2 {F : FTy → Type} [FloatOps F] (main_arg9 : FVec F S1x1024 .f32) (main_arg10 : FVec F S1x8192x1024 .f32) (main_v33 : IVec S_ 1) : IVec S_ 1 :=
  let main_v34 : FVec F S1x1024 .f32 := Host.absf main_arg9
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1x8192x1024 .f32 := Host.absf main_arg10
  let main_cst_14 : FVec F S_ .f32 := constant S_ .f32 0x7F800000#32
  let main_v40 : FVec F S1x8192x1024 .f32 := broadcastInDim S1x8192x1024 ![] bcast_S_S1x8192x1024 main_cst_14
  let main_v41 : IVec S1x8192x1024 1 := cmpf .olt main_v39 main_v40
  let main_c_15 : IVec S_ 1 := constantI S_ 1 1#1
  let main_v42 : IVec S_ 1 := (fun x v => Host.reduce IntOp.andi x v reducesTo_S1x8192x1024_S_d0_1_2 h_S_) main_v41 main_c_15
  let main_v43 : IVec S_ 1 := andi main_v38 main_v42
  main_v43

def fn_part1 {F : FTy → Type} [FloatOps F] (main_arg5 : FVec F S1x8192x4 .f32) (main_arg6 : FVec F S1x8192x4 .f32) (main_arg8 : FVec F S1x1024x1024 .f32) (main_arg9 : FVec F S1x1024 .f32) (main_arg10 : FVec F S1x8192x1024 .f32) (main_v13 : IVec S_ 1) (main_v16 : IVec S1x8192x4 1) : IVec S_ 1 :=
  let main_c_5 : IVec S_ 1 := constantI S_ 1 1#1
  let main_v17 : IVec S_ 1 := (fun x v => Host.reduce IntOp.andi x v reducesTo_S1x8192x4_S_d0_1_2 h_S_) main_v16 main_c_5
  let main_v18 : IVec S_ 1 := andi main_v13 main_v17
  let main_v19 : FVec F S1x8192x4 .f32 := Host.absf main_arg5
  let main_cst_6 : FVec F S_ .f32 := constant S_ .f32 0x7F800000#32
  let main_v20 : FVec F S1x8192x4 .f32 := broadcastInDim S1x8192x4 ![] bcast_S_S1x8192x4 main_cst_6
  let main_v21 : IVec S1x8192x4 1 := cmpf .olt main_v19 main_v20
  let main_c_7 : IVec S_ 1 := constantI S_ 1 1#1
  let main_v22 : IVec S_ 1 := (fun x v => Host.reduce IntOp.andi x v reducesTo_S1x8192x4_S_d0_1_2 h_S_) main_v21 main_c_7
  let main_v23 : IVec S_ 1 := andi main_v18 main_v22
  let main_v24 : FVec F S1x8192x4 .f32 := Host.absf main_arg6
  let main_cst_8 : FVec F S_ .f32 := constant S_ .f32 0x7F800000#32
  let main_v25 : FVec F S1x8192x4 .f32 := broadcastInDim S1x8192x4 ![] bcast_S_S1x8192x4 main_cst_8
  let main_v26 : IVec S1x8192x4 1 := cmpf .olt main_v24 main_v25
  let main_c_9 : IVec S_ 1 := constantI S_ 1 1#1
  let main_v27 : IVec S_ 1 := (fun x v => Host.reduce IntOp.andi x v reducesTo_S1x8192x4_S_d0_1_2 h_S_) main_v26 main_c_9
  let main_v28 : IVec S_ 1 := andi main_v23 main_v27
  let main_v29 : FVec F S1x1024x1024 .f32 := Host.absf main_arg8
  let main_cst_10 : FVec F S_ .f32 := constant S_ .f32 0x7F800000#32
  let main_v30 : FVec F S1x1024x1024 .f32 := broadcastInDim S1x1024x1024 ![] bcast_S_S1x1024x1024 main_cst_10
  let main_v31 : IVec S1x1024x1024 1 := cmpf .olt main_v29 main_v30
  let main_c_11 : IVec S_ 1 := constantI S_ 1 1#1
  let main_v32 : IVec S_ 1 := (fun x v => Host.reduce IntOp.andi x v reducesTo_S1x1024x1024_S_d0_1_2 h_S_) main_v31 main_c_11
  let main_v33 : IVec S_ 1 := andi main_v28 main_v32
  fn_part2 (F := F) main_arg9 main_arg10 main_v33

def fn {F : FTy → Type} [FloatOps F] (main_arg0 : FVec F S1x8192x256 .f32) (main_arg1 : FVec F S1x8192x4x64 .f32) (main_arg2 : FVec F S1x8192x4x64 .f32) (main_arg3 : FVec F S1x8192x4x64 .f32) (main_arg4 : FVec F S1x8192x4 .f32) (main_arg5 : FVec F S1x8192x4 .f32) (main_arg6 : FVec F S1x8192x4 .f32) (main_arg7 : FVec F S1x8192x1024 .f32) (main_arg8 : FVec F S1x1024x1024 .f32) (main_arg9 : FVec F S1x1024 .f32) (main_arg10 : FVec F S1x8192x1024 .f32) : IVec S_ 1 :=
  let main_v0 : FVec F S1x8192x4x64 .f32 := Host.absf main_arg1
  let main_cst : FVec F S_ .f32 := constant S_ .f32 0x7F800000#32
  let main_v1 : FVec F S1x8192x4x64 .f32 := broadcastInDim S1x8192x4x64 ![] bcast_S_S1x8192x4x64 main_cst
  let main_v2 : IVec S1x8192x4x64 1 := cmpf .olt main_v0 main_v1
  let main_c : IVec S_ 1 := constantI S_ 1 1#1
  let main_v3 : IVec S_ 1 := (fun x v => Host.reduce IntOp.andi x v reducesTo_S1x8192x4x64_S_d0_1_2_3 h_S_) main_v2 main_c
  let main_v4 : FVec F S1x8192x4x64 .f32 := Host.absf main_arg2
  let main_cst_0 : FVec F S_ .f32 := constant S_ .f32 0x7F800000#32
  let main_v5 : FVec F S1x8192x4x64 .f32 := broadcastInDim S1x8192x4x64 ![] bcast_S_S1x8192x4x64 main_cst_0
  let main_v6 : IVec S1x8192x4x64 1 := cmpf .olt main_v4 main_v5
  let main_c_1 : IVec S_ 1 := constantI S_ 1 1#1
  let main_v7 : IVec S_ 1 := (fun x v => Host.reduce IntOp.andi x v reducesTo_S1x8192x4x64_S_d0_1_2_3 h_S_) main_v6 main_c_1
  let main_v8 : IVec S_ 1 := andi main_v3 main_v7
  let main_v9 : FVec F S1x8192x4x64 .f32 := Host.absf main_arg3
  let main_cst_2 : FVec F S_ .f32 := constant S_ .f32 0x7F800000#32
  let main_v10 : FVec F S1x8192x4x64 .f32 := broadcastInDim S1x8192x4x64 ![] bcast_S_S1x8192x4x64 main_cst_2
  let main_v11 : IVec S1x8192x4x64 1 := cmpf .olt main_v9 main_v10
  let main_c_3 : IVec S_ 1 := constantI S_ 1 1#1
  let main_v12 : IVec S_ 1 := (fun x v => Host.reduce IntOp.andi x v reducesTo_S1x8192x4x64_S_d0_1_2_3 h_S_) main_v11 main_c_3
  let main_v13 : IVec S_ 1 := andi main_v8 main_v12
  let main_v14 : FVec F S1x8192x4 .f32 := Host.absf main_arg4
  let main_cst_4 : FVec F S_ .f32 := constant S_ .f32 0x7F800000#32
  let main_v15 : FVec F S1x8192x4 .f32 := broadcastInDim S1x8192x4 ![] bcast_S_S1x8192x4 main_cst_4
  let main_v16 : IVec S1x8192x4 1 := cmpf .olt main_v14 main_v15
  fn_part1 (F := F) main_arg5 main_arg6 main_arg8 main_arg9 main_arg10 main_v13 main_v16
-- ==== Pre_pool_finite.lean ====
abbrev S1x8192x256 : Shape := ⟨3, ![1, 8192, 256]⟩
abbrev S1x4x64x64 : Shape := ⟨4, ![1, 4, 64, 64]⟩
abbrev S1x256 : Shape := ⟨2, ![1, 256]⟩
abbrev S_ : Shape := ⟨0, ![]⟩

class Facts : Prop where
  bcast_S_S1x8192x256 : S_.BroadcastsInDim S1x8192x256 (![] : Fin 0 → Fin S1x8192x256.rank)
  reducesTo_S1x8192x256_S_d0_1_2 : S1x8192x256.ReducesTo [0, 1, 2] S_
  h_S_ : 0 < S_.numel
  bcast_S_S1x4x64x64 : S_.BroadcastsInDim S1x4x64x64 (![] : Fin 0 → Fin S1x4x64x64.rank)
  reducesTo_S1x4x64x64_S_d0_1_2_3 : S1x4x64x64.ReducesTo [0, 1, 2, 3] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_v13 : IVec S_ 1) (main_v16 : IVec S1x8192x256 1) : IVec S_ 1 :=
  let main_c_5 : IVec S_ 1 := constantI S_ 1 1#1
  let main_v17 : IVec S_ 1 := (fun x v => Host.reduce IntOp.andi x v reducesTo_S1x8192x256_S_d0_1_2 h_S_) main_v16 main_c_5
  let main_v18 : IVec S_ 1 := andi main_v13 main_v17
  main_v18

def fn {F : FTy → Type} [FloatOps F] (main_arg0 : FVec F S1x8192x256 .f32) (main_arg1 : FVec F S1x4x64x64 .f32) (main_arg2 : FVec F S1x256 .f32) (main_arg3 : FVec F S1x8192x256 .f32) : IVec S_ 1 :=
  let main_v0 : FVec F S1x8192x256 .f32 := Host.absf main_arg0
  let main_cst : FVec F S_ .f32 := constant S_ .f32 0x7F800000#32
  let main_v1 : FVec F S1x8192x256 .f32 := broadcastInDim S1x8192x256 ![] bcast_S_S1x8192x256 main_cst
  let main_v2 : IVec S1x8192x256 1 := cmpf .olt main_v0 main_v1
  let main_c : IVec S_ 1 := constantI S_ 1 1#1
  let main_v3 : IVec S_ 1 := (fun x v => Host.reduce IntOp.andi x v reducesTo_S1x8192x256_S_d0_1_2 h_S_) main_v2 main_c
  let main_v4 : FVec F S1x4x64x64 .f32 := Host.absf main_arg1
  let main_cst_0 : FVec F S_ .f32 := constant S_ .f32 0x7F800000#32
  let main_v5 : FVec F S1x4x64x64 .f32 := broadcastInDim S1x4x64x64 ![] bcast_S_S1x4x64x64 main_cst_0
  let main_v6 : IVec S1x4x64x64 1 := cmpf .olt main_v4 main_v5
  let main_c_1 : IVec S_ 1 := constantI S_ 1 1#1
  let main_v7 : IVec S_ 1 := (fun x v => Host.reduce IntOp.andi x v reducesTo_S1x4x64x64_S_d0_1_2_3 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S1x8192x256 .f32 := Host.absf main_arg3
  let main_cst_4 : FVec F S_ .f32 := constant S_ .f32 0x7F800000#32
  let main_v15 : FVec F S1x8192x256 .f32 := broadcastInDim S1x8192x256 ![] bcast_S_S1x8192x256 main_cst_4
  let main_v16 : IVec S1x8192x256 1 := cmpf .olt main_v14 main_v15
  fn_part1 (F := F) main_v13 main_v16
-- ==== InBwd.lean ====
abbrev S1x8192x1024 : Shape := ⟨3, ![1, 8192, 1024]⟩
abbrev S1x1024 : Shape := ⟨2, ![1, 1024]⟩
abbrev S1x1024x2560 : Shape := ⟨3, ![1, 1024, 2560]⟩
abbrev S1x8192x2560 : Shape := ⟨3, ![1, 8192, 2560]⟩
abbrev S8192x2560 : Shape := ⟨2, ![8192, 2560]⟩
abbrev S8192x256 : Shape := ⟨2, ![8192, 256]⟩
abbrev S1x2560x1024 : Shape := ⟨3, ![1, 2560, 1024]⟩
abbrev S2560x1024 : Shape := ⟨2, ![2560, 1024]⟩
abbrev S8192x1024 : Shape := ⟨2, ![8192, 1024]⟩
abbrev S512x256 : Shape := ⟨2, ![512, 256]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩
abbrev S1024 : Shape := ⟨1, ![1024]⟩

abbrev nBuf : Space → Nat
  | .hbm => 42
  | .vmem => 29
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2560, .f32⟩
  | .hbm, ⟨3, _⟩ => ⟨S1x8192x2560, .f32⟩
  | .hbm, ⟨4, _⟩ => ⟨S1x8192x1024, .f32⟩
  | .hbm, ⟨5, _⟩ => ⟨S8192x2560, .f32⟩
  | .hbm, ⟨6, _⟩ => ⟨S8192x256, .f32⟩
  | .hbm, ⟨7, _⟩ => ⟨S8192x256, .bf16⟩
  | .hbm, ⟨8, _⟩ => ⟨S8192x2560, .f32⟩
  | .hbm, ⟨9, _⟩ => ⟨S8192x256, .f32⟩
  | .hbm, ⟨10, _⟩ => ⟨S8192x256, .bf16⟩
  | .hbm, ⟨11, _⟩ => ⟨S8192x2560, .f32⟩
  | .hbm, ⟨12, _⟩ => ⟨S8192x256, .f32⟩
  | .hbm, ⟨13, _⟩ => ⟨S8192x256, .bf16⟩
  | .hbm, ⟨14, _⟩ => ⟨S8192x2560, .f32⟩
  | .hbm, ⟨15, _⟩ => ⟨S8192x256, .f32⟩
  | .hbm, ⟨16, _⟩ => ⟨S8192x256, .bf16⟩
  | .hbm, ⟨17, _⟩ => ⟨S8192x2560, .f32⟩
  | .hbm, ⟨18, _⟩ => ⟨S8192x256, .f32⟩
  | .hbm, ⟨19, _⟩ => ⟨S8192x256, .bf16⟩
  | .hbm, ⟨20, _⟩ => ⟨S8192x2560, .f32⟩
  | .hbm, ⟨21, _⟩ => ⟨S8192x256, .f32⟩
  | .hbm, ⟨22, _⟩ => ⟨S8192x256, .bf16⟩
  | .hbm, ⟨23, _⟩ => ⟨S8192x2560, .f32⟩
  | .hbm, ⟨24, _⟩ => ⟨S8192x256, .f32⟩
  | .hbm, ⟨25, _⟩ => ⟨S8192x256, .bf16⟩
  | .hbm, ⟨26, _⟩ => ⟨S8192x2560, .f32⟩
  | .hbm, ⟨27, _⟩ => ⟨S8192x256, .f32⟩
  | .hbm, ⟨28, _⟩ => ⟨S8192x256, .bf16⟩
  | .hbm, ⟨29, _⟩ => ⟨S8192x2560, .f32⟩
  | .hbm, ⟨30, _⟩ => ⟨S8192x256, .f32⟩
  | .hbm, ⟨31, _⟩ => ⟨S8192x256, .bf16⟩
  | .hbm, ⟨32, _⟩ => ⟨S8192x2560, .f32⟩
  | .hbm, ⟨33, _⟩ => ⟨S8192x256, .f32⟩
  | .hbm, ⟨34, _⟩ => ⟨S8192x256, .bf16⟩
  | .hbm, ⟨35, _⟩ => ⟨S1x2560x1024, .f32⟩
  | .hbm, ⟨36, _⟩ => ⟨S2560x1024, .f32⟩
  | .hbm, ⟨37, _⟩ => ⟨S2560x1024, .bf16⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S1x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S2560x1024, .bf16⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35_0 : Ref sig .tc := ⟨.hbm, 40, rfl⟩
abbrev main_v35_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem14_1 : DmaSem sig := 27
abbrev cc0_sem15_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2560x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== InRefIdeal.lean ====
abbrev S1x8192x1024 : Shape := ⟨3, ![1, 8192, 1024]⟩
abbrev S1x1024 : Shape := ⟨2, ![1, 1024]⟩
abbrev S1x1024x2560 : Shape := ⟨3, ![1, 1024, 2560]⟩
abbrev S1x8192x2560 : Shape := ⟨3, ![1, 8192, 2560]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x2560 : Shape := ⟨2, ![1024, 2560]⟩
abbrev S8192 : Shape := ⟨1, ![8192]⟩
abbrev S8192x1024 : Shape := ⟨2, ![8192, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2560, .f32⟩
  | .hbm, ⟨3, _⟩ => ⟨S1x8192x2560, .f32⟩
  | .hbm, ⟨4, _⟩ => ⟨S1x8192x1024, .f32⟩
  | .hbm, ⟨5, _⟩ => ⟨S1024, .f32⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x1024, .f32⟩
  | .hbm, ⟨22, _⟩ => ⟨S1x8192x1024, .f32⟩
  | .hbm, ⟨23, _⟩ => ⟨S1x1x1024, .f32⟩
  | .hbm, ⟨24, _⟩ => ⟨S1x8192x1024, .f32⟩
  | .hbm, ⟨25, _⟩ => ⟨S1x8192x1024, .f32⟩
  | .hbm, ⟨26, _⟩ => ⟨S1024x2560, .f32⟩
  | .hbm, ⟨27, _⟩ => ⟨S1x8192x2560, .f32⟩
  | .hbm, ⟨28, _⟩ => ⟨S1x8192x1024, .f32⟩
  | .hbm, ⟨29, _⟩ => ⟨S1x8192x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x8192x1024, .f32⟩
  | .hbm, ⟨34, _⟩ => ⟨S1x8192x1024, .f32⟩
  | .hbm, ⟨35, _⟩ => ⟨S_, .f32⟩
  | .hbm, ⟨36, _⟩ => ⟨S1024, .f32⟩
  | .hbm, ⟨37, _⟩ => ⟨S1x8192x1024, .f32⟩
  | .hbm, ⟨38, _⟩ => ⟨S_, .f32⟩
  | .hbm, ⟨39, _⟩ => ⟨S1x8192, .f32⟩
  | .hbm, ⟨40, _⟩ => ⟨S1x8192x1, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S1x8192x1, .f32⟩
  | .hbm, ⟨45, _⟩ => ⟨S_, .f32⟩
  | .hbm, ⟨46, _⟩ => ⟨S1x8192x1, .f32⟩
  | .hbm, ⟨47, _⟩ => ⟨S1x8192x1, .f32⟩
  | .hbm, ⟨48, _⟩ => ⟨S_, .f32⟩
  | .hbm, ⟨49, _⟩ => ⟨S8192, .f32⟩
  | .hbm, ⟨50, _⟩ => ⟨S1x8192, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S1x8192x1024, .f32⟩
  | .hbm, ⟨56, _⟩ => ⟨S1x1024, .f32⟩
  | .hbm, ⟨57, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Attn1.lean ====
abbrev S1x8192x4x64 : Shape := ⟨4, ![1, 8192, 4, 64]⟩
abbrev S1x8192x4 : Shape := ⟨3, ![1, 8192, 4]⟩
abbrev S4 : Shape := ⟨1, ![4]⟩
abbrev S8192x256 : Shape := ⟨2, ![8192, 256]⟩
abbrev S_ : Shape := ⟨0, ![]⟩
abbrev S8192x128 : Shape := ⟨2, ![8192, 128]⟩
abbrev S3x256x256 : Shape := ⟨3, ![3, 256, 256]⟩
abbrev S256x256 : Shape := ⟨2, ![256, 256]⟩
abbrev S1 : Shape := ⟨1, ![1]⟩
abbrev S1x256x256 : Shape := ⟨3, ![1, 256, 256]⟩
abbrev S256x128 : Shape := ⟨2, ![256, 128]⟩
abbrev S128x128 : Shape := ⟨2, ![128, 128]⟩
abbrev S256 : Shape := ⟨1, ![256]⟩
abbrev S256x1 : Shape := ⟨2, ![256, 1]⟩
abbrev S1x8192x4x1 : Shape := ⟨4, ![1, 8192, 4, 1]⟩
abbrev S1x8192x128 : Shape := ⟨3, ![1, 8192, 128]⟩
abbrev S128x1 : Shape := ⟨2, ![128, 1]⟩
abbrev S1x256x128 : Shape := ⟨3, ![1, 256, 128]⟩

abbrev nBuf : Space → Nat
  | .hbm => 33
  | .vmem => 32
  | .smem => 2
  | _ => 0

abbrev bufTy : (tb : Table) → Fin (tcTables nBuf tb) → BufTy
  | .hbm, ⟨0, _⟩ => ⟨S1x8192x4x64, .f32⟩
  | .hbm, ⟨1, _⟩ => ⟨S1x8192x4x64, .f32⟩
  | .hbm, ⟨2, _⟩ => ⟨S1x8192x4x64, .f32⟩
  | .hbm, ⟨3, _⟩ => ⟨S1x8192x4x64, .f32⟩
  | .hbm, ⟨4, _⟩ => ⟨S1x8192x4, .f32⟩
  | .hbm, ⟨5, _⟩ => ⟨S4, .f32⟩
  | .hbm, ⟨6, _⟩ => ⟨S8192x256, .f32⟩
  | .hbm, ⟨7, _⟩ => ⟨S_, .f32⟩
  | .hbm, ⟨8, _⟩ => ⟨S8192x256, .f32⟩
  | .hbm, ⟨9, _⟩ => ⟨S8192x256, .f32⟩
  | .hbm, ⟨10, _⟩ => ⟨S8192x256, .bf16⟩
  | .hbm, ⟨11, _⟩ => ⟨S8192x256, .f32⟩
  | .hbm, ⟨12, _⟩ => ⟨S8192x256, .bf16⟩
  | .hbm, ⟨13, _⟩ => ⟨S8192x256, .f32⟩
  | .hbm, ⟨14, _⟩ => ⟨S8192x256, .bf16⟩
  | .hbm, ⟨15, _⟩ => ⟨S8192x256, .f32⟩
  | .hbm, ⟨16, _⟩ => ⟨S8192x256, .f32⟩
  | .hbm, ⟨17, _⟩ => ⟨S1x8192x4x64, .f32⟩
  | .hbm, ⟨18, _⟩ => ⟨S1x8192x4x64, .f32⟩
  | .hbm, ⟨19, _⟩ => ⟨S_, .f32⟩
  | .hbm, ⟨20, _⟩ => ⟨S1x8192x4, .f32⟩
  | .hbm, ⟨21, _⟩ => ⟨S1x8192x4, .f32⟩
  | .hbm, ⟨22, _⟩ => ⟨S1x8192x4x1, .f32⟩
  | .hbm, ⟨23, _⟩ => ⟨S1x8192x4x64, .f32⟩
  | .hbm, ⟨24, _⟩ => ⟨S8192x256, .f32⟩
  | .hbm, ⟨25, _⟩ => ⟨S8192x256, .f32⟩
  | .hbm, ⟨26, _⟩ => ⟨S8192x256, .bf16⟩
  | .hbm, ⟨27, _⟩ => ⟨S8192x256, .bf16⟩
  | .hbm, ⟨28, _⟩ => ⟨S8192x256, .bf16⟩
  | .hbm, ⟨29, _⟩ => ⟨S8192x256, .bf16⟩
  | .hbm, ⟨30, _⟩ => ⟨S8192x256, .f32⟩
  | .hbm, ⟨31, _⟩ => ⟨S8192x256, .f32⟩
  | .hbm, ⟨32, _⟩ => ⟨S8192x256, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S3x256x256, .f32⟩
  | .local _ .vmem, ⟨11, _⟩ => ⟨S8192x128, .bf16⟩
  | .local _ .vmem, ⟨12, _⟩ => ⟨S8192x128, .bf16⟩
  | .local _ .vmem, ⟨13, _⟩ => ⟨S8192x128, .bf16⟩
  | .local _ .vmem, ⟨14, _⟩ => ⟨S8192x128, .bf16⟩
  | .local _ .vmem, ⟨15, _⟩ => ⟨S8192x128, .bf16⟩
  | .local _ .vmem, ⟨16, _⟩ => ⟨S8192x128, .bf16⟩
  | .local _ .vmem, ⟨17, _⟩ => ⟨S8192x128, .bf16⟩
  | .local _ .vmem, ⟨18, _⟩ => ⟨S8192x128, .bf16⟩
  | .local _ .vmem, ⟨19, _⟩ => ⟨S8192x128, .f32⟩
  | .local _ .vmem, ⟨20, _⟩ => ⟨S8192x128, .f32⟩
  | .local _ .vmem, ⟨21, _⟩ => ⟨S8192x128, .f32⟩
  | .local _ .vmem, ⟨22, _⟩ => ⟨S8192x128, .f32⟩
  | .local _ .vmem, ⟨23, _⟩ => ⟨S8192x128, .bf16⟩
  | .local _ .vmem, ⟨24, _⟩ => ⟨S8192x128, .bf16⟩
  | .local _ .vmem, ⟨25, _⟩ => ⟨S8192x128, .bf16⟩
  | .local _ .vmem, ⟨26, _⟩ => ⟨S8192x128, .bf16⟩
  | .local _ .vmem, ⟨27, _⟩ => ⟨S8192x128, .bf16⟩
  | .local _ .vmem, ⟨28, _⟩ => ⟨S8192x128, .bf16⟩
  | .local _ .vmem, ⟨29, _⟩ => ⟨S1x8192x128, .f32⟩
  | .local _ .vmem, ⟨30, _⟩ => ⟨S1x8192x128, .f32⟩
  | .local _ .vmem, ⟨31, _⟩ => ⟨S3x256x256, .f32⟩
  | .local _ .smem, ⟨0, _⟩ => ⟨S4, .f32⟩
  | .local _ .smem, ⟨1, _⟩ => ⟨S4, .f32⟩
  | _, _ => ⟨S1x8192x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc1_scratch0 : Ref sig .tc := ⟨.vmem, 29, rfl⟩
abbrev cc1_scratch1 : Ref sig .tc := ⟨.vmem, 30, rfl⟩
abbrev cc1_scratch2 : Ref sig .tc := ⟨.vmem, 31, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨2, ![2, 1], ![false, false]⟩

def k0_off1 (i : grid0.Coords) : Fin 1 → Nat :=
  let c2_i32 : BitVec 32 := 2#32
  let arg0 : BitVec 32 := BitVec.ofNat 32 (i 0).val
  let v2 : BitVec 32 := Scalar.muli c2_i32 arg0
  let v5 : Index := Scalar.indexCast v2
  ![v5.toNat]
def k0_off2 (i : grid0.Coords) : Fin 1 → Nat :=
  let c2_i32 : BitVec 32 := 2#32
  let arg0 : BitVec 32 := BitVec.ofNat 32 (i 0).val
  let v2 : BitVec 32 := Scalar.muli c2_i32 arg0
  let c1_i32 : BitVec 32 := 1#32
  let v7 : BitVec 32 := Scalar.addi v2 c1_i32
  let v8 : Index := Scalar.indexCast v7
  ![v8.toNat]
@[reducible] def k0_t1_loop : Scf.Loop 32 :=
  let c0_i32_1 : BitVec 32 := 0#32
  let c64_i32 : BitVec 32 := 64#32
  let v18 : BitVec 32 := Scalar.addi c0_i32_1 c64_i32
  let c1_i32_2 : BitVec 32 := 1#32
  ⟨c0_i32_1, v18, c1_i32_2⟩
def k0_mult1 (k0_t1 : Fin k0_t1_loop.trips) : BitVec 32 :=
  let c0_i32_1 : BitVec 32 := 0#32
  let c1_i32_2 : BitVec 32 := 1#32
  let arg9 : BitVec 32 := Scf.iv c0_i32_1 c1_i32_2 k0_t1
  let c128_i32_4 : BitVec 32 := 128#32
  let v19 : BitVec 32 := Scalar.muli arg9 c128_i32_4
  v19
def k0_mult2 (k0_t1 : Fin k0_t1_loop.trips) : BitVec 32 :=
  let c7936_i32 : BitVec 32 := 7936#32
  let c0_i32_6 : BitVec 32 := 0#32
  let c0_i32_1 : BitVec 32 := 0#32
  let c1_i32_2 : BitVec 32 := 1#32
  let arg9 : BitVec 32 := Scf.iv c0_i32_1 c1_i32_2 k0_t1
  let c128_i32_4 : BitVec 32 := 128#32
  let v19 : BitVec 32 := Scalar.muli arg9 c128_i32_4
  let v20 : BitVec 32 := v19
  let c64_i32_5 : BitVec 32 := 64#32
  let v21 : BitVec 32 := Scalar.subi v20 c64_i32_5
  let v22 : BitVec 32 := Scalar.maxsi c0_i32_6 v21
  let v23 : BitVec 32 := Scalar.minsi c7936_i32 v22
  v23
def k0_off3 (k0_t1 : Fin k0_t1_loop.trips) : Fin 2 → Nat :=
  let c7936_i32 : BitVec 32 := 7936#32
  let c0_i32_6 : BitVec 32 := 0#32
  let c0_i32_1 : BitVec 32 := 0#32
  let c1_i32_2 : BitVec 32 := 1#32
  let arg9 : BitVec 32 := Scf.iv c0_i32_1 c1_i32_2 k0_t1
  let c128_i32_4 : BitVec 32 := 128#32
  let v19 : BitVec 32 := Scalar.muli arg9 c128_i32_4
  let v20 : BitVec 32 := v19
  let c64_i32_5 : BitVec 32 := 64#32
  let v21 : BitVec 32 := Scalar.subi v20 c64_i32_5
  let v22 : BitVec 32 := Scalar.maxsi c0_i32_6 v21
  let v23 : BitVec 32 := Scalar.minsi c7936_i32 v22
  let v24 : BitVec 32 := v23
  let v29 : Index := Scalar.indexCast v24
  let c0 : Index := 0#32
  ![v29.toNat, 0]
def k0_off4 (k0_t1 : Fin k0_t1_loop.trips) : Fin 2 → Nat :=
  let c0_i32_1 : BitVec 32 := 0#32
  let c1_i32_2 : BitVec 32 := 1#32
  let arg9 : BitVec 32 := Scf.iv c0_i32_1 c1_i32_2 k0_t1
  let c128_i32_4 : BitVec 32 := 128#32
  let v19 : BitVec 32 := Scalar.muli arg9 c128_i32_4
  let v20 : BitVec 32 := v19
  let v35 : Index := Scalar.indexCast v20
  let c0_12 : Index := 0#32
  ![v35.toNat, 0]
def k0_off5 (k0_t1 : Fin k0_t1_loop.trips) : Fin 3 → Nat :=
  let c0_i32_1 : BitVec 32 := 0#32
  let c1_i32_2 : BitVec 32 := 1#32
  let arg9 : BitVec 32 := Scf.iv c0_i32_1 c1_i32_2 k0_t1
  let c0_i32_7 : BitVec 32 := 0#32
  let v25 : BitVec 1 := Scalar.cmpi .eq arg9 c0_i32_7
  let c0_i32_10 : BitVec 32 := 0#32
  let c63_i32 : BitVec 32 := 63#32
  let v26 : BitVec 1 := Scalar.cmpi .eq arg9 c63_i32
  let c2_i32_8 : BitVec 32 := 2#32
  let c1_i32_9 : BitVec 32 := 1#32
  let v27 : BitVec 32 := Scalar.select v26 c2_i32_8 c1_i32_9
  let v28 : BitVec 32 := Scalar.select v25 c0_i32_10 v27
  let v72 : Index := Scalar.indexCast v28
  let c0_24 : Index := 0#32
  let c0_25 : Index := 0#32
  ![v72.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 1], ![false, false]⟩

def k1_off1 (i : grid1.Coords) : Fin 1 → Nat :=
  let c2_i32 : BitVec 32 := 2#32
  let arg0 : BitVec 32 := BitVec.ofNat 32 (i 0).val
  let v10 : BitVec 32 := Scalar.muli c2_i32 arg0
  let v13 : Index := Scalar.indexCast v10
  ![v13.toNat]
def k1_off2 (i : grid1.Coords) : Fin 1 → Nat :=
  let c2_i32 : BitVec 32 := 2#32
  let arg0 : BitVec 32 := BitVec.ofNat 32 (i 0).val
  let v10 : BitVec 32 := Scalar.muli c2_i32 arg0
  let c1_i32 : BitVec 32 := 1#32
  let v15 : BitVec 32 := Scalar.addi v10 c1_i32
  let v16 : Index := Scalar.indexCast v15
  ![v16.toNat]
@[reducible] def k1_t1_loop : Scf.Loop 32 :=
  let c0_i32_8 : BitVec 32 := 0#32
  let c64_i32 : BitVec 32 := 64#32
  let v26 : BitVec 32 := Scalar.addi c0_i32_8 c64_i32
  let c1_i32_9 : BitVec 32 := 1#32
  ⟨c0_i32_8, v26, c1_i32_9⟩
def k1_mult1 (k1_t1 : Fin k1_t1_loop.trips) : BitVec 32 :=
  let c0_i32_8 : BitVec 32 := 0#32
  let c1_i32_9 : BitVec 32 := 1#32
  let arg15 : BitVec 32 := Scf.iv c0_i32_8 c1_i32_9 k1_t1
  let c128_i32_21 : BitVec 32 := 128#32
  let v35 : BitVec 32 := Scalar.muli arg15 c128_i32_21
  v35
def k1_mult2 (k1_t1 : Fin k1_t1_loop.trips) : BitVec 32 :=
  let c7936_i32 : BitVec 32 := 7936#32
  let c0_i32_23 : BitVec 32 := 0#32
  let c0_i32_8 : BitVec 32 := 0#32
  let c1_i32_9 : BitVec 32 := 1#32
  let arg15 : BitVec 32 := Scf.iv c0_i32_8 c1_i32_9 k1_t1
  let c128_i32_21 : BitVec 32 := 128#32
  let v35 : BitVec 32 := Scalar.muli arg15 c128_i32_21
  let v36 : BitVec 32 := v35
  let c64_i32_22 : BitVec 32 := 64#32
  let v37 : BitVec 32 := Scalar.subi v36 c64_i32_22
  let v38 : BitVec 32 := Scalar.maxsi c0_i32_23 v37
  let v39 : BitVec 32 := Scalar.minsi c7936_i32 v38
  v39
def k1_off3 (k1_t1 : Fin k1_t1_loop.trips) : Fin 2 → Nat :=
  let c0_i32_8 : BitVec 32 := 0#32
  let c1_i32_9 : BitVec 32 := 1#32
  let arg15 : BitVec 32 := Scf.iv c0_i32_8 c1_i32_9 k1_t1
  let c128_i32_21 : BitVec 32 := 128#32
  let v35 : BitVec 32 := Scalar.muli arg15 c128_i32_21
  let v36 : BitVec 32 := v35
  let v45 : Index := Scalar.indexCast v36
  let c0_28 : Index := 0#32
  ![v45.toNat, 0]
def k1_off4 (k1_t1 : Fin k1_t1_loop.trips) : Fin 2 → Nat :=
  let c7936_i32 : BitVec 32 := 7936#32
  let c0_i32_23 : BitVec 32 := 0#32
  let c0_i32_8 : BitVec 32 := 0#32
  let c1_i32_9 : BitVec 32 := 1#32
  let arg15 : BitVec 32 := Scf.iv c0_i32_8 c1_i32_9 k1_t1
  let c128_i32_21 : BitVec 32 := 128#32
  let v35 : BitVec 32 := Scalar.muli arg15 c128_i32_21
  let v36 : BitVec 32 := v35
  let c64_i32_22 : BitVec 32 := 64#32
  let v37 : BitVec 32 := Scalar.subi v36 c64_i32_22
  let v38 : BitVec 32 := Scalar.maxsi c0_i32_23 v37
  let v39 : BitVec 32 := Scalar.minsi c7936_i32 v38
  let v40 : BitVec 32 := v39
  let v117 : Index := Scalar.indexCast v40
  let c0_50 : Index := 0#32
  ![v117.toNat, 0]
def k1_off5 (k1_t1 : Fin k1_t1_loop.trips) : Fin 3 → Nat :=
  let c0_i32_8 : BitVec 32 := 0#32
  let c1_i32_9 : BitVec 32 := 1#32
  let arg15 : BitVec 32 := Scf.iv c0_i32_8 c1_i32_9 k1_t1
  let c0_i32_24 : BitVec 32 := 0#32
  let v41 : BitVec 1 := Scalar.cmpi .eq arg15 c0_i32_24
  let c0_i32_27 : BitVec 32 := 0#32
  let c63_i32 : BitVec 32 := 63#32
  let v42 : BitVec 1 := Scalar.cmpi .eq arg15 c63_i32
  let c2_i32_25 : BitVec 32 := 2#32
  let c1_i32_26 : BitVec 32 := 1#32
  let v43 : BitVec 32 := Scalar.select v42 c2_i32_25 c1_i32_26
  let v44 : BitVec 32 := Scalar.select v41 c0_i32_27 v43
  let v124 : Index := Scalar.indexCast v44
  let c0_53 : Index := 0#32
  let c0_54 : Index := 0#32
  ![v124.toNat, 0, 0]
def k1_off6 (k1_t1 : Fin k1_t1_loop.trips) : Fin 3 → Nat :=
  let c0_69 : Index := 0#32
  let c7936_i32 : BitVec 32 := 7936#32
  let c0_i32_23 : BitVec 32 := 0#32
  let c0_i32_8 : BitVec 32 := 0#32
  let c1_i32_9 : BitVec 32 := 1#32
  let arg15 : BitVec 32 := Scf.iv c0_i32_8 c1_i32_9 k1_t1
  let c128_i32_21 : BitVec 32 := 128#32
  let v35 : BitVec 32 := Scalar.muli arg15 c128_i32_21
  let v36 : BitVec 32 := v35
  let c64_i32_22 : BitVec 32 := 64#32
  let v37 : BitVec 32 := Scalar.subi v36 c64_i32_22
  let v38 : BitVec 32 := Scalar.maxsi c0_i32_23 v37
  let v39 : BitVec 32 := Scalar.minsi c7936_i32 v38
  let v40 : BitVec 32 := v39
  let v184 : Index := Scalar.indexCast v40
  let c0_70 : Index := 0#32
  ![0, v184.toNat, 0]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .smem S4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S8192x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8192x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S8192x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S8192x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S8192x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S8192x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S8192x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S8192x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]
-- ==== Attn1Ideal.lean ====
variable {F : FTy → Type} [FloatOps F] [Named F]
def κ : String → Option EReal := fun
  | "mask" => some ⊥
  | _ => none
-- ==== Attn1RefIdeal.lean ====
abbrev S1x8192x4x64 : Shape := ⟨4, ![1, 8192, 4, 64]⟩
abbrev S1x8192x4 : Shape := ⟨3, ![1, 8192, 4]⟩
abbrev S_ : Shape := ⟨0, ![]⟩
abbrev S1 : Shape := ⟨1, ![1]⟩
abbrev S4 : Shape := ⟨1, ![4]⟩
abbrev S1x8192x1x4x64 : Shape := ⟨5, ![1, 8192, 1, 4, 64]⟩
abbrev S1x1x8192x4x64 : Shape := ⟨5, ![1, 1, 8192, 4, 64]⟩
abbrev S1x128x64x4x64 : Shape := ⟨5, ![1, 128, 64, 4, 64]⟩
abbrev S1x64x4x64 : Shape := ⟨4, ![1, 64, 4, 64]⟩
abbrev S1x8320x4x64 : Shape := ⟨4, ![1, 8320, 4, 64]⟩
abbrev S1x130x64x4x64 : Shape := ⟨5, ![1, 130, 64, 4, 64]⟩
abbrev S1x128x192x4x64 : Shape := ⟨5, ![1, 128, 192, 4, 64]⟩
abbrev S192 : Shape := ⟨1, ![192]⟩
abbrev S1x192 : Shape := ⟨2, ![1, 192]⟩
abbrev S64 : Shape := ⟨1, ![64]⟩
abbrev S64x1 : Shape := ⟨2, ![64, 1]⟩
abbrev S64x192 : Shape := ⟨2, ![64, 192]⟩
abbrev S128 : Shape := ⟨1, ![128]⟩
abbrev S128x1 : Shape := ⟨2, ![128, 1]⟩
abbrev S128x192 : Shape := ⟨2, ![128, 192]⟩
abbrev S1x64x192 : Shape := ⟨3, ![1, 64, 192]⟩
abbrev S128x1x192 : Shape := ⟨3, ![128, 1, 192]⟩
abbrev S128x64x192 : Shape := ⟨3, ![128, 64, 192]⟩
abbrev S4x1x1 : Shape := ⟨3, ![4, 1, 1]⟩
abbrev S4x64x192 : Shape := ⟨3, ![4, 64, 192]⟩
abbrev S1x128x4x64x192 : Shape := ⟨5, ![1, 128, 4, 64, 192]⟩
abbrev S1x128x1x64x192 : Shape := ⟨5, ![1, 128, 1, 64, 192]⟩
abbrev S1x1x4x64x192 : Shape := ⟨5, ![1, 1, 4, 64, 192]⟩
abbrev S1x128x4x64 : Shape := ⟨4, ![1, 128, 4, 64]⟩
abbrev S1x128x4x64x1 : Shape := ⟨5, ![1, 128, 4, 64, 1]⟩
abbrev S1x128x4x64x64 : Shape := ⟨5, ![1, 128, 4, 64, 64]⟩
abbrev S1x128x64x4 : Shape := ⟨4, ![1, 128, 64, 4]⟩
abbrev S1x128x64x4x1 : Shape := ⟨5, ![1, 128, 64, 4, 1]⟩
abbrev S1x1x8192x4 : Shape := ⟨4, ![1, 1, 8192, 4]⟩
abbrev S1x8192x1x4 : Shape := ⟨4, ![1, 8192, 1, 4]⟩
abbrev S1x8192x4x1 : Shape := ⟨4, ![1, 8192, 4, 1]⟩
abbrev S128x64x4 : Shape := ⟨3, ![128, 64, 4]⟩
abbrev S128x4x64 : Shape := ⟨3, ![128, 4, 64]⟩
abbrev S1x128x4x192x64 : Shape := ⟨5, ![1, 128, 4, 192, 64]⟩
abbrev S8192x256 : Shape := ⟨2, ![8192, 256]⟩

abbrev nBuf : Space → Nat
  | .hbm => 246
  | .vmem => 0
  | .smem => 0
  | _ => 0

abbrev hbmTy0_0 (i : Nat) : BufTy := match i % 128 with
  | 0 => ⟨S1x8192x4x64, .f32⟩
  | 1 => ⟨S1x8192x4x64, .f32⟩
  | 2 => ⟨S1x8192x4x64, .f32⟩
  | 3 => ⟨S1x8192x4x64, .f32⟩
  | 4 => ⟨S1x8192x4, .f32⟩
  | 5 => ⟨S_, .f32⟩
  | 6 => ⟨S_, .f32⟩
  | 7 => ⟨S_, .f32⟩
  | 8 => ⟨S_, .f32⟩
  | 9 => ⟨S1, .f32⟩
  | 10 => ⟨S1, .f32⟩
  | 11 => ⟨S1, .f32⟩
  | 12 => ⟨S1, .f32⟩
  | 13 => ⟨S4, .f32⟩
  | 14 => ⟨S1x8192x1x4x64, .f32⟩
  | 15 => ⟨S1x1x8192x4x64, .f32⟩
  | 16 => ⟨S1x8192x4x64, .f32⟩
  | 17 => ⟨S1x128x64x4x64, .f32⟩
  | 18 => ⟨S1x8192x1x4x64, .f32⟩
  | 19 => ⟨S1x1x8192x4x64, .f32⟩
  | 20 => ⟨S1x8192x4x64, .f32⟩
  | 21 => ⟨S_, .f32⟩
  | 22 => ⟨S1x64x4x64, .f32⟩
  | 23 => ⟨S1x8320x4x64, .f32⟩
  | 24 => ⟨S_, .f32⟩
  | 25 => ⟨S1x64x4x64, .f32⟩
  | 26 => ⟨S_, .f32⟩
  | 27 => ⟨S1x64x4x64, .f32⟩
  | 28 => ⟨S1x130x64x4x64, .f32⟩
  | 29 => ⟨S1x128x64x4x64, .f32⟩
  | 30 => ⟨S1x128x64x4x64, .f32⟩
  | 31 => ⟨S1x128x64x4x64, .f32⟩
  | 32 => ⟨S1x128x192x4x64, .f32⟩
  | 33 => ⟨S1x8192x1x4x64, .f32⟩
  | 34 => ⟨S1x1x8192x4x64, .f32⟩
  | 35 => ⟨S1x8192x4x64, .f32⟩
  | 36 => ⟨S_, .f32⟩
  | 37 => ⟨S1x64x4x64, .f32⟩
  | 38 => ⟨S1x8320x4x64, .f32⟩
  | 39 => ⟨S_, .f32⟩
  | 40 => ⟨S1x64x4x64, .f32⟩
  | 41 => ⟨S_, .f32⟩
  | 42 => ⟨S1x64x4x64, .f32⟩
  | 43 => ⟨S1x130x64x4x64, .f32⟩
  | 44 => ⟨S1x128x64x4x64, .f32⟩
  | 45 => ⟨S1x128x64x4x64, .f32⟩
  | 46 => ⟨S1x128x64x4x64, .f32⟩
  | 47 => ⟨S1x128x192x4x64, .f32⟩
  | 48 => ⟨S192, .i32⟩
  | 49 => ⟨S1x192, .i32⟩
  | 50 => ⟨S_, .i32⟩
  | 51 => ⟨S1x192, .i32⟩
  | 52 => ⟨S1x192, .i32⟩
  | 53 => ⟨S64, .i32⟩
  | 54 => ⟨S64x1, .i32⟩
  | 55 => ⟨S64x192, .i32⟩
  | 56 => ⟨S64x192, .i32⟩
  | 57 => ⟨S64x192, .i32⟩
  | 58 => ⟨S128, .i32⟩
  | 59 => ⟨S128x1, .i32⟩
  | 60 => ⟨S_, .i32⟩
  | 61 => ⟨S128x1, .i32⟩
  | 62 => ⟨S128x1, .i32⟩
  | 63 => ⟨S_, .i32⟩
  | 64 => ⟨S128x1, .i32⟩
  | 65 => ⟨S128x1, .i32⟩
  | 66 => ⟨S192, .i32⟩
  | 67 => ⟨S1x192, .i32⟩
  | 68 => ⟨S128x192, .i32⟩
  | 69 => ⟨S128x192, .i32⟩
  | 70 => ⟨S128x192, .i32⟩
  | 71 => ⟨S64x192, .i32⟩
  | 72 => ⟨S_, .i32⟩
  | 73 => ⟨S64x192, .i32⟩
  | 74 => ⟨S64x192, .i1⟩
  | 75 => ⟨S1x64x192, .i1⟩
  | 76 => ⟨S_, .i32⟩
  | 77 => ⟨S128x192, .i32⟩
  | 78 => ⟨S128x192, .i1⟩
  | 79 => ⟨S_, .i32⟩
  | 80 => ⟨S128x192, .i32⟩
  | 81 => ⟨S128x192, .i1⟩
  | 82 => ⟨S128x192, .i1⟩
  | 83 => ⟨S128x1x192, .i1⟩
  | 84 => ⟨S128x64x192, .i1⟩
  | 85 => ⟨S128x64x192, .i1⟩
  | 86 => ⟨S128x64x192, .i1⟩
  | 87 => ⟨S64x192, .i32⟩
  | 88 => ⟨S_, .i32⟩
  | 89 => ⟨S64x192, .i32⟩
  | 90 => ⟨S64x192, .i32⟩
  | 91 => ⟨S64x192, .f32⟩
  | 92 => ⟨S4x1x1, .f32⟩
  | 93 => ⟨S4x1x1, .f32⟩
  | 94 => ⟨S1x64x192, .f32⟩
  | 95 => ⟨S4x64x192, .f32⟩
  | 96 => ⟨S4x64x192, .f32⟩
  | 97 => ⟨S4x64x192, .f32⟩
  | 98 => ⟨S1x128x4x64x192, .f32⟩
  | 99 => ⟨S_, .f32⟩
  | 100 => ⟨S1x128x4x64x192, .f32⟩
  | 101 => ⟨S1x128x4x64x192, .f32⟩
  | 102 => ⟨S1x128x1x64x192, .i1⟩
  | 103 => ⟨S1x1x4x64x192, .f32⟩
  | 104 => ⟨S1x128x4x64x192, .f32⟩
  | 105 => ⟨S1x128x4x64x192, .f32⟩
  | 106 => ⟨S_, .f32⟩
  | 107 => ⟨S_, .f32⟩
  | 108 => ⟨S1x128x4x64x192, .i1⟩
  | 109 => ⟨S1x128x4x64x192, .f32⟩
  | 110 => ⟨S1x128x4x64x192, .f32⟩
  | 111 => ⟨S_, .f32⟩
  | 112 => ⟨S1x128x4x64x192, .f32⟩
  | 113 => ⟨S_, .f32⟩
  | 114 => ⟨S1x128x4x64, .f32⟩
  | 115 => ⟨S1x128x4x64x1, .f32⟩
  | 116 => ⟨S1x128x4x64x192, .f32⟩
  | 117 => ⟨S1x128x4x64x192, .i1⟩
  | 118 => ⟨S1x128x4x64x192, .f32⟩
  | 119 => ⟨S_, .f32⟩
  | 120 => ⟨S1x128x4x64, .f32⟩
  | 121 => ⟨S1x128x4x64x1, .f32⟩
  | 122 => ⟨S1x128x4x64x192, .f32⟩
  | 123 => ⟨S1x128x4x64x192, .f32⟩
  | 124 => ⟨S1x128x4x64x192, .f32⟩
  | 125 => ⟨S_, .f32⟩
  | 126 => ⟨S1x128x4x64, .f32⟩
  | 127 => ⟨S1x128x4x64x64, .f32⟩
  | _ => ⟨S1x8192x4x64, .f32⟩

abbrev hbmTy0_1 (i : Nat) : BufTy := match i % 128 with
  | 0 => ⟨S1x128x64x4x64, .f32⟩
  | 1 => ⟨S1x128x64x4, .f32⟩
  | 2 => ⟨S1x128x64x4x1, .f32⟩
  | 3 => ⟨S1x128x64x4x64, .f32⟩
  | 4 => ⟨S1x128x64x4x64, .f32⟩
  | 5 => ⟨S1x128x64x4x1, .f32⟩
  | 6 => ⟨S_, .f32⟩
  | 7 => ⟨S1x128x64x4x1, .f32⟩
  | 8 => ⟨S1x128x64x4x1, .f32⟩
  | 9 => ⟨S1x128x4x64, .f32⟩
  | 10 => ⟨S1x128x64x4, .f32⟩
  | 11 => ⟨S1x128x64x4, .f32⟩
  | 12 => ⟨S1x128x64x4, .f32⟩
  | 13 => ⟨S1x1x8192x4x64, .f32⟩
  | 14 => ⟨S1x8192x1x4x64, .f32⟩
  | 15 => ⟨S1x8192x4x64, .f32⟩
  | 16 => ⟨S1x1x8192x4, .f32⟩
  | 17 => ⟨S1x8192x1x4, .f32⟩
  | 18 => ⟨S1x8192x4, .f32⟩
  | 19 => ⟨S1x8192x4x1, .f32⟩
  | 20 => ⟨S1x8192x4x64, .f32⟩
  | 21 => ⟨S1x8192x1x4, .f32⟩
  | 22 => ⟨S1x1x8192x4, .f32⟩
  | 23 => ⟨S1x128x64x4, .f32⟩
  | 24 => ⟨S1x8192x1x4x64, .f32⟩
  | 25 => ⟨S1x1x8192x4x64, .f32⟩
  | 26 => ⟨S1x128x64x4x64, .f32⟩
  | 27 => ⟨S1x128x64x4, .f32⟩
  | 28 => ⟨S1x128x4x64, .f32⟩
  | 29 => ⟨S1x128x4x64x1, .f32⟩
  | 30 => ⟨S1x128x64x4x64, .f32⟩
  | 31 => ⟨S1x128x64x4x64, .f32⟩
  | 32 => ⟨S1x128x64x4x64, .f32⟩
  | 33 => ⟨S_, .f32⟩
  | 34 => ⟨S1x128x64x4, .f32⟩
  | 35 => ⟨S1x128x64x4x1, .f32⟩
  | 36 => ⟨S1x128x64x4x1, .f32⟩
  | 37 => ⟨S1x128x64x4x64, .f32⟩
  | 38 => ⟨S1x128x64x4x64, .f32⟩
  | 39 => ⟨S_, .f32⟩
  | 40 => ⟨S128x64x4, .f32⟩
  | 41 => ⟨S1x128x64x4, .f32⟩
  | 42 => ⟨S1x128x64x4, .f32⟩
  | 43 => ⟨S1x128x4x64, .f32⟩
  | 44 => ⟨S1x128x4x64x64, .f32⟩
  | 45 => ⟨S1x128x4x64x192, .f32⟩
  | 46 => ⟨S1x128x4x64x192, .f32⟩
  | 47 => ⟨S1x128x192x4x64, .f32⟩
  | 48 => ⟨S1x128x4x64x192, .f32⟩
  | 49 => ⟨S1x128x4x64x192, .f32⟩
  | 50 => ⟨S1x128x4x64x192, .f32⟩
  | 51 => ⟨S1x128x4x64x192, .f32⟩
  | 52 => ⟨S_, .f32⟩
  | 53 => ⟨S1x128x4x64, .f32⟩
  | 54 => ⟨S1x128x4x64x1, .f32⟩
  | 55 => ⟨S1x128x4x64x1, .f32⟩
  | 56 => ⟨S_, .f32⟩
  | 57 => ⟨S128x4x64, .f32⟩
  | 58 => ⟨S1x128x4x64, .f32⟩
  | 59 => ⟨S1x128x4x64, .f32⟩
  | 60 => ⟨S1x128x4x64x192, .f32⟩
  | 61 => ⟨S1x128x4x64x192, .f32⟩
  | 62 => ⟨S1x128x4x64x192, .f32⟩
  | 63 => ⟨S_, .f32⟩
  | 64 => ⟨S1x128x4x64x192, .f32⟩
  | 65 => ⟨S1x128x4x64x192, .f32⟩
  | 66 => ⟨S_, .f32⟩
  | 67 => ⟨S1x128x4x64x192, .f32⟩
  | 68 => ⟨S1x128x4x64x192, .f32⟩
  | 69 => ⟨S1x128x4x192x64, .f32⟩
  | 70 => ⟨S1x128x192x4x64, .f32⟩
  | 71 => ⟨S1x128x4x64x64, .f32⟩
  | 72 => ⟨S1x128x64x4x64, .f32⟩
  | 73 => ⟨S1x128x64x4x64, .f32⟩
  | 74 => ⟨S1x128x64x4x64, .f32⟩
  | 75 => ⟨S1x128x64x4x64, .f32⟩
  | 76 => ⟨S_, .f32⟩
  | 77 => ⟨S1x130x64x4x64, .f32⟩
  | 78 => ⟨S_, .f32⟩
  | 79 => ⟨S1x130x64x4x64, .f32⟩
  | 80 => ⟨S1x130x64x4x64, .f32⟩
  | 81 => ⟨S_, .f32⟩
  | 82 => ⟨S1x130x64x4x64, .f32⟩
  | 83 => ⟨S1x130x64x4x64, .f32⟩
  | 84 => ⟨S1x8320x4x64, .f32⟩
  | 85 => ⟨S1x64x4x64, .f32⟩
  | 86 => ⟨S1x8192x4x64, .f32⟩
  | 87 => ⟨S1x64x4x64, .f32⟩
  | 88 => ⟨S1x1x8192x4x64, .f32⟩
  | 89 => ⟨S1x8192x1x4x64, .f32⟩
  | 90 => ⟨S1x8192x4x64, .f32⟩
  | 91 => ⟨S1x128x64x4x64, .f32⟩
  | 92 => ⟨S1x128x64x4x64, .f32⟩
  | 93 => ⟨S1x128x64x4x64, .f32⟩
  | 94 => ⟨S_, .f32⟩
  | 95 => ⟨S1x130x64x4x64, .f32⟩
  | 96 => ⟨S_, .f32⟩
  | 97 => ⟨S1x130x64x4x64, .f32⟩
  | 98 => ⟨S1x130x64x4x64, .f32⟩
  | 99 => ⟨S_, .f32⟩
  | 100 => ⟨S1x130x64x4x64, .f32⟩
  | 101 => ⟨S1x130x64x4x64, .f32⟩
  | 102 => ⟨S1x8320x4x64, .f32⟩
  | 103 => ⟨S1x64x4x64, .f32⟩
  | 104 => ⟨S1x8192x4x64, .f32⟩
  | 105 => ⟨S1x64x4x64, .f32⟩
  | 106 => ⟨S1x1x8192x4x64, .f32⟩
  | 107 => ⟨S1x8192x1x4x64, .f32⟩
  | 108 => ⟨S1x8192x4x64, .f32⟩
  | 109 => ⟨S1x8192x4x64, .f32⟩
  | 110 => ⟨S1x1x8192x4x64, .f32⟩
  | 111 => ⟨S1x8192x1x4x64, .f32⟩
  | 112 => ⟨S1x8192x4x64, .f32⟩
  | 113 => ⟨S8192x256, .f32⟩
  | 114 => ⟨S8192x256, .f32⟩
  | 115 => ⟨S8192x256, .f32⟩
  | 116 => ⟨S8192x256, .f32⟩
  | 117 => ⟨S8192x256, .f32⟩
  | _ => ⟨S1x8192x4x64, .f32⟩

abbrev hbmTy (i : Nat) : BufTy := match i / 128 with
  | 0 => hbmTy0_0 i
  | 1 => hbmTy0_1 i
  | _ => ⟨S1x8192x4x64, .f32⟩

abbrev bufTy : (tb : Table) → Fin (tcTables nBuf tb) → BufTy
  | .hbm, ⟨i, _⟩ => hbmTy i
  | _, _ => ⟨S1x8192x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_cst_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_9 : Ref sig .tc := ⟨.hbm, 60, rfl⟩
abbrev main_v44 : Ref sig .tc := ⟨.hbm, 61, rfl⟩
abbrev main_v45 : Ref sig .tc := ⟨.hbm, 62, rfl⟩
abbrev main_c_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_12 : Ref sig .tc := ⟨.hbm, 76, rfl⟩
abbrev main_v57 : Ref sig .tc := ⟨.hbm, 77, rfl⟩
abbrev main_v58 : Ref sig .tc := ⟨.hbm, 78, rfl⟩
abbrev main_c_13 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_15 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_16 : Ref sig .tc := ⟨.hbm, 106, rfl⟩
abbrev main_call0_v0 : Ref sig .tc := ⟨.hbm, 107, rfl⟩
abbrev main_v83_1 : Ref sig .tc := ⟨.hbm, 108, rfl⟩
abbrev main_call0_v2 : Ref sig .tc := ⟨.hbm, 109, rfl⟩
abbrev main_v83_0 : Ref sig .tc := ⟨.hbm, 110, rfl⟩
abbrev main_call0_cst : Ref sig .tc := ⟨.hbm, 111, rfl⟩
abbrev main_v83_2 : Ref sig .tc := ⟨.hbm, 112, rfl⟩
abbrev main_cst_17 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_18 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_19 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_20 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_cst_21 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_cst_22 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_cst_23 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_cst_24 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_call1_cst : Ref sig .tc := ⟨.hbm, 191, rfl⟩
abbrev main_call1_v0 : Ref sig .tc := ⟨.hbm, 192, rfl⟩
abbrev main_v154 : Ref sig .tc := ⟨.hbm, 193, rfl⟩
abbrev main_cst_25 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_cst_26 : Ref sig .tc := ⟨.hbm, 204, rfl⟩
abbrev main_v164 : Ref sig .tc := ⟨.hbm, 205, rfl⟩
abbrev main_cst_27 : Ref sig .tc := ⟨.hbm, 206, rfl⟩
abbrev main_v165 : Ref sig .tc := ⟨.hbm, 207, rfl⟩
abbrev main_v166 : Ref sig .tc := ⟨.hbm, 208, rfl⟩
abbrev main_cst_28 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_cst_29 : Ref sig .tc := ⟨.hbm, 222, rfl⟩
abbrev main_v179 : Ref sig .tc := ⟨.hbm, 223, rfl⟩
abbrev main_cst_30 : Ref sig .tc := ⟨.hbm, 224, rfl⟩
abbrev main_v180 : Ref sig .tc := ⟨.hbm, 225, rfl⟩
abbrev main_v181 : Ref sig .tc := ⟨.hbm, 226, rfl⟩
abbrev main_cst_31 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩

abbrev nD : Nat := 1
abbrev τ : Topo := Topo.v7x

variable {F : FTy → Type} [FloatOps F]
-- ==== Ffn.lean ====
abbrev S1x8192x1024 : Shape := ⟨3, ![1, 8192, 1024]⟩
abbrev S1x1024 : Shape := ⟨2, ![1, 1024]⟩
abbrev S1x1024x2752 : Shape := ⟨3, ![1, 1024, 2752]⟩
abbrev S1x2752x1024 : Shape := ⟨3, ![1, 2752, 1024]⟩
abbrev S2752x1024 : Shape := ⟨2, ![2752, 1024]⟩
abbrev S8192x1024 : Shape := ⟨2, ![8192, 1024]⟩
abbrev S8192x2752 : Shape := ⟨2, ![8192, 2752]⟩
abbrev S512x1024 : Shape := ⟨2, ![512, 1024]⟩
abbrev S512x2752 : Shape := ⟨2, ![512, 2752]⟩
abbrev S256x1024 : Shape := ⟨2, ![256, 1024]⟩
abbrev S256 : Shape := ⟨1, ![256]⟩
abbrev S256x1 : Shape := ⟨2, ![256, 1]⟩
abbrev S256x2752 : Shape := ⟨2, ![256, 2752]⟩
abbrev S1024 : Shape := ⟨1, ![1024]⟩

abbrev nBuf : Space → Nat
  | .hbm => 37
  | .vmem => 44
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2752, .f32⟩
  | .hbm, ⟨3, _⟩ => ⟨S1x1024x2752, .f32⟩
  | .hbm, ⟨4, _⟩ => ⟨S1x2752x1024, .f32⟩
  | .hbm, ⟨5, _⟩ => ⟨S1x1024, .f32⟩
  | .hbm, ⟨6, _⟩ => ⟨S1x8192x1024, .f32⟩
  | .hbm, ⟨7, _⟩ => ⟨S1x2752x1024, .f32⟩
  | .hbm, ⟨8, _⟩ => ⟨S2752x1024, .f32⟩
  | .hbm, ⟨9, _⟩ => ⟨S2752x1024, .bf16⟩
  | .hbm, ⟨10, _⟩ => ⟨S1x2752x1024, .f32⟩
  | .hbm, ⟨11, _⟩ => ⟨S2752x1024, .f32⟩
  | .hbm, ⟨12, _⟩ => ⟨S2752x1024, .bf16⟩
  | .hbm, ⟨13, _⟩ => ⟨S2752x1024, .f32⟩
  | .hbm, ⟨14, _⟩ => ⟨S2752x1024, .bf16⟩
  | .hbm, ⟨15, _⟩ => ⟨S8192x1024, .f32⟩
  | .hbm, ⟨16, _⟩ => ⟨S8192x1024, .f32⟩
  | .hbm, ⟨17, _⟩ => ⟨S8192x2752, .bf16⟩
  | .hbm, ⟨18, _⟩ => ⟨S8192x2752, .bf16⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x2752, .bf16⟩
  | .hbm, ⟨24, _⟩ => ⟨S8192x2752, .bf16⟩
  | .hbm, ⟨25, _⟩ => ⟨S8192x2752, .bf16⟩
  | .hbm, ⟨26, _⟩ => ⟨S8192x1024, .bf16⟩
  | .hbm, ⟨27, _⟩ => ⟨S8192x1024, .bf16⟩
  | .hbm, ⟨28, _⟩ => ⟨S1x1024, .f32⟩
  | .hbm, ⟨29, _⟩ => ⟨S1x1024, .f32⟩
  | .hbm, ⟨30, _⟩ => ⟨S8192x2752, .f32⟩
  | .hbm, ⟨31, _⟩ => ⟨S8192x2752, .f32⟩
  | .hbm, ⟨32, _⟩ => ⟨S8192x2752, .f32⟩
  | .hbm, ⟨33, _⟩ => ⟨S8192x2752, .f32⟩
  | .hbm, ⟨34, _⟩ => ⟨S8192x2752, .f32⟩
  | .hbm, ⟨35, _⟩ => ⟨S8192x1024, .f32⟩
  | .hbm, ⟨36, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2752x1024, .bf16⟩
  | .local _ .vmem, ⟨4, _⟩ => ⟨S2752x1024, .bf16⟩
  | .local _ .vmem, ⟨5, _⟩ => ⟨S2752x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x2752, .bf16⟩
  | .local _ .vmem, ⟨10, _⟩ => ⟨S512x2752, .bf16⟩
  | .local _ .vmem, ⟨11, _⟩ => ⟨S512x2752, .bf16⟩
  | .local _ .vmem, ⟨12, _⟩ => ⟨S512x2752, .bf16⟩
  | .local _ .vmem, ⟨13, _⟩ => ⟨S512x1024, .f32⟩
  | .local _ .vmem, ⟨14, _⟩ => ⟨S512x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x2752, .bf16⟩
  | .local _ .vmem, ⟨22, _⟩ => ⟨S256x2752, .bf16⟩
  | .local _ .vmem, ⟨23, _⟩ => ⟨S256x2752, .bf16⟩
  | .local _ .vmem, ⟨24, _⟩ => ⟨S256x2752, .bf16⟩
  | .local _ .vmem, ⟨25, _⟩ => ⟨S1x1024, .f32⟩
  | .local _ .vmem, ⟨26, _⟩ => ⟨S1x1024, .f32⟩
  | .local _ .vmem, ⟨27, _⟩ => ⟨S2752x1024, .bf16⟩
  | .local _ .vmem, ⟨28, _⟩ => ⟨S2752x1024, .bf16⟩
  | .local _ .vmem, ⟨29, _⟩ => ⟨S2752x1024, .bf16⟩
  | .local _ .vmem, ⟨30, _⟩ => ⟨S256x1024, .f32⟩
  | .local _ .vmem, ⟨31, _⟩ => ⟨S256x1024, .f32⟩
  | .local _ .vmem, ⟨32, _⟩ => ⟨S256x2752, .bf16⟩
  | .local _ .vmem, ⟨33, _⟩ => ⟨S256x2752, .bf16⟩
  | .local _ .vmem, ⟨34, _⟩ => ⟨S256x2752, .bf16⟩
  | .local _ .vmem, ⟨35, _⟩ => ⟨S256x2752, .bf16⟩
  | .local _ .vmem, ⟨36, _⟩ => ⟨S256x2752, .bf16⟩
  | .local _ .vmem, ⟨37, _⟩ => ⟨S256x2752, .bf16⟩
  | .local _ .vmem, ⟨38, _⟩ => ⟨S256x1024, .bf16⟩
  | .local _ .vmem, ⟨39, _⟩ => ⟨S256x1024, .bf16⟩
  | .local _ .vmem, ⟨40, _⟩ => ⟨S256x1024, .bf16⟩
  | .local _ .vmem, ⟨41, _⟩ => ⟨S256x1024, .bf16⟩
  | .local _ .vmem, ⟨42, _⟩ => ⟨S1x1024, .f32⟩
  | .local _ .vmem, ⟨43, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v12_5 : Ref sig .tc := ⟨.hbm, 27, rfl⟩
abbrev main_v12_6 : Ref sig .tc := ⟨.hbm, 28, rfl⟩
abbrev main_v12_7 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc1_stg12_0 : Ref sig .tc := ⟨.vmem, 34, rfl⟩
abbrev cc1_stg12_1 : Ref sig .tc := ⟨.vmem, 35, rfl⟩
abbrev cc1_stg13_0 : Ref sig .tc := ⟨.vmem, 36, rfl⟩
abbrev cc1_stg13_1 : Ref sig .tc := ⟨.vmem, 37, rfl⟩
abbrev cc1_stg14_0 : Ref sig .tc := ⟨.vmem, 38, rfl⟩
abbrev cc1_stg14_1 : Ref sig .tc := ⟨.vmem, 39, rfl⟩
abbrev cc1_stg15_0 : Ref sig .tc := ⟨.vmem, 40, rfl⟩
abbrev cc1_stg15_1 : Ref sig .tc := ⟨.vmem, 41, rfl⟩
abbrev cc1_stg16_0 : Ref sig .tc := ⟨.vmem, 42, rfl⟩
abbrev cc1_stg17_0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem10_1 : DmaSem sig := 31
abbrev cc1_sem11_0 : DmaSem sig := 32
abbrev cc1_sem11_1 : DmaSem sig := 33
abbrev cc1_sem12_0 : DmaSem sig := 34
abbrev cc1_sem12_1 : DmaSem sig := 35
abbrev cc1_sem13_0 : DmaSem sig := 36
abbrev cc1_sem13_1 : DmaSem sig := 37
abbrev cc1_sem14_0 : DmaSem sig := 38
abbrev cc1_sem14_1 : DmaSem sig := 39
abbrev cc1_sem15_0 : DmaSem sig := 40
abbrev cc1_sem15_1 : DmaSem sig := 41
abbrev cc1_sem16_0 : DmaSem sig := 42
abbrev cc1_sem17_0 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2752x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2752x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2752x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2752 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2752 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2752 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2752 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2752x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2752x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S2752x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S256x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x2752 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x2752 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x2752 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S256x1024 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S256x1024 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 1 → Memref sig .tc .vmem S1x1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x1024 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]
-- ==== FfnRefIdeal.lean ====
abbrev S1x8192x1024 : Shape := ⟨3, ![1, 8192, 1024]⟩
abbrev S1x1024 : Shape := ⟨2, ![1, 1024]⟩
abbrev S1x1024x2752 : Shape := ⟨3, ![1, 1024, 2752]⟩
abbrev S1x2752x1024 : Shape := ⟨3, ![1, 2752, 1024]⟩
abbrev S_ : Shape := ⟨0, ![]⟩
abbrev S1x8192x2752 : Shape := ⟨3, ![1, 8192, 2752]⟩
abbrev S1024 : Shape := ⟨1, ![1024]⟩
abbrev S1x8192 : Shape := ⟨2, ![1, 8192]⟩
abbrev S1x8192x1 : Shape := ⟨3, ![1, 8192, 1]⟩
abbrev S1x1x1024 : Shape := ⟨3, ![1, 1, 1024]⟩
abbrev S1024x2752 : Shape := ⟨2, ![1024, 2752]⟩
abbrev S2752x1024 : Shape := ⟨2, ![2752, 1024]⟩
abbrev S8192 : Shape := ⟨1, ![8192]⟩
abbrev S8192x1024 : Shape := ⟨2, ![8192, 1024]⟩
abbrev S8192x2752 : Shape := ⟨2, ![8192, 2752]⟩

abbrev nBuf : Space → Nat
  | .hbm => 159
  | .vmem => 0
  | .smem => 0
  | _ => 0

abbrev hbmTy0_0 (i : Nat) : BufTy := match i % 128 with
  | 0 => ⟨S1x8192x1024, .f32⟩
  | 1 => ⟨S1x1024, .f32⟩
  | 2 => ⟨S1x1024x2752, .f32⟩
  | 3 => ⟨S1x1024x2752, .f32⟩
  | 4 => ⟨S1x2752x1024, .f32⟩
  | 5 => ⟨S1x1024, .f32⟩
  | 6 => ⟨S1x8192x1024, .f32⟩
  | 7 => ⟨S_, .f32⟩
  | 8 => ⟨S1x8192x2752, .f32⟩
  | 9 => ⟨S_, .f32⟩
  | 10 => ⟨S1x8192x1024, .f32⟩
  | 11 => ⟨S1024, .f32⟩
  | 12 => ⟨S1x8192x1024, .f32⟩
  | 13 => ⟨S_, .f32⟩
  | 14 => ⟨S1x8192, .f32⟩
  | 15 => ⟨S1x8192x1, .f32⟩
  | 16 => ⟨S_, .f32⟩
  | 17 => ⟨S1x8192x1, .f32⟩
  | 18 => ⟨S1x8192x1, .f32⟩
  | 19 => ⟨S_, .f32⟩
  | 20 => ⟨S1x8192x1, .f32⟩
  | 21 => ⟨S1x8192x1, .f32⟩
  | 22 => ⟨S1x8192x1, .f32⟩
  | 23 => ⟨S1x8192x1, .f32⟩
  | 24 => ⟨S_, .f32⟩
  | 25 => ⟨S1x8192x1, .f32⟩
  | 26 => ⟨S1x8192x1, .f32⟩
  | 27 => ⟨S1x8192x1024, .f32⟩
  | 28 => ⟨S1x8192x1024, .f32⟩
  | 29 => ⟨S1x1x1024, .f32⟩
  | 30 => ⟨S1x8192x1024, .f32⟩
  | 31 => ⟨S1x8192x1024, .f32⟩
  | 32 => ⟨S1024x2752, .f32⟩
  | 33 => ⟨S1x8192x2752, .f32⟩
  | 34 => ⟨S1x8192x2752, .f32⟩
  | 35 => ⟨S1024x2752, .f32⟩
  | 36 => ⟨S1x8192x2752, .f32⟩
  | 37 => ⟨S1x8192x2752, .f32⟩
  | 38 => ⟨S1x8192x2752, .f32⟩
  | 39 => ⟨S1x8192x2752, .f32⟩
  | 40 => ⟨S_, .f32⟩
  | 41 => ⟨S1x8192x2752, .f32⟩
  | 42 => ⟨S1x8192x2752, .f32⟩
  | 43 => ⟨S_, .f32⟩
  | 44 => ⟨S1x8192x2752, .f32⟩
  | 45 => ⟨S1x8192x2752, .f32⟩
  | 46 => ⟨S_, .f32⟩
  | 47 => ⟨S1x8192x2752, .f32⟩
  | 48 => ⟨S1x8192x2752, .f32⟩
  | 49 => ⟨S1x8192x2752, .f32⟩
  | 50 => ⟨S1x8192x2752, .f32⟩
  | 51 => ⟨S1x8192x2752, .f32⟩
  | 52 => ⟨S2752x1024, .f32⟩
  | 53 => ⟨S1x8192x1024, .f32⟩
  | 54 => ⟨S1x8192x1024, .f32⟩
  | 55 => ⟨S1024, .f32⟩
  | 56 => ⟨S1x8192x1024, .f32⟩
  | 57 => ⟨S_, .f32⟩
  | 58 => ⟨S1x8192, .f32⟩
  | 59 => ⟨S1x8192x1, .f32⟩
  | 60 => ⟨S_, .f32⟩
  | 61 => ⟨S1x8192x1, .f32⟩
  | 62 => ⟨S1x8192x1, .f32⟩
  | 63 => ⟨S_, .f32⟩
  | 64 => ⟨S1x8192x1, .f32⟩
  | 65 => ⟨S1x8192x1, .f32⟩
  | 66 => ⟨S1x8192x1, .f32⟩
  | 67 => ⟨S1x8192x1, .f32⟩
  | 68 => ⟨S_, .f32⟩
  | 69 => ⟨S1x8192x1, .f32⟩
  | 70 => ⟨S1x8192x1, .f32⟩
  | 71 => ⟨S1x8192x1024, .f32⟩
  | 72 => ⟨S1x8192x1024, .f32⟩
  | 73 => ⟨S1x1x1024, .f32⟩
  | 74 => ⟨S1x8192x1024, .f32⟩
  | 75 => ⟨S1x8192x1024, .f32⟩
  | 76 => ⟨S_, .f32⟩
  | 77 => ⟨S1x8192x1024, .f32⟩
  | 78 => ⟨S1x8192x1024, .f32⟩
  | 79 => ⟨S1x8192x1024, .f32⟩
  | 80 => ⟨S1x8192x1024, .f32⟩
  | 81 => ⟨S_, .f32⟩
  | 82 => ⟨S1x8192x1024, .f32⟩
  | 83 => ⟨S1x8192x1024, .f32⟩
  | 84 => ⟨S1x8192x1024, .f32⟩
  | 85 => ⟨S_, .f32⟩
  | 86 => ⟨S1x1024, .f32⟩
  | 87 => ⟨S1x1x1024, .f32⟩
  | 88 => ⟨S1x8192x1024, .f32⟩
  | 89 => ⟨S1x8192x1024, .f32⟩
  | 90 => ⟨S_, .f32⟩
  | 91 => ⟨S1024, .f32⟩
  | 92 => ⟨S1x8192x1024, .f32⟩
  | 93 => ⟨S_, .f32⟩
  | 94 => ⟨S1x8192, .f32⟩
  | 95 => ⟨S1x8192x1, .f32⟩
  | 96 => ⟨S1x8192x1024, .f32⟩
  | 97 => ⟨S1x8192x1024, .f32⟩
  | 98 => ⟨S1x8192x1, .f32⟩
  | 99 => ⟨S_, .f32⟩
  | 100 => ⟨S1x8192x1, .f32⟩
  | 101 => ⟨S1x8192x1, .f32⟩
  | 102 => ⟨S_, .f32⟩
  | 103 => ⟨S8192, .f32⟩
  | 104 => ⟨S1x8192, .f32⟩
  | 105 => ⟨S1x8192x1024, .f32⟩
  | 106 => ⟨S1x8192x1024, .f32⟩
  | 107 => ⟨S1x8192x1024, .f32⟩
  | 108 => ⟨S1x8192x1024, .f32⟩
  | 109 => ⟨S1x8192x1024, .f32⟩
  | 110 => ⟨S1x1024, .f32⟩
  | 111 => ⟨S1x8192x2752, .f32⟩
  | 112 => ⟨S1x8192x2752, .f32⟩
  | 113 => ⟨S1x8192x2752, .f32⟩
  | 114 => ⟨S1x8192x2752, .f32⟩
  | 115 => ⟨S1x8192x2752, .f32⟩
  | 116 => ⟨S1x8192x2752, .f32⟩
  | 117 => ⟨S1x8192x2752, .f32⟩
  | 118 => ⟨S1x8192x1024, .f32⟩
  | 119 => ⟨S1x8192x1024, .f32⟩
  | 120 => ⟨S1x8192x1024, .f32⟩
  | 121 => ⟨S1x8192x1024, .f32⟩
  | 122 => ⟨S_, .f32⟩
  | 123 => ⟨S1x1024, .f32⟩
  | 124 => ⟨S1x1x1024, .f32⟩
  | 125 => ⟨S1x8192x1024, .f32⟩
  | 126 => ⟨S1x8192x1024, .f32⟩
  | 127 => ⟨S_, .f32⟩
  | _ => ⟨S1x8192x1024, .f32⟩

abbrev hbmTy0_1 (i : Nat) : BufTy := match i % 128 with
  | 0 => ⟨S1024, .f32⟩
  | 1 => ⟨S1x8192x1024, .f32⟩
  | 2 => ⟨S_, .f32⟩
  | 3 => ⟨S1x8192, .f32⟩
  | 4 => ⟨S1x8192x1, .f32⟩
  | 5 => ⟨S1x8192x1024, .f32⟩
  | 6 => ⟨S1x8192x1024, .f32⟩
  | 7 => ⟨S1x8192x1024, .f32⟩
  | 8 => ⟨S1x8192x1, .f32⟩
  | 9 => ⟨S_, .f32⟩
  | 10 => ⟨S1x8192x1, .f32⟩
  | 11 => ⟨S1x8192x1, .f32⟩
  | 12 => ⟨S_, .f32⟩
  | 13 => ⟨S8192, .f32⟩
  | 14 => ⟨S1x8192, .f32⟩
  | 15 => ⟨S1x8192x1024, .f32⟩
  | 16 => ⟨S1x8192x1024, .f32⟩
  | 17 => ⟨S1x8192x1024, .f32⟩
  | 18 => ⟨S1x8192x1024, .f32⟩
  | 19 => ⟨S1x8192x1024, .f32⟩
  | 20 => ⟨S1x1024, .f32⟩
  | 21 => ⟨S8192x1024, .f32⟩
  | 22 => ⟨S8192x2752, .f32⟩
  | 23 => ⟨S8192x2752, .f32⟩
  | 24 => ⟨S8192x1024, .f32⟩
  | 25 => ⟨S8192x1024, .f32⟩
  | 26 => ⟨S8192x2752, .f32⟩
  | 27 => ⟨S8192x2752, .f32⟩
  | 28 => ⟨S8192x2752, .f32⟩
  | 29 => ⟨S8192x1024, .f32⟩
  | 30 => ⟨S8192x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v25_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v25_1 : Ref sig .tc := ⟨.hbm, 49, rfl⟩
abbrev main_v25_0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_11 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_12 : Ref sig .tc := ⟨.hbm, 90, rfl⟩
abbrev main_v58 : Ref sig .tc := ⟨.hbm, 91, rfl⟩
abbrev main_v59 : Ref sig .tc := ⟨.hbm, 92, rfl⟩
abbrev main_cst_13 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_v66 : Ref sig .tc := ⟨.hbm, 101, rfl⟩
abbrev main_cst_15 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_16 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_17 : Ref sig .tc := ⟨.hbm, 127, rfl⟩
abbrev main_v87 : Ref sig .tc := ⟨.hbm, 128, rfl⟩
abbrev main_v88 : Ref sig .tc := ⟨.hbm, 129, rfl⟩
abbrev main_cst_18 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_19 : Ref sig .tc := ⟨.hbm, 137, rfl⟩
abbrev main_v95 : Ref sig .tc := ⟨.hbm, 138, rfl⟩
abbrev main_v96 : Ref sig .tc := ⟨.hbm, 139, rfl⟩
abbrev main_cst_20 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩

abbrev nD : Nat := 1
abbrev τ : Topo := Topo.v7x

variable {F : FTy → Type} [FloatOps F]
-- ==== Out.lean ====
abbrev S1x8192x256 : Shape := ⟨3, ![1, 8192, 256]⟩
abbrev S1x8192x4x64 : Shape := ⟨4, ![1, 8192, 4, 64]⟩
abbrev S1x8192x4 : Shape := ⟨3, ![1, 8192, 4]⟩
abbrev S1x8192x1024 : Shape := ⟨3, ![1, 8192, 1024]⟩
abbrev S1x1024x1024 : Shape := ⟨3, ![1, 1024, 1024]⟩
abbrev S1x1024 : Shape := ⟨2, ![1, 1024]⟩
abbrev S8192x256 : Shape := ⟨2, ![8192, 256]⟩
abbrev S1x8192x4x1 : Shape := ⟨4, ![1, 8192, 4, 1]⟩
abbrev S4x4 : Shape := ⟨2, ![4, 4]⟩
abbrev S_ : Shape := ⟨0, ![]⟩
abbrev S4x1x4x1 : Shape := ⟨4, ![4, 1, 4, 1]⟩
abbrev S4x64x4x64 : Shape := ⟨4, ![4, 64, 4, 64]⟩
abbrev S256x256 : Shape := ⟨2, ![256, 256]⟩
abbrev S1024x1024 : Shape := ⟨2, ![1024, 1024]⟩
abbrev S8192x1024 : Shape := ⟨2, ![8192, 1024]⟩
abbrev S1024x256 : Shape := ⟨2, ![1024, 256]⟩
abbrev S1024 : Shape := ⟨1, ![1024]⟩
abbrev S1024x1 : Shape := ⟨2, ![1024, 1]⟩

abbrev nBuf : Space → Nat
  | .hbm => 53
  | .vmem => 58
  | .smem => 0
  | _ => 0

abbrev bufTy : (tb : Table) → Fin (tcTables nBuf tb) → BufTy
  | .hbm, ⟨0, _⟩ => ⟨S1x8192x256, .f32⟩
  | .hbm, ⟨1, _⟩ => ⟨S1x8192x4x64, .f32⟩
  | .hbm, ⟨2, _⟩ => ⟨S1x8192x4x64, .f32⟩
  | .hbm, ⟨3, _⟩ => ⟨S1x8192x4x64, .f32⟩
  | .hbm, ⟨4, _⟩ => ⟨S1x8192x4, .f32⟩
  | .hbm, ⟨5, _⟩ => ⟨S1x8192x4, .f32⟩
  | .hbm, ⟨6, _⟩ => ⟨S1x8192x4, .f32⟩
  | .hbm, ⟨7, _⟩ => ⟨S1x8192x1024, .f32⟩
  | .hbm, ⟨8, _⟩ => ⟨S1x1024x1024, .f32⟩
  | .hbm, ⟨9, _⟩ => ⟨S1x1024, .f32⟩
  | .hbm, ⟨10, _⟩ => ⟨S1x8192x1024, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S1x8192x4x1, .f32⟩
  | .hbm, ⟨15, _⟩ => ⟨S1x8192x4x64, .f32⟩
  | .hbm, ⟨16, _⟩ => ⟨S8192x256, .f32⟩
  | .hbm, ⟨17, _⟩ => ⟨S1x8192x4x1, .f32⟩
  | .hbm, ⟨18, _⟩ => ⟨S1x8192x4x64, .f32⟩
  | .hbm, ⟨19, _⟩ => ⟨S8192x256, .f32⟩
  | .hbm, ⟨20, _⟩ => ⟨S1x8192x4x1, .f32⟩
  | .hbm, ⟨21, _⟩ => ⟨S1x8192x4x64, .f32⟩
  | .hbm, ⟨22, _⟩ => ⟨S8192x256, .f32⟩
  | .hbm, ⟨23, _⟩ => ⟨S4x4, .i32⟩
  | .hbm, ⟨24, _⟩ => ⟨S4x4, .i32⟩
  | .hbm, ⟨25, _⟩ => ⟨S_, .i32⟩
  | .hbm, ⟨26, _⟩ => ⟨S4x4, .i32⟩
  | .hbm, ⟨27, _⟩ => ⟨S4x4, .i32⟩
  | .hbm, ⟨28, _⟩ => ⟨S4x4, .i1⟩
  | .hbm, ⟨29, _⟩ => ⟨S4x4, .bf16⟩
  | .hbm, ⟨30, _⟩ => ⟨S4x1x4x1, .bf16⟩
  | .hbm, ⟨31, _⟩ => ⟨S4x64x4x64, .bf16⟩
  | .hbm, ⟨32, _⟩ => ⟨S256x256, .bf16⟩
  | .hbm, ⟨33, _⟩ => ⟨S1024x1024, .f32⟩
  | .hbm, ⟨34, _⟩ => ⟨S1024x1024, .bf16⟩
  | .hbm, ⟨35, _⟩ => ⟨S8192x256, .f32⟩
  | .hbm, ⟨36, _⟩ => ⟨S8192x256, .bf16⟩
  | .hbm, ⟨37, _⟩ => ⟨S8192x1024, .f32⟩
  | .hbm, ⟨38, _⟩ => ⟨S8192x1024, .f32⟩
  | .hbm, ⟨39, _⟩ => ⟨S8192x1024, .bf16⟩
  | .hbm, ⟨40, _⟩ => ⟨S8192x1024, .f32⟩
  | .hbm, ⟨41, _⟩ => ⟨S8192x256, .f32⟩
  | .hbm, ⟨42, _⟩ => ⟨S8192x1024, .bf16⟩
  | .hbm, ⟨43, _⟩ => ⟨S8192x256, .bf16⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S8192x256, .f32⟩
  | .hbm, ⟨48, _⟩ => ⟨S8192x256, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x256, .f32⟩
  | .local _ .vmem, ⟨0, _⟩ => ⟨S1024x256, .bf16⟩
  | .local _ .vmem, ⟨1, _⟩ => ⟨S1024x256, .bf16⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .bf16⟩
  | .local _ .vmem, ⟨21, _⟩ => ⟨S1024x1024, .bf16⟩
  | .local _ .vmem, ⟨22, _⟩ => ⟨S1024x1024, .f32⟩
  | .local _ .vmem, ⟨23, _⟩ => ⟨S1024x1024, .f32⟩
  | .local _ .vmem, ⟨24, _⟩ => ⟨S1024x1024, .bf16⟩
  | .local _ .vmem, ⟨25, _⟩ => ⟨S1024x1024, .bf16⟩
  | .local _ .vmem, ⟨26, _⟩ => ⟨S1024x256, .f32⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | .local _ .vmem, ⟨31, _⟩ => ⟨S1024x256, .f32⟩
  | .local _ .vmem, ⟨32, _⟩ => ⟨S1024x256, .f32⟩
  | .local _ .vmem, ⟨33, _⟩ => ⟨S1024x256, .f32⟩
  | .local _ .vmem, ⟨34, _⟩ => ⟨S1024x256, .f32⟩
  | .local _ .vmem, ⟨35, _⟩ => ⟨S1024x256, .f32⟩
  | .local _ .vmem, ⟨36, _⟩ => ⟨S1024x256, .f32⟩
  | .local _ .vmem, ⟨37, _⟩ => ⟨S1024x256, .f32⟩
  | .local _ .vmem, ⟨38, _⟩ => ⟨S1024x1024, .bf16⟩
  | .local _ .vmem, ⟨39, _⟩ => ⟨S1x1024, .f32⟩
  | .local _ .vmem, ⟨40, _⟩ => ⟨S256x256, .bf16⟩
  | .local _ .vmem, ⟨41, _⟩ => ⟨S1024x256, .f32⟩
  | .local _ .vmem, ⟨42, _⟩ => ⟨S1024x256, .f32⟩
  | .local _ .vmem, ⟨43, _⟩ => ⟨S1024x1024, .bf16⟩
  | .local _ .vmem, ⟨44, _⟩ => ⟨S1024x1024, .bf16⟩
  | .local _ .vmem, ⟨45, _⟩ => ⟨S1024x256, .bf16⟩
  | .local _ .vmem, ⟨46, _⟩ => ⟨S1024x256, .bf16⟩
  | .local _ .vmem, ⟨47, _⟩ => ⟨S1024x256, .f32⟩
  | .local _ .vmem, ⟨48, _⟩ => ⟨S1024x256, .f32⟩
  | .local _ .vmem, ⟨49, _⟩ => ⟨S1024x256, .f32⟩
  | .local _ .vmem, ⟨50, _⟩ => ⟨S1024x256, .f32⟩
  | .local _ .vmem, ⟨51, _⟩ => ⟨S1024x256, .f32⟩
  | .local _ .vmem, ⟨52, _⟩ => ⟨S1024x256, .f32⟩
  | .local _ .vmem, ⟨53, _⟩ => ⟨S1024x256, .f32⟩
  | .local _ .vmem, ⟨54, _⟩ => ⟨S1024x256, .f32⟩
  | .local _ .vmem, ⟨55, _⟩ => ⟨S1024x256, .f32⟩
  | .local _ .vmem, ⟨56, _⟩ => ⟨S1024x256, .f32⟩
  | .local _ .vmem, ⟨57, _⟩ => ⟨S1x1024, .f32⟩
  | _, _ => ⟨S1x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev main_v28_2 : Ref sig .tc := ⟨.hbm, 43, rfl⟩
abbrev main_v28_3 : Ref sig .tc := ⟨.hbm, 44, rfl⟩
abbrev main_v28_4 : Ref sig .tc := ⟨.hbm, 45, rfl⟩
abbrev main_v28_5 : Ref sig .tc := ⟨.hbm, 46, rfl⟩
abbrev main_v28_6 : Ref sig .tc := ⟨.hbm, 47, rfl⟩
abbrev main_v28_7 : Ref sig .tc := ⟨.hbm, 48, rfl⟩
abbrev main_v28_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg9_0 : Ref sig .tc := ⟨.vmem, 39, rfl⟩
abbrev cc1_stg10_0 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc1_stg12_1 : Ref sig .tc := ⟨.vmem, 44, rfl⟩
abbrev cc1_stg13_0 : Ref sig .tc := ⟨.vmem, 45, rfl⟩
abbrev cc1_stg13_1 : Ref sig .tc := ⟨.vmem, 46, rfl⟩
abbrev cc1_stg14_0 : Ref sig .tc := ⟨.vmem, 47, rfl⟩
abbrev cc1_stg14_1 : Ref sig .tc := ⟨.vmem, 48, rfl⟩
abbrev cc1_stg15_0 : Ref sig .tc := ⟨.vmem, 49, rfl⟩
abbrev cc1_stg15_1 : Ref sig .tc := ⟨.vmem, 50, rfl⟩
abbrev cc1_stg16_0 : Ref sig .tc := ⟨.vmem, 51, rfl⟩
abbrev cc1_stg16_1 : Ref sig .tc := ⟨.vmem, 52, rfl⟩
abbrev cc1_stg17_0 : Ref sig .tc := ⟨.vmem, 53, rfl⟩
abbrev cc1_stg17_1 : Ref sig .tc := ⟨.vmem, 54, rfl⟩
abbrev cc1_stg18_0 : Ref sig .tc := ⟨.vmem, 55, rfl⟩
abbrev cc1_stg18_1 : Ref sig .tc := ⟨.vmem, 56, rfl⟩
abbrev cc1_stg19_0 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem9_0 : DmaSem sig := 39
abbrev cc1_sem10_0 : DmaSem sig := 40
abbrev cc1_sem11_0 : DmaSem sig := 41
abbrev cc1_sem11_1 : DmaSem sig := 42
abbrev cc1_sem12_0 : DmaSem sig := 43
abbrev cc1_sem12_1 : DmaSem sig := 44
abbrev cc1_sem13_0 : DmaSem sig := 45
abbrev cc1_sem13_1 : DmaSem sig := 46
abbrev cc1_sem14_0 : DmaSem sig := 47
abbrev cc1_sem14_1 : DmaSem sig := 48
abbrev cc1_sem15_0 : DmaSem sig := 49
abbrev cc1_sem15_1 : DmaSem sig := 50
abbrev cc1_sem16_0 : DmaSem sig := 51
abbrev cc1_sem16_1 : DmaSem sig := 52
abbrev cc1_sem17_0 : DmaSem sig := 53
abbrev cc1_sem17_1 : DmaSem sig := 54
abbrev cc1_sem18_0 : DmaSem sig := 55
abbrev cc1_sem18_1 : DmaSem sig := 56
abbrev cc1_sem19_0 : DmaSem sig := 57

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1024x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1024x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256x256 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1024x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1024x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1024x256 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1024x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S1024x256 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S1024x256 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S1024x256 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S1024x256 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 1 → Memref sig .tc .vmem S1x1024 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]
-- ==== OutRefIdeal.lean ====
abbrev S1x8192x256 : Shape := ⟨3, ![1, 8192, 256]⟩
abbrev S1x8192x4x64 : Shape := ⟨4, ![1, 8192, 4, 64]⟩
abbrev S1x8192x4 : Shape := ⟨3, ![1, 8192, 4]⟩
abbrev S1x8192x1024 : Shape := ⟨3, ![1, 8192, 1024]⟩
abbrev S1x1024x1024 : Shape := ⟨3, ![1, 1024, 1024]⟩
abbrev S1x1024 : Shape := ⟨2, ![1, 1024]⟩
abbrev S_ : Shape := ⟨0, ![]⟩
abbrev S1x1x8192x4 : Shape := ⟨4, ![1, 1, 8192, 4]⟩
abbrev S3x1x8192x4 : Shape := ⟨4, ![3, 1, 8192, 4]⟩
abbrev S1x8192x4x1 : Shape := ⟨4, ![1, 8192, 4, 1]⟩
abbrev S1x8192x12x64 : Shape := ⟨4, ![1, 8192, 12, 64]⟩
abbrev S1x8192x768 : Shape := ⟨3, ![1, 8192, 768]⟩
abbrev S1024x1024 : Shape := ⟨2, ![1024, 1024]⟩
abbrev S1024 : Shape := ⟨1, ![1024]⟩
abbrev S1x8192 : Shape := ⟨2, ![1, 8192]⟩
abbrev S1x8192x1 : Shape := ⟨3, ![1, 8192, 1]⟩
abbrev S1x1x1024 : Shape := ⟨3, ![1, 1, 1024]⟩
abbrev S8192 : Shape := ⟨1, ![8192]⟩
abbrev S8192x4 : Shape := ⟨2, ![8192, 4]⟩
abbrev S8192x1024 : Shape := ⟨2, ![8192, 1024]⟩
abbrev S8192x256 : Shape := ⟨2, ![8192, 256]⟩

abbrev nBuf : Space → Nat
  | .hbm => 219
  | .vmem => 0
  | .smem => 0
  | _ => 0

abbrev hbmTy0_0 (i : Nat) : BufTy := match i % 128 with
  | 0 => ⟨S1x8192x256, .f32⟩
  | 1 => ⟨S1x8192x4x64, .f32⟩
  | 2 => ⟨S1x8192x4x64, .f32⟩
  | 3 => ⟨S1x8192x4x64, .f32⟩
  | 4 => ⟨S1x8192x4, .f32⟩
  | 5 => ⟨S1x8192x4, .f32⟩
  | 6 => ⟨S1x8192x4, .f32⟩
  | 7 => ⟨S1x8192x1024, .f32⟩
  | 8 => ⟨S1x1024x1024, .f32⟩
  | 9 => ⟨S1x1024, .f32⟩
  | 10 => ⟨S1x8192x1024, .f32⟩
  | 11 => ⟨S_, .f32⟩
  | 12 => ⟨S1x8192x1024, .f32⟩
  | 13 => ⟨S1x1x8192x4, .f32⟩
  | 14 => ⟨S1x1x8192x4, .f32⟩
  | 15 => ⟨S1x1x8192x4, .f32⟩
  | 16 => ⟨S3x1x8192x4, .f32⟩
  | 17 => ⟨S_, .f32⟩
  | 18 => ⟨S1x8192x4, .f32⟩
  | 19 => ⟨S1x1x8192x4, .f32⟩
  | 20 => ⟨S3x1x8192x4, .f32⟩
  | 21 => ⟨S3x1x8192x4, .i1⟩
  | 22 => ⟨S3x1x8192x4, .f32⟩
  | 23 => ⟨S_, .f32⟩
  | 24 => ⟨S1x8192x4, .f32⟩
  | 25 => ⟨S_, .f32⟩
  | 26 => ⟨S1x8192x4, .f32⟩
  | 27 => ⟨S1x8192x4, .f32⟩
  | 28 => ⟨S_, .f32⟩
  | 29 => ⟨S1x8192x4, .f32⟩
  | 30 => ⟨S1x8192x4, .i1⟩
  | 31 => ⟨S_, .f32⟩
  | 32 => ⟨S1x8192x4, .f32⟩
  | 33 => ⟨S1x8192x4, .i1⟩
  | 34 => ⟨S_, .f32⟩
  | 35 => ⟨S1x8192x4, .f32⟩
  | 36 => ⟨S_, .f32⟩
  | 37 => ⟨S1x8192x4, .f32⟩
  | 38 => ⟨S_, .f32⟩
  | 39 => ⟨S1x8192x4, .f32⟩
  | 40 => ⟨S1x8192x4, .f32⟩
  | 41 => ⟨S1x8192x4, .f32⟩
  | 42 => ⟨S1x1x8192x4, .f32⟩
  | 43 => ⟨S3x1x8192x4, .f32⟩
  | 44 => ⟨S3x1x8192x4, .f32⟩
  | 45 => ⟨S3x1x8192x4, .f32⟩
  | 46 => ⟨S_, .f32⟩
  | 47 => ⟨S1x8192x4, .f32⟩
  | 48 => ⟨S1x1x8192x4, .f32⟩
  | 49 => ⟨S3x1x8192x4, .f32⟩
  | 50 => ⟨S3x1x8192x4, .f32⟩
  | 51 => ⟨S1x1x8192x4, .f32⟩
  | 52 => ⟨S_, .f32⟩
  | 53 => ⟨S1x1x8192x4, .f32⟩
  | 54 => ⟨S1x1x8192x4, .f32⟩
  | 55 => ⟨S1x1x8192x4, .f32⟩
  | 56 => ⟨S1x8192x4, .f32⟩
  | 57 => ⟨S1x8192x4x1, .f32⟩
  | 58 => ⟨S1x8192x4x64, .f32⟩
  | 59 => ⟨S1x8192x4x64, .f32⟩
  | 60 => ⟨S1x1x8192x4, .f32⟩
  | 61 => ⟨S1x8192x4, .f32⟩
  | 62 => ⟨S1x8192x4x1, .f32⟩
  | 63 => ⟨S1x8192x4x64, .f32⟩
  | 64 => ⟨S1x8192x4x64, .f32⟩
  | 65 => ⟨S1x1x8192x4, .f32⟩
  | 66 => ⟨S1x8192x4, .f32⟩
  | 67 => ⟨S1x8192x4x1, .f32⟩
  | 68 => ⟨S1x8192x4x64, .f32⟩
  | 69 => ⟨S1x8192x4x64, .f32⟩
  | 70 => ⟨S1x8192x12x64, .f32⟩
  | 71 => ⟨S1x8192x768, .f32⟩
  | 72 => ⟨S1x8192x1024, .f32⟩
  | 73 => ⟨S1024x1024, .f32⟩
  | 74 => ⟨S1x8192x1024, .f32⟩
  | 75 => ⟨S1x8192x1024, .f32⟩
  | 76 => ⟨S1024, .f32⟩
  | 77 => ⟨S1x8192x1024, .f32⟩
  | 78 => ⟨S_, .f32⟩
  | 79 => ⟨S1x8192, .f32⟩
  | 80 => ⟨S1x8192x1, .f32⟩
  | 81 => ⟨S_, .f32⟩
  | 82 => ⟨S1x8192x1, .f32⟩
  | 83 => ⟨S1x8192x1, .f32⟩
  | 84 => ⟨S_, .f32⟩
  | 85 => ⟨S1x8192x1, .f32⟩
  | 86 => ⟨S1x8192x1, .f32⟩
  | 87 => ⟨S1x8192x1, .f32⟩
  | 88 => ⟨S1x8192x1, .f32⟩
  | 89 => ⟨S_, .f32⟩
  | 90 => ⟨S1x8192x1, .f32⟩
  | 91 => ⟨S1x8192x1, .f32⟩
  | 92 => ⟨S1x8192x1024, .f32⟩
  | 93 => ⟨S1x8192x1024, .f32⟩
  | 94 => ⟨S1x1x1024, .f32⟩
  | 95 => ⟨S1x8192x1024, .f32⟩
  | 96 => ⟨S1x8192x1024, .f32⟩
  | 97 => ⟨S1x8192x1024, .f32⟩
  | 98 => ⟨S1x8192x1024, .f32⟩
  | 99 => ⟨S_, .f32⟩
  | 100 => ⟨S1x1024, .f32⟩
  | 101 => ⟨S1x1x1024, .f32⟩
  | 102 => ⟨S1x8192x1024, .f32⟩
  | 103 => ⟨S1x8192x1024, .f32⟩
  | 104 => ⟨S_, .f32⟩
  | 105 => ⟨S1024, .f32⟩
  | 106 => ⟨S1x8192x1024, .f32⟩
  | 107 => ⟨S_, .f32⟩
  | 108 => ⟨S1x8192, .f32⟩
  | 109 => ⟨S1x8192x1, .f32⟩
  | 110 => ⟨S1x8192x1024, .f32⟩
  | 111 => ⟨S1x8192x1024, .f32⟩
  | 112 => ⟨S1x8192x1, .f32⟩
  | 113 => ⟨S_, .f32⟩
  | 114 => ⟨S1x8192x1, .f32⟩
  | 115 => ⟨S1x8192x1, .f32⟩
  | 116 => ⟨S_, .f32⟩
  | 117 => ⟨S8192, .f32⟩
  | 118 => ⟨S1x8192, .f32⟩
  | 119 => ⟨S1x8192x1024, .f32⟩
  | 120 => ⟨S1x8192x1024, .f32⟩
  | 121 => ⟨S1x8192x1024, .f32⟩
  | 122 => ⟨S1x8192x1024, .f32⟩
  | 123 => ⟨S1x8192x1024, .f32⟩
  | 124 => ⟨S1x1024, .f32⟩
  | 125 => ⟨S1x8192x1024, .f32⟩
  | 126 => ⟨S1x8192x256, .f32⟩
  | 127 => ⟨S1x8192x768, .f32⟩
  | _ => ⟨S1x8192x256, .f32⟩

abbrev hbmTy0_1 (i : Nat) : BufTy := match i % 128 with
  | 0 => ⟨S1x8192x12x64, .f32⟩
  | 1 => ⟨S1x8192x4x64, .f32⟩
  | 2 => ⟨S1x8192x4x64, .f32⟩
  | 3 => ⟨S1x8192x4x64, .f32⟩
  | 4 => ⟨S1x8192x4x64, .f32⟩
  | 5 => ⟨S_, .f32⟩
  | 6 => ⟨S1x8192x4, .f32⟩
  | 7 => ⟨S1x8192x4x1, .f32⟩
  | 8 => ⟨S1x8192x4x64, .f32⟩
  | 9 => ⟨S1x8192x4x64, .f32⟩
  | 10 => ⟨S_, .f32⟩
  | 11 => ⟨S8192x4, .f32⟩
  | 12 => ⟨S1x8192x4, .f32⟩
  | 13 => ⟨S1x1x8192x4, .f32⟩
  | 14 => ⟨S_, .f32⟩
  | 15 => ⟨S3x1x8192x4, .f32⟩
  | 16 => ⟨S1x8192x4x64, .f32⟩
  | 17 => ⟨S_, .f32⟩
  | 18 => ⟨S1x8192x4, .f32⟩
  | 19 => ⟨S1x8192x4x1, .f32⟩
  | 20 => ⟨S1x8192x4x64, .f32⟩
  | 21 => ⟨S1x8192x4x64, .f32⟩
  | 22 => ⟨S_, .f32⟩
  | 23 => ⟨S8192x4, .f32⟩
  | 24 => ⟨S1x8192x4, .f32⟩
  | 25 => ⟨S1x1x8192x4, .f32⟩
  | 26 => ⟨S_, .f32⟩
  | 27 => ⟨S3x1x8192x4, .f32⟩
  | 28 => ⟨S3x1x8192x4, .f32⟩
  | 29 => ⟨S1x8192x4x64, .f32⟩
  | 30 => ⟨S_, .f32⟩
  | 31 => ⟨S1x8192x4, .f32⟩
  | 32 => ⟨S1x8192x4x1, .f32⟩
  | 33 => ⟨S1x8192x4x64, .f32⟩
  | 34 => ⟨S1x8192x4x64, .f32⟩
  | 35 => ⟨S_, .f32⟩
  | 36 => ⟨S8192x4, .f32⟩
  | 37 => ⟨S1x8192x4, .f32⟩
  | 38 => ⟨S1x1x8192x4, .f32⟩
  | 39 => ⟨S_, .f32⟩
  | 40 => ⟨S3x1x8192x4, .f32⟩
  | 41 => ⟨S3x1x8192x4, .f32⟩
  | 42 => ⟨S3x1x8192x4, .f32⟩
  | 43 => ⟨S3x1x8192x4, .f32⟩
  | 44 => ⟨S3x1x8192x4, .f32⟩
  | 45 => ⟨S_, .f32⟩
  | 46 => ⟨S1x8192x4, .f32⟩
  | 47 => ⟨S1x1x8192x4, .f32⟩
  | 48 => ⟨S1x1x8192x4, .f32⟩
  | 49 => ⟨S3x1x8192x4, .f32⟩
  | 50 => ⟨S3x1x8192x4, .f32⟩
  | 51 => ⟨S_, .f32⟩
  | 52 => ⟨S8192x4, .f32⟩
  | 53 => ⟨S1x8192x4, .f32⟩
  | 54 => ⟨S3x1x8192x4, .f32⟩
  | 55 => ⟨S3x1x8192x4, .f32⟩
  | 56 => ⟨S3x1x8192x4, .f32⟩
  | 57 => ⟨S1x1x8192x4, .f32⟩
  | 58 => ⟨S1x8192x4, .f32⟩
  | 59 => ⟨S1x1x8192x4, .f32⟩
  | 60 => ⟨S1x8192x4, .f32⟩
  | 61 => ⟨S1x1x8192x4, .f32⟩
  | 62 => ⟨S1x8192x4, .f32⟩
  | 63 => ⟨S8192x1024, .f32⟩
  | 64 => ⟨S8192x1024, .f32⟩
  | 65 => ⟨S8192x256, .f32⟩
  | 66 => ⟨S8192x1024, .f32⟩
  | 67 => ⟨S8192x256, .f32⟩
  | 68 => ⟨S8192x256, .f32⟩
  | 69 => ⟨S8192x256, .f32⟩
  | 70 => ⟨S1x8192x4x64, .f32⟩
  | 71 => ⟨S_, .f32⟩
  | 72 => ⟨S1x8192x4, .f32⟩
  | 73 => ⟨S1x8192x4, .f32⟩
  | 74 => ⟨S1x8192x4x1, .f32⟩
  | 75 => ⟨S1x8192x4x64, .f32⟩
  | 76 => ⟨S8192x256, .f32⟩
  | 77 => ⟨S1x8192x4x64, .f32⟩
  | 78 => ⟨S_, .f32⟩
  | 79 => ⟨S1x8192x4, .f32⟩
  | 80 => ⟨S1x8192x4, .f32⟩
  | 81 => ⟨S1x8192x4x1, .f32⟩
  | 82 => ⟨S1x8192x4x64, .f32⟩
  | 83 => ⟨S8192x256, .f32⟩
  | 84 => ⟨S1x8192x4x64, .f32⟩
  | 85 => ⟨S_, .f32⟩
  | 86 => ⟨S1x8192x4, .f32⟩
  | 87 => ⟨S1x8192x4, .f32⟩
  | 88 => ⟨S1x8192x4x1, .f32⟩
  | 89 => ⟨S1x8192x4x64, .f32⟩
  | 90 => ⟨S8192x256, .f32⟩
  | _ => ⟨S1x8192x256, .f32⟩

abbrev hbmTy (i : Nat) : BufTy := match i / 128 with
  | 0 => hbmTy0_0 i
  | 1 => hbmTy0_1 i
  | _ => ⟨S1x8192x256, .f32⟩

abbrev bufTy : (tb : Table) → Fin (tcTables nBuf tb) → BufTy
  | .hbm, ⟨i, _⟩ => hbmTy i
  | _, _ => ⟨S1x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_cst_6 : Ref sig .tc := ⟨.hbm, 36, rfl⟩
abbrev main_v18 : Ref sig .tc := ⟨.hbm, 37, rfl⟩
abbrev main_cst_7 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_8 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_9 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_15 : Ref sig .tc := ⟨.hbm, 104, rfl⟩
abbrev main_v77 : Ref sig .tc := ⟨.hbm, 105, rfl⟩
abbrev main_v78 : Ref sig .tc := ⟨.hbm, 106, rfl⟩
abbrev main_cst_16 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_17 : Ref sig .tc := ⟨.hbm, 113, rfl⟩
abbrev main_v84 : Ref sig .tc := ⟨.hbm, 114, rfl⟩
abbrev main_v85 : Ref sig .tc := ⟨.hbm, 115, rfl⟩
abbrev main_cst_18 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_19 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_20 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_21 : Ref sig .tc := ⟨.hbm, 142, rfl⟩
abbrev main_v109 : Ref sig .tc := ⟨.hbm, 143, rfl⟩
abbrev main_v110 : Ref sig .tc := ⟨.hbm, 144, rfl⟩
abbrev main_cst_22 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_23 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_cst_24 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_25 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_26 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_27 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_28 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_cst_29 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_cst_30 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_cst_31 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_cst_32 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩

abbrev nD : Nat := 1
abbrev τ : Topo := Topo.v7x

variable {F : FTy → Type} [FloatOps F]
-- ==== Pool.lean ====
abbrev S1x8192x256 : Shape := ⟨3, ![1, 8192, 256]⟩
abbrev S1x4x64x64 : Shape := ⟨4, ![1, 4, 64, 64]⟩
abbrev S1x256 : Shape := ⟨2, ![1, 256]⟩
abbrev S4x64x64 : Shape := ⟨3, ![4, 64, 64]⟩
abbrev S4x4 : Shape := ⟨2, ![4, 4]⟩
abbrev S_ : Shape := ⟨0, ![]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S8192x256 : Shape := ⟨2, ![8192, 256]⟩
abbrev S8208x256 : Shape := ⟨2, ![8208, 256]⟩
abbrev S8x256 : Shape := ⟨2, ![8, 256]⟩
abbrev S528x256 : Shape := ⟨2, ![528, 256]⟩
abbrev S512x256 : Shape := ⟨2, ![512, 256]⟩
abbrev S256 : Shape := ⟨1, ![256]⟩
abbrev S64x64 : Shape := ⟨2, ![64, 64]⟩
abbrev S1x64x64 : Shape := ⟨3, ![1, 64, 64]⟩

abbrev nBuf : Space → Nat
  | .hbm => 37
  | .vmem => 14
  | .smem => 0
  | _ => 0

abbrev bufTy : (tb : Table) → Fin (tcTables nBuf tb) → BufTy
  | .hbm, ⟨0, _⟩ => ⟨S1x8192x256, .f32⟩
  | .hbm, ⟨1, _⟩ => ⟨S1x4x64x64, .f32⟩
  | .hbm, ⟨2, _⟩ => ⟨S1x256, .f32⟩
  | .hbm, ⟨3, _⟩ => ⟨S1x8192x256, .f32⟩
  | .hbm, ⟨4, _⟩ => ⟨S4x64x64, .f32⟩
  | .hbm, ⟨5, _⟩ => ⟨S4x4, .i32⟩
  | .hbm, ⟨6, _⟩ => ⟨S4x4, .i32⟩
  | .hbm, ⟨7, _⟩ => ⟨S_, .i32⟩
  | .hbm, ⟨8, _⟩ => ⟨S4x4, .i32⟩
  | .hbm, ⟨9, _⟩ => ⟨S4x4, .i32⟩
  | .hbm, ⟨10, _⟩ => ⟨S4x4, .i1⟩
  | .hbm, ⟨11, _⟩ => ⟨S4x4, .f32⟩
  | .hbm, ⟨12, _⟩ => ⟨S4x1x4x1, .f32⟩
  | .hbm, ⟨13, _⟩ => ⟨S4x64x1x64, .f32⟩
  | .hbm, ⟨14, _⟩ => ⟨S4x64x4x64, .f32⟩
  | .hbm, ⟨15, _⟩ => ⟨S4x64x4x64, .f32⟩
  | .hbm, ⟨16, _⟩ => ⟨S4x64x4x64, .f32⟩
  | .hbm, ⟨17, _⟩ => ⟨S256x256, .f32⟩
  | .hbm, ⟨18, _⟩ => ⟨S256x256, .bf16⟩
  | .hbm, ⟨19, _⟩ => ⟨S8192x256, .f32⟩
  | .hbm, ⟨20, _⟩ => ⟨S8192x256, .bf16⟩
  | .hbm, ⟨21, _⟩ => ⟨S8192x256, .f32⟩
  | .hbm, ⟨22, _⟩ => ⟨S8192x256, .f32⟩
  | .hbm, ⟨23, _⟩ => ⟨S8192x256, .bf16⟩
  | .hbm, ⟨24, _⟩ => ⟨S256x256, .f32⟩
  | .hbm, ⟨25, _⟩ => ⟨S1x256, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S1x64x64, .f32⟩
  | .hbm, ⟨31, _⟩ => ⟨S1x64x64, .f32⟩
  | .hbm, ⟨32, _⟩ => ⟨S1x64x64, .f32⟩
  | .hbm, ⟨33, _⟩ => ⟨S1x64x64, .f32⟩
  | .hbm, ⟨34, _⟩ => ⟨S4x64x64, .f32⟩
  | .hbm, ⟨35, _⟩ => ⟨S8192x256, .f32⟩
  | .hbm, ⟨36, _⟩ => ⟨S8192x256, .f32⟩
  | .local _ .vmem, ⟨0, _⟩ => ⟨S8192x256, .f32⟩
  | .local _ .vmem, ⟨1, _⟩ => ⟨S256x256, .bf16⟩
  | .local _ .vmem, ⟨2, _⟩ => ⟨S1x256, .f32⟩
  | .local _ .vmem, ⟨3, _⟩ => ⟨S8192x256, .bf16⟩
  | .local _ .vmem, ⟨4, _⟩ => ⟨S8208x256, .f32⟩
  | .local _ .vmem, ⟨5, _⟩ => ⟨S8192x256, .f32⟩
  | .local _ .vmem, ⟨6, _⟩ => ⟨S8192x256, .f32⟩
  | .local _ .vmem, ⟨7, _⟩ => ⟨S256x256, .bf16⟩
  | .local _ .vmem, ⟨8, _⟩ => ⟨S1x256, .f32⟩
  | .local _ .vmem, ⟨9, _⟩ => ⟨S8192x256, .bf16⟩
  | .local _ .vmem, ⟨10, _⟩ => ⟨S256x256, .f32⟩
  | .local _ .vmem, ⟨11, _⟩ => ⟨S1x256, .f32⟩
  | .local _ .vmem, ⟨12, _⟩ => ⟨S8208x256, .f32⟩
  | .local _ .vmem, ⟨13, _⟩ => ⟨S8208x256, .f32⟩
  | _, _ => ⟨S1x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18_0 : Ref sig .tc := ⟨.hbm, 23, rfl⟩
abbrev main_v18_1 : Ref sig .tc := ⟨.hbm, 24, rfl⟩
abbrev main_v18_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_scratch0 : Ref sig .tc := ⟨.vmem, 12, rfl⟩
abbrev cc1_scratch1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v12 : BitVec 32 := Scalar.addi c0_i32 c16_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c512_i32 : BitVec 32 := 512#32
  let v13 : BitVec 32 := Scalar.muli arg5 c512_i32
  v13
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c512_i32 : BitVec 32 := 512#32
  let v13 : BitVec 32 := Scalar.muli arg5 c512_i32
  let v14 : BitVec 32 := v13
  let v15 : Index := Scalar.indexCast v14
  let c0_6 : Index := 0#32
  ![v15.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c512_i32 : BitVec 32 := 512#32
  let v13 : BitVec 32 := Scalar.muli arg5 c512_i32
  let v14 : BitVec 32 := v13
  let v125 : Index := Scalar.indexCast v14
  let c0_38 : Index := 0#32
  ![v125.toNat, 0]
abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![1], ![false]⟩

@[reducible] def k1_t1_loop : Scf.Loop 32 :=
  let c0_i32 : BitVec 32 := 0#32
  let c16_i32 : BitVec 32 := 16#32
  let v28 : BitVec 32 := Scalar.addi c0_i32 c16_i32
  let c1_i32 : BitVec 32 := 1#32
  ⟨c0_i32, v28, c1_i32⟩
def k1_mult1 (k1_t1 : Fin k1_t1_loop.trips) : BitVec 32 :=
  let c0_i32 : BitVec 32 := 0#32
  let c1_i32 : BitVec 32 := 1#32
  let arg10 : BitVec 32 := Scf.iv c0_i32 c1_i32 k1_t1
  let c512_i32 : BitVec 32 := 512#32
  let v29 : BitVec 32 := Scalar.muli arg10 c512_i32
  v29
def k1_off1 (k1_t1 : Fin k1_t1_loop.trips) : Fin 2 → Nat :=
  let c0_i32 : BitVec 32 := 0#32
  let c1_i32 : BitVec 32 := 1#32
  let arg10 : BitVec 32 := Scf.iv c0_i32 c1_i32 k1_t1
  let c512_i32 : BitVec 32 := 512#32
  let v29 : BitVec 32 := Scalar.muli arg10 c512_i32
  let v30 : BitVec 32 := v29
  let v31 : Index := Scalar.indexCast v30
  let c0_21 : Index := 0#32
  ![v31.toNat, 0]
def k1_off2 (k1_t1 : Fin k1_t1_loop.trips) : Fin 2 → Nat :=
  let c0_i32 : BitVec 32 := 0#32
  let c1_i32 : BitVec 32 := 1#32
  let arg10 : BitVec 32 := Scf.iv c0_i32 c1_i32 k1_t1
  let c512_i32 : BitVec 32 := 512#32
  let v29 : BitVec 32 := Scalar.muli arg10 c512_i32
  let v30 : BitVec 32 := v29
  let v261 : Index := Scalar.indexCast v30
  let c0_102 : Index := 0#32
  ![v261.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8192x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8192x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8192x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== PoolRefIdeal.lean ====
abbrev S1x8192x256 : Shape := ⟨3, ![1, 8192, 256]⟩
abbrev S1x4x64x64 : Shape := ⟨4, ![1, 4, 64, 64]⟩
abbrev S1x256 : Shape := ⟨2, ![1, 256]⟩
abbrev S4x64x64 : Shape := ⟨3, ![4, 64, 64]⟩
abbrev S256 : Shape := ⟨1, ![256]⟩
abbrev S1x8192x4x64 : Shape := ⟨4, ![1, 8192, 4, 64]⟩
abbrev S_ : Shape := ⟨0, ![]⟩
abbrev S1x1x4x64 : Shape := ⟨4, ![1, 1, 4, 64]⟩
abbrev S1x8193x4x64 : Shape := ⟨4, ![1, 8193, 4, 64]⟩
abbrev S8192 : Shape := ⟨1, ![8192]⟩
abbrev S1x8193x1x64 : Shape := ⟨4, ![1, 8193, 1, 64]⟩
abbrev S1x8193x64 : Shape := ⟨3, ![1, 8193, 64]⟩
abbrev S8192x1 : Shape := ⟨2, ![8192, 1]⟩
abbrev S1 : Shape := ⟨1, ![1]⟩
abbrev S1x1 : Shape := ⟨2, ![1, 1]⟩
abbrev S1x8192x64 : Shape := ⟨3, ![1, 8192, 64]⟩
abbrev S1x8192x1 : Shape := ⟨3, ![1, 8192, 1]⟩
abbrev S1x8192x1x64 : Shape := ⟨4, ![1, 8192, 1, 64]⟩
abbrev S4x64x1x8192 : Shape := ⟨4, ![4, 64, 1, 8192]⟩
abbrev S1x1x256 : Shape := ⟨3, ![1, 1, 256]⟩
abbrev S4x1x8192x64 : Shape := ⟨4, ![4, 1, 8192, 64]⟩
abbrev S8192x256 : Shape := ⟨2, ![8192, 256]⟩

abbrev nBuf : Space → Nat
  | .hbm => 463
  | .vmem => 0
  | .smem => 0
  | _ => 0

abbrev hbmTy0_0 (i : Nat) : BufTy := match i % 128 with
  | 0 => ⟨S1x8192x256, .f32⟩
  | 1 => ⟨S1x4x64x64, .f32⟩
  | 2 => ⟨S1x256, .f32⟩
  | 3 => ⟨S1x8192x256, .f32⟩
  | 4 => ⟨S4x64x64, .f32⟩
  | 5 => ⟨S256, .f32⟩
  | 6 => ⟨S1x8192x4x64, .f32⟩
  | 7 => ⟨S_, .f32⟩
  | 8 => ⟨S1x1x4x64, .f32⟩
  | 9 => ⟨S_, .f32⟩
  | 10 => ⟨S_, .f32⟩
  | 11 => ⟨S1x8192x4x64, .f32⟩
  | 12 => ⟨S1x8193x4x64, .f32⟩
  | 13 => ⟨S_, .f32⟩
  | 14 => ⟨S1x1x4x64, .f32⟩
  | 15 => ⟨S8192, .i32⟩
  | 16 => ⟨S_, .i32⟩
  | 17 => ⟨S8192, .i32⟩
  | 18 => ⟨S8192, .i32⟩
  | 19 => ⟨S_, .i32⟩
  | 20 => ⟨S_, .i32⟩
  | 21 => ⟨S_, .i32⟩
  | 22 => ⟨S8192, .i32⟩
  | 23 => ⟨S8192, .i32⟩
  | 24 => ⟨S_, .i32⟩
  | 25 => ⟨S8192, .i32⟩
  | 26 => ⟨S8192, .i32⟩
  | 27 => ⟨S_, .i32⟩
  | 28 => ⟨S8192, .i32⟩
  | 29 => ⟨S8192, .i32⟩
  | 30 => ⟨S_, .i32⟩
  | 31 => ⟨S8192, .i32⟩
  | 32 => ⟨S8192, .i32⟩
  | 33 => ⟨S_, .i32⟩
  | 34 => ⟨S_, .i32⟩
  | 35 => ⟨S_, .i32⟩
  | 36 => ⟨S8192, .i32⟩
  | 37 => ⟨S8192, .i32⟩
  | 38 => ⟨S_, .i32⟩
  | 39 => ⟨S8192, .i32⟩
  | 40 => ⟨S8192, .i32⟩
  | 41 => ⟨S1x8193x1x64, .f32⟩
  | 42 => ⟨S1x8193x64, .f32⟩
  | 43 => ⟨S_, .i32⟩
  | 44 => ⟨S8192, .i32⟩
  | 45 => ⟨S8192, .i1⟩
  | 46 => ⟨S_, .i32⟩
  | 47 => ⟨S8192, .i32⟩
  | 48 => ⟨S8192, .i32⟩
  | 49 => ⟨S8192, .i32⟩
  | 50 => ⟨S8192x1, .i32⟩
  | 51 => ⟨S1, .i32⟩
  | 52 => ⟨S_, .i32⟩
  | 53 => ⟨S8192x1, .i32⟩
  | 54 => ⟨S8192x1, .i1⟩
  | 55 => ⟨S1x1, .i32⟩
  | 56 => ⟨S8192x1, .i32⟩
  | 57 => ⟨S8192x1, .i1⟩
  | 58 => ⟨S8192x1, .i1⟩
  | 59 => ⟨S_, .i1⟩
  | 60 => ⟨S8192, .i1⟩
  | 61 => ⟨S1x8192x64, .f32⟩
  | 62 => ⟨S1x8192x64, .i1⟩
  | 63 => ⟨S_, .f32⟩
  | 64 => ⟨S1x8192x64, .f32⟩
  | 65 => ⟨S1x8192x64, .f32⟩
  | 66 => ⟨S_, .i32⟩
  | 67 => ⟨S8192, .i32⟩
  | 68 => ⟨S8192, .i1⟩
  | 69 => ⟨S_, .i32⟩
  | 70 => ⟨S8192, .i32⟩
  | 71 => ⟨S8192, .i32⟩
  | 72 => ⟨S8192, .i32⟩
  | 73 => ⟨S8192x1, .i32⟩
  | 74 => ⟨S1, .i32⟩
  | 75 => ⟨S_, .i32⟩
  | 76 => ⟨S8192x1, .i32⟩
  | 77 => ⟨S8192x1, .i1⟩
  | 78 => ⟨S1x1, .i32⟩
  | 79 => ⟨S8192x1, .i32⟩
  | 80 => ⟨S8192x1, .i1⟩
  | 81 => ⟨S8192x1, .i1⟩
  | 82 => ⟨S_, .i1⟩
  | 83 => ⟨S8192, .i1⟩
  | 84 => ⟨S1x8192x64, .f32⟩
  | 85 => ⟨S1x8192x64, .i1⟩
  | 86 => ⟨S_, .f32⟩
  | 87 => ⟨S1x8192x64, .f32⟩
  | 88 => ⟨S1x8192x64, .f32⟩
  | 89 => ⟨S1x8192x64, .f32⟩
  | 90 => ⟨S8192, .i32⟩
  | 91 => ⟨S8192, .f32⟩
  | 92 => ⟨S1x8192x1, .f32⟩
  | 93 => ⟨S1x8192x64, .f32⟩
  | 94 => ⟨S1x8192x64, .f32⟩
  | 95 => ⟨S1x8192x1x64, .f32⟩
  | 96 => ⟨S1x8192x64, .f32⟩
  | 97 => ⟨S1x8192x64, .f32⟩
  | 98 => ⟨S_, .i32⟩
  | 99 => ⟨S8192, .i32⟩
  | 100 => ⟨S8192, .i32⟩
  | 101 => ⟨S_, .i32⟩
  | 102 => ⟨S_, .i32⟩
  | 103 => ⟨S_, .i32⟩
  | 104 => ⟨S8192, .i32⟩
  | 105 => ⟨S8192, .i32⟩
  | 106 => ⟨S_, .i32⟩
  | 107 => ⟨S8192, .i32⟩
  | 108 => ⟨S8192, .i32⟩
  | 109 => ⟨S_, .i32⟩
  | 110 => ⟨S8192, .i32⟩
  | 111 => ⟨S8192, .i32⟩
  | 112 => ⟨S_, .i32⟩
  | 113 => ⟨S8192, .i32⟩
  | 114 => ⟨S8192, .i32⟩
  | 115 => ⟨S_, .i32⟩
  | 116 => ⟨S_, .i32⟩
  | 117 => ⟨S_, .i32⟩
  | 118 => ⟨S8192, .i32⟩
  | 119 => ⟨S8192, .i32⟩
  | 120 => ⟨S_, .i32⟩
  | 121 => ⟨S8192, .i32⟩
  | 122 => ⟨S8192, .i32⟩
  | 123 => ⟨S1x8193x1x64, .f32⟩
  | 124 => ⟨S1x8193x64, .f32⟩
  | 125 => ⟨S_, .i32⟩
  | 126 => ⟨S8192, .i32⟩
  | 127 => ⟨S8192, .i1⟩
  | _ => ⟨S1x8192x256, .f32⟩

abbrev hbmTy0_1 (i : Nat) : BufTy := match i % 128 with
  | 0 => ⟨S_, .i32⟩
  | 1 => ⟨S8192, .i32⟩
  | 2 => ⟨S8192, .i32⟩
  | 3 => ⟨S8192, .i32⟩
  | 4 => ⟨S8192x1, .i32⟩
  | 5 => ⟨S1, .i32⟩
  | 6 => ⟨S_, .i32⟩
  | 7 => ⟨S8192x1, .i32⟩
  | 8 => ⟨S8192x1, .i1⟩
  | 9 => ⟨S1x1, .i32⟩
  | 10 => ⟨S8192x1, .i32⟩
  | 11 => ⟨S8192x1, .i1⟩
  | 12 => ⟨S8192x1, .i1⟩
  | 13 => ⟨S_, .i1⟩
  | 14 => ⟨S8192, .i1⟩
  | 15 => ⟨S1x8192x64, .f32⟩
  | 16 => ⟨S1x8192x64, .i1⟩
  | 17 => ⟨S_, .f32⟩
  | 18 => ⟨S1x8192x64, .f32⟩
  | 19 => ⟨S1x8192x64, .f32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S1, .i32⟩
  | 29 => ⟨S_, .i32⟩
  | 30 => ⟨S8192x1, .i32⟩
  | 31 => ⟨S8192x1, .i1⟩
  | 32 => ⟨S1x1, .i32⟩
  | 33 => ⟨S8192x1, .i32⟩
  | 34 => ⟨S8192x1, .i1⟩
  | 35 => ⟨S8192x1, .i1⟩
  | 36 => ⟨S_, .i1⟩
  | 37 => ⟨S8192, .i1⟩
  | 38 => ⟨S1x8192x64, .f32⟩
  | 39 => ⟨S1x8192x64, .i1⟩
  | 40 => ⟨S_, .f32⟩
  | 41 => ⟨S1x8192x64, .f32⟩
  | 42 => ⟨S1x8192x64, .f32⟩
  | 43 => ⟨S1x8192x64, .f32⟩
  | 44 => ⟨S8192, .i32⟩
  | 45 => ⟨S8192, .f32⟩
  | 46 => ⟨S1x8192x1, .f32⟩
  | 47 => ⟨S1x8192x64, .f32⟩
  | 48 => ⟨S1x8192x64, .f32⟩
  | 49 => ⟨S1x8192x1x64, .f32⟩
  | 50 => ⟨S1x8192x64, .f32⟩
  | 51 => ⟨S1x8192x64, .f32⟩
  | 52 => ⟨S_, .i32⟩
  | 53 => ⟨S8192, .i32⟩
  | 54 => ⟨S8192, .i32⟩
  | 55 => ⟨S_, .i32⟩
  | 56 => ⟨S_, .i32⟩
  | 57 => ⟨S_, .i32⟩
  | 58 => ⟨S8192, .i32⟩
  | 59 => ⟨S8192, .i32⟩
  | 60 => ⟨S_, .i32⟩
  | 61 => ⟨S8192, .i32⟩
  | 62 => ⟨S8192, .i32⟩
  | 63 => ⟨S_, .i32⟩
  | 64 => ⟨S8192, .i32⟩
  | 65 => ⟨S8192, .i32⟩
  | 66 => ⟨S_, .i32⟩
  | 67 => ⟨S8192, .i32⟩
  | 68 => ⟨S8192, .i32⟩
  | 69 => ⟨S_, .i32⟩
  | 70 => ⟨S_, .i32⟩
  | 71 => ⟨S_, .i32⟩
  | 72 => ⟨S8192, .i32⟩
  | 73 => ⟨S8192, .i32⟩
  | 74 => ⟨S_, .i32⟩
  | 75 => ⟨S8192, .i32⟩
  | 76 => ⟨S8192, .i32⟩
  | 77 => ⟨S1x8193x1x64, .f32⟩
  | 78 => ⟨S1x8193x64, .f32⟩
  | 79 => ⟨S_, .i32⟩
  | 80 => ⟨S8192, .i32⟩
  | 81 => ⟨S8192, .i1⟩
  | 82 => ⟨S_, .i32⟩
  | 83 => ⟨S8192, .i32⟩
  | 84 => ⟨S8192, .i32⟩
  | 85 => ⟨S8192, .i32⟩
  | 86 => ⟨S8192x1, .i32⟩
  | 87 => ⟨S1, .i32⟩
  | 88 => ⟨S_, .i32⟩
  | 89 => ⟨S8192x1, .i32⟩
  | 90 => ⟨S8192x1, .i1⟩
  | 91 => ⟨S1x1, .i32⟩
  | 92 => ⟨S8192x1, .i32⟩
  | 93 => ⟨S8192x1, .i1⟩
  | 94 => ⟨S8192x1, .i1⟩
  | 95 => ⟨S_, .i1⟩
  | 96 => ⟨S8192, .i1⟩
  | 97 => ⟨S1x8192x64, .f32⟩
  | 98 => ⟨S1x8192x64, .i1⟩
  | 99 => ⟨S_, .f32⟩
  | 100 => ⟨S1x8192x64, .f32⟩
  | 101 => ⟨S1x8192x64, .f32⟩
  | 102 => ⟨S_, .i32⟩
  | 103 => ⟨S8192, .i32⟩
  | 104 => ⟨S8192, .i1⟩
  | 105 => ⟨S_, .i32⟩
  | 106 => ⟨S8192, .i32⟩
  | 107 => ⟨S8192, .i32⟩
  | 108 => ⟨S8192, .i32⟩
  | 109 => ⟨S8192x1, .i32⟩
  | 110 => ⟨S1, .i32⟩
  | 111 => ⟨S_, .i32⟩
  | 112 => ⟨S8192x1, .i32⟩
  | 113 => ⟨S8192x1, .i1⟩
  | 114 => ⟨S1x1, .i32⟩
  | 115 => ⟨S8192x1, .i32⟩
  | 116 => ⟨S8192x1, .i1⟩
  | 117 => ⟨S8192x1, .i1⟩
  | 118 => ⟨S_, .i1⟩
  | 119 => ⟨S8192, .i1⟩
  | 120 => ⟨S1x8192x64, .f32⟩
  | 121 => ⟨S1x8192x64, .i1⟩
  | 122 => ⟨S_, .f32⟩
  | 123 => ⟨S1x8192x64, .f32⟩
  | 124 => ⟨S1x8192x64, .f32⟩
  | 125 => ⟨S1x8192x64, .f32⟩
  | 126 => ⟨S8192, .i32⟩
  | 127 => ⟨S8192, .f32⟩
  | _ => ⟨S1x8192x256, .f32⟩

abbrev hbmTy0_2 (i : Nat) : BufTy := match i % 128 with
  | 0 => ⟨S1x8192x1, .f32⟩
  | 1 => ⟨S1x8192x64, .f32⟩
  | 2 => ⟨S1x8192x64, .f32⟩
  | 3 => ⟨S1x8192x1x64, .f32⟩
  | 4 => ⟨S1x8192x64, .f32⟩
  | 5 => ⟨S1x8192x64, .f32⟩
  | 6 => ⟨S_, .i32⟩
  | 7 => ⟨S8192, .i32⟩
  | 8 => ⟨S8192, .i32⟩
  | 9 => ⟨S_, .i32⟩
  | 10 => ⟨S_, .i32⟩
  | 11 => ⟨S_, .i32⟩
  | 12 => ⟨S8192, .i32⟩
  | 13 => ⟨S8192, .i32⟩
  | 14 => ⟨S_, .i32⟩
  | 15 => ⟨S8192, .i32⟩
  | 16 => ⟨S8192, .i32⟩
  | 17 => ⟨S_, .i32⟩
  | 18 => ⟨S8192, .i32⟩
  | 19 => ⟨S8192, .i32⟩
  | 20 => ⟨S_, .i32⟩
  | 21 => ⟨S8192, .i32⟩
  | 22 => ⟨S8192, .i32⟩
  | 23 => ⟨S_, .i32⟩
  | 24 => ⟨S_, .i32⟩
  | 25 => ⟨S_, .i32⟩
  | 26 => ⟨S8192, .i32⟩
  | 27 => ⟨S8192, .i32⟩
  | 28 => ⟨S_, .i32⟩
  | 29 => ⟨S8192, .i32⟩
  | 30 => ⟨S8192, .i32⟩
  | 31 => ⟨S1x8193x1x64, .f32⟩
  | 32 => ⟨S1x8193x64, .f32⟩
  | 33 => ⟨S_, .i32⟩
  | 34 => ⟨S8192, .i32⟩
  | 35 => ⟨S8192, .i1⟩
  | 36 => ⟨S_, .i32⟩
  | 37 => ⟨S8192, .i32⟩
  | 38 => ⟨S8192, .i32⟩
  | 39 => ⟨S8192, .i32⟩
  | 40 => ⟨S8192x1, .i32⟩
  | 41 => ⟨S1, .i32⟩
  | 42 => ⟨S_, .i32⟩
  | 43 => ⟨S8192x1, .i32⟩
  | 44 => ⟨S8192x1, .i1⟩
  | 45 => ⟨S1x1, .i32⟩
  | 46 => ⟨S8192x1, .i32⟩
  | 47 => ⟨S8192x1, .i1⟩
  | 48 => ⟨S8192x1, .i1⟩
  | 49 => ⟨S_, .i1⟩
  | 50 => ⟨S8192, .i1⟩
  | 51 => ⟨S1x8192x64, .f32⟩
  | 52 => ⟨S1x8192x64, .i1⟩
  | 53 => ⟨S_, .f32⟩
  | 54 => ⟨S1x8192x64, .f32⟩
  | 55 => ⟨S1x8192x64, .f32⟩
  | 56 => ⟨S_, .i32⟩
  | 57 => ⟨S8192, .i32⟩
  | 58 => ⟨S8192, .i1⟩
  | 59 => ⟨S_, .i32⟩
  | 60 => ⟨S8192, .i32⟩
  | 61 => ⟨S8192, .i32⟩
  | 62 => ⟨S8192, .i32⟩
  | 63 => ⟨S8192x1, .i32⟩
  | 64 => ⟨S1, .i32⟩
  | 65 => ⟨S_, .i32⟩
  | 66 => ⟨S8192x1, .i32⟩
  | 67 => ⟨S8192x1, .i1⟩
  | 68 => ⟨S1x1, .i32⟩
  | 69 => ⟨S8192x1, .i32⟩
  | 70 => ⟨S8192x1, .i1⟩
  | 71 => ⟨S8192x1, .i1⟩
  | 72 => ⟨S_, .i1⟩
  | 73 => ⟨S8192, .i1⟩
  | 74 => ⟨S1x8192x64, .f32⟩
  | 75 => ⟨S1x8192x64, .i1⟩
  | 76 => ⟨S_, .f32⟩
  | 77 => ⟨S1x8192x64, .f32⟩
  | 78 => ⟨S1x8192x64, .f32⟩
  | 79 => ⟨S1x8192x64, .f32⟩
  | 80 => ⟨S8192, .i32⟩
  | 81 => ⟨S8192, .f32⟩
  | 82 => ⟨S1x8192x1, .f32⟩
  | 83 => ⟨S1x8192x64, .f32⟩
  | 84 => ⟨S1x8192x64, .f32⟩
  | 85 => ⟨S1x8192x1x64, .f32⟩
  | 86 => ⟨S1x8192x64, .f32⟩
  | 87 => ⟨S1x8192x64, .f32⟩
  | 88 => ⟨S1x8192x1x64, .f32⟩
  | 89 => ⟨S1x8192x1x64, .f32⟩
  | 90 => ⟨S1x8192x1x64, .f32⟩
  | 91 => ⟨S1x8192x1x64, .f32⟩
  | 92 => ⟨S1x8192x4x64, .f32⟩
  | 93 => ⟨S4x64x1x8192, .f32⟩
  | 94 => ⟨S1x8192x4x64, .f32⟩
  | 95 => ⟨S1x8192x256, .f32⟩
  | 96 => ⟨S1x1x256, .f32⟩
  | 97 => ⟨S1x8192x256, .f32⟩
  | 98 => ⟨S1x8192x256, .f32⟩
  | 99 => ⟨S1x8192x256, .f32⟩
  | 100 => ⟨S_, .f32⟩
  | 101 => ⟨S1x256, .f32⟩
  | 102 => ⟨S1x1x256, .f32⟩
  | 103 => ⟨S1x8192x256, .f32⟩
  | 104 => ⟨S1x8192x256, .f32⟩
  | 105 => ⟨S_, .f32⟩
  | 106 => ⟨S256, .f32⟩
  | 107 => ⟨S1x8192x4x64, .f32⟩
  | 108 => ⟨S4x64x1x8192, .f32⟩
  | 109 => ⟨S4x1x8192x64, .f32⟩
  | 110 => ⟨S1x8192x4x64, .f32⟩
  | 111 => ⟨S4x64x64, .f32⟩
  | 112 => ⟨S4x64x64, .f32⟩
  | 113 => ⟨S1x8192x1x64, .f32⟩
  | 114 => ⟨S1x8192x64, .f32⟩
  | 115 => ⟨S1x8192x1x64, .f32⟩
  | 116 => ⟨S1x8192x64, .f32⟩
  | 117 => ⟨S1x8192x1x64, .f32⟩
  | 118 => ⟨S1x8192x64, .f32⟩
  | 119 => ⟨S1x8192x1x64, .f32⟩
  | 120 => ⟨S1x8192x64, .f32⟩
  | 121 => ⟨S1x8192x64, .f32⟩
  | 122 => ⟨S1x8192x1x64, .f32⟩
  | 123 => ⟨S_, .f32⟩
  | 124 => ⟨S1x8192x4x64, .f32⟩
  | 125 => ⟨S1x8192x64, .f32⟩
  | 126 => ⟨S1x8192x64, .f32⟩
  | 127 => ⟨S1x8192x64, .f32⟩
  | _ => ⟨S1x8192x256, .f32⟩

abbrev hbmTy0_3 (i : Nat) : BufTy := match i % 128 with
  | 0 => ⟨S_, .f32⟩
  | 1 => ⟨S1x8193x64, .f32⟩
  | 2 => ⟨S1x8193x64, .f32⟩
  | 3 => ⟨S_, .f32⟩
  | 4 => ⟨S1x8193x64, .f32⟩
  | 5 => ⟨S1x8193x64, .f32⟩
  | 6 => ⟨S1x8193x64, .f32⟩
  | 7 => ⟨S1x8193x1x64, .f32⟩
  | 8 => ⟨S_, .f32⟩
  | 9 => ⟨S1x8193x4x64, .f32⟩
  | 10 => ⟨S1x8192x64, .f32⟩
  | 11 => ⟨S1x8192x1x64, .f32⟩
  | 12 => ⟨S_, .f32⟩
  | 13 => ⟨S1x8192x4x64, .f32⟩
  | 14 => ⟨S1x8192x4x64, .f32⟩
  | 15 => ⟨S1x8192x64, .f32⟩
  | 16 => ⟨S1x8192x64, .f32⟩
  | 17 => ⟨S1x8192x64, .f32⟩
  | 18 => ⟨S_, .f32⟩
  | 19 => ⟨S1x8193x64, .f32⟩
  | 20 => ⟨S1x8193x64, .f32⟩
  | 21 => ⟨S_, .f32⟩
  | 22 => ⟨S1x8193x64, .f32⟩
  | 23 => ⟨S1x8193x64, .f32⟩
  | 24 => ⟨S1x8193x64, .f32⟩
  | 25 => ⟨S1x8193x1x64, .f32⟩
  | 26 => ⟨S_, .f32⟩
  | 27 => ⟨S1x8193x4x64, .f32⟩
  | 28 => ⟨S1x8193x4x64, .f32⟩
  | 29 => ⟨S1x8192x64, .f32⟩
  | 30 => ⟨S1x8192x1x64, .f32⟩
  | 31 => ⟨S_, .f32⟩
  | 32 => ⟨S1x8192x4x64, .f32⟩
  | 33 => ⟨S1x8192x4x64, .f32⟩
  | 34 => ⟨S1x8192x64, .f32⟩
  | 35 => ⟨S1x8192x64, .f32⟩
  | 36 => ⟨S1x8192x64, .f32⟩
  | 37 => ⟨S_, .f32⟩
  | 38 => ⟨S1x8193x64, .f32⟩
  | 39 => ⟨S1x8193x64, .f32⟩
  | 40 => ⟨S_, .f32⟩
  | 41 => ⟨S1x8193x64, .f32⟩
  | 42 => ⟨S1x8193x64, .f32⟩
  | 43 => ⟨S1x8193x64, .f32⟩
  | 44 => ⟨S1x8193x1x64, .f32⟩
  | 45 => ⟨S_, .f32⟩
  | 46 => ⟨S1x8193x4x64, .f32⟩
  | 47 => ⟨S1x8193x4x64, .f32⟩
  | 48 => ⟨S1x8192x64, .f32⟩
  | 49 => ⟨S1x8192x1x64, .f32⟩
  | 50 => ⟨S_, .f32⟩
  | 51 => ⟨S1x8192x4x64, .f32⟩
  | 52 => ⟨S1x8192x4x64, .f32⟩
  | 53 => ⟨S1x8192x64, .f32⟩
  | 54 => ⟨S1x8192x64, .f32⟩
  | 55 => ⟨S1x8192x64, .f32⟩
  | 56 => ⟨S_, .f32⟩
  | 57 => ⟨S1x8193x64, .f32⟩
  | 58 => ⟨S1x8193x64, .f32⟩
  | 59 => ⟨S_, .f32⟩
  | 60 => ⟨S1x8193x64, .f32⟩
  | 61 => ⟨S1x8193x64, .f32⟩
  | 62 => ⟨S1x8193x64, .f32⟩
  | 63 => ⟨S1x8193x1x64, .f32⟩
  | 64 => ⟨S_, .f32⟩
  | 65 => ⟨S1x8193x4x64, .f32⟩
  | 66 => ⟨S1x8193x4x64, .f32⟩
  | 67 => ⟨S1x1x4x64, .f32⟩
  | 68 => ⟨S1x8192x4x64, .f32⟩
  | 69 => ⟨S_, .f32⟩
  | 70 => ⟨S_, .f32⟩
  | 71 => ⟨S1x8192x4x64, .f32⟩
  | 72 => ⟨S1x8192x4x64, .f32⟩
  | 73 => ⟨S1x8192x256, .f32⟩
  | 74 => ⟨S1x256, .f32⟩
  | 75 => ⟨S1x4x64x64, .f32⟩
  | 76 => ⟨S8192x256, .f32⟩
  | 77 => ⟨S8192x256, .f32⟩
  | 78 => ⟨S4x64x64, .f32⟩
  | _ => ⟨S1x8192x256, .f32⟩

abbrev hbmTy (i : Nat) : BufTy := match i / 128 with
  | 0 => hbmTy0_0 i
  | 1 => hbmTy0_1 i
  | 2 => hbmTy0_2 i
  | 3 => hbmTy0_3 i
  | _ => ⟨S1x8192x256, .f32⟩

abbrev bufTy : (tb : Table) → Fin (tcTables nBuf tb) → BufTy
  | .hbm, ⟨i, _⟩ => hbmTy i
  | _, _ => ⟨S1x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v10 : Ref sig .tc := ⟨.hbm, 26, rfl⟩
abbrev main_c_3 : Ref sig .tc := ⟨.hbm, 27, rfl⟩
abbrev main_v11 : Ref sig .tc := ⟨.hbm, 28, rfl⟩
abbrev main_v12 : Ref sig .tc := ⟨.hbm, 29, rfl⟩
abbrev main_c_4 : Ref sig .tc := ⟨.hbm, 30, rfl⟩
abbrev main_v13 : Ref sig .tc := ⟨.hbm, 31, rfl⟩
abbrev main_v14 : Ref sig .tc := ⟨.hbm, 32, rfl⟩
abbrev main_c_5 : Ref sig .tc := ⟨.hbm, 33, rfl⟩
abbrev main_c_6 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_call3_c : Ref sig .tc := ⟨.hbm, 43, rfl⟩
abbrev main_call3_v0 : Ref sig .tc := ⟨.hbm, 44, rfl⟩
abbrev main_call3_v1 : Ref sig .tc := ⟨.hbm, 45, rfl⟩
abbrev main_call3_c_0 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_v18_1 : Ref sig .tc := ⟨.hbm, 50, rfl⟩
abbrev main_call3_c_1 : Ref sig .tc := ⟨.hbm, 51, rfl⟩
abbrev main_call3_c_2 : Ref sig .tc := ⟨.hbm, 52, rfl⟩
abbrev main_call3_v6 : Ref sig .tc := ⟨.hbm, 53, rfl⟩
abbrev main_call3_v7 : Ref sig .tc := ⟨.hbm, 54, rfl⟩
abbrev main_call3_v8 : Ref sig .tc := ⟨.hbm, 55, rfl⟩
abbrev main_call3_v9 : Ref sig .tc := ⟨.hbm, 56, rfl⟩
abbrev main_call3_v10 : Ref sig .tc := ⟨.hbm, 57, rfl⟩
abbrev main_call3_v11 : Ref sig .tc := ⟨.hbm, 58, rfl⟩
abbrev main_call3_c_3 : Ref sig .tc := ⟨.hbm, 59, rfl⟩
abbrev main_call3_v12 : Ref sig .tc := ⟨.hbm, 60, rfl⟩
abbrev main_call3_v13 : Ref sig .tc := ⟨.hbm, 61, rfl⟩
abbrev main_call3_v14 : Ref sig .tc := ⟨.hbm, 62, rfl⟩
abbrev main_call3_cst : Ref sig .tc := ⟨.hbm, 63, rfl⟩
abbrev main_call3_v15 : Ref sig .tc := ⟨.hbm, 64, rfl⟩
abbrev main_v18_0 : Ref sig .tc := ⟨.hbm, 65, rfl⟩
abbrev main_call4_c : Ref sig .tc := ⟨.hbm, 66, rfl⟩
abbrev main_call4_v0 : Ref sig .tc := ⟨.hbm, 67, rfl⟩
abbrev main_call4_v1 : Ref sig .tc := ⟨.hbm, 68, rfl⟩
abbrev main_call4_c_0 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_v19_1 : Ref sig .tc := ⟨.hbm, 73, rfl⟩
abbrev main_call4_c_1 : Ref sig .tc := ⟨.hbm, 74, rfl⟩
abbrev main_call4_c_2 : Ref sig .tc := ⟨.hbm, 75, rfl⟩
abbrev main_call4_v6 : Ref sig .tc := ⟨.hbm, 76, rfl⟩
abbrev main_call4_v7 : Ref sig .tc := ⟨.hbm, 77, rfl⟩
abbrev main_call4_v8 : Ref sig .tc := ⟨.hbm, 78, rfl⟩
abbrev main_call4_v9 : Ref sig .tc := ⟨.hbm, 79, rfl⟩
abbrev main_call4_v10 : Ref sig .tc := ⟨.hbm, 80, rfl⟩
abbrev main_call4_v11 : Ref sig .tc := ⟨.hbm, 81, rfl⟩
abbrev main_call4_c_3 : Ref sig .tc := ⟨.hbm, 82, rfl⟩
abbrev main_call4_v12 : Ref sig .tc := ⟨.hbm, 83, rfl⟩
abbrev main_call4_v13 : Ref sig .tc := ⟨.hbm, 84, rfl⟩
abbrev main_call4_v14 : Ref sig .tc := ⟨.hbm, 85, rfl⟩
abbrev main_call4_cst : Ref sig .tc := ⟨.hbm, 86, rfl⟩
abbrev main_call4_v15 : Ref sig .tc := ⟨.hbm, 87, rfl⟩
abbrev main_v19_0 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_c_7 : Ref sig .tc := ⟨.hbm, 98, rfl⟩
abbrev main_v29 : Ref sig .tc := ⟨.hbm, 99, rfl⟩
abbrev main_v30 : Ref sig .tc := ⟨.hbm, 100, rfl⟩
abbrev main_c_8 : Ref sig .tc := ⟨.hbm, 101, rfl⟩
abbrev main_c_9 : Ref sig .tc := ⟨.hbm, 102, rfl⟩
abbrev main_call5_v0 : Ref sig .tc := ⟨.hbm, 103, rfl⟩
abbrev main_call5_v1 : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_v31 : Ref sig .tc := ⟨.hbm, 108, rfl⟩
abbrev main_c_10 : Ref sig .tc := ⟨.hbm, 109, rfl⟩
abbrev main_v32 : Ref sig .tc := ⟨.hbm, 110, rfl⟩
abbrev main_v33 : Ref sig .tc := ⟨.hbm, 111, rfl⟩
abbrev main_c_11 : Ref sig .tc := ⟨.hbm, 112, rfl⟩
abbrev main_v34 : Ref sig .tc := ⟨.hbm, 113, rfl⟩
abbrev main_v35 : Ref sig .tc := ⟨.hbm, 114, rfl⟩
abbrev main_c_12 : Ref sig .tc := ⟨.hbm, 115, rfl⟩
abbrev main_c_13 : Ref sig .tc := ⟨.hbm, 116, rfl⟩
abbrev main_call6_v0 : Ref sig .tc := ⟨.hbm, 117, rfl⟩
abbrev main_call6_v1 : Ref sig .tc := ⟨.hbm, 118, rfl⟩
abbrev main_call6_v2 : Ref sig .tc := ⟨.hbm, 119, rfl⟩
abbrev main_call6_v3 : Ref sig .tc := ⟨.hbm, 120, rfl⟩
abbrev main_call6_v4 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_call7_c : Ref sig .tc := ⟨.hbm, 125, rfl⟩
abbrev main_call7_v0 : Ref sig .tc := ⟨.hbm, 126, rfl⟩
abbrev main_call7_v1 : Ref sig .tc := ⟨.hbm, 127, rfl⟩
abbrev main_call7_c_0 : Ref sig .tc := ⟨.hbm, 128, rfl⟩
abbrev main_call7_v2 : Ref sig .tc := ⟨.hbm, 129, rfl⟩
abbrev main_call7_v3 : Ref sig .tc := ⟨.hbm, 130, rfl⟩
abbrev main_call7_v4 : Ref sig .tc := ⟨.hbm, 131, rfl⟩
abbrev main_v39_1 : Ref sig .tc := ⟨.hbm, 132, rfl⟩
abbrev main_call7_c_1 : Ref sig .tc := ⟨.hbm, 133, rfl⟩
abbrev main_call7_c_2 : Ref sig .tc := ⟨.hbm, 134, rfl⟩
abbrev main_call7_v6 : Ref sig .tc := ⟨.hbm, 135, rfl⟩
abbrev main_call7_v7 : Ref sig .tc := ⟨.hbm, 136, rfl⟩
abbrev main_call7_v8 : Ref sig .tc := ⟨.hbm, 137, rfl⟩
abbrev main_call7_v9 : Ref sig .tc := ⟨.hbm, 138, rfl⟩
abbrev main_call7_v10 : Ref sig .tc := ⟨.hbm, 139, rfl⟩
abbrev main_call7_v11 : Ref sig .tc := ⟨.hbm, 140, rfl⟩
abbrev main_call7_c_3 : Ref sig .tc := ⟨.hbm, 141, rfl⟩
abbrev main_call7_v12 : Ref sig .tc := ⟨.hbm, 142, rfl⟩
abbrev main_call7_v13 : Ref sig .tc := ⟨.hbm, 143, rfl⟩
abbrev main_call7_v14 : Ref sig .tc := ⟨.hbm, 144, rfl⟩
abbrev main_call7_cst : Ref sig .tc := ⟨.hbm, 145, rfl⟩
abbrev main_call7_v15 : Ref sig .tc := ⟨.hbm, 146, rfl⟩
abbrev main_v39_0 : Ref sig .tc := ⟨.hbm, 147, rfl⟩
abbrev main_call8_c : Ref sig .tc := ⟨.hbm, 148, rfl⟩
abbrev main_call8_v0 : Ref sig .tc := ⟨.hbm, 149, rfl⟩
abbrev main_call8_v1 : Ref sig .tc := ⟨.hbm, 150, rfl⟩
abbrev main_call8_c_0 : Ref sig .tc := ⟨.hbm, 151, rfl⟩
abbrev main_call8_v2 : Ref sig .tc := ⟨.hbm, 152, rfl⟩
abbrev main_call8_v3 : Ref sig .tc := ⟨.hbm, 153, rfl⟩
abbrev main_call8_v4 : Ref sig .tc := ⟨.hbm, 154, rfl⟩
abbrev main_v40_1 : Ref sig .tc := ⟨.hbm, 155, rfl⟩
abbrev main_call8_c_1 : Ref sig .tc := ⟨.hbm, 156, rfl⟩
abbrev main_call8_c_2 : Ref sig .tc := ⟨.hbm, 157, rfl⟩
abbrev main_call8_v6 : Ref sig .tc := ⟨.hbm, 158, rfl⟩
abbrev main_call8_v7 : Ref sig .tc := ⟨.hbm, 159, rfl⟩
abbrev main_call8_v8 : Ref sig .tc := ⟨.hbm, 160, rfl⟩
abbrev main_call8_v9 : Ref sig .tc := ⟨.hbm, 161, rfl⟩
abbrev main_call8_v10 : Ref sig .tc := ⟨.hbm, 162, rfl⟩
abbrev main_call8_v11 : Ref sig .tc := ⟨.hbm, 163, rfl⟩
abbrev main_call8_c_3 : Ref sig .tc := ⟨.hbm, 164, rfl⟩
abbrev main_call8_v12 : Ref sig .tc := ⟨.hbm, 165, rfl⟩
abbrev main_call8_v13 : Ref sig .tc := ⟨.hbm, 166, rfl⟩
abbrev main_call8_v14 : Ref sig .tc := ⟨.hbm, 167, rfl⟩
abbrev main_call8_cst : Ref sig .tc := ⟨.hbm, 168, rfl⟩
abbrev main_call8_v15 : Ref sig .tc := ⟨.hbm, 169, rfl⟩
abbrev main_v40_0 : Ref sig .tc := ⟨.hbm, 170, rfl⟩
abbrev main_v41 : Ref sig .tc := ⟨.hbm, 171, rfl⟩
abbrev main_v42 : Ref sig .tc := ⟨.hbm, 172, rfl⟩
abbrev main_v43 : Ref sig .tc := ⟨.hbm, 173, rfl⟩
abbrev main_v44 : Ref sig .tc := ⟨.hbm, 174, rfl⟩
abbrev main_v45 : Ref sig .tc := ⟨.hbm, 175, rfl⟩
abbrev main_v46 : Ref sig .tc := ⟨.hbm, 176, rfl⟩
abbrev main_v47 : Ref sig .tc := ⟨.hbm, 177, rfl⟩
abbrev main_v48 : Ref sig .tc := ⟨.hbm, 178, rfl⟩
abbrev main_v49 : Ref sig .tc := ⟨.hbm, 179, rfl⟩
abbrev main_c_14 : Ref sig .tc := ⟨.hbm, 180, rfl⟩
abbrev main_v50 : Ref sig .tc := ⟨.hbm, 181, rfl⟩
abbrev main_v51 : Ref sig .tc := ⟨.hbm, 182, rfl⟩
abbrev main_c_15 : Ref sig .tc := ⟨.hbm, 183, rfl⟩
abbrev main_c_16 : Ref sig .tc := ⟨.hbm, 184, rfl⟩
abbrev main_call9_v0 : Ref sig .tc := ⟨.hbm, 185, rfl⟩
abbrev main_call9_v1 : Ref sig .tc := ⟨.hbm, 186, rfl⟩
abbrev main_call9_v2 : Ref sig .tc := ⟨.hbm, 187, rfl⟩
abbrev main_call9_v3 : Ref sig .tc := ⟨.hbm, 188, rfl⟩
abbrev main_call9_v4 : Ref sig .tc := ⟨.hbm, 189, rfl⟩
abbrev main_v52 : Ref sig .tc := ⟨.hbm, 190, rfl⟩
abbrev main_c_17 : Ref sig .tc := ⟨.hbm, 191, rfl⟩
abbrev main_v53 : Ref sig .tc := ⟨.hbm, 192, rfl⟩
abbrev main_v54 : Ref sig .tc := ⟨.hbm, 193, rfl⟩
abbrev main_c_18 : Ref sig .tc := ⟨.hbm, 194, rfl⟩
abbrev main_v55 : Ref sig .tc := ⟨.hbm, 195, rfl⟩
abbrev main_v56 : Ref sig .tc := ⟨.hbm, 196, rfl⟩
abbrev main_c_19 : Ref sig .tc := ⟨.hbm, 197, rfl⟩
abbrev main_c_20 : Ref sig .tc := ⟨.hbm, 198, rfl⟩
abbrev main_call10_v0 : Ref sig .tc := ⟨.hbm, 199, rfl⟩
abbrev main_call10_v1 : Ref sig .tc := ⟨.hbm, 200, rfl⟩
abbrev main_call10_v2 : Ref sig .tc := ⟨.hbm, 201, rfl⟩
abbrev main_call10_v3 : Ref sig .tc := ⟨.hbm, 202, rfl⟩
abbrev main_call10_v4 : Ref sig .tc := ⟨.hbm, 203, rfl⟩
abbrev main_v57 : Ref sig .tc := ⟨.hbm, 204, rfl⟩
abbrev main_v58 : Ref sig .tc := ⟨.hbm, 205, rfl⟩
abbrev main_v59 : Ref sig .tc := ⟨.hbm, 206, rfl⟩
abbrev main_call11_c : Ref sig .tc := ⟨.hbm, 207, rfl⟩
abbrev main_call11_v0 : Ref sig .tc := ⟨.hbm, 208, rfl⟩
abbrev main_call11_v1 : Ref sig .tc := ⟨.hbm, 209, rfl⟩
abbrev main_call11_c_0 : Ref sig .tc := ⟨.hbm, 210, rfl⟩
abbrev main_call11_v2 : Ref sig .tc := ⟨.hbm, 211, rfl⟩
abbrev main_call11_v3 : Ref sig .tc := ⟨.hbm, 212, rfl⟩
abbrev main_call11_v4 : Ref sig .tc := ⟨.hbm, 213, rfl⟩
abbrev main_v60_1 : Ref sig .tc := ⟨.hbm, 214, rfl⟩
abbrev main_call11_c_1 : Ref sig .tc := ⟨.hbm, 215, rfl⟩
abbrev main_call11_c_2 : Ref sig .tc := ⟨.hbm, 216, rfl⟩
abbrev main_call11_v6 : Ref sig .tc := ⟨.hbm, 217, rfl⟩
abbrev main_call11_v7 : Ref sig .tc := ⟨.hbm, 218, rfl⟩
abbrev main_call11_v8 : Ref sig .tc := ⟨.hbm, 219, rfl⟩
abbrev main_call11_v9 : Ref sig .tc := ⟨.hbm, 220, rfl⟩
abbrev main_call11_v10 : Ref sig .tc := ⟨.hbm, 221, rfl⟩
abbrev main_call11_v11 : Ref sig .tc := ⟨.hbm, 222, rfl⟩
abbrev main_call11_c_3 : Ref sig .tc := ⟨.hbm, 223, rfl⟩
abbrev main_call11_v12 : Ref sig .tc := ⟨.hbm, 224, rfl⟩
abbrev main_call11_v13 : Ref sig .tc := ⟨.hbm, 225, rfl⟩
abbrev main_call11_v14 : Ref sig .tc := ⟨.hbm, 226, rfl⟩
abbrev main_call11_cst : Ref sig .tc := ⟨.hbm, 227, rfl⟩
abbrev main_call11_v15 : Ref sig .tc := ⟨.hbm, 228, rfl⟩
abbrev main_v60_0 : Ref sig .tc := ⟨.hbm, 229, rfl⟩
abbrev main_call12_c : Ref sig .tc := ⟨.hbm, 230, rfl⟩
abbrev main_call12_v0 : Ref sig .tc := ⟨.hbm, 231, rfl⟩
abbrev main_call12_v1 : Ref sig .tc := ⟨.hbm, 232, rfl⟩
abbrev main_call12_c_0 : Ref sig .tc := ⟨.hbm, 233, rfl⟩
abbrev main_call12_v2 : Ref sig .tc := ⟨.hbm, 234, rfl⟩
abbrev main_call12_v3 : Ref sig .tc := ⟨.hbm, 235, rfl⟩
abbrev main_call12_v4 : Ref sig .tc := ⟨.hbm, 236, rfl⟩
abbrev main_v61_1 : Ref sig .tc := ⟨.hbm, 237, rfl⟩
abbrev main_call12_c_1 : Ref sig .tc := ⟨.hbm, 238, rfl⟩
abbrev main_call12_c_2 : Ref sig .tc := ⟨.hbm, 239, rfl⟩
abbrev main_call12_v6 : Ref sig .tc := ⟨.hbm, 240, rfl⟩
abbrev main_call12_v7 : Ref sig .tc := ⟨.hbm, 241, rfl⟩
abbrev main_call12_v8 : Ref sig .tc := ⟨.hbm, 242, rfl⟩
abbrev main_call12_v9 : Ref sig .tc := ⟨.hbm, 243, rfl⟩
abbrev main_call12_v10 : Ref sig .tc := ⟨.hbm, 244, rfl⟩
abbrev main_call12_v11 : Ref sig .tc := ⟨.hbm, 245, rfl⟩
abbrev main_call12_c_3 : Ref sig .tc := ⟨.hbm, 246, rfl⟩
abbrev main_call12_v12 : Ref sig .tc := ⟨.hbm, 247, rfl⟩
abbrev main_call12_v13 : Ref sig .tc := ⟨.hbm, 248, rfl⟩
abbrev main_call12_v14 : Ref sig .tc := ⟨.hbm, 249, rfl⟩
abbrev main_call12_cst : Ref sig .tc := ⟨.hbm, 250, rfl⟩
abbrev main_call12_v15 : Ref sig .tc := ⟨.hbm, 251, rfl⟩
abbrev main_v61_0 : Ref sig .tc := ⟨.hbm, 252, rfl⟩
abbrev main_v62 : Ref sig .tc := ⟨.hbm, 253, rfl⟩
abbrev main_v63 : Ref sig .tc := ⟨.hbm, 254, rfl⟩
abbrev main_v64 : Ref sig .tc := ⟨.hbm, 255, rfl⟩
abbrev main_v65 : Ref sig .tc := ⟨.hbm, 256, rfl⟩
abbrev main_v66 : Ref sig .tc := ⟨.hbm, 257, rfl⟩
abbrev main_v67 : Ref sig .tc := ⟨.hbm, 258, rfl⟩
abbrev main_v68 : Ref sig .tc := ⟨.hbm, 259, rfl⟩
abbrev main_v69 : Ref sig .tc := ⟨.hbm, 260, rfl⟩
abbrev main_v70 : Ref sig .tc := ⟨.hbm, 261, rfl⟩
abbrev main_c_21 : Ref sig .tc := ⟨.hbm, 262, rfl⟩
abbrev main_v71 : Ref sig .tc := ⟨.hbm, 263, rfl⟩
abbrev main_v72 : Ref sig .tc := ⟨.hbm, 264, rfl⟩
abbrev main_c_22 : Ref sig .tc := ⟨.hbm, 265, rfl⟩
abbrev main_c_23 : Ref sig .tc := ⟨.hbm, 266, rfl⟩
abbrev main_call13_v0 : Ref sig .tc := ⟨.hbm, 267, rfl⟩
abbrev main_call13_v1 : Ref sig .tc := ⟨.hbm, 268, rfl⟩
abbrev main_call13_v2 : Ref sig .tc := ⟨.hbm, 269, rfl⟩
abbrev main_call13_v3 : Ref sig .tc := ⟨.hbm, 270, rfl⟩
abbrev main_call13_v4 : Ref sig .tc := ⟨.hbm, 271, rfl⟩
abbrev main_v73 : Ref sig .tc := ⟨.hbm, 272, rfl⟩
abbrev main_c_24 : Ref sig .tc := ⟨.hbm, 273, rfl⟩
abbrev main_v74 : Ref sig .tc := ⟨.hbm, 274, rfl⟩
abbrev main_v75 : Ref sig .tc := ⟨.hbm, 275, rfl⟩
abbrev main_c_25 : Ref sig .tc := ⟨.hbm, 276, rfl⟩
abbrev main_v76 : Ref sig .tc := ⟨.hbm, 277, rfl⟩
abbrev main_v77 : Ref sig .tc := ⟨.hbm, 278, rfl⟩
abbrev main_c_26 : Ref sig .tc := ⟨.hbm, 279, rfl⟩
abbrev main_c_27 : Ref sig .tc := ⟨.hbm, 280, rfl⟩
abbrev main_call14_v0 : Ref sig .tc := ⟨.hbm, 281, rfl⟩
abbrev main_call14_v1 : Ref sig .tc := ⟨.hbm, 282, rfl⟩
abbrev main_call14_v2 : Ref sig .tc := ⟨.hbm, 283, rfl⟩
abbrev main_call14_v3 : Ref sig .tc := ⟨.hbm, 284, rfl⟩
abbrev main_call14_v4 : Ref sig .tc := ⟨.hbm, 285, rfl⟩
abbrev main_v78 : Ref sig .tc := ⟨.hbm, 286, rfl⟩
abbrev main_v79 : Ref sig .tc := ⟨.hbm, 287, rfl⟩
abbrev main_v80 : Ref sig .tc := ⟨.hbm, 288, rfl⟩
abbrev main_call15_c : Ref sig .tc := ⟨.hbm, 289, rfl⟩
abbrev main_call15_v0 : Ref sig .tc := ⟨.hbm, 290, rfl⟩
abbrev main_call15_v1 : Ref sig .tc := ⟨.hbm, 291, rfl⟩
abbrev main_call15_c_0 : Ref sig .tc := ⟨.hbm, 292, rfl⟩
abbrev main_call15_v2 : Ref sig .tc := ⟨.hbm, 293, rfl⟩
abbrev main_call15_v3 : Ref sig .tc := ⟨.hbm, 294, rfl⟩
abbrev main_call15_v4 : Ref sig .tc := ⟨.hbm, 295, rfl⟩
abbrev main_v81_1 : Ref sig .tc := ⟨.hbm, 296, rfl⟩
abbrev main_call15_c_1 : Ref sig .tc := ⟨.hbm, 297, rfl⟩
abbrev main_call15_c_2 : Ref sig .tc := ⟨.hbm, 298, rfl⟩
abbrev main_call15_v6 : Ref sig .tc := ⟨.hbm, 299, rfl⟩
abbrev main_call15_v7 : Ref sig .tc := ⟨.hbm, 300, rfl⟩
abbrev main_call15_v8 : Ref sig .tc := ⟨.hbm, 301, rfl⟩
abbrev main_call15_v9 : Ref sig .tc := ⟨.hbm, 302, rfl⟩
abbrev main_call15_v10 : Ref sig .tc := ⟨.hbm, 303, rfl⟩
abbrev main_call15_v11 : Ref sig .tc := ⟨.hbm, 304, rfl⟩
abbrev main_call15_c_3 : Ref sig .tc := ⟨.hbm, 305, rfl⟩
abbrev main_call15_v12 : Ref sig .tc := ⟨.hbm, 306, rfl⟩
abbrev main_call15_v13 : Ref sig .tc := ⟨.hbm, 307, rfl⟩
abbrev main_call15_v14 : Ref sig .tc := ⟨.hbm, 308, rfl⟩
abbrev main_call15_cst : Ref sig .tc := ⟨.hbm, 309, rfl⟩
abbrev main_call15_v15 : Ref sig .tc := ⟨.hbm, 310, rfl⟩
abbrev main_v81_0 : Ref sig .tc := ⟨.hbm, 311, rfl⟩
abbrev main_call16_c : Ref sig .tc := ⟨.hbm, 312, rfl⟩
abbrev main_call16_v0 : Ref sig .tc := ⟨.hbm, 313, rfl⟩
abbrev main_call16_v1 : Ref sig .tc := ⟨.hbm, 314, rfl⟩
abbrev main_call16_c_0 : Ref sig .tc := ⟨.hbm, 315, rfl⟩
abbrev main_call16_v2 : Ref sig .tc := ⟨.hbm, 316, rfl⟩
abbrev main_call16_v3 : Ref sig .tc := ⟨.hbm, 317, rfl⟩
abbrev main_call16_v4 : Ref sig .tc := ⟨.hbm, 318, rfl⟩
abbrev main_v82_1 : Ref sig .tc := ⟨.hbm, 319, rfl⟩
abbrev main_call16_c_1 : Ref sig .tc := ⟨.hbm, 320, rfl⟩
abbrev main_call16_c_2 : Ref sig .tc := ⟨.hbm, 321, rfl⟩
abbrev main_call16_v6 : Ref sig .tc := ⟨.hbm, 322, rfl⟩
abbrev main_call16_v7 : Ref sig .tc := ⟨.hbm, 323, rfl⟩
abbrev main_call16_v8 : Ref sig .tc := ⟨.hbm, 324, rfl⟩
abbrev main_call16_v9 : Ref sig .tc := ⟨.hbm, 325, rfl⟩
abbrev main_call16_v10 : Ref sig .tc := ⟨.hbm, 326, rfl⟩
abbrev main_call16_v11 : Ref sig .tc := ⟨.hbm, 327, rfl⟩
abbrev main_call16_c_3 : Ref sig .tc := ⟨.hbm, 328, rfl⟩
abbrev main_call16_v12 : Ref sig .tc := ⟨.hbm, 329, rfl⟩
abbrev main_call16_v13 : Ref sig .tc := ⟨.hbm, 330, rfl⟩
abbrev main_call16_v14 : Ref sig .tc := ⟨.hbm, 331, rfl⟩
abbrev main_call16_cst : Ref sig .tc := ⟨.hbm, 332, rfl⟩
abbrev main_call16_v15 : Ref sig .tc := ⟨.hbm, 333, rfl⟩
abbrev main_v82_0 : Ref sig .tc := ⟨.hbm, 334, rfl⟩
abbrev main_v83 : Ref sig .tc := ⟨.hbm, 335, rfl⟩
abbrev main_v84 : Ref sig .tc := ⟨.hbm, 336, rfl⟩
abbrev main_v85 : Ref sig .tc := ⟨.hbm, 337, rfl⟩
abbrev main_v86 : Ref sig .tc := ⟨.hbm, 338, rfl⟩
abbrev main_v87 : Ref sig .tc := ⟨.hbm, 339, rfl⟩
abbrev main_v88 : Ref sig .tc := ⟨.hbm, 340, rfl⟩
abbrev main_v89 : Ref sig .tc := ⟨.hbm, 341, rfl⟩
abbrev main_v90 : Ref sig .tc := ⟨.hbm, 342, rfl⟩
abbrev main_v91 : Ref sig .tc := ⟨.hbm, 343, rfl⟩
abbrev main_v92 : Ref sig .tc := ⟨.hbm, 344, rfl⟩
abbrev main_v93 : Ref sig .tc := ⟨.hbm, 345, rfl⟩
abbrev main_v94 : Ref sig .tc := ⟨.hbm, 346, rfl⟩
abbrev main_v95 : Ref sig .tc := ⟨.hbm, 347, rfl⟩
abbrev main_v96 : Ref sig .tc := ⟨.hbm, 348, rfl⟩
abbrev main_v97 : Ref sig .tc := ⟨.hbm, 349, rfl⟩
abbrev main_v98 : Ref sig .tc := ⟨.hbm, 350, rfl⟩
abbrev main_v99 : Ref sig .tc := ⟨.hbm, 351, rfl⟩
abbrev main_v100 : Ref sig .tc := ⟨.hbm, 352, rfl⟩
abbrev main_v101 : Ref sig .tc := ⟨.hbm, 353, rfl⟩
abbrev main_v102 : Ref sig .tc := ⟨.hbm, 354, rfl⟩
abbrev main_v103 : Ref sig .tc := ⟨.hbm, 355, rfl⟩
abbrev main_cst_28 : Ref sig .tc := ⟨.hbm, 356, rfl⟩
abbrev main_v104 : Ref sig .tc := ⟨.hbm, 357, rfl⟩
abbrev main_v105 : Ref sig .tc := ⟨.hbm, 358, rfl⟩
abbrev main_v106 : Ref sig .tc := ⟨.hbm, 359, rfl⟩
abbrev main_v107 : Ref sig .tc := ⟨.hbm, 360, rfl⟩
abbrev main_cst_29 : Ref sig .tc := ⟨.hbm, 361, rfl⟩
abbrev main_v108 : Ref sig .tc := ⟨.hbm, 362, rfl⟩
abbrev main_v109 : Ref sig .tc := ⟨.hbm, 363, rfl⟩
abbrev main_v110 : Ref sig .tc := ⟨.hbm, 364, rfl⟩
abbrev main_v111 : Ref sig .tc := ⟨.hbm, 365, rfl⟩
abbrev main_v112 : Ref sig .tc := ⟨.hbm, 366, rfl⟩
abbrev main_v113 : Ref sig .tc := ⟨.hbm, 367, rfl⟩
abbrev main_v114 : Ref sig .tc := ⟨.hbm, 368, rfl⟩
abbrev main_v115 : Ref sig .tc := ⟨.hbm, 369, rfl⟩
abbrev main_v116 : Ref sig .tc := ⟨.hbm, 370, rfl⟩
abbrev main_v117 : Ref sig .tc := ⟨.hbm, 371, rfl⟩
abbrev main_v118 : Ref sig .tc := ⟨.hbm, 372, rfl⟩
abbrev main_v119 : Ref sig .tc := ⟨.hbm, 373, rfl⟩
abbrev main_v120 : Ref sig .tc := ⟨.hbm, 374, rfl⟩
abbrev main_v121 : Ref sig .tc := ⟨.hbm, 375, rfl⟩
abbrev main_v122 : Ref sig .tc := ⟨.hbm, 376, rfl⟩
abbrev main_v123 : Ref sig .tc := ⟨.hbm, 377, rfl⟩
abbrev main_v124 : Ref sig .tc := ⟨.hbm, 378, rfl⟩
abbrev main_cst_30 : Ref sig .tc := ⟨.hbm, 379, rfl⟩
abbrev main_v125 : Ref sig .tc := ⟨.hbm, 380, rfl⟩
abbrev main_v126 : Ref sig .tc := ⟨.hbm, 381, rfl⟩
abbrev main_v127 : Ref sig .tc := ⟨.hbm, 382, rfl⟩
abbrev main_v128 : Ref sig .tc := ⟨.hbm, 383, rfl⟩
abbrev main_call17_cst : Ref sig .tc := ⟨.hbm, 384, rfl⟩
abbrev main_call17_v0 : Ref sig .tc := ⟨.hbm, 385, rfl⟩
abbrev main_v129 : Ref sig .tc := ⟨.hbm, 386, rfl⟩
abbrev main_call18_cst : Ref sig .tc := ⟨.hbm, 387, rfl⟩
abbrev main_call18_v0 : Ref sig .tc := ⟨.hbm, 388, rfl⟩
abbrev main_v130 : Ref sig .tc := ⟨.hbm, 389, rfl⟩
abbrev main_v131 : Ref sig .tc := ⟨.hbm, 390, rfl⟩
abbrev main_v132 : Ref sig .tc := ⟨.hbm, 391, rfl⟩
abbrev main_cst_31 : Ref sig .tc := ⟨.hbm, 392, rfl⟩
abbrev main_v133 : Ref sig .tc := ⟨.hbm, 393, rfl⟩
abbrev main_v134 : Ref sig .tc := ⟨.hbm, 394, rfl⟩
abbrev main_v135 : Ref sig .tc := ⟨.hbm, 395, rfl⟩
abbrev main_cst_32 : Ref sig .tc := ⟨.hbm, 396, rfl⟩
abbrev main_v136 : Ref sig .tc := ⟨.hbm, 397, rfl⟩
abbrev main_v137 : Ref sig .tc := ⟨.hbm, 398, rfl⟩
abbrev main_v138 : Ref sig .tc := ⟨.hbm, 399, rfl⟩
abbrev main_v139 : Ref sig .tc := ⟨.hbm, 400, rfl⟩
abbrev main_v140 : Ref sig .tc := ⟨.hbm, 401, rfl⟩
abbrev main_call19_cst : Ref sig .tc := ⟨.hbm, 402, rfl⟩
abbrev main_call19_v0 : Ref sig .tc := ⟨.hbm, 403, rfl⟩
abbrev main_v141 : Ref sig .tc := ⟨.hbm, 404, rfl⟩
abbrev main_call20_cst : Ref sig .tc := ⟨.hbm, 405, rfl⟩
abbrev main_call20_v0 : Ref sig .tc := ⟨.hbm, 406, rfl⟩
abbrev main_v142 : Ref sig .tc := ⟨.hbm, 407, rfl⟩
abbrev main_v143 : Ref sig .tc := ⟨.hbm, 408, rfl⟩
abbrev main_v144 : Ref sig .tc := ⟨.hbm, 409, rfl⟩
abbrev main_cst_33 : Ref sig .tc := ⟨.hbm, 410, rfl⟩
abbrev main_v145 : Ref sig .tc := ⟨.hbm, 411, rfl⟩
abbrev main_v146 : Ref sig .tc := ⟨.hbm, 412, rfl⟩
abbrev main_v147 : Ref sig .tc := ⟨.hbm, 413, rfl⟩
abbrev main_v148 : Ref sig .tc := ⟨.hbm, 414, rfl⟩
abbrev main_cst_34 : Ref sig .tc := ⟨.hbm, 415, rfl⟩
abbrev main_v149 : Ref sig .tc := ⟨.hbm, 416, rfl⟩
abbrev main_v150 : Ref sig .tc := ⟨.hbm, 417, rfl⟩
abbrev main_v151 : Ref sig .tc := ⟨.hbm, 418, rfl⟩
abbrev main_v152 : Ref sig .tc := ⟨.hbm, 419, rfl⟩
abbrev main_v153 : Ref sig .tc := ⟨.hbm, 420, rfl⟩
abbrev main_call21_cst : Ref sig .tc := ⟨.hbm, 421, rfl⟩
abbrev main_call21_v0 : Ref sig .tc := ⟨.hbm, 422, rfl⟩
abbrev main_v154 : Ref sig .tc := ⟨.hbm, 423, rfl⟩
abbrev main_call22_cst : Ref sig .tc := ⟨.hbm, 424, rfl⟩
abbrev main_call22_v0 : Ref sig .tc := ⟨.hbm, 425, rfl⟩
abbrev main_v155 : Ref sig .tc := ⟨.hbm, 426, rfl⟩
abbrev main_v156 : Ref sig .tc := ⟨.hbm, 427, rfl⟩
abbrev main_v157 : Ref sig .tc := ⟨.hbm, 428, rfl⟩
abbrev main_cst_35 : Ref sig .tc := ⟨.hbm, 429, rfl⟩
abbrev main_v158 : Ref sig .tc := ⟨.hbm, 430, rfl⟩
abbrev main_v159 : Ref sig .tc := ⟨.hbm, 431, rfl⟩
abbrev main_v160 : Ref sig .tc := ⟨.hbm, 432, rfl⟩
abbrev main_v161 : Ref sig .tc := ⟨.hbm, 433, rfl⟩
abbrev main_cst_36 : Ref sig .tc := ⟨.hbm, 434, rfl⟩
abbrev main_v162 : Ref sig .tc := ⟨.hbm, 435, rfl⟩
abbrev main_v163 : Ref sig .tc := ⟨.hbm, 436, rfl⟩
abbrev main_v164 : Ref sig .tc := ⟨.hbm, 437, rfl⟩
abbrev main_v165 : Ref sig .tc := ⟨.hbm, 438, rfl⟩
abbrev main_v166 : Ref sig .tc := ⟨.hbm, 439, rfl⟩
abbrev main_call23_cst : Ref sig .tc := ⟨.hbm, 440, rfl⟩
abbrev main_call23_v0 : Ref sig .tc := ⟨.hbm, 441, rfl⟩
abbrev main_v167 : Ref sig .tc := ⟨.hbm, 442, rfl⟩
abbrev main_call24_cst : Ref sig .tc := ⟨.hbm, 443, rfl⟩
abbrev main_call24_v0 : Ref sig .tc := ⟨.hbm, 444, rfl⟩
abbrev main_v168 : Ref sig .tc := ⟨.hbm, 445, rfl⟩
abbrev main_v169 : Ref sig .tc := ⟨.hbm, 446, rfl⟩
abbrev main_v170 : Ref sig .tc := ⟨.hbm, 447, rfl⟩
abbrev main_cst_37 : Ref sig .tc := ⟨.hbm, 448, rfl⟩
abbrev main_v171 : Ref sig .tc := ⟨.hbm, 449, rfl⟩
abbrev main_v172 : Ref sig .tc := ⟨.hbm, 450, rfl⟩
abbrev main_v173 : Ref sig .tc := ⟨.hbm, 451, rfl⟩
abbrev main_v174 : Ref sig .tc := ⟨.hbm, 452, rfl⟩
abbrev main_call25_call0_cst : Ref sig .tc := ⟨.hbm, 453, rfl⟩
abbrev main_call25_call0_v0 : Ref sig .tc := ⟨.hbm, 454, rfl⟩
abbrev main_v175 : Ref sig .tc := ⟨.hbm, 455, rfl⟩
abbrev main_v176 : Ref sig .tc := ⟨.hbm, 456, rfl⟩
abbrev main_v177 : Ref sig .tc := ⟨.hbm, 457, rfl⟩
abbrev main_v178 : Ref sig .tc := ⟨.hbm, 458, rfl⟩
abbrev main_v179 : Ref sig .tc := ⟨.hbm, 459, rfl⟩
abbrev main_v180 : Ref sig .tc := ⟨.hbm, 460, rfl⟩
abbrev main_v181 : Ref sig .tc := ⟨.hbm, 461, rfl⟩
abbrev main_v182 : Ref sig .tc := ⟨.hbm, 462, rfl⟩

abbrev nD : Nat := 1
abbrev τ : Topo := Topo.v7x

variable {F : FTy → Type} [FloatOps F]
-- ==== InFwd.lean ====
abbrev S1x8192x1024 : Shape := ⟨3, ![1, 8192, 1024]⟩
abbrev S1x1024 : Shape := ⟨2, ![1, 1024]⟩
abbrev S1x1024x2560 : Shape := ⟨3, ![1, 1024, 2560]⟩
abbrev S1x2560x1024 : Shape := ⟨3, ![1, 2560, 1024]⟩
abbrev S2560x1024 : Shape := ⟨2, ![2560, 1024]⟩
abbrev S8192x1024 : Shape := ⟨2, ![8192, 1024]⟩
abbrev S8192x256 : Shape := ⟨2, ![8192, 256]⟩
abbrev S1024x1024 : Shape := ⟨2, ![1024, 1024]⟩
abbrev S1024x256 : Shape := ⟨2, ![1024, 256]⟩
abbrev S1024 : Shape := ⟨1, ![1024]⟩
abbrev S1024x1 : Shape := ⟨2, ![1024, 1]⟩
abbrev S1024x2560 : Shape := ⟨2, ![1024, 2560]⟩

abbrev nBuf : Space → Nat
  | .hbm => 18
  | .vmem => 26
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2560, .f32⟩
  | .hbm, ⟨3, _⟩ => ⟨S1x2560x1024, .f32⟩
  | .hbm, ⟨4, _⟩ => ⟨S2560x1024, .f32⟩
  | .hbm, ⟨5, _⟩ => ⟨S2560x1024, .bf16⟩
  | .hbm, ⟨6, _⟩ => ⟨S8192x1024, .f32⟩
  | .hbm, ⟨7, _⟩ => ⟨S8192x1024, .bf16⟩
  | .hbm, ⟨8, _⟩ => ⟨S8192x256, .f32⟩
  | .hbm, ⟨9, _⟩ => ⟨S8192x256, .bf16⟩
  | .hbm, ⟨10, _⟩ => ⟨S8192x256, .f32⟩
  | .hbm, ⟨11, _⟩ => ⟨S8192x256, .f32⟩
  | .hbm, ⟨12, _⟩ => ⟨S8192x256, .bf16⟩
  | .hbm, ⟨13, _⟩ => ⟨S8192x256, .f32⟩
  | .hbm, ⟨14, _⟩ => ⟨S8192x256, .f32⟩
  | .hbm, ⟨15, _⟩ => ⟨S8192x256, .bf16⟩
  | .hbm, ⟨16, _⟩ => ⟨S8192x256, .f32⟩
  | .hbm, ⟨17, _⟩ => ⟨S8192x256, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2560x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x256, .f32⟩
  | .local _ .vmem, ⟨7, _⟩ => ⟨S1024x256, .f32⟩
  | .local _ .vmem, ⟨8, _⟩ => ⟨S1024x256, .bf16⟩
  | .local _ .vmem, ⟨9, _⟩ => ⟨S1024x256, .bf16⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .bf16⟩
  | .local _ .vmem, ⟨15, _⟩ => ⟨S1024x256, .bf16⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x256, .bf16⟩
  | .local _ .vmem, ⟨21, _⟩ => ⟨S1024x256, .bf16⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev main_v4_6 : Ref sig .tc := ⟨.hbm, 13, rfl⟩
abbrev main_v4_7 : Ref sig .tc := ⟨.hbm, 14, rfl⟩
abbrev main_v4_8 : Ref sig .tc := ⟨.hbm, 15, rfl⟩
abbrev main_v4_9 : Ref sig .tc := ⟨.hbm, 16, rfl⟩
abbrev main_v4_10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InFwdRefIdeal.lean ====
abbrev S1x8192x1024 : Shape := ⟨3, ![1, 8192, 1024]⟩
abbrev S1x1024 : Shape := ⟨2, ![1, 1024]⟩
abbrev S1x1024x2560 : Shape := ⟨3, ![1, 1024, 2560]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x2560 : Shape := ⟨2, ![1024, 2560]⟩
abbrev S1x8192x2560 : Shape := ⟨3, ![1, 8192, 2560]⟩
abbrev S1x8192x256 : Shape := ⟨3, ![1, 8192, 256]⟩
abbrev S1x8192x2304 : Shape := ⟨3, ![1, 8192, 2304]⟩
abbrev S1x8192x3x12x64 : Shape := ⟨5, ![1, 8192, 3, 12, 64]⟩
abbrev S1x8192x1x12x64 : Shape := ⟨5, ![1, 8192, 1, 12, 64]⟩
abbrev S1x8192x12x64 : Shape := ⟨4, ![1, 8192, 12, 64]⟩
abbrev S1x8192x4x64 : Shape := ⟨4, ![1, 8192, 4, 64]⟩
abbrev S8192x256 : Shape := ⟨2, ![8192, 256]⟩
abbrev S8192x1024 : Shape := ⟨2, ![8192, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2560, .f32⟩
  | .hbm, ⟨3, _⟩ => ⟨S1024, .f32⟩
  | .hbm, ⟨4, _⟩ => ⟨S1x8192x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x1024, .f32⟩
  | .hbm, ⟨16, _⟩ => ⟨S1x8192x1024, .f32⟩
  | .hbm, ⟨17, _⟩ => ⟨S1x1x1024, .f32⟩
  | .hbm, ⟨18, _⟩ => ⟨S1x8192x1024, .f32⟩
  | .hbm, ⟨19, _⟩ => ⟨S1x8192x1024, .f32⟩
  | .hbm, ⟨20, _⟩ => ⟨S1024x2560, .f32⟩
  | .hbm, ⟨21, _⟩ => ⟨S1x8192x2560, .f32⟩
  | .hbm, ⟨22, _⟩ => ⟨S1x8192x256, .f32⟩
  | .hbm, ⟨23, _⟩ => ⟨S1x8192x2304, .f32⟩
  | .hbm, ⟨24, _⟩ => ⟨S1x8192x3x12x64, .f32⟩
  | .hbm, ⟨25, _⟩ => ⟨S1x8192x1x12x64, .f32⟩
  | .hbm, ⟨26, _⟩ => ⟨S1x8192x12x64, .f32⟩
  | .hbm, ⟨27, _⟩ => ⟨S_, .f32⟩
  | .hbm, ⟨28, _⟩ => ⟨S1x8192x12x64, .f32⟩
  | .hbm, ⟨29, _⟩ => ⟨S1x8192x12x64, .f32⟩
  | .hbm, ⟨30, _⟩ => ⟨S1x8192x1x12x64, .f32⟩
  | .hbm, ⟨31, _⟩ => ⟨S1x8192x12x64, .f32⟩
  | .hbm, ⟨32, _⟩ => ⟨S1x8192x1x12x64, .f32⟩
  | .hbm, ⟨33, _⟩ => ⟨S1x8192x12x64, .f32⟩
  | .hbm, ⟨34, _⟩ => ⟨S1x8192x4x64, .f32⟩
  | .hbm, ⟨35, _⟩ => ⟨S8192x256, .f32⟩
  | .hbm, ⟨36, _⟩ => ⟨S8192x256, .bf16⟩
  | .hbm, ⟨37, _⟩ => ⟨S1x8192x4x64, .f32⟩
  | .hbm, ⟨38, _⟩ => ⟨S8192x256, .f32⟩
  | .hbm, ⟨39, _⟩ => ⟨S1x8192x4x64, .f32⟩
  | .hbm, ⟨40, _⟩ => ⟨S8192x256, .f32⟩
  | .hbm, ⟨41, _⟩ => ⟨S1x8192x4x64, .f32⟩
  | .hbm, ⟨42, _⟩ => ⟨S8192x256, .f32⟩
  | .hbm, ⟨43, _⟩ => ⟨S8192x256, .bf16⟩
  | .hbm, ⟨44, _⟩ => ⟨S1x8192x4x64, .f32⟩
  | .hbm, ⟨45, _⟩ => ⟨S8192x256, .f32⟩
  | .hbm, ⟨46, _⟩ => ⟨S1x8192x4x64, .f32⟩
  | .hbm, ⟨47, _⟩ => ⟨S8192x256, .f32⟩
  | .hbm, ⟨48, _⟩ => ⟨S1x8192x4x64, .f32⟩
  | .hbm, ⟨49, _⟩ => ⟨S8192x256, .f32⟩
  | .hbm, ⟨50, _⟩ => ⟨S8192x256, .bf16⟩
  | .hbm, ⟨51, _⟩ => ⟨S1x8192x4x64, .f32⟩
  | .hbm, ⟨52, _⟩ => ⟨S8192x256, .f32⟩
  | .hbm, ⟨53, _⟩ => ⟨S1x8192x4x64, .f32⟩
  | .hbm, ⟨54, _⟩ => ⟨S8192x256, .f32⟩
  | .hbm, ⟨55, _⟩ => ⟨S8192x1024, .f32⟩
  | .hbm, ⟨56, _⟩ => ⟨S8192x1024, .bf16⟩
  | .hbm, ⟨57, _⟩ => ⟨S8192x256, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩

abbrev nD : Nat := 1
abbrev τ : Topo := Topo.v7x

variable {F : FTy → Type} [FloatOps F]
-- ==== Proof.RowNorm.lean ====
module

public import Idealize.ShloMosaic.PureOps.Ideal
public import Idealize.ShloMosaic.PureOps.Ideal.Laws
public import Idealize.ShloMosaic.Lib.IdealHost
import Mathlib.Tactic.Ring
import Mathlib.Tactic.FieldSimp
import Mathlib.Tactic.Linarith
import Mathlib.Tactic.Positivity

@[expose] public section

/-! The gradient of a root-mean-square norm of one row, over the extended reals: the form that a kernel
writes by hand equals the form that differentiating the norm gives. No entry needs to be finite. -/

namespace Cert.RowNorm

open Idealize.ShloMosaic

/-- A finite nonnegative factor comes out of a sum of extended reals. -/
theorem sum_mul_nonneg {ι : Type*} (s : Finset ι) (f : ι → EReal) {r : ℝ} (hr : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem add_self (z : EReal) : z + z = ((2 : ℝ) : EReal) * z := by
  induction z using EReal.rec with
  | bot => rw [EReal.coe_mul_bot_of_pos (by norm_num)]; rfl
  | coe x => rw [← EReal.coe_mul, ← EReal.coe_add, two_mul]
  | top => rw [EReal.coe_mul_top_of_pos (by norm_num)]; rfl

theorem mul_self_nonneg (x : EReal) : 0 ≤ x * x := by
  induction x using EReal.rec with
  | bot => simp
  | coe x => rw [← EReal.coe_mul]; exact_mod_cast _root_.mul_self_nonneg x
  | top => simp

/-- Where a sum of squares is not infinite every entry is finite. -/
theorem finite_of_sum {ι : Type*} [Fintype ι] (x : ι → EReal) (h : ∑ k, x k * x k ≠ ⊤) :
    ∃ a : ι → ℝ, x = fun k => (a k : EReal) := by
  have hk : ∀ k, x k * x k ≠ ⊤ := fun k hk => h (by
    have hle : x k * x k ≤ ∑ k, x k * x k :=
      Finset.single_le_sum (f := fun k => x k * x k) (fun i _ => mul_self_nonneg (x i)) (Finset.mem_univ k)
    exact top_le_iff.mp (hk ▸ hle))
  refine ⟨fun k => (x k).toReal, funext fun k => (EReal.coe_toReal ?_ ?_).symm⟩
  · intro hx; exact hk k (by rw [hx]; simp)
  · intro hx; exact hk k (by rw [hx]; simp)

/-- What the norm divides by: `x * x` averaged over `n` entries, and a positive number added. -/
noncomputable def den {ι : Type*} [Fintype ι] (n e : ℝ) (x : ι → EReal) : EReal :=
  Ideal.div (∑ k, x k * x k) (n : EReal) + (e : EReal)

theorem div_real (x : EReal) {n : ℝ} (hn : n ≠ 0) : Ideal.div x (n : EReal) = x * ((n⁻¹ : ℝ) : EReal) := by
  unfold Ideal.div
  rw [if_neg (by exact_mod_cast hn), EReal.coe_inv]

theorem den_cases {ι : Type*} [Fintype ι] {n e : ℝ} (hn : 0 < n) (he : 0 < e) (x : ι → EReal) :
    den n e x = ⊤ ∨ ∃ (a : ι → ℝ) (w : ℝ), 0 < w ∧ (x = fun k => (a k : EReal)) ∧ den n e x = (w : EReal) := by
  have hS : (0 : EReal) ≤ ∑ k, x k * x k := Finset.sum_nonneg fun i _ => mul_self_nonneg (x i)
  unfold den
  rw [div_real _ hn.ne']
  by_cases hT : ∑ k, x k * x k = ⊤
  · left
    rw [hT, EReal.top_mul_coe_of_pos (inv_pos.mpr hn), EReal.top_add_coe]
  · right
    obtain ⟨a, rfl⟩ := finite_of_sum x hT
    refine ⟨a, (∑ k, a k * a k) * n⁻¹ + e, ?_, rfl, ?_⟩
    · have : 0 ≤ ∑ k, a k * a k := Finset.sum_nonneg fun i _ => _root_.mul_self_nonneg (a i)
      positivity
    · rw [EReal.coe_add, EReal.coe_mul]
      congr 2
      rw [coe_sum]
      exact Finset.sum_congr rfl fun k _ => (EReal.coe_mul _ _).symm

theorem rsqrt_pos {w : ℝ} (hw : 0 < w) : Ideal.rsqrt (w : EReal) = (((Real.sqrt w)⁻¹ : ℝ) : EReal) := by
  show (if w < 0 then (⊥ : EReal) else if w = 0 then ⊤ else _) = _
  rw [if_neg (not_lt.mpr hw.le), if_neg hw.ne']

/-- The gradient of the norm in the row: the kernel's form on the left, on the right the sum of the two
ways that the row enters the norm — as the factor, and twice through its own mean square. -/
theorem row_grad {ι : Type*} [Fintype ι] {n e h : ℝ} (hn : 0 < n) (he : 0 < e) (hh : h = -(1 / 2))
    (x d : ι → EReal) (j : ι) (v r : EReal) (hv : v = den n e x) (hr : r = Ideal.rsqrt v) (D : EReal)
    (hD : D = Ideal.div ((∑ k, x k * d k) * ((h : EReal) * Ideal.div r v)) (n : EReal)) :
    r * (d j - x j * r * Ideal.div (∑ k, d k * (x k * r)) (n : EReal)) = d j * r + (x j * D + D * x j) := by
  rw [div_real _ hn.ne'] at hD ⊢
  rcases den_cases hn he x with ht | ⟨a, w, hw, rfl, hwv⟩
  · have hr0 : r = 0 := by rw [hr, hv, ht]; rfl
    have hdv : Ideal.div r v = 0 := by
      rw [hr0, hv, ht]; unfold Ideal.div; rw [if_neg (by simp)]; simp
    rw [hdv, mul_zero, mul_zero, zero_mul] at hD
    rw [hD, hr0]; simp
  · rw [hwv] at hv
    have hrr : r = (((Real.sqrt w)⁻¹ : ℝ) : EReal) := by rw [hr, hv, rsqrt_pos hw]
    have hp : 0 < (Real.sqrt w)⁻¹ := inv_pos.mpr (Real.sqrt_pos.mpr hw)
    have hsq : w⁻¹ = (Real.sqrt w)⁻¹ * (Real.sqrt w)⁻¹ := by
      rw [← mul_inv, Real.mul_self_sqrt hw.le]
    generalize (Real.sqrt w)⁻¹ = p at *
    subst hrr
    have hsum : ∑ k, d k * ((a k : EReal) * (p : EReal)) = (∑ k, (a k : EReal) * d k) * (p : EReal) := by
      rw [← sum_mul_nonneg _ _ hp.le]
      exact Finset.sum_congr rfl fun k _ => by rw [mul_comm (a k : EReal) (d k), mul_assoc]
    rw [hsum]
    generalize (∑ k, (a k : EReal) * d k) = S at hD ⊢
    rw [hv, div_real _ hw.ne', hsq] at hD
    have hxD : (a j : EReal) * D = ((a j * (h * (p * (p * p))) * n⁻¹ : ℝ) : EReal) * S := by
      rw [hD]; simp only [EReal.coe_mul]; ac_rfl
    rw [mul_comm D, add_self, hxD, sub_eq_add_neg,
      EReal.left_distrib_of_nonneg_of_ne_top (by exact_mod_cast hp.le) (EReal.coe_ne_top p), mul_comm (p : EReal) (d j)]
    congr 1
    have e1 : ((a j : EReal) * (p : EReal) * (S * (p : EReal) * ((n⁻¹ : ℝ) : EReal)))
        = ((a j * p * (p * n⁻¹) : ℝ) : EReal) * S := by
      simp only [EReal.coe_mul]; ac_rfl
    have e2 : (p : EReal) * -((a j : EReal) * (p : EReal) * (S * (p : EReal) * ((n⁻¹ : ℝ) : EReal)))
        = ((p * -(a j * p * (p * n⁻¹)) : ℝ) : EReal) * S := by
      rw [e1, ← EReal.neg_mul, ← EReal.coe_neg, ← mul_assoc, ← EReal.coe_mul]
    have e3 : ((2 : ℝ) : EReal) * (((a j * (h * (p * (p * p))) * n⁻¹ : ℝ) : EReal) * S)
        = ((2 * (a j * (h * (p * (p * p))) * n⁻¹) : ℝ) : EReal) * S := by
      rw [← mul_assoc, ← EReal.coe_mul]
    refine e2.trans (Eq.trans ?_ e3.symm)
    congr 2
    rw [hh]; ring

/-! ### The norm of a row of 1024 entries, its constants as they are printed -/

theorem width : Ideal.ofBits .f32 0x44800000#32 = ((1024 : ℝ) : EReal) := by
  simp [Ideal.ofBits, Ideal.ieee]; rw [← EReal.coe_mul]; norm_num

theorem half : Ideal.ofBits .f32 0xBF000000#32 = ((-(1 / 2) : ℝ) : EReal) := by
  simp [Ideal.ofBits, Ideal.ieee]; rw [← EReal.coe_mul]; norm_num

theorem eps : ∃ e : ℝ, 0 < e ∧ Ideal.ofBits .f32 0x358637BD#32 = (e : EReal) := by
  refine ⟨8796093 * (2 : ℝ) ^ (-43 : ℤ), by positivity, ?_⟩
  simp [Ideal.ofBits, Ideal.ieee]

/-- The mean square of a row and the small number added to it. -/
noncomputable def meanSq (x : Fin 1024 → EReal) : EReal :=
  Ideal.div (∑ k, x k * x k) (Ideal.ofBits .f32 0x44800000#32) + Ideal.ofBits .f32 0x358637BD#32

/-- What the norm multiplies a row by. -/
noncomputable def inv (x : Fin 1024 → EReal) : EReal := Ideal.rsqrt (meanSq x)

/-- The gradient of the norm in the row, written by hand: `d` is what arrives, already times the norm's gain. -/
noncomputable def grad (x d : Fin 1024 → EReal) (j : Fin 1024) : EReal :=
  inv x * (d j - x j * inv x * Ideal.div (∑ k, d k * (x k * inv x)) (Ideal.ofBits .f32 0x44800000#32))

/-- What differentiating the mean square sends back to every entry of the row. -/
noncomputable def back (x d : Fin 1024 → EReal) : EReal :=
  Ideal.div ((∑ k, x k * d k) * (Ideal.ofBits .f32 0xBF000000#32 * Ideal.div (inv x) (meanSq x)))
    (Ideal.ofBits .f32 0x44800000#32)

theorem grad_eq (x d : Fin 1024 → EReal) (j : Fin 1024) :
    d j * inv x + (x j * back x d + back x d * x j) = grad x d j := by
  obtain ⟨e, he, hb⟩ := eps
  refine (row_grad (n := 1024) (e := e) (h := -(1 / 2)) (by norm_num) he rfl x d j (meanSq x) (inv x) ?_ rfl _ ?_).symm.trans ?_
  · unfold meanSq den; rw [width, hb]
  · unfold back; rw [width, half]
  · unfold grad; rw [width]

end Cert.RowNorm
-- ==== Proof.InBwdReads.lean ====
module
public import proofs.«01_k».proof.Defs
public import proofs.«01_k».proof.Proof.Gen.InBwdIdeal.Value
public import proofs.«01_k».proof.Proof.RowNorm
public import proofs.«01_k».proof.InRefIdeal
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
/-! ## The input projection's gradient: what one grid point reads and writes -/

namespace Cert.InBwdValue
open Cert.InBwdIdeal Cert.InBwdIdeal.Gen
variable (m : (ℓ : Loc nD τ sig) → Buf (Elt Ideal) ℓ) (c : Dev nD) (t : Fin cfg0.N)
set_option quotPrecheck false in
local notation "x₀" => m ((c : Thread nD τ).loc main_arg0)
set_option quotPrecheck false in
local notation "g₀" => m ((c : Thread nD τ).loc main_arg1)
set_option quotPrecheck false in
local notation "w₀" => m ((c : Thread nD τ).loc main_arg2)
set_option quotPrecheck false in
local notation "z₀" => m ((c : Thread nD τ).loc main_arg3)
set_option quotPrecheck false in
local notation "o₀" => m ((c : Thread nD τ).loc main_arg4)
set_option quotPrecheck false in
/-- The gradient that arrives at the norm, at a grid point. -/
local notation "dh₀" => k0_pay6 (F := Ideal) (iblk m c 0 t) (iblk m c 1 t) (iblk m c 2 t) (iblk m c 3 t) (iblk m c 4 t) (iblk m c 5 t) (iblk m c 6 t)
  (iblk m c 7 t) (iblk m c 8 t) (iblk m c 9 t) (iblk m c 13 t)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![0, 0] ∧ win0_13.index t = ![0, 0] ∧ win0_14.index t = ![t.val, 0]
    ∧ win0_15.index t = ![0, 0] := (by decide +kernel : ∀ t : Fin grid0.N, _)

/-- What arrives at the norm: the gradient of the projection's result times the projection's transpose. -/
def arriving (w : FVec Ideal Cert.InRefIdeal.S1x1024x2560 .f32) (dz : FVec Ideal Cert.InRefIdeal.S1x8192x2560 .f32) (s : Fin 8192) (j : Fin 1024) : EReal :=
  ∑ k : Fin 2560, dz (ix3 0 s k) * w (ix3 0 j k)

/-- The gradient in the row that enters the norm, with what the residual brings. -/
def dxOf (x : FVec Ideal Cert.InRefIdeal.S1x8192x1024 .f32) (g : FVec Ideal Cert.InRefIdeal.S1x1024 .f32) (w : FVec Ideal Cert.InRefIdeal.S1x1024x2560 .f32)
    (dz : FVec Ideal Cert.InRefIdeal.S1x8192x2560 .f32) (dxo : FVec Ideal Cert.InRefIdeal.S1x8192x1024 .f32) (s : Fin 8192) (j : Fin 1024) : EReal :=
  dxo (ix3 0 s j) + RowNorm.grad (fun k => x (ix3 0 s k)) (fun k => arriving w dz s k * g (ix2 0 k)) j

/-- What one row adds to the gradient in the norm's gain. -/
def dgTerm (x : FVec Ideal Cert.InRefIdeal.S1x8192x1024 .f32) (w : FVec Ideal Cert.InRefIdeal.S1x1024x2560 .f32)
    (dz : FVec Ideal Cert.InRefIdeal.S1x8192x2560 .f32) (s : Fin 8192) (j : Fin 1024) : EReal :=
  arriving w dz s j * (x (ix3 0 s j) * RowNorm.inv (fun k => x (ix3 0 s k)))

/-- The gradient in the norm's gain. -/
def dgOf (x : FVec Ideal Cert.InRefIdeal.S1x8192x1024 .f32) (w : FVec Ideal Cert.InRefIdeal.S1x1024x2560 .f32)
    (dz : FVec Ideal Cert.InRefIdeal.S1x8192x2560 .f32) (j : Fin 1024) : EReal :=
  ∑ s : Fin 8192, dgTerm x w dz s j

/-- The row of the arrays that row `r` of the blocks of grid point `t` is. -/
def row (r : Fin 512) : Fin 8192 := ⟨t.val * 512 + r.val, by have := lt_of_lt_of_eq t.isLt N_0; omega⟩

theorem x_read (r : Fin 512) (j : Fin 1024) :
    iblk m c 10 t (ix2 r j) = x₀ (ix3 0 (row t r) j) := by
  blk_simp [iblk]
  entry_read
  pointwise
  blk_point [row, idx t]

theorem dxo_read (r : Fin 512) (j : Fin 1024) :
    iblk m c 11 t (ix2 r j) = o₀ (ix3 0 (row t r) j) := by
  blk_simp [iblk]
  entry_read
  pointwise
  blk_point [row, idx t]

theorem g_read (j : Fin 1024) :
    iblk m c 12 t (ix2 0 j) = g₀ (ix2 0 j) := by
  blk_simp [iblk]
  entry_read
  blk_point [idx t]

theorem w_read (r : Fin 2560) (j : Fin 1024) :
    iblk m c 13 t (ix2 r j) = w₀ (ix3 0 j r) := by
  blk_simp [iblk]
  entry_read
  pointwise
  blk_point [row, idx t]

set_option maxHeartbeats 2000000 in
/-- The ten operands of the concatenation are the ten bands of columns of the gradient that arrives. -/
theorem part_read (r : Fin 512) (j : Fin 256) :
    iblk m c 0 t (ix2 r j) = z₀ (ix3 0 (row t r) ⟨256 * 0 + j.val, by omega⟩)
    ∧ iblk m c 1 t (ix2 r j) = z₀ (ix3 0 (row t r) ⟨256 * 1 + j.val, by omega⟩)
    ∧ iblk m c 2 t (ix2 r j) = z₀ (ix3 0 (row t r) ⟨256 * 2 + j.val, by omega⟩)
    ∧ iblk m c 3 t (ix2 r j) = z₀ (ix3 0 (row t r) ⟨256 * 3 + j.val, by omega⟩)
    ∧ iblk m c 4 t (ix2 r j) = z₀ (ix3 0 (row t r) ⟨256 * 4 + j.val, by omega⟩)
    ∧ iblk m c 5 t (ix2 r j) = z₀ (ix3 0 (row t r) ⟨256 * 5 + j.val, by omega⟩)
    ∧ iblk m c 6 t (ix2 r j) = z₀ (ix3 0 (row t r) ⟨256 * 6 + j.val, by omega⟩)
    ∧ iblk m c 7 t (ix2 r j) = z₀ (ix3 0 (row t r) ⟨256 * 7 + j.val, by omega⟩)
    ∧ iblk m c 8 t (ix2 r j) = z₀ (ix3 0 (row t r) ⟨256 * 8 + j.val, by omega⟩)
    ∧ iblk m c 9 t (ix2 r j) = z₀ (ix3 0 (row t r) ⟨256 * 9 + j.val, by omega⟩) := by
  refine ⟨?_, ?_, ?_, ?_, ?_, ?_, ?_, ?_, ?_, ?_⟩ <;>
  · blk_simp [iblk]
    entry_read
    pointwise
    blk_point [row, idx t]

/-- A function on ten bands of 256, read band by band. -/
theorem ladder (f0 f1 f2 f3 f4 f5 f6 f7 f8 f9 : Fin 256 → EReal) (F : Fin 2560 → EReal)
    (h0 : ∀ j, f0 j = F ⟨256 * 0 + j.val, by omega⟩) (h1 : ∀ j, f1 j = F ⟨256 * 1 + j.val, by omega⟩) (h2 : ∀ j, f2 j = F ⟨256 * 2 + j.val, by omega⟩) (h3 : ∀ j, f3 j = F ⟨256 * 3 + j.val, by omega⟩) (h4 : ∀ j, f4 j = F ⟨256 * 4 + j.val, by omega⟩) (h5 : ∀ j, f5 j = F ⟨256 * 5 + j.val, by omega⟩) (h6 : ∀ j, f6 j = F ⟨256 * 6 + j.val, by omega⟩) (h7 : ∀ j, f7 j = F ⟨256 * 7 + j.val, by omega⟩) (h8 : ∀ j, f8 j = F ⟨256 * 8 + j.val, by omega⟩) (h9 : ∀ j, f9 j = F ⟨256 * 9 + j.val, by omega⟩) (k : Fin 2560) :
    (if h : k.val < 256 then f0 ⟨k.val, h⟩ else if h : k.val - 256 < 256 then f1 ⟨k.val - 256, h⟩ else if h : k.val - 256 - 256 < 256 then f2 ⟨k.val - 256 - 256, h⟩ else if h : k.val - 256 - 256 - 256 < 256 then f3 ⟨k.val - 256 - 256 - 256, h⟩ else if h : k.val - 256 - 256 - 256 - 256 < 256 then f4 ⟨k.val - 256 - 256 - 256 - 256, h⟩ else if h : k.val - 256 - 256 - 256 - 256 - 256 < 256 then f5 ⟨k.val - 256 - 256 - 256 - 256 - 256, h⟩ else if h : k.val - 256 - 256 - 256 - 256 - 256 - 256 < 256 then f6 ⟨k.val - 256 - 256 - 256 - 256 - 256 - 256, h⟩ else if h : k.val - 256 - 256 - 256 - 256 - 256 - 256 - 256 < 256 then f7 ⟨k.val - 256 - 256 - 256 - 256 - 256 - 256 - 256, h⟩ else if h : k.val - 256 - 256 - 256 - 256 - 256 - 256 - 256 - 256 < 256 then f8 ⟨k.val - 256 - 256 - 256 - 256 - 256 - 256 - 256 - 256, h⟩ else f9 ⟨k.val - 256 - 256 - 256 - 256 - 256 - 256 - 256 - 256 - 256, by omega⟩) = F k := by
  split_ifs <;> (simp only [h0, h1, h2, h3, h4, h5, h6, h7, h8, h9]; congr 1; apply Fin.ext; dsimp only; omega)

theorem dh_at (r : Fin 512) (j : Fin 1024) :
    dh₀ (ix2 r j)
    = arriving w₀ z₀ (row t r) j := by
  pointwise [k0_pay6, arriving]
  refine Finset.sum_congr rfl fun k _ => ?_
  rw [w_read]
  refine congrArg (· * _) ?_
  have h := fun j => part_read m c t r j
  exact ladder _ _ _ _ _ _ _ _ _ _ (fun k => z₀ (ix3 0 (row t r) k)) (fun j => (h j).1) (fun j => (h j).2.1)
    (fun j => (h j).2.2.1) (fun j => (h j).2.2.2.1) (fun j => (h j).2.2.2.2.1) (fun j => (h j).2.2.2.2.2.1) (fun j => (h j).2.2.2.2.2.2.1)
    (fun j => (h j).2.2.2.2.2.2.2.1) (fun j => (h j).2.2.2.2.2.2.2.2.1) (fun j => (h j).2.2.2.2.2.2.2.2.2) k

/-- What the grid point adds to a row: the gradient of the norm. -/
theorem dx_at (r : Fin 512) (j : Fin 1024) :
    k0_pay3 (F := Ideal) dh₀ (k0_pay7 (iblk m c 10 t)) (k0_pay8 (iblk m c 10 t)) (FloatOps.ofBits .f32 0x358637BD#32)
      (iblk m c 12 t) (iblk m c 11 t) (ix2 r j)
    = dxOf x₀ g₀ w₀
      z₀ o₀ (row t r) j := by
  pointwise [k0_pay3, k0_pay1, k0_pay2, k0_pay7, k0_pay8]
  simp only [dh_at, x_read, dxo_read, g_read]
  rfl

end Cert.InBwdValue
-- ==== Proof.UnitSum.lean ====
module

public import Idealize.ShloMosaic.Lib.Pointwise

@[expose] public section

/-! A host sum whose summed axes have one element each is the one element. -/

namespace Cert.UnitSum

open Idealize.ShloMosaic

/-- A sum with one index that drops to `j`. -/
theorem host_sum_one {s t : Shape} {axes : List (Fin s.rank)} (h : s.ReducesTo axes t) (v : s.Idx → EReal) (init : EReal)
    (j : t.Idx) (i : s.Idx) (hi : ∀ k, h.drop k = j ↔ k = i) : Ideal.hostReduceAdd h v init j = init + v i := by
  show init + ∑ k ∈ Finset.univ.filter (fun k => h.drop k = j), v k = _
  rw [show Finset.univ.filter (fun k => h.drop k = j) = {i} from Finset.ext fun k => by simp [hi k], Finset.sum_singleton]

@[pointwise] theorem sum_first_last {n : Nat} (h : (⟨3, ![1, n, 1]⟩ : Shape).ReducesTo [0, 2] ⟨1, ![n]⟩)
    (v : (⟨3, ![1, n, 1]⟩ : Shape).Idx → EReal) (init : EReal) (j : (⟨1, ![n]⟩ : Shape).Idx) :
    Ideal.hostReduceAdd h v init j = init + v (ix3 0 ⟨(j 0).val, (j 0).isLt⟩ 0) := by
  refine host_sum_one h v init j _ fun k => ⟨fun e => ?_, ?_⟩
  · funext a; apply Fin.ext
    match a with
    | ⟨0, _⟩ => have h0 : (k 0).val < 1 := (k 0).isLt
                show (k 0).val = 0; omega
    | ⟨1, _⟩ => exact congrArg Fin.val (congrFun e 0)
    | ⟨2, _⟩ => have h0 : (k 2).val < 1 := (k 2).isLt
                show (k 2).val = 0; omega
  · rintro rfl
    funext a; apply Fin.ext
    match a with
    | ⟨0, _⟩ => rfl

@[pointwise] theorem sum_first_two {n : Nat} (h : (⟨3, ![1, 1, n]⟩ : Shape).ReducesTo [0, 1] ⟨1, ![n]⟩)
    (v : (⟨3, ![1, 1, n]⟩ : Shape).Idx → EReal) (init : EReal) (j : (⟨1, ![n]⟩ : Shape).Idx) :
    Ideal.hostReduceAdd h v init j = init + v (ix3 0 0 ⟨(j 0).val, (j 0).isLt⟩) := by
  refine host_sum_one h v init j _ fun k => ⟨fun e => ?_, ?_⟩
  · funext a; apply Fin.ext
    match a with
    | ⟨0, _⟩ => have h0 : (k 0).val < 1 := (k 0).isLt
                show (k 0).val = 0; omega
    | ⟨1, _⟩ => have h0 : (k 1).val < 1 := (k 1).isLt
                show (k 1).val = 0; omega
    | ⟨2, _⟩ => exact congrArg Fin.val (congrFun e 0)
  · rintro rfl
    funext a; apply Fin.ext
    match a with
    | ⟨0, _⟩ => rfl

end Cert.UnitSum
-- ==== Proof.InBwdValue.lean ====
module
public import proofs.«01_k».proof.Defs
public import proofs.«01_k».proof.Proof.Gen.InBwd.Frame
public import proofs.«01_k».proof.Proof.Gen.InBwdIdeal.Value
public import proofs.«01_k».proof.Proof.InBwdReads
public import proofs.«01_k».proof.Proof.UnitSum
public import Idealize.ShloMosaic.Lib.Quiescent
public import proofs.«01_k».proof.Proof.Gen.InRefIdeal.Run
public import proofs.«01_k».proof.Proof.Gen.InRefIdeal.Read
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
/-! ## The input projection's gradient: the arrays after the run, and the reference -/

namespace Cert.InBwdValue
open Cert.InBwdIdeal Cert.InBwdIdeal.Gen
variable (m : (ℓ : Loc nD τ sig) → Buf (Elt Ideal) ℓ) (c : Dev nD) (t : Fin cfg0.N)
set_option quotPrecheck false in
local notation "x₀" => m ((c : Thread nD τ).loc main_arg0)
set_option quotPrecheck false in
local notation "g₀" => m ((c : Thread nD τ).loc main_arg1)
set_option quotPrecheck false in
local notation "w₀" => m ((c : Thread nD τ).loc main_arg2)
set_option quotPrecheck false in
local notation "z₀" => m ((c : Thread nD τ).loc main_arg3)
set_option quotPrecheck false in
local notation "o₀" => m ((c : Thread nD τ).loc main_arg4)
set_option quotPrecheck false in
/-- The gradient that arrives at the norm, at a grid point. -/
local notation "dh₀" => k0_pay6 (F := Ideal) (iblk m c 0 t) (iblk m c 1 t) (iblk m c 2 t) (iblk m c 3 t) (iblk m c 4 t) (iblk m c 5 t) (iblk m c 6 t)
  (iblk m c 7 t) (iblk m c 8 t) (iblk m c 9 t) (iblk m c 13 t)

/-- The part of the gain's gradient that one grid point adds, over what was there. -/
theorem dg_at (v : FVec Ideal S1x1024 .f32) (j : Fin 1024) :
    k0_pay5 (F := Ideal) dh₀ (k0_pay7 (iblk m c 10 t)) (k0_pay8 (iblk m c 10 t)) (FloatOps.ofBits .f32 0x358637BD#32) v (ix2 0 j)
    = v (ix2 0 j) + ∑ r : Fin 512, dgTerm x₀ w₀
      z₀ (row t r) j := by
  pointwise [k0_pay5, k0_pay1, k0_pay2, k0_pay7, k0_pay8]
  simp only [dh_at, x_read]
  rfl

theorem zero_at (j : S1x1024.Idx) : k0_pay4 (F := Ideal) j = 0 := by
  pointwise [k0_pay4]

theorem final14 : (dats m 0 c).arrAt 14 cfg0.N = fun i : S8192x1024.Idx =>
    dxOf x₀ g₀ w₀
      z₀ o₀ (i 0) (i 1) := by
  refine (dats m 0 c).arrAt_eq_of_covers 14 _ (by decide +kernel) fun t hf y => ?_
  blk_simp
  rw [after0_14]
  obtain ⟨r, j, rfl⟩ : ∃ (r : Fin 512) (j : Fin 1024), y = ix2 r j := ⟨y 0, y 1, eq_ix2 y⟩
  have e0 : (((cfg0.win 14).blk t).view.emb (ix2 r j)) 0 = row t r := by
    apply Fin.ext; blk_simp [idx t, row]
  have e1 : (((cfg0.win 14).blk t).view.emb (ix2 r j)) 1 = j := by
    apply Fin.ext; blk_simp [idx t]
  refine Eq.trans ?_ (congrArg₂ (dxOf _ _ _ _ _) e0.symm e1.symm)
  by_cases h : t.val % 16 = 0
  · rw [outsAt0_A m c t h]
    frame_out
    exact dx_at m c t r j
  · rw [outsAt0_B m c t h]
    frame_out
    exact dx_at m c t r j

theorem final15 : (dats m 0 c).arrAt 15 cfg0.N = fun i : S1x1024.Idx =>
    dgOf x₀ w₀ z₀ (i 1) := by
  refine (dats m 0 c).arrAt_eq_of_after_last 15 t0_15 (by decide +kernel) _ fun y => ?_
  blk_simp
  obtain ⟨z, j, rfl⟩ : ∃ (z : Fin 1) (j : Fin 1024), y = ix2 z j := ⟨y 0, y 1, eq_ix2 y⟩
  obtain rfl : z = 0 := Subsingleton.elim _ _
  rw [after0_15, Pipeline.eq_sum_fin_of_reset_step_apply_last (fun n h => (outsAt0 m c n h).2) 16 (fun _ => 0)
    (fun t y => ∑ r : Fin 512, dgTerm x₀ w₀ z₀ (row t r) (y 1))
    (fun t h y => by
      obtain ⟨z, j, rfl⟩ : ∃ (z : Fin 1) (j : Fin 1024), y = ix2 z j := ⟨y 0, y 1, eq_ix2 y⟩
      obtain rfl : z = 0 := Subsingleton.elim _ _
      rw [outsAt0_A m c t h]; frame_out; rw [dg_at, zero_at]; rfl)
    (fun t h y => by
      obtain ⟨z, j, rfl⟩ : ∃ (z : Fin 1) (j : Fin 1024), y = ix2 z j := ⟨y 0, y 1, eq_ix2 y⟩
      obtain rfl : z = 0 := Subsingleton.elim _ _
      rw [outsAt0_B m c t h]; frame_out; rw [dg_at]; rfl)
    (le_of_eq N_0) t0_15 rfl, zero_add]
  exact (Fin.sum_univ_tiles (M := EReal) cfg0.N 512 (show cfg0.N * 512 = 8192 by rw [show cfg0.N = 16 from N_0])
    (fun s => dgTerm x₀ w₀ z₀ s j)).symm

/-! ### The reference -/

section
open Cert.InRefIdeal.Read
variable (x : FVec Ideal Cert.InRefIdeal.S1x8192x1024 .f32) (g : FVec Ideal Cert.InRefIdeal.S1x1024 .f32)
  (w : FVec Ideal Cert.InRefIdeal.S1x1024x2560 .f32) (dz : FVec Ideal Cert.InRefIdeal.S1x8192x2560 .f32)
  (dxo : FVec Ideal Cert.InRefIdeal.S1x8192x1024 .f32)

theorem ref_meanSq (s : Fin 8192) : val_main_v7 (F := Ideal) x (ix3 0 s 0) = RowNorm.meanSq fun k => x (ix3 0 s k) := by
  pointwise [val_main_v7, val_main_v6, val_main_v5, val_main_v4, val_main_v3, val_main_v2, val_main_v1, val_main_cst, val_main_cst_0,
    val_main_cst_1]
  rfl

theorem ref_inv (s : Fin 8192) : val_main_v8 (F := Ideal) x (ix3 0 s 0) = RowNorm.inv fun k => x (ix3 0 s k) := by
  pointwise [val_main_v8]
  rw [ref_meanSq]; rfl

theorem ref_arriving (s : Fin 8192) (j : Fin 1024) : val_main_v19 (F := Ideal) w dz (ix3 0 s j) = arriving w dz s j := by
  pointwise [val_main_v19, val_main_v17]
  rfl

theorem ref_dg (j : Fin 1024) : val_main_v42 (F := Ideal) x w dz (ix2 0 j) = dgOf x w dz j := by
  pointwise [val_main_v42, val_main_v25, val_main_v22, val_main_v21, val_main_v20, val_main_v13, val_main_v12, val_main_cst_3, val_main_cst_4]
  refine Finset.sum_congr rfl fun s _ => ?_
  rw [ref_inv, ref_arriving, mul_comm]; rfl

theorem ref_dx (s : Fin 8192) (j : Fin 1024) : val_main_v43 (F := Ideal) x g w dz dxo (ix2 s j) = dxOf x g w dz dxo s j := by
  pointwise [val_main_v43, val_main_v41, val_main_v39, val_main_v40, val_main_v38, val_main_v37, val_main_v36, val_main_v35,
    val_main_v34, val_main_v33, val_main_v32, val_main_v31, val_main_v30, val_main_v29, val_main_v28, val_main_v27, val_main_v26, val_main_v24,
    val_main_v23, val_main_v14, val_main_v0, val_main_v11, val_main_v10, val_main_v9, val_main_cst_2, val_main_cst_5, val_main_cst_6, val_main_cst_7]
  simp only [ref_meanSq, ref_inv, ref_arriving]
  unfold dxOf
  rw [← RowNorm.grad_eq, add_assoc, add_assoc]
  rfl

end

end Cert.InBwdValue

namespace Cert.InBwdClaims

theorem frame_ref : Cert.quiescent_InRefIdeal := by
  intro m g _
  exact (θ_run _ _ _).mono (fun r h => ⟨fun c => (h c).2.2, sem_eq_zero_of_no_sems rfl _⟩) (Cert.InRefIdeal.Value.run m g)

theorem algebraic : Cert.algebraic_InBwdIdeal_InRefIdeal := by
  pair_intro
  · run_from Cert.InBwdIdeal.Value.run_blocks m g
  · run_from Cert.InRefIdeal.Value.run m' g'
    · rw [Cert.InRefIdeal.Read.val_main_v43_eq, (hagree c).1, (hagree c).2.1, (hagree c).2.2.1, (hagree c).2.2.2.1, (hagree c).2.2.2.2,
        InBwdValue.final14]
      funext i
      rw [eq_ix2 i]
      exact InBwdValue.ref_dx _ _ _ _ _ _ _
    · rw [Cert.InRefIdeal.Read.val_main_v42_eq, InBwdValue.final15]
      funext i
      obtain ⟨z, j, rfl⟩ : ∃ (z : Fin 1) (j : Fin 1024), i = ix2 z j := ⟨i 0, i 1, eq_ix2 i⟩
      obtain rfl : z = 0 := Subsingleton.elim _ _
      exact InBwdValue.ref_dg _ _ _ _

end Cert.InBwdClaims
-- ==== Proof.InFwdValue.lean ====
module
public import proofs.«01_k».proof.Defs
public import proofs.«01_k».proof.Proof.Gen.InFwdIdeal.Value
public import proofs.«01_k».proof.Proof.RowNorm
public import proofs.«01_k».proof.Proof.Gen.InFwdRefIdeal.Read
public import Idealize.ShloMosaic.Lib.Quiescent
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
/-! ## The mixer's norm and input projection: what each grid point writes, the arrays after the run, and the reference -/

namespace Cert.InFwdValue
open Cert.InFwdIdeal Cert.InFwdIdeal.Gen

section Spec
variable (x : FVec Ideal S1x8192x1024 .f32) (g : FVec Ideal S1x1024 .f32) (w : FVec Ideal S1x1024x2560 .f32)

/-- The normed row. -/
def normed (s : Fin 8192) (k : Fin 1024) : EReal := x (ix3 0 s k) * RowNorm.inv (fun k => x (ix3 0 s k)) * g (ix2 0 k)

/-- Its projection. -/
def proj (s : Fin 8192) (n : Fin 2560) : EReal := ∑ k : Fin 1024, normed x g s k * w (ix3 0 k n)

/-- Band `q` of 256 columns of the projection; the three bands of the queries (1, 2, 3) are scaled. -/
def part (q : Fin 10) (s : Fin 8192) (j : Fin 256) : EReal :=
  if 1 ≤ q ∧ q ≤ 3 then proj x g w s ⟨256 * q.val + j.val, by omega⟩ * Ideal.ofBits .f32 0x3E000000#32
  else proj x g w s ⟨256 * q.val + j.val, by omega⟩

/-- The band as an array. -/
def arr (q : Fin 10) : FVec Ideal S8192x256 .f32 := fun i => part x g w q (i 0) (i 1)

variable {x g w} {q : Fin 10} {s : Fin 8192} {j : Fin 256} {n : Fin 2560}

theorem plain (hq : ¬(1 ≤ q ∧ q ≤ 3)) (hn : n.val = 256 * q.val + j.val) : proj x g w s n = part x g w q s j := by
  rw [part, if_neg hq]; exact congrArg _ (Fin.ext hn)

theorem scaled (hq : 1 ≤ q ∧ q ≤ 3) (hn : n.val = 256 * q.val + j.val) :
    proj x g w s n * Ideal.ofBits .f32 0x3E000000#32 = part x g w q s j := by
  rw [part, if_pos hq]; exact congrArg (proj x g w s · * _) (Fin.ext hn)
end Spec

variable (m : (ℓ : Loc nD τ sig) → Buf (Elt Ideal) ℓ) (c : Dev nD) (t : Fin cfg0.N)

set_option quotPrecheck false in
local notation "x₀" => m ((c : Thread nD τ).loc main_arg0)
set_option quotPrecheck false in
local notation "g₀" => m ((c : Thread nD τ).loc main_arg1)
set_option quotPrecheck false in
local notation "w₀" => m ((c : Thread nD τ).loc main_arg2)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] := (by decide +kernel : ∀ t : Fin grid0.N, _)

/-- The row of the arrays that row `r` of the blocks of grid point `t` is. -/
def row (r : Fin 1024) : Fin 8192 := ⟨t.val * 1024 + r.val, by have := lt_of_lt_of_eq t.isLt N_0; omega⟩

theorem x_read (r j : Fin 1024) : iblk m c 0 t (ix2 r j) = x₀ (ix3 0 (row t r) j) := by
  blk_simp [iblk]
  entry_read
  pointwise
  blk_point [row, idx t]

theorem g_read (j : Fin 1024) : iblk m c 1 t (ix2 0 j) = g₀ (ix2 0 j) := by
  blk_simp [iblk]
  entry_read
  blk_point [idx t]

theorem w_read (r : Fin 2560) (j : Fin 1024) : iblk m c 2 t (ix2 r j) = w₀ (ix3 0 j r) := by
  blk_simp [iblk]
  entry_read
  pointwise
  blk_point [row, idx t]

theorem normed_at (r k : Fin 1024) : k0_pay7 (F := Ideal) (iblk m c 0 t) (iblk m c 1 t) (ix2 r k) = normed x₀ g₀ (row t r) k := by
  pointwise [k0_pay7]
  simp only [x_read, g_read]
  rfl

theorem proj_at (r : Fin 1024) (n : Fin 2560) :
    k0_pay8 (F := Ideal) (iblk m c 0 t) (iblk m c 1 t) (iblk m c 2 t) (ix2 r n) = proj x₀ g₀ w₀ (row t r) n := by
  pointwise [k0_pay8]
  simp only [normed_at, w_read]
  rfl

theorem proj_at' (r : Fin 1024) (n : Fin 2560) :
    k0_pay13 (F := Ideal) (iblk m c 0 t) (iblk m c 1 t) (iblk m c 2 t) (ix2 r n) = proj x₀ g₀ w₀ (row t r) n := by
  have h0 : ![0, 0] = fun _ : Fin 2 => 0 := by funext a; fin_cases a <;> rfl
  unfold k0_pay13 r0_0 r0_1 r0_2
  rw [View.ld_unit_zero (S := S1024x1024) h0, View.ld_unit_zero (S := S1x1024) h0, View.ld_unit_zero (S := S2560x1024) h0]
  exact proj_at m c t r n

/-- The normed rows. -/
theorem final3 : (dats m 0 c).arrAt 3 cfg0.N = fun i : S8192x1024.Idx => normed x₀ g₀ (i 0) (i 1) := by
  refine (dats m 0 c).arrAt_eq_of_covers 3 _ (by decide +kernel) fun t hf y => ?_
  blk_simp
  rw [after0_3]
  obtain ⟨r, j, rfl⟩ : ∃ (r : Fin 1024) (j : Fin 1024), y = ix2 r j := ⟨y 0, y 1, eq_ix2 y⟩
  have e0 : (((cfg0.win 3).blk t).view.emb (ix2 r j)) 0 = row t r := by
    apply Fin.ext; blk_simp [idx t, row]
  have e1 : (((cfg0.win 3).blk t).view.emb (ix2 r j)) 1 = j := by
    apply Fin.ext; blk_simp [idx t]
  refine Eq.trans ?_ (congrArg₂ (normed _ _) e0.symm e1.symm)
  frame_out
  exact normed_at m c t r j

set_option maxHeartbeats 2000000 in
/-- The pooled band and the nine parts. -/
theorem parts : (dats m 0 c).arrAt 4 cfg0.N = arr x₀ g₀ w₀ 0 ∧ (dats m 0 c).arrAt 5 cfg0.N = arr x₀ g₀ w₀ 1
    ∧ (dats m 0 c).arrAt 6 cfg0.N = arr x₀ g₀ w₀ 2 ∧ (dats m 0 c).arrAt 7 cfg0.N = arr x₀ g₀ w₀ 3
    ∧ (dats m 0 c).arrAt 8 cfg0.N = arr x₀ g₀ w₀ 4 ∧ (dats m 0 c).arrAt 9 cfg0.N = arr x₀ g₀ w₀ 5
    ∧ (dats m 0 c).arrAt 10 cfg0.N = arr x₀ g₀ w₀ 6 ∧ (dats m 0 c).arrAt 11 cfg0.N = arr x₀ g₀ w₀ 7
    ∧ (dats m 0 c).arrAt 12 cfg0.N = arr x₀ g₀ w₀ 8 ∧ (dats m 0 c).arrAt 13 cfg0.N = arr x₀ g₀ w₀ 9 := by
  refine ⟨?_, ?_, ?_, ?_, ?_, ?_, ?_, ?_, ?_, ?_⟩ <;>
  · refine (dats m 0 c).arrAt_eq_of_covers _ _ (by decide +kernel) fun t hf y => ?_
    blk_simp
    simp only [after0_4, after0_5, after0_6, after0_7, after0_8, after0_9, after0_10, after0_11, after0_12, after0_13]
    obtain ⟨r, j, rfl⟩ : ∃ (r : Fin 1024) (j : Fin 256), y = ix2 r j := ⟨y 0, y 1, eq_ix2 y⟩
    refine Eq.trans (b := part x₀ g₀ w₀ _ (row t r) j) ?_ (congrArg₂ _ (Fin.ext ?_) (Fin.ext ?_))
    · frame_out
      pointwise [k0_pay1, k0_pay2, k0_pay3, k0_pay4, k0_pay5, k0_pay6, k0_pay9, k0_pay10, k0_pay11, k0_pay12]
      first
      | rw [proj_at]
      | rw [proj_at']
      first
      | exact plain (by decide) (by dsimp only; omega)
      | exact scaled (by decide) (by dsimp only; omega)
    · blk_simp [idx t, row]
    · blk_simp [idx t]

/-! ### The reference -/

section Ref
open Cert.InFwdRefIdeal.Read
variable (x : FVec Ideal S1x8192x1024 .f32) (g : FVec Ideal S1x1024 .f32) (w : FVec Ideal S1x1024x2560 .f32)

theorem ref_normed (s : Fin 8192) (k : Fin 1024) : val_main_v13 (F := Ideal) x g (ix3 0 s k) = normed x g s k := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem ref_proj (s : Fin 8192) (n : Fin 2560) : val_main_v15 (F := Ideal) x g w (ix3 0 s n) = proj x g w s n := by
  pointwise [val_main_v15, val_main_v14]
  simp only [ref_normed]
  rfl

theorem ref_h : val_main_v49 (F := Ideal) x g = fun i => normed x g (i 0) (i 1) := by
  funext i
  obtain ⟨s, k, rfl⟩ : ∃ (s : Fin 8192) (k : Fin 1024), i = ix2 s k := ⟨i 0, i 1, eq_ix2 i⟩
  pointwise [val_main_v49, val_main_v48]
  exact ref_normed x g s k

/-- The reference's pooled band and nine parts. -/
theorem ref_parts : val_main_v50 (F := Ideal) x g w = arr x g w 0
    ∧ val_main_v29 (F := Ideal) x g w = arr x g w 1 ∧ val_main_v31 (F := Ideal) x g w = arr x g w 2
    ∧ val_main_v33 (F := Ideal) x g w = arr x g w 3 ∧ val_main_v36 (F := Ideal) x g w = arr x g w 4
    ∧ val_main_v38 (F := Ideal) x g w = arr x g w 5 ∧ val_main_v40 (F := Ideal) x g w = arr x g w 6
    ∧ val_main_v43 (F := Ideal) x g w = arr x g w 7 ∧ val_main_v45 (F := Ideal) x g w = arr x g w 8
    ∧ val_main_v47 (F := Ideal) x g w = arr x g w 9 := by
  refine ⟨?_, ?_, ?_, ?_, ?_, ?_, ?_, ?_, ?_, ?_⟩ <;>
  · funext i
    obtain ⟨s, j, rfl⟩ : ∃ (s : Fin 8192) (j : Fin 256), i = ix2 s j := ⟨i 0, i 1, eq_ix2 i⟩
    show _ = part x g w _ s j
    pointwise [val_main_v50, val_main_v47, val_main_v46, val_main_v45, val_main_v44, val_main_v43, val_main_v42, val_main_v41, val_main_v40,
      val_main_v39, val_main_v38, val_main_v37, val_main_v36, val_main_v35, val_main_v34, val_main_v33, val_main_v32, val_main_v31, val_main_v30,
      val_main_v29, val_main_v28, val_main_v27, val_main_v26, val_main_v25, val_main_v24, val_main_v23, val_main_v22, val_main_v21, val_main_v20,
      val_main_v19, val_main_v18, val_main_v17, val_main_v16, val_main_cst_2]
    rw [ref_proj]
    first
    | exact plain (by decide) (by dsimp only; omega)
    | exact scaled (by decide) (by dsimp only; omega)
end Ref

end Cert.InFwdValue

namespace Cert.InFwdClaims
open Cert.InFwdRefIdeal.Read

theorem frame_ref : Cert.quiescent_InFwdRefIdeal := by
  intro m g _
  exact (θ_run _ _ _).mono (fun r h => ⟨fun c => (h c).2.2.2.2.2.2.2.2.2.2.2, sem_eq_zero_of_no_sems rfl _⟩) (Cert.InFwdRefIdeal.Value.run m g)

theorem algebraic : Cert.algebraic_InFwdIdeal_InFwdRefIdeal := by
  pair_intro
  · run_from Cert.InFwdIdeal.Value.run_blocks m g
  · run_from Cert.InFwdRefIdeal.Value.run m' g' <;>
    · first
      | rw [val_main_v49_eq]
      | rw [val_main_v50_eq]
      | rw [val_main_v29_eq]
      | rw [val_main_v31_eq]
      | rw [val_main_v33_eq]
      | rw [val_main_v36_eq]
      | rw [val_main_v38_eq]
      | rw [val_main_v40_eq]
      | rw [val_main_v43_eq]
      | rw [val_main_v45_eq]
      | rw [val_main_v47_eq]
      simp only [hagree c, InFwdValue.final3, InFwdValue.parts, InFwdValue.ref_h, InFwdValue.ref_parts]

end Cert.InFwdClaims
-- ==== Proof.AttnFwdRun.lean ====
/- The forward attention call run on its own: what each of its results holds when it is done, whatever the buffers held before. -/
module

public import proofs.«01_k».proof.Proof.Gen.Attn1Ideal.Launch
public import proofs.«01_k».proof.Proof.Gen.Attn1Ideal.Skeleton
public import proofs.«01_k».proof.Proof.Gen.Attn1Ideal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Gen.Attn1Ideal.Loops

@[expose] public section

set_option maxRecDepth 16384

noncomputable section

namespace Cert.AttnRun

open Cert.Attn1Ideal Cert.Attn1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b)) (c : Dev nD)

local notation "own(" m ", " d ")" => owns (c : Thread nD τ) m fullShare d
local notation "some(" m ")" => iprop(∃ d, owns (c : Thread nD τ) m fullShare d)
set_option quotPrecheck false in
local notation "held(" b ")" => iprop(∃ f : Buf (Elt F) ((c : Thread nD τ).loc b), ((c : Thread nD τ).loc b) ↦{fullShare} f)
set_option quotPrecheck false in
local notation "wrote(" a ", " L ")" => iprop(∃ f, (Memref.view a).loc (c : Thread nD τ) ↦[(Memref.view a).set]{fullShare} (Memref.view a).writes (Elt F) f L)

/-- A window's block at a point of the forward call's grid, read off its array. -/
def fwdTile (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first point of a group of heads, where the bias is made. -/
abbrev fwdFirst (i : grid0.Coords) : Prop := (Scalar.cmpi .ne (Scalar.extui (Scalar.cmpi .eq (BitVec.ofNat 32 (i 1).val) 0#32)) 0#32) = 1#1
theorem fwdFirst_at : ∀ t : Fin cfg0.N, fwdFirst (grid0.coords t) :=
  (fun t => by
    have ht : t.val < 2 := Nat.lt_of_lt_of_eq t.isLt N_0
    have e0 : (grid0.coords t 0).val = t.val / 1 % 2 := Pipeline.Grid.coords_val t 0 (by decide) rfl
    have e1 : (grid0.coords t 1).val = t.val / 1 % 1 := Pipeline.Grid.coords_val t 1 (by decide) rfl
    simp only [fwdFirst, e0, e1]
    word_cmp
   : ∀ t : Fin grid0.N, fwdFirst (grid0.coords t))

abbrev fwdView4 : View sig .tc .vmem S8192x128 .f32 := (Memref.whole cc0_stg4_0 : Memref sig .tc .vmem S8192x128 .f32).view
abbrev fwdView5 : View sig .tc .vmem S8192x128 .f32 := (Memref.whole cc0_stg5_0 : Memref sig .tc .vmem S8192x128 .f32).view
abbrev fwdBuf0 (t : Fin cfg0.N) : Memref sig .tc .smem S4 .f32 := win0_0.stage (cfg0.slots t 0)
abbrev fwdBuf0_whole (t : Fin cfg0.N) : (fwdBuf0 t).IsWhole := hstage0_0 ((cfg0.slots t 0).cast nbuf0_0)
abbrev fwdBuf1 (t : Fin cfg0.N) : Memref sig .tc .vmem S8192x128 .bf16 := win0_1.stage (cfg0.slots t 1)
abbrev fwdBuf1_whole (t : Fin cfg0.N) : (fwdBuf1 t).IsWhole := hstage0_1 ((cfg0.slots t 1).cast nbuf0_1)
abbrev fwdBuf2 (t : Fin cfg0.N) : Memref sig .tc .vmem S8192x128 .bf16 := win0_2.stage (cfg0.slots t 2)
abbrev fwdBuf2_whole (t : Fin cfg0.N) : (fwdBuf2 t).IsWhole := hstage0_2 ((cfg0.slots t 2).cast nbuf0_2)
abbrev fwdBuf3 (t : Fin cfg0.N) : Memref sig .tc .vmem S8192x128 .bf16 := win0_3.stage (cfg0.slots t 3)
abbrev fwdBuf3_whole (t : Fin cfg0.N) : (fwdBuf3 t).IsWhole := hstage0_3 ((cfg0.slots t 3).cast nbuf0_3)
abbrev fwdBuf4 (t : Fin cfg0.N) : Memref sig .tc .vmem S8192x128 .f32 := win0_4.stage (cfg0.slots t 4)
abbrev fwdBuf4_whole (t : Fin cfg0.N) : (fwdBuf4 t).IsWhole := hstage0_4 ((cfg0.slots t 4).cast nbuf0_4)
abbrev fwdBuf5 (t : Fin cfg0.N) : Memref sig .tc .vmem S8192x128 .f32 := win0_5.stage (cfg0.slots t 5)
abbrev fwdBuf5_whole (t : Fin cfg0.N) : (fwdBuf5 t).IsWhole := hstage0_5 ((cfg0.slots t 5).cast nbuf0_5)
abbrev fwdBias : Memref sig .tc .vmem S3x256x256 .f32 := Memref.whole cc0_scratch0

theorem fwdRest_eq :
    (Pipeline.ΦA spec0 c : sProp 𝕄)
      = iprop(iprop(some(fwdBias) ∗ held(cc1_stg1_0) ∗ held(cc1_stg1_1) ∗ held(cc1_stg2_0) ∗ held(cc1_stg2_1) ∗ held(cc1_stg3_0) ∗ held(cc1_stg3_1) ∗ held(cc1_stg4_0) ∗ held(cc1_stg4_1) ∗ held(cc1_stg5_0) ∗ held(cc1_stg5_1) ∗ held(cc1_stg6_0) ∗ held(cc1_stg6_1) ∗ held(cc1_stg7_0) ∗ held(cc1_stg7_1) ∗ held(cc1_stg8_0) ∗ held(cc1_stg8_1) ∗ held(cc1_stg9_0) ∗ held(cc1_stg9_1) ∗ held(cc1_scratch0) ∗ held(cc1_scratch1) ∗ held(cc1_scratch2) ∗ held(cc1_stg0_0)) ∗ (∃ r, prngReg c r)) := by
  unfold Pipeline.ΦA; rw [scopedRest0_eq]; simp only [fwdBias, owns_whole]; try rfl

section Body

variable (i : grid0.Coords) (a2 : Memref sig .tc .smem S4 .f32) (h2 : a2.IsWhole) (a3 : Memref sig .tc .vmem S8192x128 .bf16) (h3 : a3.IsWhole) (a4 : Memref sig .tc .vmem S8192x128 .bf16) (h4 : a4.IsWhole) (a5 : Memref sig .tc .vmem S8192x128 .bf16) (h5 : a5.IsWhole) (a6 : Memref sig .tc .vmem S8192x128 .f32) (h6 : a6.IsWhole) (a7 : Memref sig .tc .vmem S8192x128 .f32) (h7 : a7.IsWhole) (a8 : Memref sig .tc .vmem S3x256x256 .f32) (h8 : a8.IsWhole) (hc0 : fwdFirst i)
    (x0 : Vec F S4 .f32) (x1 : Vec F S8192x128 .bf16) (x2 : Vec F S8192x128 .bf16) (x3 : Vec F S8192x128 .bf16)

set_option maxHeartbeats 0 in
/-- The stores the forward body makes into its two results, found by running it. -/
noncomputable def fwdRun :
    Σ' (L4 : List (View.Piece (Elt F) S8192x128 .f32)), { L5 : List (View.Piece (Elt F) S8192x128 .f32) //
      ∀ (E : Set ℕ) (K : PUnit → sProp 𝕄),
        iprop(own(a2, x0) ∗ own(a3, x1) ∗ own(a4, x2) ∗ own(a5, x3) ∗ some(a6) ∗ some(a7) ∗ some(a8)
            ∗ (iprop(own(a2, x0) ∗ own(a3, x1) ∗ own(a4, x2) ∗ own(a5, x3) ∗ wrote(a6, L4) ∗ wrote(a7, L5) ∗ some(a8)) -∗ K ⟨⟩))
          ⊢ wp frame (wpE (defs₀ (F := F)) Variants.none c none) E (cc0_attn_fwd i a2 h2 a3 h3 a4 h4 a5 h5 a6 h6 a7 h7 a8 h8) K } := by
  refine ⟨?_, ?_, fun E K => ?run⟩
  case run =>
    simp only [cc0_attn_fwd_eq_skeleton]; unfold cc0_attn_fwd_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := h2.eq_unread hf0; obtain rfl := h3.eq_unread hf1; obtain rfl := h4.eq_unread hf2; obtain rfl := h5.eq_unread hf3
    sl_exec (disch := first | sl_exact hc0)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    iexists _, _; isplitr; swap; · iexact HS0
    ipureintro; rfl

local notation "𝕣un" => fwdRun c i a2 h2 a3 h3 a4 h4 a5 h5 a6 h6 a7 h7 a8 h8 hc0 x0 x1 x2 x3

theorem fwdOut4_covers (y : S8192x128.Idx) :
    ∃ pc ∈ (𝕣un).1, y ∈ pc.1.set :=
  View.cover_of_tiledL (𝕣un).1 S128x128.size (by sl_kernel_rfl) y

def fwdOut4 : Vec F S8192x128 .f32 :=
  fwdView4.read (Elt F) (fwdView4.writes (Elt F) fwdView4.junk (𝕣un).1)

theorem fwdOut5_covers (y : S8192x128.Idx) :
    ∃ pc ∈ (𝕣un).2.1, y ∈ pc.1.set :=
  View.cover_of_tiledL (𝕣un).2.1 S128x128.size (by sl_kernel_rfl) y

def fwdOut5 : Vec F S8192x128 .f32 :=
  fwdView5.read (Elt F) (fwdView5.writes (Elt F) fwdView5.junk (𝕣un).2.1)

end Body

/-! The operands of the body at a point. -/
local notation "at(" f ", " t ")" => f c (grid0.coords t) (fwdBuf0 t) (fwdBuf0_whole t) (fwdBuf1 t) (fwdBuf1_whole t) (fwdBuf2 t) (fwdBuf2_whole t) (fwdBuf3 t) (fwdBuf3_whole t) (fwdBuf4 t) (fwdBuf4_whole t) (fwdBuf5 t) (fwdBuf5_whole t) fwdBias (Memref.isWhole_whole _) (fwdFirst_at t) (fwdTile V c 0 t) (fwdTile V c 1 t) (fwdTile V c 2 t) (fwdTile V c 3 t)

/-- What the two results' blocks hold after a point. -/
def fwdOuts (t : Fin cfg0.N) : Vec F S8192x128 .f32 × Vec F S8192x128 .f32 :=
  (at(fwdOut4, t), at(fwdOut5, t))

/-- The forward call's pipeline, the arrays holding `V` at its entry. -/
def fwdPipe : Dat τ (Elt F) Unit ℕ (UR sig nD τ) ℕ cfg0 c where
  A w := V c (Pipeline.arrRef spec0 w)
  after w t := match w with
    | ⟨0, _⟩ => fwdTile V c 0 t
    | ⟨1, _⟩ => fwdTile V c 1 t
    | ⟨2, _⟩ => fwdTile V c 2 t
    | ⟨3, _⟩ => fwdTile V c 3 t
    | ⟨4, _⟩ => (fwdOuts V c t).1
    | ⟨5, _⟩ => (fwdOuts V c t).2
  Φ _ := Pipeline.ΦA spec0 c
  q _ := fullShare
  owed _ := 0

theorem fwdArr (w : Fin cfg0.W) : (fwdPipe V c).A w = V c (Pipeline.arrRef spec0 w) := by
  dsimp only [fwdPipe]

theorem fwdAfter0 (t : Fin cfg0.N) : (fwdPipe V c).after 0 t = fwdTile V c 0 t := by dsimp only [fwdPipe]
theorem fwdAfter1 (t : Fin cfg0.N) : (fwdPipe V c).after 1 t = fwdTile V c 1 t := by dsimp only [fwdPipe]
theorem fwdAfter2 (t : Fin cfg0.N) : (fwdPipe V c).after 2 t = fwdTile V c 2 t := by dsimp only [fwdPipe]
theorem fwdAfter3 (t : Fin cfg0.N) : (fwdPipe V c).after 3 t = fwdTile V c 3 t := by dsimp only [fwdPipe]
theorem fwdAfter4 (t : Fin cfg0.N) : (fwdPipe V c).after 4 t = (fwdOuts V c t).1 := by dsimp only [fwdPipe]
theorem fwdAfter5 (t : Fin cfg0.N) : (fwdPipe V c).after 5 t = (fwdOuts V c t).2 := by dsimp only [fwdPipe]

/-- What an operand's window holds before a point, once it holds its block after each. -/
theorem fwdIn_of (w : Fin cfg0.W) (hw : (cfg0.win w).isOut = false) (hl : ∀ i, cfg0.idle w i = false)
    (hc : ∀ t t' : Fin cfg0.N, (cfg0.win w).index t = (cfg0.win w).index t' → (cfg0.win w).clip (cfg0.grid.coords t) = (cfg0.win w).clip (cfg0.grid.coords t'))
    (ha : ∀ t, (cfg0.win w).cut (cfg0.grid.coords t) ((fwdPipe V c).after w t) = fwdTile V c w t) (t : Fin cfg0.N) (d) : (fwdPipe V c).before w t d = (fwdPipe V c).fetched w t d :=
  (fwdPipe V c).before_in_eq_fetched w hw hl hc ha t d
theorem fwdIn0 (t : Fin cfg0.N) (d) : (fwdPipe V c).before 0 t d = fwdTile V c 0 t :=
  fwdIn_of V c 0 rfl (fun _ => rfl) (fun _ _ _ => rfl) (fwdAfter0 V c) t d
theorem fwdIn1 (t : Fin cfg0.N) (d) : (fwdPipe V c).before 1 t d = fwdTile V c 1 t :=
  fwdIn_of V c 1 rfl (fun _ => rfl) (fun _ _ _ => rfl) (fwdAfter1 V c) t d
theorem fwdIn2 (t : Fin cfg0.N) (d) : (fwdPipe V c).before 2 t d = fwdTile V c 2 t :=
  fwdIn_of V c 2 rfl (fun _ => rfl) (fun _ _ _ => rfl) (fwdAfter2 V c) t d
theorem fwdIn3 (t : Fin cfg0.N) (d) : (fwdPipe V c).before 3 t d = fwdTile V c 3 t :=
  fwdIn_of V c 3 rfl (fun _ => rfl) (fun _ _ _ => rfl) (fwdAfter3 V c) t d

def fwdEntry (t : Fin cfg0.N) : sProp 𝕄 :=
  iprop((fwdPipe V c).Φ t.castSucc ∗ (fwdPipe V c).owesAt () t.castSucc
    ∗ (∃ d, own((fwdBuf0 t), ((fwdPipe V c).before 0 t d)))
    ∗ (∃ d, own((fwdBuf1 t), ((fwdPipe V c).before 1 t d)))
    ∗ (∃ d, own((fwdBuf2 t), ((fwdPipe V c).before 2 t d)))
    ∗ (∃ d, own((fwdBuf3 t), ((fwdPipe V c).before 3 t d)))
    ∗ (∃ d, own((fwdBuf4 t), ((fwdPipe V c).before 4 t d)))
    ∗ (∃ d, own((fwdBuf5 t), ((fwdPipe V c).before 5 t d))))

def fwdExit (t : Fin cfg0.N) : sProp 𝕄 :=
  iprop((fwdPipe V c).Φ t.succ ∗ (fwdPipe V c).owesAt () t.succ
    ∗ own((fwdBuf0 t), ((fwdPipe V c).after 0 t))
    ∗ own((fwdBuf1 t), ((fwdPipe V c).after 1 t))
    ∗ own((fwdBuf2 t), ((fwdPipe V c).after 2 t))
    ∗ own((fwdBuf3 t), ((fwdPipe V c).after 3 t))
    ∗ own((fwdBuf4 t), ((fwdPipe V c).after 4 t))
    ∗ own((fwdBuf5 t), ((fwdPipe V c).after 5 t)))

/-- One point of the forward call: from the windows' blocks to the results'. -/
theorem fwdStep (t : Fin cfg0.N) :
    fwdEntry V c t ⊢ wp frame (wpE (defs₀ (F := F)) Variants.none c none) Set.univ (bodyAt0 t) (fun _ => fwdExit V c t) := by
  unfold fwdEntry fwdExit bodyAt0
  simp only [fwdIn0, fwdIn1, fwdIn2, fwdIn3]
  rw [show (fwdPipe V c).Φ t.succ = (fwdPipe V c).Φ t.castSucc from rfl,
    show (fwdPipe V c).owesAt () t.succ = (fwdPipe V c).owesAt () t.castSucc from rfl,
    fwdAfter0, fwdAfter1, fwdAfter2, fwdAfter3, fwdAfter4, fwdAfter5]
  rw [show (fwdPipe V c).Φ t.castSucc = Pipeline.ΦA spec0 c from rfl, fwdRest_eq]
  unfold fwdOuts
  unfold fwdOut4 fwdOut5; (try dsimp only)
  iintro ⟨⟨⟨HS0, HR1, HR2, HR3, HR4, HR5, HR6, HR7, HR8, HR9, HR10, HR11, HR12, HR13, HR14, HR15, HR16, HR17, HR18, HR19, HR20, HR21, HR22⟩, Hg⟩, Ho, ⟨%d0, H0⟩, ⟨%d1, H1⟩, ⟨%d2, H2⟩, ⟨%d3, H3⟩, ⟨%d4, H4⟩, ⟨%d5, H5⟩⟩
  iapply ((fwdRun c (grid0.coords t) _ _ _ _ _ _ _ _ _ _ _ _ _ _ (fwdFirst_at t) (fwdTile V c 0 t) (fwdTile V c 1 t) (fwdTile V c 2 t) (fwdTile V c 3 t)).2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  iintro ⟨H0, H1, H2, H3, ⟨%e4, H4⟩, ⟨%e5, H5⟩, HS0⟩
  isplitl [HS0 HR1 HR2 HR3 HR4 HR5 HR6 HR7 HR8 HR9 HR10 HR11 HR12 HR13 HR14 HR15 HR16 HR17 HR18 HR19 HR20 HR21 HR22 Hg]
  · isplitl [HS0 HR1 HR2 HR3 HR4 HR5 HR6 HR7 HR8 HR9 HR10 HR11 HR12 HR13 HR14 HR15 HR16 HR17 HR18 HR19 HR20 HR21 HR22]
    · isplitl [HS0]
      · iexact HS0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HR15]
      · iexact HR15
      isplitl [HR16]
      · iexact HR16
      isplitl [HR17]
      · iexact HR17
      isplitl [HR18]
      · iexact HR18
      isplitl [HR19]
      · iexact HR19
      isplitl [HR20]
      · iexact HR20
      isplitl [HR21]
      · iexact HR21
      iexact HR22
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (fwdOut4_covers c _ _ _ _ _ _ _ _ _ _ _ _ _ _ _ _ _ _ _ _)
  unfold owns; iexists _; isplitr
  swap; · iexact H5
  ipureintro; exact View.read_writes_of_cover _ _ _ _ _ (fwdOut5_covers c _ _ _ _ _ _ _ _ _ _ _ _ _ _ _ _ _ _ _ _)

theorem fwdDef (t : Fin cfg0.N) :
    defs₀ (F := F) .tc cfg0.body (cfg0.bodyArgs t (cfg0.slots t)) = bodyAt0 t := by
  unfold defs₀; rw [Defs.onTc_tc]

theorem fwdBody : BodyObligation (fwdPipe (F := F) V c) (defs₀ (F := F)) Variants.none () Set.univ := fun t => by
  rw [bigSep_W0, bigSep_W0, fwdDef]
  exact triple_restated (fwdStep V c t) rfl .rfl fun _ => .rfl

end Cert.AttnRun

end
-- ==== Proof.AttnLoop.lean ====
/- The loop over the 64 blocks of queries in the attention's backward call: what one block stores, what the blocks before
   it have stored, and the invariant with which the call's run goes through the loop. The block's gradient of the queries does not
   depend on what any buffer held before it; the two accumulators are read and stored back. -/
module

public import proofs.«01_k».proof.Proof.Gen.Attn1Ideal.Skeleton
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.AttnBwd

open Cert.Attn1Ideal Cert.Attn1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Loop

variable (𝒱 : Variants) (c : Dev nD) (bd : Option 𝒱.V) (i : grid1.Coords)
variable (a2 : Memref sig .tc .smem S4 .f32) (h2 : a2.IsWhole) (a3 : Memref sig .tc .vmem S8192x128 .bf16) (h3 : a3.IsWhole) (a4 : Memref sig .tc .vmem S8192x128 .bf16) (h4 : a4.IsWhole) (a5 : Memref sig .tc .vmem S8192x128 .bf16) (h5 : a5.IsWhole) (a6 : Memref sig .tc .vmem S8192x128 .bf16) (h6 : a6.IsWhole) (a7 : Memref sig .tc .vmem S8192x128 .f32) (h7 : a7.IsWhole) (a8 : Memref sig .tc .vmem S8192x128 .f32) (h8 : a8.IsWhole) (a9 : Memref sig .tc .vmem S8192x128 .bf16) (h9 : a9.IsWhole) (a10 : Memref sig .tc .vmem S8192x128 .bf16) (h10 : a10.IsWhole) (a11 : Memref sig .tc .vmem S8192x128 .bf16) (h11 : a11.IsWhole) (a12 : Memref sig .tc .vmem S1x8192x128 .f32) (h12 : a12.IsWhole) (a13 : Memref sig .tc .vmem S1x8192x128 .f32) (h13 : a13.IsWhole) (a14 : Memref sig .tc .vmem S3x256x256 .f32) (h14 : a14.IsWhole)
variable (x3 : BufTy.Contents (Elt F) a3.view.ty) (x4 : BufTy.Contents (Elt F) a4.view.ty) (x5 : BufTy.Contents (Elt F) a5.view.ty) (x6 : BufTy.Contents (Elt F) a6.view.ty) (x7 : BufTy.Contents (Elt F) a7.view.ty) (x8 : BufTy.Contents (Elt F) a8.view.ty) (x14 : BufTy.Contents (Elt F) a14.view.ty)

/-- The buffers a block touches: the inputs and the bias at what they hold, the three it stores into at the contents named. -/
abbrev Held (f9 : BufTy.Contents (Elt F) a9.view.ty) (f12 : BufTy.Contents (Elt F) a12.view.ty)
    (f13 : BufTy.Contents (Elt F) a13.view.ty) : sProp 𝕄 :=
  iprop((a3.view.loc (c : Thread nD τ) ↦[a3.view.set]{fullShare} x3) ∗ (a4.view.loc (c : Thread nD τ) ↦[a4.view.set]{fullShare} x4) ∗ (a5.view.loc (c : Thread nD τ) ↦[a5.view.set]{fullShare} x5) ∗ (a6.view.loc (c : Thread nD τ) ↦[a6.view.set]{fullShare} x6) ∗ (a7.view.loc (c : Thread nD τ) ↦[a7.view.set]{fullShare} x7) ∗ (a8.view.loc (c : Thread nD τ) ↦[a8.view.set]{fullShare} x8) ∗ (a14.view.loc (c : Thread nD τ) ↦[a14.view.set]{fullShare} x14)
    ∗ (a9.view.loc (c : Thread nD τ) ↦[a9.view.set]{fullShare} f9) ∗ (a12.view.loc (c : Thread nD τ) ↦[a12.view.set]{fullShare} f12) ∗ (a13.view.loc (c : Thread nD τ) ↦[a13.view.set]{fullShare} f13))

/-- One block: its stores into the gradient of the queries, and into either accumulator from what that accumulator held. -/
@[irreducible] def blockRun (k : Fin k1_t1_loop.trips) :
    Σ' (dq : List (View.Piece (Elt F) S8192x128 .bf16))
       (dk : BufTy.Contents (Elt F) a12.view.ty → List (View.Piece (Elt F) S1x8192x128 .f32)),
      { dv : BufTy.Contents (Elt F) a13.view.ty → List (View.Piece (Elt F) S1x8192x128 .f32) // ∀ (E : Set ℕ)
          (f9 : BufTy.Contents (Elt F) a9.view.ty) (f12 : BufTy.Contents (Elt F) a12.view.ty)
          (f13 : BufTy.Contents (Elt F) a13.view.ty),
        Held (F := F) c a3 a4 a5 a6 a7 a8 a9 a12 a13 a14 x3 x4 x5 x6 x7 x8 x14 f9 f12 f13
        ⊢ wp frame (wpE (defs₀ (F := F)) 𝒱 (c : Thread nD τ) bd) E (k1_t1_body (F := F) i a2 h2 a3 h3 a4 h4 a5 h5 a6 h6 a7 h7 a8 h8 a9 h9 a10 h10 a11 h11 a12 h12 a13 h13 a14 h14 k PUnit.unit)
          (fun _ => Held (F := F) c a3 a4 a5 a6 a7 a8 a9 a12 a13 a14 x3 x4 x5 x6 x7 x8 x14 (a9.view.writes (Elt F) f9 dq) (a12.view.writes (Elt F) f12 (dk f12))
            (a13.view.writes (Elt F) f13 (dv f13))) } := by
  have hk : k.val < 64 := Nat.lt_of_lt_of_le k.isLt k1_t1_abs.2.1
  refine ⟨?_, ?_, ?_, fun E f9 f12 f13 => ?body⟩
  case body =>
    unfold k1_t1_body
    iintro ⟨H3, H4, H5, H6, H7, H8, H14, H9, H12, H13⟩
    sl_exec
    sl_step
    sl_close

local notation "on(" f ")" => f (F := F) 𝒱 c bd i a2 h2 a3 h3 a4 h4 a5 h5 a6 h6 a7 h7 a8 h8 a9 h9 a10 h10 a11 h11 a12 h12 a13 h13 a14 h14 x3 x4 x5 x6 x7 x8 x14

/-- The stores of the blocks before `k` into the gradient of the queries, the last first. -/
def dqStores : ℕ → List (View.Piece (Elt F) S8192x128 .bf16)
  | 0 => []
  | k + 1 => if h : k < k1_t1_loop.trips then (on(blockRun) ⟨k, h⟩).1 ++ dqStores k else dqStores k

/-- The stores of the blocks before `k` into the accumulator of the keys' gradient, which held `g` at the loop's entry. -/
def dkStores (g : BufTy.Contents (Elt F) a12.view.ty) : ℕ → List (View.Piece (Elt F) S1x8192x128 .f32)
  | 0 => []
  | k + 1 => if h : k < k1_t1_loop.trips then
      (on(blockRun) ⟨k, h⟩).2.1 (a12.view.writes (Elt F) g (dkStores g k)) ++ dkStores g k else dkStores g k

/-- The stores of the blocks before `k` into the accumulator of the values' gradient, which held `g` at the loop's entry. -/
def dvStores (g : BufTy.Contents (Elt F) a13.view.ty) : ℕ → List (View.Piece (Elt F) S1x8192x128 .f32)
  | 0 => []
  | k + 1 => if h : k < k1_t1_loop.trips then
      (on(blockRun) ⟨k, h⟩).2.2.1 (a13.view.writes (Elt F) g (dvStores g k)) ++ dvStores g k else dvStores g k

theorem dqStores_succ (k : Fin k1_t1_loop.trips) :
    on(dqStores) (k.val + 1) = (on(blockRun) k).1 ++ on(dqStores) k.val := by
  rw [dqStores]; exact dif_pos k.isLt

theorem dkStores_succ (g : BufTy.Contents (Elt F) a12.view.ty) (k : Fin k1_t1_loop.trips) :
    on(dkStores) g (k.val + 1)
      = (on(blockRun) k).2.1 (a12.view.writes (Elt F) g (on(dkStores) g k.val)) ++ on(dkStores) g k.val := by
  rw [dkStores]; exact dif_pos k.isLt

theorem dvStores_succ (g : BufTy.Contents (Elt F) a13.view.ty) (k : Fin k1_t1_loop.trips) :
    on(dvStores) g (k.val + 1)
      = (on(blockRun) k).2.2.1 (a13.view.writes (Elt F) g (on(dvStores) g k.val)) ++ on(dvStores) g k.val := by
  rw [dvStores]; exact dif_pos k.isLt

/-- Before block `k`: the inputs as they were, each buffer stored into holding the earlier blocks' stores over its contents at the entry. -/
abbrev before (g9 : BufTy.Contents (Elt F) a9.view.ty) (g12 : BufTy.Contents (Elt F) a12.view.ty)
    (g13 : BufTy.Contents (Elt F) a13.view.ty) (k : ℕ) (_u : PUnit) : sProp 𝕄 :=
  iprop((a3.view.loc (c : Thread nD τ) ↦[a3.view.set]{fullShare} x3) ∗ (a4.view.loc (c : Thread nD τ) ↦[a4.view.set]{fullShare} x4) ∗ (a5.view.loc (c : Thread nD τ) ↦[a5.view.set]{fullShare} x5) ∗ (a6.view.loc (c : Thread nD τ) ↦[a6.view.set]{fullShare} x6) ∗ (a7.view.loc (c : Thread nD τ) ↦[a7.view.set]{fullShare} x7) ∗ (a8.view.loc (c : Thread nD τ) ↦[a8.view.set]{fullShare} x8) ∗ (a14.view.loc (c : Thread nD τ) ↦[a14.view.set]{fullShare} x14)
    ∗ (∃ f, (a9.view.loc (c : Thread nD τ) ↦[a9.view.set]{fullShare} f) ∗ ⌜f = a9.view.writes (Elt F) g9 (on(dqStores) k)⌝)
    ∗ (∃ f, (a12.view.loc (c : Thread nD τ) ↦[a12.view.set]{fullShare} f) ∗ ⌜f = a12.view.writes (Elt F) g12 (on(dkStores) g12 k)⌝)
    ∗ (∃ f, (a13.view.loc (c : Thread nD τ) ↦[a13.view.set]{fullShare} f) ∗ ⌜f = a13.view.writes (Elt F) g13 (on(dvStores) g13 k)⌝))

set_option warn.classDefReducibility false in
/-- The loop by that invariant. -/
@[sl_loop] def loopOver (E : Set ℕ) (g9 : BufTy.Contents (Elt F) a9.view.ty) (g12 : BufTy.Contents (Elt F) a12.view.ty)
    (g13 : BufTy.Contents (Elt F) a13.view.ty) :
    Idealize.ShloMosaic.LoopInv (M := 𝕄) Idealize.ShloMosaic.frame (wpE defs₀ 𝒱 (c : Thread nD τ) bd) E
      k1_t1_loop.lb k1_t1_loop.ub k1_t1_loop.st k1_t1_ok () (k1_t1_body (F := F) i a2 h2 a3 h3 a4 h4 a5 h5 a6 h6 a7 h7 a8 h8 a9 h9 a10 h10 a11 h11 a12 h12 a13 h13 a14 h14) where
  inv := on(before) g9 g12 g13
  step k acc := by
    iintro ⟨H3, H4, H5, H6, H7, H8, H14, ⟨%f9, H9, %e9⟩, ⟨%f12, H12, %e12⟩, ⟨%f13, H13, %e13⟩⟩
    iapply (wp_wand_r Idealize.ShloMosaic.frame (wpE (defs₀ (F := F)) 𝒱 (c : Thread nD τ) bd) E)
    isplitl [H3 H4 H5 H6 H7 H8 H14 H9 H12 H13]
    · iapply ((on(blockRun) k).2.2.2 E f9 f12 f13)
      isplitl [H3]; · iexact H3
      isplitl [H4]; · iexact H4
      isplitl [H5]; · iexact H5
      isplitl [H6]; · iexact H6
      isplitl [H7]; · iexact H7
      isplitl [H8]; · iexact H8
      isplitl [H14]; · iexact H14
      isplitl [H9]; · iexact H9
      isplitl [H12]; · iexact H12
      iexact H13
    · iintro %_ ⟨H3, H4, H5, H6, H7, H8, H14, H9, H12, H13⟩
      isplitl [H3]; · iexact H3
      isplitl [H4]; · iexact H4
      isplitl [H5]; · iexact H5
      isplitl [H6]; · iexact H6
      isplitl [H7]; · iexact H7
      isplitl [H8]; · iexact H8
      isplitl [H14]; · iexact H14
      rw [dqStores_succ, dkStores_succ, dvStores_succ]
      isplitl [H9]
      · iexists _; isplitl [H9]; · iexact H9
        ipureintro; rw [e9, ← View.writes_append]
      isplitl [H12]
      · iexists _; isplitl [H12]; · iexact H12
        ipureintro; rw [e12, ← View.writes_append]
      iexists _; isplitl [H13]; · iexact H13
      ipureintro; rw [e13, ← View.writes_append]

end Loop

end Cert.AttnBwd

end
-- ==== Proof.AttnBwdRun.lean ====
/- The backward attention call run on its own: what each of its three gradients holds when it is done. -/
module

public import proofs.«01_k».proof.Proof.Gen.Attn1Ideal.Launch
public import proofs.«01_k».proof.Proof.Gen.Attn1Ideal.Skeleton
public import proofs.«01_k».proof.Proof.Gen.Attn1Ideal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.AttnLoop

@[expose] public section

set_option maxRecDepth 16384

noncomputable section

namespace Cert.AttnRun

open Cert.Attn1Ideal Cert.Attn1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b)) (c : Dev nD)

local notation "own(" m ", " d ")" => owns (c : Thread nD τ) m fullShare d
local notation "some(" m ")" => iprop(∃ d, owns (c : Thread nD τ) m fullShare d)
set_option quotPrecheck false in
local notation "held(" b ")" => iprop(∃ f : Buf (Elt F) ((c : Thread nD τ).loc b), ((c : Thread nD τ).loc b) ↦{fullShare} f)
set_option quotPrecheck false in
local notation "wrote(" a ", " L ")" => iprop(∃ f, (Memref.view a).loc (c : Thread nD τ) ↦[(Memref.view a).set]{fullShare} (Memref.view a).writes (Elt F) f L)

/-- A window's block at a point of the backward call's grid, read off its array. -/
def bwdTile (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point of a group of heads, where the bias is made. -/
abbrev bwdFirst (i : grid1.Coords) : Prop := (Scalar.cmpi .ne (Scalar.extui (Scalar.cmpi .eq (BitVec.ofNat 32 (i 1).val) 0#32)) 0#32) = 1#1
theorem bwdFirst_at : ∀ t : Fin cfg1.N, bwdFirst (grid1.coords t) :=
  (fun t => by
    have ht : t.val < 2 := Nat.lt_of_lt_of_eq t.isLt N_1
    have e0 : (grid1.coords t 0).val = t.val / 1 % 2 := Pipeline.Grid.coords_val t 0 (by decide) rfl
    have e1 : (grid1.coords t 1).val = t.val / 1 % 1 := Pipeline.Grid.coords_val t 1 (by decide) rfl
    simp only [bwdFirst, e0, e1]
    word_cmp
   : ∀ t : Fin grid1.N, bwdFirst (grid1.coords t))

abbrev bwdView7 : View sig .tc .vmem S8192x128 .bf16 := (Memref.whole cc1_stg7_0 : Memref sig .tc .vmem S8192x128 .bf16).view
abbrev bwdView8 : View sig .tc .vmem S8192x128 .bf16 := (Memref.whole cc1_stg8_0 : Memref sig .tc .vmem S8192x128 .bf16).view
abbrev bwdView9 : View sig .tc .vmem S8192x128 .bf16 := (Memref.whole cc1_stg9_0 : Memref sig .tc .vmem S8192x128 .bf16).view
abbrev bwdBuf0 (t : Fin cfg1.N) : Memref sig .tc .smem S4 .f32 := win1_0.stage (cfg1.slots t 0)
abbrev bwdBuf0_whole (t : Fin cfg1.N) : (bwdBuf0 t).IsWhole := hstage1_0 ((cfg1.slots t 0).cast nbuf1_0)
abbrev bwdBuf1 (t : Fin cfg1.N) : Memref sig .tc .vmem S8192x128 .bf16 := win1_1.stage (cfg1.slots t 1)
abbrev bwdBuf1_whole (t : Fin cfg1.N) : (bwdBuf1 t).IsWhole := hstage1_1 ((cfg1.slots t 1).cast nbuf1_1)
abbrev bwdBuf2 (t : Fin cfg1.N) : Memref sig .tc .vmem S8192x128 .bf16 := win1_2.stage (cfg1.slots t 2)
abbrev bwdBuf2_whole (t : Fin cfg1.N) : (bwdBuf2 t).IsWhole := hstage1_2 ((cfg1.slots t 2).cast nbuf1_2)
abbrev bwdBuf3 (t : Fin cfg1.N) : Memref sig .tc .vmem S8192x128 .bf16 := win1_3.stage (cfg1.slots t 3)
abbrev bwdBuf3_whole (t : Fin cfg1.N) : (bwdBuf3 t).IsWhole := hstage1_3 ((cfg1.slots t 3).cast nbuf1_3)
abbrev bwdBuf4 (t : Fin cfg1.N) : Memref sig .tc .vmem S8192x128 .bf16 := win1_4.stage (cfg1.slots t 4)
abbrev bwdBuf4_whole (t : Fin cfg1.N) : (bwdBuf4 t).IsWhole := hstage1_4 ((cfg1.slots t 4).cast nbuf1_4)
abbrev bwdBuf5 (t : Fin cfg1.N) : Memref sig .tc .vmem S8192x128 .f32 := win1_5.stage (cfg1.slots t 5)
abbrev bwdBuf5_whole (t : Fin cfg1.N) : (bwdBuf5 t).IsWhole := hstage1_5 ((cfg1.slots t 5).cast nbuf1_5)
abbrev bwdBuf6 (t : Fin cfg1.N) : Memref sig .tc .vmem S8192x128 .f32 := win1_6.stage (cfg1.slots t 6)
abbrev bwdBuf6_whole (t : Fin cfg1.N) : (bwdBuf6 t).IsWhole := hstage1_6 ((cfg1.slots t 6).cast nbuf1_6)
abbrev bwdBuf7 (t : Fin cfg1.N) : Memref sig .tc .vmem S8192x128 .bf16 := win1_7.stage (cfg1.slots t 7)
abbrev bwdBuf7_whole (t : Fin cfg1.N) : (bwdBuf7 t).IsWhole := hstage1_7 ((cfg1.slots t 7).cast nbuf1_7)
abbrev bwdBuf8 (t : Fin cfg1.N) : Memref sig .tc .vmem S8192x128 .bf16 := win1_8.stage (cfg1.slots t 8)
abbrev bwdBuf8_whole (t : Fin cfg1.N) : (bwdBuf8 t).IsWhole := hstage1_8 ((cfg1.slots t 8).cast nbuf1_8)
abbrev bwdBuf9 (t : Fin cfg1.N) : Memref sig .tc .vmem S8192x128 .bf16 := win1_9.stage (cfg1.slots t 9)
abbrev bwdBuf9_whole (t : Fin cfg1.N) : (bwdBuf9 t).IsWhole := hstage1_9 ((cfg1.slots t 9).cast nbuf1_9)
abbrev accK : Memref sig .tc .vmem S1x8192x128 .f32 := Memref.whole cc1_scratch0
abbrev accV : Memref sig .tc .vmem S1x8192x128 .f32 := Memref.whole cc1_scratch1
abbrev bwdBias : Memref sig .tc .vmem S3x256x256 .f32 := Memref.whole cc1_scratch2

theorem bwdRest_eq :
    (Pipeline.ΦA spec1 c : sProp 𝕄)
      = iprop(iprop(held(cc0_stg1_0) ∗ held(cc0_stg1_1) ∗ held(cc0_stg2_0) ∗ held(cc0_stg2_1) ∗ held(cc0_stg3_0) ∗ held(cc0_stg3_1) ∗ held(cc0_stg4_0) ∗ held(cc0_stg4_1) ∗ held(cc0_stg5_0) ∗ held(cc0_stg5_1) ∗ held(cc0_scratch0) ∗ some(accK) ∗ some(accV) ∗ some(bwdBias) ∗ held(cc0_stg0_0)) ∗ (∃ r, prngReg c r)) := by
  unfold Pipeline.ΦA; rw [scopedRest1_eq]; simp only [accK, accV, bwdBias, owns_whole]; try rfl

section Body

variable (i : grid1.Coords) (a2 : Memref sig .tc .smem S4 .f32) (h2 : a2.IsWhole) (a3 : Memref sig .tc .vmem S8192x128 .bf16) (h3 : a3.IsWhole) (a4 : Memref sig .tc .vmem S8192x128 .bf16) (h4 : a4.IsWhole) (a5 : Memref sig .tc .vmem S8192x128 .bf16) (h5 : a5.IsWhole) (a6 : Memref sig .tc .vmem S8192x128 .bf16) (h6 : a6.IsWhole) (a7 : Memref sig .tc .vmem S8192x128 .f32) (h7 : a7.IsWhole) (a8 : Memref sig .tc .vmem S8192x128 .f32) (h8 : a8.IsWhole) (a9 : Memref sig .tc .vmem S8192x128 .bf16) (h9 : a9.IsWhole) (a10 : Memref sig .tc .vmem S8192x128 .bf16) (h10 : a10.IsWhole) (a11 : Memref sig .tc .vmem S8192x128 .bf16) (h11 : a11.IsWhole) (a12 : Memref sig .tc .vmem S1x8192x128 .f32) (h12 : a12.IsWhole) (a13 : Memref sig .tc .vmem S1x8192x128 .f32) (h13 : a13.IsWhole) (a14 : Memref sig .tc .vmem S3x256x256 .f32) (h14 : a14.IsWhole) (hc0 : bwdFirst i)
    (x0 : Vec F S4 .f32) (x1 : Vec F S8192x128 .bf16) (x2 : Vec F S8192x128 .bf16) (x3 : Vec F S8192x128 .bf16) (x4 : Vec F S8192x128 .bf16) (x5 : Vec F S8192x128 .f32) (x6 : Vec F S8192x128 .f32)

set_option maxHeartbeats 1000000 in
/-- The stores the backward body makes into its three results, found by running it: the loop goes by `Cert.AttnBwd.loopOver`. -/
noncomputable def bwdRun :
    Σ' (L7 : List (View.Piece (Elt F) S8192x128 .bf16)), Σ' (L8 : List (View.Piece (Elt F) S8192x128 .bf16)), { L9 : List (View.Piece (Elt F) S8192x128 .bf16) //
      ∀ (E : Set ℕ) (K : PUnit → sProp 𝕄),
        iprop(own(a2, x0) ∗ own(a3, x1) ∗ own(a4, x2) ∗ own(a5, x3) ∗ own(a6, x4) ∗ own(a7, x5) ∗ own(a8, x6) ∗ some(a9) ∗ some(a10) ∗ some(a11) ∗ some(a12) ∗ some(a13) ∗ some(a14)
            ∗ (iprop(own(a2, x0) ∗ own(a3, x1) ∗ own(a4, x2) ∗ own(a5, x3) ∗ own(a6, x4) ∗ own(a7, x5) ∗ own(a8, x6) ∗ wrote(a9, L7) ∗ wrote(a10, L8) ∗ wrote(a11, L9) ∗ some(a12) ∗ some(a13) ∗ some(a14)) -∗ K ⟨⟩))
          ⊢ wp frame (wpE (defs₀ (F := F)) Variants.none c none) E (cc1_attn_bwd i a2 h2 a3 h3 a4 h4 a5 h5 a6 h6 a7 h7 a8 h8 a9 h9 a10 h10 a11 h11 a12 h12 a13 h13 a14 h14) K } := by
  refine ⟨?_, ?_, ?_, fun E K => ?run⟩
  case run =>
    simp only [cc1_attn_bwd_eq_skeleton]; unfold cc1_attn_bwd_skel
    simp only [k1_part5_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6
    sl_exec (disch := first | sl_exact hc0)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]; · iexists _; iexact H7
    isplitl [H8]; · iexists _; iexact H8
    isplitl [H9]; · iexists _; iexact H9
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

local notation "𝕣un" => bwdRun c i a2 h2 a3 h3 a4 h4 a5 h5 a6 h6 a7 h7 a8 h8 a9 h9 a10 h10 a11 h11 a12 h12 a13 h13 a14 h14 hc0 x0 x1 x2 x3 x4 x5 x6

theorem bwdOut7_covers (y : S8192x128.Idx) :
    ∃ pc ∈ (𝕣un).1, y ∈ pc.1.set :=
  View.cover_of_tiledL (𝕣un).1 S128x128.size (by sl_kernel_rfl) y

def bwdOut7 : Vec F S8192x128 .bf16 :=
  bwdView7.read (Elt F) (bwdView7.writes (Elt F) bwdView7.junk (𝕣un).1)

theorem bwdOut8_covers (y : S8192x128.Idx) :
    ∃ pc ∈ (𝕣un).2.1, y ∈ pc.1.set :=
  View.cover_of_tiledL (𝕣un).2.1 S8192x128.size (by sl_kernel_rfl) y

def bwdOut8 : Vec F S8192x128 .bf16 :=
  bwdView8.read (Elt F) (bwdView8.writes (Elt F) bwdView8.junk (𝕣un).2.1)

theorem bwdOut9_covers (y : S8192x128.Idx) :
    ∃ pc ∈ (𝕣un).2.2.1, y ∈ pc.1.set :=
  View.cover_of_tiledL (𝕣un).2.2.1 S8192x128.size (by sl_kernel_rfl) y

def bwdOut9 : Vec F S8192x128 .bf16 :=
  bwdView9.read (Elt F) (bwdView9.writes (Elt F) bwdView9.junk (𝕣un).2.2.1)

end Body

/-! The operands of the body at a point. -/
local notation "at(" f ", " t ")" => f c (grid1.coords t) (bwdBuf0 t) (bwdBuf0_whole t) (bwdBuf1 t) (bwdBuf1_whole t) (bwdBuf2 t) (bwdBuf2_whole t) (bwdBuf3 t) (bwdBuf3_whole t) (bwdBuf4 t) (bwdBuf4_whole t) (bwdBuf5 t) (bwdBuf5_whole t) (bwdBuf6 t) (bwdBuf6_whole t) (bwdBuf7 t) (bwdBuf7_whole t) (bwdBuf8 t) (bwdBuf8_whole t) (bwdBuf9 t) (bwdBuf9_whole t) accK (Memref.isWhole_whole _) accV (Memref.isWhole_whole _) bwdBias (Memref.isWhole_whole _) (bwdFirst_at t) (bwdTile V c 0 t) (bwdTile V c 1 t) (bwdTile V c 2 t) (bwdTile V c 3 t) (bwdTile V c 4 t) (bwdTile V c 5 t) (bwdTile V c 6 t)

/-- What the three results' blocks hold after a point. -/
def bwdOuts (t : Fin cfg1.N) : Vec F S8192x128 .bf16 × Vec F S8192x128 .bf16 × Vec F S8192x128 .bf16 :=
  (at(bwdOut7, t), at(bwdOut8, t), at(bwdOut9, t))

/-- The backward call's pipeline, the arrays holding `V` at its entry. -/
def bwdPipe : Dat τ (Elt F) Unit ℕ (UR sig nD τ) ℕ cfg1 c where
  A w := V c (Pipeline.arrRef spec1 w)
  after w t := match w with
    | ⟨0, _⟩ => bwdTile V c 0 t
    | ⟨1, _⟩ => bwdTile V c 1 t
    | ⟨2, _⟩ => bwdTile V c 2 t
    | ⟨3, _⟩ => bwdTile V c 3 t
    | ⟨4, _⟩ => bwdTile V c 4 t
    | ⟨5, _⟩ => bwdTile V c 5 t
    | ⟨6, _⟩ => bwdTile V c 6 t
    | ⟨7, _⟩ => (bwdOuts V c t).1
    | ⟨8, _⟩ => (bwdOuts V c t).2.1
    | ⟨9, _⟩ => (bwdOuts V c t).2.2
  Φ _ := Pipeline.ΦA spec1 c
  q _ := fullShare
  owed _ := 0

theorem bwdArr (w : Fin cfg1.W) : (bwdPipe V c).A w = V c (Pipeline.arrRef spec1 w) := by
  dsimp only [bwdPipe]

theorem bwdAfter0 (t : Fin cfg1.N) : (bwdPipe V c).after 0 t = bwdTile V c 0 t := by dsimp only [bwdPipe]
theorem bwdAfter1 (t : Fin cfg1.N) : (bwdPipe V c).after 1 t = bwdTile V c 1 t := by dsimp only [bwdPipe]
theorem bwdAfter2 (t : Fin cfg1.N) : (bwdPipe V c).after 2 t = bwdTile V c 2 t := by dsimp only [bwdPipe]
theorem bwdAfter3 (t : Fin cfg1.N) : (bwdPipe V c).after 3 t = bwdTile V c 3 t := by dsimp only [bwdPipe]
theorem bwdAfter4 (t : Fin cfg1.N) : (bwdPipe V c).after 4 t = bwdTile V c 4 t := by dsimp only [bwdPipe]
theorem bwdAfter5 (t : Fin cfg1.N) : (bwdPipe V c).after 5 t = bwdTile V c 5 t := by dsimp only [bwdPipe]
theorem bwdAfter6 (t : Fin cfg1.N) : (bwdPipe V c).after 6 t = bwdTile V c 6 t := by dsimp only [bwdPipe]
theorem bwdAfter7 (t : Fin cfg1.N) : (bwdPipe V c).after 7 t = (bwdOuts V c t).1 := by dsimp only [bwdPipe]
theorem bwdAfter8 (t : Fin cfg1.N) : (bwdPipe V c).after 8 t = (bwdOuts V c t).2.1 := by dsimp only [bwdPipe]
theorem bwdAfter9 (t : Fin cfg1.N) : (bwdPipe V c).after 9 t = (bwdOuts V c t).2.2 := by dsimp only [bwdPipe]

/-- What an operand's window holds before a point, once it holds its block after each. -/
theorem bwdIn_of (w : Fin cfg1.W) (hw : (cfg1.win w).isOut = false) (hl : ∀ i, cfg1.idle w i = false)
    (hc : ∀ t t' : Fin cfg1.N, (cfg1.win w).index t = (cfg1.win w).index t' → (cfg1.win w).clip (cfg1.grid.coords t) = (cfg1.win w).clip (cfg1.grid.coords t'))
    (ha : ∀ t, (cfg1.win w).cut (cfg1.grid.coords t) ((bwdPipe V c).after w t) = bwdTile V c w t) (t : Fin cfg1.N) (d) : (bwdPipe V c).before w t d = (bwdPipe V c).fetched w t d :=
  (bwdPipe V c).before_in_eq_fetched w hw hl hc ha t d
theorem bwdIn0 (t : Fin cfg1.N) (d) : (bwdPipe V c).before 0 t d = bwdTile V c 0 t :=
  bwdIn_of V c 0 rfl (fun _ => rfl) (fun _ _ _ => rfl) (bwdAfter0 V c) t d
theorem bwdIn1 (t : Fin cfg1.N) (d) : (bwdPipe V c).before 1 t d = bwdTile V c 1 t :=
  bwdIn_of V c 1 rfl (fun _ => rfl) (fun _ _ _ => rfl) (bwdAfter1 V c) t d
theorem bwdIn2 (t : Fin cfg1.N) (d) : (bwdPipe V c).before 2 t d = bwdTile V c 2 t :=
  bwdIn_of V c 2 rfl (fun _ => rfl) (fun _ _ _ => rfl) (bwdAfter2 V c) t d
theorem bwdIn3 (t : Fin cfg1.N) (d) : (bwdPipe V c).before 3 t d = bwdTile V c 3 t :=
  bwdIn_of V c 3 rfl (fun _ => rfl) (fun _ _ _ => rfl) (bwdAfter3 V c) t d
theorem bwdIn4 (t : Fin cfg1.N) (d) : (bwdPipe V c).before 4 t d = bwdTile V c 4 t :=
  bwdIn_of V c 4 rfl (fun _ => rfl) (fun _ _ _ => rfl) (bwdAfter4 V c) t d
theorem bwdIn5 (t : Fin cfg1.N) (d) : (bwdPipe V c).before 5 t d = bwdTile V c 5 t :=
  bwdIn_of V c 5 rfl (fun _ => rfl) (fun _ _ _ => rfl) (bwdAfter5 V c) t d
theorem bwdIn6 (t : Fin cfg1.N) (d) : (bwdPipe V c).before 6 t d = bwdTile V c 6 t :=
  bwdIn_of V c 6 rfl (fun _ => rfl) (fun _ _ _ => rfl) (bwdAfter6 V c) t d

def bwdEntry (t : Fin cfg1.N) : sProp 𝕄 :=
  iprop((bwdPipe V c).Φ t.castSucc ∗ (bwdPipe V c).owesAt () t.castSucc
    ∗ (∃ d, own((bwdBuf0 t), ((bwdPipe V c).before 0 t d)))
    ∗ (∃ d, own((bwdBuf1 t), ((bwdPipe V c).before 1 t d)))
    ∗ (∃ d, own((bwdBuf2 t), ((bwdPipe V c).before 2 t d)))
    ∗ (∃ d, own((bwdBuf3 t), ((bwdPipe V c).before 3 t d)))
    ∗ (∃ d, own((bwdBuf4 t), ((bwdPipe V c).before 4 t d)))
    ∗ (∃ d, own((bwdBuf5 t), ((bwdPipe V c).before 5 t d)))
    ∗ (∃ d, own((bwdBuf6 t), ((bwdPipe V c).before 6 t d)))
    ∗ (∃ d, own((bwdBuf7 t), ((bwdPipe V c).before 7 t d)))
    ∗ (∃ d, own((bwdBuf8 t), ((bwdPipe V c).before 8 t d)))
    ∗ (∃ d, own((bwdBuf9 t), ((bwdPipe V c).before 9 t d))))

def bwdExit (t : Fin cfg1.N) : sProp 𝕄 :=
  iprop((bwdPipe V c).Φ t.succ ∗ (bwdPipe V c).owesAt () t.succ
    ∗ own((bwdBuf0 t), ((bwdPipe V c).after 0 t))
    ∗ own((bwdBuf1 t), ((bwdPipe V c).after 1 t))
    ∗ own((bwdBuf2 t), ((bwdPipe V c).after 2 t))
    ∗ own((bwdBuf3 t), ((bwdPipe V c).after 3 t))
    ∗ own((bwdBuf4 t), ((bwdPipe V c).after 4 t))
    ∗ own((bwdBuf5 t), ((bwdPipe V c).after 5 t))
    ∗ own((bwdBuf6 t), ((bwdPipe V c).after 6 t))
    ∗ own((bwdBuf7 t), ((bwdPipe V c).after 7 t))
    ∗ own((bwdBuf8 t), ((bwdPipe V c).after 8 t))
    ∗ own((bwdBuf9 t), ((bwdPipe V c).after 9 t)))

set_option maxHeartbeats 1200000 in
/-- One point of the backward call: from the windows' blocks to the results'. -/
theorem bwdStep (t : Fin cfg1.N) :
    bwdEntry V c t ⊢ wp frame (wpE (defs₀ (F := F)) Variants.none c none) Set.univ (bodyAt1 t) (fun _ => bwdExit V c t) := by
  unfold bwdEntry bwdExit bodyAt1
  simp only [bwdIn0, bwdIn1, bwdIn2, bwdIn3, bwdIn4, bwdIn5, bwdIn6]
  rw [show (bwdPipe V c).Φ t.succ = (bwdPipe V c).Φ t.castSucc from rfl,
    show (bwdPipe V c).owesAt () t.succ = (bwdPipe V c).owesAt () t.castSucc from rfl,
    bwdAfter0, bwdAfter1, bwdAfter2, bwdAfter3, bwdAfter4, bwdAfter5, bwdAfter6, bwdAfter7, bwdAfter8, bwdAfter9]
  rw [show (bwdPipe V c).Φ t.castSucc = Pipeline.ΦA spec1 c from rfl, bwdRest_eq]
  unfold bwdOuts
  unfold bwdOut7 bwdOut8 bwdOut9; (try dsimp only)
  iintro ⟨⟨⟨HR0, HR1, HR2, HR3, HR4, HR5, HR6, HR7, HR8, HR9, HR10, HS0, HS1, HS2, HR14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((bwdRun c (grid1.coords t) _ _ _ _ _ _ _ _ _ _ _ _ _ _ _ _ _ _ _ _ _ _ _ _ _ _ (bwdFirst_at t) (bwdTile V c 0 t) (bwdTile V c 1 t) (bwdTile V c 2 t) (bwdTile V c 3 t) (bwdTile V c 4 t) (bwdTile V c 5 t) (bwdTile V c 6 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, H5, H6, ⟨%e7, H7⟩, ⟨%e8, H8⟩, ⟨%e9, H9⟩, HS0, HS1, HS2⟩
  isplitl [HR0 HR1 HR2 HR3 HR4 HR5 HR6 HR7 HR8 HR9 HR10 HS0 HS1 HS2 HR14 Hg]
  · isplitl [HR0 HR1 HR2 HR3 HR4 HR5 HR6 HR7 HR8 HR9 HR10 HS0 HS1 HS2 HR14]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HS0]
      · iexact HS0
      isplitl [HS1]
      · iexact HS1
      isplitl [HS2]
      · iexact HS2
      iexact HR14
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (bwdOut7_covers c _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (bwdOut8_covers c _ _ _ _ _ _ _ _ _ _ _ _ _ _ _ _ _ _ _ _ _ _ _ _ _ _ _ _ _ _ _ _ _ _ _)
  unfold owns; iexists _; isplitr
  swap; · iexact H9
  ipureintro; exact View.read_writes_of_cover _ _ _ _ _ (bwdOut9_covers c _ _ _ _ _ _ _ _ _ _ _ _ _ _ _ _ _ _ _ _ _ _ _ _ _ _ _ _ _ _ _ _ _ _ _)

theorem bwdDef (t : Fin cfg1.N) :
    defs₀ (F := F) .tc cfg1.body (cfg1.bodyArgs t (cfg1.slots t)) = bodyAt1 t := by
  unfold defs₀; rw [Defs.onTc_tc]

theorem bwdBody : BodyObligation (bwdPipe (F := F) V c) (defs₀ (F := F)) Variants.none () Set.univ := fun t => by
  rw [bigSep_W1, bigSep_W1, bwdDef]
  exact triple_restated (bwdStep V c t) rfl .rfl fun _ => .rfl

end Cert.AttnRun

end
-- ==== Proof.AttnRun.lean ====
/- The attention program, its two calls and the host operations around them, run from the launch to the return. -/
module

public import proofs.«01_k».proof.Proof.AttnFwdRun
public import proofs.«01_k».proof.Proof.AttnBwdRun

@[expose] public section

set_option maxRecDepth 16384

noncomputable section

namespace Cert.AttnRun

open Cert.Attn1Ideal Cert.Attn1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The five arguments. -/
abbrev argArrays : List (Ref sig .tc) := [main_arg0, main_arg1, main_arg2, main_arg3, main_arg4]

theorem host0_fresh : (hostOps0 : List (HloOp τ sig (Elt F))).Forall fun op => op.fresh = ∅ := by
  simp only [List.Forall]; repeat' constructor
abbrev host0Writes : List (Ref sig .tc) := [main_cst, main_v0, main_cst_0, main_v1, main_v2, main_v3, main_v4, main_v5, main_v6, main_v7]
theorem host0_writes : (hostOps0 : List (HloOp τ sig (Elt F))).Forall fun op => op.writes ⊆ (host0Writes.map (Proc.devRef (τ := τ) .tc)).toFinset :=
  StableHlo.forall_writes_sub_of_map rfl
theorem host0_args : ∀ a ∈ argArrays, a ∉ host0Writes := ListAll.forall_mem_of_all_decide (by decide +kernel)

theorem host1_fresh : (hostOps1 : List (HloOp τ sig (Elt F))).Forall fun op => op.fresh = ∅ := by
  simp only [List.Forall]; repeat' constructor
abbrev host1Writes : List (Ref sig .tc) := [main_v9, main_v10, main_cst_1, main_v11, main_v12, main_v13, main_v14, main_v15, main_v16, main_v17]
theorem host1_writes : (hostOps1 : List (HloOp τ sig (Elt F))).Forall fun op => op.writes ⊆ (host1Writes.map (Proc.devRef (τ := τ) .tc)).toFinset :=
  StableHlo.forall_writes_sub_of_map rfl
theorem host1_args : ∀ a ∈ argArrays, a ∉ host1Writes := ListAll.forall_mem_of_all_decide (by decide +kernel)

theorem host2_fresh : (hostOps2 : List (HloOp τ sig (Elt F))).Forall fun op => op.fresh = ∅ := by
  simp only [List.Forall]; repeat' constructor
abbrev host2Writes : List (Ref sig .tc) := [main_v19, main_v20, main_v21]
theorem host2_writes : (hostOps2 : List (HloOp τ sig (Elt F))).Forall fun op => op.writes ⊆ (host2Writes.map (Proc.devRef (τ := τ) .tc)).toFinset :=
  StableHlo.forall_writes_sub_of_map rfl
theorem host2_args : ∀ a ∈ argArrays, a ∉ host2Writes := ListAll.forall_mem_of_all_decide (by decide +kernel)

/-- Memory at the launch; `mem1` … `mem5` are what it holds after each stretch of host operations and each call. -/
abbrev mem0 : Dev nD → Valuation τ sig (Elt F) := fun c b => (s₀ m ρ).mem ((c : Dev nD), b)
theorem mem0_args (c : Dev nD) : ∀ a ∈ argArrays, mem0 m ρ c (Proc.devRef .tc a) = m ((c : Thread nD τ).loc a) := fun _ _ => rfl
abbrev mem1 : Dev nD → Valuation τ sig (Elt F) := fun c => StableHlo.after hostOps0 (mem0 m ρ c)
theorem mem1_of (c : Dev nD) (r : Ref sig .tc) (h : r ∉ host0Writes) : mem1 m ρ c (Proc.devRef .tc r) = mem0 m ρ c (Proc.devRef .tc r) :=
  StableHlo.after_of_writes_sub hostOps0 _ host0_writes h
theorem mem1_args (c : Dev nD) : ∀ a ∈ argArrays, mem1 m ρ c (Proc.devRef .tc a) = m ((c : Thread nD τ).loc a) :=
  fun a ha => (mem1_of m ρ c a (host0_args a ha)).trans (mem0_args m ρ c a ha)
abbrev at1 : (c : Dev nD) → (b : Ref sig .tc) → Buf (Elt F) ((c : Thread nD τ).loc b) := fun c b => mem1 m ρ c b
def mem2 (c : Dev nD) : Valuation τ sig (Elt F) :=
  Pipeline.withArrays spec0 c (mem1 m ρ c) fun w => (fwdPipe (at1 m ρ) c).arrAt w cfg0.N
theorem mem2_arr (c : Dev nD) (w : Fin cfg0.W) :
    mem2 m ρ c (Proc.devRef .tc (Pipeline.arrRef spec0 w)) = (fwdPipe (at1 m ρ) c).arrAt w cfg0.N := by
  unfold mem2; exact Pipeline.withArrays_arr spec0 launch0.win.arr_inj c _ _ w
theorem mem2_of_ne (c : Dev nD) (b : Ref sig .tc) (hb : ∀ w, Pipeline.arrRef spec0 w ≠ b) :
    mem2 m ρ c (Proc.devRef .tc b) = mem1 m ρ c (Proc.devRef .tc b) := by
  unfold mem2; exact Pipeline.withArrays_of_ne spec0 c _ _ b hb
theorem mem2_of (c : Dev nD) (r : Ref sig .tc) (h : ∀ w : Fin cfg0.W, Pipeline.arrRef spec0 w = r → (cfg0.win w).isOut = false) :
    mem2 m ρ c (Proc.devRef .tc r) = mem1 m ρ c (Proc.devRef .tc r) := by
  by_cases hw : ∃ w : Fin cfg0.W, Pipeline.arrRef spec0 w = r
  · obtain ⟨w, rfl⟩ := hw
    exact (mem2_arr m ρ c w).trans (((fwdPipe (at1 m ρ) c).arrAt_in w (h w rfl) _).trans (fwdArr (at1 m ρ) c w))
  · exact mem2_of_ne m ρ c r fun w e => hw ⟨w, e⟩
theorem fwdArgs : ∀ a ∈ argArrays, ∀ w : Fin cfg0.W, Pipeline.arrRef spec0 w = a → (cfg0.win w).isOut = false :=
  ListAll.forall_mem_of_all_decide (by decide +kernel)
theorem mem2_args (c : Dev nD) : ∀ a ∈ argArrays, mem2 m ρ c (Proc.devRef .tc a) = m ((c : Thread nD τ).loc a) :=
  fun a ha => (mem2_of m ρ c a (fwdArgs a ha)).trans (mem1_args m ρ c a ha)
abbrev at2 : (c : Dev nD) → (b : Ref sig .tc) → Buf (Elt F) ((c : Thread nD τ).loc b) := fun c b => mem2 m ρ c b
theorem fwdFinal (c : Dev nD) (w : Fin cfg0.W) : (fwdPipe (at1 m ρ) c).arrAt w cfg0.N = at2 m ρ c (Pipeline.arrRef spec0 w) :=
  (mem2_arr m ρ c w).symm
theorem fwdOthers (c : Dev nD) : ∀ b, b ∉ Finset.univ.image (Pipeline.arrRef spec0) → at2 m ρ c b = at1 m ρ c b :=
  fun b hb => mem2_of_ne m ρ c b fun w e => hb (Finset.mem_image.mpr ⟨w, Finset.mem_univ _, e⟩)

abbrev mem3 : Dev nD → Valuation τ sig (Elt F) := fun c => StableHlo.after hostOps1 (mem2 m ρ c)
theorem mem3_of (c : Dev nD) (r : Ref sig .tc) (h : r ∉ host1Writes) : mem3 m ρ c (Proc.devRef .tc r) = mem2 m ρ c (Proc.devRef .tc r) :=
  StableHlo.after_of_writes_sub hostOps1 _ host1_writes h
theorem mem3_args (c : Dev nD) : ∀ a ∈ argArrays, mem3 m ρ c (Proc.devRef .tc a) = m ((c : Thread nD τ).loc a) :=
  fun a ha => (mem3_of m ρ c a (host1_args a ha)).trans (mem2_args m ρ c a ha)
abbrev at3 : (c : Dev nD) → (b : Ref sig .tc) → Buf (Elt F) ((c : Thread nD τ).loc b) := fun c b => mem3 m ρ c b
def mem4 (c : Dev nD) : Valuation τ sig (Elt F) :=
  Pipeline.withArrays spec1 c (mem3 m ρ c) fun w => (bwdPipe (at3 m ρ) c).arrAt w cfg1.N
theorem mem4_arr (c : Dev nD) (w : Fin cfg1.W) :
    mem4 m ρ c (Proc.devRef .tc (Pipeline.arrRef spec1 w)) = (bwdPipe (at3 m ρ) c).arrAt w cfg1.N := by
  unfold mem4; exact Pipeline.withArrays_arr spec1 launch1.win.arr_inj c _ _ w
theorem mem4_of_ne (c : Dev nD) (b : Ref sig .tc) (hb : ∀ w, Pipeline.arrRef spec1 w ≠ b) :
    mem4 m ρ c (Proc.devRef .tc b) = mem3 m ρ c (Proc.devRef .tc b) := by
  unfold mem4; exact Pipeline.withArrays_of_ne spec1 c _ _ b hb
theorem mem4_of (c : Dev nD) (r : Ref sig .tc) (h : ∀ w : Fin cfg1.W, Pipeline.arrRef spec1 w = r → (cfg1.win w).isOut = false) :
    mem4 m ρ c (Proc.devRef .tc r) = mem3 m ρ c (Proc.devRef .tc r) := by
  by_cases hw : ∃ w : Fin cfg1.W, Pipeline.arrRef spec1 w = r
  · obtain ⟨w, rfl⟩ := hw
    exact (mem4_arr m ρ c w).trans (((bwdPipe (at3 m ρ) c).arrAt_in w (h w rfl) _).trans (bwdArr (at3 m ρ) c w))
  · exact mem4_of_ne m ρ c r fun w e => hw ⟨w, e⟩
theorem bwdArgs : ∀ a ∈ argArrays, ∀ w : Fin cfg1.W, Pipeline.arrRef spec1 w = a → (cfg1.win w).isOut = false :=
  ListAll.forall_mem_of_all_decide (by decide +kernel)
theorem mem4_args (c : Dev nD) : ∀ a ∈ argArrays, mem4 m ρ c (Proc.devRef .tc a) = m ((c : Thread nD τ).loc a) :=
  fun a ha => (mem4_of m ρ c a (bwdArgs a ha)).trans (mem3_args m ρ c a ha)
abbrev at4 : (c : Dev nD) → (b : Ref sig .tc) → Buf (Elt F) ((c : Thread nD τ).loc b) := fun c b => mem4 m ρ c b
theorem bwdFinal (c : Dev nD) (w : Fin cfg1.W) : (bwdPipe (at3 m ρ) c).arrAt w cfg1.N = at4 m ρ c (Pipeline.arrRef spec1 w) :=
  (mem4_arr m ρ c w).symm
theorem bwdOthers (c : Dev nD) : ∀ b, b ∉ Finset.univ.image (Pipeline.arrRef spec1) → at4 m ρ c b = at3 m ρ c b :=
  fun b hb => mem4_of_ne m ρ c b fun w e => hb (Finset.mem_image.mpr ⟨w, Finset.mem_univ _, e⟩)

abbrev mem5 : Dev nD → Valuation τ sig (Elt F) := fun c => StableHlo.after hostOps2 (mem4 m ρ c)
theorem mem5_of (c : Dev nD) (r : Ref sig .tc) (h : r ∉ host2Writes) : mem5 m ρ c (Proc.devRef .tc r) = mem4 m ρ c (Proc.devRef .tc r) :=
  StableHlo.after_of_writes_sub hostOps2 _ host2_writes h
theorem mem5_args (c : Dev nD) : ∀ a ∈ argArrays, mem5 m ρ c (Proc.devRef .tc a) = m ((c : Thread nD τ).loc a) :=
  fun a ha => (mem5_of m ρ c a (host2_args a ha)).trans (mem4_args m ρ c a ha)

theorem mem5_main_arg0 (c : Dev nD) : mem5 m ρ c (Proc.devRef .tc main_arg0) = m ((c : Thread nD τ).loc main_arg0) :=
  mem5_args m ρ c main_arg0 (by decide)
theorem mem5_main_arg1 (c : Dev nD) : mem5 m ρ c (Proc.devRef .tc main_arg1) = m ((c : Thread nD τ).loc main_arg1) :=
  mem5_args m ρ c main_arg1 (by decide)
theorem mem5_main_arg2 (c : Dev nD) : mem5 m ρ c (Proc.devRef .tc main_arg2) = m ((c : Thread nD τ).loc main_arg2) :=
  mem5_args m ρ c main_arg2 (by decide)
theorem mem5_main_arg3 (c : Dev nD) : mem5 m ρ c (Proc.devRef .tc main_arg3) = m ((c : Thread nD τ).loc main_arg3) :=
  mem5_args m ρ c main_arg3 (by decide)
theorem mem5_main_arg4 (c : Dev nD) : mem5 m ρ c (Proc.devRef .tc main_arg4) = m ((c : Thread nD τ).loc main_arg4) :=
  mem5_args m ρ c main_arg4 (by decide)

abbrev adm : (p : Fin 2) → (pcfgs (F := F) p).Adm := fun p => (cfgs p).toPCfg_adm
def pipes : (p : Fin 2) → (c : Dev nD) → Dat τ (Elt F) Unit ℕ (UR sig nD τ) ℕ (Pipeline.pin (pcfgs (F := F)) adm p) c
  | ⟨0, _⟩ => fun c => fwdPipe (at1 m ρ) c
  | ⟨1, _⟩ => fun c => bwdPipe (at3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hostPart (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem kept_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (mem5 m ρ c) ∗ ∃ r, prngReg c r)
set_option backward.isDefEq.respectTransparency.types false in
def fwdRegion : Pipeline.RegionSeg (pcfgs (F := F)) adm (pipes m ρ) () defs₀ 𝒱₀ L lv 0 where
  win := launch0.win.to₀
  block_pos := launch0.block_pos
  stage_whole := launch0.stage_whole
  K := PEmpty
  osem k := k.elim
  ho := Pipeline.OwnSemFacts.none _
  hbody c := (fwdBody (at1 m ρ) c).loose
  hwaits := Pipeline.hwaits_of_owed_zero _ _ _ _ L lv 0 fun _ _ => rfl
  pre c := iprop(StableHlo.held (c : Thread nD τ) (Pipeline.ucRefs τ sig) (mem1 m ρ c) ∗ R c)
  post c := iprop(StableHlo.held (c : Thread nD τ) (Pipeline.ucRefs τ sig) (mem2 m ρ c) ∗ R c)
  X c := iprop(∃ r, prngReg c r)
  Y c := iprop(∃ r, prngReg c r)
  Z c := Pipeline.unscopedRest (Ix := Unit) (Name := ℕ) (U := UR sig nD τ) (Lvl := ℕ) spec0 c (at1 m ρ c)
  hentry c := by
    rw [Pipeline.ownSems0_none]
    have hsplit := Pipeline.arrays_of_unscopedBufs (p := 0) (pcfgs (F := F)) adm (pipes m ρ) launch0.win launch0.arr_whole c
      ((pipes m ρ 0 c).share_full fun _ => rfl) (at1 m ρ c) (fwdArr (at1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pipes m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pipes m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pipes m ρ) ((pipes m ρ 0 c).share_full fun _ => rfl)
      (at1 m ρ c) (at2 m ρ c) ((pipes m ρ 0 c).arrAt · cfg0.N) (fwdFinal m ρ c) (fwdOthers m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def bwdRegion : Pipeline.RegionSeg (pcfgs (F := F)) adm (pipes m ρ) () defs₀ 𝒱₀ L lv 1 where
  win := launch1.win.to₀
  block_pos := launch1.block_pos
  stage_whole := launch1.stage_whole
  K := PEmpty
  osem k := k.elim
  ho := Pipeline.OwnSemFacts.none _
  hbody c := (bwdBody (at3 m ρ) c).loose
  hwaits := Pipeline.hwaits_of_owed_zero _ _ _ _ L lv 1 fun _ _ => rfl
  pre c := iprop(StableHlo.held (c : Thread nD τ) (Pipeline.ucRefs τ sig) (mem3 m ρ c) ∗ R c)
  post c := iprop(StableHlo.held (c : Thread nD τ) (Pipeline.ucRefs τ sig) (mem4 m ρ c) ∗ R c)
  X c := iprop(∃ r, prngReg c r)
  Y c := iprop(∃ r, prngReg c r)
  Z c := Pipeline.unscopedRest (Ix := Unit) (Name := ℕ) (U := UR sig nD τ) (Lvl := ℕ) spec1 c (at3 m ρ c)
  hentry c := by
    rw [Pipeline.ownSems0_none]
    have hsplit := Pipeline.arrays_of_unscopedBufs (p := 1) (pcfgs (F := F)) adm (pipes m ρ) launch1.win launch1.arr_whole c
      ((pipes m ρ 1 c).share_full fun _ => rfl) (at3 m ρ c) (bwdArr (at3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pipes m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pipes m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pipes m ρ) ((pipes m ρ 1 c).share_full fun _ => rfl)
      (at3 m ρ c) (at4 m ρ c) ((pipes m ρ 1 c).arrAt · cfg1.N) (bwdFinal m ρ c) (bwdOthers m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program as its host stretches and its two calls. -/
abbrev parts : List (Pipeline.Seg (pcfgs (F := F)) adm (pipes m ρ) () defs₀ 𝒱₀ L lv) :=
  [ .host (hostPart hostOps0 hostOps0_sub host0_fresh (mem0 m ρ)),
    .region (fwdRegion m ρ),
    .host (hostPart hostOps1 hostOps1_sub host1_fresh (mem2 m ρ)),
    .region (bwdRegion m ρ),
    .host (hostPart hostOps2 hostOps2_sub host2_fresh (mem4 m ρ)) ]
theorem main_parts (c : Dev nD) : main (F := F) c = Pipeline.Seg.run (parts m ρ) := (main_chain c).trans (by chain_rfl)

theorem no_unscoped : ∀ sm : SemLoc sig, sm.isScoped .tc = true := by decide
set_option backward.isDefEq.respectTransparency.types false in
/-- Every run of the program ends with each array at what `mem5` says and no semaphore raised. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = mem5 m ρ c b) ∧ r.2.sem = fun _ => 0) :=
  Pipeline.θ_run_regions_kit_sems (pcfgs (F := F)) adm (pipes m ρ) () cellOf_inj emb₁ defs₀ 𝒱₀ L lv m ρ main (parts m ρ)
    (fun c Q => by rw [main_parts m ρ c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m ρ c) ∗ R c)) (Tₙ := Tₙ m ρ)
    (hch := ⟨fun _ => .rfl, fun _ => .rfl, fun _ => .rfl, fun _ => .rfl, fun _ => .rfl, fun c => by
      dsimp only [Pipeline.Seg.post, hostPart, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (mem0 m ρ c)
        from Pipeline.unscopedBufs_held c (mem0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem5 m ρ c b)
    (hfin := fun c s' => by
      iintro ⟨⟨Hh, -⟩, HSI⟩
      unfold StableHlo.held
      imodintro
      iapply (pointsTo_read_all (Pipeline.ucRefs τ sig) (fun b => (((c : Thread nD τ)).1, b)) (mem5 m ρ c) s')
      isplitl [Hh] <;> iassumption)
    (hQ := fun s h hz => ⟨h, funext fun g => hz g (.inr (no_unscoped g.2))⟩)

/-- The arguments end as they began, and no semaphore is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun _ h => ⟨fun c =>
      ⟨(h.1 c _ (kept_mem main_arg0 (by decide))).trans (mem5_main_arg0 m ρ c),
       (h.1 c _ (kept_mem main_arg1 (by decide))).trans (mem5_main_arg1 m ρ c),
       (h.1 c _ (kept_mem main_arg2 (by decide))).trans (mem5_main_arg2 m ρ c),
       (h.1 c _ (kept_mem main_arg3 (by decide))).trans (mem5_main_arg3 m ρ c),
       (h.1 c _ (kept_mem main_arg4 (by decide))).trans (mem5_main_arg4 m ρ c)⟩, h.2⟩) (run_all m ρ)

end Cert.AttnRun

end
-- ==== Proof.AttnSpec.lean ====
module

public import Idealize.ShloMosaic.Lib.Pipeline.ValueKit
public import Idealize.ShloMosaic.Lib.Pointwise
public import proofs.«01_k».proof.Proof.RowNorm

/-! # Windowed attention of one head, over the reals

`Head` holds the rows of one attention head. Row `r` attends to the keys `t` within 64 rows of it, with a
score that falls by the head's slope per row of distance. The functions below are the head's output, its row
log-sum, and the gradients of both with respect to queries, keys and values. Nothing here speaks of a
program: the lemmas at the end say what a sum or a maximum over a window of keys is, when the window holds the
band of its row. A window is counted in padded coordinates: `T = t + 64`. -/

@[expose] public section

noncomputable section

namespace Cert.AttnSpec

open Idealize.ShloMosaic

/-- The rows of one head: queries, keys, values, the gradient of the output, the gradient of the row log-sum,
the slope of the distance bias and the number of keys. -/
structure Head where
  q : ℕ → ℕ → ℝ
  k : ℕ → ℕ → ℝ
  v : ℕ → ℕ → ℝ
  g : ℕ → ℕ → ℝ
  dl : ℕ → ℝ
  slope : ℝ
  len : ℕ

/-- Key `t` is in the band of row `r`. -/
def Near (r t : ℕ) : Prop := r ≤ t + 64 ∧ t ≤ r + 64

instance (r t : ℕ) : Decidable (Near r t) := inferInstanceAs (Decidable (_ ∧ _))

/-- The padded coordinate `T` is a key in the band of row `r`. -/
def In (n r T : ℕ) : Prop := (r ≤ T ∧ T ≤ r + 128) ∧ 64 ≤ T ∧ T < n + 64

instance (n r T : ℕ) : Decidable (In n r T) := inferInstanceAs (Decidable (_ ∧ _))

namespace Head

variable (A : Head)

/-- Rows between `r` and `t`. -/
def dist (r t : ℕ) : ℕ := (r - t) + (t - r)

/-- The product of query row and key row. -/
def qk (r t : ℕ) : ℝ := ∑ d ∈ Finset.range 64, A.q r d * A.k t d

/-- The score of key `t` for row `r`. -/
def score (r t : ℕ) : ℝ := A.qk r t * (1 / 8) + -A.slope * dist r t

/-- The keys of row `r`. -/
def keys (r : ℕ) : Finset ℕ := (Finset.range A.len).filter (Near r)

theorem mem_keys {r : ℕ} (hr : r < A.len) : r ∈ A.keys r := by
  simp only [keys, Finset.mem_filter, Finset.mem_range, Near]
  omega

/-- The largest score of row `r`. -/
def top (r : ℕ) : ℝ := if h : (A.keys r).Nonempty then (A.keys r).sup' h (A.score r) else 0

/-- The unnormalised weight of key `t` for row `r`. -/
def wt (r t : ℕ) : ℝ := if Near r t then Real.exp (A.score r t - A.top r) else 0

/-- The sum of the weights of row `r`. -/
def den (r : ℕ) : ℝ := ∑ t ∈ Finset.range A.len, A.wt r t

/-- The weighted sum of the values, before the division. -/
def num (r d : ℕ) : ℝ := ∑ t ∈ Finset.range A.len, A.wt r t * A.v t d

/-- The output. -/
def out (r d : ℕ) : ℝ := A.num r d / A.den r

/-- The row log-sum. -/
def lse (r : ℕ) : ℝ := A.top r + Real.log (A.den r)

/-- The product of a row of the output's gradient with a row of values. -/
def gv (r t : ℕ) : ℝ := ∑ d ∈ Finset.range 64, A.g r d * A.v t d

/-- The row's share of the gradient of a score. -/
def share (r : ℕ) : ℝ := A.dl r - ∑ d ∈ Finset.range 64, A.g r d * A.out r d

/-- The gradient of the score of key `t` for row `r`. -/
def dscore (r t : ℕ) : ℝ := A.wt r t / A.den r * (A.gv r t + A.share r)

/-- The gradient of the queries. -/
def dq (r d : ℕ) : ℝ := (∑ t ∈ Finset.range A.len, A.dscore r t * A.k t d) * (1 / 8)

/-- The gradient of the keys. -/
def dk (t d : ℕ) : ℝ := (∑ r ∈ Finset.range A.len, A.dscore r t * A.q r d) * (1 / 8)

/-- The gradient of the values. -/
def dv (t d : ℕ) : ℝ := ∑ r ∈ Finset.range A.len, A.wt r t / A.den r * A.g r d

theorem wt_off {r t : ℕ} (h : ¬Near r t) : A.wt r t = 0 := if_neg h

theorem dscore_off {r t : ℕ} (h : ¬Near r t) : A.dscore r t = 0 := by
  rw [dscore, A.wt_off h, zero_div, zero_mul]

theorem wt_nonneg (r t : ℕ) : 0 ≤ A.wt r t := by
  unfold wt; split_ifs
  · exact (Real.exp_pos _).le
  · exact le_rfl

theorem den_pos {r : ℕ} (hr : r < A.len) : 0 < A.den r := by
  refine Finset.sum_pos' (fun t _ => A.wt_nonneg r t) ⟨r, Finset.mem_range.2 hr, ?_⟩
  rw [wt, if_pos (by unfold Near; omega)]
  exact Real.exp_pos _

/-- The normalised weight is the exponential of the score less the row log-sum. -/
theorem weight_eq {r t : ℕ} (hr : r < A.len) (h : Near r t) :
    Real.exp (A.score r t - A.lse r) = A.wt r t / A.den r := by
  rw [lse, ← sub_sub, Real.exp_sub, Real.exp_log (A.den_pos hr), wt, if_pos h]

/-- The gradients of a row's scores add up to the gradient of its log-sum. -/
theorem sum_dscore {r : ℕ} (hr : r < A.len) : ∑ t ∈ Finset.range A.len, A.dscore r t = A.dl r := by
  have hd : A.den r ≠ 0 := (A.den_pos hr).ne'
  have h1 : ∑ t ∈ Finset.range A.len, A.wt r t / A.den r = 1 := by
    rw [← Finset.sum_div, ← den, div_self hd]
  have h2 : ∑ t ∈ Finset.range A.len, A.wt r t / A.den r * A.gv r t
      = ∑ d ∈ Finset.range 64, A.g r d * A.out r d := by
    simp only [gv, Finset.mul_sum]
    rw [Finset.sum_comm]
    refine Finset.sum_congr rfl fun d _ => ?_
    rw [out, num, Finset.sum_div, Finset.mul_sum]
    refine Finset.sum_congr rfl fun t _ => ?_
    ring
  simp only [dscore, mul_add, Finset.sum_add_distrib, ← Finset.sum_mul, h1, h2, share]
  ring

end Head

/-! ## Sums and maxima over a window -/

section Window

variable {L r B n : ℕ}

theorem near_of_in {T : ℕ} (h : In L r T) : Near r (T - 64) ∧ T - 64 < L := by
  unfold In at h; unfold Near; omega

/-- A sum over a window that holds the band of its row is the sum over all keys. -/
theorem sum_window (hB : ∀ T, In L r T → B ≤ T ∧ T < B + n) (g : ℕ → ℝ) (hg : ∀ t, ¬Near r t → g t = 0) :
    (∑ j : Fin n, if In L r (B + j.val) then ((g (B + j.val - 64) : ℝ) : EReal) else 0)
      = ((∑ t ∈ Finset.range L, g t : ℝ) : EReal) := by
  have e : ∀ j : Fin n, (if In L r (B + j.val) then ((g (B + j.val - 64) : ℝ) : EReal) else 0)
      = (((fun i : ℕ => if In L r (B + i) then g (B + i - 64) else 0) j.val : ℝ) : EReal) := by
    intro j; dsimp only; split_ifs <;> rfl
  rw [Finset.sum_congr rfl fun j _ => e j, ← Cert.RowNorm.coe_sum,
    Fin.sum_univ_eq_sum_range (fun i : ℕ => if In L r (B + i) then g (B + i - 64) else 0) n]
  congr 1
  rw [← Finset.sum_filter]
  symm
  rw [← Finset.sum_subset (Finset.filter_subset (Near r) (Finset.range L))
    (fun t ht hn => hg t fun h => hn (Finset.mem_filter.2 ⟨ht, h⟩))]
  refine Finset.sum_bij' (fun t _ => t + 64 - B) (fun i _ => B + i - 64) ?_ ?_ ?_ ?_ ?_
  · intro t ht
    simp only [Finset.mem_filter, Finset.mem_range, Near] at ht ⊢
    have h := hB (t + 64) (by unfold In; omega)
    have : B + (t + 64 - B) = t + 64 := by omega
    rw [this]; unfold In; omega
  · intro i hi
    have h := near_of_in (Finset.mem_filter.1 hi).2
    exact Finset.mem_filter.2 ⟨Finset.mem_range.2 h.2, h.1⟩
  · intro t ht
    simp only [Finset.mem_filter, Finset.mem_range, Near] at ht ⊢
    have h := hB (t + 64) (by unfold In; omega)
    omega
  · intro i hi
    have h := (Finset.mem_filter.1 hi).2
    unfold In at h
    omega
  · intro t ht
    simp only [Finset.mem_filter, Finset.mem_range, Near] at ht
    have h := hB (t + 64) (by unfold In; omega)
    congr 1; omega

/-- The same with a second factor that is real on the band. -/
theorem sum_window_mul (hB : ∀ T, In L r T → B ≤ T ∧ T < B + n) (w : Fin n → EReal) (g : ℕ → ℝ)
    (hw : ∀ j : Fin n, w j = if In L r (B + j.val) then ((g (B + j.val - 64) : ℝ) : EReal) else 0)
    (hg : ∀ t, ¬Near r t → g t = 0) (X : Fin n → EReal) (x : ℕ → ℝ)
    (hX : ∀ j : Fin n, In L r (B + j.val) → X j = ((x (B + j.val - 64) : ℝ) : EReal)) :
    ∑ j : Fin n, w j * X j = ((∑ t ∈ Finset.range L, g t * x t : ℝ) : EReal) := by
  rw [← sum_window hB (fun t => g t * x t) fun t h => by rw [hg t h, zero_mul]]
  refine Finset.sum_congr rfl fun j _ => ?_
  rw [hw j]
  split_ifs with h
  · rw [hX j h, EReal.coe_mul]
  · exact zero_mul _

variable (A : Head)

/-- The maximum of the scores over a window that holds the band of its row. -/
theorem max_window (hr : r < A.len) (hB : ∀ T, In A.len r T → B ≤ T ∧ T < B + n) (s : Fin n → EReal)
    (hs : ∀ j : Fin n, s j = if In A.len r (B + j.val) then ((A.score r (B + j.val - 64) : ℝ) : EReal) else ⊥) :
    Finset.univ.fold max ⊥ s = ((A.top r : ℝ) : EReal) := by
  have hne : (A.keys r).Nonempty := ⟨r, A.mem_keys hr⟩
  apply le_antisymm
  · refine Finset.fold_max_le _ |>.2 ⟨bot_le, fun j _ => ?_⟩
    rw [hs j]
    split_ifs with h
    · have h' := near_of_in h
      rw [EReal.coe_le_coe_iff, Head.top, dif_pos hne]
      exact Finset.le_sup' (A.score r) (Finset.mem_filter.2 ⟨Finset.mem_range.2 h'.2, h'.1⟩)
    · exact bot_le
  · rw [Head.top, dif_pos hne]
    obtain ⟨t, ht, e⟩ := Finset.exists_mem_eq_sup' hne (A.score r)
    rw [e]
    simp only [Head.keys, Finset.mem_filter, Finset.mem_range, Near] at ht
    have hi : In A.len r (t + 64) := by unfold In; omega
    have h := hB (t + 64) hi
    refine (Finset.le_fold_max _).2 (Or.inr ⟨⟨t + 64 - B, by omega⟩, Finset.mem_univ _, ?_⟩)
    have h2 : B + (t + 64 - B) = t + 64 := by omega
    rw [hs]
    dsimp only
    rw [h2, if_pos hi, Nat.add_sub_cancel]

/-- The exponential of a score less a row constant. -/
theorem exp_window {s : EReal} {T : ℕ} (m : ℝ)
    (hs : s = if In A.len r T then ((A.score r (T - 64) : ℝ) : EReal) else ⊥) :
    Ideal.exp (s - (m : EReal)) = if In A.len r T then ((Real.exp (A.score r (T - 64) - m) : ℝ) : EReal) else 0 := by
  rw [hs]
  split_ifs with h
  · rw [← EReal.coe_sub]; rfl
  · rw [EReal.bot_sub]; rfl

theorem wt_window {s : EReal} {T : ℕ}
    (hs : s = if In A.len r T then ((A.score r (T - 64) : ℝ) : EReal) else ⊥) :
    Ideal.exp (s - ((A.top r : ℝ) : EReal)) = if In A.len r T then ((A.wt r (T - 64) : ℝ) : EReal) else 0 := by
  rw [exp_window A _ hs]
  split_ifs with h
  · rw [Head.wt, if_pos (near_of_in h).1]
  · rfl

theorem weight_window (hr : r < A.len) {s : EReal} {T : ℕ}
    (hs : s = if In A.len r T then ((A.score r (T - 64) : ℝ) : EReal) else ⊥) :
    Ideal.exp (s - ((A.lse r : ℝ) : EReal))
      = if In A.len r T then ((A.wt r (T - 64) / A.den r : ℝ) : EReal) else 0 := by
  rw [exp_window A _ hs]
  split_ifs with h
  · rw [A.weight_eq hr (near_of_in h).1]
  · rfl

end Window

end Cert.AttnSpec
-- ==== Proof.AttnFwdBlock.lean ====
module

public import proofs.«01_k».proof.Proof.AttnSpec
public import proofs.«01_k».proof.Proof.Gen.Attn1Ideal.Skeleton

/-! # One block of the forward call

A block takes 128 rows of two heads at once: the queries of the first head are stacked on those of the second,
the lanes of the other head zero, and multiplied with 256 rows of keys. The lemmas read each payload of the
block at a point, when the block's operands hold the rows of two heads. -/

@[expose] public section

set_option maxRecDepth 16384

noncomputable section

namespace Cert.AttnBlock

open Idealize.ShloMosaic Idealize.ShloMosaic.TcCoe Idealize.SL.Sem
open Cert.Attn1Ideal Cert.Attn1Ideal.Gen Cert.AttnSpec

/-! ## Lanes and constants -/

theorem lane_half (i l : Fin 128) :
    Scalar.select (k0_pay11 (ix2 i l)) (IntOp.subi (k0_pay10 (ix2 i l)) 1#32) (k0_pay10 (ix2 i l))
      = if l.val < 64 then 0#32 else 1#32 := by
  pointwise [k0_pay10, k0_pay11]
  revert l; decide +kernel

theorem pick_low (l : Fin 128) (X Y : EReal) :
    Scalar.select (IntOp.cmpi CmpIPredicate.eq (if l.val < 64 then 0#32 else 1#32) 0#32) X Y
      = if l.val / 64 = 0 then X else Y := by
  by_cases h : l.val < 64
  · rw [if_pos h, if_pos (by omega)]; rfl
  · rw [if_neg h, if_neg (by omega)]; rfl

theorem pick_high (l : Fin 128) (X Y : EReal) :
    Scalar.select (IntOp.cmpi CmpIPredicate.eq (if l.val < 64 then 0#32 else 1#32) 1#32) X Y
      = if l.val / 64 = 1 then X else Y := by
  have := l.isLt
  by_cases h : l.val < 64
  · rw [if_pos h, if_neg (by omega)]; rfl
  · rw [if_neg h, if_pos (by omega)]; rfl

/-- A sum over the lanes of one head. -/
theorem sum_half (s : ℕ) (hs : s < 2) (f : ℕ → ℝ) (F : Fin 128 → EReal)
    (hF : ∀ l : Fin 128, F l = if l.val / 64 = s then ((f (l.val % 64) : ℝ) : EReal) else 0) :
    ∑ l, F l = ((∑ d ∈ Finset.range 64, f d : ℝ) : EReal) := by
  have e : ∀ l : Fin 128, F l = (((fun i : ℕ => if i / 64 = s then f (i % 64) else 0) l.val : ℝ) : EReal) := by
    intro l; rw [hF]; dsimp only; split_ifs <;> rfl
  rw [Finset.sum_congr rfl fun l _ => e l, ← Cert.RowNorm.coe_sum,
    Fin.sum_univ_eq_sum_range (fun i : ℕ => if i / 64 = s then f (i % 64) else 0) 128]
  congr 1
  rw [Finset.sum_range_add (n := 64) (m := 64)]
  rcases (show s = 0 ∨ s = 1 by omega) with rfl | rfl
  · refine (congrArg₂ (· + ·) (Finset.sum_congr rfl (g := f) fun x hx => ?_) (Finset.sum_eq_zero fun x hx => ?_)).trans
      (add_zero _)
    · have := Finset.mem_range.1 hx; rw [if_pos (by omega), Nat.mod_eq_of_lt this]
    · have := Finset.mem_range.1 hx; rw [if_neg (by omega)]
  · rw [Finset.sum_eq_zero (s := Finset.range 64), zero_add, Finset.sum_congr rfl (g := f)]
    · intro x hx; have := Finset.mem_range.1 hx; rw [if_pos (by omega)]; congr 1; omega
    · intro x hx; have := Finset.mem_range.1 hx; rw [if_neg (by omega)]

theorem mask_eq : (Named.named κ "mask" 0xF149F2CA#32 : Ideal .f32) = (⊥ : EReal) := rfl

theorem low_eq : Ideal.ofBits .f32 0xFF800000#32 = (⊥ : EReal) := by
  simp [Ideal.ofBits, Ideal.ieee]

theorem div_coe (x y : ℝ) (hy : y ≠ 0) : Ideal.div (x : EReal) (y : EReal) = ((x / y : ℝ) : EReal) := by
  rw [Cert.RowNorm.div_real _ hy, ← EReal.coe_mul, div_eq_mul_inv]

/-! ## The bias -/

/-- Columns from row `m` at distance offset `n` to column `j`. -/
def gap (m n j : ℕ) : ℕ := ((m + n) - j) + (j - (m + n))

theorem row_word : ∀ a : Fin 256, IntOp.andi (BitVec.ofNat 32 a.val) 127#32 = BitVec.ofNat 32 (a.val % 128) := by
  decide +kernel

theorem abs_word : ∀ d : Fin 512, IntOp.absi (BitVec.ofNat 32 d.val) = BitVec.ofNat 32 d.val
    ∧ IntOp.absi (-BitVec.ofNat 32 d.val) = BitVec.ofNat 32 d.val := by
  decide +kernel

theorem near_word : ∀ d : Fin 512, IntOp.cmpi .sle (BitVec.ofNat 32 d.val) 64#32 = if d.val ≤ 64 then 1#1 else 0#1 := by
  decide +kernel

theorem int_word : ∀ d : Fin 512, (BitVec.ofNat 32 d.val).toInt = d.val := by
  decide +kernel

theorem gap_word (m n j : ℕ) (hm : m < 128) (hn : n ≤ 128) (hj : j < 256) :
    IntOp.absi (IntOp.subi (IntOp.subi (BitVec.ofNat 32 j) (BitVec.ofNat 32 m)) (BitVec.ofNat 32 n))
      = BitVec.ofNat 32 (gap m n j) := by
  by_cases h : m + n ≤ j
  · have e : IntOp.subi (IntOp.subi (BitVec.ofNat 32 j) (BitVec.ofNat 32 m)) (BitVec.ofNat 32 n)
        = BitVec.ofNat 32 (j - (m + n)) := by
      apply BitVec.eq_of_toNat_eq
      simp only [IntOp.subi, BitVec.toNat_sub, BitVec.toNat_ofNat]
      omega
    have hg : gap m n j = j - (m + n) := by unfold gap; omega
    rw [e, hg]
    exact (abs_word ⟨j - (m + n), by omega⟩).1
  · have e : IntOp.subi (IntOp.subi (BitVec.ofNat 32 j) (BitVec.ofNat 32 m)) (BitVec.ofNat 32 n)
        = -BitVec.ofNat 32 (m + n - j) := by
      apply BitVec.eq_of_toNat_eq
      simp only [IntOp.subi, BitVec.toNat_sub, BitVec.toNat_neg, BitVec.toNat_ofNat]
      omega
    have hg : gap m n j = m + n - j := by unfold gap; omega
    rw [e, hg]
    exact (abs_word ⟨m + n - j, by omega⟩).2

theorem top_word : ∀ a : Fin 256, IntOp.cmpi .slt (BitVec.ofNat 32 a.val) 128#32 = if a.val < 128 then 1#1 else 0#1 := by
  decide +kernel

/-- The bias of a distance: the slope times the distance inside the band, the mask outside. -/
theorem bias_word (m n j : ℕ) (hm : m < 128) (hn : n ≤ 128) (hj : j < 256) (a : Fin 256) (x y : ℝ) :
    Scalar.select (IntOp.cmpi .sle (BitVec.ofNat 32 (gap m n j)) 64#32)
      (((0 : EReal) - Scalar.select (IntOp.cmpi CmpIPredicate.slt (BitVec.ofNat 32 ↑a) 128#32) (x : EReal) (y : EReal))
        * FloatOps.sitofp (F := Ideal) FTy.f32 (BitVec.ofNat 32 (gap m n j)))
      (⊥ : EReal)
      = if gap m n j ≤ 64 then ((-(if a.val < 128 then x else y) * (gap m n j : ℕ) : ℝ) : EReal) else ⊥ := by
  have hd : gap m n j < 512 := by unfold gap; omega
  rw [near_word ⟨gap m n j, hd⟩, top_word]
  have hi : (FloatOps.sitofp (F := Ideal) FTy.f32 (BitVec.ofNat 32 (gap m n j)) : EReal) = (((gap m n j : ℕ) : ℝ) : EReal) := by
    show (((BitVec.ofNat 32 (gap m n j)).toInt : ℝ) : EReal) = _
    rw [int_word ⟨gap m n j, hd⟩]; norm_cast
  rw [hi]
  have hz : ∀ z : ℝ, (0 : EReal) - (z : EReal) = ((-z : ℝ) : EReal) := fun z => by
    rw [zero_sub, EReal.coe_neg]
  by_cases h : gap m n j ≤ 64
  · rw [if_pos h, if_pos h]
    show ((0 : EReal) - _) * _ = _
    by_cases ha : a.val < 128
    · rw [if_pos ha, if_pos ha]
      show ((0 : EReal) - (x : EReal)) * _ = _
      rw [hz, ← EReal.coe_mul]
    · rw [if_neg ha, if_neg ha]
      show ((0 : EReal) - (y : EReal)) * _ = _
      rw [hz, ← EReal.coe_mul]
  · rw [if_neg h, if_neg h]; rfl

/-! ## The block -/

/-- The stacked output put back: each lane from its own head's rows. -/
theorem unstack (v86 : FVec Ideal S256x128 .f32) (i l : Fin 128) :
    k0_pay20 v86 (iota .tc S128x128 32 [1] iota_S128x128_d1_w32) k0_pay17 k0_pay18 k0_pay19 (ix2 i l)
      = if l.val / 64 = 0 then v86 (ix2 ⟨i.val, by omega⟩ l) else v86 (ix2 ⟨128 + i.val, by omega⟩ l) := by
  have hc : Scalar.select (IntOp.andi (k0_pay18 (ix2 i l)) (IntOp.cmpi CmpIPredicate.ne
        (IntOp.remsi ArithUnit.vector (BitVec.ofNat 32 l.val) 64#32) 0#32))
      (IntOp.subi (k0_pay17 (ix2 i l)) 1#32) (k0_pay17 (ix2 i l)) = if l.val < 64 then 0#32 else 1#32 := by
    pointwise [k0_pay17, k0_pay18]
    revert l; decide +kernel
  pointwise [k0_pay20, k0_pay19]
  exact (congrArg (fun c => Scalar.select (IntOp.cmpi .eq c 0#32) _ _) hc).trans (pick_low l _ _)

theorem unstack_sum (v77 v82 : FVec Ideal S256x1 .f32) (i l : Fin 128) :
    k0_pay3 k0_pay22 (k0_pay23 v77 v82) (k0_pay24 v77 v82) (ix2 i l)
      = if l.val / 64 = 0 then v77 (ix2 ⟨i.val, by omega⟩ 0) + Ideal.log (v82 (ix2 ⟨i.val, by omega⟩ 0))
        else v77 (ix2 ⟨128 + i.val, by omega⟩ 0) + Ideal.log (v82 (ix2 ⟨128 + i.val, by omega⟩ 0)) := by
  have hc : k0_pay22 (ix2 i l) = if l.val < 64 then 1#1 else 0#1 := by
    pointwise [k0_pay22]
    revert l; decide +kernel
  pointwise [k0_pay3, k0_pay23, k0_pay24, k0_pay21]
  rw [hc]
  by_cases h : l.val < 64
  · rw [if_pos h, if_pos (by omega)]; rfl
  · rw [if_neg h, if_neg (by omega)]; rfl

section Block

variable (hd : ℕ → Head) (hl : ∀ s, (hd s).len = 8192) (k ws : ℕ) (hk : k < 64) (hw : ws + 256 ≤ 8192)
variable (hlo : ws ≤ 128 * k - 64) (hhi : 128 * k + 192 ≤ ws + 256 ∨ ws + 256 = 8192)

/-- Row `a` of a stack: its place among the rows. -/
def rowAt (k a : ℕ) : ℕ := 128 * k + a % 128

include hl hk in
theorem row_lt (s a : ℕ) : rowAt k a < (hd s).len := by
  rw [hl, rowAt]; omega

include hl hw hlo hhi in
theorem row_window (s a : ℕ) (T : ℕ) (h : In (hd s).len (rowAt k a) T) : ws + 64 ≤ T ∧ T < ws + 64 + 256 := by
  rw [hl] at h; unfold In rowAt at h; omega

include hl hw in
theorem in_near (s r j : ℕ) (hj : j < 256) : In (hd s).len r (ws + 64 + j) ↔ Near r (ws + j) := by
  rw [hl]; unfold In Near; omega

variable (kb vb : FVec Ideal S256x128 .bf16) (qb : FVec Ideal S128x128 .bf16) (bias : Vec Ideal S1x256x256 .f32)
variable (hq : ∀ i l : Fin 128, qb (ix2 i l) = (((hd (l.val / 64)).q (128 * k + i.val) (l.val % 64) * (1 / 8) : ℝ) : EReal))
variable (hkb : ∀ (j : Fin 256) (l : Fin 128), kb (ix2 j l) = (((hd (l.val / 64)).k (ws + j.val) (l.val % 64) : ℝ) : EReal))
variable (hvb : ∀ (j : Fin 256) (l : Fin 128), vb (ix2 j l) = (((hd (l.val / 64)).v (ws + j.val) (l.val % 64) : ℝ) : EReal))
variable (hb : ∀ a j : Fin 256, bias (ix3 0 a j) = if Near (rowAt k a.val) (ws + j.val)
  then ((-(hd (a.val / 128)).slope * (Head.dist (rowAt k a.val) (ws + j.val) : ℕ) : ℝ) : EReal) else ⊥)

/-- The product of a stacked query row and a key row. -/
theorem stack_dot (s r t : ℕ) (hs : s < 2) (c : ℕ → EReal) (Q K : Fin 128 → EReal)
    (hQ : ∀ l : Fin 128, Q l = if l.val / 64 = s then (((hd (l.val / 64)).q r (l.val % 64) * (1 / 8) : ℝ) : EReal) else 0)
    (hK : ∀ l : Fin 128, K l = (((hd (l.val / 64)).k t (l.val % 64) : ℝ) : EReal)) :
    ∑ l, Q l * K l = (((hd s).qk r t * (1 / 8) : ℝ) : EReal) := by
  rw [sum_half s hs (fun d => (hd s).q r d * (1 / 8) * (hd s).k t d)]
  · rw [Head.qk, Finset.sum_mul]
    congr 1
    exact Finset.sum_congr rfl fun d _ => by ring
  · intro l
    rw [hQ, hK]
    split_ifs with h
    · rw [h, ← EReal.coe_mul]
    · exact zero_mul _

include hl hk hw hq hkb hb in
theorem score_at (a j : Fin 256) :
    k0_pay12 kb qb k0_pay10 k0_pay11 bias (ix2 a j)
      = if In (hd (a.val / 128)).len (rowAt k a.val) (ws + 64 + j.val)
        then (((hd (a.val / 128)).score (rowAt k a.val) (ws + 64 + j.val - 64) : ℝ) : EReal) else ⊥ := by
  have ej : ws + 64 + j.val - 64 = ws + j.val := by omega
  simp only [in_near hd hl ws hw _ _ _ j.isLt, ej]
  pointwise [k0_pay12]
  simp only [lane_half, pick_low, pick_high]
  have hdot : (∑ x : Fin 128, (if h : a.val < 128 then if x.val / 64 = 0 then qb (ix2 ⟨a.val, h⟩ x) else 0
        else if x.val / 64 = 1 then qb (ix2 ⟨a.val - 128, by omega⟩ x) else 0) * kb (ix2 j x))
      = (((hd (a.val / 128)).qk (rowAt k a.val) (ws + j.val) * (1 / 8) : ℝ) : EReal) := by
    refine stack_dot hd (a.val / 128) _ _ (by omega) (fun _ => 0) _ _ (fun l => ?_) (fun l => hkb j l)
    by_cases h : a.val < 128
    · rw [dif_pos h, hq, show a.val / 128 = 0 by omega]
      congr 4
      unfold rowAt; dsimp only; omega
    · rw [dif_neg h, hq, show a.val / 128 = 1 by omega]
      congr 4
      unfold rowAt; dsimp only; omega
  refine (congrArg₂ (· + ·) hdot (hb a j)).trans ?_
  split_ifs with h
  · rw [← EReal.coe_add]; rfl
  · exact EReal.add_bot _

include hl hk hw hlo hhi hq hkb hb in
theorem top_at (a : Fin 256) :
    k0_pay13 kb qb k0_pay10 k0_pay11 bias (ix2 a 0) = (((hd (a.val / 128)).top (rowAt k a.val) : ℝ) : EReal) := by
  pointwise [k0_pay13]
  rw [low_eq]
  exact max_window _ (row_lt hd hl k hk _ _) (row_window hd hl k ws hw hlo hhi _ _) _
    fun j => score_at hd hl k ws hk hw kb qb bias hq hkb hb a j

include hl hk hw hlo hhi hq hkb hb in
theorem wt_at (a j : Fin 256) :
    k0_pay14 kb qb k0_pay10 k0_pay11 bias (ix2 a j)
      = if In (hd (a.val / 128)).len (rowAt k a.val) (ws + 64 + j.val)
        then (((hd (a.val / 128)).wt (rowAt k a.val) (ws + 64 + j.val - 64) : ℝ) : EReal) else 0 := by
  pointwise [k0_pay14]
  rw [top_at hd hl k ws hk hw hlo hhi kb qb bias hq hkb hb a]
  exact wt_window _ (score_at hd hl k ws hk hw kb qb bias hq hkb hb a j)

include hl hk hw hlo hhi hq hkb hb in
theorem den_at (a : Fin 256) :
    k0_pay15 kb qb k0_pay10 k0_pay11 bias (ix2 a 0) = (((hd (a.val / 128)).den (rowAt k a.val) : ℝ) : EReal) := by
  pointwise [k0_pay15]
  rw [Finset.sum_congr rfl fun j _ => wt_at hd hl k ws hk hw hlo hhi kb qb bias hq hkb hb a j]
  exact sum_window (row_window hd hl k ws hw hlo hhi _ _) _ fun t h => (hd _).wt_off h

include hl hk hw hlo hhi hq hkb hvb hb in
theorem out_at (a : Fin 256) (l : Fin 128) (h : a.val / 128 = l.val / 64) :
    k0_pay16 kb vb qb k0_pay10 k0_pay11 bias (ix2 a l)
      = (((hd (l.val / 64)).out (rowAt k a.val) (l.val % 64) : ℝ) : EReal) := by
  pointwise [k0_pay16]
  rw [den_at hd hl k ws hk hw hlo hhi kb qb bias hq hkb hb a,
    sum_window_mul (row_window hd hl k ws hw hlo hhi (a.val / 128) a.val) _ _
      (fun j => wt_at hd hl k ws hk hw hlo hhi kb qb bias hq hkb hb a j) (fun t h => (hd _).wt_off h) _
      (fun t => (hd (l.val / 64)).v t (l.val % 64))
      (fun j _ => by rw [hvb, show ws + 64 + j.val - 64 = ws + j.val by omega]),
    div_coe _ _ ((hd _).den_pos (row_lt hd hl k hk _ _)).ne', h]
  rfl

include hl hk hw hlo hhi hq hkb hvb hb in
/-- What the block stores into the output. -/
theorem store_out (i l : Fin 128) :
    k0_pay20 (k0_pay16 kb vb qb k0_pay10 k0_pay11 bias) (iota .tc S128x128 32 [1] iota_S128x128_d1_w32) k0_pay17 k0_pay18
        k0_pay19 (ix2 i l)
      = (((hd (l.val / 64)).out (128 * k + i.val) (l.val % 64) : ℝ) : EReal) := by
  rw [unstack]
  split_ifs with h
  · rw [out_at hd hl k ws hk hw hlo hhi kb vb qb bias hq hkb hvb hb _ l (by dsimp only; omega)]
    congr 4; unfold rowAt; dsimp only; omega
  · rw [out_at hd hl k ws hk hw hlo hhi kb vb qb bias hq hkb hvb hb _ l (by dsimp only; omega)]
    congr 4; unfold rowAt; dsimp only; omega

include hl hk hw hlo hhi hq hkb hb in
/-- What the block stores into the row log-sum. -/
theorem store_lse (i l : Fin 128) :
    k0_pay3 k0_pay22 (k0_pay23 (k0_pay13 kb qb k0_pay10 k0_pay11 bias) (k0_pay15 kb qb k0_pay10 k0_pay11 bias))
        (k0_pay24 (k0_pay13 kb qb k0_pay10 k0_pay11 bias) (k0_pay15 kb qb k0_pay10 k0_pay11 bias)) (ix2 i l)
      = (((hd (l.val / 64)).lse (128 * k + i.val) : ℝ) : EReal) := by
  have hlog : ∀ a : Fin 256, k0_pay13 kb qb k0_pay10 k0_pay11 bias (ix2 a 0)
      + Ideal.log (k0_pay15 kb qb k0_pay10 k0_pay11 bias (ix2 a 0))
      = (((hd (a.val / 128)).lse (rowAt k a.val) : ℝ) : EReal) := by
    intro a
    rw [top_at hd hl k ws hk hw hlo hhi kb qb bias hq hkb hb a,
      den_at hd hl k ws hk hw hlo hhi kb qb bias hq hkb hb a]
    have hp := (hd (a.val / 128)).den_pos (row_lt hd hl k hk (a.val / 128) a.val)
    have hlg : Ideal.log (((hd (a.val / 128)).den (rowAt k a.val) : ℝ) : EReal)
        = ((Real.log ((hd (a.val / 128)).den (rowAt k a.val)) : ℝ) : EReal) := by
      show (if _ then _ else _) = _
      rw [if_neg hp.not_ge]
    rw [hlg, ← EReal.coe_add]; rfl
  rw [unstack_sum]
  split_ifs with h
  · rw [hlog]
    rw [show (⟨i.val, by omega⟩ : Fin 256).val / 128 = l.val / 64 by dsimp only; omega,
      show rowAt k (⟨i.val, by omega⟩ : Fin 256).val = 128 * k + i.val by unfold rowAt; dsimp only; omega]
  · rw [hlog]
    rw [show (⟨128 + i.val, by omega⟩ : Fin 256).val / 128 = l.val / 64 by dsimp only; omega,
      show rowAt k (⟨128 + i.val, by omega⟩ : Fin 256).val = 128 * k + i.val by unfold rowAt; dsimp only; omega]

end Block

end Cert.AttnBlock
-- ==== Proof.AttnBwdBlock.lean ====
module

public import proofs.«01_k».proof.Proof.AttnFwdBlock

/-! # One block of the backward call

The block stacks the rows of two heads as the forward call's does, makes the weights again from the saved row
log-sum, and with them the gradient of the scores. The gradient of the queries it stores; to the gradients of keys and values it adds its
128 rows' terms. -/

@[expose] public section

set_option maxRecDepth 16384

noncomputable section

namespace Cert.AttnBwdBlock

open Idealize.ShloMosaic Idealize.ShloMosaic.TcCoe Idealize.SL.Sem
open Cert.Attn1Ideal Cert.Attn1Ideal.Gen Cert.AttnSpec Cert.AttnBlock

/-! ## Stacks -/

theorem lane_word (i l : Fin 128) : k1_pay6 (ix2 i l) = if l.val < 64 then 0#32 else 1#32 := by
  pointwise [k1_pay6]
  revert l; decide +kernel

/-- A stack's entry: the row's own lanes, zero in the other head's. -/
def stacked (X : FVec Ideal S128x128 .bf16) (a : Fin 256) (l : Fin 128) : EReal :=
  if l.val / 64 = a.val / 128 then X (ix2 ⟨a.val % 128, Nat.mod_lt _ (by norm_num)⟩ l) else 0

theorem stack_cases (X : FVec Ideal S128x128 .bf16) (a : Fin 256) (l : Fin 128) :
    (if h : a.val < 128 then if l.val / 64 = 0 then X (ix2 ⟨a.val, h⟩ l) else 0
      else if l.val / 64 = 1 then X (ix2 ⟨a.val - 128, by omega⟩ l) else 0) = stacked X a l := by
  have := a.isLt
  unfold stacked
  by_cases h : a.val < 128
  · rw [dif_pos h, show a.val / 128 = 0 by omega]
    congr 3; apply Fin.ext; dsimp only; omega
  · rw [dif_neg h, show a.val / 128 = 1 by omega]
    congr 3; apply Fin.ext; dsimp only; omega

theorem stack_queries (X : Vec Ideal S128x128 .bf16) (a : Fin 256) (l : Fin 128) :
    k1_pay9 (k1_pay5 X) k1_pay6 k1_pay7 k1_pay8 (ix2 a l) = stacked X a l := by
  pointwise [k1_pay9, k1_pay5, k1_pay7, k1_pay8]
  simp only [lane_word, pick_low, pick_high]
  exact stack_cases X a l

theorem stack_grads (X : Vec Ideal S128x128 .bf16) (a : Fin 256) (l : Fin 128) :
    k1_pay10 X (ix2 a l) = stacked X a l := by
  rw [← stack_queries]
  pointwise [k1_pay10, k1_pay9, k1_pay5, k1_pay6, k1_pay7, k1_pay8]

theorem lane_dq (X : FVec Ideal S256x128 .f32) (i l : Fin 128) :
    k1_pay22 X k1_pay15 k1_pay16 k1_pay17 0#32 (ix2 i l)
      = (if l.val / 64 = 0 then X (ix2 ⟨i.val, by omega⟩ l) else X (ix2 ⟨128 + i.val, by omega⟩ l)) * ((1 / 8 : ℝ) : EReal) := by
  have hc : Scalar.select (IntOp.andi (k1_pay16 (ix2 i l)) (IntOp.cmpi CmpIPredicate.ne (k1_pay17 (ix2 i l)) 0#32))
      (IntOp.subi (k1_pay15 (ix2 i l)) 1#32) (k1_pay15 (ix2 i l)) = if l.val < 64 then 0#32 else 1#32 := by
    pointwise [k1_pay15, k1_pay16, k1_pay17]
    revert l; decide +kernel
  have he : Ideal.ofBits .f32 0x3E000000#32 = ((1 / 8 : ℝ) : EReal) := by
    simp [Ideal.ofBits, Ideal.ieee]; rw [← EReal.coe_mul]; norm_num
  pointwise [k1_pay22]
  rw [hc, pick_low, he]

/-- A column of row constants, stacked. -/
theorem stack_column (k : ℕ) (X : Vec Ideal S128x128 .f32) (f : ℕ → ℕ → ℝ)
    (hX : ∀ i l : Fin 128, X (ix2 i l) = ((f (l.val / 64) (128 * k + i.val) : ℝ) : EReal)) (a : Fin 256) :
    (if h : a.val < 128 then X (ix2 ⟨a.val, h⟩ 0) else X (ix2 ⟨a.val - 128, by omega⟩ 64))
      = ((f (a.val / 128) (rowAt k a.val) : ℝ) : EReal) := by
  have := a.isLt
  unfold rowAt
  by_cases h : a.val < 128
  · rw [dif_pos h, hX, show a.val / 128 = 0 by omega]
    rw [show a.val % 128 = a.val by omega]; rfl
  · rw [dif_neg h, hX, show a.val / 128 = 1 by omega]
    rw [show a.val % 128 = a.val - 128 by omega]; rfl

section Block

variable (hd : ℕ → Head) (hl : ∀ s, (hd s).len = 8192) (k ws : ℕ) (hk : k < 64) (hw : ws + 256 ≤ 8192)
variable (hlo : ws ≤ 128 * k - 64) (hhi : 128 * k + 192 ≤ ws + 256 ∨ ws + 256 = 8192)
variable (Q G : FVec Ideal S256x128 .bf16) (K : FVec Ideal S256x128 .bf16) (vb : Vec Ideal S256x128 .bf16)
variable (bias : Vec Ideal S1x256x256 .f32) (lb cb : Vec Ideal S128x128 .f32)
variable (hQ : ∀ (a : Fin 256) (l : Fin 128), Q (ix2 a l) = if l.val / 64 = a.val / 128
  then (((hd (l.val / 64)).q (rowAt k a.val) (l.val % 64) * (1 / 8) : ℝ) : EReal) else 0)
variable (hG : ∀ (a : Fin 256) (l : Fin 128), G (ix2 a l) = if l.val / 64 = a.val / 128
  then (((hd (l.val / 64)).g (rowAt k a.val) (l.val % 64) : ℝ) : EReal) else 0)
variable (hK : ∀ (j : Fin 256) (l : Fin 128), K (ix2 j l) = (((hd (l.val / 64)).k (ws + j.val) (l.val % 64) : ℝ) : EReal))
variable (hV : ∀ (j : Fin 256) (l : Fin 128), vb (ix2 j l) = (((hd (l.val / 64)).v (ws + j.val) (l.val % 64) : ℝ) : EReal))
variable (hb : ∀ a j : Fin 256, bias (ix3 0 a j) = if Near (rowAt k a.val) (ws + j.val)
  then ((-(hd (a.val / 128)).slope * (Head.dist (rowAt k a.val) (ws + j.val) : ℕ) : ℝ) : EReal) else ⊥)
variable (hL : ∀ i l : Fin 128, lb (ix2 i l) = (((hd (l.val / 64)).lse (128 * k + i.val) : ℝ) : EReal))
variable (hC : ∀ i l : Fin 128, cb (ix2 i l) = (((hd (l.val / 64)).share (128 * k + i.val) : ℝ) : EReal))

include hl hk hw hQ hK hb hL in
/-- The weight of a key. -/
theorem weight_at (a j : Fin 256) :
    k1_pay12 Q K bias lb (ix2 a j)
      = (((hd (a.val / 128)).wt (rowAt k a.val) (ws + j.val) / (hd (a.val / 128)).den (rowAt k a.val) : ℝ) : EReal) := by
  have ej : ws + 64 + j.val - 64 = ws + j.val := by omega
  have hdot : (∑ x : Fin 128, Q (ix2 a x) * K (ix2 j x))
      = (((hd (a.val / 128)).qk (rowAt k a.val) (ws + j.val) * (1 / 8) : ℝ) : EReal) :=
    stack_dot hd (a.val / 128) _ _ (by omega) (fun _ => 0) _ _ (fun l => hQ a l) (fun l => hK j l)
  have hs : (∑ x : Fin 128, Q (ix2 a x) * K (ix2 j x)) + bias (ix3 0 a j)
      = if In (hd (a.val / 128)).len (rowAt k a.val) (ws + 64 + j.val)
        then (((hd (a.val / 128)).score (rowAt k a.val) (ws + 64 + j.val - 64) : ℝ) : EReal) else ⊥ := by
    simp only [in_near hd hl ws hw _ _ _ j.isLt, ej]
    refine (congrArg₂ (· + ·) hdot (hb a j)).trans ?_
    split_ifs with h
    · rw [← EReal.coe_add]; rfl
    · exact EReal.add_bot _
  have hw' := weight_window (hd (a.val / 128)) (row_lt hd hl k hk _ _) hs
  simp only [in_near hd hl ws hw _ _ _ j.isLt, ej] at hw'
  pointwise [k1_pay12]
  refine (congrArg (fun z => Ideal.exp (_ - z)) (stack_column k lb (fun s r => (hd s).lse r) hL a)).trans ?_
  refine hw'.trans ?_
  split_ifs with h
  · rfl
  · rw [(hd _).wt_off h, zero_div]; rfl

include hl hk hw hQ hK hb hL hG hV hC in
/-- The gradient of a score. -/
theorem dscore_at (a j : Fin 256) :
    k1_pay13 Q G K vb bias lb cb (ix2 a j)
      = (((hd (a.val / 128)).dscore (rowAt k a.val) (ws + j.val) : ℝ) : EReal) := by
  have hdot : (∑ x : Fin 128, G (ix2 a x) * vb (ix2 j x))
      = (((hd (a.val / 128)).gv (rowAt k a.val) (ws + j.val) : ℝ) : EReal) := by
    rw [sum_half (a.val / 128) (by omega) (fun d => (hd (a.val / 128)).g (rowAt k a.val) d * (hd (a.val / 128)).v (ws + j.val) d)]
    · rfl
    · intro l
      rw [hG, hV]
      split_ifs with h
      · rw [h, ← EReal.coe_mul]
      · exact zero_mul _
  pointwise [k1_pay13]
  rw [weight_at hd hl k ws hk hw Q K bias lb hQ hK hb hL a j]
  refine (congrArg₂ (fun y z => _ * (y + z)) hdot (stack_column k cb (fun s r => (hd s).share r) hC a)).trans ?_
  rw [← EReal.coe_add, ← EReal.coe_mul]
  rfl

/-- Keys outside the window of a row give nothing, so a sum over the window is a sum over all keys. -/
theorem window_total (r : ℕ) (hr : ∀ T, In 8192 r T → ws + 64 ≤ T ∧ T < ws + 64 + 256) (f : ℕ → ℝ) (hf : ∀ t, ¬Near r t → f t = 0)
    (hw : ws + 256 ≤ 8192) :
    ∑ j : Fin 256, ((f (ws + j.val) : ℝ) : EReal) = ((∑ t ∈ Finset.range 8192, f t : ℝ) : EReal) := by
  rw [← sum_window hr f hf]
  refine Finset.sum_congr rfl fun j _ => ?_
  have := j.isLt
  split_ifs with h
  · rw [show ws + 64 + j.val - 64 = ws + j.val by omega]
  · rw [hf _ fun hn => h (by unfold In; unfold Near at hn; omega)]; rfl

include hl hk hw hlo hhi hQ hK hb hL hG hV hC in
/-- What the block stores into the gradient of the queries. -/
theorem store_dq (i l : Fin 128) :
    k1_pay22 (k1_pay14 Q G K vb bias lb cb) k1_pay15 k1_pay16 k1_pay17 0#32 (ix2 i l)
      = (((hd (l.val / 64)).dq (128 * k + i.val) (l.val % 64) : ℝ) : EReal) := by
  have hsum : ∀ a : Fin 256, a.val / 128 = l.val / 64 → k1_pay14 Q G K vb bias lb cb (ix2 a l)
      = ((∑ t ∈ Finset.range 8192, (hd (l.val / 64)).dscore (rowAt k a.val) t * (hd (l.val / 64)).k t (l.val % 64) : ℝ) : EReal) := by
    intro a ha
    have hwin := row_window hd hl k ws hw hlo hhi (l.val / 64) a.val
    rw [hl] at hwin
    rw [← window_total ws (rowAt k a.val) hwin _ (fun t h => by rw [(hd _).dscore_off h, zero_mul]) hw]
    pointwise [k1_pay14]
    refine Finset.sum_congr rfl fun j _ => ?_
    rw [dscore_at hd hl k ws hk hw Q G K vb bias lb cb hQ hG hK hV hb hL hC, hK, ha, EReal.coe_mul]
  have hrow : ∀ n : ℕ, n % 128 = i.val → rowAt k n = 128 * k + i.val := fun n h => by unfold rowAt; rw [h]
  rw [lane_dq, Head.dq, hl, EReal.coe_mul]
  split_ifs with h
  · rw [hsum _ (by dsimp only; omega), hrow _ (by dsimp only; omega)]
  · rw [hsum _ (by dsimp only; omega), hrow _ (by dsimp only; omega)]

/-- A sum over the rows of a stack, one head's half of it. -/
theorem sum_stack (s : ℕ) (hs : s < 2) (f : ℕ → ℝ) (F : Fin 256 → EReal)
    (hF : ∀ a : Fin 256, F a = if s = a.val / 128 then ((f (a.val % 128) : ℝ) : EReal) else 0) :
    ∑ a, F a = ((∑ i ∈ Finset.range 128, f i : ℝ) : EReal) := by
  have e : ∀ a : Fin 256, F a = (((fun i : ℕ => if s = i / 128 then f (i % 128) else 0) a.val : ℝ) : EReal) := by
    intro a; rw [hF]; dsimp only; split_ifs <;> rfl
  rw [Finset.sum_congr rfl fun a _ => e a, ← Cert.RowNorm.coe_sum,
    Fin.sum_univ_eq_sum_range (fun i : ℕ => if s = i / 128 then f (i % 128) else 0) 256]
  congr 1
  rw [← Finset.sum_filter]
  refine Finset.sum_bij' (fun i _ => i % 128) (fun i _ => 128 * s + i) ?_ ?_ ?_ ?_ ?_
  · intro i _; exact Finset.mem_range.2 (Nat.mod_lt _ (by norm_num))
  · intro i hi; have := Finset.mem_range.1 hi
    exact Finset.mem_filter.2 ⟨Finset.mem_range.2 (by omega), by omega⟩
  · intro i hi; have h := Finset.mem_filter.1 hi; have := h.2; omega
  · intro i hi; have := Finset.mem_range.1 hi; omega
  · intro i _; rfl

include hl hk hw hQ hK hb hL hG hV hC in
/-- What the block adds to the gradient of a key. -/
theorem add_dk (A : Vec Ideal S1x256x128 .f32) (j : Fin 256) (l : Fin 128) :
    k1_pay23 Q (k1_pay13 Q G K vb bias lb cb) A (ix3 0 j l)
      = A (ix3 0 j l) + ((∑ i ∈ Finset.range 128, (hd (l.val / 64)).dscore (128 * k + i) (ws + j.val)
          * ((hd (l.val / 64)).q (128 * k + i) (l.val % 64) * (1 / 8)) : ℝ) : EReal) := by
  pointwise [k1_pay23]
  congr 1
  refine sum_stack (l.val / 64) (by omega) _ _ fun a => ?_
  rw [dscore_at hd hl k ws hk hw Q G K vb bias lb cb hQ hG hK hV hb hL hC, hQ]
  split_ifs with h
  · rw [← h, ← EReal.coe_mul]; rfl
  · exact mul_zero _

include hl hk hw hQ hK hb hL hG in
/-- What the block adds to the gradient of a value. -/
theorem add_dv (A : Vec Ideal S1x256x128 .f32) (j : Fin 256) (l : Fin 128) :
    k1_pay24 G (k1_pay12 Q K bias lb) A (ix3 0 j l)
      = A (ix3 0 j l) + ((∑ i ∈ Finset.range 128, (hd (l.val / 64)).wt (128 * k + i) (ws + j.val)
          / (hd (l.val / 64)).den (128 * k + i) * (hd (l.val / 64)).g (128 * k + i) (l.val % 64) : ℝ) : EReal) := by
  pointwise [k1_pay24]
  congr 1
  refine sum_stack (l.val / 64) (by omega) _ _ fun a => ?_
  rw [weight_at hd hl k ws hk hw Q K bias lb hQ hK hb hL, hG]
  split_ifs with h
  · rw [← h, ← EReal.coe_mul]; rfl
  · exact mul_zero _

end Block

end Cert.AttnBwdBlock
-- ==== Proof.AttnFwdValue.lean ====
module

public import proofs.«01_k».proof.Proof.AttnFwdBlock
public import proofs.«01_k».proof.Proof.AttnFwdRun
public import Idealize.ShloMosaic.Lib.WholeRead

/-! # What the forward call leaves in its two results

Every block stores rows of the output and of the row log-sum that depend on the operands only, so the results
read the one function the stores agree on. -/

@[expose] public section

set_option maxRecDepth 16384

noncomputable section

namespace Cert.AttnFwd

open Idealize.ShloMosaic Idealize.ShloMosaic.TcCoe Idealize.SL.Sem
open Cert.Attn1Ideal Cert.Attn1Ideal.Gen Cert.AttnSpec Cert.AttnBlock Cert.AttnRun

/-! ## The bias buffer -/

/-- An entry of the bias buffer: which of the three windows, the stacked row, the column. -/
def biasAt (x y : ℝ) (b a j : ℕ) : EReal :=
  if gap (a % 128) (64 * b) j ≤ 64 then ((-(if a < 128 then x else y) * (gap (a % 128) (64 * b) j : ℕ) : ℝ) : EReal) else ⊥

section Bias

variable (r1 r2 : Elt Ideal .f32) (x y : ℝ) (hr1 : r1 = (x : EReal)) (hr2 : r2 = (y : EReal)) (a j : Fin 256)

abbrev rows : IVec S256x256 32 := iota .tc S256x256 32 [0] iota_S256x256_d0_w32
abbrev cols : IVec S256x256 32 := iota .tc S256x256 32 [1] iota_S256x256_d1_w32

include hr1 hr2

theorem first_bias : k0_pay4 rows cols (k0_pay1 r1 r2) (ix3 0 a j) = biasAt x y 0 a j := by
  pointwise [k0_pay4, k0_pay1, rows, cols]
  rw [row_word, gap_word _ 0 _ (Nat.mod_lt _ (by norm_num)) (by norm_num) j.isLt, hr1, hr2, mask_eq]
  exact bias_word _ 0 _ (Nat.mod_lt _ (by norm_num)) (by norm_num) j.isLt a x y

theorem middle_bias : k0_pay5 rows cols (k0_pay1 r1 r2) (ix3 0 a j) = biasAt x y 1 a j := by
  pointwise [k0_pay5, k0_pay1, rows, cols]
  rw [row_word, gap_word _ 64 _ (Nat.mod_lt _ (by norm_num)) (by norm_num) j.isLt, hr1, hr2, mask_eq]
  exact bias_word _ 64 _ (Nat.mod_lt _ (by norm_num)) (by norm_num) j.isLt a x y

theorem last_bias : k0_pay2 r1 r2 (k0_pay6 rows cols) (ix3 0 a j) = biasAt x y 2 a j := by
  pointwise [k0_pay2, k0_pay1, k0_pay6, rows, cols]
  rw [row_word, gap_word _ 128 _ (Nat.mod_lt _ (by norm_num)) (by norm_num) j.isLt, hr1, hr2, mask_eq]
  exact bias_word _ 128 _ (Nat.mod_lt _ (by norm_num)) (by norm_num) j.isLt a x y

end Bias

/-! ## The blocks' windows -/

/-- The first key row of block `k`'s window. -/
def base (k : ℕ) : ℕ := min (128 * k - 64) 7936

/-- Which bias window block `k` takes. -/
def side (k : ℕ) : ℕ := if k = 0 then 0 else if k = 63 then 2 else 1

theorem off_keys : ∀ k : Fin k0_t1_loop.trips, k0_off3 k = ![base k.val, 0] := by decide +kernel
theorem off_rows : ∀ k : Fin k0_t1_loop.trips, k0_off4 k = ![128 * k.val, 0] := by decide +kernel
theorem off_bias : ∀ k : Fin k0_t1_loop.trips, k0_off5 k = ![side k.val, 0, 0] := by decide +kernel

theorem window_facts (k : ℕ) (hk : k < 64) : base k + 256 ≤ 8192 ∧ base k ≤ 128 * k - 64
    ∧ (128 * k + 192 ≤ base k + 256 ∨ base k + 256 = 8192) := by
  unfold base; omega

/-- The bias of a block's row and column, in rows and keys. -/
theorem bias_rows (hd : ℕ → Head) (k : ℕ) (hk : k < 64) (a j : ℕ) (ha : a < 256) :
    biasAt (hd 0).slope (hd 1).slope (side k) a j = if Near (rowAt k a) (base k + j)
      then ((-(hd (a / 128)).slope * (Head.dist (rowAt k a) (base k + j) : ℕ) : ℝ) : EReal) else ⊥ := by
  have hg : gap (a % 128) (64 * side k) j = Head.dist (rowAt k a) (base k + j) := by
    unfold gap Head.dist rowAt base side; split_ifs <;> omega
  have hn : gap (a % 128) (64 * side k) j ≤ 64 ↔ Near (rowAt k a) (base k + j) := by
    rw [hg]; unfold Head.dist Near; omega
  have hs : (if a < 128 then (hd 0).slope else (hd 1).slope) = (hd (a / 128)).slope := by
    by_cases h : a < 128
    · rw [if_pos h, show a / 128 = 0 by omega]
    · rw [if_neg h, show a / 128 = 1 by omega]
  unfold biasAt
  rw [hs]
  simp only [hn]
  rw [hg]

/-! ## The bias buffer, read -/

/-- The three stores that fill the bias buffer. -/
def biasPieces (r1 r2 : Elt Ideal .f32) : List (View.Piece (Elt Ideal) S3x256x256 .f32) :=
  [⟨Rect.unit ![2, 0, 0] S1x256x256.size inb_S3x256x256_S1x256x256_2_0_0, k0_pay2 r1 r2 (k0_pay6 rows cols)⟩,
   ⟨Rect.unit ![1, 0, 0] S1x256x256.size inb_S3x256x256_S1x256x256_1_0_0, k0_pay5 rows cols (k0_pay1 r1 r2)⟩,
   ⟨Rect.unit ![0, 0, 0] S1x256x256.size inb_S3x256x256_S1x256x256_0_0_0, k0_pay4 rows cols (k0_pay1 r1 r2)⟩]

section Buffer

variable (M : Memref sig .tc .vmem S3x256x256 .f32) (r1 r2 : Elt Ideal .f32) (hd : ℕ → Head)
variable (hs0 : r1 = (((hd 0).slope : ℝ) : EReal)) (hs1 : r2 = (((hd 1).slope : ℝ) : EReal))

include hs0 hs1

/-- The bias buffer after its three stores. -/
theorem bias_read (b : Fin 3) (a j : Fin 256) :
    M.view.read (Elt Ideal) (M.view.writes (Elt Ideal) M.view.junk (biasPieces r1 r2)) (ix3 b a j)
      = biasAt (hd 0).slope (hd 1).slope b.val a.val j.val := by
  refine View.read_writes_apply_of_pieces (Val := Elt Ideal) M.view _
    ((fun y => biasAt (hd 0).slope (hd 1).slope (y 0).val (y 1).val (y 2).val) : S3x256x256.Idx → EReal) _ ?_ (ix3 b a j) ?_
  · unfold biasPieces
    intro p hp x
    simp only [List.mem_cons, List.not_mem_nil, or_false] at hp
    have hr0 : ∀ z : Fin 1, z = 0 := fun z => Subsingleton.elim _ _
    have ez : ∀ n : ℕ, 0 + 1 * n = n := fun n => by omega
    rcases hp with rfl | rfl | rfl
    · rw [eq_ix3 x, hr0 (x 0)]
      refine (last_bias _ _ _ _ hs0 hs1 (x 1) (x 2)).trans ?_
      show _ = biasAt _ _ 2 (0 + 1 * (x 1).val) (0 + 1 * (x 2).val)
      rw [ez, ez]
    · rw [eq_ix3 x, hr0 (x 0)]
      refine (middle_bias _ _ _ _ hs0 hs1 (x 1) (x 2)).trans ?_
      show _ = biasAt _ _ 1 (0 + 1 * (x 1).val) (0 + 1 * (x 2).val)
      rw [ez, ez]
    · rw [eq_ix3 x, hr0 (x 0)]
      refine (first_bias _ _ _ _ hs0 hs1 (x 1) (x 2)).trans ?_
      show _ = biasAt _ _ 0 (0 + 1 * (x 1).val) (0 + 1 * (x 2).val)
      rw [ez, ez]
  · unfold biasPieces
    have hr3 : ∀ b : Fin 3, b.val = 2 ∨ b.val = 1 ∨ b.val = 0 := by decide
    have hm : ∀ (o : ℕ) (inb : ∀ d, (![o, 0, 0] : Fin 3 → ℕ) d + (![1, 256, 256] : Fin 3 → ℕ) d ≤ S3x256x256.size d),
        b.val = o → ix3 b a j ∈ (Rect.unit (s := S3x256x256) ![o, 0, 0] ![1, 256, 256] inb).set := by
      intro o inb hb
      rw [Rect.mem_set_unit]
      intro d
      fin_cases d
      · show o ≤ b.val ∧ b.val < o + 1
        omega
      · exact ⟨Nat.zero_le _, (Nat.zero_add 256).symm ▸ a.isLt⟩
      · exact ⟨Nat.zero_le _, (Nat.zero_add 256).symm ▸ j.isLt⟩
    rcases hr3 b with h | h | h
    · refine ⟨_, List.mem_cons_self, ?_⟩; exact hm 2 (by decide) h
    · refine ⟨_, List.mem_cons_of_mem _ List.mem_cons_self, ?_⟩; exact hm 1 (by decide) h
    · refine ⟨_, List.mem_cons_of_mem _ (List.mem_cons_of_mem _ List.mem_cons_self), ?_⟩; exact hm 0 (by decide) h

/-- One block's bias. -/
theorem bias_window (k : ℕ) (hk : k < 64) (off : Fin 3 → ℕ) (ho : off = ![side k, 0, 0])
    (inb : ∀ a, off a + S1x256x256.size a ≤ S3x256x256.size a) (a j : Fin 256) :
    View.readAt (Elt Ideal) M.view (Rect.unit (s := S3x256x256) off S1x256x256.size inb).toLoadRect
        (M.view.writes (Elt Ideal) M.view.junk (biasPieces r1 r2)) (ix3 0 a j)
      = if Near (rowAt k a.val) (base k + j.val)
        then ((-(hd (a.val / 128)).slope * (Head.dist (rowAt k a.val) (base k + j.val) : ℕ) : ℝ) : EReal) else ⊥ := by
  have hsd : side k < 3 := by unfold side; split_ifs <;> omega
  rw [← bias_rows hd k hk a.val j.val a.isLt]
  rw [← bias_read M r1 r2 hd hs0 hs1 ⟨side k, hsd⟩ a j, View.readAt_apply]
  refine congrArg (M.view.read (Elt Ideal) _) ?_
  subst ho
  funext d
  fin_cases d <;> apply Fin.ext
  · show side k + 1 * 0 = side k
    omega
  · show 0 + 1 * a.val = a.val
    omega
  · show 0 + 1 * j.val = j.val
    omega

end Buffer

/-- A load of whole rows of a buffer held at known contents. -/
theorem load_rows {e : EltTy} {n : ℕ} (M : Memref sig .tc .vmem S8192x128 e) (h : M.IsWhole) (X : Vec Ideal S8192x128 e)
    (off : Fin 2 → ℕ) (o : ℕ) (ho : off = ![o, 0]) (inb : ∀ a, off a + (![n, 128] : Fin 2 → ℕ) a ≤ S8192x128.size a)
    (r : Fin n) (l : Fin 128) (hr : o + r.val < 8192) :
    View.readAt (Elt Ideal) M.view (Rect.unit (s := S8192x128) off ![n, 128] inb).toLoadRect (h.unread X) (ix2 r l)
      = X (ix2 ⟨o + r.val, hr⟩ l) := by
  subst ho
  rw [h.readAt_unread]
  refine congrArg X ?_
  funext a
  fin_cases a <;> apply Fin.ext
  · show o + 1 * r.val = o + r.val
    omega
  · show 0 + 1 * l.val = l.val
    omega

/-! ## The stores -/

/-- Where a stored entry of the output lies. -/
theorem out_place (hd : ℕ → AttnSpec.Head) (k : Fin (Scf.trips 0#32 (Scalar.addi 0#32 64#32) 1#32)) (n m : ℕ) :
    (hd (m / 64)).out (128 * k.val + n) (m % 64)
      = (hd ((k0_off4 k 1 + 1 * m) / 64)).out (k0_off4 k 0 + 1 * n) ((k0_off4 k 1 + 1 * m) % 64) := by
  have e0 : k0_off4 k 0 = 128 * k.val := by rw [off_rows k]; rfl
  have e1 : k0_off4 k 1 = 0 := by rw [off_rows k]; rfl
  simp only [e0, e1, Nat.zero_add, Nat.one_mul]

/-- Where a stored entry of the row log-sum lies. -/
theorem lse_place (hd : ℕ → AttnSpec.Head) (k : Fin (Scf.trips 0#32 (Scalar.addi 0#32 64#32) 1#32)) (n m : ℕ) :
    (hd (m / 64)).lse (128 * k.val + n)
      = (hd ((k0_off4 k 1 + 1 * m) / 64)).lse (k0_off4 k 0 + 1 * n) := by
  have e0 : k0_off4 k 0 = 128 * k.val := by rw [off_rows k]; rfl
  have e1 : k0_off4 k 1 = 0 := by rw [off_rows k]; rfl
  simp only [e0, e1, Nat.zero_add, Nat.one_mul]

section Run

variable (c : Dev nD) (i : grid0.Coords) (a2 : Memref sig .tc .smem S4 .f32) (h2 : a2.IsWhole) (a3 : Memref sig .tc .vmem S8192x128 .bf16) (h3 : a3.IsWhole) (a4 : Memref sig .tc .vmem S8192x128 .bf16) (h4 : a4.IsWhole) (a5 : Memref sig .tc .vmem S8192x128 .bf16) (h5 : a5.IsWhole) (a6 : Memref sig .tc .vmem S8192x128 .f32) (h6 : a6.IsWhole) (a7 : Memref sig .tc .vmem S8192x128 .f32) (h7 : a7.IsWhole) (a8 : Memref sig .tc .vmem S3x256x256 .f32) (h8 : a8.IsWhole)

section Trip

variable (X3 : BufTy.Contents (Elt Ideal) a3.view.ty) (X4 : BufTy.Contents (Elt Ideal) a4.view.ty) (X5 : BufTy.Contents (Elt Ideal) a5.view.ty) (X8 : BufTy.Contents (Elt Ideal) a8.view.ty)

/-- What a block loads: its keys, values, queries and bias. -/
abbrev keysOf (k : Fin k0_t1_loop.trips) : FVec Ideal S256x128 .bf16 :=
  k0_pay7 (View.readAt (Elt Ideal) a4.view (Rect.unit (s := S8192x128) (k0_off3 k) S256x128.size (k0_off3_inb k)).toLoadRect X4)
abbrev valuesOf (k : Fin k0_t1_loop.trips) : FVec Ideal S256x128 .bf16 :=
  k0_pay8 (View.readAt (Elt Ideal) a5.view (Rect.unit (s := S8192x128) (k0_off3 k) S256x128.size (k0_off3_inb k)).toLoadRect X5)
abbrev rowsOf (k : Fin k0_t1_loop.trips) : FVec Ideal S128x128 .bf16 :=
  k0_pay9 (View.readAt (Elt Ideal) a3.view (Rect.unit (s := S8192x128) (k0_off4 k) S128x128.size (k0_off4_inb k)).toLoadRect X3)
abbrev biasOf (k : Fin k0_t1_loop.trips) : Vec Ideal S1x256x256 .f32 :=
  View.readAt (Elt Ideal) a8.view (Rect.unit (s := S3x256x256) (k0_off5 k) S1x256x256.size (k0_off5_inb k)).toLoadRect X8

local notation "on(" f ")" => f (F := Ideal) Variants.none c none i a2 h2 a3 h3 a4 h4 a5 h5 a6 h6 a7 h7 a8 h8

theorem trip_out (k : Fin k0_t1_loop.trips) :
    (on(tripL_k0_t1) X3 X4 X5 X8 k).1
      = [⟨Rect.unit (s := S8192x128) (k0_off4 k) S128x128.size (k0_off4_inb k),
          k0_pay20 (k0_pay16 (keysOf a4 X4 k) (valuesOf a5 X5 k) (rowsOf a3 X3 k) k0_pay10 k0_pay11 (biasOf a8 X8 k))
            (iota .tc S128x128 32 [1] iota_S128x128_d1_w32) k0_pay17 k0_pay18 k0_pay19⟩] := by
  unfold tripL_k0_t1 trip_k0_t1; rfl

theorem trip_lse (k : Fin k0_t1_loop.trips) :
    (on(tripL_k0_t1) X3 X4 X5 X8 k).2
      = [⟨Rect.unit (s := S8192x128) (k0_off4 k) S128x128.size (k0_off4_inb k),
          k0_pay3 k0_pay22
            (k0_pay23 (k0_pay13 (keysOf a4 X4 k) (rowsOf a3 X3 k) k0_pay10 k0_pay11 (biasOf a8 X8 k)) (k0_pay15 (keysOf a4 X4 k) (rowsOf a3 X3 k) k0_pay10 k0_pay11 (biasOf a8 X8 k)))
            (k0_pay24 (k0_pay13 (keysOf a4 X4 k) (rowsOf a3 X3 k) k0_pay10 k0_pay11 (biasOf a8 X8 k)) (k0_pay15 (keysOf a4 X4 k) (rowsOf a3 X3 k) k0_pay10 k0_pay11 (biasOf a8 X8 k)))⟩] := by
  unfold tripL_k0_t1 trip_k0_t1; rfl

/-- Every store of the blocks before `n` is a store of one of the blocks. -/
theorem store_block (n : ℕ) : (∀ p ∈ (on(pb_k0_t1) X3 X4 X5 X8 n).1,
      ∃ k, p ∈ (on(tripL_k0_t1) X3 X4 X5 X8 k).1)
    ∧ ∀ p ∈ (on(pb_k0_t1) X3 X4 X5 X8 n).2,
      ∃ k, p ∈ (on(tripL_k0_t1) X3 X4 X5 X8 k).2 := by
  induction n with
  | zero => exact ⟨fun p hp => absurd hp List.not_mem_nil, fun p hp => absurd hp List.not_mem_nil⟩
  | succ n ih =>
    by_cases h : n < k0_t1_loop.trips
    · have e := on(pb_k0_t1_succ) X3 X4 X5 X8 ⟨n, h⟩
      rw [e]
      exact ⟨fun p hp => (List.mem_append.1 hp).elim (fun h' => ⟨_, h'⟩) (ih.1 p),
        fun p hp => (List.mem_append.1 hp).elim (fun h' => ⟨_, h'⟩) (ih.2 p)⟩
    · have e : on(pb_k0_t1) X3 X4 X5 X8 (n + 1)
          = on(pb_k0_t1) X3 X4 X5 X8 n := by
        rw [pb_k0_t1.eq_2]; unfold pb_k0_t1Step; exact dif_neg h
      rw [e]; exact ih

end Trip

variable (hc0 : fwdFirst i) (x0 : Vec Ideal S4 .f32) (x1 x2 x3 : Vec Ideal S8192x128 .bf16)
variable (hd : ℕ → Head) (hl : ∀ s, (hd s).len = 8192)
variable (hq : ∀ (r : Fin 8192) (l : Fin 128), x1 (ix2 r l) = (((hd (l.val / 64)).q r.val (l.val % 64) * (1 / 8) : ℝ) : EReal))
variable (hkb : ∀ (r : Fin 8192) (l : Fin 128), x2 (ix2 r l) = (((hd (l.val / 64)).k r.val (l.val % 64) : ℝ) : EReal))
variable (hvb : ∀ (r : Fin 8192) (l : Fin 128), x3 (ix2 r l) = (((hd (l.val / 64)).v r.val (l.val % 64) : ℝ) : EReal))

include hq in
theorem rows_at (k : Fin k0_t1_loop.trips) (r l : Fin 128) :
    rowsOf a3 (h3.unread x1) k (ix2 r l) = (((hd (l.val / 64)).q (128 * k.val + r.val) (l.val % 64) * (1 / 8) : ℝ) : EReal) := by
  have hk : k.val < 64 := Nat.lt_of_lt_of_le k.isLt k0_t1_abs.2.1
  pointwise [rowsOf, k0_pay9]
  exact (load_rows a3 h3 x1 _ _ (off_rows k) _ r l (by omega)).trans (hq _ l)

include hkb in
theorem keys_at (k : Fin k0_t1_loop.trips) (j : Fin 256) (l : Fin 128) :
    keysOf a4 (h4.unread x2) k (ix2 j l) = (((hd (l.val / 64)).k (base k.val + j.val) (l.val % 64) : ℝ) : EReal) := by
  have hk : k.val < 64 := Nat.lt_of_lt_of_le k.isLt k0_t1_abs.2.1
  have := window_facts k.val hk
  pointwise [keysOf, k0_pay7]
  exact (load_rows a4 h4 x2 _ _ (off_keys k) _ j l (by omega)).trans (hkb _ l)

include hvb in
theorem values_at (k : Fin k0_t1_loop.trips) (j : Fin 256) (l : Fin 128) :
    valuesOf a5 (h5.unread x3) k (ix2 j l) = (((hd (l.val / 64)).v (base k.val + j.val) (l.val % 64) : ℝ) : EReal) := by
  have hk : k.val < 64 := Nat.lt_of_lt_of_le k.isLt k0_t1_abs.2.1
  have := window_facts k.val hk
  pointwise [valuesOf, k0_pay8]
  exact (load_rows a5 h5 x3 _ _ (off_keys k) _ j l (by omega)).trans (hvb _ l)

/-- The bias buffer the blocks read. -/
abbrev biasHeld : BufTy.Contents (Elt Ideal) a8.view.ty :=
  a8.view.writes (Elt Ideal) a8.view.junk (fwdRun.sl.HS0_3 c i a2 h2 x0)

theorem bias_block (hs0 : fwdRun.sl.r c i a2 h2 x0 = (((hd 0).slope : ℝ) : EReal))
    (hs1 : fwdRun.sl.r_1 c i a2 h2 x0 = (((hd 1).slope : ℝ) : EReal)) (k : Fin k0_t1_loop.trips) (a j : Fin 256) :
    biasOf a8 (biasHeld c i a2 h2 a8 x0) k (ix3 0 a j)
      = if Near (rowAt k.val a.val) (base k.val + j.val)
        then ((-(hd (a.val / 128)).slope * (Head.dist (rowAt k.val a.val) (base k.val + j.val) : ℕ) : ℝ) : EReal) else ⊥ :=
  bias_window a8 _ _ hd hs0 hs1 k.val (Nat.lt_of_lt_of_le k.isLt k0_t1_abs.2.1) _ (off_bias k) _ a j

variable (hs0 : fwdRun.sl.r c i a2 h2 x0 = (((hd 0).slope : ℝ) : EReal))
  (hs1 : fwdRun.sl.r_1 c i a2 h2 x0 = (((hd 1).slope : ℝ) : EReal))

include hl hq hkb hvb hs0 hs1

/-- The output the call leaves. -/
theorem out_read (r : Fin 8192) (l : Fin 128) :
    fwdOut4 c i a2 h2 a3 h3 a4 h4 a5 h5 a6 h6 a7 h7 a8 h8 hc0 x0 x1 x2 x3 (ix2 r l)
      = (((hd (l.val / 64)).out r.val (l.val % 64) : ℝ) : EReal) := by
  refine View.read_writes_apply_of_pieces (Val := Elt Ideal) fwdView4 _
    ((fun y => (((hd ((y 1).val / 64)).out (y 0).val ((y 1).val % 64) : ℝ) : EReal)) : S8192x128.Idx → EReal) _ ?_ (ix2 r l)
    (fwdOut4_covers c i a2 h2 a3 h3 a4 h4 a5 h5 a6 h6 a7 h7 a8 h8 hc0 x0 x1 x2 x3 _)
  unfold fwdRun
  intro p hp x
  obtain ⟨k, hk⟩ := (store_block c i a2 h2 a3 h3 a4 h4 a5 h5 a6 h6 a7 h7 a8 h8 _ _ _ _ _).1 p hp
  have hk64 : k.val < 64 := Nat.lt_of_lt_of_le k.isLt k0_t1_abs.2.1
  rw [trip_out, List.mem_singleton] at hk
  subst hk
  have hw := window_facts k.val hk64
  rw [eq_ix2 x]
  refine (store_out hd hl k.val (base k.val) hk64 hw.1 hw.2.1 hw.2.2 _ _ _ _ (rows_at a3 h3 x1 hd hq k)
    (keys_at a4 h4 x2 hd hkb k) (values_at a5 h5 x3 hd hvb k) (bias_block c i a2 h2 a8 x0 hd hs0 hs1 k)
    (x 0) (x 1)).trans ?_
  exact congrArg (fun z : ℝ => (z : EReal)) (out_place hd k (x 0).val (x 1).val)

omit hvb in
/-- The row log-sum the call leaves, the same in every lane of a head. -/
theorem lse_read (r : Fin 8192) (l : Fin 128) :
    fwdOut5 c i a2 h2 a3 h3 a4 h4 a5 h5 a6 h6 a7 h7 a8 h8 hc0 x0 x1 x2 x3 (ix2 r l)
      = (((hd (l.val / 64)).lse r.val : ℝ) : EReal) := by
  refine View.read_writes_apply_of_pieces (Val := Elt Ideal) fwdView5 _
    ((fun y => (((hd ((y 1).val / 64)).lse (y 0).val : ℝ) : EReal)) : S8192x128.Idx → EReal) _ ?_ (ix2 r l)
    (fwdOut5_covers c i a2 h2 a3 h3 a4 h4 a5 h5 a6 h6 a7 h7 a8 h8 hc0 x0 x1 x2 x3 _)
  unfold fwdRun
  intro p hp x
  obtain ⟨k, hk⟩ := (store_block c i a2 h2 a3 h3 a4 h4 a5 h5 a6 h6 a7 h7 a8 h8 _ _ _ _ _).2 p hp
  have hk64 : k.val < 64 := Nat.lt_of_lt_of_le k.isLt k0_t1_abs.2.1
  rw [trip_lse, List.mem_singleton] at hk
  subst hk
  have hw := window_facts k.val hk64
  rw [eq_ix2 x]
  refine (store_lse hd hl k.val (base k.val) hk64 hw.1 hw.2.1 hw.2.2 _ _ _ (rows_at a3 h3 x1 hd hq k)
    (keys_at a4 h4 x2 hd hkb k) (bias_block c i a2 h2 a8 x0 hd hs0 hs1 k) (x 0) (x 1)).trans ?_
  exact congrArg (fun z : ℝ => (z : EReal)) (lse_place hd k (x 0).val (x 1).val)

end Run

end Cert.AttnFwd
-- ==== Proof.AttnBwdValue.lean ====
module

public import proofs.«01_k».proof.Proof.AttnBwdBlock
public import proofs.«01_k».proof.Proof.AttnFwdValue
public import proofs.«01_k».proof.Proof.AttnBwdRun
public import Idealize.ShloMosaic.Lib.WholeRead
public import Idealize.ShloMosaic.Lib.WritesUnit

/-! # What the backward call leaves in its three results

The gradient of the queries is stored block by block; the gradients of keys and values are added up in two
accumulators, which after `k` blocks hold the terms of the first `128 k` rows. -/

@[expose] public section

set_option maxRecDepth 16384

noncomputable section

namespace Cert.AttnBwdValue

open Idealize.ShloMosaic Idealize.ShloMosaic.TcCoe Idealize.SL.Sem
open Cert.Attn1Ideal Cert.Attn1Ideal.Gen Cert.AttnSpec Cert.AttnBlock Cert.AttnBwdBlock Cert.AttnRun
open Cert.AttnFwd (biasAt base side window_facts bias_rows load_rows rows cols)
open Cert.AttnBwd (blockRun dqStores dkStores dvStores dqStores_succ dkStores_succ dvStores_succ)

theorem off_keys : ∀ k : Fin k1_t1_loop.trips, k1_off4 k = ![base k.val, 0] := by decide +kernel
theorem off_rows : ∀ k : Fin k1_t1_loop.trips, k1_off3 k = ![128 * k.val, 0] := by decide +kernel
theorem off_bias : ∀ k : Fin k1_t1_loop.trips, k1_off5 k = ![side k.val, 0, 0] := by decide +kernel
theorem off_sums : ∀ k : Fin k1_t1_loop.trips, k1_off6 k = ![0, base k.val, 0] := by decide +kernel

/-- One block's store into an accumulator: the terms of its 128 rows join those of the rows before. -/
theorem add_read (M : Memref sig .tc .vmem S1x8192x128 .f32) (f : BufTy.Contents (Elt Ideal) M.view.ty) (k : ℕ) (hk : k < 64)
    (off : Fin 3 → ℕ) (ho : off = ![0, base k, 0]) (inb : ∀ a, off a + S1x256x128.size a ≤ S1x8192x128.size a)
    (w : Vec Ideal S1x256x128 .f32) (L : List (View.Piece (Elt Ideal) S1x8192x128 .f32)) (T : ℕ → ℕ → ℕ → ℕ → ℝ)
    (hT : ∀ s r t d, ¬Near r t → T s r t d = 0)
    (hL : ∀ (t : Fin 8192) (l : Fin 128), M.view.read (Elt Ideal) (M.view.writes (Elt Ideal) f L) (ix3 0 t l)
      = ((∑ r ∈ Finset.range (128 * k), T (l.val / 64) r t.val (l.val % 64) : ℝ) : EReal))
    (hw : ∀ (j : Fin 256) (l : Fin 128), w (ix3 0 j l)
      = View.readAt (Elt Ideal) M.view (Rect.unit (s := S1x8192x128) off S1x256x128.size inb).toLoadRect
          (M.view.writes (Elt Ideal) f L) (ix3 0 j l)
        + ((∑ i ∈ Finset.range 128, T (l.val / 64) (128 * k + i) (base k + j.val) (l.val % 64) : ℝ) : EReal))
    (t : Fin 8192) (l : Fin 128) :
    M.view.read (Elt Ideal) (M.view.writes (Elt Ideal) f (⟨Rect.unit (s := S1x8192x128) off S1x256x128.size inb, w⟩ :: L)) (ix3 0 t l)
      = ((∑ r ∈ Finset.range (128 * (k + 1)), T (l.val / 64) r t.val (l.val % 64) : ℝ) : EReal) := by
  subst ho
  rw [Nat.mul_succ, Finset.sum_range_add, EReal.coe_add, ← hL t l]
  by_cases h : base k ≤ t.val ∧ t.val < base k + 256
  · refine (View.read_writes_cons_unit_of_mem (Val := Elt Ideal) M.view f inb w L (ix3 0 t l)
      (ix3 (0 : Fin 1) (⟨t.val - base k, by omega⟩ : Fin 256) l) rfl ?_).trans ?_
    · intro a
      fin_cases a
      · rfl
      · show t.val = base k + (t.val - base k)
        omega
      · show l.val = 0 + l.val
        omega
    · rw [hw, View.readAt_apply]
      congr 1
      · refine congrArg (M.view.read (Elt Ideal) _) ?_
        funext a
        fin_cases a <;> apply Fin.ext
        · rfl
        · show base k + 1 * (t.val - base k) = t.val
          omega
        · show 0 + 1 * l.val = l.val
          omega
      · dsimp only
        rw [show base k + (t.val - base k) = t.val by omega]
  · refine (View.read_writes_cons_unit_of_not_mem (Val := Elt Ideal) M.view f inb w L (ix3 0 t l) rfl (1 : Fin 3) ?_).trans ?_
    · show t.val < base k ∨ base k + 256 ≤ t.val
      omega
    · have := window_facts k hk
      rw [Finset.sum_eq_zero, EReal.coe_zero, add_zero]
      intro i hi
      have := Finset.mem_range.1 hi
      exact hT _ _ _ _ fun hn => h (by unfold Near at hn; have := t.isLt; omega)

theorem trips_eq : Scf.trips k1_t1_loop.lb k1_t1_loop.ub k1_t1_loop.st = 64 := by decide +kernel

/-- An accumulator set to zero. -/
theorem zero_read (M : Memref sig .tc .vmem S1x8192x128 .f32) (f : BufTy.Contents (Elt Ideal) M.view.ty)
    (inb : ∀ a, (![0, 0, 0] : Fin 3 → ℕ) a + S1x8192x128.size a ≤ S1x8192x128.size a) (w : Vec Ideal S1x8192x128 .f32)
    (hw : ∀ y, w y = 0) (t : Fin 8192) (l : Fin 128) :
    M.view.read (Elt Ideal) (M.view.writes (Elt Ideal) f [⟨Rect.unit (s := S1x8192x128) ![0, 0, 0] S1x8192x128.size inb, w⟩]) (ix3 0 t l) = 0 := by
  refine (View.read_writes_cons_unit_of_mem (Val := Elt Ideal) M.view f inb w [] (ix3 0 t l) (ix3 0 t l) rfl ?_).trans (hw _)
  intro a
  fin_cases a
  · rfl
  · exact (Nat.zero_add _).symm
  · exact (Nat.zero_add _).symm

/-- A result stored whole from an accumulator. -/
theorem whole_read (V : View sig .tc .vmem S8192x128 .bf16) (f : BufTy.Contents (Elt Ideal) V.ty)
    (inb : ∀ a, (![0, 0] : Fin 2 → ℕ) a + S8192x128.size a ≤ S8192x128.size a) (w : Vec Ideal S8192x128 .bf16) (r : Fin 8192) (l : Fin 128) :
    V.read (Elt Ideal) (V.writes (Elt Ideal) f [⟨Rect.unit (s := S8192x128) ![0, 0] S8192x128.size inb, w⟩]) (ix2 r l) = w (ix2 r l) := by
  refine View.read_writes_cons_unit_of_mem (Val := Elt Ideal) V f inb w [] (ix2 r l) (ix2 r l) rfl ?_
  intro a
  fin_cases a
  · exact (Nat.zero_add _).symm
  · exact (Nat.zero_add _).symm

theorem whole_load (M : Memref sig .tc .vmem S1x8192x128 .f32) (f : BufTy.Contents (Elt Ideal) M.view.ty)
    (inb : ∀ a, (![0, 0, 0] : Fin 3 → ℕ) a + S1x8192x128.size a ≤ S1x8192x128.size a) (t : Fin 8192) (l : Fin 128) :
    View.readAt (Elt Ideal) M.view (Rect.unit (s := S1x8192x128) ![0, 0, 0] S1x8192x128.size inb).toLoadRect f (ix3 0 t l)
      = M.view.read (Elt Ideal) f (ix3 0 t l) := by
  rw [View.readAt_apply]
  refine congrArg (M.view.read (Elt Ideal) f) ?_
  funext a
  fin_cases a <;> apply Fin.ext
  · rfl
  · show 0 + 1 * t.val = t.val
    omega
  · show 0 + 1 * l.val = l.val
    omega

theorem zero_k (y : S1x8192x128.Idx) : (k1_pay18 : FVec Ideal S1x8192x128 .f32) y = 0 := by
  rw [eq_ix3 y]; pointwise [k1_pay18]
theorem zero_v (y : S1x8192x128.Idx) : (k1_pay19 : FVec Ideal S1x8192x128 .f32) y = 0 := by
  rw [eq_ix3 y]; pointwise [k1_pay19]
theorem cast_k (X : Vec Ideal S1x8192x128 .f32) (r : Fin 8192) (l : Fin 128) : k1_pay25 X (ix2 r l) = X (ix3 0 r l) := by
  pointwise [k1_pay25]
theorem cast_v (X : Vec Ideal S1x8192x128 .f32) (r : Fin 8192) (l : Fin 128) : k1_pay1 X (ix2 r l) = X (ix3 0 r l) := by
  pointwise [k1_pay1]

section Run

variable (c : Dev nD) (i : grid1.Coords)
variable (a2 : Memref sig .tc .smem S4 .f32) (h2 : a2.IsWhole) (a3 : Memref sig .tc .vmem S8192x128 .bf16) (h3 : a3.IsWhole) (a4 : Memref sig .tc .vmem S8192x128 .bf16) (h4 : a4.IsWhole) (a5 : Memref sig .tc .vmem S8192x128 .bf16) (h5 : a5.IsWhole) (a6 : Memref sig .tc .vmem S8192x128 .bf16) (h6 : a6.IsWhole) (a7 : Memref sig .tc .vmem S8192x128 .f32) (h7 : a7.IsWhole) (a8 : Memref sig .tc .vmem S8192x128 .f32) (h8 : a8.IsWhole) (a9 : Memref sig .tc .vmem S8192x128 .bf16) (h9 : a9.IsWhole) (a10 : Memref sig .tc .vmem S8192x128 .bf16) (h10 : a10.IsWhole) (a11 : Memref sig .tc .vmem S8192x128 .bf16) (h11 : a11.IsWhole) (a12 : Memref sig .tc .vmem S1x8192x128 .f32) (h12 : a12.IsWhole) (a13 : Memref sig .tc .vmem S1x8192x128 .f32) (h13 : a13.IsWhole) (a14 : Memref sig .tc .vmem S3x256x256 .f32) (h14 : a14.IsWhole)

local notation "on(" f ")" => f (F := Ideal) Variants.none c none i a2 h2 a3 h3 a4 h4 a5 h5 a6 h6 a7 h7 a8 h8 a9 h9 a10 h10 a11 h11 a12 h12 a13 h13 a14 h14
local notation "at(" f ")" => f c i a2 h2 a3 h3 a4 h4 a5 h5 a6 h6 a7 h7 a8 h8 a9 h9 a10 h10 a11 h11 a12 h12 a13 h13 a14 h14

section Trip

variable (X3 : BufTy.Contents (Elt Ideal) a3.view.ty) (X4 : BufTy.Contents (Elt Ideal) a4.view.ty)
  (X5 : BufTy.Contents (Elt Ideal) a5.view.ty) (X6 : BufTy.Contents (Elt Ideal) a6.view.ty)
  (X7 : BufTy.Contents (Elt Ideal) a7.view.ty) (X8 : BufTy.Contents (Elt Ideal) a8.view.ty)
  (X14 : BufTy.Contents (Elt Ideal) a14.view.ty)

/-- What a block loads. -/
abbrev queriesOf (k : Fin k1_t1_loop.trips) : FVec Ideal S256x128 .bf16 :=
  k1_pay9 (k1_pay5 (View.readAt (Elt Ideal) a3.view (Rect.unit (s := S8192x128) (k1_off3 k) S128x128.size (k1_off3_inb k)).toLoadRect X3)) k1_pay6 k1_pay7 k1_pay8
abbrev gradsOf (k : Fin k1_t1_loop.trips) : FVec Ideal S256x128 .bf16 :=
  k1_pay10 (View.readAt (Elt Ideal) a6.view (Rect.unit (s := S8192x128) (k1_off3 k) S128x128.size (k1_off3_inb k)).toLoadRect X6)
abbrev keysOf (k : Fin k1_t1_loop.trips) : FVec Ideal S256x128 .bf16 :=
  k1_pay11 (View.readAt (Elt Ideal) a4.view (Rect.unit (s := S8192x128) (k1_off4 k) S256x128.size (k1_off4_inb k)).toLoadRect X4)
abbrev valuesOf (k : Fin k1_t1_loop.trips) : Vec Ideal S256x128 .bf16 :=
  View.readAt (Elt Ideal) a5.view (Rect.unit (s := S8192x128) (k1_off4 k) S256x128.size (k1_off4_inb k)).toLoadRect X5
abbrev biasOf (k : Fin k1_t1_loop.trips) : Vec Ideal S1x256x256 .f32 :=
  View.readAt (Elt Ideal) a14.view (Rect.unit (s := S3x256x256) (k1_off5 k) S1x256x256.size (k1_off5_inb k)).toLoadRect X14
abbrev sumsOf (k : Fin k1_t1_loop.trips) : Vec Ideal S128x128 .f32 :=
  View.readAt (Elt Ideal) a7.view (Rect.unit (s := S8192x128) (k1_off3 k) S128x128.size (k1_off3_inb k)).toLoadRect X7
abbrev sharesOf (k : Fin k1_t1_loop.trips) : Vec Ideal S128x128 .f32 :=
  View.readAt (Elt Ideal) a8.view (Rect.unit (s := S8192x128) (k1_off3 k) S128x128.size (k1_off3_inb k)).toLoadRect X8

theorem trip_dq (k : Fin k1_t1_loop.trips) :
    (on(blockRun) X3 X4 X5 X6 X7 X8 X14 k).1
      = [⟨Rect.unit (s := S8192x128) (k1_off3 k) S128x128.size (k1_off3_inb k),
          k1_pay22 (k1_pay14 (queriesOf a3 X3 k) (gradsOf a6 X6 k) (keysOf a4 X4 k) (valuesOf a5 X5 k) (biasOf a14 X14 k) (sumsOf a7 X7 k) (sharesOf a8 X8 k))
            k1_pay15 k1_pay16 k1_pay17 0#32⟩] := by
  unfold blockRun; rfl

theorem trip_dk (k : Fin k1_t1_loop.trips) (f : BufTy.Contents (Elt Ideal) a12.view.ty) :
    (on(blockRun) X3 X4 X5 X6 X7 X8 X14 k).2.1 f
      = [⟨Rect.unit (s := S1x8192x128) (k1_off6 k) S1x256x128.size (k1_off6_inb k),
          k1_pay23 (queriesOf a3 X3 k) (k1_pay13 (queriesOf a3 X3 k) (gradsOf a6 X6 k) (keysOf a4 X4 k) (valuesOf a5 X5 k) (biasOf a14 X14 k) (sumsOf a7 X7 k) (sharesOf a8 X8 k))
            (View.readAt (Elt Ideal) a12.view (Rect.unit (s := S1x8192x128) (k1_off6 k) S1x256x128.size (k1_off6_inb k)).toLoadRect f)⟩] := by
  unfold blockRun; rfl

theorem trip_dv (k : Fin k1_t1_loop.trips) (f : BufTy.Contents (Elt Ideal) a13.view.ty) :
    (on(blockRun) X3 X4 X5 X6 X7 X8 X14 k).2.2.1 f
      = [⟨Rect.unit (s := S1x8192x128) (k1_off6 k) S1x256x128.size (k1_off6_inb k),
          k1_pay24 (gradsOf a6 X6 k) (k1_pay12 (queriesOf a3 X3 k) (keysOf a4 X4 k) (biasOf a14 X14 k) (sumsOf a7 X7 k))
            (View.readAt (Elt Ideal) a13.view (Rect.unit (s := S1x8192x128) (k1_off6 k) S1x256x128.size (k1_off6_inb k)).toLoadRect f)⟩] := by
  unfold blockRun; rfl

end Trip

section Values

variable (hd : ℕ → Head) (hl : ∀ s, (hd s).len = 8192)
variable (x0 : Vec Ideal S4 .f32) (x1 x2 x3 x4 : Vec Ideal S8192x128 .bf16) (x5 x6 : Vec Ideal S8192x128 .f32)
variable (hq : ∀ (r : Fin 8192) (l : Fin 128), x1 (ix2 r l) = (((hd (l.val / 64)).q r.val (l.val % 64) * (1 / 8) : ℝ) : EReal))
variable (hkb : ∀ (r : Fin 8192) (l : Fin 128), x2 (ix2 r l) = (((hd (l.val / 64)).k r.val (l.val % 64) : ℝ) : EReal))
variable (hvb : ∀ (r : Fin 8192) (l : Fin 128), x3 (ix2 r l) = (((hd (l.val / 64)).v r.val (l.val % 64) : ℝ) : EReal))
variable (hgb : ∀ (r : Fin 8192) (l : Fin 128), x4 (ix2 r l) = (((hd (l.val / 64)).g r.val (l.val % 64) : ℝ) : EReal))
variable (hlb : ∀ (r : Fin 8192) (l : Fin 128), x5 (ix2 r l) = (((hd (l.val / 64)).lse r.val : ℝ) : EReal))
variable (hcb : ∀ (r : Fin 8192) (l : Fin 128), x6 (ix2 r l) = (((hd (l.val / 64)).share r.val : ℝ) : EReal))
variable (hs0 : bwdRun.sl.r c i a2 h2 x0 = (((hd 0).slope : ℝ) : EReal))
  (hs1 : bwdRun.sl.r_1 c i a2 h2 x0 = (((hd 1).slope : ℝ) : EReal))

include hq in
theorem queries_at (k : Fin k1_t1_loop.trips) (a : Fin 256) (l : Fin 128) :
    queriesOf a3 (h3.unread x1) k (ix2 a l) = if l.val / 64 = a.val / 128
      then (((hd (l.val / 64)).q (rowAt k.val a.val) (l.val % 64) * (1 / 8) : ℝ) : EReal) else 0 := by
  have hk : k.val < 64 := Nat.lt_of_lt_of_le k.isLt k1_t1_abs.2.1
  unfold queriesOf
  rw [stack_queries, stacked]
  split_ifs with h
  · exact (load_rows a3 h3 x1 _ _ (off_rows k) _ _ l (by dsimp only; omega)).trans (hq _ l)
  · rfl

include hgb in
theorem grads_at (k : Fin k1_t1_loop.trips) (a : Fin 256) (l : Fin 128) :
    gradsOf a6 (h6.unread x4) k (ix2 a l) = if l.val / 64 = a.val / 128
      then (((hd (l.val / 64)).g (rowAt k.val a.val) (l.val % 64) : ℝ) : EReal) else 0 := by
  have hk : k.val < 64 := Nat.lt_of_lt_of_le k.isLt k1_t1_abs.2.1
  unfold gradsOf
  rw [stack_grads, stacked]
  split_ifs with h
  · exact (load_rows a6 h6 x4 _ _ (off_rows k) _ _ l (by dsimp only; omega)).trans (hgb _ l)
  · rfl

include hkb in
theorem keys_at (k : Fin k1_t1_loop.trips) (j : Fin 256) (l : Fin 128) :
    keysOf a4 (h4.unread x2) k (ix2 j l) = (((hd (l.val / 64)).k (base k.val + j.val) (l.val % 64) : ℝ) : EReal) := by
  have hk : k.val < 64 := Nat.lt_of_lt_of_le k.isLt k1_t1_abs.2.1
  have := window_facts k.val hk
  pointwise [keysOf, k1_pay11]
  exact (load_rows a4 h4 x2 _ _ (off_keys k) _ j l (by omega)).trans (hkb _ l)

include hvb in
theorem values_at (k : Fin k1_t1_loop.trips) (j : Fin 256) (l : Fin 128) :
    valuesOf a5 (h5.unread x3) k (ix2 j l) = (((hd (l.val / 64)).v (base k.val + j.val) (l.val % 64) : ℝ) : EReal) := by
  have hk : k.val < 64 := Nat.lt_of_lt_of_le k.isLt k1_t1_abs.2.1
  have := window_facts k.val hk
  exact (load_rows a5 h5 x3 _ _ (off_keys k) _ j l (by omega)).trans (hvb _ l)

include hlb in
theorem sums_at (k : Fin k1_t1_loop.trips) (r l : Fin 128) :
    sumsOf a7 (h7.unread x5) k (ix2 r l) = (((hd (l.val / 64)).lse (128 * k.val + r.val) : ℝ) : EReal) := by
  have hk : k.val < 64 := Nat.lt_of_lt_of_le k.isLt k1_t1_abs.2.1
  exact (load_rows a7 h7 x5 _ _ (off_rows k) _ r l (by omega)).trans (hlb _ l)

include hcb in
theorem shares_at (k : Fin k1_t1_loop.trips) (r l : Fin 128) :
    sharesOf a8 (h8.unread x6) k (ix2 r l) = (((hd (l.val / 64)).share (128 * k.val + r.val) : ℝ) : EReal) := by
  have hk : k.val < 64 := Nat.lt_of_lt_of_le k.isLt k1_t1_abs.2.1
  exact (load_rows a8 h8 x6 _ _ (off_rows k) _ r l (by omega)).trans (hcb _ l)

/-- The bias buffer the blocks read. -/
abbrev biasHeld : BufTy.Contents (Elt Ideal) a14.view.ty :=
  a14.view.writes (Elt Ideal) a14.view.junk (bwdRun.sl.HS2_3 c i a2 h2 x0)

include hs0 hs1 in
theorem bias_block (k : Fin k1_t1_loop.trips) (a j : Fin 256) :
    biasOf a14 (biasHeld c i a2 h2 a14 x0) k (ix3 0 a j)
      = if Near (rowAt k.val a.val) (base k.val + j.val)
        then ((-(hd (a.val / 128)).slope * (Head.dist (rowAt k.val a.val) (base k.val + j.val) : ℕ) : ℝ) : EReal) else ⊥ :=
  Cert.AttnFwd.bias_window a14 _ _ hd hs0 hs1 k.val (Nat.lt_of_lt_of_le k.isLt k1_t1_abs.2.1) _ (off_bias k) _ a j

abbrev dqOf (n : ℕ) : List (View.Piece (Elt Ideal) S8192x128 .bf16) :=
  on(dqStores) (h3.unread x1) (h4.unread x2) (h5.unread x3) (h6.unread x4) (h7.unread x5) (h8.unread x6) (biasHeld c i a2 h2 a14 x0) n
abbrev dkOf (g : BufTy.Contents (Elt Ideal) a12.view.ty) (n : ℕ) : List (View.Piece (Elt Ideal) S1x8192x128 .f32) :=
  on(dkStores) (h3.unread x1) (h4.unread x2) (h5.unread x3) (h6.unread x4) (h7.unread x5) (h8.unread x6) (biasHeld c i a2 h2 a14 x0) g n
abbrev dvOf (g : BufTy.Contents (Elt Ideal) a13.view.ty) (n : ℕ) : List (View.Piece (Elt Ideal) S1x8192x128 .f32) :=
  on(dvStores) (h3.unread x1) (h4.unread x2) (h5.unread x3) (h6.unread x4) (h7.unread x5) (h8.unread x6) (biasHeld c i a2 h2 a14 x0) g n

include hl hq hkb hvb hgb hlb hcb hs0 hs1

/-- The keys' accumulator after `n` blocks. -/
theorem dk_read (g : BufTy.Contents (Elt Ideal) a12.view.ty)
    (hg : ∀ (t : Fin 8192) (l : Fin 128), a12.view.read (Elt Ideal) g (ix3 0 t l) = 0) (n : ℕ) (hn : n ≤ 64)
    (t : Fin 8192) (l : Fin 128) :
    a12.view.read (Elt Ideal) (a12.view.writes (Elt Ideal) g (at(dkOf) x0 x1 x2 x3 x4 x5 x6 g n)) (ix3 0 t l)
      = ((∑ r ∈ Finset.range (128 * n), (hd (l.val / 64)).dscore r t.val * ((hd (l.val / 64)).q r (l.val % 64) * (1 / 8)) : ℝ) : EReal) := by
  induction n generalizing t l with
  | zero => exact (hg t l).trans (by simp)
  | succ n ih =>
    have hw := window_facts n (by omega)
    have hn' : n < k1_t1_loop.trips := lt_of_lt_of_eq (show n < 64 by omega) (by decide +kernel)
    have e := on(dkStores_succ) (h3.unread x1) (h4.unread x2) (h5.unread x3) (h6.unread x4) (h7.unread x5) (h8.unread x6) (biasHeld c i a2 h2 a14 x0) g ⟨n, hn'⟩
    unfold dkOf
    rw [e, trip_dk, List.singleton_append]
    exact add_read a12 g n (by omega) _ (off_sums ⟨n, hn'⟩) _ _ _
      (fun s r t d => (hd s).dscore r t * ((hd s).q r d * (1 / 8))) (fun s r t d h => by rw [(hd s).dscore_off h, zero_mul])
      (fun t l => ih (by omega) t l)
      (fun j l => add_dk hd hl n (base n) (by omega) hw.1 _ _ _ _ _ _ _ (queries_at a3 h3 hd x1 hq ⟨n, hn'⟩)
        (grads_at a6 h6 hd x4 hgb ⟨n, hn'⟩) (keys_at a4 h4 hd x2 hkb ⟨n, hn'⟩) (values_at a5 h5 hd x3 hvb ⟨n, hn'⟩)
        (bias_block c i a2 h2 a14 hd x0 hs0 hs1 ⟨n, hn'⟩) (sums_at a7 h7 hd x5 hlb ⟨n, hn'⟩)
        (shares_at a8 h8 hd x6 hcb ⟨n, hn'⟩) _ j l) t l

omit hvb hcb in
/-- The values' accumulator after `n` blocks. -/
theorem dv_read (g : BufTy.Contents (Elt Ideal) a13.view.ty)
    (hg : ∀ (t : Fin 8192) (l : Fin 128), a13.view.read (Elt Ideal) g (ix3 0 t l) = 0) (n : ℕ) (hn : n ≤ 64)
    (t : Fin 8192) (l : Fin 128) :
    a13.view.read (Elt Ideal) (a13.view.writes (Elt Ideal) g (at(dvOf) x0 x1 x2 x3 x4 x5 x6 g n)) (ix3 0 t l)
      = ((∑ r ∈ Finset.range (128 * n), (hd (l.val / 64)).wt r t.val / (hd (l.val / 64)).den r * (hd (l.val / 64)).g r (l.val % 64) : ℝ) : EReal) := by
  induction n generalizing t l with
  | zero => exact (hg t l).trans (by simp)
  | succ n ih =>
    have hw := window_facts n (by omega)
    have hn' : n < k1_t1_loop.trips := lt_of_lt_of_eq (show n < 64 by omega) (by decide +kernel)
    have e := on(dvStores_succ) (h3.unread x1) (h4.unread x2) (h5.unread x3) (h6.unread x4) (h7.unread x5) (h8.unread x6) (biasHeld c i a2 h2 a14 x0) g ⟨n, hn'⟩
    unfold dvOf
    rw [e, trip_dv, List.singleton_append]
    exact add_read a13 g n (by omega) _ (off_sums ⟨n, hn'⟩) _ _ _
      (fun s r t d => (hd s).wt r t / (hd s).den r * (hd s).g r d) (fun s r t d h => by rw [(hd s).wt_off h, zero_div, zero_mul])
      (fun t l => ih (by omega) t l)
      (fun j l => add_dv hd hl n (base n) (by omega) hw.1 _ _ _ _ _ (queries_at a3 h3 hd x1 hq ⟨n, hn'⟩)
        (grads_at a6 h6 hd x4 hgb ⟨n, hn'⟩) (keys_at a4 h4 hd x2 hkb ⟨n, hn'⟩)
        (bias_block c i a2 h2 a14 hd x0 hs0 hs1 ⟨n, hn'⟩) (sums_at a7 h7 hd x5 hlb ⟨n, hn'⟩) _ j l) t l

/-- Every store into the queries' gradient holds that gradient's rows. -/
theorem dq_piece (n : ℕ) (hn : n ≤ 64) : ∀ p ∈ at(dqOf) x0 x1 x2 x3 x4 x5 x6 n, ∀ x,
    p.2 x = ((fun y => (((hd ((y 1).val / 64)).dq (y 0).val ((y 1).val % 64) : ℝ) : EReal)) : S8192x128.Idx → EReal) (p.1.emb x) := by
  induction n with
  | zero => exact fun p hp => absurd hp List.not_mem_nil
  | succ n ih =>
    have hw := window_facts n (by omega)
    have hn' : n < k1_t1_loop.trips := lt_of_lt_of_eq (show n < 64 by omega) (by decide +kernel)
    have e := on(dqStores_succ) (h3.unread x1) (h4.unread x2) (h5.unread x3) (h6.unread x4) (h7.unread x5) (h8.unread x6) (biasHeld c i a2 h2 a14 x0) ⟨n, hn'⟩
    intro p hp x
    unfold dqOf at hp
    rw [e, trip_dq, List.singleton_append] at hp
    rcases List.mem_cons.1 hp with rfl | hp
    · rw [eq_ix2 x]
      refine (store_dq hd hl n (base n) (by omega) hw.1 hw.2.1 hw.2.2 _ _ _ _ _ _ _ (queries_at a3 h3 hd x1 hq ⟨n, hn'⟩)
        (grads_at a6 h6 hd x4 hgb ⟨n, hn'⟩) (keys_at a4 h4 hd x2 hkb ⟨n, hn'⟩) (values_at a5 h5 hd x3 hvb ⟨n, hn'⟩)
        (bias_block c i a2 h2 a14 hd x0 hs0 hs1 ⟨n, hn'⟩) (sums_at a7 h7 hd x5 hlb ⟨n, hn'⟩)
        (shares_at a8 h8 hd x6 hcb ⟨n, hn'⟩) (x 0) (x 1)).trans ?_
      have e0 : k1_off3 ⟨n, hn'⟩ 0 = 128 * n := by rw [off_rows]; rfl
      have e1 : k1_off3 ⟨n, hn'⟩ 1 = 0 := by rw [off_rows]; rfl
      have key : ∀ a b : ℕ, (hd (b / 64)).dq (128 * n + a) (b % 64)
          = (hd ((k1_off3 ⟨n, hn'⟩ 1 + 1 * b) / 64)).dq (k1_off3 ⟨n, hn'⟩ 0 + 1 * a) ((k1_off3 ⟨n, hn'⟩ 1 + 1 * b) % 64) := by
        intro a b; simp only [e0, e1, Nat.zero_add, Nat.one_mul]
      exact congrArg (fun z : ℝ => (z : EReal)) (key (x 0).val (x 1).val)
    · exact ih (by omega) p hp x

variable (hc0 : bwdFirst i)

/-- The gradient of the queries the call leaves. -/
theorem dq_out (r : Fin 8192) (l : Fin 128) :
    at(bwdOut7) hc0 x0 x1 x2 x3 x4 x5 x6 (ix2 r l) = (((hd (l.val / 64)).dq r.val (l.val % 64) : ℝ) : EReal) := by
  refine View.read_writes_apply_of_pieces (Val := Elt Ideal) bwdView7 _
    ((fun y => (((hd ((y 1).val / 64)).dq (y 0).val ((y 1).val % 64) : ℝ) : EReal)) : S8192x128.Idx → EReal) _ ?_ (ix2 r l)
    (at(bwdOut7_covers) hc0 x0 x1 x2 x3 x4 x5 x6 _)
  unfold bwdRun
  exact at(dq_piece) hd hl x0 x1 x2 x3 x4 x5 x6 hq hkb hvb hgb hlb hcb hs0 hs1 _ (le_of_eq trips_eq)

/-- The gradient of the keys the call leaves. -/
theorem dk_out (r : Fin 8192) (l : Fin 128) :
    at(bwdOut8) hc0 x0 x1 x2 x3 x4 x5 x6 (ix2 r l) = (((hd (l.val / 64)).dk r.val (l.val % 64) : ℝ) : EReal) := by
  unfold bwdOut8 bwdRun
  refine (whole_read bwdView8 _ _ _ r l).trans ?_
  refine (cast_k _ r l).trans ?_
  refine (whole_load a12 _ _ r l).trans ?_
  rw [View.writes_append]
  refine (at(dk_read) hd hl x0 x1 x2 x3 x4 x5 x6 hq hkb hvb hgb hlb hcb hs0 hs1 _
    (fun t l => zero_read a12 _ _ _ zero_k t l) _ (le_of_eq trips_eq) r l).trans ?_
  rw [trips_eq, Head.dk, hl, Finset.sum_mul]
  congr 1
  exact Finset.sum_congr rfl fun _ _ => by ring

/-- The gradient of the values the call leaves. -/
theorem dv_out (r : Fin 8192) (l : Fin 128) :
    at(bwdOut9) hc0 x0 x1 x2 x3 x4 x5 x6 (ix2 r l) = (((hd (l.val / 64)).dv r.val (l.val % 64) : ℝ) : EReal) := by
  unfold bwdOut9 bwdRun
  refine (whole_read bwdView9 _ _ _ r l).trans ?_
  refine (cast_v _ r l).trans ?_
  refine (whole_load a13 _ _ r l).trans ?_
  rw [View.writes_append]
  refine (at(dv_read) hd hl x0 x1 x2 x3 x4 x5 x6 hq hkb hgb hlb hs0 hs1 _
    (fun t l => zero_read a13 _ _ _ zero_v t l) _ (le_of_eq trips_eq) r l).trans ?_
  rw [trips_eq, Head.dv, hl]

end Values

end Run

end Cert.AttnBwdValue
-- ==== Proof.AttnArrays.lean ====
module

public import proofs.«01_k».proof.Proof.AttnRun
public import proofs.«01_k».proof.Proof.AttnBwdValue
public import Idealize.ShloMosaic.Lib.Pipeline.ValueKit
public import Idealize.ShloMosaic.Lib.Claim

/-! # The attention program's arrays

The arrays of the program, read at an index: what the host operations hand to the two calls, and what the two
calls and the last host operations leave. -/

@[expose] public section

set_option maxRecDepth 16384

noncomputable section

namespace Cert.AttnArrays

open Idealize.ShloMosaic Idealize.ShloMosaic.TcCoe Idealize.SL.Sem
open Idealize.ShloMosaic.Pipeline (Dat)
open Cert.Attn1Ideal Cert.Attn1Ideal.Gen Cert.AttnSpec Cert.AttnRun

/-- The entry of row `r`, head `h` and lane `d`, as a real number. -/
def four (a : FVec Ideal S1x8192x4x64 .f32) (r h d : ℕ) : ℝ :=
  (a (ix4 0 ⟨r % 8192, Nat.mod_lt _ (by norm_num)⟩ ⟨h % 4, Nat.mod_lt _ (by norm_num)⟩ ⟨d % 64, Nat.mod_lt _ (by norm_num)⟩)).toReal

/-- The entry of row `r` and head `h`, as a real number. -/
def three (a : FVec Ideal S1x8192x4 .f32) (r h : ℕ) : ℝ :=
  (a (ix3 0 ⟨r % 8192, Nat.mod_lt _ (by norm_num)⟩ ⟨h % 4, Nat.mod_lt _ (by norm_num)⟩)).toReal

/-- The slope of head `h`'s distance bias. -/
def slope (h : ℕ) : ℝ := (Ideal.ofBits .f32 (lit0 ⟨h % 4, Nat.mod_lt _ (by norm_num)⟩)).toReal

/-- Every entry is a real number. -/
def Real4 (a : FVec Ideal S1x8192x4x64 .f32) : Prop := ∀ i, a i = ((a i).toReal : EReal)
def Real3 (a : FVec Ideal S1x8192x4 .f32) : Prop := ∀ i, a i = ((a i).toReal : EReal)

theorem four_at {a : FVec Ideal S1x8192x4x64 .f32} (ha : Real4 a) (r : Fin 8192) (h : Fin 4) (d : Fin 64) :
    a (ix4 0 r h d) = ((four a r.val h.val d.val : ℝ) : EReal) := by
  unfold four
  have e1 : (⟨r.val % 8192, Nat.mod_lt _ (by norm_num)⟩ : Fin 8192) = r := Fin.ext (Nat.mod_eq_of_lt r.isLt)
  have e2 : (⟨h.val % 4, Nat.mod_lt _ (by norm_num)⟩ : Fin 4) = h := Fin.ext (Nat.mod_eq_of_lt h.isLt)
  have e3 : (⟨d.val % 64, Nat.mod_lt _ (by norm_num)⟩ : Fin 64) = d := Fin.ext (Nat.mod_eq_of_lt d.isLt)
  rw [e1, e2, e3]
  exact ha _

theorem three_at {a : FVec Ideal S1x8192x4 .f32} (ha : Real3 a) (r : Fin 8192) (h : Fin 4) :
    a (ix3 0 r h) = ((three a r.val h.val : ℝ) : EReal) := by
  unfold three
  have e1 : (⟨r.val % 8192, Nat.mod_lt _ (by norm_num)⟩ : Fin 8192) = r := Fin.ext (Nat.mod_eq_of_lt r.isLt)
  have e2 : (⟨h.val % 4, Nat.mod_lt _ (by norm_num)⟩ : Fin 4) = h := Fin.ext (Nat.mod_eq_of_lt h.isLt)
  rw [e1, e2]
  exact ha _

theorem slope_word : ∀ h : Fin 4, Ideal.ofBits .f32 (lit0 h) = ((Ideal.ofBits .f32 (lit0 h)).toReal : EReal) := by
  intro h
  refine (EReal.coe_toReal ?_ ?_).symm <;> fin_cases h <;> simp [lit0, Ideal.ofBits, Ideal.ieee] <;> rw [← EReal.coe_mul]
  any_goals exact EReal.coe_ne_top _
  all_goals exact EReal.coe_ne_bot _

/-- One head's rows. -/
def headOf (q k v g : FVec Ideal S1x8192x4x64 .f32) (dl : FVec Ideal S1x8192x4 .f32) (h : ℕ) : Head where
  q r d := four q r h d
  k r d := four k r h d
  v r d := four v r h d
  g r d := four g r h d
  dl r := three dl r h
  slope := slope h
  len := 8192

section Arrays

variable (m : (ℓ : Loc nD τ sig) → Buf (Elt Ideal) ℓ) (ρ : Dev nD → PrngReg) (c : Dev nD)

abbrev aq := m ((c : Thread nD τ).loc main_arg0)
abbrev ak := m ((c : Thread nD τ).loc main_arg1)
abbrev av := m ((c : Thread nD τ).loc main_arg2)
abbrev ag := m ((c : Thread nD τ).loc main_arg3)
abbrev al := m ((c : Thread nD τ).loc main_arg4)

/-- Every argument's entries are real numbers. -/
structure Reals : Prop where
  q : Real4 (aq m c)
  k : Real4 (ak m c)
  v : Real4 (av m c)
  g : Real4 (ag m c)
  l : Real3 (al m c)

/-- Head `h`. -/
abbrev hd (h : ℕ) : Head := headOf (aq m c) (ak m c) (av m c) (ag m c) (al m c) h

/-- The head and the lane of column `L`. -/
abbrev hh (L : Fin 256) : Fin 4 := ⟨L.val / 64, by omega⟩
abbrev dd (L : Fin 256) : Fin 64 := ⟨L.val % 64, by omega⟩

theorem slopes_at (h : Fin 4) : mem1 m ρ c (Proc.devRef .tc main_cst) (ix1 h) = ((slope h.val : ℝ) : EReal) := by
  unfold mem1
  entry_read
  pointwise
  have e : S4.rowMajor (ix1 h) = h := by fin_cases h <;> rfl
  have e2 : (⟨h.val % 4, Nat.mod_lt _ (by norm_num)⟩ : Fin 4) = h := Fin.ext (Nat.mod_eq_of_lt h.isLt)
  rw [e]
  unfold slope
  rw [e2]
  exact slope_word h

theorem eighth : Ideal.ofBits .f32 0x3E000000#32 = ((1 / 8 : ℝ) : EReal) := by
  simp [Ideal.ofBits, Ideal.ieee]
  rw [← EReal.coe_mul]
  norm_num

theorem query_at (hm : Reals m c) (r : Fin 8192) (L : Fin 256) :
    mem1 m ρ c (Proc.devRef .tc main_v3) (ix2 r L) = (((hd m c (L.val / 64)).q r.val (L.val % 64) * (1 / 8) : ℝ) : EReal) := by
  unfold mem1
  entry_read
  pointwise
  rw [eighth, EReal.coe_mul]
  exact congrArg (· * _) (four_at hm.q r (hh L) (dd L))

theorem key_at (hm : Reals m c) (r : Fin 8192) (L : Fin 256) :
    mem1 m ρ c (Proc.devRef .tc main_v5) (ix2 r L) = (((hd m c (L.val / 64)).k r.val (L.val % 64) : ℝ) : EReal) := by
  unfold mem1
  entry_read
  pointwise
  exact four_at hm.k r (hh L) (dd L)

theorem value_at (hm : Reals m c) (r : Fin 8192) (L : Fin 256) :
    mem1 m ρ c (Proc.devRef .tc main_v7) (ix2 r L) = (((hd m c (L.val / 64)).v r.val (L.val % 64) : ℝ) : EReal) := by
  unfold mem1
  entry_read
  pointwise
  exact four_at hm.v r (hh L) (dd L)

/-! ## The forward call -/

theorem fwd_idx : ∀ t : Fin cfg0.N, win0_0.index t = ![0] ∧ win0_1.index t = ![0, t.val] ∧ win0_2.index t = ![0, t.val]
    ∧ win0_3.index t = ![0, t.val] ∧ win0_4.index t = ![0, t.val] ∧ win0_5.index t = ![0, t.val] :=
  (by decide +kernel : ∀ t : Fin grid0.N, _)

theorem fwd_off : ∀ t : Fin cfg0.N, k0_off1 (grid0.coords t) = ![2 * t.val] ∧ k0_off2 (grid0.coords t) = ![2 * t.val + 1] :=
  (by decide +kernel : ∀ t : Fin grid0.N, _)

/-- The column of the arrays that lane `l` of the blocks of grid point `t` is. -/
def col (t : Fin cfg0.N) (l : Fin 128) : Fin 256 := ⟨t.val * 128 + l.val, by have := lt_of_lt_of_eq t.isLt N_0; omega⟩

theorem q_tile (t : Fin cfg0.N) (r : Fin 8192) (l : Fin 128) :
    fwdTile (at1 m ρ) c 1 t (ix2 r l) = mem1 m ρ c (Proc.devRef .tc main_v3) (ix2 r (col t l)) := by
  blk_simp [fwdTile]
  blk_point [col, fwd_idx t]

theorem k_tile (t : Fin cfg0.N) (r : Fin 8192) (l : Fin 128) :
    fwdTile (at1 m ρ) c 2 t (ix2 r l) = mem1 m ρ c (Proc.devRef .tc main_v5) (ix2 r (col t l)) := by
  blk_simp [fwdTile]
  blk_point [col, fwd_idx t]

theorem v_tile (t : Fin cfg0.N) (r : Fin 8192) (l : Fin 128) :
    fwdTile (at1 m ρ) c 3 t (ix2 r l) = mem1 m ρ c (Proc.devRef .tc main_v7) (ix2 r (col t l)) := by
  blk_simp [fwdTile]
  blk_point [col, fwd_idx t]

theorem s_tile (t : Fin cfg0.N) (h : Fin 4) :
    fwdTile (at1 m ρ) c 0 t (ix1 h) = mem1 m ρ c (Proc.devRef .tc main_cst) (ix1 h) := by
  blk_simp [fwdTile]
  blk_point [fwd_idx t]

/-- A scalar load from the slopes. -/
theorem load_slope (M : Memref sig .tc .smem S4 .f32) (hM : M.IsWhole) (x : Vec Ideal S4 .f32) (off : Fin 1 → ℕ) (k : ℕ) (ho : off = ![k])
    (inb : ∀ a, off a + S1.size a ≤ S4.size a) (h : k < 4) (hp) :
    View.readAt (Elt Ideal) M.view (Rect.unit (s := S4) off S1.size inb).toLoadRect (hM.unread x) (Shape.Idx.first hp) = x (ix1 ⟨k, h⟩) := by
  subst ho
  rw [hM.readAt_unread]
  refine congrArg x ?_
  funext a
  fin_cases a
  apply Fin.ext
  show k + 1 * 0 = k
  omega

/-- The heads of grid point `t`'s pair. -/
abbrev pair (t : ℕ) (s : ℕ) : Head := hd m c (2 * t + s)

theorem fwd_slope0 (t : Fin cfg0.N) (M : Memref sig .tc .smem S4 .f32) (hM : M.IsWhole) :
    fwdRun.sl.r c (grid0.coords t) M hM (fwdTile (at1 m ρ) c 0 t) = (((pair m c t.val 0).slope : ℝ) : EReal) := by
  have ht := lt_of_lt_of_eq t.isLt N_0
  refine (load_slope M hM _ _ _ (fwd_off t).1 _ (by omega) _).trans ?_
  rw [s_tile]
  exact slopes_at m ρ c _

theorem fwd_slope1 (t : Fin cfg0.N) (M : Memref sig .tc .smem S4 .f32) (hM : M.IsWhole) :
    fwdRun.sl.r_1 c (grid0.coords t) M hM (fwdTile (at1 m ρ) c 0 t) = (((pair m c t.val 1).slope : ℝ) : EReal) := by
  have ht := lt_of_lt_of_eq t.isLt N_0
  refine (load_slope M hM _ _ _ (fwd_off t).2 _ (by omega) _).trans ?_
  rw [s_tile]
  exact slopes_at m ρ c _

theorem col_head (t l : ℕ) : (t * 128 + l) / 64 = 2 * t + l / 64 := by omega
theorem col_lane (t l : ℕ) : (t * 128 + l) % 64 = l % 64 := by omega

section Tiles

variable (hm : Reals m c) (t : Fin cfg0.N) (r : Fin 8192) (l : Fin 128)

include hm

theorem q_rows : fwdTile (at1 m ρ) c 1 t (ix2 r l) = (((pair m c t.val (l.val / 64)).q r.val (l.val % 64) * (1 / 8) : ℝ) : EReal) := by
  rw [q_tile, query_at m ρ c hm, show (col t l).val = t.val * 128 + l.val from rfl, col_head, col_lane]

theorem k_rows : fwdTile (at1 m ρ) c 2 t (ix2 r l) = (((pair m c t.val (l.val / 64)).k r.val (l.val % 64) : ℝ) : EReal) := by
  rw [k_tile, key_at m ρ c hm, show (col t l).val = t.val * 128 + l.val from rfl, col_head, col_lane]

theorem v_rows : fwdTile (at1 m ρ) c 3 t (ix2 r l) = (((pair m c t.val (l.val / 64)).v r.val (l.val % 64) : ℝ) : EReal) := by
  rw [v_tile, value_at m ρ c hm, show (col t l).val = t.val * 128 + l.val from rfl, col_head, col_lane]

end Tiles

set_option quotPrecheck false in
/-- What a point of the first call leaves in a window, of the blocks that it reads. -/
local notation "filled(" thm ", " t ", " hm ")" => thm c (grid0.coords t) (fwdBuf0 t) (fwdBuf0_whole t) (fwdBuf1 t) (fwdBuf1_whole t) (fwdBuf2 t) (fwdBuf2_whole t)
    (fwdBuf3 t) (fwdBuf3_whole t) (fwdBuf4 t) (fwdBuf4_whole t) (fwdBuf5 t) (fwdBuf5_whole t) fwdBias (Memref.isWhole_whole _) (fwdFirst_at t) _ _ _ _ (pair m c (Fin.val t)) (fun _ => rfl) (q_rows m ρ c hm t) (k_rows m ρ c hm t)

theorem out_at (hm : Reals m c) (r : Fin 8192) (L : Fin 256) :
    mem2 m ρ c (Proc.devRef .tc main_v8_0) (ix2 r L) = (((hd m c (L.val / 64)).out r.val (L.val % 64) : ℝ) : EReal) := by
  refine (congrFun (mem2_arr m ρ c 4) (ix2 r L)).trans ?_
  refine congrFun ((fwdPipe (at1 m ρ) c).arrAt_eq_of_covers 4
    ((fun y => (((hd m c ((y 1).val / 64)).out (y 0).val ((y 1).val % 64) : ℝ) : EReal)) : S8192x256.Idx → EReal)
    (by decide +kernel) fun t hf y => ?_) (ix2 r L)
  blk_simp
  obtain ⟨r, l, rfl⟩ : ∃ (r : Fin 8192) (l : Fin 128), y = ix2 r l := ⟨y 0, y 1, eq_ix2 y⟩
  rw [fwdAfter4, fwdOuts]
  have e : win0_4.index t 0 = 0 ∧ win0_4.index t 1 = t.val := by simp [fwd_idx t]
  rw [e.1, e.2]
  show _ = (((hd m c ((t.val * 128 + l.val) / 64)).out (0 * 8192 + r.val) ((t.val * 128 + l.val) % 64) : ℝ) : EReal)
  rw [zero_mul, zero_add, col_head, col_lane]
  exact filled(Cert.AttnFwd.out_read, t, hm) (v_rows m ρ c hm t)
    (fwd_slope0 m ρ c t _ _) (fwd_slope1 m ρ c t _ _) r l

theorem lse_at (hm : Reals m c) (r : Fin 8192) (L : Fin 256) :
    mem2 m ρ c (Proc.devRef .tc main_v8_1) (ix2 r L) = (((hd m c (L.val / 64)).lse r.val : ℝ) : EReal) := by
  refine (congrFun (mem2_arr m ρ c 5) (ix2 r L)).trans ?_
  refine congrFun ((fwdPipe (at1 m ρ) c).arrAt_eq_of_covers 5
    ((fun y => (((hd m c ((y 1).val / 64)).lse (y 0).val : ℝ) : EReal)) : S8192x256.Idx → EReal)
    (by decide +kernel) fun t hf y => ?_) (ix2 r L)
  blk_simp
  obtain ⟨r, l, rfl⟩ : ∃ (r : Fin 8192) (l : Fin 128), y = ix2 r l := ⟨y 0, y 1, eq_ix2 y⟩
  rw [fwdAfter5, fwdOuts]
  have e : win0_5.index t 0 = 0 ∧ win0_5.index t 1 = t.val := by simp [fwd_idx t]
  rw [e.1, e.2]
  show _ = (((hd m c ((t.val * 128 + l.val) / 64)).lse (0 * 8192 + r.val) : ℝ) : EReal)
  rw [zero_mul, zero_add, col_head]
  exact filled(Cert.AttnFwd.lse_read, t, hm)
    (fwd_slope0 m ρ c t _ _) (fwd_slope1 m ρ c t _ _) r l

/-! ## Between the calls -/

theorem grad_at (hm : Reals m c) (r : Fin 8192) (L : Fin 256) :
    mem3 m ρ c (Proc.devRef .tc main_v17) (ix2 r L) = (((hd m c (L.val / 64)).g r.val (L.val % 64) : ℝ) : EReal) := by
  unfold mem3
  entry_read
  pointwise
  rw [mem2_args m ρ c main_arg3 (by decide)]
  exact four_at hm.g r (hh L) (dd L)

theorem share_sum (A : Head) (r : ℕ) :
    ((A.share r : ℝ) : EReal) = ((A.dl r : ℝ) : EReal) - ∑ d : Fin 64, ((A.g r d.val : ℝ) : EReal) * ((A.out r d.val : ℝ) : EReal) := by
  rw [Head.share, EReal.coe_sub, Finset.sum_range, Cert.RowNorm.coe_sum]
  exact congrArg _ (Finset.sum_congr rfl fun d _ => EReal.coe_mul _ _)

theorem share_at (hm : Reals m c) (r : Fin 8192) (L : Fin 256) :
    mem3 m ρ c (Proc.devRef .tc main_v15) (ix2 r L) = (((hd m c (L.val / 64)).share r.val : ℝ) : EReal) := by
  unfold mem3
  entry_read
  pointwise
  refine Eq.trans ?_ (share_sum (hd m c (L.val / 64)) r.val).symm
  refine congrArg₂ (· - ·) ((congrFun (mem2_args m ρ c main_arg4 (by decide)) _).trans (three_at hm.l r (hh L))) (Finset.sum_congr rfl fun d _ => ?_)
  refine congrArg₂ (· * ·) ((congrFun (mem2_args m ρ c main_arg3 (by decide)) _).trans (four_at hm.g r (hh L) d)) ((out_at m ρ c hm r _).trans ?_)
  have e1 : (L.val / 64 * 64 + d.val) / 64 = L.val / 64 := by omega
  have e2 : (L.val / 64 * 64 + d.val) % 64 = d.val := by omega
  dsimp only
  rw [e1, e2]

theorem query_kept : mem3 m ρ c (Proc.devRef .tc main_v3) = mem1 m ρ c (Proc.devRef .tc main_v3) :=
  (mem3_of m ρ c _ (by decide)).trans (mem2_of m ρ c _ (by decide +kernel))
theorem key_kept : mem3 m ρ c (Proc.devRef .tc main_v5) = mem1 m ρ c (Proc.devRef .tc main_v5) :=
  (mem3_of m ρ c _ (by decide)).trans (mem2_of m ρ c _ (by decide +kernel))
theorem value_kept : mem3 m ρ c (Proc.devRef .tc main_v7) = mem1 m ρ c (Proc.devRef .tc main_v7) :=
  (mem3_of m ρ c _ (by decide)).trans (mem2_of m ρ c _ (by decide +kernel))
theorem slopes_kept : mem3 m ρ c (Proc.devRef .tc main_cst) = mem1 m ρ c (Proc.devRef .tc main_cst) :=
  (mem3_of m ρ c _ (by decide)).trans (mem2_of m ρ c _ (by decide +kernel))
theorem lse_kept : mem3 m ρ c (Proc.devRef .tc main_v8_1) = mem2 m ρ c (Proc.devRef .tc main_v8_1) :=
  mem3_of m ρ c _ (by decide)

/-! ## The backward call -/

theorem bwd_idx : ∀ t : Fin cfg1.N, win1_0.index t = ![0] ∧ win1_1.index t = ![0, t.val] ∧ win1_2.index t = ![0, t.val]
    ∧ win1_3.index t = ![0, t.val] ∧ win1_4.index t = ![0, t.val] ∧ win1_5.index t = ![0, t.val] ∧ win1_6.index t = ![0, t.val]
    ∧ win1_7.index t = ![0, t.val] ∧ win1_8.index t = ![0, t.val] ∧ win1_9.index t = ![0, t.val] :=
  (by decide +kernel : ∀ t : Fin grid1.N, _)

theorem bwd_off : ∀ t : Fin cfg1.N, k1_off1 (grid1.coords t) = ![2 * t.val] ∧ k1_off2 (grid1.coords t) = ![2 * t.val + 1] :=
  (by decide +kernel : ∀ t : Fin grid1.N, _)

/-- The column of the arrays that lane `l` of the blocks of grid point `t` is. -/
def bcol (t : Fin cfg1.N) (l : Fin 128) : Fin 256 := ⟨t.val * 128 + l.val, by have := lt_of_lt_of_eq t.isLt N_1; omega⟩

section BwdTiles

variable (hm : Reals m c) (t : Fin cfg1.N) (r : Fin 8192) (l : Fin 128)

theorem bs_tile (h : Fin 4) :
    bwdTile (at3 m ρ) c 0 t (ix1 h) = mem3 m ρ c (Proc.devRef .tc main_cst) (ix1 h) := by
  blk_simp [bwdTile]
  blk_point [bwd_idx t]

theorem bq_tile :
    bwdTile (at3 m ρ) c 1 t (ix2 r l) = mem3 m ρ c (Proc.devRef .tc main_v3) (ix2 r (bcol t l)) := by
  blk_simp [bwdTile]
  blk_point [bcol, bwd_idx t]

theorem bk_tile :
    bwdTile (at3 m ρ) c 2 t (ix2 r l) = mem3 m ρ c (Proc.devRef .tc main_v5) (ix2 r (bcol t l)) := by
  blk_simp [bwdTile]
  blk_point [bcol, bwd_idx t]

theorem bv_tile :
    bwdTile (at3 m ρ) c 3 t (ix2 r l) = mem3 m ρ c (Proc.devRef .tc main_v7) (ix2 r (bcol t l)) := by
  blk_simp [bwdTile]
  blk_point [bcol, bwd_idx t]

theorem bg_tile :
    bwdTile (at3 m ρ) c 4 t (ix2 r l) = mem3 m ρ c (Proc.devRef .tc main_v17) (ix2 r (bcol t l)) := by
  blk_simp [bwdTile]
  blk_point [bcol, bwd_idx t]

theorem bl_tile :
    bwdTile (at3 m ρ) c 5 t (ix2 r l) = mem3 m ρ c (Proc.devRef .tc main_v8_1) (ix2 r (bcol t l)) := by
  blk_simp [bwdTile]
  blk_point [bcol, bwd_idx t]

theorem bc_tile :
    bwdTile (at3 m ρ) c 6 t (ix2 r l) = mem3 m ρ c (Proc.devRef .tc main_v15) (ix2 r (bcol t l)) := by
  blk_simp [bwdTile]
  blk_point [bcol, bwd_idx t]

include hm

theorem bq_rows : bwdTile (at3 m ρ) c 1 t (ix2 r l) = (((pair m c t.val (l.val / 64)).q r.val (l.val % 64) * (1 / 8) : ℝ) : EReal) := by
  rw [bq_tile, query_kept m ρ c, query_at m ρ c hm, show (bcol t l).val = t.val * 128 + l.val from rfl, col_head, col_lane]

theorem bk_rows : bwdTile (at3 m ρ) c 2 t (ix2 r l) = (((pair m c t.val (l.val / 64)).k r.val (l.val % 64) : ℝ) : EReal) := by
  rw [bk_tile, key_kept m ρ c, key_at m ρ c hm, show (bcol t l).val = t.val * 128 + l.val from rfl, col_head, col_lane]

theorem bv_rows : bwdTile (at3 m ρ) c 3 t (ix2 r l) = (((pair m c t.val (l.val / 64)).v r.val (l.val % 64) : ℝ) : EReal) := by
  rw [bv_tile, value_kept m ρ c, value_at m ρ c hm, show (bcol t l).val = t.val * 128 + l.val from rfl, col_head, col_lane]

theorem bg_rows : bwdTile (at3 m ρ) c 4 t (ix2 r l) = (((pair m c t.val (l.val / 64)).g r.val (l.val % 64) : ℝ) : EReal) := by
  rw [bg_tile, grad_at m ρ c hm, show (bcol t l).val = t.val * 128 + l.val from rfl, col_head, col_lane]

theorem bl_rows : bwdTile (at3 m ρ) c 5 t (ix2 r l) = (((pair m c t.val (l.val / 64)).lse r.val : ℝ) : EReal) := by
  rw [bl_tile, lse_kept m ρ c, lse_at m ρ c hm, show (bcol t l).val = t.val * 128 + l.val from rfl, col_head]

theorem bc_rows : bwdTile (at3 m ρ) c 6 t (ix2 r l) = (((pair m c t.val (l.val / 64)).share r.val : ℝ) : EReal) := by
  rw [bc_tile, share_at m ρ c hm, show (bcol t l).val = t.val * 128 + l.val from rfl, col_head]

end BwdTiles

theorem bwd_slope0 (t : Fin cfg1.N) (M : Memref sig .tc .smem S4 .f32) (hM : M.IsWhole) :
    bwdRun.sl.r c (grid1.coords t) M hM (bwdTile (at3 m ρ) c 0 t) = (((pair m c t.val 0).slope : ℝ) : EReal) := by
  have ht := lt_of_lt_of_eq t.isLt N_1
  refine (load_slope M hM _ _ _ (bwd_off t).1 _ (by omega) _).trans ?_
  rw [bs_tile, slopes_kept]
  exact slopes_at m ρ c _

theorem bwd_slope1 (t : Fin cfg1.N) (M : Memref sig .tc .smem S4 .f32) (hM : M.IsWhole) :
    bwdRun.sl.r_1 c (grid1.coords t) M hM (bwdTile (at3 m ρ) c 0 t) = (((pair m c t.val 1).slope : ℝ) : EReal) := by
  have ht := lt_of_lt_of_eq t.isLt N_1
  refine (load_slope M hM _ _ _ (bwd_off t).2 _ (by omega) _).trans ?_
  rw [bs_tile, slopes_kept]
  exact slopes_at m ρ c _

set_option quotPrecheck false in
/-- What a point of the gradient's call leaves in a window, of the blocks that it reads. -/
local notation "filledBack(" thm ", " t ", " hm ")" => thm c (grid1.coords t) (bwdBuf0 t) (bwdBuf0_whole t) (bwdBuf1 t) (bwdBuf1_whole t) (bwdBuf2 t) (bwdBuf2_whole t) (bwdBuf3 t) (bwdBuf3_whole t) (bwdBuf4 t)
    (bwdBuf4_whole t) (bwdBuf5 t) (bwdBuf5_whole t) (bwdBuf6 t) (bwdBuf6_whole t) (bwdBuf7 t) (bwdBuf7_whole t) (bwdBuf8 t) (bwdBuf8_whole t)
    (bwdBuf9 t) (bwdBuf9_whole t) accK (Memref.isWhole_whole _) accV (Memref.isWhole_whole _) bwdBias (Memref.isWhole_whole _) (pair m c (Fin.val t))
    (fun _ => rfl) _ _ _ _ _ _ _ (bq_rows m ρ c hm t) (bk_rows m ρ c hm t) (bv_rows m ρ c hm t) (bg_rows m ρ c hm t) (bl_rows m ρ c hm t)
    (bc_rows m ρ c hm t) (bwd_slope0 m ρ c t _ _) (bwd_slope1 m ρ c t _ _) (bwdFirst_at t)

theorem dq_at (hm : Reals m c) (r : Fin 8192) (L : Fin 256) :
    mem5 m ρ c (Proc.devRef .tc main_v19) (ix2 r L) = (((hd m c (L.val / 64)).dq r.val (L.val % 64) : ℝ) : EReal) := by
  unfold mem5
  entry_read
  pointwise
  refine (congrFun (mem4_arr m ρ c 7) (ix2 r L)).trans ?_
  refine congrFun ((bwdPipe (at3 m ρ) c).arrAt_eq_of_covers 7
    ((fun y => (((hd m c ((y 1).val / 64)).dq (y 0).val ((y 1).val % 64) : ℝ) : EReal)) : S8192x256.Idx → EReal)
    (by decide +kernel) fun t hf y => ?_) (ix2 r L)
  blk_simp
  obtain ⟨r, l, rfl⟩ : ∃ (r : Fin 8192) (l : Fin 128), y = ix2 r l := ⟨y 0, y 1, eq_ix2 y⟩
  rw [bwdAfter7, bwdOuts]
  dsimp only
  have e : win1_7.index t 0 = 0 ∧ win1_7.index t 1 = t.val := by simp [bwd_idx t]
  rw [e.1, e.2]
  show _ = (((hd m c ((t.val * 128 + l.val) / 64)).dq (0 * 8192 + r.val) ((t.val * 128 + l.val) % 64) : ℝ) : EReal)
  rw [zero_mul, zero_add, col_head, col_lane]
  exact filledBack(Cert.AttnBwdValue.dq_out, t, hm) r l

theorem dk_at (hm : Reals m c) (r : Fin 8192) (L : Fin 256) :
    mem5 m ρ c (Proc.devRef .tc main_v20) (ix2 r L) = (((hd m c (L.val / 64)).dk r.val (L.val % 64) : ℝ) : EReal) := by
  unfold mem5
  entry_read
  pointwise
  refine (congrFun (mem4_arr m ρ c 8) (ix2 r L)).trans ?_
  refine congrFun ((bwdPipe (at3 m ρ) c).arrAt_eq_of_covers 8
    ((fun y => (((hd m c ((y 1).val / 64)).dk (y 0).val ((y 1).val % 64) : ℝ) : EReal)) : S8192x256.Idx → EReal)
    (by decide +kernel) fun t hf y => ?_) (ix2 r L)
  blk_simp
  obtain ⟨r, l, rfl⟩ : ∃ (r : Fin 8192) (l : Fin 128), y = ix2 r l := ⟨y 0, y 1, eq_ix2 y⟩
  rw [bwdAfter8, bwdOuts]
  dsimp only
  have e : win1_8.index t 0 = 0 ∧ win1_8.index t 1 = t.val := by simp [bwd_idx t]
  rw [e.1, e.2]
  show _ = (((hd m c ((t.val * 128 + l.val) / 64)).dk (0 * 8192 + r.val) ((t.val * 128 + l.val) % 64) : ℝ) : EReal)
  rw [zero_mul, zero_add, col_head, col_lane]
  exact filledBack(Cert.AttnBwdValue.dk_out, t, hm) r l

theorem dv_at (hm : Reals m c) (r : Fin 8192) (L : Fin 256) :
    mem5 m ρ c (Proc.devRef .tc main_v21) (ix2 r L) = (((hd m c (L.val / 64)).dv r.val (L.val % 64) : ℝ) : EReal) := by
  unfold mem5
  entry_read
  pointwise
  refine (congrFun (mem4_arr m ρ c 9) (ix2 r L)).trans ?_
  refine congrFun ((bwdPipe (at3 m ρ) c).arrAt_eq_of_covers 9
    ((fun y => (((hd m c ((y 1).val / 64)).dv (y 0).val ((y 1).val % 64) : ℝ) : EReal)) : S8192x256.Idx → EReal)
    (by decide +kernel) fun t hf y => ?_) (ix2 r L)
  blk_simp
  obtain ⟨r, l, rfl⟩ : ∃ (r : Fin 8192) (l : Fin 128), y = ix2 r l := ⟨y 0, y 1, eq_ix2 y⟩
  rw [bwdAfter9, bwdOuts]
  dsimp only
  have e : win1_9.index t 0 = 0 ∧ win1_9.index t 1 = t.val := by simp [bwd_idx t]
  rw [e.1, e.2]
  show _ = (((hd m c ((t.val * 128 + l.val) / 64)).dv (0 * 8192 + r.val) ((t.val * 128 + l.val) % 64) : ℝ) : EReal)
  rw [zero_mul, zero_add, col_head, col_lane]
  exact filledBack(Cert.AttnBwdValue.dv_out, t, hm) r l

theorem out_kept : mem5 m ρ c (Proc.devRef .tc main_v8_0) = mem2 m ρ c (Proc.devRef .tc main_v8_0) :=
  ((mem5_of m ρ c _ (by decide)).trans (mem4_of m ρ c _ (by decide +kernel))).trans (mem3_of m ρ c _ (by decide))
theorem lse_final : mem5 m ρ c (Proc.devRef .tc main_v8_1) = mem2 m ρ c (Proc.devRef .tc main_v8_1) :=
  ((mem5_of m ρ c _ (by decide)).trans (mem4_of m ρ c _ (by decide +kernel))).trans (mem3_of m ρ c _ (by decide))

end Arrays

end Cert.AttnArrays

end
-- ==== Proof.AttnWindow.lean ====
module

public import proofs.«01_k».proof.Proof.AttnSpec
public import proofs.«01_k».proof.Proof.AttnFwdBlock

/-! # Windows of three blocks

A reference that gathers, for each block of 64 rows, the block before, the block itself and the block after,
reads keys padded with 64 rows of zeros on both sides. Padded coordinate `T` is key `T - 64`. -/

@[expose] public section

noncomputable section

namespace Cert.AttnWindow

open Idealize.ShloMosaic Cert.AttnSpec

/-- A row function padded with zeros. -/
def pad (L : ℕ) (f : ℕ → ℝ) (T : ℕ) : ℝ := if 64 ≤ T ∧ T < L + 64 then f (T - 64) else 0

theorem pad_in {L r T : ℕ} (f : ℕ → ℝ) (h : In L r T) : pad L f T = f (T - 64) := if_pos h.2

/-- The window of a block holds the bands of its rows. -/
theorem holds {L n i : ℕ} (hi : i < 64) : ∀ T, In L (64 * n + i) T → 64 * n ≤ T ∧ T < 64 * n + 192 := by
  intro T h; unfold In at h; omega

/-- A row of the padded rows. -/
theorem padded (L P T : ℕ) (hP : P = T) (f : ℕ → ℝ) (F : (t : ℕ) → t < L → EReal) (hF : ∀ t h, F t h = ((f t : ℝ) : EReal)) :
    (if _ : P < 64 then (0 : EReal) else if h : P - 64 < L then F (P - 64) h else 0) = ((pad L f T : ℝ) : EReal) := by
  subst hP
  unfold pad
  by_cases h1 : P < 64
  · rw [dif_pos h1, if_neg (by omega), EReal.coe_zero]
  · rw [dif_neg h1]
    by_cases h2 : P - 64 < L
    · rw [dif_pos h2, if_pos (by omega), hF _ h2]
    · rw [dif_neg h2, if_neg (by omega), EReal.coe_zero]

theorem attained {L r B n : ℕ} (A : Head) (hL : A.len = L) (hr : r < L) (hB : ∀ T, In L r T → B ≤ T ∧ T < B + n) (s : Fin n → EReal)
    (hs : ∀ j : Fin n, s j = if In L r (B + j.val) then ((A.score r (B + j.val - 64) : ℝ) : EReal) else ⊥) :
    ∃ j, s j = ((A.top r : ℝ) : EReal) := by
  subst hL
  have hne : (A.keys r).Nonempty := ⟨r, A.mem_keys hr⟩
  obtain ⟨t, ht, e⟩ := Finset.exists_mem_eq_sup' hne (A.score r)
  simp only [Head.keys, Finset.mem_filter, Finset.mem_range, Near] at ht
  have hi : In A.len r (t + 64) := by unfold In; omega
  have h := hB (t + 64) hi
  refine ⟨⟨t + 64 - B, by omega⟩, ?_⟩
  have h2 : B + (t + 64 - B) = t + 64 := by omega
  rw [hs]
  dsimp only
  rw [h2, if_pos hi, Nat.add_sub_cancel, Head.top, dif_pos hne, e]

/-- A sum over rows, block by block. -/
theorem sum_blocks (N : ℕ) (f : ℕ → ℝ) :
    ∑ r ∈ Finset.range (64 * N), f r = ∑ b ∈ Finset.range N, ∑ i ∈ Finset.range 64, f (64 * b + i) := by
  induction N with
  | zero => simp
  | succ N ih => rw [Nat.mul_succ, Finset.sum_range_add, ih]; exact (Finset.sum_range_succ _ N).symm

theorem pick_block (N p s : ℕ) (w : ℕ → ℝ) :
    ∑ b ∈ Finset.range N, (if b + s = p then w b else 0) = if s ≤ p ∧ p - s < N then w (p - s) else 0 := by
  by_cases h : s ≤ p ∧ p - s < N
  · rw [if_pos h, Finset.sum_eq_single (p - s)]
    · rw [if_pos (by omega)]
    · intro b _ hb; rw [if_neg (by omega)]
    · intro hb; exact absurd (Finset.mem_range.2 h.2) hb
  · rw [if_neg h]
    refine Finset.sum_eq_zero fun b hb => ?_
    have := Finset.mem_range.1 hb
    rw [if_neg (by omega)]

/-- What the three windows over a key bring together is the sum over all rows. -/
theorem three_blocks (N p i : ℕ) (hi : i < 64) (f : ℕ → ℝ)
    (hf : ∀ r, ¬Near r (64 * p + i - 64) → f r = 0) (hp : 1 ≤ p) (w : ℕ → ℝ)
    (hw : ∀ b, w b = ∑ i ∈ Finset.range 64, f (64 * b + i)) :
    ((if 2 ≤ p ∧ p - 2 < N then ((w (p - 2) : ℝ) : EReal) else 0)
      + (if 1 ≤ p ∧ p - 1 < N then ((w (p - 1) : ℝ) : EReal) else 0))
      + (if p < N then ((w p : ℝ) : EReal) else 0)
      = ((∑ r ∈ Finset.range (64 * N), f r : ℝ) : EReal) := by
  have hc : ∀ (P : Prop) [Decidable P] (x : ℝ), (if P then (x : EReal) else 0) = ((if P then x else 0 : ℝ) : EReal) := by
    intro P _ x; split_ifs <;> rfl
  have hz : (if p < N then w p else 0) = if 0 ≤ p ∧ p - 0 < N then w (p - 0) else 0 := by
    simp only [Nat.zero_le, true_and, Nat.sub_zero]
  rw [hc, hc, hc, ← EReal.coe_add, ← EReal.coe_add, hz, ← pick_block N p 2 w, ← pick_block N p 1 w, ← pick_block N p 0 w,
    ← Finset.sum_add_distrib, ← Finset.sum_add_distrib, sum_blocks]
  congr 1
  refine Finset.sum_congr rfl fun b _ => ?_
  by_cases h : b + 2 = p ∨ b + 1 = p ∨ b = p
  · rw [← hw b]
    rcases h with h | h | h
    · rw [if_pos h, if_neg (by omega), if_neg (by omega)]; ring
    · rw [if_neg (by omega), if_pos h, if_neg (by omega)]; ring
    · rw [if_neg (by omega), if_neg (by omega), if_pos (by omega)]; ring
  · rw [if_neg (by omega), if_neg (by omega), if_neg (by omega), add_zero, add_zero]
    symm
    refine Finset.sum_eq_zero fun c hc => hf _ fun hn => h ?_
    have := Finset.mem_range.1 hc
    unfold Near at hn
    omega

theorem band_word (i j : ℕ) (hi : i < 64) (hj : j < 192) :
    IntOp.cmpi .sle (IntOp.absi (IntOp.subi (IntOp.subi (BitVec.ofNat 32 j) 64#32) (BitVec.ofNat 32 i))) 64#32
      = if i ≤ j ∧ j ≤ i + 128 then 1#1 else 0#1 := by
  have hd : AttnBlock.gap 64 i j < 512 := by unfold AttnBlock.gap; omega
  refine (congrArg (fun x => IntOp.cmpi .sle x 64#32) (AttnBlock.gap_word 64 i j (by norm_num) (by omega) (by omega))).trans ?_
  refine (AttnBlock.near_word ⟨_, hd⟩).trans (if_congr ?_ rfl rfl)
  dsimp only
  unfold AttnBlock.gap
  omega

end Cert.AttnWindow

end
-- ==== Proof.AttnEdge.lean ====
module

public import Idealize.ShloMosaic.Lib.Pointwise

/-! # The ends of the padded rows -/

@[expose] public section

noncomputable section

namespace Cert.AttnEdge

open Idealize.ShloMosaic

/-- The words that say whether column `j` of block `n`'s window is a key. -/
theorem edge_word : ∀ (n : Fin 128) (j : Fin 192),
    IntOp.andi (IntOp.cmpi CmpIPredicate.sge (IntOp.addi (IntOp.muli (IntOp.subi (BitVec.ofNat 32 n.val) 1#32) 64#32) (BitVec.ofNat 32 j.val)) 0#32)
      (IntOp.cmpi CmpIPredicate.slt (IntOp.addi (IntOp.muli (IntOp.subi (BitVec.ofNat 32 n.val) 1#32) 64#32) (BitVec.ofNat 32 j.val)) 8192#32)
      = if 64 ≤ 64 * n.val + j.val ∧ 64 * n.val + j.val < 8256 then 1#1 else 0#1 := by
  decide +kernel

end Cert.AttnEdge

end
-- ==== Proof.AttnRef.lean ====
module

public import proofs.«01_k».proof.Proof.Gen.Attn1RefIdeal.Read
public import proofs.«01_k».proof.Proof.AttnWindow
public import proofs.«01_k».proof.Proof.AttnEdge
public import proofs.«01_k».proof.Proof.AttnArrays
public import Idealize.ShloMosaic.Lib.Pipeline.ValueKit
public import Idealize.ShloMosaic.Lib.Pointwise
public import Idealize.ShloMosaic.Lib.Claim

/-! # The attention reference's arrays

The reference gathers windows of three blocks and differentiates the windowed attention. Each array is read at an
index; block `n`'s row `i` is row `64 n + i`, column `j` of its window the padded row `64 n + j`. -/

@[expose] public section

set_option maxRecDepth 16384

noncomputable section

namespace Cert.AttnRef

open Idealize.ShloMosaic Idealize.ShloMosaic.TcCoe Idealize.SL.Sem
open Cert.Attn1RefIdeal Cert.Attn1RefIdeal.Gen Cert.Attn1RefIdeal.Read Cert.AttnSpec Cert.AttnWindow
open Cert.AttnEdge (edge_word)
open Cert.AttnArrays (four three Real4 Real3 four_at three_at slope_word headOf eighth)

/-! ## The band -/

theorem mask_at (n : Fin 128) (h : Fin 4) (i : Fin 64) (j : Fin 192) :
    val_main_v83_1 (F := Ideal) (ix5 0 n h i j) = if In 8192 (64 * n.val + i.val) (64 * n.val + j.val) then 1#1 else 0#1 := by
  pointwise [val_main_v83_1, val_main_v79, val_main_v65, val_main_v64, val_main_v63, val_main_v62, val_main_v61, val_main_v60, val_main_v59, val_main_c_13, val_main_v58, val_main_v57, val_main_c_12, val_main_v56, val_main_v55, val_main_v54, val_main_c_11, val_main_v53, val_main_v52, val_main_v51, val_main_v50, val_main_v49, val_main_v48, val_main_v47, val_main_v46, val_main_c_10, val_main_v45, val_main_v44, val_main_c_9, val_main_v43, val_main_v42, val_main_v41, val_main_v40, val_main_v39, val_main_v38, val_main_v37, val_main_v36, val_main_v35, val_main_c, val_main_v34, val_main_v33]
  rw [edge_word, band_word _ _ i.isLt j.isLt]
  by_cases h1 : i.val ≤ j.val ∧ j.val ≤ i.val + 128
  · by_cases h2 : 64 ≤ 64 * n.val + j.val ∧ 64 * n.val + j.val < 8256
    · rw [if_pos h1, if_pos h2, if_pos (by unfold In; omega)]; rfl
    · rw [if_pos h1, if_neg h2, if_neg (by unfold In; omega)]; rfl
  · by_cases h2 : 64 ≤ 64 * n.val + j.val ∧ 64 * n.val + j.val < 8256
    · rw [if_neg h1, if_pos h2, if_neg (by unfold In; omega)]; rfl
    · rw [if_neg h1, if_neg h2, if_neg (by unfold In; omega)]; rfl

/-- The bias's distance. -/
theorem dist_at (n : ℕ) (i : Fin 64) (j : Fin 192) (hT : 64 ≤ 64 * n + j.val) :
    (FloatOps.sitofp (F := Ideal) FTy.f32 (IntOp.muli (IntOp.absi (val_main_v41 (F := Ideal) (ix2 i j))) 1#32) : EReal)
      = ((Head.dist (64 * n + i.val) (64 * n + j.val - 64) : ℕ) : ℝ) := by
  pointwise [val_main_v41, val_main_v40, val_main_v39, val_main_v38, val_main_v37, val_main_v36, val_main_v35, val_main_c, val_main_v34, val_main_v33]
  have hd : AttnBlock.gap 64 i.val j.val < 512 := by unfold AttnBlock.gap; omega
  have e := AttnBlock.gap_word 64 i.val j.val (by norm_num) (by omega) (by omega)
  refine (congrArg (fun w => (FloatOps.sitofp (F := Ideal) FTy.f32 (IntOp.muli w 1#32) : EReal)) e).trans ?_
  have em : IntOp.muli (BitVec.ofNat 32 (AttnBlock.gap 64 i.val j.val)) 1#32 = BitVec.ofNat 32 (AttnBlock.gap 64 i.val j.val) := BitVec.mul_one _
  rw [em]
  show (((BitVec.ofNat 32 (AttnBlock.gap 64 i.val j.val)).toInt : ℝ) : EReal) = _
  rw [AttnBlock.int_word ⟨_, hd⟩]
  have eg : AttnBlock.gap 64 i.val j.val = Head.dist (64 * n + i.val) (64 * n + j.val - 64) := by
    unfold AttnBlock.gap Head.dist; omega
  dsimp only
  rw [eg]
  norm_cast

theorem slope_at (h : Fin 4) : val_main_v4 (F := Ideal) (ix1 h) = ((AttnArrays.slope h.val : ℝ) : EReal) := by
  pointwise [val_main_v4, val_main_v3, val_main_v2, val_main_v1, val_main_v0, val_main_cst, val_main_cst_0, val_main_cst_1, val_main_cst_2]
  unfold AttnArrays.slope
  fin_cases h
  · exact slope_word 0
  · exact slope_word 1
  · exact slope_word 2
  · exact slope_word 3

/-- A sum of 64 products. -/
theorem sum64 (f g : ℕ → ℝ) (F G : Fin 64 → EReal) (hF : ∀ x, F x = ((f x.val : ℝ) : EReal)) (hG : ∀ x, G x = ((g x.val : ℝ) : EReal)) :
    ∑ x, F x * G x = ((∑ d ∈ Finset.range 64, f d * g d : ℝ) : EReal) := by
  rw [Finset.sum_range, Cert.RowNorm.coe_sum]
  refine Finset.sum_congr rfl fun x _ => ?_
  rw [hF, hG, EReal.coe_mul]

theorem four_row {a : FVec Ideal S1x8192x4x64 .f32} (ha : Real4 a) (P r : ℕ) (hP : P < 8192) (e : P = r) (h : Fin 4) (d : Fin 64) :
    a (ix4 0 ⟨P, hP⟩ h d) = ((four a r h.val d.val : ℝ) : EReal) := by
  subst e; exact four_at ha _ h d

theorem three_row {a : FVec Ideal S1x8192x4 .f32} (ha : Real3 a) (P r : ℕ) (hP : P < 8192) (e : P = r) (h : Fin 4) :
    a (ix3 0 ⟨P, hP⟩ h) = ((three a r h.val : ℝ) : EReal) := by
  subst e; exact three_at ha _ h

section Stages

variable (q k v g : FVec Ideal S1x8192x4x64 .f32) (dl : FVec Ideal S1x8192x4 .f32)

/-- Head `h`. -/
abbrev A (h : ℕ) : Head := headOf q k v g dl h

theorem kwin_at (hk : Real4 k) (n : Fin 128) (j : Fin 192) (h : Fin 4) (d : Fin 64) :
    val_main_v20 (F := Ideal) k (ix5 0 n j h d) = ((pad 8192 (fun t => (A q k v g dl h.val).k t d.val) (64 * n.val + j.val) : ℝ) : EReal) := by
  pointwise [val_main_v20, val_main_v19, val_main_v18, val_main_v17, val_main_v16, val_main_v13, val_main_v12, val_main_cst_3, val_main_v11, val_main_v10, val_main_v9]
  have key := fun P hP => padded 8192 P (64 * n.val + j.val) hP (fun t => (A q k v g dl h.val).k t d.val)
    (fun t ht => k (ix4 0 ⟨t, ht⟩ h d)) (fun t ht => four_at hk ⟨t, ht⟩ h d)
  by_cases h1 : j.val < 64
  · rw [dif_pos h1]
    exact key _ (by omega)
  · rw [dif_neg h1]
    by_cases h2 : j.val - 64 < 64
    · rw [dif_pos h2]
      exact key _ (by omega)
    · rw [dif_neg h2]
      exact key _ (by omega)

theorem vwin_at (hv : Real4 v) (n : Fin 128) (j : Fin 192) (h : Fin 4) (d : Fin 64) :
    val_main_v32 (F := Ideal) v (ix5 0 n j h d) = ((pad 8192 (fun t => (A q k v g dl h.val).v t d.val) (64 * n.val + j.val) : ℝ) : EReal) := by
  pointwise [val_main_v32, val_main_v31, val_main_v30, val_main_v29, val_main_v28, val_main_v25, val_main_v24, val_main_cst_6, val_main_v23, val_main_v22, val_main_v21]
  have key := fun P hP => padded 8192 P (64 * n.val + j.val) hP (fun t => (A q k v g dl h.val).v t d.val)
    (fun t ht => v (ix4 0 ⟨t, ht⟩ h d)) (fun t ht => four_at hv ⟨t, ht⟩ h d)
  by_cases h1 : j.val < 64
  · rw [dif_pos h1]
    exact key _ (by omega)
  · rw [dif_neg h1]
    by_cases h2 : j.val - 64 < 64
    · rw [dif_pos h2]
      exact key _ (by omega)
    · rw [dif_neg h2]
      exact key _ (by omega)

theorem score_at (hq : Real4 q) (hk : Real4 k) (n : Fin 128) (h : Fin 4) (i : Fin 64) (j : Fin 192)
    (hi : In 8192 (64 * n.val + i.val) (64 * n.val + j.val)) :
    val_main_v82 (F := Ideal) q k (ix5 0 n h i j)
      = (((A q k v g dl h.val).score (64 * n.val + i.val) (64 * n.val + j.val - 64) : ℝ) : EReal) := by
  pointwise [val_main_v82, val_main_v81, val_main_v80, val_main_v78, val_main_v77, val_main_cst_15, val_main_v76, val_main_v75, val_main_v74, val_main_v73, val_main_v72, val_main_v71, val_main_v70, val_main_v69, val_main_v68, val_main_v67, val_main_c_14, val_main_v66, val_main_v8, val_main_v7, val_main_v6, val_main_v5]
  rw [slope_at, eighth, Head.score, EReal.coe_add, EReal.coe_mul, EReal.coe_mul, EReal.coe_neg]
  refine congrArg₂ (· + ·) (congrArg (· * _) ?_) (congrArg (_ * ·) (dist_at n.val i j hi.2.1))
  refine sum64 _ _ _ _ (fun d => ?_) (fun d => ?_)
  · exact four_row hq _ _ _ (by omega) h d
  · rw [kwin_at q k v g dl hk, pad_in _ hi]

theorem masked_at (hq : Real4 q) (hk : Real4 k) (n : Fin 128) (h : Fin 4) (i : Fin 64) (j : Fin 192) :
    val_main_v83_0 (F := Ideal) q k (ix5 0 n h i j)
      = if In 8192 (64 * n.val + i.val) (64 * n.val + j.val) then
          (((A q k v g dl h.val).score (64 * n.val + i.val) (64 * n.val + j.val - 64) : ℝ) : EReal) else ⊥ := by
  pointwise [val_main_v83_0, val_main_call0_v2, val_main_call0_v0, val_main_cst_16]
  rw [mask_at]
  by_cases hi : In 8192 (64 * n.val + i.val) (64 * n.val + j.val)
  · rw [if_pos hi, if_pos hi, ← score_at q k v g dl hq hk n h i j hi]; rfl
  · rw [if_neg hi, if_neg hi]; exact AttnBlock.low_eq

section Rows

variable (hq : Real4 q) (hk : Real4 k) (n : Fin 128) (h : Fin 4) (i : Fin 64)

theorem row_lt : 64 * n.val + i.val < (A q k v g dl h.val).len := by
  show 64 * n.val + i.val < 8192
  omega

include hq hk

theorem top_at : val_main_v84 (F := Ideal) q k (ix4 0 n h i) = (((A q k v g dl h.val).top (64 * n.val + i.val) : ℝ) : EReal) := by
  pointwise [val_main_v84, val_main_cst_17]
  rw [AttnBlock.low_eq]
  exact max_window (A q k v g dl h.val) (row_lt q k v g dl n h i) (holds i.isLt) _ (masked_at q k v g dl hq hk n h i)

theorem wt_at (j : Fin 192) : val_main_v93 (F := Ideal) q k (ix5 0 n h i j)
    = if In 8192 (64 * n.val + i.val) (64 * n.val + j.val) then
        (((A q k v g dl h.val).wt (64 * n.val + i.val) (64 * n.val + j.val - 64) : ℝ) : EReal) else 0 := by
  pointwise [val_main_v93, val_main_v92, val_main_v91, val_main_v90]
  rw [top_at q k v g dl hq hk n h i]
  exact wt_window (A q k v g dl h.val) (masked_at q k v g dl hq hk n h i j)

theorem den_at : val_main_v94 (F := Ideal) q k (ix4 0 n h i) = (((A q k v g dl h.val).den (64 * n.val + i.val) : ℝ) : EReal) := by
  pointwise [val_main_v94, val_main_cst_19]
  rw [Finset.sum_congr rfl fun j _ => wt_at q k v g dl hq hk n h i j]
  exact sum_window (holds i.isLt) _ fun t ht => (A q k v g dl h.val).wt_off ht

theorem num_at (hv : Real4 v) (d : Fin 64) :
    val_main_v96 (F := Ideal) q k v (ix5 0 n i h d) = (((A q k v g dl h.val).num (64 * n.val + i.val) d.val : ℝ) : EReal) := by
  pointwise [val_main_v96, val_main_v95]
  rw [Finset.sum_congr rfl fun j _ => mul_comm _ _]
  refine sum_window_mul (holds i.isLt) _ _ (wt_at q k v g dl hq hk n h i) (fun t ht => (A q k v g dl h.val).wt_off ht) _
    (fun t => (A q k v g dl h.val).v t d.val) fun j hi => ?_
  rw [vwin_at q k v g dl hv, pad_in _ hi]

omit hq hk in
theorem den_ne : (A q k v g dl h.val).den (64 * n.val + i.val) ≠ 0 := ((A q k v g dl h.val).den_pos (row_lt q k v g dl n h i)).ne'

omit hq hk in
/-- A sum over two axes of one entry each. -/
theorem unit_sum (x : FVec Ideal S1x128x64x4x1 .f32) :
    Ideal.hostReduceAdd reducesTo_S1x128x64x4x1_S128x64x4_d0_4 x 0 (ix3 n i h) = x (ix5 0 n i h 0) := by
  unfold Ideal.hostReduceAdd
  rw [zero_add]
  refine Finset.sum_eq_single (ix5 0 n i h 0) (fun b hb hne => absurd ?_ hne) (fun hb => absurd ?_ hb)
  · have e := (Finset.mem_filter.1 hb).2
    have e0 := (Shape.ReducesTo.drop_apply_val reducesTo_S1x128x64x4x1_S128x64x4_d0_4 b 0).symm.trans (congrArg Fin.val (congrFun e 0))
    have e1 := (Shape.ReducesTo.drop_apply_val reducesTo_S1x128x64x4x1_S128x64x4_d0_4 b 1).symm.trans (congrArg Fin.val (congrFun e 1))
    have e2 := (Shape.ReducesTo.drop_apply_val reducesTo_S1x128x64x4x1_S128x64x4_d0_4 b 2).symm.trans (congrArg Fin.val (congrFun e 2))
    funext a
    match a with
    | ⟨0, _⟩ => exact Subsingleton.elim (α := Fin 1) _ _
    | ⟨1, _⟩ => exact Fin.ext e0
    | ⟨2, _⟩ => exact Fin.ext e1
    | ⟨3, _⟩ => exact Fin.ext e2
    | ⟨4, _⟩ => exact Subsingleton.elim (α := Fin 1) _ _
  · refine Finset.mem_filter.2 ⟨Finset.mem_univ _, ?_⟩
    funext a
    match a with
    | ⟨0, _⟩ => exact Fin.ext (Shape.ReducesTo.drop_apply_val reducesTo_S1x128x64x4x1_S128x64x4_d0_4 _ 0)
    | ⟨1, _⟩ => exact Fin.ext (Shape.ReducesTo.drop_apply_val reducesTo_S1x128x64x4x1_S128x64x4_d0_4 _ 1)
    | ⟨2, _⟩ => exact Fin.ext (Shape.ReducesTo.drop_apply_val reducesTo_S1x128x64x4x1_S128x64x4_d0_4 _ 2)

omit hq hk in
theorem unit_sum' (x : FVec Ideal S1x128x4x64x1 .f32) :
    Ideal.hostReduceAdd reducesTo_S1x128x4x64x1_S128x4x64_d0_4 x 0 (ix3 n h i) = x (ix5 0 n h i 0) := by
  unfold Ideal.hostReduceAdd
  rw [zero_add]
  refine Finset.sum_eq_single (ix5 0 n h i 0) (fun b hb hne => absurd ?_ hne) (fun hb => absurd ?_ hb)
  · have e := (Finset.mem_filter.1 hb).2
    have e0 := (Shape.ReducesTo.drop_apply_val reducesTo_S1x128x4x64x1_S128x4x64_d0_4 b 0).symm.trans (congrArg Fin.val (congrFun e 0))
    have e1 := (Shape.ReducesTo.drop_apply_val reducesTo_S1x128x4x64x1_S128x4x64_d0_4 b 1).symm.trans (congrArg Fin.val (congrFun e 1))
    have e2 := (Shape.ReducesTo.drop_apply_val reducesTo_S1x128x4x64x1_S128x4x64_d0_4 b 2).symm.trans (congrArg Fin.val (congrFun e 2))
    funext a
    match a with
    | ⟨0, _⟩ => exact Subsingleton.elim (α := Fin 1) _ _
    | ⟨1, _⟩ => exact Fin.ext e0
    | ⟨2, _⟩ => exact Fin.ext e1
    | ⟨3, _⟩ => exact Fin.ext e2
    | ⟨4, _⟩ => exact Subsingleton.elim (α := Fin 1) _ _
  · refine Finset.mem_filter.2 ⟨Finset.mem_univ _, ?_⟩
    funext a
    match a with
    | ⟨0, _⟩ => exact Fin.ext (Shape.ReducesTo.drop_apply_val reducesTo_S1x128x4x64x1_S128x4x64_d0_4 _ 0)
    | ⟨1, _⟩ => exact Fin.ext (Shape.ReducesTo.drop_apply_val reducesTo_S1x128x4x64x1_S128x4x64_d0_4 _ 1)
    | ⟨2, _⟩ => exact Fin.ext (Shape.ReducesTo.drop_apply_val reducesTo_S1x128x4x64x1_S128x4x64_d0_4 _ 2)

end Rows

end Stages

end Cert.AttnRef

end
-- ==== Proof.AttnRefBack.lean ====
module

public import proofs.«01_k».proof.Proof.Gen.Attn1RefIdeal.Read
public import proofs.«01_k».proof.Proof.AttnWindow
public import proofs.«01_k».proof.Proof.AttnEdge
public import proofs.«01_k».proof.Proof.AttnArrays
public import proofs.«01_k».proof.Proof.AttnRef
public import Idealize.ShloMosaic.Lib.Pipeline.ValueKit
public import Idealize.ShloMosaic.Lib.Pointwise
public import Idealize.ShloMosaic.Lib.Claim

/-! # The attention reference's gradients of scores -/

@[expose] public section

set_option maxRecDepth 16384

noncomputable section

namespace Cert.AttnRef

open Idealize.ShloMosaic Idealize.ShloMosaic.TcCoe Idealize.SL.Sem
open Cert.Attn1RefIdeal Cert.Attn1RefIdeal.Gen Cert.Attn1RefIdeal.Read Cert.AttnSpec Cert.AttnWindow
open Cert.AttnEdge (edge_word)
open Cert.AttnArrays (four three Real4 Real3 four_at three_at slope_word headOf eighth)

section Stages

variable (q k v g : FVec Ideal S1x8192x4x64 .f32) (dl : FVec Ideal S1x8192x4 .f32)

section Rows

variable (hq : Real4 q) (hk : Real4 k) (n : Fin 128) (h : Fin 4) (i : Fin 64)

include hq hk

/-- The gradient that reaches the row's sum of weights. -/
def down (A : Head) (r : ℕ) : ℝ := A.dl r / A.den r + -∑ d ∈ Finset.range 64, A.g r d * (1 / (A.den r * A.den r)) * A.num r d

theorem down_at (hv : Real4 v) (hg : Real4 g) (hl : Real3 dl) :
    val_main_v135 (F := Ideal) q k v g dl (ix4 0 n i h) = ((down (A q k v g dl h.val) (64 * n.val + i.val) : ℝ) : EReal) := by
  pointwise [val_main_v135, val_main_v134, val_main_v133, val_main_v122, val_main_v118, val_main_v117, val_main_v116, val_main_v97, val_main_cst_22]
  rw [unit_sum]
  pointwise [val_main_v130, val_main_v129, val_main_v128, val_main_v127, val_main_v126, val_main_v125, val_main_v121, val_main_v120, val_main_v119, val_main_cst_21, val_main_v103, val_main_v102, val_main_cst_20, val_main_v101, val_main_v98, val_main_v97]
  have hne := den_ne q k v g dl n h i
  rw [den_at q k v g dl hq hk n h i, ← EReal.coe_mul, ← EReal.coe_one, AttnBlock.div_coe _ _ (mul_ne_zero hne hne), down, EReal.coe_add, EReal.coe_neg]
  refine congrArg₂ (· + ·) ?_ (congrArg (fun x : EReal => -x) ?_)
  · rw [three_row hl _ (64 * n.val + i.val) _ (by omega), AttnBlock.div_coe _ _ hne]
    rfl
  · refine sum64 (fun d => (A q k v g dl h.val).g (64 * n.val + i.val) d * (1 / ((A q k v g dl h.val).den (64 * n.val + i.val) * (A q k v g dl h.val).den (64 * n.val + i.val))))
      (fun d => (A q k v g dl h.val).num (64 * n.val + i.val) d) _ _ (fun d => ?_) (fun d => ?_)
    · rw [four_row hg _ (64 * n.val + i.val) _ (by omega), ← EReal.coe_mul]
      rfl
    · exact num_at q k v g dl hq hk n h i hv d

omit hq hk in
theorem down_eq (A : Head) (r t : ℕ) (hne : A.den r ≠ 0) :
    (∑ d ∈ Finset.range 64, A.g r d / A.den r * A.v t d + down A r) * A.wt r t = A.dscore r t := by
  have e1 : ∑ d ∈ Finset.range 64, A.g r d / A.den r * A.v t d = A.gv r t / A.den r := by
    rw [Head.gv, Finset.sum_div]
    exact Finset.sum_congr rfl fun d _ => by ring
  have e2 : ∑ d ∈ Finset.range 64, A.g r d * (1 / (A.den r * A.den r)) * A.num r d
      = (∑ d ∈ Finset.range 64, A.g r d * A.out r d) / A.den r := by
    rw [Finset.sum_div]
    refine Finset.sum_congr rfl fun d _ => ?_
    rw [Head.out]
    field_simp
  rw [down, e1, e2, Head.dscore, Head.share]
  field_simp
  ring

theorem dscore_at (hv : Real4 v) (hg : Real4 g) (hl : Real3 dl) (j : Fin 192) :
    val_main_v143 (F := Ideal) q k v g dl (ix5 0 n h i j)
      = if In 8192 (64 * n.val + i.val) (64 * n.val + j.val) then
          (((A q k v g dl h.val).dscore (64 * n.val + i.val) (64 * n.val + j.val - 64) : ℝ) : EReal) else 0 := by
  pointwise [val_main_v143, val_main_v142, val_main_v141, val_main_v138, val_main_v137, val_main_v136, val_main_v132, val_main_v131, val_main_v121, val_main_v120, val_main_v119, val_main_v98, val_main_v97]
  rw [wt_at q k v g dl hq hk n h i j]
  by_cases hi : In 8192 (64 * n.val + i.val) (64 * n.val + j.val)
  · rw [if_pos hi, if_pos hi, down_at q k v g dl hq hk n h i hv hg hl, den_at q k v g dl hq hk n h i,
      ← down_eq _ _ _ (den_ne q k v g dl n h i), EReal.coe_mul, EReal.coe_add]
    refine congrArg (fun x : EReal => (x + _) * _) ?_
    refine sum64 (fun d => (A q k v g dl h.val).g (64 * n.val + i.val) d / (A q k v g dl h.val).den (64 * n.val + i.val))
      (fun d => (A q k v g dl h.val).v (64 * n.val + j.val - 64) d) _ _ (fun d => ?_) (fun d => ?_)
    · rw [four_row hg _ (64 * n.val + i.val) _ (by omega), AttnBlock.div_coe _ _ (den_ne q k v g dl n h i)]
      rfl
    · rw [vwin_at q k v g dl hv, pad_in _ hi]
  · rw [if_neg hi, if_neg hi]
    exact mul_zero _

include v g dl in
/-- The number of keys that attain the row's maximum is not zero. -/
theorem count_ne : (0 : EReal) + ∑ x, FloatOps.uitofp (F := Ideal) FTy.f32
    (BitVec.ofBool (decide (val_main_v83_0 (F := Ideal) q k (ix5 0 n h i x) = val_main_v84 (F := Ideal) q k (ix4 0 n h i)))) ≠ 0 := by
  obtain ⟨j, hj⟩ := attained (A q k v g dl h.val) rfl (row_lt q k v g dl n h i) (holds i.isLt) _ (masked_at q k v g dl hq hk n h i)
  rw [zero_add]
  refine (lt_of_lt_of_le ?_ (Finset.single_le_sum (fun x _ => ?_) (Finset.mem_univ j))).ne'
  · rw [hj, top_at q k v g dl hq hk n h i, decide_eq_true rfl]
    show (0 : EReal) < (((1#1 : BitVec 1).toNat : ℝ) : EReal)
    norm_num
  · show (0 : EReal) ≤ (((BitVec.ofBool _).toNat : ℝ) : EReal)
    exact_mod_cast Nat.zero_le _

/-- No gradient is left for the row's maximum. -/
theorem spare_at (hv : Real4 v) (hg : Real4 g) (hl : Real3 dl) : val_main_v150 (F := Ideal) q k v g dl (ix4 0 n h i) = 0 := by
  pointwise [val_main_v150, val_main_v149, val_main_v148, val_main_cst_24]
  rw [unit_sum']
  pointwise [val_main_v147, val_main_v146, val_main_v145, val_main_cst_23, val_main_v144, val_main_v124, val_main_v123, val_main_v118, val_main_v117, val_main_v116, val_main_v89, val_main_cst_18, val_main_v88, val_main_v87, val_main_v86, val_main_v85]
  have e : ∑ x : Fin 192, -val_main_v143 (F := Ideal) q k v g dl (ix5 0 n h i x) = ((-(A q k v g dl h.val).dl (64 * n.val + i.val) : ℝ) : EReal) := by
    have hs := sum_window (L := 8192) (n := 192) (holds i.isLt) (fun t => -(A q k v g dl h.val).dscore (64 * n.val + i.val) t)
      (fun t ht => neg_eq_zero.2 ((A q k v g dl h.val).dscore_off ht))
    have hd : ∑ t ∈ Finset.range 8192, -(A q k v g dl h.val).dscore (64 * n.val + i.val) t = -(A q k v g dl h.val).dl (64 * n.val + i.val) := by
      rw [Finset.sum_neg_distrib]
      exact congrArg (fun x : ℝ => -x) ((A q k v g dl h.val).sum_dscore (row_lt q k v g dl n h i))
    rw [← hd, ← hs]
    refine Finset.sum_congr rfl fun j _ => ?_
    rw [dscore_at q k v g dl hq hk n h i hv hg hl j]
    split_ifs
    · exact (EReal.coe_neg _).symm
    · exact neg_zero
  rw [e, three_row hl _ (64 * n.val + i.val) _ (by omega), ← EReal.coe_add]
  have z : three dl (64 * n.val + i.val) h.val + -(A q k v g dl h.val).dl (64 * n.val + i.val) = 0 := add_neg_cancel _
  rw [z, EReal.coe_zero]
  have hc := count_ne q k v g dl hq hk n h i
  first
    | rw [Ideal.div, if_neg hc, zero_mul]
    | (rw [zero_add] at hc; rw [Ideal.div, if_neg hc, zero_mul])

theorem scaled_at (hv : Real4 v) (hg : Real4 g) (hl : Real3 dl) (j : Fin 192) :
    val_main_v156 (F := Ideal) q k v g dl (ix5 0 n h i j)
      = if In 8192 (64 * n.val + i.val) (64 * n.val + j.val) then
          (((A q k v g dl h.val).dscore (64 * n.val + i.val) (64 * n.val + j.val - 64) * (1 / 8) : ℝ) : EReal) else 0 := by
  pointwise [val_main_v156, val_main_v155, val_main_cst_25, val_main_v154, val_main_v153, val_main_v152, val_main_v151, val_main_call1_v0, val_main_call1_cst]
  rw [mask_at, spare_at q k v g dl hq hk n h i hv hg hl, dscore_at q k v g dl hq hk n h i hv hg hl j, zero_mul, add_zero, eighth]
  by_cases hi : In 8192 (64 * n.val + i.val) (64 * n.val + j.val)
  · rw [if_pos hi, if_pos hi, if_pos hi, EReal.coe_mul]; rfl
  · rw [if_neg hi, if_neg hi, if_neg hi]; rfl

theorem dq_at (hv : Real4 v) (hg : Real4 g) (hl : Real3 dl) (d : Fin 64) :
    val_main_v160 (F := Ideal) q k v g dl (ix5 0 n i h d) = (((A q k v g dl h.val).dq (64 * n.val + i.val) d.val : ℝ) : EReal) := by
  pointwise [val_main_v160, val_main_v159]
  rw [Head.dq, Finset.sum_mul]
  refine (sum_window_mul (holds i.isLt) _ (fun t => (A q k v g dl h.val).dscore (64 * n.val + i.val) t * (1 / 8))
    (scaled_at q k v g dl hq hk n h i hv hg hl) (fun t ht => by rw [(A q k v g dl h.val).dscore_off ht, zero_mul]) _
    (fun t => (A q k v g dl h.val).k t d.val) fun j hi => ?_).trans ?_
  · rw [kwin_at q k v g dl hk, pad_in _ hi]
  · congr 1
    exact Finset.sum_congr rfl fun t _ => by ring

end Rows

section Columns

variable (hq : Real4 q) (hk : Real4 k) (n : Fin 128) (h : Fin 4)

include hq hk

/-- What one block of rows adds to the gradient of key `t`. -/
theorem dk_part (hv : Real4 v) (hg : Real4 g) (hl : Real3 dl) (j : Fin 192) (d : Fin 64) (t : ℕ) (ht : t < 8192) (e : 64 * n.val + j.val = t + 64) :
    val_main_v158 (F := Ideal) q k v g dl (ix5 0 n j h d)
      = ((∑ i ∈ Finset.range 64, (A q k v g dl h.val).dscore (64 * n.val + i) t * (1 / 8) * (A q k v g dl h.val).q (64 * n.val + i) d.val : ℝ) : EReal) := by
  pointwise [val_main_v158, val_main_v157, val_main_v8, val_main_v7, val_main_v6, val_main_v5]
  refine sum64 (fun i => (A q k v g dl h.val).dscore (64 * n.val + i) t * (1 / 8)) (fun i => (A q k v g dl h.val).q (64 * n.val + i) d.val) _ _ (fun i => ?_) (fun i => ?_)
  · rw [scaled_at q k v g dl hq hk n h i hv hg hl j, e, Nat.add_sub_cancel]
    split_ifs with hi
    · rfl
    · have hn : ¬Near (64 * n.val + i.val) t := fun hn => hi (by unfold Near at hn; unfold In; omega)
      rw [(A q k v g dl h.val).dscore_off hn, zero_mul, EReal.coe_zero]
  · exact four_row hq _ _ _ (by omega) h d

theorem dv_part (hg : Real4 g) (j : Fin 192) (d : Fin 64) (t : ℕ) (ht : t < 8192) (e : 64 * n.val + j.val = t + 64) :
    val_main_v140 (F := Ideal) q k g (ix5 0 n j h d)
      = ((∑ i ∈ Finset.range 64, (A q k v g dl h.val).g (64 * n.val + i) d.val / (A q k v g dl h.val).den (64 * n.val + i) * (A q k v g dl h.val).wt (64 * n.val + i) t : ℝ) : EReal) := by
  pointwise [val_main_v140, val_main_v139, val_main_v137, val_main_v132, val_main_v131, val_main_v121, val_main_v120, val_main_v119, val_main_v98, val_main_v97]
  refine sum64 (fun i => (A q k v g dl h.val).g (64 * n.val + i) d.val / (A q k v g dl h.val).den (64 * n.val + i)) (fun i => (A q k v g dl h.val).wt (64 * n.val + i) t) _ _ (fun i => ?_) (fun i => ?_)
  · rw [four_row hg _ (64 * n.val + i.val) _ (by omega), den_at q k v g dl hq hk n h i, AttnBlock.div_coe _ _ (den_ne q k v g dl n h i)]
    rfl
  · rw [wt_at q k v g dl hq hk n h i j, e, Nat.add_sub_cancel]
    split_ifs with hi
    · rfl
    · have hn : ¬Near (64 * n.val + i.val) t := fun hn => hi (by unfold Near at hn; unfold In; omega)
      rw [(A q k v g dl h.val).wt_off hn, EReal.coe_zero]

end Columns

end Stages

end Cert.AttnRef

end
-- ==== Proof.AttnRefLast.lean ====
module

public import proofs.«01_k».proof.Proof.Gen.Attn1RefIdeal.Read
public import proofs.«01_k».proof.Proof.AttnWindow
public import proofs.«01_k».proof.Proof.AttnEdge
public import proofs.«01_k».proof.Proof.AttnArrays
public import proofs.«01_k».proof.Proof.AttnRefBack
public import Idealize.ShloMosaic.Lib.Pipeline.ValueKit
public import Idealize.ShloMosaic.Lib.Pointwise
public import Idealize.ShloMosaic.Lib.Claim

/-! # The attention reference's results -/

@[expose] public section

set_option maxRecDepth 16384

noncomputable section

namespace Cert.AttnRef

open Idealize.ShloMosaic Idealize.ShloMosaic.TcCoe Idealize.SL.Sem
open Cert.Attn1RefIdeal Cert.Attn1RefIdeal.Gen Cert.Attn1RefIdeal.Read Cert.AttnSpec Cert.AttnWindow
open Cert.AttnEdge (edge_word)
open Cert.AttnArrays (four three Real4 Real3 four_at three_at slope_word headOf eighth)

section Stages

variable (q k v g : FVec Ideal S1x8192x4x64 .f32) (dl : FVec Ideal S1x8192x4 .f32)

theorem log_coe {x : ℝ} (hx : 0 < x) : Ideal.log (x : EReal) = ((Real.log x : ℝ) : EReal) := by
  show (if x ≤ 0 then _ else _) = _
  rw [if_neg (not_le.2 hx)]

/-- One of the three windows. -/
theorem window {P Q : Prop} [Decidable P] [Decidable Q] (F : P → EReal) (w : ℝ) (e : P ↔ Q) (hF : ∀ h, F h = (w : EReal)) :
    (if h : P then F h else 0) = if Q then (w : EReal) else 0 := by
  by_cases h : P
  · rw [dif_pos h, if_pos (e.1 h), hF h]
  · rw [dif_neg h, if_neg fun x => h (e.2 x)]

section Blocks

variable (hq : Real4 q) (hk : Real4 k) (n : Fin 128) (h : Fin 4) (i : Fin 64)

theorem top_move : val_main_v105 (F := Ideal) q k (ix4 0 n i h) = val_main_v84 (F := Ideal) q k (ix4 0 n h i) := by
  pointwise [val_main_v105, val_main_v104, val_main_v90]

include hq hk

theorem out_block (hv : Real4 v) (d : Fin 64) : val_main_v100 (F := Ideal) q k v (ix5 0 n i h d)
    = (((A q k v g dl h.val).out (64 * n.val + i.val) d.val : ℝ) : EReal) := by
  pointwise [val_main_v100, val_main_v99, val_main_v98, val_main_v97]
  refine (congrArg₂ Ideal.div (num_at q k v g dl hq hk n h i hv d) (den_at q k v g dl hq hk n h i)).trans ?_
  exact AttnBlock.div_coe _ _ (den_ne q k v g dl n h i)

omit hq hk in
theorem den_move : val_main_v97 (F := Ideal) q k (ix4 0 n i h) = val_main_v94 (F := Ideal) q k (ix4 0 n h i) := by
  pointwise [val_main_v97]

theorem log_block : val_main_v106 (F := Ideal) q k (ix4 0 n i h)
    = ((Real.log ((A q k v g dl h.val).den (64 * n.val + i.val)) : ℝ) : EReal) := by
  rw [val_main_v106_apply, den_move, den_at q k v g dl hq hk]
  exact log_coe ((A q k v g dl h.val).den_pos (row_lt q k v g dl n h i))

theorem lse_block : val_main_v107 (F := Ideal) q k (ix4 0 n i h)
    = (((A q k v g dl h.val).lse (64 * n.val + i.val) : ℝ) : EReal) := by
  rw [val_main_v107_apply, log_block q k v g dl hq hk, top_move, top_at q k v g dl hq hk, Head.lse, EReal.coe_add]
  rfl

end Blocks

section Finals

variable (hq : Real4 q) (hk : Real4 k) (r : Fin 8192) (L : Fin 256)

theorem row_eq : 64 * (r.val / 64) + r.val % 64 = r.val := Nat.div_add_mod _ _

include hq hk

theorem out_at (hv : Real4 v) : val_main_v195 (F := Ideal) q k v (ix2 r L)
    = (((A q k v g dl (L.val / 64)).out r.val (L.val % 64) : ℝ) : EReal) := by
  pointwise [val_main_v195, val_main_v110, val_main_v109, val_main_v108]
  rw [out_block q k v g dl hq hk _ _ _ hv]
  dsimp only
  rw [row_eq r]

omit hq hk in
theorem lse_move (h : Fin 4) : val_main_v113 (F := Ideal) q k (ix3 0 r h)
    = val_main_v107 (F := Ideal) q k (ix4 0 ⟨r.val / 64, by omega⟩ ⟨r.val % 64, by omega⟩ h) := by
  pointwise [val_main_v113, val_main_v112, val_main_v111]

theorem lse_row (h : Fin 4) : val_main_v113 (F := Ideal) q k (ix3 0 r h) = (((A q k v g dl h.val).lse r.val : ℝ) : EReal) := by
  refine (lse_move q k r h).trans ((lse_block q k v g dl hq hk _ _ _).trans ?_)
  dsimp only
  rw [row_eq r]

omit hq hk in
theorem lse_lane (h : Fin 4) (d : Fin 64) : val_main_v115 (F := Ideal) q k (ix4 0 r h d) = val_main_v113 (F := Ideal) q k (ix3 0 r h) := by
  rw [val_main_v115_apply, val_main_v114_apply]
  congr 1
  funext a
  match a with
  | ⟨0, _⟩ => exact Subsingleton.elim (α := Fin 1) _ _
  | ⟨1, _⟩ => rfl
  | ⟨2, _⟩ => rfl

theorem lse_at : val_main_v196 (F := Ideal) q k (ix2 r L)
    = (((A q k v g dl (L.val / 64)).lse r.val : ℝ) : EReal) := by
  pointwise [val_main_v196]
  exact (lse_lane q k r _ _).trans (lse_row q k v g dl hq hk r ⟨L.val / 64, by omega⟩)

theorem dq_last (hv : Real4 v) (hg : Real4 g) (hl : Real3 dl) : val_main_v197 (F := Ideal) q k v g dl (ix2 r L)
    = (((A q k v g dl (L.val / 64)).dq r.val (L.val % 64) : ℝ) : EReal) := by
  pointwise [val_main_v197, val_main_v194, val_main_v193, val_main_v192, val_main_v191]
  rw [dq_at q k v g dl hq hk _ _ _ hv hg hl]
  dsimp only
  rw [row_eq r]

theorem dk_last (hv : Real4 v) (hg : Real4 g) (hl : Real3 dl) : val_main_v198 (F := Ideal) q k v g dl (ix2 r L)
    = (((A q k v g dl (L.val / 64)).dk r.val (L.val % 64) : ℝ) : EReal) := by
  pointwise [val_main_v198, val_main_v190, val_main_v189, val_main_v188, val_main_v186, val_main_v184, val_main_v183, val_main_v182, val_main_v181, val_main_v180, val_main_v179, val_main_v178, val_main_v177, val_main_v176, val_main_cst_29, val_main_cst_30, val_main_cst_31]
  have key := three_blocks 128 ((64 + r.val) / 64) ((64 + r.val) % 64) (by omega)
    (fun i => (A q k v g dl (L.val / 64)).dscore i r.val * (1 / 8) * (A q k v g dl (L.val / 64)).q i (L.val % 64))
    (fun i hi => by
      have e : 64 * ((64 + r.val) / 64) + (64 + r.val) % 64 - 64 = r.val := by omega
      rw [e] at hi
      rw [(A q k v g dl (L.val / 64)).dscore_off hi, zero_mul, zero_mul]) (by omega) _ (fun _ => rfl)
  refine Eq.trans (congrArg₂ (· + ·) (congrArg₂ (· + ·) (window _ _ (by omega) fun _ => dk_part q k v g dl hq hk _ _ hv hg hl _ _ r.val r.isLt (by dsimp only; omega))
    (window _ _ (by omega) fun _ => dk_part q k v g dl hq hk _ _ hv hg hl _ _ r.val r.isLt (by dsimp only; omega)))
    (window _ _ (by omega) fun _ => dk_part q k v g dl hq hk _ _ hv hg hl _ _ r.val r.isLt (by dsimp only; omega))) (key.trans ?_)
  rw [Head.dk, Finset.sum_mul]
  refine congrArg _ (Finset.sum_congr rfl fun i _ => ?_)
  ring

theorem dv_last (hg : Real4 g) : val_main_v199 (F := Ideal) q k g (ix2 r L)
    = (((A q k v g dl (L.val / 64)).dv r.val (L.val % 64) : ℝ) : EReal) := by
  pointwise [val_main_v199, val_main_v175, val_main_v174, val_main_v173, val_main_v171, val_main_v169, val_main_v168, val_main_v167, val_main_v166, val_main_v165, val_main_v164, val_main_v163, val_main_v162, val_main_v161, val_main_cst_26, val_main_cst_27, val_main_cst_28]
  have key := three_blocks 128 ((64 + r.val) / 64) ((64 + r.val) % 64) (by omega)
    (fun i => (A q k v g dl (L.val / 64)).g i (L.val % 64) / (A q k v g dl (L.val / 64)).den i * (A q k v g dl (L.val / 64)).wt i r.val)
    (fun i hi => by
      have e : 64 * ((64 + r.val) / 64) + (64 + r.val) % 64 - 64 = r.val := by omega
      rw [e] at hi
      rw [(A q k v g dl (L.val / 64)).wt_off hi, mul_zero]) (by omega) _ (fun _ => rfl)
  refine Eq.trans (congrArg₂ (· + ·) (congrArg₂ (· + ·) (window _ _ (by omega) fun _ => dv_part q k v g dl hq hk _ _ hg _ _ r.val r.isLt (by dsimp only; omega))
    (window _ _ (by omega) fun _ => dv_part q k v g dl hq hk _ _ hg _ _ r.val r.isLt (by dsimp only; omega)))
    (window _ _ (by omega) fun _ => dv_part q k v g dl hq hk _ _ hg _ _ r.val r.isLt (by dsimp only; omega))) (key.trans ?_)
  rw [Head.dv]
  refine congrArg _ (Finset.sum_congr rfl fun i _ => ?_)
  ring

end Finals

end Stages

end Cert.AttnRef

end
-- ==== Proof.AttnClaims.lean ====
module

public import proofs.«01_k».proof.Defs
public import proofs.«01_k».proof.Proof.Gen.Pre_attn_finite
public import proofs.«01_k».proof.Proof.Gen.Attn1
public import proofs.«01_k».proof.Proof.Gen.Attn1RefIdeal.Run
public import proofs.«01_k».proof.Proof.AttnArrays
public import proofs.«01_k».proof.Proof.AttnRefLast
public import Idealize.ShloMosaic.Lib.Pointwise
public import Idealize.ShloMosaic.Lib.Quiescent
public import Idealize.ShloMosaic.Lib.Claim

/-! # The attention program's claims -/

@[expose] public section

set_option maxRecDepth 16384

noncomputable section

namespace Cert.AttnClaims

open Idealize.ShloMosaic Idealize.ShloMosaic.TcCoe Idealize.SL.Sem
open Cert.AttnArrays (Real4 Real3 Reals)

theorem and_one {a b : BitVec 1} (h : IntOp.andi a b = 1#1) : a = 1#1 ∧ b = 1#1 := by
  revert a b
  decide

theorem real_of {x : EReal} (h : BitVec.ofBool (decide (FloatOps.absf (F := Ideal) (φ := .f32) x < Ideal.ofBits .f32 0x7F800000#32)) = 1#1) :
    x = (x.toReal : EReal) := by
  have h1 : max x (-x) < Ideal.ofBits .f32 0x7F800000#32 := by
    by_contra hn
    rw [show decide (FloatOps.absf (F := Ideal) (φ := .f32) x < Ideal.ofBits .f32 0x7F800000#32) = false from decide_eq_false hn] at h
    exact absurd h (by decide)
  refine (EReal.coe_toReal ?_ ?_).symm
  · rintro rfl
    exact not_top_lt (lt_of_le_of_lt (le_max_left _ _) h1)
  · rintro rfl
    exact not_top_lt (lt_of_le_of_lt (le_max_right _ _) h1)

theorem finite_entries (q k v g : FVec Ideal Cert.Attn1Ideal.S1x8192x4x64 .f32) (dl : FVec Ideal Cert.Attn1Ideal.S1x8192x4 .f32)
    (h : Cert.Pre_attn_finite.fn (F := Ideal) q k v g dl = fun _ => 1#1) : Real4 q ∧ Real4 k ∧ Real4 v ∧ Real4 g ∧ Real3 dl := by
  have key : ∀ (z : Fin 1) (r : Fin 8192) (n : Fin 4) (d : Fin 64), q (ix4 z r n d) = ((q (ix4 z r n d)).toReal : EReal)
      ∧ k (ix4 z r n d) = ((k (ix4 z r n d)).toReal : EReal) ∧ v (ix4 z r n d) = ((v (ix4 z r n d)).toReal : EReal)
      ∧ g (ix4 z r n d) = ((g (ix4 z r n d)).toReal : EReal) ∧ dl (ix3 z r n) = ((dl (ix3 z r n)).toReal : EReal) := by
    intro z r n d
    obtain rfl : z = 0 := Subsingleton.elim _ _
    have e := congrFun h (ix4 0 r n d)
    unfold Cert.Pre_attn_finite.fn Cert.Pre_attn_finite.fn_part1 at e
    revert e
    pointwise
    intro e
    obtain ⟨e, el⟩ := and_one e
    obtain ⟨e, eg⟩ := and_one e
    obtain ⟨e, ev⟩ := and_one e
    obtain ⟨eq, ek⟩ := and_one e
    exact ⟨real_of eq, real_of ek, real_of ev, real_of eg, real_of el⟩
  refine ⟨fun i => ?_, fun i => ?_, fun i => ?_, fun i => ?_, fun i => ?_⟩
  · rw [eq_ix4 i]; exact (key _ _ _ _).1
  · rw [eq_ix4 i]; exact (key _ _ _ _).2.1
  · rw [eq_ix4 i]; exact (key _ _ _ _).2.2.1
  · rw [eq_ix4 i]; exact (key _ _ _ _).2.2.2.1
  · rw [eq_ix3 i]; exact (key _ _ _ 0).2.2.2.2

theorem reals (m : (ℓ : Loc Cert.Attn1Ideal.nD Cert.Attn1Ideal.τ Cert.Attn1Ideal.sig) → Buf (Elt Ideal) ℓ)
    (h : Cert.Pre_Attn1Ideal_attn_finite m) (c : Dev Cert.Attn1Ideal.nD) : Reals m c := by
  obtain ⟨hq, hk, hv, hg, hl⟩ := finite_entries _ _ _ _ _ (h c)
  exact ⟨hq, hk, hv, hg, hl⟩

/-- At bit patterns the name of a constant says nothing: the constant is its own pattern. -/
local instance ownPattern : Named Bits where
  named _ _ {φ} b := FloatOps.ofBits φ b

/-- The frame of the kernel's program at bit patterns: the two programs' texts differ in the name of one constant. -/
theorem frame_kernel : Cert.quiescent_Attn1 := by
  have e : Cert.quiescent_Attn1 = (∀ (m : (ℓ : Loc Cert.Attn1Ideal.nD Cert.Attn1Ideal.τ Cert.Attn1Ideal.sig) → Buf (Elt Bits) ℓ) (g : Dev Cert.Attn1Ideal.nD → PrngReg), True →
      θ_run (Cert.Attn1Ideal.defs (F := Bits)) (onTc (τ := Cert.Attn1Ideal.τ) (Cert.Attn1Ideal.main (F := Bits))) ⟨m, fun _ => 0, g⟩ (fun r => (∀ c : Dev Cert.Attn1Ideal.nD,
        r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0)
        ∧ r.2.mem ((c.tc : Thread Cert.Attn1Ideal.nD Cert.Attn1Ideal.τ).loc Cert.Attn1Ideal.main_arg1) = m ((c.tc : Thread Cert.Attn1Ideal.nD Cert.Attn1Ideal.τ).loc Cert.Attn1Ideal.main_arg1)
        ∧ r.2.mem ((c.tc : Thread Cert.Attn1Ideal.nD Cert.Attn1Ideal.τ).loc Cert.Attn1Ideal.main_arg2) = m ((c.tc : Thread Cert.Attn1Ideal.nD Cert.Attn1Ideal.τ).loc Cert.Attn1Ideal.main_arg2)
        ∧ r.2.mem ((c.tc : Thread Cert.Attn1Ideal.nD Cert.Attn1Ideal.τ).loc Cert.Attn1Ideal.main_arg3) = m ((c.tc : Thread Cert.Attn1Ideal.nD Cert.Attn1Ideal.τ).loc Cert.Attn1Ideal.main_arg3)
        ∧ r.2.mem ((c.tc : Thread Cert.Attn1Ideal.nD Cert.Attn1Ideal.τ).loc Cert.Attn1Ideal.main_arg4) = m ((c.tc : Thread Cert.Attn1Ideal.nD Cert.Attn1Ideal.τ).loc Cert.Attn1Ideal.main_arg4))
        ∧ r.2.sem = fun _ => 0)) := by
    sl_kernel_rfl
  exact e.mpr fun m ρ _ => Cert.AttnRun.frame (F := Bits) m ρ

theorem frame_ideal : Cert.quiescent_Attn1Ideal := fun m ρ _ => Cert.AttnRun.frame (F := Ideal) m ρ

theorem frame_ideal_pre : Cert.quiescent_Attn1Ideal_pre_attn_finite := fun m ρ _ => Cert.AttnRun.frame (F := Ideal) m ρ

theorem frame_ref : Cert.quiescent_Attn1RefIdeal := by
  intro m g _
  exact (θ_run _ _ _).mono (fun r h => ⟨fun c => (h c).2.2.2.2.2, sem_eq_zero_of_no_sems rfl _⟩) (Cert.Attn1RefIdeal.Value.run m g)

theorem frame_ref_pre : Cert.quiescent_Attn1RefIdeal_pre_attn_finite := fun m g _ => frame_ref m g trivial

theorem preserves : Cert.preserves_Attn1_Attn1Ideal := IdealRules.named_const.statement _ _ _ _ _ rfl

section Pair

open Cert.AttnRun

theorem algebraic : Cert.algebraic_Attn1Ideal_Attn1RefIdeal_pre_attn_finite := by
  intro m g m' g' hpre hagree
  have hr := fun c => reals m hpre c
  refine ⟨fun c => mem5 m g c (Proc.devRef .tc Cert.Attn1Ideal.main_v8_0), fun c => mem5 m g c (Proc.devRef .tc Cert.Attn1Ideal.main_v8_1),
    fun c => mem5 m g c (Proc.devRef .tc Cert.Attn1Ideal.main_v19), fun c => mem5 m g c (Proc.devRef .tc Cert.Attn1Ideal.main_v20),
    fun c => mem5 m g c (Proc.devRef .tc Cert.Attn1Ideal.main_v21), ?_, ?_⟩
  · refine (θ_run _ _ _).mono (fun r h c => ?_) (run_all m g)
    exact ⟨h.1 c _ (kept_mem Cert.Attn1Ideal.main_v8_0 (by decide)), h.1 c _ (kept_mem Cert.Attn1Ideal.main_v8_1 (by decide)),
      h.1 c _ (kept_mem Cert.Attn1Ideal.main_v19 (by decide)), h.1 c _ (kept_mem Cert.Attn1Ideal.main_v20 (by decide)),
      h.1 c _ (kept_mem Cert.Attn1Ideal.main_v21 (by decide)),
      (h.1 c _ (kept_mem Cert.Attn1Ideal.main_arg0 (by decide))).trans (mem5_main_arg0 m g c),
      (h.1 c _ (kept_mem Cert.Attn1Ideal.main_arg1 (by decide))).trans (mem5_main_arg1 m g c),
      (h.1 c _ (kept_mem Cert.Attn1Ideal.main_arg2 (by decide))).trans (mem5_main_arg2 m g c),
      (h.1 c _ (kept_mem Cert.Attn1Ideal.main_arg3 (by decide))).trans (mem5_main_arg3 m g c),
      (h.1 c _ (kept_mem Cert.Attn1Ideal.main_arg4 (by decide))).trans (mem5_main_arg4 m g c)⟩
  · refine (θ_run _ _ _).mono (fun r h c => ?_) (Cert.Attn1RefIdeal.Value.run m' g')
    have hc := h c
    have a0 : StableHlo.launchContents m' c (Proc.devRef .tc Cert.Attn1RefIdeal.main_arg0) = AttnArrays.aq m c := (hagree c).1
    have a1 : StableHlo.launchContents m' c (Proc.devRef .tc Cert.Attn1RefIdeal.main_arg1) = AttnArrays.ak m c := (hagree c).2.1
    have a2 : StableHlo.launchContents m' c (Proc.devRef .tc Cert.Attn1RefIdeal.main_arg2) = AttnArrays.av m c := (hagree c).2.2.1
    have a3 : StableHlo.launchContents m' c (Proc.devRef .tc Cert.Attn1RefIdeal.main_arg3) = AttnArrays.ag m c := (hagree c).2.2.2.1
    have a4 : StableHlo.launchContents m' c (Proc.devRef .tc Cert.Attn1RefIdeal.main_arg4) = AttnArrays.al m c := (hagree c).2.2.2.2
    refine ⟨hc.1.trans ?_, hc.2.1.trans ?_, hc.2.2.1.trans ?_, hc.2.2.2.1.trans ?_, hc.2.2.2.2.1.trans ?_, hc.2.2.2.2.2⟩
    · rw [Cert.Attn1RefIdeal.Read.val_main_v195_eq, a0, a1, a2]
      funext i
      rw [eq_ix2 i]
      refine (AttnRef.out_at _ _ _ (AttnArrays.ag m c) (AttnArrays.al m c) (hr c).q (hr c).k _ _ (hr c).v).trans ?_
      exact ((congrFun (AttnArrays.out_kept m g c) _).trans (AttnArrays.out_at m g c (hr c) _ _)).symm
    · rw [Cert.Attn1RefIdeal.Read.val_main_v196_eq, a0, a1]
      funext i
      rw [eq_ix2 i]
      refine (AttnRef.lse_at _ _ (AttnArrays.av m c) (AttnArrays.ag m c) (AttnArrays.al m c) (hr c).q (hr c).k _ _).trans ?_
      exact ((congrFun (AttnArrays.lse_final m g c) _).trans (AttnArrays.lse_at m g c (hr c) _ _)).symm
    · rw [Cert.Attn1RefIdeal.Read.val_main_v197_eq, a0, a1, a2, a3, a4]
      funext i
      rw [eq_ix2 i]
      exact (AttnRef.dq_last _ _ _ _ _ (hr c).q (hr c).k _ _ (hr c).v (hr c).g (hr c).l).trans (AttnArrays.dq_at m g c (hr c) _ _).symm
    · rw [Cert.Attn1RefIdeal.Read.val_main_v198_eq, a0, a1, a2, a3, a4]
      funext i
      rw [eq_ix2 i]
      exact (AttnRef.dk_last _ _ _ _ _ (hr c).q (hr c).k _ _ (hr c).v (hr c).g (hr c).l).trans (AttnArrays.dk_at m g c (hr c) _ _).symm
    · rw [Cert.Attn1RefIdeal.Read.val_main_v199_eq, a0, a1, a3]
      funext i
      rw [eq_ix2 i]
      exact (AttnRef.dv_last _ _ (AttnArrays.av m c) _ (AttnArrays.al m c) (hr c).q (hr c).k _ _ (hr c).g).trans (AttnArrays.dv_at m g c (hr c) _ _).symm

end Pair

end Cert.AttnClaims

end
-- ==== Proof.FfnBlocks.lean ====
module

public import proofs.«01_k».proof.Proof.Gen.FfnIdeal.Skeleton
public import proofs.«01_k».proof.Proof.RowNorm
public import Idealize.ShloMosaic.Lib.Pipeline.ValueKit
public import Idealize.ShloMosaic.Lib.Pointwise

/-! # The feed-forward layer on one row, and what the two calls compute of a block of rows

The functions below are the layer and its gradient on one row: `x` the row, `g` a norm's gain, `w` a weight matrix.
Each lemma reads one value of the two calls' bodies at an entry. -/

@[expose] public section

set_option maxRecDepth 16384

noncomputable section

open Idealize.ShloMosaic Idealize.ShloMosaic.TcCoe Idealize.SL.Sem

namespace Cert.Ffn1

/-- The number that multiplies what the layer adds. -/
abbrev scale : EReal := Ideal.ofBits .f32 0x3F000000#32

/-- The normed row times the gain. -/
def norm (x g : Fin 1024 → EReal) (k : Fin 1024) : EReal := x k * RowNorm.inv x * g k

/-- A row times a matrix that has one row for each result. -/
def up (h : Fin 1024 → EReal) (w : Fin 2752 → Fin 1024 → EReal) (n : Fin 2752) : EReal := ∑ k, h k * w n k

/-- A row times a matrix that has one row for each entry. -/
def down (h : Fin 2752 → EReal) (w : Fin 2752 → Fin 1024 → EReal) (j : Fin 1024) : EReal := ∑ n, h n * w n j

def sig (z : EReal) : EReal := Ideal.logistic z

/-- The gate's curve times the other branch. -/
def gated (a b : Fin 2752 → EReal) (n : Fin 2752) : EReal := a n * sig (a n) * b n

/-- What the layer hands on: the row and the scaled norm of what was added. -/
def out (x f g : Fin 1024 → EReal) (j : Fin 1024) : EReal := x j + scale * (f j * RowNorm.inv f * g j)

/-- What arrives at the second norm. -/
def arrive (d : Fin 1024 → EReal) (j : Fin 1024) : EReal := scale * d j

/-- The gradient in what the second norm takes. -/
def df (d f g : Fin 1024 → EReal) (j : Fin 1024) : EReal := RowNorm.grad f (fun k => arrive d k * g k) j

/-- The gradient in the gate's argument; `e` is the gradient in the gated product. -/
def da (e a b : Fin 2752 → EReal) (n : Fin 2752) : EReal :=
  e n * b n * (sig (a n) * (1 + a n * (1 - sig (a n))))

/-- The gradient in the other branch. -/
def db (e a : Fin 2752 → EReal) (n : Fin 2752) : EReal := e n * (a n * sig (a n))

/-- The gradient in the normed row. -/
def dh (p q : Fin 2752 → EReal) (wg wu : Fin 2752 → Fin 1024 → EReal) (j : Fin 1024) : EReal := down p wg j + down q wu j

/-- The gradient in the row; `e` is the gradient in the normed row. -/
def dx (d x e g : Fin 1024 → EReal) (j : Fin 1024) : EReal := d j + RowNorm.grad x (fun k => e k * g k) j

/-- What the row adds to the gradient in a gain. -/
def dgain (e x : Fin 1024 → EReal) (j : Fin 1024) : EReal := e j * (x j * RowNorm.inv x)

/-! ## The entries of a block -/

open Cert.FfnIdeal Cert.FfnIdeal.Gen

abbrev rowOf (x : FVec Ideal S256x1024 .f32) (r : Fin 256) : Fin 1024 → EReal := fun k => x (ix2 r k)
abbrev wideOf (x : FVec Ideal S256x2752 .bf16) (r : Fin 256) : Fin 2752 → EReal := fun k => x (ix2 r k)
abbrev gainOf (x : FVec Ideal S1x1024 .f32) : Fin 1024 → EReal := fun k => x (ix2 0 k)
abbrev matOf (x : FVec Ideal S2752x1024 .bf16) : Fin 2752 → Fin 1024 → EReal := fun n k => x (ix2 n k)

section Forward

variable (x : FVec Ideal S256x1024 .f32) (g g' : FVec Ideal S1x1024 .f32) (wg wu wd : FVec Ideal S2752x1024 .bf16) (r : Fin 256)

theorem h_at (k : Fin 1024) : k0_pay7 (F := Ideal) x g (ix2 r k) = norm (rowOf x r) (gainOf g) k := by
  pointwise [k0_pay7, k0_pay6]
  rfl

theorem a_at (n : Fin 2752) : k0_pay8 (F := Ideal) x g wg (ix2 r n) = up (norm (rowOf x r) (gainOf g)) (matOf wg) n := by
  pointwise [k0_pay8]
  simp only [h_at]
  rfl

theorem b_at (n : Fin 2752) : k0_pay9 (F := Ideal) x g wu (ix2 r n) = up (norm (rowOf x r) (gainOf g)) (matOf wu) n := by
  pointwise [k0_pay9]
  simp only [h_at]
  rfl

/-- What the layer adds, before the norm. -/
abbrev added : Fin 1024 → EReal :=
  down (gated (up (norm (rowOf x r) (gainOf g)) (matOf wg)) (up (norm (rowOf x r) (gainOf g)) (matOf wu))) (matOf wd)

theorem f_at (j : Fin 1024) : k0_pay10 (F := Ideal) x g wg wu wd (ix2 r j) = added x g wg wu wd r j := by
  pointwise [k0_pay10]
  simp only [a_at, b_at]
  rfl

theorem fn_at (j : Fin 1024) : k0_pay11 (F := Ideal) x g wg wu wd (ix2 r j)
    = added x g wg wu wd r j * RowNorm.inv (added x g wg wu wd r) := by
  pointwise [k0_pay11]
  simp only [f_at]
  rfl

theorem xo_at (j : Fin 1024) : k0_pay12 (F := Ideal) (k0_pay6 x) (k0_pay11 x g wg wu wd) g' (ix2 r j)
    = out (rowOf x r) (added x g wg wu wd r) (gainOf g') j := by
  pointwise [k0_pay12, k0_pay6]
  simp only [fn_at]
  rfl

/-! The second block of rows of a grid point takes the same values by other definitions. -/

theorem a_low (n : Fin 2752) : k0_pay4 (F := Ideal) (k0_pay17 x g wg) (ix2 r n) = up (norm (rowOf x r) (gainOf g)) (matOf wg) n := by
  rw [← a_at]
  rfl

theorem b_low (n : Fin 2752) : k0_pay5 (F := Ideal) (k0_pay16 x g) (k0_pay18 wu) (constant S256x2752 .f32 0x00000000#32) (ix2 r n)
    = up (norm (rowOf x r) (gainOf g)) (matOf wu) n := by
  rw [← b_at]
  rfl

theorem f_low (j : Fin 1024) : k0_pay2 (F := Ideal) (k0_pay16 x g) (k0_pay17 x g wg) (k0_pay18 wu) (constant S256x2752 .f32 0x00000000#32) wd (ix2 r j)
    = added x g wg wu wd r j := by
  rw [← f_at]
  rfl

theorem xo_low (j : Fin 1024) : k0_pay3 (F := Ideal) (k0_pay15 x) (k0_pay16 x g) (k0_pay17 x g wg) (k0_pay18 wu)
    (constant S256x2752 .f32 0x00000000#32) wd g' (ix2 r j) = out (rowOf x r) (added x g wg wu wd r) (gainOf g') j := by
  rw [← xo_at]
  rfl

end Forward

section Backward

variable (d x f : FVec Ideal S256x1024 .f32) (a b : FVec Ideal S256x2752 .bf16) (g g' : FVec Ideal S1x1024 .f32)
  (wg wu wd : FVec Ideal S2752x1024 .bf16) (r : Fin 256)

theorem inv_at : k1_pay6 (F := Ideal) f (ix2 r 0) = RowNorm.inv (rowOf f r) := by
  pointwise [k1_pay6, k1_pay5]
  rfl

theorem fn'_at (j : Fin 1024) : k1_pay8 (F := Ideal) f (ix2 r j) = f (ix2 r j) * RowNorm.inv (rowOf f r) := by
  pointwise [k1_pay8, k1_pay5]
  rw [inv_at]

theorem up_at (j : Fin 1024) : k1_pay7 (F := Ideal) d (ix2 r j) = arrive (rowOf d r) j := by
  pointwise [k1_pay7, k1_pay4]
  rfl

theorem dgpost_at (j : Fin 1024) : k1_pay9 (F := Ideal) d f (ix2 0 j) = ∑ r : Fin 256, dgain (arrive (rowOf d r)) (rowOf f r) j := by
  pointwise [k1_pay9]
  simp only [fn'_at, up_at]
  rfl

theorem df_at (j : Fin 1024) : k1_pay10 (F := Ideal) d f g' (ix2 r j) = df (rowOf d r) (rowOf f r) (gainOf g') j := by
  pointwise [k1_pay10]
  simp only [fn'_at, up_at, inv_at]
  rfl

/-- The gradient in the gated product. -/
abbrev dhid : Fin 2752 → EReal := up (df (rowOf d r) (rowOf f r) (gainOf g')) (matOf wd)

theorem dhid_at (n : Fin 2752) : k1_pay11 (F := Ideal) d f g' wd (ix2 r n) = dhid d f g' wd r n := by
  pointwise [k1_pay11]
  simp only [df_at]
  rfl

theorem hh_at (n : Fin 2752) : k1_pay25 (F := Ideal) (k1_pay13 b) (k1_pay15 (k1_pay12 a)) (ix2 r n) = gated (wideOf a r) (wideOf b r) n := by
  pointwise [k1_pay25, k1_pay13, k1_pay15, k1_pay14, k1_pay12]
  rfl

theorem da_at (n : Fin 2752) : k1_pay16 (F := Ideal) (k1_pay11 d f g' wd) (k1_pay12 a) b (ix2 r n)
    = da (dhid d f g' wd r) (wideOf a r) (wideOf b r) n := by
  pointwise [k1_pay16, k1_pay13, k1_pay14, k1_pay12]
  simp only [dhid_at]
  rfl

theorem db_at (n : Fin 2752) : k1_pay17 (F := Ideal) (k1_pay11 d f g' wd) (k1_pay12 a) (ix2 r n)
    = db (dhid d f g' wd r) (wideOf a r) n := by
  pointwise [k1_pay17, k1_pay15, k1_pay14, k1_pay12]
  simp only [dhid_at]
  rfl

/-- The gradient in the normed row. -/
abbrev dnorm : Fin 1024 → EReal :=
  dh (da (dhid d f g' wd r) (wideOf a r) (wideOf b r)) (db (dhid d f g' wd r) (wideOf a r)) (matOf wg) (matOf wu)

theorem dh_at (j : Fin 1024) : k1_pay18 (F := Ideal) (k1_pay11 d f g' wd) (k1_pay12 a) b wg wu (ix2 r j) = dnorm d f a b g' wg wu wd r j := by
  pointwise [k1_pay18]
  simp only [da_at, db_at]
  rfl

theorem inv'_at : k1_pay20 (F := Ideal) x (ix2 r 0) = RowNorm.inv (rowOf x r) := by
  pointwise [k1_pay20, k1_pay19]
  rfl

theorem xn_at (j : Fin 1024) : k1_pay21 (F := Ideal) x (ix2 r j) = x (ix2 r j) * RowNorm.inv (rowOf x r) := by
  pointwise [k1_pay21, k1_pay19]
  rw [inv'_at]

theorem dn_at (j : Fin 1024) : k1_pay22 (F := Ideal) (k1_pay11 d f g' wd) (k1_pay12 a) b wg wu g (ix2 r j)
    = dnorm d f a b g' wg wu wd r j * gainOf g j := by
  pointwise [k1_pay22]
  rw [dh_at]

theorem dx_at (j : Fin 1024) : k1_pay24 (F := Ideal) (k1_pay4 d) (k1_pay20 x) (k1_pay21 x)
    (k1_pay22 (k1_pay11 d f g' wd) (k1_pay12 a) b wg wu g) (k1_pay23 (k1_pay11 d f g' wd) (k1_pay12 a) b wg wu x g) (ix2 r j)
    = dx (rowOf d r) (rowOf x r) (dnorm d f a b g' wg wu wd r) (gainOf g) j := by
  pointwise [k1_pay24, k1_pay23, k1_pay4]
  simp only [dn_at, xn_at, inv'_at]
  rfl

theorem h'_at (j : Fin 1024) : k1_pay26 (F := Ideal) (k1_pay19 x) (k1_pay20 x) g (ix2 r j) = norm (rowOf x r) (gainOf g) j := by
  pointwise [k1_pay26, k1_pay19]
  simp only [inv'_at]
  rfl

theorem dgpre_at (j : Fin 1024) : k1_pay27 (F := Ideal) (k1_pay18 (k1_pay11 d f g' wd) (k1_pay12 a) b wg wu) (k1_pay21 x) (ix2 0 j)
    = ∑ r : Fin 256, dgain (dnorm d f a b g' wg wu wd r) (rowOf x r) j := by
  pointwise [k1_pay27]
  simp only [dh_at, xn_at]
  rfl

end Backward

end Cert.Ffn1
-- ==== Proof.FfnRef.lean ====
module

public import proofs.«01_k».proof.Proof.Gen.FfnRefIdeal.Read
public import proofs.«01_k».proof.Proof.FfnBlocks
public import proofs.«01_k».proof.Proof.UnitSum
public import Idealize.ShloMosaic.Lib.Pointwise
public import Idealize.ShloMosaic.Lib.Claim

/-! # The feed-forward layer's reference, value by value -/

@[expose] public section

set_option maxRecDepth 16384

noncomputable section

open Idealize.ShloMosaic Idealize.ShloMosaic.TcCoe Idealize.SL.Sem

namespace Cert.Ffn1

/-- The seven arrays that go into the layer and its gradient, row by row. -/
structure Input where
  x : Fin 8192 → Fin 1024 → EReal
  gpre : Fin 1024 → EReal
  wg : Fin 2752 → Fin 1024 → EReal
  wu : Fin 2752 → Fin 1024 → EReal
  wd : Fin 2752 → Fin 1024 → EReal
  gpost : Fin 1024 → EReal
  d : Fin 8192 → Fin 1024 → EReal

namespace Input

variable (A : Input) (s : Fin 8192)

def h : Fin 1024 → EReal := norm (A.x s) A.gpre
def a : Fin 2752 → EReal := up (A.h s) A.wg
def b : Fin 2752 → EReal := up (A.h s) A.wu
def hh : Fin 2752 → EReal := gated (A.a s) (A.b s)
def f : Fin 1024 → EReal := down (A.hh s) A.wd
def xo : Fin 1024 → EReal := out (A.x s) (A.f s) A.gpost
def df : Fin 1024 → EReal := Ffn1.df (A.d s) (A.f s) A.gpost
def e : Fin 2752 → EReal := up (A.df s) A.wd
def da : Fin 2752 → EReal := Ffn1.da (A.e s) (A.a s) (A.b s)
def db : Fin 2752 → EReal := Ffn1.db (A.e s) (A.a s)
def dh : Fin 1024 → EReal := Ffn1.dh (A.da s) (A.db s) A.wg A.wu
def dx : Fin 1024 → EReal := Ffn1.dx (A.d s) (A.x s) (A.dh s) A.gpre
def dgpre (j : Fin 1024) : EReal := ∑ s, dgain (A.dh s) (A.x s) j
def dgpost (j : Fin 1024) : EReal := ∑ s, dgain (arrive (A.d s)) (A.f s) j

end Input

/-- The arrays as the programs are given them. -/
def ofArrays (x : FVec Ideal Cert.FfnRefIdeal.S1x8192x1024 .f32) (gpre : FVec Ideal Cert.FfnRefIdeal.S1x1024 .f32)
    (wg wu : FVec Ideal Cert.FfnRefIdeal.S1x1024x2752 .f32) (wd : FVec Ideal Cert.FfnRefIdeal.S1x2752x1024 .f32)
    (gpost : FVec Ideal Cert.FfnRefIdeal.S1x1024 .f32) (d : FVec Ideal Cert.FfnRefIdeal.S1x8192x1024 .f32) : Input where
  x s k := x (ix3 0 s k)
  gpre k := gpre (ix2 0 k)
  wg n k := wg (ix3 0 k n)
  wu n k := wu (ix3 0 k n)
  wd n k := wd (ix3 0 n k)
  gpost k := gpost (ix2 0 k)
  d s k := d (ix3 0 s k)

open Cert.FfnRefIdeal.Read

variable (x0 : FVec Ideal Cert.FfnRefIdeal.S1x8192x1024 .f32) (x1 : FVec Ideal Cert.FfnRefIdeal.S1x1024 .f32)
    (x2 x3 : FVec Ideal Cert.FfnRefIdeal.S1x1024x2752 .f32) (x4 : FVec Ideal Cert.FfnRefIdeal.S1x2752x1024 .f32)
    (x5 : FVec Ideal Cert.FfnRefIdeal.S1x1024 .f32) (x6 : FVec Ideal Cert.FfnRefIdeal.S1x8192x1024 .f32)
    (s : Fin 8192)

local notation "𝔸" => ofArrays x0 x1 x2 x3 x4 x5 x6

theorem ref_meanSq : val_main_v9 (F := Ideal) x0 (ix3 0 s 0) = RowNorm.meanSq fun k => x0 (ix3 0 s k) := by
  pointwise [val_main_v9, val_main_v8, val_main_v7, val_main_v6, val_main_v5, val_main_v4, val_main_v3, val_main_cst_1, val_main_cst_2,
    val_main_cst_3]
  rfl

theorem ref_inv : val_main_v10 (F := Ideal) x0 (ix3 0 s 0) = RowNorm.inv fun k => x0 (ix3 0 s k) := by
  pointwise [val_main_v10]
  rw [ref_meanSq]
  rfl

theorem ref_xn (k : Fin 1024) : val_main_v15 (F := Ideal) x0 (ix3 0 s k) = x0 (ix3 0 s k) * RowNorm.inv fun k => x0 (ix3 0 s k) := by
  pointwise [val_main_v15, val_main_v14]
  rw [ref_inv]

theorem ref_h (k : Fin 1024) : val_main_v18 (F := Ideal) x0 x1 (ix3 0 s k) = (𝔸).h s k := by
  pointwise [val_main_v18, val_main_v17, val_main_v16, val_main_v2]
  rw [ref_xn]
  rfl

theorem ref_a (n : Fin 2752) : val_main_v21 (F := Ideal) x0 x1 x2 (ix3 0 s n) = (𝔸).a s n := by
  pointwise [val_main_v21, val_main_v20, val_main_v19, val_main_v0, val_main_cst]
  simp only [ref_h x0 x1 x2 x3 x4 x5 x6]
  try rw [add_zero]
  rfl

theorem ref_b (n : Fin 2752) : val_main_v24 (F := Ideal) x0 x1 x3 (ix3 0 s n) = (𝔸).b s n := by
  pointwise [val_main_v24, val_main_v23, val_main_v22, val_main_v0, val_main_cst]
  simp only [ref_h x0 x1 x2 x3 x4 x5 x6]
  try rw [add_zero]
  rfl

theorem ref_sig (n : Fin 2752) : val_main_v25_2 (F := Ideal) x0 x1 x2 (ix3 0 s n) = sig ((𝔸).a s n) := by
  pointwise [val_main_v25_2, val_main_call0_v4, val_main_call0_v3, val_main_call0_v2, val_main_call0_v1, val_main_call0_v0,
    val_main_call0_cst, val_main_call0_cst_0]
  rw [ref_a x0 x1 x2 x3 x4 x5 x6]
  rfl

theorem ref_act (n : Fin 2752) : val_main_v25_0 (F := Ideal) x0 x1 x2 (ix3 0 s n) = (𝔸).a s n * sig ((𝔸).a s n) := by
  pointwise [val_main_v25_0]
  rw [ref_a x0 x1 x2 x3 x4 x5 x6, ref_sig x0 x1 x2 x3 x4 x5 x6]

theorem ref_hh (n : Fin 2752) : val_main_v26 (F := Ideal) x0 x1 x2 x3 (ix3 0 s n) = (𝔸).hh s n := by
  pointwise [val_main_v26]
  rw [ref_act x0 x1 x2 x3 x4 x5 x6, ref_b x0 x1 x2 x3 x4 x5 x6]
  rfl

theorem ref_f (j : Fin 1024) : val_main_v29 (F := Ideal) x0 x1 x2 x3 x4 (ix3 0 s j) = (𝔸).f s j := by
  pointwise [val_main_v29, val_main_v28, val_main_v27, val_main_v1, val_main_cst_0]
  simp only [ref_hh x0 x1 x2 x3 x4 x5 x6]
  try rw [add_zero]
  rfl

theorem ref_fsq : val_main_v37 (F := Ideal) x0 x1 x2 x3 x4 (ix3 0 s 0) = RowNorm.meanSq ((𝔸).f s) := by
  pointwise [val_main_v37, val_main_v36, val_main_v35, val_main_v34, val_main_v33, val_main_v32, val_main_v31, val_main_cst_5, val_main_cst_6,
    val_main_cst_7]
  simp only [ref_f x0 x1 x2 x3 x4 x5 x6]
  rfl

theorem ref_finv : val_main_v38 (F := Ideal) x0 x1 x2 x3 x4 (ix3 0 s 0) = RowNorm.inv ((𝔸).f s) := by
  pointwise [val_main_v38]
  rw [ref_fsq x0 x1 x2 x3 x4 x5 x6]
  rfl

theorem ref_fn (j : Fin 1024) : val_main_v43 (F := Ideal) x0 x1 x2 x3 x4 (ix3 0 s j) = (𝔸).f s j * RowNorm.inv ((𝔸).f s) := by
  pointwise [val_main_v43, val_main_v42]
  rw [ref_finv x0 x1 x2 x3 x4 x5 x6, ref_f x0 x1 x2 x3 x4 x5 x6]

theorem ref_xo (j : Fin 1024) : val_main_v49 (F := Ideal) x0 x1 x2 x3 x4 x5 (ix3 0 s j) = (𝔸).xo s j := by
  pointwise [val_main_v49, val_main_v48, val_main_v47, val_main_v46, val_main_v45, val_main_v44, val_main_v30, val_main_cst_9]
  rw [ref_fn x0 x1 x2 x3 x4 x5 x6]
  rfl

theorem ref_arrive (j : Fin 1024) : val_main_v52 (F := Ideal) x6 (ix3 0 s j) = arrive ((𝔸).d s) j := by
  pointwise [val_main_v52, val_main_v51, val_main_v50, val_main_cst_10]
  rfl

theorem ref_dgpost (j : Fin 1024) : val_main_v74 (F := Ideal) x0 x1 x2 x3 x4 x6 (ix2 0 j) = (𝔸).dgpost j := by
  pointwise [val_main_v74, val_main_v58, val_main_v55, val_main_v54, val_main_v53, val_main_cst_11, val_main_cst_12]
  refine Finset.sum_congr rfl fun s _ => ?_
  rw [ref_fn x0 x1 x2 x3 x4 x5 x6, ref_arrive x0 x1 x2 x3 x4 x5 x6, mul_comm]
  rfl

theorem ref_darr (j : Fin 1024) : val_main_v57 (F := Ideal) x5 x6 (ix3 0 s j) = arrive ((𝔸).d s) j * (𝔸).gpost j := by
  pointwise [val_main_v57, val_main_v56, val_main_v44, val_main_v30]
  rw [ref_arrive x0 x1 x2 x3 x4 x5 x6]
  rfl

theorem ref_df (j : Fin 1024) : val_main_v73 (F := Ideal) x0 x1 x2 x3 x4 x5 x6 (ix3 0 s j) = (𝔸).df s j := by
  pointwise [val_main_v73, val_main_v72, val_main_v71, val_main_v70, val_main_v69, val_main_v68, val_main_v67, val_main_v66,
    val_main_v65, val_main_v64, val_main_v63, val_main_v62, val_main_v61, val_main_v60, val_main_v59, val_main_v41, val_main_v40, val_main_v39,
    val_main_cst_8, val_main_cst_13, val_main_cst_14, val_main_cst_15]
  simp only [ref_fsq x0 x1 x2 x3 x4 x5 x6, ref_finv x0 x1 x2 x3 x4 x5 x6, ref_f x0 x1 x2 x3 x4 x5 x6, ref_darr x0 x1 x2 x3 x4 x5 x6]
  unfold Input.df Ffn1.df
  rw [← RowNorm.grad_eq, add_assoc]
  rfl

theorem ref_e (n : Fin 2752) : val_main_v75 (F := Ideal) x0 x1 x2 x3 x4 x5 x6 (ix3 0 s n) = (𝔸).e s n := by
  pointwise [val_main_v75, val_main_v27]
  simp only [ref_df x0 x1 x2 x3 x4 x5 x6]
  rfl

theorem ref_db (n : Fin 2752) : val_main_v76 (F := Ideal) x0 x1 x2 x3 x4 x5 x6 (ix3 0 s n) = (𝔸).db s n := by
  pointwise [val_main_v76]
  rw [ref_act x0 x1 x2 x3 x4 x5 x6, ref_e x0 x1 x2 x3 x4 x5 x6, mul_comm]
  rfl

/-! ## Where every entry of the arrays is a real number -/

/-- A real number among the extended ones. -/
def IsReal (z : EReal) : Prop := ∃ r : ℝ, z = (r : EReal)

theorem IsReal.add {y z : EReal} (hy : IsReal y) (hz : IsReal z) : IsReal (y + z) := by
  obtain ⟨p, rfl⟩ := hy
  obtain ⟨q, rfl⟩ := hz
  exact ⟨p + q, (EReal.coe_add p q).symm⟩

theorem IsReal.mul {y z : EReal} (hy : IsReal y) (hz : IsReal z) : IsReal (y * z) := by
  obtain ⟨p, rfl⟩ := hy
  obtain ⟨q, rfl⟩ := hz
  exact ⟨p * q, (EReal.coe_mul p q).symm⟩

theorem IsReal.sub {y z : EReal} (hy : IsReal y) (hz : IsReal z) : IsReal (y - z) := by
  obtain ⟨p, rfl⟩ := hy
  obtain ⟨q, rfl⟩ := hz
  exact ⟨p - q, (EReal.coe_sub p q).symm⟩

theorem IsReal.sum {n : ℕ} {z : Fin n → EReal} (h : ∀ k, IsReal (z k)) : IsReal (∑ k, z k) :=
  Finset.sum_induction z IsReal (fun _ _ => IsReal.add) ⟨0, rfl⟩ fun k _ => h k

theorem isReal_scale : IsReal scale := by
  refine ⟨1 / 2, ?_⟩
  unfold scale
  simp [Ideal.ofBits, Ideal.ieee]
  rw [← EReal.coe_mul]
  norm_num

theorem isReal_sig {z : EReal} (h : IsReal z) : ∃ q : ℝ, sig z = (q : EReal) := by
  obtain ⟨r, rfl⟩ := h
  have hp : (0 : ℝ) < 1 + Real.exp (-r) := by positivity
  refine ⟨1 * (1 + Real.exp (-r))⁻¹, ?_⟩
  rw [EReal.coe_mul, EReal.coe_one, ← RowNorm.div_real _ hp.ne', EReal.coe_add, EReal.coe_one]
  rfl

theorem isReal_inv (x : Fin 1024 → EReal) : IsReal (RowNorm.inv x) := by
  obtain ⟨e, he, hb⟩ := RowNorm.eps
  have hv : RowNorm.meanSq x = RowNorm.den 1024 e x := by
    unfold RowNorm.meanSq RowNorm.den
    rw [RowNorm.width, hb]
  unfold RowNorm.inv
  rw [hv]
  rcases RowNorm.den_cases (n := 1024) (by norm_num) he x with ht | ⟨a, w, hw, -, hwv⟩
  · rw [ht]
    exact ⟨0, rfl⟩
  · rw [hwv, RowNorm.rsqrt_pos hw]
    exact ⟨_, rfl⟩

theorem isReal_grad {x d : Fin 1024 → EReal} (hx : ∀ k, IsReal (x k)) (hd : ∀ k, IsReal (d k)) (j : Fin 1024) : IsReal (RowNorm.grad x d j) := by
  unfold RowNorm.grad
  rw [RowNorm.width, RowNorm.div_real _ (by norm_num)]
  have hi := isReal_inv x
  exact hi.mul ((hd j).sub (((hx j).mul hi).mul ((IsReal.sum fun k => (hd k).mul ((hx k).mul hi)).mul ⟨_, rfl⟩)))

/-- The gate's gradient: the form that differentiating gives and the kernel's agree at real numbers. -/
theorem gate_grad {z w : EReal} (hz : IsReal z) (hw : IsReal w) :
    w * sig z + z * w * (sig z * (1 - sig z)) = w * (sig z * (1 + z * (1 - sig z))) := by
  obtain ⟨q, hq⟩ := isReal_sig hz
  obtain ⟨p, rfl⟩ := hz
  obtain ⟨r, rfl⟩ := hw
  rw [hq, ← EReal.coe_one]
  simp only [← EReal.coe_mul, ← EReal.coe_sub, ← EReal.coe_add]
  congr 1
  ring

namespace Input

/-- Every entry of the arrays is a real number. -/
structure Reals (A : Input) : Prop where
  x s k : IsReal (A.x s k)
  gpre k : IsReal (A.gpre k)
  wg n k : IsReal (A.wg n k)
  wu n k : IsReal (A.wu n k)
  wd n k : IsReal (A.wd n k)
  gpost k : IsReal (A.gpost k)
  d s k : IsReal (A.d s k)

variable {B : Input} (hB : B.Reals)
include hB

theorem Reals.h (s : Fin 8192) (k : Fin 1024) : IsReal (B.h s k) := ((hB.x s k).mul (isReal_inv _)).mul (hB.gpre k)
theorem Reals.a (s : Fin 8192) (n : Fin 2752) : IsReal (B.a s n) := IsReal.sum fun k => (hB.h s k).mul (hB.wg n k)
theorem Reals.b (s : Fin 8192) (n : Fin 2752) : IsReal (B.b s n) := IsReal.sum fun k => (hB.h s k).mul (hB.wu n k)
theorem Reals.f (s : Fin 8192) (j : Fin 1024) : IsReal (B.f s j) :=
  IsReal.sum fun n => (((hB.a s n).mul (isReal_sig (hB.a s n))).mul (hB.b s n)).mul (hB.wd n j)
theorem Reals.df (s : Fin 8192) (j : Fin 1024) : IsReal (B.df s j) :=
  isReal_grad (hB.f s) (fun k => (isReal_scale.mul (hB.d s k)).mul (hB.gpost k)) j
theorem Reals.e (s : Fin 8192) (n : Fin 2752) : IsReal (B.e s n) := IsReal.sum fun k => (hB.df s k).mul (hB.wd n k)

end Input

/-! ## The values that need it -/

variable (hA : (ofArrays x0 x1 x2 x3 x4 x5 x6).Reals)
include hA

theorem ref_da (n : Fin 2752) : val_main_v78 (F := Ideal) x0 x1 x2 x3 x4 x5 x6 (ix3 0 s n) = (𝔸).da s n := by
  pointwise [val_main_v78, val_main_call1_v2, val_main_call1_v1, val_main_call1_v0, val_main_v77, val_main_v25_1, val_main_call0_v7, val_main_call0_v6,
    val_main_call0_cst_1]
  simp only [ref_sig x0 x1 x2 x3 x4 x5 x6, ref_a x0 x1 x2 x3 x4 x5 x6, ref_b x0 x1 x2 x3 x4 x5 x6, ref_e x0 x1 x2 x3 x4 x5 x6]
  have ha := hA.a s n
  have hw := (hA.e s n).mul (hA.b s n)
  unfold Input.da Ffn1.da
  exact gate_grad ha hw

theorem ref_dh (j : Fin 1024) : val_main_v81 (F := Ideal) x0 x1 x2 x3 x4 x5 x6 (ix3 0 s j) = (𝔸).dh s j := by
  pointwise [val_main_v81, val_main_v80, val_main_v79, val_main_v22, val_main_v19]
  simp only [ref_da x0 x1 x2 x3 x4 x5 x6 _ hA, ref_db x0 x1 x2 x3 x4 x5 x6]
  exact add_comm _ _

theorem ref_dgpre (j : Fin 1024) : val_main_v104 (F := Ideal) x0 x1 x2 x3 x4 x5 x6 (ix2 0 j) = (𝔸).dgpre j := by
  pointwise [val_main_v104, val_main_v87, val_main_v84, val_main_v83, val_main_v82, val_main_cst_16, val_main_cst_17]
  refine Finset.sum_congr rfl fun s _ => ?_
  rw [ref_xn, ref_dh x0 x1 x2 x3 x4 x5 x6 _ hA, mul_comm]
  rfl

theorem ref_dnorm (j : Fin 1024) : val_main_v86 (F := Ideal) x0 x1 x2 x3 x4 x5 x6 (ix3 0 s j) = (𝔸).dh s j * (𝔸).gpre j := by
  pointwise [val_main_v86, val_main_v85, val_main_v16, val_main_v2]
  rw [ref_dh x0 x1 x2 x3 x4 x5 x6 _ hA]
  rfl

theorem ref_dx (j : Fin 1024) : val_main_v103 (F := Ideal) x0 x1 x2 x3 x4 x5 x6 (ix3 0 s j) = (𝔸).dx s j := by
  pointwise [val_main_v103, val_main_v102, val_main_v101, val_main_v100, val_main_v99, val_main_v98, val_main_v97, val_main_v96,
    val_main_v95, val_main_v94, val_main_v93, val_main_v92, val_main_v91, val_main_v90, val_main_v89, val_main_v88, val_main_v13, val_main_v12,
    val_main_v11, val_main_cst_4, val_main_cst_18, val_main_cst_19, val_main_cst_20]
  simp only [ref_meanSq, ref_inv, ref_dnorm x0 x1 x2 x3 x4 x5 x6 _ hA]
  unfold Input.dx Ffn1.dx
  rw [← RowNorm.grad_eq, add_assoc, add_assoc]
  rfl

end Cert.Ffn1
-- ==== Proof.FfnFwd.lean ====
module

public import proofs.«01_k».proof.Proof.Gen.FfnIdeal.Frame.Fold0
public import proofs.«01_k».proof.Proof.FfnRef
public import Idealize.ShloMosaic.Lib.Pipeline.ValueKit
public import Idealize.ShloMosaic.Lib.Claim

/-! # The feed-forward program: what the first call reads and leaves -/

@[expose] public section

set_option maxRecDepth 16384

noncomputable section

open Idealize.ShloMosaic Idealize.ShloMosaic.TcCoe Idealize.SL.Sem
open Idealize.ShloMosaic.Pipeline (Dat)

namespace Cert.FfnArrays

open Cert.FfnIdeal Cert.FfnIdeal.Gen Cert.Ffn1

variable (m : (ℓ : Loc nD τ sig) → Buf (Elt Ideal) ℓ) (ρ : Dev nD → PrngReg) (c : Dev nD)

/-- The program's arguments. -/
abbrev inp : Input := ofArrays (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

theorem x_host (s : Fin 8192) (k : Fin 1024) : W1 m ρ c (Proc.devRef .tc main_v8) (ix2 s k) = (inp m c).x s k := by
  unfold W1
  entry_read
  pointwise
  rfl

theorem wg_host (n : Fin 2752) (k : Fin 1024) : W1 m ρ c (Proc.devRef .tc main_v2) (ix2 n k) = (inp m c).wg n k := by
  unfold W1
  entry_read
  pointwise
  rfl

theorem wu_host (n : Fin 2752) (k : Fin 1024) : W1 m ρ c (Proc.devRef .tc main_v5) (ix2 n k) = (inp m c).wu n k := by
  unfold W1
  entry_read
  pointwise
  rfl

theorem wd_host (n : Fin 2752) (k : Fin 1024) : W1 m ρ c (Proc.devRef .tc main_v7) (ix2 n k) = (inp m c).wd n k := by
  unfold W1
  entry_read
  pointwise
  rfl

theorem gpre_host (k : Fin 1024) : W1 m ρ c (Proc.devRef .tc main_arg1) (ix2 0 k) = (inp m c).gpre k :=
  congrFun (W1_args m ρ c main_arg1 (by decide)) _

theorem gpost_host (k : Fin 1024) : W1 m ρ c (Proc.devRef .tc main_arg5) (ix2 0 k) = (inp m c).gpost k :=
  congrFun (W1_args m ρ c main_arg5 (by decide)) _

/-! ## The first call -/

theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] := (by decide +kernel : ∀ t : Fin grid0.N, _)

/-- The row of the arrays that row `r` of the blocks of grid point `t` is. -/
def row0 (t : Fin cfg0.N) (r : Fin 512) : Fin 8192 := ⟨t.val * 512 + r.val, by have := lt_of_lt_of_eq t.isLt N_0; omega⟩

theorem x_read (t : Fin cfg0.N) (r : Fin 512) (k : Fin 1024) : iblk0 (V1 m ρ) c 0 t (ix2 r k) = (inp m c).x (row0 t r) k := by
  rw [← x_host m ρ c]
  blk_simp [iblk0]
  blk_point [row0, idx0 t]

theorem gpre_read (t : Fin cfg0.N) (k : Fin 1024) : iblk0 (V1 m ρ) c 1 t (ix2 0 k) = (inp m c).gpre k := by
  rw [← gpre_host m ρ c]
  blk_simp [iblk0]
  blk_point [idx0 t]

theorem wg_read (t : Fin cfg0.N) (n : Fin 2752) (k : Fin 1024) : iblk0 (V1 m ρ) c 2 t (ix2 n k) = (inp m c).wg n k := by
  rw [← wg_host m ρ c]
  blk_simp [iblk0]
  blk_point [idx0 t]

theorem wu_read (t : Fin cfg0.N) (n : Fin 2752) (k : Fin 1024) : iblk0 (V1 m ρ) c 3 t (ix2 n k) = (inp m c).wu n k := by
  rw [← wu_host m ρ c]
  blk_simp [iblk0]
  blk_point [idx0 t]

theorem wd_read (t : Fin cfg0.N) (n : Fin 2752) (k : Fin 1024) : iblk0 (V1 m ρ) c 4 t (ix2 n k) = (inp m c).wd n k := by
  rw [← wd_host m ρ c]
  blk_simp [iblk0]
  blk_point [idx0 t]

theorem gpost_read (t : Fin cfg0.N) (k : Fin 1024) : iblk0 (V1 m ρ) c 5 t (ix2 0 k) = (inp m c).gpost k := by
  rw [← gpost_host m ρ c]
  blk_simp [iblk0]
  blk_point [idx0 t]

/-! The two halves of a block of rows. -/

theorem half_x (x : Vec Ideal S512x1024 .f32) (r : Fin 256) (k : Fin 1024) :
    View.ld (Val := Elt Ideal) (e' := .f32) x r0_0 (ix2 r k) = x (ix2 ⟨r.val, by omega⟩ k) := by
  refine congrArg x ?_
  funext a
  fin_cases a <;> apply Fin.ext
  · show 0 + 1 * r.val = r.val
    omega
  · show 0 + 1 * k.val = k.val
    omega

theorem half_x' (x : Vec Ideal S512x1024 .f32) (r : Fin 256) (k : Fin 1024) :
    View.ld (Val := Elt Ideal) (e' := .f32) x r0_4 (ix2 r k) = x (ix2 ⟨256 + r.val, by omega⟩ k) := by
  refine congrArg x ?_
  funext a
  fin_cases a <;> apply Fin.ext
  · show 256 + 1 * r.val = 256 + r.val
    omega
  · show 0 + 1 * k.val = k.val
    omega

theorem whole_g (x : Vec Ideal S1x1024 .f32) : View.ld (Val := Elt Ideal) (e' := .f32) x r0_1 = x := View.ld_unit_zero (by funext a; fin_cases a <;> rfl) _ x
theorem whole_w (x : Vec Ideal S2752x1024 .bf16) : View.ld (Val := Elt Ideal) (e' := .bf16) x r0_2 = x := View.ld_unit_zero (by funext a; fin_cases a <;> rfl) _ x

variable (t : Fin cfg0.N) (r : Fin 512)

theorem gpre_row : gainOf (iblk0 (V1 m ρ) c 1 t) = (inp m c).gpre := funext fun k => gpre_read m ρ c t k
theorem gpost_row : gainOf (iblk0 (V1 m ρ) c 5 t) = (inp m c).gpost := funext fun k => gpost_read m ρ c t k
theorem wg_mat : matOf (iblk0 (V1 m ρ) c 2 t) = (inp m c).wg := funext fun n => funext fun k => wg_read m ρ c t n k
theorem wu_mat : matOf (iblk0 (V1 m ρ) c 3 t) = (inp m c).wu := funext fun n => funext fun k => wu_read m ρ c t n k
theorem wd_mat : matOf (iblk0 (V1 m ρ) c 4 t) = (inp m c).wd := funext fun n => funext fun k => wd_read m ρ c t n k

theorem x_row (q : Fin 256) (h : q.val = r.val) : rowOf (View.ld (iblk0 (V1 m ρ) c 0 t) r0_0) q = (inp m c).x (row0 t r) := by
  funext k
  refine (half_x _ q k).trans ?_
  rw [x_read]
  exact congrArg (fun r => (inp m c).x (row0 t r) k) (Fin.ext h)

theorem x_row' (q : Fin 256) (h : 256 + q.val = r.val) : rowOf (View.ld (iblk0 (V1 m ρ) c 0 t) r0_4) q = (inp m c).x (row0 t r) := by
  funext k
  refine (half_x' _ q k).trans ?_
  rw [x_read]
  exact congrArg (fun r => (inp m c).x (row0 t r) k) (Fin.ext h)

/-- The blocks that a grid point reads. -/
abbrev out0 {S : Shape} {φ : EltTy} (o : Vec Ideal S512x1024 .f32 → Vec Ideal S1x1024 .f32 → Vec Ideal S2752x1024 .bf16 → Vec Ideal S2752x1024 .bf16 →
    Vec Ideal S2752x1024 .bf16 → Vec Ideal S1x1024 .f32 → Vec Ideal S φ) : Vec Ideal S φ :=
  o (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t)

/-- A row of the block of a call's rows, in the upper half or in the lower one. -/
theorem local_row {n : ℕ} {y : (⟨2, ![256, n]⟩ : Shape).Idx} {o : ℕ} (j : Fin n) (h0 : (ix2 r j 0 : ℕ) = o + (y 0 : ℕ)) (h1 : (ix2 r j 1 : ℕ) = (y 1 : ℕ)) :
    ∃ q : Fin 256, o + q.val = r.val ∧ y = ix2 q j := by
  refine ⟨y 0, h0.symm, ?_⟩
  rw [eq_ix2 y]
  exact congrArg (ix2 (y 0)) (Fin.ext h1.symm)

theorem a_block (n : Fin 2752) : out0 (S := S512x2752) m ρ c t out0_7 (ix2 r n) = (inp m c).a (row0 t r) n := by
  unfold_out out0_7
  canon_tiles x h using Gen.cover0_7 ..
  · obtain ⟨q, hq, rfl⟩ := local_row r n h0 h1
    rw [a_low, whole_g, whole_w, gpre_row, wg_mat, x_row' m ρ c t r q hq]
    rfl
  · obtain ⟨q, hq, rfl⟩ := local_row (o := 0) r n (by omega) h1
    refine (a_at _ _ _ q n).trans ?_
    rw [whole_g, whole_w, gpre_row, wg_mat, x_row m ρ c t r q (by omega)]
    rfl

theorem b_block (n : Fin 2752) : out0 (S := S512x2752) m ρ c t out0_8 (ix2 r n) = (inp m c).b (row0 t r) n := by
  unfold_out out0_8
  canon_tiles x h using Gen.cover0_8 ..
  · obtain ⟨q, hq, rfl⟩ := local_row r n h0 h1
    rw [b_low, whole_g, whole_w, gpre_row, wu_mat, x_row' m ρ c t r q hq]
    rfl
  · obtain ⟨q, hq, rfl⟩ := local_row (o := 0) r n (by omega) h1
    refine (b_at _ _ _ q n).trans ?_
    rw [whole_g, whole_w, gpre_row, wu_mat, x_row m ρ c t r q (by omega)]
    rfl

theorem f_block (j : Fin 1024) : out0 (S := S512x1024) m ρ c t out0_9 (ix2 r j) = (inp m c).f (row0 t r) j := by
  unfold_out out0_9
  canon_tiles x h using Gen.cover0_9 ..
  · obtain ⟨q, hq, rfl⟩ := local_row r j h0 h1
    rw [f_low, whole_g, whole_w, whole_w, whole_w]
    unfold added
    rw [gpre_row, wg_mat, wu_mat, wd_mat, x_row' m ρ c t r q hq]
    rfl
  · obtain ⟨q, hq, rfl⟩ := local_row (o := 0) r j (by omega) h1
    rw [f_at, whole_g, whole_w, whole_w, whole_w]
    unfold added
    rw [gpre_row, wg_mat, wu_mat, wd_mat, x_row m ρ c t r q (by omega)]
    rfl

theorem xo_block (j : Fin 1024) : out0 (S := S512x1024) m ρ c t out0_6 (ix2 r j) = (inp m c).xo (row0 t r) j := by
  unfold_out out0_6
  canon_tiles x h using Gen.cover0_6 ..
  · obtain ⟨q, hq, rfl⟩ := local_row r j h0 h1
    rw [xo_low, whole_g, whole_g, whole_w, whole_w, whole_w]
    unfold added
    rw [gpre_row, gpost_row, wg_mat, wu_mat, wd_mat, x_row' m ρ c t r q hq]
    rfl
  · obtain ⟨q, hq, rfl⟩ := local_row (o := 0) r j (by omega) h1
    rw [xo_at, whole_g, whole_g, whole_w, whole_w, whole_w]
    unfold added
    rw [gpre_row, gpost_row, wg_mat, wu_mat, wd_mat, x_row m ρ c t r q (by omega)]
    rfl

theorem xo_array : (dat0 (V1 m ρ) c).arrAt 6 cfg0.N = fun i : S8192x1024.Idx => (inp m c).xo (i 0) (i 1) := by
  refine (dat0 (V1 m ρ) c).arrAt_eq_of_covers 6 _ (by decide +kernel) fun t hf y => ?_
  blk_simp
  rw [after0_6]
  obtain ⟨r, j, rfl⟩ : ∃ (r : Fin 512) (j : Fin 1024), y = ix2 r j := ⟨y 0, y 1, eq_ix2 y⟩
  refine (xo_block m ρ c t r j).trans (congrArg₂ (inp m c).xo ?_ ?_) <;> apply Fin.ext <;> blk_simp [idx0 t, row0]

theorem a_array : (dat0 (V1 m ρ) c).arrAt 7 cfg0.N = fun i : S8192x2752.Idx => (inp m c).a (i 0) (i 1) := by
  refine (dat0 (V1 m ρ) c).arrAt_eq_of_covers 7 _ (by decide +kernel) fun t hf y => ?_
  blk_simp
  rw [after0_7]
  obtain ⟨r, j, rfl⟩ : ∃ (r : Fin 512) (j : Fin 2752), y = ix2 r j := ⟨y 0, y 1, eq_ix2 y⟩
  refine (a_block m ρ c t r j).trans (congrArg₂ (inp m c).a ?_ ?_) <;> apply Fin.ext <;> blk_simp [idx0 t, row0]

theorem b_array : (dat0 (V1 m ρ) c).arrAt 8 cfg0.N = fun i : S8192x2752.Idx => (inp m c).b (i 0) (i 1) := by
  refine (dat0 (V1 m ρ) c).arrAt_eq_of_covers 8 _ (by decide +kernel) fun t hf y => ?_
  blk_simp
  rw [after0_8]
  obtain ⟨r, j, rfl⟩ : ∃ (r : Fin 512) (j : Fin 2752), y = ix2 r j := ⟨y 0, y 1, eq_ix2 y⟩
  refine (b_block m ρ c t r j).trans (congrArg₂ (inp m c).b ?_ ?_) <;> apply Fin.ext <;> blk_simp [idx0 t, row0]

theorem f_array : (dat0 (V1 m ρ) c).arrAt 9 cfg0.N = fun i : S8192x1024.Idx => (inp m c).f (i 0) (i 1) := by
  refine (dat0 (V1 m ρ) c).arrAt_eq_of_covers 9 _ (by decide +kernel) fun t hf y => ?_
  blk_simp
  rw [after0_9]
  obtain ⟨r, j, rfl⟩ : ∃ (r : Fin 512) (j : Fin 1024), y = ix2 r j := ⟨y 0, y 1, eq_ix2 y⟩
  refine (f_block m ρ c t r j).trans (congrArg₂ (inp m c).f ?_ ?_) <;> apply Fin.ext <;> blk_simp [idx0 t, row0]

end Cert.FfnArrays
-- ==== Proof.FfnBwd.lean ====
module

public import proofs.«01_k».proof.Proof.FfnFwd

/-! # The feed-forward program: what the second call reads and leaves -/

@[expose] public section

set_option maxRecDepth 16384

noncomputable section

open Idealize.ShloMosaic Idealize.ShloMosaic.TcCoe Idealize.SL.Sem
open Idealize.ShloMosaic.Pipeline (Dat)

namespace Cert.FfnArrays

open Cert.FfnIdeal Cert.FfnIdeal.Gen Cert.Ffn1

variable (m : (ℓ : Loc nD τ sig) → Buf (Elt Ideal) ℓ) (ρ : Dev nD → PrngReg) (c : Dev nD)

/-! ## The arrays that it is given -/

theorem d_mid (s : Fin 8192) (k : Fin 1024) : W3 m ρ c (Proc.devRef .tc main_v10) (ix2 s k) = (inp m c).d s k := by
  unfold W3
  entry_read
  rw [W2_args m ρ c main_arg6 (by decide)]
  pointwise
  rfl

theorem x_mid (s : Fin 8192) (k : Fin 1024) : W3 m ρ c (Proc.devRef .tc main_v11) (ix2 s k) = (inp m c).x s k := by
  unfold W3
  entry_read
  rw [W2_args m ρ c main_arg0 (by decide)]
  pointwise
  rfl

theorem f_mid (s : Fin 8192) (k : Fin 1024) : W3 m ρ c (Proc.devRef .tc main_v9_3) (ix2 s k) = (inp m c).f s k :=
  congrFun ((W3_of m ρ c main_v9_3 (by decide)).trans ((W2_arr m ρ c 9).trans (f_array m ρ c))) (ix2 s k)

theorem a_mid (s : Fin 8192) (n : Fin 2752) : W3 m ρ c (Proc.devRef .tc main_v9_1) (ix2 s n) = (inp m c).a s n :=
  congrFun ((W3_of m ρ c main_v9_1 (by decide)).trans ((W2_arr m ρ c 7).trans (a_array m ρ c))) (ix2 s n)

theorem b_mid (s : Fin 8192) (n : Fin 2752) : W3 m ρ c (Proc.devRef .tc main_v9_2) (ix2 s n) = (inp m c).b s n :=
  congrFun ((W3_of m ρ c main_v9_2 (by decide)).trans ((W2_arr m ρ c 8).trans (b_array m ρ c))) (ix2 s n)

theorem gpre_mid (k : Fin 1024) : W3 m ρ c (Proc.devRef .tc main_arg1) (ix2 0 k) = (inp m c).gpre k :=
  congrFun (W3_args m ρ c main_arg1 (by decide)) _

theorem gpost_mid (k : Fin 1024) : W3 m ρ c (Proc.devRef .tc main_arg5) (ix2 0 k) = (inp m c).gpost k :=
  congrFun (W3_args m ρ c main_arg5 (by decide)) _

theorem wg_mid (n : Fin 2752) (k : Fin 1024) : W3 m ρ c (Proc.devRef .tc main_v2) (ix2 n k) = (inp m c).wg n k :=
  (congrFun ((W3_of m ρ c main_v2 (by decide)).trans (W2_of m ρ c main_v2 (by decide))) (ix2 n k)).trans (wg_host m ρ c n k)

theorem wu_mid (n : Fin 2752) (k : Fin 1024) : W3 m ρ c (Proc.devRef .tc main_v5) (ix2 n k) = (inp m c).wu n k :=
  (congrFun ((W3_of m ρ c main_v5 (by decide)).trans (W2_of m ρ c main_v5 (by decide))) (ix2 n k)).trans (wu_host m ρ c n k)

theorem wd_mid (n : Fin 2752) (k : Fin 1024) : W3 m ρ c (Proc.devRef .tc main_v7) (ix2 n k) = (inp m c).wd n k :=
  (congrFun ((W3_of m ρ c main_v7 (by decide)).trans (W2_of m ρ c main_v7 (by decide))) (ix2 n k)).trans (wd_host m ρ c n k)

/-! ## The blocks of a grid point -/

theorem idx1 : ∀ t : Fin cfg1.N, win1_0.index t = ![t.val, 0] ∧ win1_1.index t = ![t.val, 0] ∧ win1_2.index t = ![t.val, 0]
    ∧ win1_3.index t = ![t.val, 0] ∧ win1_4.index t = ![t.val, 0] ∧ win1_5.index t = ![0, 0] ∧ win1_6.index t = ![0, 0]
    ∧ win1_7.index t = ![0, 0] ∧ win1_8.index t = ![0, 0] ∧ win1_9.index t = ![0, 0] ∧ win1_10.index t = ![t.val, 0]
    ∧ win1_11.index t = ![t.val, 0] ∧ win1_12.index t = ![t.val, 0] ∧ win1_13.index t = ![t.val, 0] ∧ win1_14.index t = ![t.val, 0]
    ∧ win1_15.index t = ![t.val, 0] ∧ win1_16.index t = ![0, 0] ∧ win1_17.index t = ![0, 0] := (by decide +kernel : ∀ t : Fin grid1.N, _)

/-- The row of the arrays that row `r` of the blocks of grid point `t` is. -/
def row1 (t : Fin cfg1.N) (r : Fin 256) : Fin 8192 := ⟨t.val * 256 + r.val, by have := lt_of_lt_of_eq t.isLt N_1; omega⟩

variable (t : Fin cfg1.N) (r : Fin 256)

theorem d_rows : rowOf (iblk1 (V3 m ρ) c 0 t) r = (inp m c).d (row1 t r) := by
  funext k
  rw [← d_mid m ρ c]
  blk_simp [iblk1, rowOf]
  blk_point [row1, idx1 t]

theorem x_rows : rowOf (iblk1 (V3 m ρ) c 1 t) r = (inp m c).x (row1 t r) := by
  funext k
  rw [← x_mid m ρ c]
  blk_simp [iblk1, rowOf]
  blk_point [row1, idx1 t]

theorem f_rows : rowOf (iblk1 (V3 m ρ) c 2 t) r = (inp m c).f (row1 t r) := by
  funext k
  rw [← f_mid m ρ c]
  blk_simp [iblk1, rowOf]
  blk_point [row1, idx1 t]

theorem a_rows : wideOf (iblk1 (V3 m ρ) c 3 t) r = (inp m c).a (row1 t r) := by
  funext k
  rw [← a_mid m ρ c]
  blk_simp [iblk1, wideOf]
  blk_point [row1, idx1 t]

theorem b_rows : wideOf (iblk1 (V3 m ρ) c 4 t) r = (inp m c).b (row1 t r) := by
  funext k
  rw [← b_mid m ρ c]
  blk_simp [iblk1, wideOf]
  blk_point [row1, idx1 t]

theorem gpre_rows : gainOf (iblk1 (V3 m ρ) c 5 t) = (inp m c).gpre := by
  funext k
  rw [← gpre_mid m ρ c]
  blk_simp [iblk1, gainOf]
  blk_point [idx1 t]

theorem gpost_rows : gainOf (iblk1 (V3 m ρ) c 6 t) = (inp m c).gpost := by
  funext k
  rw [← gpost_mid m ρ c]
  blk_simp [iblk1, gainOf]
  blk_point [idx1 t]

theorem wg_rows : matOf (iblk1 (V3 m ρ) c 7 t) = (inp m c).wg := by
  funext n k
  rw [← wg_mid m ρ c]
  blk_simp [iblk1, matOf]
  blk_point [idx1 t]

theorem wu_rows : matOf (iblk1 (V3 m ρ) c 8 t) = (inp m c).wu := by
  funext n k
  rw [← wu_mid m ρ c]
  blk_simp [iblk1, matOf]
  blk_point [idx1 t]

theorem wd_rows : matOf (iblk1 (V3 m ρ) c 9 t) = (inp m c).wd := by
  funext n k
  rw [← wd_mid m ρ c]
  blk_simp [iblk1, matOf]
  blk_point [idx1 t]

theorem dhid_rows : dhid (iblk1 (V3 m ρ) c 0 t) (iblk1 (V3 m ρ) c 2 t) (iblk1 (V3 m ρ) c 6 t) (iblk1 (V3 m ρ) c 9 t) r = (inp m c).e (row1 t r) := by
  unfold dhid
  rw [d_rows, f_rows, gpost_rows, wd_rows]
  rfl

theorem dnorm_rows : dnorm (iblk1 (V3 m ρ) c 0 t) (iblk1 (V3 m ρ) c 2 t) (iblk1 (V3 m ρ) c 3 t) (iblk1 (V3 m ρ) c 4 t) (iblk1 (V3 m ρ) c 6 t)
    (iblk1 (V3 m ρ) c 7 t) (iblk1 (V3 m ρ) c 8 t) (iblk1 (V3 m ρ) c 9 t) r = (inp m c).dh (row1 t r) := by
  unfold dnorm
  rw [dhid_rows, a_rows, b_rows, wg_rows, wu_rows]
  rfl

/-! ## The arrays that it leaves -/

/-- The gradient in the gated product and the gate's argument, which go into each value below. -/
local notation "fed(" p ")" => p (k1_pay11 (iblk1 (V3 m ρ) c 0 t) (iblk1 (V3 m ρ) c 2 t) (iblk1 (V3 m ρ) c 6 t) (iblk1 (V3 m ρ) c 9 t)) (k1_pay12 (iblk1 (V3 m ρ) c 3 t))

theorem dx_here (j : Fin 1024) : k1_pay24 (F := Ideal) (k1_pay4 (iblk1 (V3 m ρ) c 0 t)) (k1_pay20 (iblk1 (V3 m ρ) c 1 t)) (k1_pay21 (iblk1 (V3 m ρ) c 1 t))
    (fed(k1_pay22) (iblk1 (V3 m ρ) c 4 t) (iblk1 (V3 m ρ) c 7 t) (iblk1 (V3 m ρ) c 8 t) (iblk1 (V3 m ρ) c 5 t))
    (fed(k1_pay23) (iblk1 (V3 m ρ) c 4 t) (iblk1 (V3 m ρ) c 7 t) (iblk1 (V3 m ρ) c 8 t) (iblk1 (V3 m ρ) c 1 t) (iblk1 (V3 m ρ) c 5 t)) (ix2 r j)
    = (inp m c).dx (row1 t r) j := by
  rw [dx_at, dnorm_rows, d_rows, x_rows, gpre_rows]
  rfl

theorem dx_array : (dat1 (V3 m ρ) c).arrAt 10 cfg1.N = fun i : S8192x1024.Idx => (inp m c).dx (i 0) (i 1) := by
  refine (dat1 (V3 m ρ) c).arrAt_eq_of_covers 10 _ (by decide +kernel) fun t hf y => ?_
  blk_simp
  rw [after1_10]
  obtain ⟨r, j, rfl⟩ : ∃ (r : Fin 256) (j : Fin 1024), y = ix2 r j := ⟨y 0, y 1, eq_ix2 y⟩
  have key : (outsAt1 (V3 m ρ) c t.val t.isLt).1 (ix2 r j) = (inp m c).dx (row1 t r) j := by
    by_cases h : t.val % 32 = 0
    · rw [outsAt1_A (V3 m ρ) c t h h]
      frame_out
      exact dx_here m ρ c t r j
    · rw [outsAt1_B (V3 m ρ) c t h h]
      frame_out
      exact dx_here m ρ c t r j
  refine key.trans (congrArg₂ (inp m c).dx ?_ ?_) <;> apply Fin.ext <;> blk_simp [idx1 t, row1]

theorem hh_here (j : Fin 2752) : k1_pay25 (F := Ideal) (k1_pay13 (iblk1 (V3 m ρ) c 4 t)) (k1_pay15 (k1_pay12 (iblk1 (V3 m ρ) c 3 t))) (ix2 r j)
    = (inp m c).hh (row1 t r) j := by
  rw [hh_at, a_rows, b_rows]
  rfl

theorem hh_array : (dat1 (V3 m ρ) c).arrAt 11 cfg1.N = fun i : S8192x2752.Idx => (inp m c).hh (i 0) (i 1) := by
  refine (dat1 (V3 m ρ) c).arrAt_eq_of_covers 11 _ (by decide +kernel) fun t hf y => ?_
  blk_simp
  rw [after1_11]
  obtain ⟨r, j, rfl⟩ : ∃ (r : Fin 256) (j : Fin 2752), y = ix2 r j := ⟨y 0, y 1, eq_ix2 y⟩
  have key : (outsAt1 (V3 m ρ) c t.val t.isLt).2.1 (ix2 r j) = (inp m c).hh (row1 t r) j := by
    by_cases h : t.val % 32 = 0
    · rw [outsAt1_A (V3 m ρ) c t h h]
      frame_out
      exact hh_here m ρ c t r j
    · rw [outsAt1_B (V3 m ρ) c t h h]
      frame_out
      exact hh_here m ρ c t r j
  refine key.trans (congrArg₂ (inp m c).hh ?_ ?_) <;> apply Fin.ext <;> blk_simp [idx1 t, row1]

theorem da_here (j : Fin 2752) : fed(k1_pay16 (F := Ideal)) (iblk1 (V3 m ρ) c 4 t) (ix2 r j)
    = (inp m c).da (row1 t r) j := by
  rw [da_at, dhid_rows, a_rows, b_rows]
  rfl

theorem da_array : (dat1 (V3 m ρ) c).arrAt 12 cfg1.N = fun i : S8192x2752.Idx => (inp m c).da (i 0) (i 1) := by
  refine (dat1 (V3 m ρ) c).arrAt_eq_of_covers 12 _ (by decide +kernel) fun t hf y => ?_
  blk_simp
  rw [after1_12]
  obtain ⟨r, j, rfl⟩ : ∃ (r : Fin 256) (j : Fin 2752), y = ix2 r j := ⟨y 0, y 1, eq_ix2 y⟩
  have key : (outsAt1 (V3 m ρ) c t.val t.isLt).2.2.1 (ix2 r j) = (inp m c).da (row1 t r) j := by
    by_cases h : t.val % 32 = 0
    · rw [outsAt1_A (V3 m ρ) c t h h]
      frame_out
      exact da_here m ρ c t r j
    · rw [outsAt1_B (V3 m ρ) c t h h]
      frame_out
      exact da_here m ρ c t r j
  refine key.trans (congrArg₂ (inp m c).da ?_ ?_) <;> apply Fin.ext <;> blk_simp [idx1 t, row1]

theorem db_here (j : Fin 2752) : fed(k1_pay17 (F := Ideal)) (ix2 r j)
    = (inp m c).db (row1 t r) j := by
  rw [db_at, dhid_rows, a_rows]
  rfl

theorem db_array : (dat1 (V3 m ρ) c).arrAt 13 cfg1.N = fun i : S8192x2752.Idx => (inp m c).db (i 0) (i 1) := by
  refine (dat1 (V3 m ρ) c).arrAt_eq_of_covers 13 _ (by decide +kernel) fun t hf y => ?_
  blk_simp
  rw [after1_13]
  obtain ⟨r, j, rfl⟩ : ∃ (r : Fin 256) (j : Fin 2752), y = ix2 r j := ⟨y 0, y 1, eq_ix2 y⟩
  have key : (outsAt1 (V3 m ρ) c t.val t.isLt).2.2.2.1 (ix2 r j) = (inp m c).db (row1 t r) j := by
    by_cases h : t.val % 32 = 0
    · rw [outsAt1_A (V3 m ρ) c t h h]
      frame_out
      exact db_here m ρ c t r j
    · rw [outsAt1_B (V3 m ρ) c t h h]
      frame_out
      exact db_here m ρ c t r j
  refine key.trans (congrArg₂ (inp m c).db ?_ ?_) <;> apply Fin.ext <;> blk_simp [idx1 t, row1]

theorem df_here (j : Fin 1024) : k1_pay10 (F := Ideal) (iblk1 (V3 m ρ) c 0 t) (iblk1 (V3 m ρ) c 2 t) (iblk1 (V3 m ρ) c 6 t) (ix2 r j)
    = (inp m c).df (row1 t r) j := by
  rw [df_at, d_rows, f_rows, gpost_rows]
  rfl

theorem df_array : (dat1 (V3 m ρ) c).arrAt 14 cfg1.N = fun i : S8192x1024.Idx => (inp m c).df (i 0) (i 1) := by
  refine (dat1 (V3 m ρ) c).arrAt_eq_of_covers 14 _ (by decide +kernel) fun t hf y => ?_
  blk_simp
  rw [after1_14]
  obtain ⟨r, j, rfl⟩ : ∃ (r : Fin 256) (j : Fin 1024), y = ix2 r j := ⟨y 0, y 1, eq_ix2 y⟩
  have key : (outsAt1 (V3 m ρ) c t.val t.isLt).2.2.2.2.1 (ix2 r j) = (inp m c).df (row1 t r) j := by
    by_cases h : t.val % 32 = 0
    · rw [outsAt1_A (V3 m ρ) c t h h]
      frame_out
      exact df_here m ρ c t r j
    · rw [outsAt1_B (V3 m ρ) c t h h]
      frame_out
      exact df_here m ρ c t r j
  refine key.trans (congrArg₂ (inp m c).df ?_ ?_) <;> apply Fin.ext <;> blk_simp [idx1 t, row1]

theorem h_here (j : Fin 1024) : k1_pay26 (F := Ideal) (k1_pay19 (iblk1 (V3 m ρ) c 1 t)) (k1_pay20 (iblk1 (V3 m ρ) c 1 t)) (iblk1 (V3 m ρ) c 5 t) (ix2 r j)
    = (inp m c).h (row1 t r) j := by
  rw [h'_at, x_rows, gpre_rows]
  rfl

theorem h_array : (dat1 (V3 m ρ) c).arrAt 15 cfg1.N = fun i : S8192x1024.Idx => (inp m c).h (i 0) (i 1) := by
  refine (dat1 (V3 m ρ) c).arrAt_eq_of_covers 15 _ (by decide +kernel) fun t hf y => ?_
  blk_simp
  rw [after1_15]
  obtain ⟨r, j, rfl⟩ : ∃ (r : Fin 256) (j : Fin 1024), y = ix2 r j := ⟨y 0, y 1, eq_ix2 y⟩
  have key : (outsAt1 (V3 m ρ) c t.val t.isLt).2.2.2.2.2.1 (ix2 r j) = (inp m c).h (row1 t r) j := by
    by_cases h : t.val % 32 = 0
    · rw [outsAt1_A (V3 m ρ) c t h h]
      frame_out
      exact h_here m ρ c t r j
    · rw [outsAt1_B (V3 m ρ) c t h h]
      frame_out
      exact h_here m ρ c t r j
  refine key.trans (congrArg₂ (inp m c).h ?_ ?_) <;> apply Fin.ext <;> blk_simp [idx1 t, row1]

/-- The last grid point of the second call. -/
def lastPoint : Fin cfg1.N := ⟨31, by rw [show cfg1.N = 32 from N_1]; decide⟩

theorem dgpre_here (v : FVec Ideal S1x1024 .f32) (j : Fin 1024) : k1_pay1 (F := Ideal) (k1_pay27 (fed(k1_pay18) (iblk1 (V3 m ρ) c 4 t) (iblk1 (V3 m ρ) c 7 t) (iblk1 (V3 m ρ) c 8 t)) (k1_pay21 (iblk1 (V3 m ρ) c 1 t))) (k1_pay30 v) (ix2 0 j)
    = v (ix2 0 j) + ∑ r : Fin 256, dgain ((inp m c).dh (row1 t r)) ((inp m c).x (row1 t r)) j := by
  pointwise [k1_pay1, k1_pay30]
  rw [dgpre_at]
  simp only [dnorm_rows, x_rows, zero_add]

theorem dgpre_zero (j : S1x1024.Idx) : k1_pay29 (F := Ideal) j = 0 := by
  pointwise [k1_pay29]

theorem dgpre_array : (dat1 (V3 m ρ) c).arrAt 16 cfg1.N = fun i : S1x1024.Idx => (inp m c).dgpre (i 1) := by
  refine (dat1 (V3 m ρ) c).arrAt_eq_of_after_last 16 lastPoint (by decide +kernel) _ fun y => ?_
  blk_simp
  obtain ⟨z, j, rfl⟩ : ∃ (z : Fin 1) (j : Fin 1024), y = ix2 z j := ⟨y 0, y 1, eq_ix2 y⟩
  obtain rfl : z = 0 := Subsingleton.elim _ _
  rw [after1_16, Pipeline.eq_sum_fin_of_reset_step_apply_last (fun n h => (outsAt1 (V3 m ρ) c n h).2.2.2.2.2.2.1) 32 (fun _ => 0)
    (fun t y => ∑ r : Fin 256, dgain ((inp m c).dh (row1 t r)) ((inp m c).x (row1 t r)) (y 1))
    (fun t h y => by
      obtain ⟨z, j, rfl⟩ : ∃ (z : Fin 1) (j : Fin 1024), y = ix2 z j := ⟨y 0, y 1, eq_ix2 y⟩
      obtain rfl : z = 0 := Subsingleton.elim _ _
      rw [outsAt1_A (V3 m ρ) c t h h]; frame_out; rw [dgpre_here, dgpre_zero]; rfl)
    (fun t h y => by
      obtain ⟨z, j, rfl⟩ : ∃ (z : Fin 1) (j : Fin 1024), y = ix2 z j := ⟨y 0, y 1, eq_ix2 y⟩
      obtain rfl : z = 0 := Subsingleton.elim _ _
      rw [outsAt1_B (V3 m ρ) c t h h]; frame_out; rw [dgpre_here]; rfl)
    (le_of_eq N_1) lastPoint rfl, zero_add]
  exact (Fin.sum_univ_tiles (M := EReal) cfg1.N 256 (show cfg1.N * 256 = 8192 by rw [show cfg1.N = 32 from N_1])
    (fun s => dgain ((inp m c).dh s) ((inp m c).x s) j)).symm

theorem dgpost_here (v : FVec Ideal S1x1024 .f32) (j : Fin 1024) : k1_pay3 (F := Ideal) (k1_pay28 (k1_pay9 (iblk1 (V3 m ρ) c 0 t) (iblk1 (V3 m ρ) c 2 t))) v (ix2 0 j)
    = v (ix2 0 j) + ∑ r : Fin 256, dgain (arrive ((inp m c).d (row1 t r))) ((inp m c).f (row1 t r)) j := by
  pointwise [k1_pay3, k1_pay28]
  rw [dgpost_at]
  simp only [d_rows, f_rows, zero_add]

theorem dgpost_zero (j : S1x1024.Idx) : k1_pay2 (F := Ideal) j = 0 := by
  pointwise [k1_pay2]

theorem dgpost_array : (dat1 (V3 m ρ) c).arrAt 17 cfg1.N = fun i : S1x1024.Idx => (inp m c).dgpost (i 1) := by
  refine (dat1 (V3 m ρ) c).arrAt_eq_of_after_last 17 lastPoint (by decide +kernel) _ fun y => ?_
  blk_simp
  obtain ⟨z, j, rfl⟩ : ∃ (z : Fin 1) (j : Fin 1024), y = ix2 z j := ⟨y 0, y 1, eq_ix2 y⟩
  obtain rfl : z = 0 := Subsingleton.elim _ _
  rw [after1_17, Pipeline.eq_sum_fin_of_reset_step_apply_last (fun n h => (outsAt1 (V3 m ρ) c n h).2.2.2.2.2.2.2) 32 (fun _ => 0)
    (fun t y => ∑ r : Fin 256, dgain (arrive ((inp m c).d (row1 t r))) ((inp m c).f (row1 t r)) (y 1))
    (fun t h y => by
      obtain ⟨z, j, rfl⟩ : ∃ (z : Fin 1) (j : Fin 1024), y = ix2 z j := ⟨y 0, y 1, eq_ix2 y⟩
      obtain rfl : z = 0 := Subsingleton.elim _ _
      rw [outsAt1_A (V3 m ρ) c t h h]; frame_out; rw [dgpost_here, dgpost_zero]; rfl)
    (fun t h y => by
      obtain ⟨z, j, rfl⟩ : ∃ (z : Fin 1) (j : Fin 1024), y = ix2 z j := ⟨y 0, y 1, eq_ix2 y⟩
      obtain rfl : z = 0 := Subsingleton.elim _ _
      rw [outsAt1_B (V3 m ρ) c t h h]; frame_out; rw [dgpost_here]; rfl)
    (le_of_eq N_1) lastPoint rfl, zero_add]
  exact (Fin.sum_univ_tiles (M := EReal) cfg1.N 256 (show cfg1.N * 256 = 8192 by rw [show cfg1.N = 32 from N_1])
    (fun s => dgain (arrive ((inp m c).d s)) ((inp m c).f s) j)).symm

end Cert.FfnArrays
-- ==== Proof.FfnRun.lean ====
module

public import proofs.«01_k».proof.Proof.Gen.FfnIdeal.Frame

/-! # The feed-forward program's run, with every array that it leaves -/

@[expose] public section

set_option maxRecDepth 16384

noncomputable section

namespace Cert.FfnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the program ends with each array at what `W5` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Cert.FfnRun

end
-- ==== Proof.FfnClaims.lean ====
module

public import proofs.«01_k».proof.Defs
public import proofs.«01_k».proof.Proof.Gen.Pre_ffn_finite
public import proofs.«01_k».proof.Proof.Gen.Ffn
public import proofs.«01_k».proof.Proof.Gen.FfnRefIdeal.Run
public import proofs.«01_k».proof.Proof.FfnBwd
public import proofs.«01_k».proof.Proof.FfnRun
public import proofs.«01_k».proof.Proof.AttnClaims
public import Idealize.ShloMosaic.Lib.ReduceAll
public import Idealize.ShloMosaic.Lib.Quiescent

/-! # The feed-forward program's claims -/

@[expose] public section

set_option maxRecDepth 16384

noncomputable section

open Idealize.ShloMosaic Idealize.ShloMosaic.TcCoe Idealize.SL.Sem

namespace Cert.FfnArrays

open Cert.FfnIdeal Cert.FfnIdeal.Gen Cert.Ffn1

section Kernel

variable (m : (ℓ : Loc nD τ sig) → Buf (Elt Ideal) ℓ) (ρ : Dev nD → PrngReg) (c : Dev nD)

/-! ## The program's results -/

/-- An array of the first call, when the second is over. -/
theorem from_first (r : Ref sig .tc) (h0 : r ∉ hostOps1_W) (h1 : ∀ w : Fin cfg1.W, Pipeline.arrRef spec1 w = r → (cfg1.win w).isOut = false) :
    W4 m ρ c (Proc.devRef .tc r) = W2 m ρ c (Proc.devRef .tc r) :=
  (W4_of m ρ c r h1).trans (W3_of m ρ c r h0)

theorem xo_final : W5 m ρ c (Proc.devRef .tc main_v9_0) = fun i : S8192x1024.Idx => (inp m c).xo (i 0) (i 1) :=
  (W5_of m ρ c main_v9_0 (by decide)).trans ((from_first m ρ c main_v9_0 (by decide) (by decide)).trans ((W2_arr m ρ c 6).trans (xo_array m ρ c)))

theorem f_final : W5 m ρ c (Proc.devRef .tc main_v9_3) = fun i : S8192x1024.Idx => (inp m c).f (i 0) (i 1) :=
  (W5_of m ρ c main_v9_3 (by decide)).trans ((from_first m ρ c main_v9_3 (by decide) (by decide)).trans ((W2_arr m ρ c 9).trans (f_array m ρ c)))

theorem dx_final : W5 m ρ c (Proc.devRef .tc main_v12_0) = fun i : S8192x1024.Idx => (inp m c).dx (i 0) (i 1) :=
  (W5_of m ρ c main_v12_0 (by decide)).trans ((W4_arr m ρ c 10).trans (dx_array m ρ c))

theorem dgpre_final : W5 m ρ c (Proc.devRef .tc main_v12_6) = fun i : S1x1024.Idx => (inp m c).dgpre (i 1) :=
  (W5_of m ρ c main_v12_6 (by decide)).trans ((W4_arr m ρ c 16).trans (dgpre_array m ρ c))

theorem dgpost_final : W5 m ρ c (Proc.devRef .tc main_v12_7) = fun i : S1x1024.Idx => (inp m c).dgpost (i 1) :=
  (W5_of m ρ c main_v12_7 (by decide)).trans ((W4_arr m ρ c 17).trans (dgpost_array m ρ c))

theorem a_final : W5 m ρ c (Proc.devRef .tc main_v13) = fun i : S8192x2752.Idx => (inp m c).a (i 0) (i 1) := by
  unfold W5
  entry_read
  funext i
  exact congrFun ((from_first m ρ c main_v9_1 (by decide) (by decide)).trans ((W2_arr m ρ c 7).trans (a_array m ρ c))) i

theorem b_final : W5 m ρ c (Proc.devRef .tc main_v14) = fun i : S8192x2752.Idx => (inp m c).b (i 0) (i 1) := by
  unfold W5
  entry_read
  funext i
  exact congrFun ((from_first m ρ c main_v9_2 (by decide) (by decide)).trans ((W2_arr m ρ c 8).trans (b_array m ρ c))) i

theorem hh_final : W5 m ρ c (Proc.devRef .tc main_v15) = fun i : S8192x2752.Idx => (inp m c).hh (i 0) (i 1) := by
  unfold W5
  entry_read
  funext i
  exact congrFun ((W4_arr m ρ c 11).trans (hh_array m ρ c)) i

theorem da_final : W5 m ρ c (Proc.devRef .tc main_v16) = fun i : S8192x2752.Idx => (inp m c).da (i 0) (i 1) := by
  unfold W5
  entry_read
  funext i
  exact congrFun ((W4_arr m ρ c 12).trans (da_array m ρ c)) i

theorem db_final : W5 m ρ c (Proc.devRef .tc main_v17) = fun i : S8192x2752.Idx => (inp m c).db (i 0) (i 1) := by
  unfold W5
  entry_read
  funext i
  exact congrFun ((W4_arr m ρ c 13).trans (db_array m ρ c)) i

theorem df_final : W5 m ρ c (Proc.devRef .tc main_v18) = fun i : S8192x1024.Idx => (inp m c).df (i 0) (i 1) := by
  unfold W5
  entry_read
  funext i
  exact congrFun ((W4_arr m ρ c 14).trans (df_array m ρ c)) i

theorem h_final : W5 m ρ c (Proc.devRef .tc main_v19) = fun i : S8192x1024.Idx => (inp m c).h (i 0) (i 1) := by
  unfold W5
  entry_read
  funext i
  exact congrFun ((W4_arr m ρ c 15).trans (h_array m ρ c)) i

end Kernel

/-! ## The reference's results -/

section Reference

open Cert.FfnRefIdeal.Read

variable (x0 : FVec Ideal Cert.FfnRefIdeal.S1x8192x1024 .f32) (x1 : FVec Ideal Cert.FfnRefIdeal.S1x1024 .f32)
    (x2 x3 : FVec Ideal Cert.FfnRefIdeal.S1x1024x2752 .f32) (x4 : FVec Ideal Cert.FfnRefIdeal.S1x2752x1024 .f32)
    (x5 : FVec Ideal Cert.FfnRefIdeal.S1x1024 .f32) (x6 : FVec Ideal Cert.FfnRefIdeal.S1x8192x1024 .f32)

theorem last_xo : val_main_v105 (F := Ideal) x0 x1 x2 x3 x4 x5 = fun i => (ofArrays x0 x1 x2 x3 x4 x5 x6).xo (i 0) (i 1) := by
  funext i
  rw [eq_ix2 i]
  pointwise [val_main_v105]
  exact ref_xo x0 x1 x2 x3 x4 x5 x6 _ _

theorem last_a : val_main_v106 (F := Ideal) x0 x1 x2 = fun i => (ofArrays x0 x1 x2 x3 x4 x5 x6).a (i 0) (i 1) := by
  funext i
  rw [eq_ix2 i]
  pointwise [val_main_v106]
  exact ref_a x0 x1 x2 x3 x4 x5 x6 _ _

theorem last_b : val_main_v107 (F := Ideal) x0 x1 x3 = fun i => (ofArrays x0 x1 x2 x3 x4 x5 x6).b (i 0) (i 1) := by
  funext i
  rw [eq_ix2 i]
  pointwise [val_main_v107]
  exact ref_b x0 x1 x2 x3 x4 x5 x6 _ _

theorem last_f : val_main_v108 (F := Ideal) x0 x1 x2 x3 x4 = fun i => (ofArrays x0 x1 x2 x3 x4 x5 x6).f (i 0) (i 1) := by
  funext i
  rw [eq_ix2 i]
  pointwise [val_main_v108]
  exact ref_f x0 x1 x2 x3 x4 x5 x6 _ _

theorem last_dx (hA : (ofArrays x0 x1 x2 x3 x4 x5 x6).Reals) : val_main_v109 (F := Ideal) x0 x1 x2 x3 x4 x5 x6 = fun i => (ofArrays x0 x1 x2 x3 x4 x5 x6).dx (i 0) (i 1) := by
  funext i
  rw [eq_ix2 i]
  pointwise [val_main_v109]
  exact ref_dx x0 x1 x2 x3 x4 x5 x6 _ hA _

theorem last_hh : val_main_v110 (F := Ideal) x0 x1 x2 x3 = fun i => (ofArrays x0 x1 x2 x3 x4 x5 x6).hh (i 0) (i 1) := by
  funext i
  rw [eq_ix2 i]
  pointwise [val_main_v110]
  exact ref_hh x0 x1 x2 x3 x4 x5 x6 _ _

theorem last_da (hA : (ofArrays x0 x1 x2 x3 x4 x5 x6).Reals) : val_main_v111 (F := Ideal) x0 x1 x2 x3 x4 x5 x6 = fun i => (ofArrays x0 x1 x2 x3 x4 x5 x6).da (i 0) (i 1) := by
  funext i
  rw [eq_ix2 i]
  pointwise [val_main_v111]
  exact ref_da x0 x1 x2 x3 x4 x5 x6 _ hA _

theorem last_db : val_main_v112 (F := Ideal) x0 x1 x2 x3 x4 x5 x6 = fun i => (ofArrays x0 x1 x2 x3 x4 x5 x6).db (i 0) (i 1) := by
  funext i
  rw [eq_ix2 i]
  pointwise [val_main_v112]
  exact ref_db x0 x1 x2 x3 x4 x5 x6 _ _

theorem last_df : val_main_v113 (F := Ideal) x0 x1 x2 x3 x4 x5 x6 = fun i => (ofArrays x0 x1 x2 x3 x4 x5 x6).df (i 0) (i 1) := by
  funext i
  rw [eq_ix2 i]
  pointwise [val_main_v113]
  exact ref_df x0 x1 x2 x3 x4 x5 x6 _ _

theorem last_h : val_main_v114 (F := Ideal) x0 x1 = fun i => (ofArrays x0 x1 x2 x3 x4 x5 x6).h (i 0) (i 1) := by
  funext i
  rw [eq_ix2 i]
  pointwise [val_main_v114]
  exact ref_h x0 x1 x2 x3 x4 x5 x6 _ _

theorem last_dgpre (hA : (ofArrays x0 x1 x2 x3 x4 x5 x6).Reals) : val_main_v104 (F := Ideal) x0 x1 x2 x3 x4 x5 x6 = fun i => (ofArrays x0 x1 x2 x3 x4 x5 x6).dgpre (i 1) := by
  funext i
  obtain ⟨z, j, rfl⟩ : ∃ (z : Fin 1) (j : Fin 1024), i = ix2 z j := ⟨i 0, i 1, eq_ix2 i⟩
  obtain rfl : z = 0 := Subsingleton.elim _ _
  exact ref_dgpre x0 x1 x2 x3 x4 x5 x6 hA _

theorem last_dgpost : val_main_v74 (F := Ideal) x0 x1 x2 x3 x4 x6 = fun i => (ofArrays x0 x1 x2 x3 x4 x5 x6).dgpost (i 1) := by
  funext i
  obtain ⟨z, j, rfl⟩ : ∃ (z : Fin 1) (j : Fin 1024), i = ix2 z j := ⟨i 0, i 1, eq_ix2 i⟩
  obtain rfl : z = 0 := Subsingleton.elim _ _
  exact ref_dgpost x0 x1 x2 x3 x4 x5 x6 _

/-! ## The precondition -/

instance : Subsingleton Cert.Pre_ffn_finite.S_.Idx := ⟨fun a b => funext fun k => k.elim0⟩

theorem real_entry {s : Shape} {axes : List (Fin s.rank)} (x : FVec Ideal s .f32) (v : IVec Cert.Pre_ffn_finite.S_ 1) (q : FVec Ideal s .f32)
    (hq : ∀ i, q i = Ideal.ofBits .f32 0x7F800000#32) (h : s.ReducesTo axes Cert.Pre_ffn_finite.S_) (hu : 0 < Cert.Pre_ffn_finite.S_.numel) (j : Cert.Pre_ffn_finite.S_.Idx)
    (e : Host.reduce IntOp.andi (cmpf .olt (Host.absf x) q) v h hu j = 1#1) (i : s.Idx) : IsReal (x i) := by
  have k := Host.reduce_andi_all _ _ h hu j e i
  revert k
  pointwise
  rw [hq]
  exact fun k => ⟨_, AttnClaims.real_of k⟩

theorem reals_of (h : Cert.Pre_ffn_finite.fn (F := Ideal) x0 x1 x2 x3 x4 x5 x6 = fun _ => 1#1) : (ofArrays x0 x1 x2 x3 x4 x5 x6).Reals := by
  have e := congrFun h (fun k => k.elim0)
  unfold Cert.Pre_ffn_finite.fn Cert.Pre_ffn_finite.fn_part1 at e
  replace ⟨e, h6⟩ := AttnClaims.and_one e
  replace ⟨e, h5⟩ := AttnClaims.and_one e
  replace ⟨e, h4⟩ := AttnClaims.and_one e
  replace ⟨e, h3⟩ := AttnClaims.and_one e
  replace ⟨e, h2⟩ := AttnClaims.and_one e
  obtain ⟨h0, h1⟩ := AttnClaims.and_one e
  clear h e
  have r0 := real_entry x0 _ _ (by intro _; rfl) _ _ _ h0
  clear h0
  have r1 := real_entry x1 _ _ (by intro _; rfl) _ _ _ h1
  clear h1
  have r2 := real_entry x2 _ _ (by intro _; rfl) _ _ _ h2
  clear h2
  have r3 := real_entry x3 _ _ (by intro _; rfl) _ _ _ h3
  clear h3
  have r4 := real_entry x4 _ _ (by intro _; rfl) _ _ _ h4
  clear h4
  have r5 := real_entry x5 _ _ (by intro _; rfl) _ _ _ h5
  clear h5
  have r6 := real_entry x6 _ _ (by intro _; rfl) _ _ _ h6
  clear h6
  exact ⟨fun s k => r0 _, fun k => r1 _, fun n k => r2 _, fun n k => r3 _, fun n k => r4 _, fun k => r5 _, fun s k => r6 _⟩

end Reference

end Cert.FfnArrays

namespace Cert.FfnClaims

open Cert.FfnIdeal.Gen (W5 mem_uc)
open Cert.FfnArrays

theorem frame_ref : Cert.quiescent_FfnRefIdeal := by
  intro m g _
  exact (θ_run _ _ _).mono (fun r h => ⟨fun c => (h c).2.2.2.2.2.2.2.2.2.2.2.2, sem_eq_zero_of_no_sems rfl _⟩) (Cert.FfnRefIdeal.Value.run m g)

theorem frame_ref_pre : Cert.quiescent_FfnRefIdeal_pre_ffn_finite := fun m g _ => frame_ref m g trivial

theorem algebraic : Cert.algebraic_FfnIdeal_FfnRefIdeal_pre_ffn_finite := by
  intro m g m' g' hpre hagree
  have hr := fun c => reals_of _ _ _ _ _ _ _ (hpre c)
  refine ⟨fun c => W5 m g c (Proc.devRef .tc Cert.FfnIdeal.main_v9_0),
    fun c => W5 m g c (Proc.devRef .tc Cert.FfnIdeal.main_v13),
    fun c => W5 m g c (Proc.devRef .tc Cert.FfnIdeal.main_v14),
    fun c => W5 m g c (Proc.devRef .tc Cert.FfnIdeal.main_v9_3),
    fun c => W5 m g c (Proc.devRef .tc Cert.FfnIdeal.main_v12_0),
    fun c => W5 m g c (Proc.devRef .tc Cert.FfnIdeal.main_v15),
    fun c => W5 m g c (Proc.devRef .tc Cert.FfnIdeal.main_v16),
    fun c => W5 m g c (Proc.devRef .tc Cert.FfnIdeal.main_v17),
    fun c => W5 m g c (Proc.devRef .tc Cert.FfnIdeal.main_v18),
    fun c => W5 m g c (Proc.devRef .tc Cert.FfnIdeal.main_v19),
    fun c => W5 m g c (Proc.devRef .tc Cert.FfnIdeal.main_v12_6),
    fun c => W5 m g c (Proc.devRef .tc Cert.FfnIdeal.main_v12_7), ?_, ?_⟩
  · refine (θ_run _ _ _).mono (fun r h c => ?_) (Cert.FfnRun.run_all m g)
    exact ⟨h c _ (mem_uc Cert.FfnIdeal.main_v9_0 (by decide)),
      h c _ (mem_uc Cert.FfnIdeal.main_v13 (by decide)),
      h c _ (mem_uc Cert.FfnIdeal.main_v14 (by decide)),
      h c _ (mem_uc Cert.FfnIdeal.main_v9_3 (by decide)),
      h c _ (mem_uc Cert.FfnIdeal.main_v12_0 (by decide)),
      h c _ (mem_uc Cert.FfnIdeal.main_v15 (by decide)),
      h c _ (mem_uc Cert.FfnIdeal.main_v16 (by decide)),
      h c _ (mem_uc Cert.FfnIdeal.main_v17 (by decide)),
      h c _ (mem_uc Cert.FfnIdeal.main_v18 (by decide)),
      h c _ (mem_uc Cert.FfnIdeal.main_v19 (by decide)),
      h c _ (mem_uc Cert.FfnIdeal.main_v12_6 (by decide)),
      h c _ (mem_uc Cert.FfnIdeal.main_v12_7 (by decide)),
      (h c _ (mem_uc Cert.FfnIdeal.main_arg0 (by decide))).trans (Cert.FfnIdeal.Gen.W5_main_arg0 m g c),
      (h c _ (mem_uc Cert.FfnIdeal.main_arg1 (by decide))).trans (Cert.FfnIdeal.Gen.W5_main_arg1 m g c),
      (h c _ (mem_uc Cert.FfnIdeal.main_arg2 (by decide))).trans (Cert.FfnIdeal.Gen.W5_main_arg2 m g c),
      (h c _ (mem_uc Cert.FfnIdeal.main_arg3 (by decide))).trans (Cert.FfnIdeal.Gen.W5_main_arg3 m g c),
      (h c _ (mem_uc Cert.FfnIdeal.main_arg4 (by decide))).trans (Cert.FfnIdeal.Gen.W5_main_arg4 m g c),
      (h c _ (mem_uc Cert.FfnIdeal.main_arg5 (by decide))).trans (Cert.FfnIdeal.Gen.W5_main_arg5 m g c),
      (h c _ (mem_uc Cert.FfnIdeal.main_arg6 (by decide))).trans (Cert.FfnIdeal.Gen.W5_main_arg6 m g c)⟩
  · refine (θ_run _ _ _).mono (fun r h c => ?_) (Cert.FfnRefIdeal.Value.run m' g')
    have hc := h c
    have a0 : StableHlo.launchContents m' c (Proc.devRef .tc Cert.FfnRefIdeal.main_arg0)
        = m ((c.tc : Thread Cert.FfnIdeal.nD Cert.FfnIdeal.τ).loc Cert.FfnIdeal.main_arg0) := (hagree c).1
    have a1 : StableHlo.launchContents m' c (Proc.devRef .tc Cert.FfnRefIdeal.main_arg1)
        = m ((c.tc : Thread Cert.FfnIdeal.nD Cert.FfnIdeal.τ).loc Cert.FfnIdeal.main_arg1) := (hagree c).2.1
    have a2 : StableHlo.launchContents m' c (Proc.devRef .tc Cert.FfnRefIdeal.main_arg2)
        = m ((c.tc : Thread Cert.FfnIdeal.nD Cert.FfnIdeal.τ).loc Cert.FfnIdeal.main_arg2) := (hagree c).2.2.1
    have a3 : StableHlo.launchContents m' c (Proc.devRef .tc Cert.FfnRefIdeal.main_arg3)
        = m ((c.tc : Thread Cert.FfnIdeal.nD Cert.FfnIdeal.τ).loc Cert.FfnIdeal.main_arg3) := (hagree c).2.2.2.1
    have a4 : StableHlo.launchContents m' c (Proc.devRef .tc Cert.FfnRefIdeal.main_arg4)
        = m ((c.tc : Thread Cert.FfnIdeal.nD Cert.FfnIdeal.τ).loc Cert.FfnIdeal.main_arg4) := (hagree c).2.2.2.2.1
    have a5 : StableHlo.launchContents m' c (Proc.devRef .tc Cert.FfnRefIdeal.main_arg5)
        = m ((c.tc : Thread Cert.FfnIdeal.nD Cert.FfnIdeal.τ).loc Cert.FfnIdeal.main_arg5) := (hagree c).2.2.2.2.2.1
    have a6 : StableHlo.launchContents m' c (Proc.devRef .tc Cert.FfnRefIdeal.main_arg6)
        = m ((c.tc : Thread Cert.FfnIdeal.nD Cert.FfnIdeal.τ).loc Cert.FfnIdeal.main_arg6) := (hagree c).2.2.2.2.2.2
    refine ⟨hc.1.trans ?_, hc.2.1.trans ?_, hc.2.2.1.trans ?_, hc.2.2.2.1.trans ?_, hc.2.2.2.2.1.trans ?_, hc.2.2.2.2.2.1.trans ?_, hc.2.2.2.2.2.2.1.trans ?_, hc.2.2.2.2.2.2.2.1.trans ?_, hc.2.2.2.2.2.2.2.2.1.trans ?_, hc.2.2.2.2.2.2.2.2.2.1.trans ?_, hc.2.2.2.2.2.2.2.2.2.2.1.trans ?_, hc.2.2.2.2.2.2.2.2.2.2.2.1.trans ?_, hc.2.2.2.2.2.2.2.2.2.2.2.2⟩
    · rw [Cert.FfnRefIdeal.Read.val_main_v105_eq, a0, a1, a2, a3, a4, a5]
      exact (last_xo _ _ _ _ _ _ _).trans (xo_final m g c).symm
    · rw [Cert.FfnRefIdeal.Read.val_main_v106_eq, a0, a1, a2]
      exact (last_a _ _ _ _ _ _ _).trans (a_final m g c).symm
    · rw [Cert.FfnRefIdeal.Read.val_main_v107_eq, a0, a1, a3]
      exact (last_b _ _ _ _ _ _ _).trans (b_final m g c).symm
    · rw [Cert.FfnRefIdeal.Read.val_main_v108_eq, a0, a1, a2, a3, a4]
      exact (last_f _ _ _ _ _ _ _).trans (f_final m g c).symm
    · rw [Cert.FfnRefIdeal.Read.val_main_v109_eq, a0, a1, a2, a3, a4, a5, a6]
      exact (last_dx _ _ _ _ _ _ _ (hr c)).trans (dx_final m g c).symm
    · rw [Cert.FfnRefIdeal.Read.val_main_v110_eq, a0, a1, a2, a3]
      exact (last_hh _ _ _ _ _ _ _).trans (hh_final m g c).symm
    · rw [Cert.FfnRefIdeal.Read.val_main_v111_eq, a0, a1, a2, a3, a4, a5, a6]
      exact (last_da _ _ _ _ _ _ _ (hr c)).trans (da_final m g c).symm
    · rw [Cert.FfnRefIdeal.Read.val_main_v112_eq, a0, a1, a2, a3, a4, a5, a6]
      exact (last_db _ _ _ _ _ _ _).trans (db_final m g c).symm
    · rw [Cert.FfnRefIdeal.Read.val_main_v113_eq, a0, a1, a2, a3, a4, a5, a6]
      exact (last_df _ _ _ _ _ _ _).trans (df_final m g c).symm
    · rw [Cert.FfnRefIdeal.Read.val_main_v114_eq, a0, a1]
      exact (last_h _ _ _ _ _ _ _).trans (h_final m g c).symm
    · rw [Cert.FfnRefIdeal.Read.val_main_v104_eq, a0, a1, a2, a3, a4, a5, a6]
      exact (last_dgpre _ _ _ _ _ _ _ (hr c)).trans (dgpre_final m g c).symm
    · rw [Cert.FfnRefIdeal.Read.val_main_v74_eq, a0, a1, a2, a3, a4, a6]
      exact (last_dgpost _ _ _ _ _ _ _).trans (dgpost_final m g c).symm

end Cert.FfnClaims
-- ==== Proof.OutBlocks.lean ====
module

public import proofs.«01_k».proof.Proof.Gen.OutIdeal.Skeleton
public import proofs.«01_k».proof.Proof.RowNorm
public import Idealize.ShloMosaic.Lib.Pipeline.ValueKit
public import Idealize.ShloMosaic.Lib.Pointwise

/-! # The mixture of the branches on one row, and what the two calls compute of a block of rows

A row of a group of heads has 256 entries, 64 for each head. `L` holds the three groups' logits, the same number in
every entry of a head; `O` holds their outputs. -/

@[expose] public section

set_option maxRecDepth 16384

noncomputable section

open Idealize.ShloMosaic Idealize.ShloMosaic.TcCoe Idealize.SL.Sem

namespace Cert.Out1

/-- Three rows of a group. -/
abbrev Rows := Fin 3 → Fin 256 → EReal

def top (L : Rows) (u : Fin 256) : EReal := max (max (L 0 u) (L 1 u)) (L 2 u)
def part (L : Rows) (i : Fin 3) (u : Fin 256) : EReal := Ideal.exp (L i u - top L u)

/-- A group's share in an entry. -/
def weight (L : Rows) (i : Fin 3) (u : Fin 256) : EReal := Ideal.div (part L i u) (part L 0 u + part L 1 u + part L 2 u)

def shared (L O : Rows) (i : Fin 3) (u : Fin 256) : EReal := O i u * weight L i u

/-- Four rows side by side: the first, and the three groups' shares. -/
def cat (p : Fin 256 → EReal) (L O : Rows) (k : Fin 1024) : EReal :=
  if h : k.val < 256 then p ⟨k.val, h⟩
  else if h1 : k.val - 256 < 256 then shared L O 0 ⟨k.val - 256, h1⟩
  else if h2 : k.val - 256 - 256 < 256 then shared L O 1 ⟨k.val - 256 - 256, h2⟩
  else shared L O 2 ⟨k.val - 256 - 256 - 256, by omega⟩

/-- A row times a matrix that has one row for each entry. -/
def mix (c : Fin 1024 → EReal) (w : Fin 1024 → Fin 1024 → EReal) (j : Fin 1024) : EReal := ∑ k, c k * w k j

/-- The row and the norm of the mixture. -/
def out (x y g : Fin 1024 → EReal) (j : Fin 1024) : EReal := x j + y j * RowNorm.inv y * g j

/-- The gradient in the mixture. -/
def dmix (d y g : Fin 1024 → EReal) (j : Fin 1024) : EReal := RowNorm.grad y (fun k => d k * g k) j

/-- What the row adds to the gradient in the gain. -/
def dgain (d y : Fin 1024 → EReal) (j : Fin 1024) : EReal := d j * (y j * RowNorm.inv y)

/-- The gradient in the four rows side by side. -/
def dcat (e : Fin 1024 → EReal) (w : Fin 1024 → Fin 1024 → EReal) (k : Fin 1024) : EReal := ∑ j, e j * w k j

def first (e : Fin 1024 → EReal) (u : Fin 256) : EReal := e ⟨u.val, by omega⟩
def third (e : Fin 1024 → EReal) : Rows := fun i u => e ⟨256 * (i.val + 1) + u.val, by omega⟩

def dout (D L : Rows) (i : Fin 3) (u : Fin 256) : EReal := D i u * weight L i u

/-- What an entry gives to the sum that all three logits' gradients share. -/
def prod (D L O : Rows) (u : Fin 256) : EReal := D 0 u * shared L O 0 u + D 1 u * shared L O 1 u + D 2 u * shared L O 2 u

/-- The sum over a head, as a product with a matrix `e` of ones and zeros, in two parts. -/
def total (e : Fin 256 → Fin 256 → EReal) (p : Fin 256 → EReal) (u : Fin 256) : EReal := ∑ x, p x * e x u + ∑ x, (p x - p x) * e x u

def cterm (e : Fin 256 → Fin 256 → EReal) (D L O : Rows) (i : Fin 3) (u : Fin 256) : EReal :=
  (0 - weight L i u) * total e (prod D L O) u

/-! ## The entries of a block -/

open Cert.OutIdeal Cert.OutIdeal.Gen

abbrev rowOf (x : FVec Ideal S1024x1024 .f32) (r : Fin 1024) : Fin 1024 → EReal := fun k => x (ix2 r k)
abbrev catOf (x : FVec Ideal S1024x1024 .bf16) (r : Fin 1024) : Fin 1024 → EReal := fun k => x (ix2 r k)
abbrev laneOf (x : FVec Ideal S1024x256 .f32) (r : Fin 1024) : Fin 256 → EReal := fun k => x (ix2 r k)
abbrev poolOf (x : FVec Ideal S1024x256 .bf16) (r : Fin 1024) : Fin 256 → EReal := fun k => x (ix2 r k)
abbrev rowsOf (x y z : FVec Ideal S1024x256 .f32) (r : Fin 1024) : Rows := ![laneOf x r, laneOf y r, laneOf z r]
abbrev gainOf (x : FVec Ideal S1x1024 .f32) : Fin 1024 → EReal := fun k => x (ix2 0 k)
abbrev matOf (x : FVec Ideal S1024x1024 .bf16) : Fin 1024 → Fin 1024 → EReal := fun k j => x (ix2 k j)
abbrev onesOf (x : FVec Ideal S256x256 .bf16) : Fin 256 → Fin 256 → EReal := fun a b => x (ix2 a b)

variable (l0 l1 l2 o0 o1 o2 : FVec Ideal S1024x256 .f32) (p : FVec Ideal S1024x256 .bf16) (x d : FVec Ideal S1024x1024 .f32)
  (ct w e : FVec Ideal S1024x1024 .bf16) (g : FVec Ideal S1x1024 .f32) (on : FVec Ideal S256x256 .bf16) (r : Fin 1024)

theorem cat_at (k : Fin 1024) : k0_pay2 (F := Ideal) l0 l1 l2 p o0 o1 o2 (ix2 r k) = cat (poolOf p r) (rowsOf l0 l1 l2 r) (rowsOf o0 o1 o2 r) k := by
  pointwise [k0_pay2]
  rfl

theorem mix_at (j : Fin 1024) : k0_pay3 (F := Ideal) l0 l1 l2 p o0 o1 o2 w (ix2 r j)
    = mix (cat (poolOf p r) (rowsOf l0 l1 l2 r) (rowsOf o0 o1 o2 r)) (matOf w) j := by
  pointwise [k0_pay3]
  simp only [cat_at]
  rfl

theorem xo_at (j : Fin 1024) : k0_pay1 (F := Ideal) (k0_pay3 l0 l1 l2 p o0 o1 o2 w) x g (ix2 r j)
    = out (rowOf x r) (mix (cat (poolOf p r) (rowsOf l0 l1 l2 r) (rowsOf o0 o1 o2 r)) (matOf w)) (gainOf g) j := by
  pointwise [k0_pay1]
  simp only [mix_at]
  rfl

theorem mv_at (j : Fin 1024) : k1_pay2 (F := Ideal) ct w (ix2 r j) = mix (catOf ct r) (matOf w) j := by
  pointwise [k1_pay2]
  rfl

theorem inv_at : k1_pay3 (F := Ideal) ct w (ix2 r 0) = RowNorm.inv (mix (catOf ct r) (matOf w)) := by
  pointwise [k1_pay3]
  simp only [mv_at]
  rfl

theorem mn_at (j : Fin 1024) : k1_pay5 (F := Ideal) ct w (ix2 r j) = mix (catOf ct r) (matOf w) j * RowNorm.inv (mix (catOf ct r) (matOf w)) := by
  pointwise [k1_pay5]
  rw [mv_at, inv_at]

theorem dgain_at (j : Fin 1024) : k1_pay6 (F := Ideal) ct w d (ix2 0 j) = ∑ r : Fin 1024, dgain (rowOf d r) (mix (catOf ct r) (matOf w)) j := by
  pointwise [k1_pay6, k1_pay4]
  simp only [mn_at]
  rfl

theorem dmix_at (j : Fin 1024) : k1_pay7 (F := Ideal) ct w g d (ix2 r j) = dmix (rowOf d r) (mix (catOf ct r) (matOf w)) (gainOf g) j := by
  pointwise [k1_pay7, k1_pay4]
  simp only [mn_at, inv_at]
  rfl

theorem dcat_at (k : Fin 1024) : k1_pay10 (F := Ideal) e w (ix2 r k) = dcat (catOf e r) (matOf w) k := by
  pointwise [k1_pay10]
  rfl

theorem dpool_at (u : Fin 256) : k1_pay11 (F := Ideal) e w (ix2 r u) = first (dcat (catOf e r) (matOf w)) u := by
  pointwise [k1_pay11]
  rw [dcat_at]
  try rfl

theorem third_0 (u : Fin 256) : k1_pay23 (F := Ideal) e w (ix2 r u) = third (dcat (catOf e r) (matOf w)) 0 u := by
  pointwise [k1_pay23]
  rw [dcat_at]
  rfl

theorem third_1 (u : Fin 256) : k1_pay24 (F := Ideal) e w (ix2 r u) = third (dcat (catOf e r) (matOf w)) 1 u := by
  pointwise [k1_pay24]
  rw [dcat_at]
  rfl

theorem third_2 (u : Fin 256) : k1_pay25 (F := Ideal) e w (ix2 r u) = third (dcat (catOf e r) (matOf w)) 2 u := by
  pointwise [k1_pay25]
  rw [dcat_at]
  rfl

theorem weight_0 (u : Fin 256) : k1_pay20 (F := Ideal) l0 l1 l2 (ix2 r u) = weight (rowsOf l0 l1 l2 r) 0 u := by
  pointwise [k1_pay20, k1_pay19, k1_pay18, k1_pay17, k1_pay16, k1_pay15, k1_pay14, k1_pay13, k1_pay12]
  rfl

theorem weight_1 (u : Fin 256) : k1_pay21 (F := Ideal) l0 l1 l2 (ix2 r u) = weight (rowsOf l0 l1 l2 r) 1 u := by
  pointwise [k1_pay21, k1_pay19, k1_pay18, k1_pay17, k1_pay16, k1_pay15, k1_pay14, k1_pay13, k1_pay12]
  rfl

theorem weight_2 (u : Fin 256) : k1_pay22 (F := Ideal) l0 l1 l2 (ix2 r u) = weight (rowsOf l0 l1 l2 r) 2 u := by
  pointwise [k1_pay22, k1_pay19, k1_pay18, k1_pay17, k1_pay16, k1_pay15, k1_pay14, k1_pay13, k1_pay12]
  rfl

theorem prod_0 (u : Fin 256) : k1_pay26 (F := Ideal) e w l0 l1 l2 o0 (ix2 r u)
    = third (dcat (catOf e r) (matOf w)) 0 u * (o0 (ix2 r u) * weight (rowsOf l0 l1 l2 r) 0 u) := by
  pointwise [k1_pay26]
  rw [third_0, weight_0]

/-- The gradients in the three groups' shares of a block's row. -/
abbrev dthird : Rows := third (dcat (catOf e r) (matOf w))

theorem total_at (u : Fin 256) : k1_pay27 (F := Ideal) (k1_pay21 l0 l1 l2) (k1_pay22 l0 l1 l2) (k1_pay24 e w) (k1_pay25 e w) (k1_pay26 e w l0 l1 l2 o0) o1 o2 on on
    (ix2 r u) = total (onesOf on) (prod (dthird w e r) (rowsOf l0 l1 l2 r) (rowsOf o0 o1 o2 r)) u := by
  pointwise [k1_pay27]
  simp only [prod_0, third_1, third_2, weight_1, weight_2]
  rfl

theorem do_0 (u : Fin 256) : k1_pay28 (F := Ideal) (k1_pay20 l0 l1 l2) (k1_pay23 e w) (ix2 r u) = dout (dthird w e r) (rowsOf l0 l1 l2 r) 0 u := by
  pointwise [k1_pay28]
  rw [third_0, weight_0]
  rfl

theorem do_1 (u : Fin 256) : k1_pay30 (F := Ideal) (k1_pay21 l0 l1 l2) (k1_pay24 e w) (ix2 r u) = dout (dthird w e r) (rowsOf l0 l1 l2 r) 1 u := by
  pointwise [k1_pay30]
  rw [third_1, weight_1]
  rfl

theorem do_2 (u : Fin 256) : k1_pay32 (F := Ideal) (k1_pay22 l0 l1 l2) (k1_pay25 e w) (ix2 r u) = dout (dthird w e r) (rowsOf l0 l1 l2 r) 2 u := by
  pointwise [k1_pay32]
  rw [third_2, weight_2]
  rfl

theorem c_0 (u : Fin 256) : k1_pay29 (F := Ideal) (k1_pay20 l0 l1 l2) (k1_pay21 l0 l1 l2) (k1_pay22 l0 l1 l2) (k1_pay24 e w) (k1_pay25 e w) (k1_pay26 e w l0 l1 l2 o0) o1 o2
    on on (ix2 r u) = cterm (onesOf on) (dthird w e r) (rowsOf l0 l1 l2 r) (rowsOf o0 o1 o2 r) 0 u := by
  pointwise [k1_pay29]
  rw [total_at, weight_0]
  simp only [zero_sub]
  simp only [cterm, zero_sub]

theorem c_1 (u : Fin 256) : k1_pay31 (F := Ideal) (k1_pay21 l0 l1 l2) (k1_pay22 l0 l1 l2) (k1_pay24 e w) (k1_pay25 e w) (k1_pay26 e w l0 l1 l2 o0) o1 o2
    on on (ix2 r u) = cterm (onesOf on) (dthird w e r) (rowsOf l0 l1 l2 r) (rowsOf o0 o1 o2 r) 1 u := by
  pointwise [k1_pay31]
  rw [total_at, weight_1]
  simp only [zero_sub]
  simp only [cterm, zero_sub]

theorem c_2 (u : Fin 256) : k1_pay1 (F := Ideal) (k1_pay22 l0 l1 l2) (k1_pay27 (k1_pay21 l0 l1 l2) (k1_pay22 l0 l1 l2) (k1_pay24 e w) (k1_pay25 e w) (k1_pay26 e w l0 l1 l2 o0) o1 o2
    on on) (ix2 r u) = cterm (onesOf on) (dthird w e r) (rowsOf l0 l1 l2 r) (rowsOf o0 o1 o2 r) 2 u := by
  pointwise [k1_pay1]
  rw [total_at, weight_2]
  simp only [zero_sub]
  simp only [cterm, zero_sub]

end Cert.Out1
-- ==== Proof.OutRef.lean ====
module

public import proofs.«01_k».proof.Proof.Gen.OutRefIdeal.Read
public import proofs.«01_k».proof.Proof.OutBlocks
public import proofs.«01_k».proof.Proof.UnitSum
public import Idealize.ShloMosaic.Lib.Pointwise
public import Idealize.ShloMosaic.Lib.Claim

/-! # The mixture's reference, value by value -/

@[expose] public section

set_option maxRecDepth 16384

noncomputable section

open Idealize.ShloMosaic Idealize.ShloMosaic.TcCoe Idealize.SL.Sem

namespace Cert.Out1

/-- The head of an entry of a group's row, and the entry's place in the head. -/
def head (u : Fin 256) : Fin 4 := ⟨u.val / 64, by omega⟩
def lane (u : Fin 256) : Fin 64 := ⟨u.val % 64, by omega⟩

/-- Entry `e` of the head that entry `u` is in. -/
def beside (u : Fin 256) (e : Fin 64) : Fin 256 := ⟨64 * (u.val / 64) + e.val, by omega⟩

theorem head_beside (u : Fin 256) (e : Fin 64) : head (beside u e) = head u := Fin.ext (by show (64 * (u.val / 64) + e.val) / 64 = u.val / 64; omega)
theorem lane_beside (u : Fin 256) (e : Fin 64) : lane (beside u e) = e := Fin.ext (by show (64 * (u.val / 64) + e.val) % 64 = e.val; omega)

/-- One where two entries are in the same head. -/
def ones (a b : Fin 256) : EReal := if a.val / 64 = b.val / 64 then 1 else 0

/-- The arrays that go into the mixture and its gradient, row by row. -/
structure Input where
  p : Fin 8192 → Fin 256 → EReal
  o : Fin 3 → Fin 8192 → Fin 4 → Fin 64 → EReal
  l : Fin 3 → Fin 8192 → Fin 4 → EReal
  x : Fin 8192 → Fin 1024 → EReal
  w : Fin 1024 → Fin 1024 → EReal
  g : Fin 1024 → EReal
  d : Fin 8192 → Fin 1024 → EReal

namespace Input

variable (A : Input) (s : Fin 8192)

def L : Rows := fun i u => A.l i s (head u)
def O : Rows := fun i u => A.o i s (head u) (lane u)
def cat : Fin 1024 → EReal := Out1.cat (A.p s) (A.L s) (A.O s)
def mix : Fin 1024 → EReal := Out1.mix (A.cat s) A.w
def xo : Fin 1024 → EReal := out (A.x s) (A.mix s) A.g
def dmix : Fin 1024 → EReal := Out1.dmix (A.d s) (A.mix s) A.g
def dcat : Fin 1024 → EReal := Out1.dcat (A.dmix s) A.w
def D : Rows := third (A.dcat s)
def dpool : Fin 256 → EReal := first (A.dcat s)
def dout : Fin 3 → Fin 256 → EReal := Out1.dout (A.D s) (A.L s)
def cterm : Fin 3 → Fin 256 → EReal := Out1.cterm ones (A.D s) (A.L s) (A.O s)
def dgain (j : Fin 1024) : EReal := ∑ s, Out1.dgain (A.d s) (A.mix s) j

end Input

/-- The arrays as the programs are given them. -/
def ofArrays (p : FVec Ideal Cert.OutRefIdeal.S1x8192x256 .f32) (o0 o1 o2 : FVec Ideal Cert.OutRefIdeal.S1x8192x4x64 .f32)
    (l0 l1 l2 : FVec Ideal Cert.OutRefIdeal.S1x8192x4 .f32) (x : FVec Ideal Cert.OutRefIdeal.S1x8192x1024 .f32)
    (w : FVec Ideal Cert.OutRefIdeal.S1x1024x1024 .f32) (g : FVec Ideal Cert.OutRefIdeal.S1x1024 .f32)
    (d : FVec Ideal Cert.OutRefIdeal.S1x8192x1024 .f32) : Input where
  p s k := p (ix3 0 s k)
  o i s h e := (![o0, o1, o2] : Fin 3 → FVec Ideal Cert.OutRefIdeal.S1x8192x4x64 .f32) i (ix4 0 s h e)
  l i s h := (![l0, l1, l2] : Fin 3 → FVec Ideal Cert.OutRefIdeal.S1x8192x4 .f32) i (ix3 0 s h)
  x s k := x (ix3 0 s k)
  w k j := w (ix3 0 k j)
  g k := g (ix2 0 k)
  d s k := d (ix3 0 s k)

/-- A group's part of the sum over a head of the products of the shares' gradients and the outputs. -/
def share (D O : Rows) (i : Fin 3) (u : Fin 256) : EReal := ∑ e, O i (beside u e) * D i (beside u e)

def den (L : Rows) (u : Fin 256) : EReal := part L 0 u + part L 1 u + part L 2 u

/-- The gradient in a group's logit, as differentiating the shares gives it. -/
def dlogit (D L O : Rows) (i : Fin 3) (u : Fin 256) : EReal :=
  (Ideal.div (share D O i u) (den L u) + -∑ k, share D O k u * Ideal.div 1 (den L u * den L u) * part L k u) * part L i u

/-- That gradient less the sum over a head of the products of the output and its gradient. -/
def cback (D L O : Rows) (i : Fin 3) (u : Fin 256) : EReal :=
  dlogit D L O i u - ∑ e, dout D L i (beside u e) * O i (beside u e)

@[pointwise] theorem sum_ends {m n : Nat} (h : (⟨4, ![1, m, n, 1]⟩ : Shape).ReducesTo [0, 3] ⟨2, ![m, n]⟩)
    (v : (⟨4, ![1, m, n, 1]⟩ : Shape).Idx → EReal) (init : EReal) (j : (⟨2, ![m, n]⟩ : Shape).Idx) :
    Ideal.hostReduceAdd h v init j = init + v (ix4 0 ⟨(j 0).val, (j 0).isLt⟩ ⟨(j 1).val, (j 1).isLt⟩ 0) := by
  refine UnitSum.host_sum_one h v init j _ fun k => ⟨fun e => ?_, ?_⟩
  · funext a; apply Fin.ext
    match a with
    | ⟨0, _⟩ => have h0 : (k 0).val < 1 := (k 0).isLt
                show (k 0).val = 0; omega
    | ⟨1, _⟩ => exact congrArg Fin.val (congrFun e 0)
    | ⟨2, _⟩ => exact congrArg Fin.val (congrFun e 1)
    | ⟨3, _⟩ => have h0 : (k 3).val < 1 := (k 3).isLt
                show (k 3).val = 0; omega
  · rintro rfl
    funext a; apply Fin.ext
    match a with
    | ⟨0, _⟩ => rfl
    | ⟨1, _⟩ => rfl

@[pointwise] theorem sum_front {m n : Nat} (h : (⟨4, ![1, 1, m, n]⟩ : Shape).ReducesTo [0, 1] ⟨2, ![m, n]⟩)
    (v : (⟨4, ![1, 1, m, n]⟩ : Shape).Idx → EReal) (init : EReal) (j : (⟨2, ![m, n]⟩ : Shape).Idx) :
    Ideal.hostReduceAdd h v init j = init + v (ix4 0 0 ⟨(j 0).val, (j 0).isLt⟩ ⟨(j 1).val, (j 1).isLt⟩) := by
  refine UnitSum.host_sum_one h v init j _ fun k => ⟨fun e => ?_, ?_⟩
  · funext a; apply Fin.ext
    match a with
    | ⟨0, _⟩ => have h0 : (k 0).val < 1 := (k 0).isLt
                show (k 0).val = 0; omega
    | ⟨1, _⟩ => have h0 : (k 1).val < 1 := (k 1).isLt
                show (k 1).val = 0; omega
    | ⟨2, _⟩ => exact congrArg Fin.val (congrFun e 0)
    | ⟨3, _⟩ => exact congrArg Fin.val (congrFun e 1)
  · rintro rfl
    funext a; apply Fin.ext
    match a with
    | ⟨0, _⟩ => rfl
    | ⟨1, _⟩ => rfl

open Cert.OutRefIdeal.Read

variable (x0 : FVec Ideal Cert.OutRefIdeal.S1x8192x256 .f32) (x1 x2 x3 : FVec Ideal Cert.OutRefIdeal.S1x8192x4x64 .f32)
    (x4 x5 x6 : FVec Ideal Cert.OutRefIdeal.S1x8192x4 .f32) (x7 : FVec Ideal Cert.OutRefIdeal.S1x8192x1024 .f32)
    (x8 : FVec Ideal Cert.OutRefIdeal.S1x1024x1024 .f32) (x9 : FVec Ideal Cert.OutRefIdeal.S1x1024 .f32)
    (x10 : FVec Ideal Cert.OutRefIdeal.S1x8192x1024 .f32) (s : Fin 8192) (u : Fin 256)

local notation "𝔸" => ofArrays x0 x1 x2 x3 x4 x5 x6 x7 x8 x9 x10

theorem low_eq : Ideal.ofBits .f32 0xFF800000#32 = (⊥ : EReal) := by
  simp [Ideal.ofBits, Ideal.ieee]

theorem ref_top : val_main_v12 (F := Ideal) x4 x5 x6 (ix3 0 s (head u)) = top ((𝔸).L s) u := by
  pointwise [val_main_v12, val_main_v11, val_main_v5, val_main_v4, val_main_v3, val_main_v2, val_main_v1, val_main_cst_0, val_main_cst_2]
  rw [low_eq, bot_sup_eq, show (Finset.univ : Finset (Fin 3)) = {0, 1, 2} from rfl, Finset.fold_insert (by decide), Finset.fold_insert (by decide),
    Finset.fold_singleton]
  show max (x4 (ix3 0 s (head u))) (max (x5 (ix3 0 s (head u))) (max (x6 (ix3 0 s (head u))) ⊥)) = _
  rw [sup_bot_eq, ← sup_assoc]
  rfl

theorem ref_part (i : Fin 3) : val_main_v25 (F := Ideal) x4 x5 x6 (ix4 i 0 s (head u)) = part ((𝔸).L s) i u := by
  pointwise [val_main_v25, val_main_v24, val_main_v23, val_main_v22]
  rw [ref_top x0 x1 x2 x3 x4 x5 x6 x7 x8 x9 x10]
  fin_cases i <;> pointwise [val_main_v4, val_main_v3, val_main_v2, val_main_v1] <;> rfl

theorem ref_den : val_main_v27 (F := Ideal) x4 x5 x6 (ix4 0 0 s (head u)) = part ((𝔸).L s) 0 u + part ((𝔸).L s) 1 u + part ((𝔸).L s) 2 u := by
  pointwise [val_main_v27, val_main_v26, val_main_cst_8]
  simp only [ref_part x0 x1 x2 x3 x4 x5 x6 x7 x8 x9 x10]
  try rw [zero_add]
  exact Fin.sum_univ_three _

theorem ref_weight (i : Fin 3) : val_main_v29 (F := Ideal) x4 x5 x6 (ix4 i 0 s (head u)) = weight ((𝔸).L s) i u := by
  pointwise [val_main_v29, val_main_v28]
  rw [ref_part x0 x1 x2 x3 x4 x5 x6 x7 x8 x9 x10, ref_den x0 x1 x2 x3 x4 x5 x6 x7 x8 x9 x10]
  rfl

theorem ref_o0 : val_main_v37 (F := Ideal) x1 x4 x5 x6 (ix4 0 s (head u) (lane u)) = shared ((𝔸).L s) ((𝔸).O s) 0 u := by
  pointwise [val_main_v37, val_main_v36, val_main_v35, val_main_v34, val_main_v33]
  rw [ref_weight x0 x1 x2 x3 x4 x5 x6 x7 x8 x9 x10]
  rfl

theorem ref_o1 : val_main_v42 (F := Ideal) x2 x4 x5 x6 (ix4 0 s (head u) (lane u)) = shared ((𝔸).L s) ((𝔸).O s) 1 u := by
  pointwise [val_main_v42, val_main_v41, val_main_v40, val_main_v39, val_main_v38]
  rw [ref_weight x0 x1 x2 x3 x4 x5 x6 x7 x8 x9 x10]
  rfl

theorem ref_o2 : val_main_v47 (F := Ideal) x3 x4 x5 x6 (ix4 0 s (head u) (lane u)) = shared ((𝔸).L s) ((𝔸).O s) 2 u := by
  pointwise [val_main_v47, val_main_v46, val_main_v45, val_main_v44, val_main_v43]
  rw [ref_weight x0 x1 x2 x3 x4 x5 x6 x7 x8 x9 x10]
  rfl

theorem ref_cat (k : Fin 1024) : val_main_v50 (F := Ideal) x0 x1 x2 x3 x4 x5 x6 (ix3 0 s k) = (𝔸).cat s k := by
  pointwise [val_main_v50, val_main_v49, val_main_v48]
  unfold Input.cat Out1.cat
  by_cases h : k.val < 256
  · rw [dif_pos h, dif_pos h]
    rfl
  rw [dif_neg h, dif_neg h]
  by_cases h1 : k.val - 256 < 256
  · rw [dif_pos (by omega), dif_pos h1]
    exact ref_o0 x0 x1 x2 x3 x4 x5 x6 x7 x8 x9 x10 s ⟨k.val - 256, h1⟩
  rw [dif_neg (by omega), dif_neg h1]
  by_cases h2 : k.val - 256 - 256 < 256
  · rw [dif_pos (by omega), dif_pos h2, ← ref_o1 x0 x1 x2 x3 x4 x5 x6 x7 x8 x9 x10 s ⟨k.val - 256 - 256, h2⟩]
    refine congrArg₂ (fun a b => val_main_v42 (F := Ideal) x2 x4 x5 x6 (ix4 0 s a b)) (Fin.ext ?_) (Fin.ext ?_) <;> simp only [head, lane] <;> omega
  · rw [dif_neg (by omega), dif_neg h2, ← ref_o2 x0 x1 x2 x3 x4 x5 x6 x7 x8 x9 x10 s ⟨k.val - 256 - 256 - 256, by omega⟩]
    refine congrArg₂ (fun a b => val_main_v47 (F := Ideal) x3 x4 x5 x6 (ix4 0 s a b)) (Fin.ext ?_) (Fin.ext ?_) <;> simp only [head, lane] <;> omega

theorem ref_mix (j : Fin 1024) : val_main_v53 (F := Ideal) x0 x1 x2 x3 x4 x5 x6 x8 (ix3 0 s j) = (𝔸).mix s j := by
  pointwise [val_main_v53, val_main_v52, val_main_v51, val_main_v0, val_main_cst]
  simp only [ref_cat x0 x1 x2 x3 x4 x5 x6 x7 x8 x9 x10]
  try rw [add_zero]
  rfl

theorem ref_sq : val_main_v61 (F := Ideal) x0 x1 x2 x3 x4 x5 x6 x8 (ix3 0 s 0) = RowNorm.meanSq ((𝔸).mix s) := by
  pointwise [val_main_v61, val_main_v60, val_main_v59, val_main_v58, val_main_v57, val_main_v56, val_main_v55, val_main_cst_10, val_main_cst_11,
    val_main_cst_12]
  simp only [ref_mix x0 x1 x2 x3 x4 x5 x6 x7 x8 x9 x10]
  rfl

theorem ref_inv : val_main_v62 (F := Ideal) x0 x1 x2 x3 x4 x5 x6 x8 (ix3 0 s 0) = RowNorm.inv ((𝔸).mix s) := by
  pointwise [val_main_v62]
  rw [ref_sq x0 x1 x2 x3 x4 x5 x6 x7 x8 x9 x10]
  rfl

theorem ref_mn (j : Fin 1024) : val_main_v67 (F := Ideal) x0 x1 x2 x3 x4 x5 x6 x8 (ix3 0 s j) = (𝔸).mix s j * RowNorm.inv ((𝔸).mix s) := by
  pointwise [val_main_v67, val_main_v66]
  rw [ref_inv x0 x1 x2 x3 x4 x5 x6 x7 x8 x9 x10, ref_mix x0 x1 x2 x3 x4 x5 x6 x7 x8 x9 x10]

theorem ref_xo (j : Fin 1024) : val_main_v71 (F := Ideal) x0 x1 x2 x3 x4 x5 x6 x7 x8 x9 (ix3 0 s j) = (𝔸).xo s j := by
  pointwise [val_main_v71, val_main_v70, val_main_v69, val_main_v68, val_main_v54]
  rw [ref_mn x0 x1 x2 x3 x4 x5 x6 x7 x8 x9 x10]
  rfl

theorem ref_dgain (j : Fin 1024) : val_main_v93 (F := Ideal) x0 x1 x2 x3 x4 x5 x6 x8 x10 (ix2 0 j) = (𝔸).dgain j := by
  pointwise [val_main_v93, val_main_v77, val_main_v74, val_main_v73, val_main_v72, val_main_cst_14, val_main_cst_15]
  refine Finset.sum_congr rfl fun s _ => ?_
  rw [ref_mn x0 x1 x2 x3 x4 x5 x6 x7 x8 x9 x10, mul_comm]
  rfl

theorem ref_dmix (j : Fin 1024) : val_main_v92 (F := Ideal) x0 x1 x2 x3 x4 x5 x6 x8 x9 x10 (ix3 0 s j) = (𝔸).dmix s j := by
  pointwise [val_main_v92, val_main_v91, val_main_v90, val_main_v89, val_main_v88, val_main_v87, val_main_v86, val_main_v85, val_main_v84,
    val_main_v83, val_main_v82, val_main_v81, val_main_v80, val_main_v79, val_main_v78, val_main_v76, val_main_v75, val_main_v68, val_main_v65,
    val_main_v64, val_main_v63, val_main_v54, val_main_cst_13, val_main_cst_16, val_main_cst_17, val_main_cst_18]
  simp only [ref_sq x0 x1 x2 x3 x4 x5 x6 x7 x8 x9 x10, ref_inv x0 x1 x2 x3 x4 x5 x6 x7 x8 x9 x10, ref_mix x0 x1 x2 x3 x4 x5 x6 x7 x8 x9 x10]
  unfold Input.dmix Out1.dmix
  rw [← RowNorm.grad_eq, add_assoc]
  rfl

theorem ref_dcat (k : Fin 1024) : val_main_v94 (F := Ideal) x0 x1 x2 x3 x4 x5 x6 x8 x9 x10 (ix3 0 s k) = (𝔸).dcat s k := by
  pointwise [val_main_v94, val_main_v51]
  simp only [ref_dmix x0 x1 x2 x3 x4 x5 x6 x7 x8 x9 x10]
  rfl

theorem ref_dpool : val_main_v95 (F := Ideal) x0 x1 x2 x3 x4 x5 x6 x8 x9 x10 (ix3 0 s u) = first ((𝔸).dcat s) u := by
  pointwise [val_main_v95]
  rw [ref_dcat x0 x1 x2 x3 x4 x5 x6 x7 x8 x9 x10]
  try rfl

theorem ref_D0 : val_main_v98 (F := Ideal) x0 x1 x2 x3 x4 x5 x6 x8 x9 x10 (ix4 0 s (head u) (lane u)) = (𝔸).D s 0 u := by
  pointwise [val_main_v98, val_main_v97, val_main_v96]
  rw [ref_dcat x0 x1 x2 x3 x4 x5 x6 x7 x8 x9 x10]
  refine congrArg ((𝔸).dcat s) (Fin.ext ?_)
  show _ = 256 * (0 + 1) + u.val
  simp only [head, lane]
  omega

theorem ref_D1 : val_main_v99 (F := Ideal) x0 x1 x2 x3 x4 x5 x6 x8 x9 x10 (ix4 0 s (head u) (lane u)) = (𝔸).D s 1 u := by
  pointwise [val_main_v99, val_main_v97, val_main_v96]
  rw [ref_dcat x0 x1 x2 x3 x4 x5 x6 x7 x8 x9 x10]
  refine congrArg ((𝔸).dcat s) (Fin.ext ?_)
  show _ = 256 * (1 + 1) + u.val
  simp only [head, lane]
  omega

theorem ref_D2 : val_main_v100 (F := Ideal) x0 x1 x2 x3 x4 x5 x6 x8 x9 x10 (ix4 0 s (head u) (lane u)) = (𝔸).D s 2 u := by
  pointwise [val_main_v100, val_main_v97, val_main_v96]
  rw [ref_dcat x0 x1 x2 x3 x4 x5 x6 x7 x8 x9 x10]
  refine congrArg ((𝔸).dcat s) (Fin.ext ?_)
  show _ = 256 * (2 + 1) + u.val
  simp only [head, lane]
  omega

theorem ref_s0 : val_main_v125 (F := Ideal) x0 x1 x2 x3 x4 x5 x6 x8 x9 x10 (ix2 s (head u)) = share ((𝔸).D s) ((𝔸).O s) 0 u := by
  pointwise [val_main_v125, val_main_v122, val_main_v121, val_main_v120, val_main_cst_25, val_main_cst_26]
  refine Finset.sum_congr rfl fun e _ => ?_
  have h := ref_D0 x0 x1 x2 x3 x4 x5 x6 x7 x8 x9 x10 s (beside u e)
  rw [head_beside, lane_beside] at h
  rw [h]
  unfold Input.O
  rw [head_beside, lane_beside]
  rfl

theorem ref_s1 : val_main_v115 (F := Ideal) x0 x1 x2 x3 x4 x5 x6 x8 x9 x10 (ix2 s (head u)) = share ((𝔸).D s) ((𝔸).O s) 1 u := by
  pointwise [val_main_v115, val_main_v112, val_main_v111, val_main_v110, val_main_cst_22, val_main_cst_23]
  refine Finset.sum_congr rfl fun e _ => ?_
  have h := ref_D1 x0 x1 x2 x3 x4 x5 x6 x7 x8 x9 x10 s (beside u e)
  rw [head_beside, lane_beside] at h
  rw [h]
  unfold Input.O
  rw [head_beside, lane_beside]
  rfl

theorem ref_s2 : val_main_v106 (F := Ideal) x0 x1 x2 x3 x4 x5 x6 x8 x9 x10 (ix2 s (head u)) = share ((𝔸).D s) ((𝔸).O s) 2 u := by
  pointwise [val_main_v106, val_main_v103, val_main_v102, val_main_v101, val_main_cst_19, val_main_cst_20]
  refine Finset.sum_congr rfl fun e _ => ?_
  have h := ref_D2 x0 x1 x2 x3 x4 x5 x6 x7 x8 x9 x10 s (beside u e)
  rw [head_beside, lane_beside] at h
  rw [h]
  unfold Input.O
  rw [head_beside, lane_beside]
  rfl

theorem ref_share (i : Fin 3) : val_main_v129 (F := Ideal) x0 x1 x2 x3 x4 x5 x6 x8 x9 x10 (ix4 i 0 s (head u)) = share ((𝔸).D s) ((𝔸).O s) i u := by
  pointwise [val_main_v129, val_main_v128, val_main_v127, val_main_v126, val_main_v119, val_main_v118, val_main_v117, val_main_v116,
    val_main_v109, val_main_v108, val_main_v107, val_main_cst_21, val_main_cst_24, val_main_cst_27]
  rw [ref_s0 x0 x1 x2 x3 x4 x5 x6 x7 x8 x9 x10, ref_s1 x0 x1 x2 x3 x4 x5 x6 x7 x8 x9 x10, ref_s2 x0 x1 x2 x3 x4 x5 x6 x7 x8 x9 x10]
  fin_cases i <;> simp

theorem ref_dlogit (i : Fin 3) : val_main_v142 (F := Ideal) x0 x1 x2 x3 x4 x5 x6 x8 x9 x10 (ix4 i 0 s (head u))
    = dlogit ((𝔸).D s) ((𝔸).L s) ((𝔸).O s) i u := by
  pointwise [val_main_v142, val_main_v141, val_main_v140, val_main_v139, val_main_v138, val_main_v137, val_main_v136, val_main_v135, val_main_v134,
    val_main_v133, val_main_v132, val_main_v131, val_main_v130, val_main_v32, val_main_v31, val_main_v30, val_main_cst_9, val_main_cst_28, val_main_cst_29]
  simp only [ref_share x0 x1 x2 x3 x4 x5 x6 x7 x8 x9 x10, ref_part x0 x1 x2 x3 x4 x5 x6 x7 x8 x9 x10, ref_den x0 x1 x2 x3 x4 x5 x6 x7 x8 x9 x10]
  rfl

theorem ref_do0 : val_main_v124 (F := Ideal) x0 x1 x2 x3 x4 x5 x6 x8 x9 x10 (ix4 0 s (head u) (lane u)) = dout ((𝔸).D s) ((𝔸).L s) 0 u := by
  pointwise [val_main_v124, val_main_v123, val_main_v35, val_main_v34, val_main_v33]
  rw [ref_weight x0 x1 x2 x3 x4 x5 x6 x7 x8 x9 x10, ref_D0 x0 x1 x2 x3 x4 x5 x6 x7 x8 x9 x10]
  rfl

theorem ref_do1 : val_main_v114 (F := Ideal) x0 x1 x2 x3 x4 x5 x6 x8 x9 x10 (ix4 0 s (head u) (lane u)) = dout ((𝔸).D s) ((𝔸).L s) 1 u := by
  pointwise [val_main_v114, val_main_v113, val_main_v40, val_main_v39, val_main_v38]
  rw [ref_weight x0 x1 x2 x3 x4 x5 x6 x7 x8 x9 x10, ref_D1 x0 x1 x2 x3 x4 x5 x6 x7 x8 x9 x10]
  rfl

theorem ref_do2 : val_main_v105 (F := Ideal) x0 x1 x2 x3 x4 x5 x6 x8 x9 x10 (ix4 0 s (head u) (lane u)) = dout ((𝔸).D s) ((𝔸).L s) 2 u := by
  pointwise [val_main_v105, val_main_v104, val_main_v45, val_main_v44, val_main_v43]
  rw [ref_weight x0 x1 x2 x3 x4 x5 x6 x7 x8 x9 x10, ref_D2 x0 x1 x2 x3 x4 x5 x6 x7 x8 x9 x10]
  rfl

theorem ref_c0 : val_main_v161 (F := Ideal) x0 x1 x2 x3 x4 x5 x6 x8 x9 x10 (ix2 s u) = cback ((𝔸).D s) ((𝔸).L s) ((𝔸).O s) 0 u := by
  pointwise [val_main_v161, val_main_v160, val_main_v159, val_main_v158, val_main_v157, val_main_v156, val_main_v144, val_main_v143, val_main_cst_30]
  refine congrArg₂ (fun a b : EReal => a - b) ?_ (Finset.sum_congr rfl fun e _ => ?_)
  · exact ref_dlogit x0 x1 x2 x3 x4 x5 x6 x7 x8 x9 x10 s u 0
  · have h := ref_do0 x0 x1 x2 x3 x4 x5 x6 x7 x8 x9 x10 s (beside u e)
    rw [head_beside, lane_beside] at h
    refine congrArg₂ (fun a b : EReal => a * b) h ?_
    unfold Input.O
    rw [head_beside, lane_beside]
    rfl

theorem ref_c1 : val_main_v167 (F := Ideal) x0 x1 x2 x3 x4 x5 x6 x8 x9 x10 (ix2 s u) = cback ((𝔸).D s) ((𝔸).L s) ((𝔸).O s) 1 u := by
  pointwise [val_main_v167, val_main_v166, val_main_v165, val_main_v164, val_main_v163, val_main_v162, val_main_v146, val_main_v145, val_main_cst_31]
  refine congrArg₂ (fun a b : EReal => a - b) ?_ (Finset.sum_congr rfl fun e _ => ?_)
  · exact ref_dlogit x0 x1 x2 x3 x4 x5 x6 x7 x8 x9 x10 s u 1
  · have h := ref_do1 x0 x1 x2 x3 x4 x5 x6 x7 x8 x9 x10 s (beside u e)
    rw [head_beside, lane_beside] at h
    refine congrArg₂ (fun a b : EReal => a * b) h ?_
    unfold Input.O
    rw [head_beside, lane_beside]
    rfl

theorem ref_c2 : val_main_v173 (F := Ideal) x0 x1 x2 x3 x4 x5 x6 x8 x9 x10 (ix2 s u) = cback ((𝔸).D s) ((𝔸).L s) ((𝔸).O s) 2 u := by
  pointwise [val_main_v173, val_main_v172, val_main_v171, val_main_v170, val_main_v169, val_main_v168, val_main_v148, val_main_v147, val_main_cst_32]
  refine congrArg₂ (fun a b : EReal => a - b) ?_ (Finset.sum_congr rfl fun e _ => ?_)
  · exact ref_dlogit x0 x1 x2 x3 x4 x5 x6 x7 x8 x9 x10 s u 2
  · have h := ref_do2 x0 x1 x2 x3 x4 x5 x6 x7 x8 x9 x10 s (beside u e)
    rw [head_beside, lane_beside] at h
    refine congrArg₂ (fun a b : EReal => a * b) h ?_
    unfold Input.O
    rw [head_beside, lane_beside]
    rfl

end Cert.Out1
-- ==== Proof.OutGrad.lean ====
module

public import proofs.«01_k».proof.Proof.OutRef
public import proofs.«01_k».proof.Proof.FfnRef
import Mathlib.Tactic.FieldSimp
import Mathlib.Tactic.Ring
import Mathlib.Tactic.Positivity
import Mathlib.Tactic.FinCases

/-! # The gradient in the groups' logits at real numbers: one sum over a head serves all three -/

@[expose] public section

set_option maxRecDepth 16384

noncomputable section

open Idealize.ShloMosaic Idealize.ShloMosaic.TcCoe Idealize.SL.Sem

namespace Cert.Out1

open Cert.Ffn1 (IsReal isReal_inv)

theorem sum_ones (f : Fin 256 → EReal) (u : Fin 256) : ∑ a, f a * ones a u = ∑ e, f (beside u e) := by
  rw [Fin.sum_univ_tiles (M := EReal) 4 64 rfl, Finset.sum_eq_single (head u)]
  · refine Finset.sum_congr rfl fun e _ => ?_
    have hb : (⟨(head u).val * 64 + e.val, by have := (head u).isLt; omega⟩ : Fin 256) = beside u e :=
      Fin.ext (by show u.val / 64 * 64 + e.val = 64 * (u.val / 64) + e.val; omega)
    have ho : ones (beside u e) u = 1 := if_pos (congrArg Fin.val (head_beside u e))
    rw [hb, ho, mul_one]
  · intro b _ hb
    refine Finset.sum_eq_zero fun e _ => ?_
    have ho : ones ⟨b.val * 64 + e.val, by omega⟩ u = 0 := if_neg (by
      have hn : b.val ≠ u.val / 64 := fun h => hb (Fin.ext h)
      show ¬ (b.val * 64 + e.val) / 64 = u.val / 64
      omega)
    rw [ho, mul_zero]
  · exact fun h => absurd (Finset.mem_univ _) h

theorem real_max {y z : EReal} (hy : IsReal y) (hz : IsReal z) : IsReal (max y z) := by
  rcases le_total y z with h | h
  · rwa [max_eq_right h]
  · rwa [max_eq_left h]

theorem part_pos {L : Rows} (hL : ∀ i u, IsReal (L i u)) (u : Fin 256) (i : Fin 3) : ∃ q : ℝ, 0 < q ∧ part L i u = (q : EReal) := by
  obtain ⟨q, hq⟩ := (hL i u).sub (real_max (real_max (hL 0 u) (hL 1 u)) (hL 2 u))
  refine ⟨Real.exp q, Real.exp_pos q, ?_⟩
  unfold part top
  rw [hq]
  rfl

theorem weight_pos {L : Rows} (hL : ∀ i u, IsReal (L i u)) (u : Fin 256) (i : Fin 3) : IsReal (weight L i u) := by
  obtain ⟨a, ha, ea⟩ := part_pos hL u 0
  obtain ⟨b, hb, eb⟩ := part_pos hL u 1
  obtain ⟨c, hc, ec⟩ := part_pos hL u 2
  obtain ⟨q, _, eq⟩ := part_pos hL u i
  have hs : a + b + c ≠ 0 := by positivity
  unfold weight
  rw [ea, eb, ec, eq, ← EReal.coe_add, ← EReal.coe_add, RowNorm.div_real _ hs]
  exact IsReal.mul ⟨_, rfl⟩ ⟨_, rfl⟩

/-- The kernel's form of the gradient in a logit is the derivative's, less what the outputs' own products give. -/
theorem cterm_eq {D L O : Rows} (hD : ∀ i u, IsReal (D i u)) (hL : ∀ i u, IsReal (L i u)) (hO : ∀ i u, IsReal (O i u))
    (hh : ∀ i u e, L i (beside u e) = L i u) (i : Fin 3) (u : Fin 256) : cterm ones D L O i u = cback D L O i u := by
  have hw : ∀ i e, weight L i (beside u e) = weight L i u := fun i e => by
    unfold weight part top
    simp only [hh]
  have hp : ∀ x, IsReal (prod D L O x) := fun x =>
    (((hD 0 x).mul ((hO 0 x).mul (weight_pos hL x 0))).add ((hD 1 x).mul ((hO 1 x).mul (weight_pos hL x 1)))).add
      ((hD 2 x).mul ((hO 2 x).mul (weight_pos hL x 2)))
  have ht : total ones (prod D L O) u = ∑ e, prod D L O (beside u e) := by
    unfold total
    rw [sum_ones]
    have hz : ∀ x, (prod D L O x - prod D L O x) * ones x u = 0 := fun x => by
      obtain ⟨p, hp⟩ := hp x
      rw [hp, ← EReal.coe_sub, sub_self, EReal.coe_zero, zero_mul]
    rw [Finset.sum_congr rfl fun x _ => hz x, Finset.sum_const_zero, add_zero]
  choose d ed using hD
  choose o eo using hO
  choose q hq eq using fun i => part_pos hL u i
  have hs : q 0 + q 1 + q 2 ≠ 0 := by have := hq 0; have := hq 1; have := hq 2; positivity
  have ew : ∀ i, weight L i u = ((q i * (q 0 + q 1 + q 2)⁻¹ : ℝ) : EReal) := fun i => by
    unfold weight
    rw [eq, eq, eq, eq, ← EReal.coe_add, ← EReal.coe_add, RowNorm.div_real _ hs, EReal.coe_mul]
  have es : ∀ i, share D O i u = ((∑ e, o i (beside u e) * d i (beside u e) : ℝ) : EReal) := fun i => by
    unfold share
    rw [RowNorm.coe_sum]
    exact Finset.sum_congr rfl fun e _ => by rw [ed, eo, EReal.coe_mul]
  have eo' : ∀ i, ∑ e, dout D L i (beside u e) * O i (beside u e)
      = ((q i * (q 0 + q 1 + q 2)⁻¹ * ∑ e, o i (beside u e) * d i (beside u e) : ℝ) : EReal) := fun i => by
    rw [Finset.mul_sum, RowNorm.coe_sum]
    refine Finset.sum_congr rfl fun e _ => ?_
    unfold dout
    rw [hw, ew, ed, eo, ← EReal.coe_mul, ← EReal.coe_mul]
    congr 1
    ring
  have et : total ones (prod D L O) u = ((∑ k : Fin 3, q k * (q 0 + q 1 + q 2)⁻¹ * ∑ e, o k (beside u e) * d k (beside u e) : ℝ) : EReal) := by
    rw [ht, Fin.sum_univ_three, Finset.mul_sum, Finset.mul_sum, Finset.mul_sum, ← Finset.sum_add_distrib, ← Finset.sum_add_distrib, RowNorm.coe_sum]
    refine Finset.sum_congr rfl fun e _ => ?_
    unfold prod shared
    rw [hw, hw, hw, ew, ew, ew, ed, ed, ed, eo, eo, eo]
    simp only [← EReal.coe_mul, ← EReal.coe_add]
    congr 1
    ring
  unfold cterm cback dlogit den
  rw [et, eo', ew]
  simp only [Fin.sum_univ_three, es, eq]
  simp only [← EReal.coe_mul, ← EReal.coe_add]
  rw [RowNorm.div_real _ hs, RowNorm.div_real _ (mul_ne_zero hs hs), ← EReal.coe_one]
  simp only [← EReal.coe_mul, ← EReal.coe_add, ← EReal.coe_neg, ← EReal.coe_sub, zero_sub]
  generalize (∑ e, o 0 (beside u e) * d 0 (beside u e)) = a
  generalize (∑ e, o 1 (beside u e) * d 1 (beside u e)) = b
  generalize (∑ e, o 2 (beside u e) * d 2 (beside u e)) = c
  generalize (∑ e, o i (beside u e) * d i (beside u e)) = z
  congr 1
  field_simp
  ring

theorem real_grad {y e : Fin 1024 → EReal} (he : ∀ k, IsReal (e k)) (j : Fin 1024) : IsReal (RowNorm.grad y e j) := by
  obtain ⟨ε, hε, hb⟩ := RowNorm.eps
  have hv : RowNorm.meanSq y = RowNorm.den 1024 ε y := by
    unfold RowNorm.meanSq RowNorm.den
    rw [RowNorm.width, hb]
  rcases RowNorm.den_cases (n := 1024) (by norm_num) hε y with ht | ⟨a, w, -, rfl, -⟩
  · have hi : RowNorm.inv y = 0 := by
      unfold RowNorm.inv
      rw [hv, ht]
      rfl
    unfold RowNorm.grad
    rw [hi, zero_mul]
    exact ⟨0, rfl⟩
  · exact Cert.Ffn1.isReal_grad (fun k => ⟨_, rfl⟩) he j

/-- Where the outputs, the logits, the matrix, the gain and the arriving gradient are real numbers. -/
structure Reals (A : Input) : Prop where
  o i s h e : IsReal (A.o i s h e)
  l i s h : IsReal (A.l i s h)
  w k j : IsReal (A.w k j)
  g k : IsReal (A.g k)
  d s k : IsReal (A.d s k)

theorem Reals.cterm {A : Input} (h : Reals A) (s : Fin 8192) (i : Fin 3) (u : Fin 256) :
    A.cterm s i u = cback (A.D s) (A.L s) (A.O s) i u :=
  cterm_eq (fun _ _ => IsReal.sum fun j => (real_grad (fun k => (h.d s k).mul (h.g k)) j).mul (h.w _ j)) (fun _ _ => h.l _ _ _) (fun _ _ => h.o _ _ _ _)
    (fun i u e => congrArg (A.l i s) (head_beside u e)) i u

end Cert.Out1
-- ==== Proof.OutFwd.lean ====
module

public import proofs.«01_k».proof.Proof.Gen.OutIdeal.Frame.Fold0
public import proofs.«01_k».proof.Proof.OutGrad
public import Idealize.ShloMosaic.Lib.Pipeline.ValueKit
public import Idealize.ShloMosaic.Lib.Claim

/-! # The mixture program: what the first call reads and leaves -/

@[expose] public section

set_option maxRecDepth 16384

noncomputable section

open Idealize.ShloMosaic Idealize.ShloMosaic.TcCoe Idealize.SL.Sem
open Idealize.ShloMosaic.Pipeline (Dat)

namespace Cert.OutArrays

open Cert.OutIdeal Cert.OutIdeal.Gen Cert.Out1

variable (m : (ℓ : Loc nD τ sig) → Buf (Elt Ideal) ℓ) (ρ : Dev nD → PrngReg) (c : Dev nD)

/-- The program's arguments. -/
abbrev inp : Input := ofArrays (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem p_host (s : Fin 8192) (k : Fin 256) : W1 m ρ c (Proc.devRef .tc main_v24) (ix2 s k) = (inp m c).p s k := by
  unfold W1
  entry_read
  pointwise
  rfl

theorem o0_host (s : Fin 8192) (k : Fin 256) : W1 m ρ c (Proc.devRef .tc main_v0) (ix2 s k) = (inp m c).O s 0 k := by
  unfold W1
  entry_read
  pointwise
  rfl

theorem o1_host (s : Fin 8192) (k : Fin 256) : W1 m ρ c (Proc.devRef .tc main_v1) (ix2 s k) = (inp m c).O s 1 k := by
  unfold W1
  entry_read
  pointwise
  rfl

theorem o2_host (s : Fin 8192) (k : Fin 256) : W1 m ρ c (Proc.devRef .tc main_v2) (ix2 s k) = (inp m c).O s 2 k := by
  unfold W1
  entry_read
  pointwise
  rfl

theorem l0_host (s : Fin 8192) (k : Fin 256) : W1 m ρ c (Proc.devRef .tc main_v5) (ix2 s k) = (inp m c).L s 0 k := by
  unfold W1
  entry_read
  pointwise
  rfl

theorem l1_host (s : Fin 8192) (k : Fin 256) : W1 m ρ c (Proc.devRef .tc main_v8) (ix2 s k) = (inp m c).L s 1 k := by
  unfold W1
  entry_read
  pointwise
  rfl

theorem l2_host (s : Fin 8192) (k : Fin 256) : W1 m ρ c (Proc.devRef .tc main_v11) (ix2 s k) = (inp m c).L s 2 k := by
  unfold W1
  entry_read
  pointwise
  rfl

theorem x_host (s : Fin 8192) (k : Fin 1024) : W1 m ρ c (Proc.devRef .tc main_v25) (ix2 s k) = (inp m c).x s k := by
  unfold W1
  entry_read
  pointwise
  rfl

theorem w_host (n : Fin 1024) (k : Fin 1024) : W1 m ρ c (Proc.devRef .tc main_v22) (ix2 n k) = (inp m c).w n k := by
  unfold W1
  entry_read
  pointwise
  rfl

theorem g_host (k : Fin 1024) : W1 m ρ c (Proc.devRef .tc main_arg9) (ix2 0 k) = (inp m c).g k :=
  congrFun (W1_args m ρ c main_arg9 (by decide)) _

/-! ## The first call -/

theorem idx0 : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![0, 0]
    ∧ win0_9.index t = ![0, 0]
    ∧ win0_10.index t = ![t.val, 0]
    ∧ win0_11.index t = ![t.val, 0] := (by decide +kernel : ∀ t : Fin grid0.N, _)

/-- The row of the arrays that row `r` of the blocks of grid point `t` is. -/
def row0 (t : Fin cfg0.N) (r : Fin 1024) : Fin 8192 := ⟨t.val * 1024 + r.val, by have := lt_of_lt_of_eq t.isLt N_0; omega⟩

variable (t : Fin cfg0.N) (r : Fin 1024)

theorem p_row : poolOf (iblk0 (V1 m ρ) c 0 t) r = (inp m c).p (row0 t r) := by
  funext k
  rw [← p_host m ρ c]
  blk_simp [iblk0, poolOf]
  blk_point [row0, idx0 t]

theorem o0_row : laneOf (iblk0 (V1 m ρ) c 1 t) r = (inp m c).O (row0 t r) 0 := by
  funext k
  rw [← o0_host m ρ c]
  blk_simp [iblk0, laneOf]
  blk_point [row0, idx0 t]

theorem o1_row : laneOf (iblk0 (V1 m ρ) c 2 t) r = (inp m c).O (row0 t r) 1 := by
  funext k
  rw [← o1_host m ρ c]
  blk_simp [iblk0, laneOf]
  blk_point [row0, idx0 t]

theorem o2_row : laneOf (iblk0 (V1 m ρ) c 3 t) r = (inp m c).O (row0 t r) 2 := by
  funext k
  rw [← o2_host m ρ c]
  blk_simp [iblk0, laneOf]
  blk_point [row0, idx0 t]

theorem l0_row : laneOf (iblk0 (V1 m ρ) c 4 t) r = (inp m c).L (row0 t r) 0 := by
  funext k
  rw [← l0_host m ρ c]
  blk_simp [iblk0, laneOf]
  blk_point [row0, idx0 t]

theorem l1_row : laneOf (iblk0 (V1 m ρ) c 5 t) r = (inp m c).L (row0 t r) 1 := by
  funext k
  rw [← l1_host m ρ c]
  blk_simp [iblk0, laneOf]
  blk_point [row0, idx0 t]

theorem l2_row : laneOf (iblk0 (V1 m ρ) c 6 t) r = (inp m c).L (row0 t r) 2 := by
  funext k
  rw [← l2_host m ρ c]
  blk_simp [iblk0, laneOf]
  blk_point [row0, idx0 t]

theorem x_row : rowOf (iblk0 (V1 m ρ) c 7 t) r = (inp m c).x (row0 t r) := by
  funext k
  rw [← x_host m ρ c]
  blk_simp [iblk0, rowOf]
  blk_point [row0, idx0 t]

theorem w_mat : matOf (iblk0 (V1 m ρ) c 8 t) = (inp m c).w := by
  funext n k
  rw [← w_host m ρ c]
  blk_simp [iblk0, matOf]
  blk_point [idx0 t]

theorem g_row : gainOf (iblk0 (V1 m ρ) c 9 t) = (inp m c).g := by
  funext k
  rw [← g_host m ρ c]
  blk_simp [iblk0, gainOf]
  blk_point [idx0 t]

theorem three (f : Rows) {x y z : Fin 256 → EReal} (hx : x = f 0) (hy : y = f 1) (hz : z = f 2) : (![x, y, z] : Rows) = f := by
  subst hx hy hz
  funext i
  fin_cases i <;> rfl

theorem o_rows : rowsOf (iblk0 (V1 m ρ) c 1 t) (iblk0 (V1 m ρ) c 2 t) (iblk0 (V1 m ρ) c 3 t) r = (inp m c).O (row0 t r) :=
  three _ (o0_row m ρ c t r) (o1_row m ρ c t r) (o2_row m ρ c t r)

theorem l_rows : rowsOf (iblk0 (V1 m ρ) c 4 t) (iblk0 (V1 m ρ) c 5 t) (iblk0 (V1 m ρ) c 6 t) r = (inp m c).L (row0 t r) :=
  three _ (l0_row m ρ c t r) (l1_row m ρ c t r) (l2_row m ρ c t r)

theorem cat_here (j : Fin 1024) : k0_pay2 (F := Ideal) (iblk0 (V1 m ρ) c 4 t) (iblk0 (V1 m ρ) c 5 t) (iblk0 (V1 m ρ) c 6 t) (iblk0 (V1 m ρ) c 0 t)
    (iblk0 (V1 m ρ) c 1 t) (iblk0 (V1 m ρ) c 2 t) (iblk0 (V1 m ρ) c 3 t) (ix2 r j) = (inp m c).cat (row0 t r) j := by
  rw [cat_at, p_row, l_rows, o_rows]
  rfl

theorem xo_here (j : Fin 1024) : k0_pay1 (F := Ideal) (k0_pay3 (iblk0 (V1 m ρ) c 4 t) (iblk0 (V1 m ρ) c 5 t) (iblk0 (V1 m ρ) c 6 t) (iblk0 (V1 m ρ) c 0 t)
    (iblk0 (V1 m ρ) c 1 t) (iblk0 (V1 m ρ) c 2 t) (iblk0 (V1 m ρ) c 3 t) (iblk0 (V1 m ρ) c 8 t)) (iblk0 (V1 m ρ) c 7 t) (iblk0 (V1 m ρ) c 9 t) (ix2 r j)
    = (inp m c).xo (row0 t r) j := by
  rw [xo_at, p_row, l_rows, o_rows, x_row, w_mat, g_row]
  rfl

theorem xo_array : (dat0 (V1 m ρ) c).arrAt 10 cfg0.N = fun i : S8192x1024.Idx => (inp m c).xo (i 0) (i 1) := by
  refine (dat0 (V1 m ρ) c).arrAt_eq_of_covers 10 _ (by decide +kernel) fun t hf y => ?_
  blk_simp
  obtain ⟨r, j, rfl⟩ : ∃ (r : Fin 1024) (j : Fin 1024), y = ix2 r j := ⟨y 0, y 1, eq_ix2 y⟩
  have key : (dat0 (V1 m ρ) c).after 10 t (ix2 r j) = (inp m c).xo (row0 t r) j := by
    rw [after0_10]
    frame_out
    exact xo_here m ρ c t r j
  refine key.trans (congrArg₂ (inp m c).xo ?_ ?_) <;> apply Fin.ext <;> blk_simp [idx0 t, row0]

theorem cat_array : (dat0 (V1 m ρ) c).arrAt 11 cfg0.N = fun i : S8192x1024.Idx => (inp m c).cat (i 0) (i 1) := by
  refine (dat0 (V1 m ρ) c).arrAt_eq_of_covers 11 _ (by decide +kernel) fun t hf y => ?_
  blk_simp
  obtain ⟨r, j, rfl⟩ : ∃ (r : Fin 1024) (j : Fin 1024), y = ix2 r j := ⟨y 0, y 1, eq_ix2 y⟩
  have key : (dat0 (V1 m ρ) c).after 11 t (ix2 r j) = (inp m c).cat (row0 t r) j := by
    rw [after0_11]
    frame_out
    exact cat_here m ρ c t r j
  refine key.trans (congrArg₂ (inp m c).cat ?_ ?_) <;> apply Fin.ext <;> blk_simp [idx0 t, row0]

end Cert.OutArrays
-- ==== Proof.OutBwd.lean ====
module

public import proofs.«01_k».proof.Proof.OutFwd

/-! # The mixture program: what the second call reads and leaves -/

@[expose] public section

set_option maxRecDepth 16384

noncomputable section

open Idealize.ShloMosaic Idealize.ShloMosaic.TcCoe Idealize.SL.Sem
open Idealize.ShloMosaic.Pipeline (Dat)

namespace Cert.OutArrays

open Cert.OutIdeal Cert.OutIdeal.Gen Cert.Out1

variable (m : (ℓ : Loc nD τ sig) → Buf (Elt Ideal) ℓ) (ρ : Dev nD → PrngReg) (c : Dev nD)

/-! ## The arrays that it is given -/

theorem d_mid (s : Fin 8192) (k : Fin 1024) : W3 m ρ c (Proc.devRef .tc main_v27) (ix2 s k) = (inp m c).d s k := by
  unfold W3
  entry_read
  rw [W2_args m ρ c main_arg10 (by decide)]
  pointwise
  rfl

theorem cat_mid (s : Fin 8192) (k : Fin 1024) : W3 m ρ c (Proc.devRef .tc main_v26_1) (ix2 s k) = (inp m c).cat s k :=
  congrFun ((W3_of m ρ c main_v26_1 (by decide)).trans ((W2_arr m ρ c 11).trans (cat_array m ρ c))) (ix2 s k)

theorem g_mid (k : Fin 1024) : W3 m ρ c (Proc.devRef .tc main_arg9) (ix2 0 k) = (inp m c).g k :=
  congrFun (W3_args m ρ c main_arg9 (by decide)) _

/-- An array from before the first call. -/
theorem from_start (b : Ref sig .tc) (h0 : ∀ w : Fin cfg0.W, Pipeline.arrRef spec0 w = b → (cfg0.win w).isOut = false) (h1 : b ∉ hostOps1_W) :
    W3 m ρ c (Proc.devRef .tc b) = W1 m ρ c (Proc.devRef .tc b) :=
  (W3_of m ρ c b h1).trans (W2_of m ρ c b h0)

theorem o0_mid (s : Fin 8192) (k : Fin 256) : W3 m ρ c (Proc.devRef .tc main_v0) (ix2 s k) = (inp m c).O s 0 k :=
  (congrFun (from_start m ρ c main_v0 (by decide) (by decide)) (ix2 s k)).trans (o0_host m ρ c s k)

theorem o1_mid (s : Fin 8192) (k : Fin 256) : W3 m ρ c (Proc.devRef .tc main_v1) (ix2 s k) = (inp m c).O s 1 k :=
  (congrFun (from_start m ρ c main_v1 (by decide) (by decide)) (ix2 s k)).trans (o1_host m ρ c s k)

theorem o2_mid (s : Fin 8192) (k : Fin 256) : W3 m ρ c (Proc.devRef .tc main_v2) (ix2 s k) = (inp m c).O s 2 k :=
  (congrFun (from_start m ρ c main_v2 (by decide) (by decide)) (ix2 s k)).trans (o2_host m ρ c s k)

theorem l0_mid (s : Fin 8192) (k : Fin 256) : W3 m ρ c (Proc.devRef .tc main_v5) (ix2 s k) = (inp m c).L s 0 k :=
  (congrFun (from_start m ρ c main_v5 (by decide) (by decide)) (ix2 s k)).trans (l0_host m ρ c s k)

theorem l1_mid (s : Fin 8192) (k : Fin 256) : W3 m ρ c (Proc.devRef .tc main_v8) (ix2 s k) = (inp m c).L s 1 k :=
  (congrFun (from_start m ρ c main_v8 (by decide) (by decide)) (ix2 s k)).trans (l1_host m ρ c s k)

theorem l2_mid (s : Fin 8192) (k : Fin 256) : W3 m ρ c (Proc.devRef .tc main_v11) (ix2 s k) = (inp m c).L s 2 k :=
  (congrFun (from_start m ρ c main_v11 (by decide) (by decide)) (ix2 s k)).trans (l2_host m ρ c s k)

theorem w_mid (n : Fin 1024) (k : Fin 1024) : W3 m ρ c (Proc.devRef .tc main_v22) (ix2 n k) = (inp m c).w n k :=
  (congrFun (from_start m ρ c main_v22 (by decide) (by decide)) (ix2 n k)).trans (w_host m ρ c n k)

/-- The matrix of ones, as it is built from two counts. -/
theorem same_head (a b : Fin 256) : FloatOps.uitofp (F := Ideal) FTy.bf16
    (IntOp.cmpi CmpIPredicate.eq (IntOp.addi (BitVec.ofNat 32 (a.val / 64)) 0#32) (BitVec.ofNat 32 (b.val / 64))) = ones a b := by
  have ha : IntOp.addi (BitVec.ofNat 32 (a.val / 64)) 0#32 = BitVec.ofNat 32 (a.val / 64) := BitVec.add_zero _
  rw [ha]
  unfold ones
  by_cases h : a.val / 64 = b.val / 64
  · rw [if_pos h, h]
    simp [IntOp.cmpi, FloatOps.uitofp]
  · have hn : BitVec.ofNat 32 (a.val / 64) ≠ BitVec.ofNat 32 (b.val / 64) := fun e => h (by
      have k := congrArg BitVec.toNat e
      rw [BitVec.toNat_ofNat, BitVec.toNat_ofNat] at k
      omega)
    rw [if_neg h]
    simp [IntOp.cmpi, FloatOps.uitofp, hn]

theorem ones_host (a b : Fin 256) : W1 m ρ c (Proc.devRef .tc main_v20) (ix2 a b) = ones a b := by
  unfold W1
  entry_read
  pointwise
  exact same_head a b

theorem ones_mid (a b : Fin 256) : W3 m ρ c (Proc.devRef .tc main_v20) (ix2 a b) = ones a b :=
  (congrFun (from_start m ρ c main_v20 (by decide) (by decide)) (ix2 a b)).trans (ones_host m ρ c a b)

/-! ## The blocks of a grid point -/

theorem idx1 : ∀ t : Fin cfg1.N, win1_0.index t = ![t.val, 0]
    ∧ win1_1.index t = ![t.val, 0]
    ∧ win1_2.index t = ![t.val, 0]
    ∧ win1_3.index t = ![t.val, 0]
    ∧ win1_4.index t = ![t.val, 0]
    ∧ win1_5.index t = ![t.val, 0]
    ∧ win1_6.index t = ![t.val, 0]
    ∧ win1_7.index t = ![t.val, 0]
    ∧ win1_8.index t = ![0, 0]
    ∧ win1_9.index t = ![0, 0]
    ∧ win1_10.index t = ![0, 0]
    ∧ win1_11.index t = ![t.val, 0]
    ∧ win1_12.index t = ![t.val, 0]
    ∧ win1_13.index t = ![t.val, 0]
    ∧ win1_14.index t = ![t.val, 0]
    ∧ win1_15.index t = ![t.val, 0]
    ∧ win1_16.index t = ![t.val, 0]
    ∧ win1_17.index t = ![t.val, 0]
    ∧ win1_18.index t = ![t.val, 0]
    ∧ win1_19.index t = ![0, 0] := (by decide +kernel : ∀ t : Fin grid1.N, _)

/-- The row of the arrays that row `r` of the blocks of grid point `t` is. -/
def row1 (t : Fin cfg1.N) (r : Fin 1024) : Fin 8192 := ⟨t.val * 1024 + r.val, by have := lt_of_lt_of_eq t.isLt N_1; omega⟩

variable (t : Fin cfg1.N) (r : Fin 1024)

/-- The block of an operand. -/
local notation "blk(" k ")" => iblk1 (V3 m ρ) c k t

theorem d_in : rowOf blk(0) r = (inp m c).d (row1 t r) := by
  funext k
  rw [← d_mid m ρ c]
  blk_simp [iblk1, rowOf]
  blk_point [row1, idx1 t]

theorem cat_in : catOf blk(1) r = (inp m c).cat (row1 t r) := by
  funext k
  rw [← cat_mid m ρ c]
  blk_simp [iblk1, catOf]
  blk_point [row1, idx1 t]

theorem o0_in : laneOf blk(2) r = (inp m c).O (row1 t r) 0 := by
  funext k
  rw [← o0_mid m ρ c]
  blk_simp [iblk1, laneOf]
  blk_point [row1, idx1 t]

theorem o1_in : laneOf blk(3) r = (inp m c).O (row1 t r) 1 := by
  funext k
  rw [← o1_mid m ρ c]
  blk_simp [iblk1, laneOf]
  blk_point [row1, idx1 t]

theorem o2_in : laneOf blk(4) r = (inp m c).O (row1 t r) 2 := by
  funext k
  rw [← o2_mid m ρ c]
  blk_simp [iblk1, laneOf]
  blk_point [row1, idx1 t]

theorem l0_in : laneOf blk(5) r = (inp m c).L (row1 t r) 0 := by
  funext k
  rw [← l0_mid m ρ c]
  blk_simp [iblk1, laneOf]
  blk_point [row1, idx1 t]

theorem l1_in : laneOf blk(6) r = (inp m c).L (row1 t r) 1 := by
  funext k
  rw [← l1_mid m ρ c]
  blk_simp [iblk1, laneOf]
  blk_point [row1, idx1 t]

theorem l2_in : laneOf blk(7) r = (inp m c).L (row1 t r) 2 := by
  funext k
  rw [← l2_mid m ρ c]
  blk_simp [iblk1, laneOf]
  blk_point [row1, idx1 t]

theorem w_in : matOf blk(8) = (inp m c).w := by
  funext n k
  rw [← w_mid m ρ c]
  blk_simp [iblk1, matOf]
  blk_point [idx1 t]

theorem g_in : gainOf blk(9) = (inp m c).g := by
  funext k
  rw [← g_mid m ρ c]
  blk_simp [iblk1, gainOf]
  blk_point [idx1 t]

theorem ones_in : onesOf blk(10) = ones := by
  funext n k
  rw [← ones_mid m ρ c]
  blk_simp [iblk1, onesOf]
  blk_point [idx1 t]

theorem o_in : rowsOf blk(2) blk(3) blk(4) r = (inp m c).O (row1 t r) :=
  three _ (o0_in m ρ c t r) (o1_in m ρ c t r) (o2_in m ρ c t r)

theorem l_in : rowsOf blk(5) blk(6) blk(7) r = (inp m c).L (row1 t r) :=
  three _ (l0_in m ρ c t r) (l1_in m ρ c t r) (l2_in m ρ c t r)

theorem dmix_in : catOf (k1_pay7 blk(1) blk(8) blk(9) blk(0)) r = (inp m c).dmix (row1 t r) := by
  funext k
  refine (dmix_at _ _ _ _ r k).trans ?_
  rw [d_in, cat_in, w_in, g_in]
  rfl

theorem D_in : dthird blk(8) (k1_pay7 blk(1) blk(8) blk(9) blk(0)) r = (inp m c).D (row1 t r) := by
  unfold dthird
  rw [dmix_in, w_in]
  rfl

theorem dpool_here (j : Fin 256) : k1_pay11 (F := Ideal) (k1_pay7 blk(1) blk(8) blk(9) blk(0)) blk(8) (ix2 r j) = (inp m c).dpool (row1 t r) j := by
  rw [dpool_at, dmix_in, w_in]
  rfl

theorem dmix_here (j : Fin 1024) : k1_pay7 (F := Ideal) blk(1) blk(8) blk(9) blk(0) (ix2 r j) = (inp m c).dmix (row1 t r) j :=
  congrFun (dmix_in m ρ c t r) j

/-! A group's share of a row, and its part of what arrives. -/
local notation "share(" p ")" => p blk(5) blk(6) blk(7)
local notation "part(" p ")" => p (k1_pay7 blk(1) blk(8) blk(9) blk(0)) blk(8)
local notation "first₀" => k1_pay26 (k1_pay7 blk(1) blk(8) blk(9) blk(0)) blk(8) blk(5) blk(6) blk(7) blk(2)

theorem do0_here (j : Fin 256) : k1_pay28 (F := Ideal) share(k1_pay20) part(k1_pay23) (ix2 r j) = (inp m c).dout (row1 t r) 0 j := by
  rw [do_0, D_in, l_in]
  rfl

theorem do1_here (j : Fin 256) : k1_pay30 (F := Ideal) share(k1_pay21) part(k1_pay24) (ix2 r j) = (inp m c).dout (row1 t r) 1 j := by
  rw [do_1, D_in, l_in]
  rfl

theorem do2_here (j : Fin 256) : k1_pay32 (F := Ideal) share(k1_pay22) part(k1_pay25) (ix2 r j) = (inp m c).dout (row1 t r) 2 j := by
  rw [do_2, D_in, l_in]
  rfl

theorem c0_here (j : Fin 256) : k1_pay29 (F := Ideal) share(k1_pay20) share(k1_pay21) share(k1_pay22) part(k1_pay24) part(k1_pay25) first₀ blk(3) blk(4) blk(10) blk(10) (ix2 r j)
    = (inp m c).cterm (row1 t r) 0 j := by
  rw [c_0, D_in, l_in, o_in, ones_in]
  rfl

theorem c1_here (j : Fin 256) : k1_pay31 (F := Ideal) share(k1_pay21) share(k1_pay22) part(k1_pay24) part(k1_pay25) first₀ blk(3) blk(4) blk(10) blk(10) (ix2 r j)
    = (inp m c).cterm (row1 t r) 1 j := by
  rw [c_1, D_in, l_in, o_in, ones_in]
  rfl

theorem c2_here (j : Fin 256) : k1_pay1 (F := Ideal) share(k1_pay22) (k1_pay27 share(k1_pay21) share(k1_pay22) part(k1_pay24) part(k1_pay25) first₀ blk(3) blk(4) blk(10) blk(10)) (ix2 r j)
    = (inp m c).cterm (row1 t r) 2 j := by
  rw [c_2, D_in, l_in, o_in, ones_in]
  rfl

/-! ## The arrays that it leaves -/

theorem dpool_array : (dat1 (V3 m ρ) c).arrAt 11 cfg1.N = fun i : S8192x256.Idx => (inp m c).dpool (i 0) (i 1) := by
  refine (dat1 (V3 m ρ) c).arrAt_eq_of_covers 11 _ (by decide +kernel) fun t hf y => ?_
  blk_simp
  obtain ⟨r, j, rfl⟩ : ∃ (r : Fin 1024) (j : Fin 256), y = ix2 r j := ⟨y 0, y 1, eq_ix2 y⟩
  rw [after1_11]
  have key : (outsAt1 (V3 m ρ) c t.val t.isLt).1 (ix2 r j) = (inp m c).dpool (row1 t r) j := by
    by_cases h : t.val % 8 = 0
    · rw [outsAt1_A (V3 m ρ) c t h]
      frame_out
      exact dpool_here m ρ c t r j
    · rw [outsAt1_B (V3 m ρ) c t h]
      frame_out
      exact dpool_here m ρ c t r j
  refine key.trans (congrArg₂ (inp m c).dpool ?_ ?_) <;> apply Fin.ext <;> blk_simp [idx1 t, row1]

theorem dmix_array : (dat1 (V3 m ρ) c).arrAt 12 cfg1.N = fun i : S8192x1024.Idx => (inp m c).dmix (i 0) (i 1) := by
  refine (dat1 (V3 m ρ) c).arrAt_eq_of_covers 12 _ (by decide +kernel) fun t hf y => ?_
  blk_simp
  obtain ⟨r, j, rfl⟩ : ∃ (r : Fin 1024) (j : Fin 1024), y = ix2 r j := ⟨y 0, y 1, eq_ix2 y⟩
  rw [after1_12]
  have key : (outsAt1 (V3 m ρ) c t.val t.isLt).2.1 (ix2 r j) = (inp m c).dmix (row1 t r) j := by
    by_cases h : t.val % 8 = 0
    · rw [outsAt1_A (V3 m ρ) c t h]
      frame_out
      exact dmix_here m ρ c t r j
    · rw [outsAt1_B (V3 m ρ) c t h]
      frame_out
      exact dmix_here m ρ c t r j
  refine key.trans (congrArg₂ (inp m c).dmix ?_ ?_) <;> apply Fin.ext <;> blk_simp [idx1 t, row1]

theorem do0_array : (dat1 (V3 m ρ) c).arrAt 13 cfg1.N = fun i : S8192x256.Idx => (fun s u => (inp m c).dout s 0 u) (i 0) (i 1) := by
  refine (dat1 (V3 m ρ) c).arrAt_eq_of_covers 13 _ (by decide +kernel) fun t hf y => ?_
  blk_simp
  obtain ⟨r, j, rfl⟩ : ∃ (r : Fin 1024) (j : Fin 256), y = ix2 r j := ⟨y 0, y 1, eq_ix2 y⟩
  rw [after1_13]
  have key : (outsAt1 (V3 m ρ) c t.val t.isLt).2.2.1 (ix2 r j) = (fun s u => (inp m c).dout s 0 u) (row1 t r) j := by
    by_cases h : t.val % 8 = 0
    · rw [outsAt1_A (V3 m ρ) c t h]
      frame_out
      exact do0_here m ρ c t r j
    · rw [outsAt1_B (V3 m ρ) c t h]
      frame_out
      exact do0_here m ρ c t r j
  refine key.trans (congrArg₂ (fun s u => (inp m c).dout s 0 u) ?_ ?_) <;> apply Fin.ext <;> blk_simp [idx1 t, row1]

theorem do1_array : (dat1 (V3 m ρ) c).arrAt 14 cfg1.N = fun i : S8192x256.Idx => (fun s u => (inp m c).dout s 1 u) (i 0) (i 1) := by
  refine (dat1 (V3 m ρ) c).arrAt_eq_of_covers 14 _ (by decide +kernel) fun t hf y => ?_
  blk_simp
  obtain ⟨r, j, rfl⟩ : ∃ (r : Fin 1024) (j : Fin 256), y = ix2 r j := ⟨y 0, y 1, eq_ix2 y⟩
  rw [after1_14]
  have key : (outsAt1 (V3 m ρ) c t.val t.isLt).2.2.2.1 (ix2 r j) = (fun s u => (inp m c).dout s 1 u) (row1 t r) j := by
    by_cases h : t.val % 8 = 0
    · rw [outsAt1_A (V3 m ρ) c t h]
      frame_out
      exact do1_here m ρ c t r j
    · rw [outsAt1_B (V3 m ρ) c t h]
      frame_out
      exact do1_here m ρ c t r j
  refine key.trans (congrArg₂ (fun s u => (inp m c).dout s 1 u) ?_ ?_) <;> apply Fin.ext <;> blk_simp [idx1 t, row1]

theorem do2_array : (dat1 (V3 m ρ) c).arrAt 15 cfg1.N = fun i : S8192x256.Idx => (fun s u => (inp m c).dout s 2 u) (i 0) (i 1) := by
  refine (dat1 (V3 m ρ) c).arrAt_eq_of_covers 15 _ (by decide +kernel) fun t hf y => ?_
  blk_simp
  obtain ⟨r, j, rfl⟩ : ∃ (r : Fin 1024) (j : Fin 256), y = ix2 r j := ⟨y 0, y 1, eq_ix2 y⟩
  rw [after1_15]
  have key : (outsAt1 (V3 m ρ) c t.val t.isLt).2.2.2.2.1 (ix2 r j) = (fun s u => (inp m c).dout s 2 u) (row1 t r) j := by
    by_cases h : t.val % 8 = 0
    · rw [outsAt1_A (V3 m ρ) c t h]
      frame_out
      exact do2_here m ρ c t r j
    · rw [outsAt1_B (V3 m ρ) c t h]
      frame_out
      exact do2_here m ρ c t r j
  refine key.trans (congrArg₂ (fun s u => (inp m c).dout s 2 u) ?_ ?_) <;> apply Fin.ext <;> blk_simp [idx1 t, row1]

theorem c0_array : (dat1 (V3 m ρ) c).arrAt 16 cfg1.N = fun i : S8192x256.Idx => (fun s u => (inp m c).cterm s 0 u) (i 0) (i 1) := by
  refine (dat1 (V3 m ρ) c).arrAt_eq_of_covers 16 _ (by decide +kernel) fun t hf y => ?_
  blk_simp
  obtain ⟨r, j, rfl⟩ : ∃ (r : Fin 1024) (j : Fin 256), y = ix2 r j := ⟨y 0, y 1, eq_ix2 y⟩
  rw [after1_16]
  have key : (outsAt1 (V3 m ρ) c t.val t.isLt).2.2.2.2.2.1 (ix2 r j) = (fun s u => (inp m c).cterm s 0 u) (row1 t r) j := by
    by_cases h : t.val % 8 = 0
    · rw [outsAt1_A (V3 m ρ) c t h]
      frame_out
      exact c0_here m ρ c t r j
    · rw [outsAt1_B (V3 m ρ) c t h]
      frame_out
      exact c0_here m ρ c t r j
  refine key.trans (congrArg₂ (fun s u => (inp m c).cterm s 0 u) ?_ ?_) <;> apply Fin.ext <;> blk_simp [idx1 t, row1]

theorem c1_array : (dat1 (V3 m ρ) c).arrAt 17 cfg1.N = fun i : S8192x256.Idx => (fun s u => (inp m c).cterm s 1 u) (i 0) (i 1) := by
  refine (dat1 (V3 m ρ) c).arrAt_eq_of_covers 17 _ (by decide +kernel) fun t hf y => ?_
  blk_simp
  obtain ⟨r, j, rfl⟩ : ∃ (r : Fin 1024) (j : Fin 256), y = ix2 r j := ⟨y 0, y 1, eq_ix2 y⟩
  rw [after1_17]
  have key : (outsAt1 (V3 m ρ) c t.val t.isLt).2.2.2.2.2.2.1 (ix2 r j) = (fun s u => (inp m c).cterm s 1 u) (row1 t r) j := by
    by_cases h : t.val % 8 = 0
    · rw [outsAt1_A (V3 m ρ) c t h]
      frame_out
      exact c1_here m ρ c t r j
    · rw [outsAt1_B (V3 m ρ) c t h]
      frame_out
      exact c1_here m ρ c t r j
  refine key.trans (congrArg₂ (fun s u => (inp m c).cterm s 1 u) ?_ ?_) <;> apply Fin.ext <;> blk_simp [idx1 t, row1]

theorem c2_array : (dat1 (V3 m ρ) c).arrAt 18 cfg1.N = fun i : S8192x256.Idx => (fun s u => (inp m c).cterm s 2 u) (i 0) (i 1) := by
  refine (dat1 (V3 m ρ) c).arrAt_eq_of_covers 18 _ (by decide +kernel) fun t hf y => ?_
  blk_simp
  obtain ⟨r, j, rfl⟩ : ∃ (r : Fin 1024) (j : Fin 256), y = ix2 r j := ⟨y 0, y 1, eq_ix2 y⟩
  rw [after1_18]
  have key : (outsAt1 (V3 m ρ) c t.val t.isLt).2.2.2.2.2.2.2.1 (ix2 r j) = (fun s u => (inp m c).cterm s 2 u) (row1 t r) j := by
    by_cases h : t.val % 8 = 0
    · rw [outsAt1_A (V3 m ρ) c t h]
      frame_out
      exact c2_here m ρ c t r j
    · rw [outsAt1_B (V3 m ρ) c t h]
      frame_out
      exact c2_here m ρ c t r j
  refine key.trans (congrArg₂ (fun s u => (inp m c).cterm s 2 u) ?_ ?_) <;> apply Fin.ext <;> blk_simp [idx1 t, row1]

/-- The last grid point of the second call. -/
def lastPoint : Fin cfg1.N := ⟨7, by rw [show cfg1.N = 8 from N_1]; decide⟩

theorem dgain_here (v : FVec Ideal S1x1024 .f32) (j : Fin 1024) : k1_pay9 (F := Ideal) (k1_pay6 (iblk1 (V3 m ρ) c 1 t) (iblk1 (V3 m ρ) c 8 t) (iblk1 (V3 m ρ) c 0 t)) v (ix2 0 j)
    = v (ix2 0 j) + ∑ r : Fin 1024, dgain ((inp m c).d (row1 t r)) ((inp m c).mix (row1 t r)) j := by
  pointwise [k1_pay9]
  rw [dgain_at]
  simp only [d_in, cat_in, w_in]
  rfl

theorem dgain_zero (j : S1x1024.Idx) : k1_pay8 (F := Ideal) j = 0 := by
  pointwise [k1_pay8]

theorem dgain_array : (dat1 (V3 m ρ) c).arrAt 19 cfg1.N = fun i : S1x1024.Idx => (inp m c).dgain (i 1) := by
  refine (dat1 (V3 m ρ) c).arrAt_eq_of_after_last 19 lastPoint (by decide +kernel) _ fun y => ?_
  blk_simp
  obtain ⟨z, j, rfl⟩ : ∃ (z : Fin 1) (j : Fin 1024), y = ix2 z j := ⟨y 0, y 1, eq_ix2 y⟩
  obtain rfl : z = 0 := Subsingleton.elim _ _
  rw [after1_19, Pipeline.eq_sum_fin_of_reset_step_apply_last (fun n h => (outsAt1 (V3 m ρ) c n h).2.2.2.2.2.2.2.2) 8 (fun _ => 0)
    (fun t y => ∑ r : Fin 1024, dgain ((inp m c).d (row1 t r)) ((inp m c).mix (row1 t r)) (y 1))
    (fun t h y => by
      obtain ⟨z, j, rfl⟩ : ∃ (z : Fin 1) (j : Fin 1024), y = ix2 z j := ⟨y 0, y 1, eq_ix2 y⟩
      obtain rfl : z = 0 := Subsingleton.elim _ _
      rw [outsAt1_A (V3 m ρ) c t h]; frame_out; rw [dgain_here, dgain_zero]; rfl)
    (fun t h y => by
      obtain ⟨z, j, rfl⟩ : ∃ (z : Fin 1) (j : Fin 1024), y = ix2 z j := ⟨y 0, y 1, eq_ix2 y⟩
      obtain rfl : z = 0 := Subsingleton.elim _ _
      rw [outsAt1_B (V3 m ρ) c t h]; frame_out; rw [dgain_here]; rfl)
    (le_of_eq N_1) lastPoint rfl, zero_add]
  exact (Fin.sum_univ_tiles (M := EReal) cfg1.N 1024 (show cfg1.N * 1024 = 8192 by rw [show cfg1.N = 8 from N_1])
    (fun s => dgain ((inp m c).d s) ((inp m c).mix s) j)).symm

end Cert.OutArrays
-- ==== Proof.OutRun.lean ====
module

public import proofs.«01_k».proof.Proof.Gen.OutIdeal.Frame

/-! # The mixture program's run, with every array that it leaves -/

@[expose] public section

set_option maxRecDepth 16384

noncomputable section

namespace Cert.OutRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OutIdeal Cert.OutIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the program ends with each array at what `W5` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Cert.OutRun

end
-- ==== Proof.OutClaims.lean ====
module

public import proofs.«01_k».proof.Defs
public import proofs.«01_k».proof.Proof.Gen.Pre_out_finite
public import proofs.«01_k».proof.Proof.Gen.Out
public import proofs.«01_k».proof.Proof.Gen.OutRefIdeal.Run
public import proofs.«01_k».proof.Proof.OutBwd
public import proofs.«01_k».proof.Proof.OutRun
public import proofs.«01_k».proof.Proof.FfnClaims

/-! # The mixture program's claims -/

@[expose] public section

set_option maxRecDepth 16384

noncomputable section

open Idealize.ShloMosaic Idealize.ShloMosaic.TcCoe Idealize.SL.Sem

namespace Cert.OutArrays

open Cert.OutIdeal Cert.OutIdeal.Gen Cert.Out1

section Kernel

variable (m : (ℓ : Loc nD τ sig) → Buf (Elt Ideal) ℓ) (ρ : Dev nD → PrngReg) (c : Dev nD)

/-! ## The program's results -/

theorem xo_final : W5 m ρ c (Proc.devRef .tc main_v26_0) = fun i : S8192x1024.Idx => (inp m c).xo (i 0) (i 1) :=
  (W5_of m ρ c main_v26_0 (by decide)).trans ((W4_of m ρ c main_v26_0 (by decide)).trans ((W3_of m ρ c main_v26_0 (by decide)).trans
    ((W2_arr m ρ c 10).trans (xo_array m ρ c))))

/-- The rows side by side after the second call, which reads them. -/
theorem cat_last : W4 m ρ c (Proc.devRef .tc main_v26_1) = fun i : S8192x1024.Idx => (inp m c).cat (i 0) (i 1) :=
  (W4_of m ρ c main_v26_1 (by decide)).trans ((W3_of m ρ c main_v26_1 (by decide)).trans ((W2_arr m ρ c 11).trans (cat_array m ρ c)))

theorem dpool_final : W5 m ρ c (Proc.devRef .tc main_v28_0) = fun i : S8192x256.Idx => (inp m c).dpool (i 0) (i 1) :=
  (W5_of m ρ c main_v28_0 (by decide)).trans ((W4_arr m ρ c 11).trans (dpool_array m ρ c))

theorem do1_final : W5 m ρ c (Proc.devRef .tc main_v28_3) = fun i : S8192x256.Idx => (inp m c).dout (i 0) 1 (i 1) :=
  (W5_of m ρ c main_v28_3 (by decide)).trans ((W4_arr m ρ c 14).trans (do1_array m ρ c))

theorem do2_final : W5 m ρ c (Proc.devRef .tc main_v28_4) = fun i : S8192x256.Idx => (inp m c).dout (i 0) 2 (i 1) :=
  (W5_of m ρ c main_v28_4 (by decide)).trans ((W4_arr m ρ c 15).trans (do2_array m ρ c))

theorem c0_final : W5 m ρ c (Proc.devRef .tc main_v28_5) = fun i : S8192x256.Idx => (inp m c).cterm (i 0) 0 (i 1) :=
  (W5_of m ρ c main_v28_5 (by decide)).trans ((W4_arr m ρ c 16).trans (c0_array m ρ c))

theorem c1_final : W5 m ρ c (Proc.devRef .tc main_v28_6) = fun i : S8192x256.Idx => (inp m c).cterm (i 0) 1 (i 1) :=
  (W5_of m ρ c main_v28_6 (by decide)).trans ((W4_arr m ρ c 17).trans (c1_array m ρ c))

theorem c2_final : W5 m ρ c (Proc.devRef .tc main_v28_7) = fun i : S8192x256.Idx => (inp m c).cterm (i 0) 2 (i 1) :=
  (W5_of m ρ c main_v28_7 (by decide)).trans ((W4_arr m ρ c 18).trans (c2_array m ρ c))

theorem dgain_final : W5 m ρ c (Proc.devRef .tc main_v28_8) = fun i : S1x1024.Idx => (inp m c).dgain (i 1) :=
  (W5_of m ρ c main_v28_8 (by decide)).trans ((W4_arr m ρ c 19).trans (dgain_array m ρ c))

theorem cat_final : W5 m ρ c (Proc.devRef .tc main_v29) = fun i : S8192x1024.Idx => (inp m c).cat (i 0) (i 1) := by
  unfold W5
  entry_read
  funext i
  exact congrFun (cat_last m ρ c) i

theorem dmix_final : W5 m ρ c (Proc.devRef .tc main_v30) = fun i : S8192x1024.Idx => (inp m c).dmix (i 0) (i 1) := by
  unfold W5
  entry_read
  funext i
  exact congrFun ((W4_arr m ρ c 12).trans (dmix_array m ρ c)) i

theorem do0_final : W5 m ρ c (Proc.devRef .tc main_v31) = fun i : S8192x256.Idx => (inp m c).dout (i 0) 0 (i 1) := by
  unfold W5
  entry_read
  funext i
  exact congrFun ((W4_arr m ρ c 13).trans (do0_array m ρ c)) i

end Kernel

/-! ## The reference's results -/

section Reference

open Cert.OutRefIdeal.Read

variable (x0 : FVec Ideal Cert.OutRefIdeal.S1x8192x256 .f32) (x1 x2 x3 : FVec Ideal Cert.OutRefIdeal.S1x8192x4x64 .f32)
    (x4 x5 x6 : FVec Ideal Cert.OutRefIdeal.S1x8192x4 .f32) (x7 : FVec Ideal Cert.OutRefIdeal.S1x8192x1024 .f32)
    (x8 : FVec Ideal Cert.OutRefIdeal.S1x1024x1024 .f32) (x9 : FVec Ideal Cert.OutRefIdeal.S1x1024 .f32)
    (x10 : FVec Ideal Cert.OutRefIdeal.S1x8192x1024 .f32)

local notation "𝔸" => ofArrays x0 x1 x2 x3 x4 x5 x6 x7 x8 x9 x10

theorem last_xo : val_main_v149 (F := Ideal) x0 x1 x2 x3 x4 x5 x6 x7 x8 x9 = fun i => (𝔸).xo (i 0) (i 1) := by
  funext i
  rw [eq_ix2 i]
  pointwise [val_main_v149]
  exact ref_xo x0 x1 x2 x3 x4 x5 x6 x7 x8 x9 x10 _ _

theorem last_cat : val_main_v150 (F := Ideal) x0 x1 x2 x3 x4 x5 x6 = fun i => (𝔸).cat (i 0) (i 1) := by
  funext i
  rw [eq_ix2 i]
  pointwise [val_main_v150]
  exact ref_cat x0 x1 x2 x3 x4 x5 x6 x7 x8 x9 x10 _ _

theorem last_dpool : val_main_v151 (F := Ideal) x0 x1 x2 x3 x4 x5 x6 x8 x9 x10 = fun i => (𝔸).dpool (i 0) (i 1) := by
  funext i
  rw [eq_ix2 i]
  pointwise [val_main_v151]
  exact ref_dpool x0 x1 x2 x3 x4 x5 x6 x7 x8 x9 x10 _ _

theorem last_dmix : val_main_v152 (F := Ideal) x0 x1 x2 x3 x4 x5 x6 x8 x9 x10 = fun i => (𝔸).dmix (i 0) (i 1) := by
  funext i
  rw [eq_ix2 i]
  pointwise [val_main_v152]
  exact ref_dmix x0 x1 x2 x3 x4 x5 x6 x7 x8 x9 x10 _ _

theorem last_do0 : val_main_v153 (F := Ideal) x0 x1 x2 x3 x4 x5 x6 x8 x9 x10 = fun i => (𝔸).dout (i 0) 0 (i 1) := by
  funext i
  rw [eq_ix2 i]
  pointwise [val_main_v153]
  exact ref_do0 x0 x1 x2 x3 x4 x5 x6 x7 x8 x9 x10 _ _

theorem last_do1 : val_main_v154 (F := Ideal) x0 x1 x2 x3 x4 x5 x6 x8 x9 x10 = fun i => (𝔸).dout (i 0) 1 (i 1) := by
  funext i
  rw [eq_ix2 i]
  pointwise [val_main_v154]
  exact ref_do1 x0 x1 x2 x3 x4 x5 x6 x7 x8 x9 x10 _ _

theorem last_do2 : val_main_v155 (F := Ideal) x0 x1 x2 x3 x4 x5 x6 x8 x9 x10 = fun i => (𝔸).dout (i 0) 2 (i 1) := by
  funext i
  rw [eq_ix2 i]
  pointwise [val_main_v155]
  exact ref_do2 x0 x1 x2 x3 x4 x5 x6 x7 x8 x9 x10 _ _

theorem last_c0 (h : Reals 𝔸) : val_main_v161 (F := Ideal) x0 x1 x2 x3 x4 x5 x6 x8 x9 x10 = fun i => (𝔸).cterm (i 0) 0 (i 1) := by
  funext i
  obtain ⟨s, u, rfl⟩ : ∃ (s : Fin 8192) (u : Fin 256), i = ix2 s u := ⟨i 0, i 1, eq_ix2 i⟩
  exact (ref_c0 x0 x1 x2 x3 x4 x5 x6 x7 x8 x9 x10 s u).trans (h.cterm s 0 u).symm

theorem last_c1 (h : Reals 𝔸) : val_main_v167 (F := Ideal) x0 x1 x2 x3 x4 x5 x6 x8 x9 x10 = fun i => (𝔸).cterm (i 0) 1 (i 1) := by
  funext i
  obtain ⟨s, u, rfl⟩ : ∃ (s : Fin 8192) (u : Fin 256), i = ix2 s u := ⟨i 0, i 1, eq_ix2 i⟩
  exact (ref_c1 x0 x1 x2 x3 x4 x5 x6 x7 x8 x9 x10 s u).trans (h.cterm s 1 u).symm

theorem last_c2 (h : Reals 𝔸) : val_main_v173 (F := Ideal) x0 x1 x2 x3 x4 x5 x6 x8 x9 x10 = fun i => (𝔸).cterm (i 0) 2 (i 1) := by
  funext i
  obtain ⟨s, u, rfl⟩ : ∃ (s : Fin 8192) (u : Fin 256), i = ix2 s u := ⟨i 0, i 1, eq_ix2 i⟩
  exact (ref_c2 x0 x1 x2 x3 x4 x5 x6 x7 x8 x9 x10 s u).trans (h.cterm s 2 u).symm

theorem last_dgain : val_main_v93 (F := Ideal) x0 x1 x2 x3 x4 x5 x6 x8 x10 = fun i => (𝔸).dgain (i 1) := by
  funext i
  obtain ⟨z, j, rfl⟩ : ∃ (z : Fin 1) (j : Fin 1024), i = ix2 z j := ⟨i 0, i 1, eq_ix2 i⟩
  obtain rfl : z = 0 := Subsingleton.elim _ _
  exact ref_dgain x0 x1 x2 x3 x4 x5 x6 x7 x8 x9 x10 _

/-! ## The precondition -/

theorem reals_of (h : Cert.Pre_out_finite.fn (F := Ideal) x0 x1 x2 x3 x4 x5 x6 x7 x8 x9 x10 = fun _ => 1#1) : Reals 𝔸 := by
  have e := congrFun h (fun k => k.elim0)
  unfold Cert.Pre_out_finite.fn Cert.Pre_out_finite.fn_part1 Cert.Pre_out_finite.fn_part2 at e
  replace ⟨e, h10⟩ := AttnClaims.and_one e
  replace ⟨e, h9⟩ := AttnClaims.and_one e
  replace ⟨e, h8⟩ := AttnClaims.and_one e
  replace ⟨e, h6⟩ := AttnClaims.and_one e
  replace ⟨e, h5⟩ := AttnClaims.and_one e
  replace ⟨e, h4⟩ := AttnClaims.and_one e
  replace ⟨e, h3⟩ := AttnClaims.and_one e
  obtain ⟨h1, h2⟩ := AttnClaims.and_one e
  clear h e
  have r1 := FfnArrays.real_entry x1 _ _ (by intro _; rfl) _ _ _ h1
  clear h1
  have r2 := FfnArrays.real_entry x2 _ _ (by intro _; rfl) _ _ _ h2
  clear h2
  have r3 := FfnArrays.real_entry x3 _ _ (by intro _; rfl) _ _ _ h3
  clear h3
  have r4 := FfnArrays.real_entry x4 _ _ (by intro _; rfl) _ _ _ h4
  clear h4
  have r5 := FfnArrays.real_entry x5 _ _ (by intro _; rfl) _ _ _ h5
  clear h5
  have r6 := FfnArrays.real_entry x6 _ _ (by intro _; rfl) _ _ _ h6
  clear h6
  have r8 := FfnArrays.real_entry x8 _ _ (by intro _; rfl) _ _ _ h8
  clear h8
  have r9 := FfnArrays.real_entry x9 _ _ (by intro _; rfl) _ _ _ h9
  clear h9
  have r10 := FfnArrays.real_entry x10 _ _ (by intro _; rfl) _ _ _ h10
  clear h10
  refine ⟨fun i s a b => ?_, fun i s a => ?_, fun k j => r8 _, fun k => r9 _, fun s k => r10 _⟩
  · fin_cases i
    · exact r1 _
    · exact r2 _
    · exact r3 _
  · fin_cases i
    · exact r4 _
    · exact r5 _
    · exact r6 _

end Reference

end Cert.OutArrays

namespace Cert.OutClaims

open Cert.OutIdeal.Gen (W5 mem_uc)
open Cert.OutArrays

theorem frame_ref : Cert.quiescent_OutRefIdeal := by
  intro m g _
  exact (θ_run _ _ _).mono (fun r h => ⟨fun c => (h c).2.2.2.2.2.2.2.2.2.2.2, sem_eq_zero_of_no_sems rfl _⟩) (Cert.OutRefIdeal.Value.run m g)

theorem frame_ref_pre : Cert.quiescent_OutRefIdeal_pre_out_finite := fun m g _ => frame_ref m g trivial

set_option maxHeartbeats 1000000 in
theorem algebraic : Cert.algebraic_OutIdeal_OutRefIdeal_pre_out_finite := by
  intro m g m' g' hpre hagree
  have hr := fun c => reals_of _ _ _ _ _ _ _ _ _ _ _ (hpre c)
  refine ⟨fun c => W5 m g c (Proc.devRef .tc Cert.OutIdeal.main_v26_0),
    fun c => W5 m g c (Proc.devRef .tc Cert.OutIdeal.main_v29),
    fun c => W5 m g c (Proc.devRef .tc Cert.OutIdeal.main_v28_0),
    fun c => W5 m g c (Proc.devRef .tc Cert.OutIdeal.main_v30),
    fun c => W5 m g c (Proc.devRef .tc Cert.OutIdeal.main_v31),
    fun c => W5 m g c (Proc.devRef .tc Cert.OutIdeal.main_v28_3),
    fun c => W5 m g c (Proc.devRef .tc Cert.OutIdeal.main_v28_4),
    fun c => W5 m g c (Proc.devRef .tc Cert.OutIdeal.main_v28_5),
    fun c => W5 m g c (Proc.devRef .tc Cert.OutIdeal.main_v28_6),
    fun c => W5 m g c (Proc.devRef .tc Cert.OutIdeal.main_v28_7),
    fun c => W5 m g c (Proc.devRef .tc Cert.OutIdeal.main_v28_8), ?_, ?_⟩
  · refine (θ_run _ _ _).mono (fun r h c => ?_) (Cert.OutRun.run_all m g)
    exact ⟨h c _ (mem_uc Cert.OutIdeal.main_v26_0 (by decide)),
      h c _ (mem_uc Cert.OutIdeal.main_v29 (by decide)),
      h c _ (mem_uc Cert.OutIdeal.main_v28_0 (by decide)),
      h c _ (mem_uc Cert.OutIdeal.main_v30 (by decide)),
      h c _ (mem_uc Cert.OutIdeal.main_v31 (by decide)),
      h c _ (mem_uc Cert.OutIdeal.main_v28_3 (by decide)),
      h c _ (mem_uc Cert.OutIdeal.main_v28_4 (by decide)),
      h c _ (mem_uc Cert.OutIdeal.main_v28_5 (by decide)),
      h c _ (mem_uc Cert.OutIdeal.main_v28_6 (by decide)),
      h c _ (mem_uc Cert.OutIdeal.main_v28_7 (by decide)),
      h c _ (mem_uc Cert.OutIdeal.main_v28_8 (by decide)),
      (h c _ (mem_uc Cert.OutIdeal.main_arg0 (by decide))).trans (Cert.OutIdeal.Gen.W5_main_arg0 m g c),
      (h c _ (mem_uc Cert.OutIdeal.main_arg1 (by decide))).trans (Cert.OutIdeal.Gen.W5_main_arg1 m g c),
      (h c _ (mem_uc Cert.OutIdeal.main_arg2 (by decide))).trans (Cert.OutIdeal.Gen.W5_main_arg2 m g c),
      (h c _ (mem_uc Cert.OutIdeal.main_arg3 (by decide))).trans (Cert.OutIdeal.Gen.W5_main_arg3 m g c),
      (h c _ (mem_uc Cert.OutIdeal.main_arg4 (by decide))).trans (Cert.OutIdeal.Gen.W5_main_arg4 m g c),
      (h c _ (mem_uc Cert.OutIdeal.main_arg5 (by decide))).trans (Cert.OutIdeal.Gen.W5_main_arg5 m g c),
      (h c _ (mem_uc Cert.OutIdeal.main_arg6 (by decide))).trans (Cert.OutIdeal.Gen.W5_main_arg6 m g c),
      (h c _ (mem_uc Cert.OutIdeal.main_arg7 (by decide))).trans (Cert.OutIdeal.Gen.W5_main_arg7 m g c),
      (h c _ (mem_uc Cert.OutIdeal.main_arg8 (by decide))).trans (Cert.OutIdeal.Gen.W5_main_arg8 m g c),
      (h c _ (mem_uc Cert.OutIdeal.main_arg9 (by decide))).trans (Cert.OutIdeal.Gen.W5_main_arg9 m g c),
      (h c _ (mem_uc Cert.OutIdeal.main_arg10 (by decide))).trans (Cert.OutIdeal.Gen.W5_main_arg10 m g c)⟩
  · refine (θ_run _ _ _).mono (fun r h c => ?_) (Cert.OutRefIdeal.Value.run m' g')
    have hc := h c
    have a0 : StableHlo.launchContents m' c (Proc.devRef .tc Cert.OutRefIdeal.main_arg0)
        = m ((c.tc : Thread Cert.OutIdeal.nD Cert.OutIdeal.τ).loc Cert.OutIdeal.main_arg0) := (hagree c).1
    have a1 : StableHlo.launchContents m' c (Proc.devRef .tc Cert.OutRefIdeal.main_arg1)
        = m ((c.tc : Thread Cert.OutIdeal.nD Cert.OutIdeal.τ).loc Cert.OutIdeal.main_arg1) := (hagree c).2.1
    have a2 : StableHlo.launchContents m' c (Proc.devRef .tc Cert.OutRefIdeal.main_arg2)
        = m ((c.tc : Thread Cert.OutIdeal.nD Cert.OutIdeal.τ).loc Cert.OutIdeal.main_arg2) := (hagree c).2.2.1
    have a3 : StableHlo.launchContents m' c (Proc.devRef .tc Cert.OutRefIdeal.main_arg3)
        = m ((c.tc : Thread Cert.OutIdeal.nD Cert.OutIdeal.τ).loc Cert.OutIdeal.main_arg3) := (hagree c).2.2.2.1
    have a4 : StableHlo.launchContents m' c (Proc.devRef .tc Cert.OutRefIdeal.main_arg4)
        = m ((c.tc : Thread Cert.OutIdeal.nD Cert.OutIdeal.τ).loc Cert.OutIdeal.main_arg4) := (hagree c).2.2.2.2.1
    have a5 : StableHlo.launchContents m' c (Proc.devRef .tc Cert.OutRefIdeal.main_arg5)
        = m ((c.tc : Thread Cert.OutIdeal.nD Cert.OutIdeal.τ).loc Cert.OutIdeal.main_arg5) := (hagree c).2.2.2.2.2.1
    have a6 : StableHlo.launchContents m' c (Proc.devRef .tc Cert.OutRefIdeal.main_arg6)
        = m ((c.tc : Thread Cert.OutIdeal.nD Cert.OutIdeal.τ).loc Cert.OutIdeal.main_arg6) := (hagree c).2.2.2.2.2.2.1
    have a7 : StableHlo.launchContents m' c (Proc.devRef .tc Cert.OutRefIdeal.main_arg7)
        = m ((c.tc : Thread Cert.OutIdeal.nD Cert.OutIdeal.τ).loc Cert.OutIdeal.main_arg7) := (hagree c).2.2.2.2.2.2.2.1
    have a8 : StableHlo.launchContents m' c (Proc.devRef .tc Cert.OutRefIdeal.main_arg8)
        = m ((c.tc : Thread Cert.OutIdeal.nD Cert.OutIdeal.τ).loc Cert.OutIdeal.main_arg8) := (hagree c).2.2.2.2.2.2.2.2.1
    have a9 : StableHlo.launchContents m' c (Proc.devRef .tc Cert.OutRefIdeal.main_arg9)
        = m ((c.tc : Thread Cert.OutIdeal.nD Cert.OutIdeal.τ).loc Cert.OutIdeal.main_arg9) := (hagree c).2.2.2.2.2.2.2.2.2.1
    have a10 : StableHlo.launchContents m' c (Proc.devRef .tc Cert.OutRefIdeal.main_arg10)
        = m ((c.tc : Thread Cert.OutIdeal.nD Cert.OutIdeal.τ).loc Cert.OutIdeal.main_arg10) := (hagree c).2.2.2.2.2.2.2.2.2.2
    refine ⟨hc.1.trans ?_, hc.2.1.trans ?_, hc.2.2.1.trans ?_, hc.2.2.2.1.trans ?_, hc.2.2.2.2.1.trans ?_, hc.2.2.2.2.2.1.trans ?_, hc.2.2.2.2.2.2.1.trans ?_, hc.2.2.2.2.2.2.2.1.trans ?_, hc.2.2.2.2.2.2.2.2.1.trans ?_, hc.2.2.2.2.2.2.2.2.2.1.trans ?_, hc.2.2.2.2.2.2.2.2.2.2.1.trans ?_, hc.2.2.2.2.2.2.2.2.2.2.2⟩
    · rw [Cert.OutRefIdeal.Read.val_main_v149_eq, a0, a1, a2, a3, a4, a5, a6, a7, a8, a9]
      exact (last_xo _ _ _ _ _ _ _ _ _ _ (m ((c.tc : Thread Cert.OutIdeal.nD Cert.OutIdeal.τ).loc Cert.OutIdeal.main_arg10))).trans (xo_final m g c).symm
    · rw [Cert.OutRefIdeal.Read.val_main_v150_eq, a0, a1, a2, a3, a4, a5, a6]
      exact (last_cat _ _ _ _ _ _ _ (m ((c.tc : Thread Cert.OutIdeal.nD Cert.OutIdeal.τ).loc Cert.OutIdeal.main_arg7)) (m ((c.tc : Thread Cert.OutIdeal.nD Cert.OutIdeal.τ).loc Cert.OutIdeal.main_arg8)) (m ((c.tc : Thread Cert.OutIdeal.nD Cert.OutIdeal.τ).loc Cert.OutIdeal.main_arg9)) (m ((c.tc : Thread Cert.OutIdeal.nD Cert.OutIdeal.τ).loc Cert.OutIdeal.main_arg10))).trans (cat_final m g c).symm
    · rw [Cert.OutRefIdeal.Read.val_main_v151_eq, a0, a1, a2, a3, a4, a5, a6, a8, a9, a10]
      exact (last_dpool _ _ _ _ _ _ _ (m ((c.tc : Thread Cert.OutIdeal.nD Cert.OutIdeal.τ).loc Cert.OutIdeal.main_arg7)) _ _ _).trans (dpool_final m g c).symm
    · rw [Cert.OutRefIdeal.Read.val_main_v152_eq, a0, a1, a2, a3, a4, a5, a6, a8, a9, a10]
      exact (last_dmix _ _ _ _ _ _ _ (m ((c.tc : Thread Cert.OutIdeal.nD Cert.OutIdeal.τ).loc Cert.OutIdeal.main_arg7)) _ _ _).trans (dmix_final m g c).symm
    · rw [Cert.OutRefIdeal.Read.val_main_v153_eq, a0, a1, a2, a3, a4, a5, a6, a8, a9, a10]
      exact (last_do0 _ _ _ _ _ _ _ (m ((c.tc : Thread Cert.OutIdeal.nD Cert.OutIdeal.τ).loc Cert.OutIdeal.main_arg7)) _ _ _).trans (do0_final m g c).symm
    · rw [Cert.OutRefIdeal.Read.val_main_v154_eq, a0, a1, a2, a3, a4, a5, a6, a8, a9, a10]
      exact (last_do1 _ _ _ _ _ _ _ (m ((c.tc : Thread Cert.OutIdeal.nD Cert.OutIdeal.τ).loc Cert.OutIdeal.main_arg7)) _ _ _).trans (do1_final m g c).symm
    · rw [Cert.OutRefIdeal.Read.val_main_v155_eq, a0, a1, a2, a3, a4, a5, a6, a8, a9, a10]
      exact (last_do2 _ _ _ _ _ _ _ (m ((c.tc : Thread Cert.OutIdeal.nD Cert.OutIdeal.τ).loc Cert.OutIdeal.main_arg7)) _ _ _).trans (do2_final m g c).symm
    · rw [Cert.OutRefIdeal.Read.val_main_v161_eq, a0, a1, a2, a3, a4, a5, a6, a8, a9, a10]
      exact (last_c0 _ _ _ _ _ _ _ _ _ _ _ (hr c)).trans (c0_final m g c).symm
    · rw [Cert.OutRefIdeal.Read.val_main_v167_eq, a0, a1, a2, a3, a4, a5, a6, a8, a9, a10]
      exact (last_c1 _ _ _ _ _ _ _ _ _ _ _ (hr c)).trans (c1_final m g c).symm
    · rw [Cert.OutRefIdeal.Read.val_main_v173_eq, a0, a1, a2, a3, a4, a5, a6, a8, a9, a10]
      exact (last_c2 _ _ _ _ _ _ _ _ _ _ _ (hr c)).trans (c2_final m g c).symm
    · rw [Cert.OutRefIdeal.Read.val_main_v93_eq, a0, a1, a2, a3, a4, a5, a6, a8, a10]
      exact (last_dgain _ _ _ _ _ _ _ (m ((c.tc : Thread Cert.OutIdeal.nD Cert.OutIdeal.τ).loc Cert.OutIdeal.main_arg7)) _ (m ((c.tc : Thread Cert.OutIdeal.nD Cert.OutIdeal.τ).loc Cert.OutIdeal.main_arg9)) _).trans (dgain_final m g c).symm

end Cert.OutClaims
-- ==== Proof.PoolFwdRun.lean ====
/- The forward call of the pooling: what its body stores, found by running it. -/
module

public import proofs.«01_k».proof.Proof.Gen.PoolIdeal.Launch
public import proofs.«01_k».proof.Proof.Gen.PoolIdeal.Skeleton
public import proofs.«01_k».proof.Proof.Gen.PoolIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Gen.PoolIdeal.Loops

@[expose] public section

set_option maxRecDepth 16384

noncomputable section

namespace Cert.PoolFwd

open Cert.PoolIdeal Cert.PoolIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b)) (c : Dev nD)

local notation "own(" m ", " d ")" => owns (c : Thread nD τ) m fullShare d
local notation "some(" m ")" => iprop(∃ d, owns (c : Thread nD τ) m fullShare d)
set_option quotPrecheck false in
local notation "held(" b ")" => iprop(∃ f : Buf (Elt F) ((c : Thread nD τ).loc b), ((c : Thread nD τ).loc b) ↦{fullShare} f)
set_option quotPrecheck false in
local notation "wrote(" a ", " L ")" => iprop(∃ f, (Memref.view a).loc (c : Thread nD τ) ↦[(Memref.view a).set]{fullShare} (Memref.view a).writes (Elt F) f L)

def fwdTile (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev fwdView3 : View sig .tc .vmem S8192x256 .bf16 := (Memref.whole cc0_stg3_0 : Memref sig .tc .vmem S8192x256 .bf16).view
abbrev fwdBuf0 (t : Fin cfg0.N) : Memref sig .tc .vmem S8192x256 .f32 := win0_0.stage (cfg0.slots t 0)
abbrev fwdWhole0 (t : Fin cfg0.N) : (fwdBuf0 t).IsWhole := hstage0_0 0
abbrev fwdBuf1 (t : Fin cfg0.N) : Memref sig .tc .vmem S256x256 .bf16 := win0_1.stage (cfg0.slots t 1)
abbrev fwdWhole1 (t : Fin cfg0.N) : (fwdBuf1 t).IsWhole := hstage0_1 0
abbrev fwdBuf2 (t : Fin cfg0.N) : Memref sig .tc .vmem S1x256 .f32 := win0_2.stage (cfg0.slots t 2)
abbrev fwdWhole2 (t : Fin cfg0.N) : (fwdBuf2 t).IsWhole := hstage0_2 0
abbrev fwdBuf3 (t : Fin cfg0.N) : Memref sig .tc .vmem S8192x256 .bf16 := win0_3.stage (cfg0.slots t 3)
abbrev fwdWhole3 (t : Fin cfg0.N) : (fwdBuf3 t).IsWhole := hstage0_3 0
abbrev fwdPad0 : Memref sig .tc .vmem S8208x256 .f32 := Memref.whole cc0_scratch0

theorem fwdRest_eq :
    (Pipeline.ΦA spec0 c : sProp 𝕄)
      = iprop(iprop(some(fwdPad0) ∗ held(cc1_stg0_0) ∗ held(cc1_stg1_0) ∗ held(cc1_stg2_0) ∗ held(cc1_stg3_0) ∗ held(cc1_stg4_0) ∗ held(cc1_stg5_0) ∗ held(cc1_stg6_0) ∗ held(cc1_scratch0) ∗ held(cc1_scratch1)) ∗ (∃ r, prngReg c r)) := by
  unfold Pipeline.ΦA; rw [scopedRest0_eq]; simp only [fwdPad0, owns_whole]; try rfl

section Body

variable (a0 : Memref sig .tc .vmem S8192x256 .f32) (h0 : a0.IsWhole) (a1 : Memref sig .tc .vmem S256x256 .bf16) (h1 : a1.IsWhole) (a2 : Memref sig .tc .vmem S1x256 .f32) (h2 : a2.IsWhole) (a3 : Memref sig .tc .vmem S8192x256 .bf16) (h3 : a3.IsWhole) (a4 : Memref sig .tc .vmem S8208x256 .f32) (h4 : a4.IsWhole)
  (x0 : Vec F S8192x256 .f32) (x1 : Vec F S256x256 .bf16) (x2 : Vec F S1x256 .f32)

set_option maxHeartbeats 1000000 in
/-- The stores of the forward body into its result, found by running it. -/
def fwdRun :
    { L3 : List (View.Piece (Elt F) S8192x256 .bf16) //
      ∀ (E : Set ℕ) (K : PUnit → sProp 𝕄),
        iprop(own(a0, x0) ∗ own(a1, x1) ∗ own(a2, x2) ∗ some(a3) ∗ some(a4)
            ∗ (iprop(own(a0, x0) ∗ own(a1, x1) ∗ own(a2, x2) ∗ wrote(a3, L3) ∗ some(a4)) -∗ K ⟨⟩))
          ⊢ wp frame (wpE (defs₀ (F := F)) Variants.none c none) E (cc0_pool_fwd a0 h0 a1 h1 a2 h2 a3 h3 a4 h4) K } := by
  refine ⟨?_, fun E K => ?run⟩
  case run =>
    simp only [cc0_pool_fwd_eq_skeleton]; unfold cc0_pool_fwd_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := h0.eq_unread hf0; obtain rfl := h1.eq_unread hf1; obtain rfl := h2.eq_unread hf2
    sl_exec
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]; · iexists _; iexact H3
    iexists _, _; isplitr; swap; · iexact HS0
    ipureintro; rfl

local notation "𝕣un" => fwdRun c a0 h0 a1 h1 a2 h2 a3 h3 a4 h4 x0 x1 x2

theorem fwdCovers3 (y : S8192x256.Idx) :
    ∃ pc ∈ (𝕣un).1, y ∈ pc.1.set :=
  View.cover_of_tiledL (𝕣un).1 S512x256.size (by sl_kernel_rfl) y

def fwdOut3 : Vec F S8192x256 .bf16 :=
  fwdView3.read (Elt F) (fwdView3.writes (Elt F) fwdView3.junk (𝕣un).1)

end Body

/-- What the result holds after a point. -/
def fwdOuts (t : Fin cfg0.N) : Vec F S8192x256 .bf16 :=
  fwdOut3 c (fwdBuf0 t) (fwdWhole0 t) (fwdBuf1 t) (fwdWhole1 t) (fwdBuf2 t) (fwdWhole2 t) (fwdBuf3 t) (fwdWhole3 t) fwdPad0 (Memref.isWhole_whole _) (fwdTile V c 0 t) (fwdTile V c 1 t) (fwdTile V c 2 t)

/-- What the windows hold before and after each point. -/
def fwdPipe : Dat τ (Elt F) Unit ℕ (UR sig nD τ) ℕ cfg0 c where
  A w := V c (Pipeline.arrRef spec0 w)
  after w t := match w with
    | ⟨0, _⟩ => fwdTile V c 0 t
    | ⟨1, _⟩ => fwdTile V c 1 t
    | ⟨2, _⟩ => fwdTile V c 2 t
    | ⟨3, _⟩ => (fwdOuts V c t)
  Φ _ := Pipeline.ΦA spec0 c
  q _ := fullShare
  owed _ := 0

theorem fwdArr (w : Fin cfg0.W) : (fwdPipe V c).A w = V c (Pipeline.arrRef spec0 w) := by
  dsimp only [fwdPipe]

theorem fwdAfter0 (t : Fin cfg0.N) : (fwdPipe V c).after 0 t = fwdTile V c 0 t := by dsimp only [fwdPipe]
theorem fwdAfter1 (t : Fin cfg0.N) : (fwdPipe V c).after 1 t = fwdTile V c 1 t := by dsimp only [fwdPipe]
theorem fwdAfter2 (t : Fin cfg0.N) : (fwdPipe V c).after 2 t = fwdTile V c 2 t := by dsimp only [fwdPipe]
theorem fwdAfter3 (t : Fin cfg0.N) : (fwdPipe V c).after 3 t = (fwdOuts V c t) := by dsimp only [fwdPipe]

/-- What an operand's window holds before a point, once it holds its block after each. -/
theorem fwdIn_of (w : Fin cfg0.W) (hw : (cfg0.win w).isOut = false) (hl : ∀ i, cfg0.idle w i = false)
    (hc : ∀ t t' : Fin cfg0.N, (cfg0.win w).index t = (cfg0.win w).index t' → (cfg0.win w).clip (cfg0.grid.coords t) = (cfg0.win w).clip (cfg0.grid.coords t'))
    (ha : ∀ t, (cfg0.win w).cut (cfg0.grid.coords t) ((fwdPipe V c).after w t) = fwdTile V c w t) (t : Fin cfg0.N) (d) : (fwdPipe V c).before w t d = (fwdPipe V c).fetched w t d :=
  (fwdPipe V c).before_in_eq_fetched w hw hl hc ha t d
theorem fwdIn0 (t : Fin cfg0.N) (d) : (fwdPipe V c).before 0 t d = fwdTile V c 0 t :=
  fwdIn_of V c 0 rfl (fun _ => rfl) (fun _ _ _ => rfl) (fwdAfter0 V c) t d
theorem fwdIn1 (t : Fin cfg0.N) (d) : (fwdPipe V c).before 1 t d = fwdTile V c 1 t :=
  fwdIn_of V c 1 rfl (fun _ => rfl) (fun _ _ _ => rfl) (fwdAfter1 V c) t d
theorem fwdIn2 (t : Fin cfg0.N) (d) : (fwdPipe V c).before 2 t d = fwdTile V c 2 t :=
  fwdIn_of V c 2 rfl (fun _ => rfl) (fun _ _ _ => rfl) (fwdAfter2 V c) t d

def fwdEntry (t : Fin cfg0.N) : sProp 𝕄 :=
  iprop((fwdPipe V c).Φ t.castSucc ∗ (fwdPipe V c).owesAt () t.castSucc
    ∗ (∃ d, own((fwdBuf0 t), ((fwdPipe V c).before 0 t d)))
    ∗ (∃ d, own((fwdBuf1 t), ((fwdPipe V c).before 1 t d)))
    ∗ (∃ d, own((fwdBuf2 t), ((fwdPipe V c).before 2 t d)))
    ∗ (∃ d, own((fwdBuf3 t), ((fwdPipe V c).before 3 t d))))

def fwdExit (t : Fin cfg0.N) : sProp 𝕄 :=
  iprop((fwdPipe V c).Φ t.succ ∗ (fwdPipe V c).owesAt () t.succ
    ∗ own((fwdBuf0 t), ((fwdPipe V c).after 0 t))
    ∗ own((fwdBuf1 t), ((fwdPipe V c).after 1 t))
    ∗ own((fwdBuf2 t), ((fwdPipe V c).after 2 t))
    ∗ own((fwdBuf3 t), ((fwdPipe V c).after 3 t)))

theorem fwdStep (t : Fin cfg0.N) :
    fwdEntry V c t ⊢ wp frame (wpE (defs₀ (F := F)) Variants.none c none) Set.univ (bodyAt0 t) (fun _ => fwdExit V c t) := by
  unfold fwdEntry fwdExit bodyAt0
  simp only [fwdIn0, fwdIn1, fwdIn2]
  rw [show (fwdPipe V c).Φ t.succ = (fwdPipe V c).Φ t.castSucc from rfl,
    show (fwdPipe V c).owesAt () t.succ = (fwdPipe V c).owesAt () t.castSucc from rfl,
    fwdAfter0, fwdAfter1, fwdAfter2, fwdAfter3]
  rw [show (fwdPipe V c).Φ t.castSucc = Pipeline.ΦA spec0 c from rfl, fwdRest_eq]
  unfold fwdOuts
  unfold fwdOut3
  iintro ⟨⟨⟨HS0, HR1, HR2, HR3, HR4, HR5, HR6, HR7, HR8, HR9⟩, Hg⟩, Ho, ⟨%d0, H0⟩, ⟨%d1, H1⟩, ⟨%d2, H2⟩, ⟨%d3, H3⟩⟩
  iapply ((fwdRun c _ _ _ _ _ _ _ _ _ _ (fwdTile V c 0 t) (fwdTile V c 1 t) (fwdTile V c 2 t)).2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, HS0⟩
  isplitl [HS0 HR1 HR2 HR3 HR4 HR5 HR6 HR7 HR8 HR9 Hg]
  · isplitl [HS0 HR1 HR2 HR3 HR4 HR5 HR6 HR7 HR8 HR9]
    · isplitl [HS0]
      · iexact HS0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      iexact HR9
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (fwdCovers3 c _ _ _ _ _ _ _ _ _ _ _ _ _)

theorem fwdDef (t : Fin cfg0.N) :
    defs₀ (F := F) .tc cfg0.body (cfg0.bodyArgs t (cfg0.slots t)) = bodyAt0 t := by
  unfold defs₀; rw [Defs.onTc_tc]

/-- The body keeps to that at every point. -/
theorem fwdBody : BodyObligation (fwdPipe (F := F) V c) (defs₀ (F := F)) Variants.none () Set.univ := fun t => by
  rw [bigSep_W0, bigSep_W0, fwdDef]
  exact triple_restated (fwdStep V c t) rfl .rfl fun _ => .rfl

end

end Cert.PoolFwd

end
-- ==== Proof.PoolLoop.lean ====
/- The loop over the 16 blocks of rows in the pooling's backward call: what one block stores, what the blocks before
   it have stored, and the invariant with which the call's run goes through the loop. The block's gradient of the rows does not
   depend on what any buffer held before it; the two accumulators are read and stored back. -/
module

public import proofs.«01_k».proof.Proof.Gen.PoolIdeal.Skeleton
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.PoolBwd

open Cert.PoolIdeal Cert.PoolIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Loop

variable (𝒱 : Variants) (c : Dev nD) (bd : Option 𝒱.V) (i : grid1.Coords)
variable (a1 : Memref sig .tc .vmem S8192x256 .f32) (h1 : a1.IsWhole) (a2 : Memref sig .tc .vmem S8192x256 .f32) (h2 : a2.IsWhole) (a3 : Memref sig .tc .vmem S256x256 .bf16) (h3 : a3.IsWhole) (a4 : Memref sig .tc .vmem S1x256 .f32) (h4 : a4.IsWhole) (a5 : Memref sig .tc .vmem S8192x256 .bf16) (h5 : a5.IsWhole) (a6 : Memref sig .tc .vmem S256x256 .f32) (h6 : a6.IsWhole) (a7 : Memref sig .tc .vmem S1x256 .f32) (h7 : a7.IsWhole) (a8 : Memref sig .tc .vmem S8208x256 .f32) (h8 : a8.IsWhole) (a9 : Memref sig .tc .vmem S8208x256 .f32) (h9 : a9.IsWhole)
variable (x3 : BufTy.Contents (Elt F) a3.view.ty) (x4 : BufTy.Contents (Elt F) a4.view.ty) (x8 : BufTy.Contents (Elt F) a8.view.ty) (x9 : BufTy.Contents (Elt F) a9.view.ty)

/-- The buffers a block touches: the inputs and the padded copies at what they hold, the three it stores into at the contents named. -/
abbrev Held (f5 : BufTy.Contents (Elt F) a5.view.ty) (f6 : BufTy.Contents (Elt F) a6.view.ty)
    (f7 : BufTy.Contents (Elt F) a7.view.ty) : sProp 𝕄 :=
  iprop((a3.view.loc (c : Thread nD τ) ↦[a3.view.set]{fullShare} x3) ∗ (a4.view.loc (c : Thread nD τ) ↦[a4.view.set]{fullShare} x4) ∗ (a8.view.loc (c : Thread nD τ) ↦[a8.view.set]{fullShare} x8) ∗ (a9.view.loc (c : Thread nD τ) ↦[a9.view.set]{fullShare} x9)
    ∗ (a5.view.loc (c : Thread nD τ) ↦[a5.view.set]{fullShare} f5) ∗ (a6.view.loc (c : Thread nD τ) ↦[a6.view.set]{fullShare} f6) ∗ (a7.view.loc (c : Thread nD τ) ↦[a7.view.set]{fullShare} f7))

/-- One block: its stores into the gradient of the rows, and into either accumulator from what that accumulator held. -/
@[irreducible] def blockRun (k : Fin k1_t1_loop.trips) :
    Σ' (du : List (View.Piece (Elt F) S8192x256 .bf16))
       (dw : BufTy.Contents (Elt F) a6.view.ty → List (View.Piece (Elt F) S256x256 .f32)),
      { ds : BufTy.Contents (Elt F) a7.view.ty → List (View.Piece (Elt F) S1x256 .f32) // ∀ (E : Set ℕ)
          (f5 : BufTy.Contents (Elt F) a5.view.ty) (f6 : BufTy.Contents (Elt F) a6.view.ty)
          (f7 : BufTy.Contents (Elt F) a7.view.ty),
        Held (F := F) c a3 a4 a5 a6 a7 a8 a9 x3 x4 x8 x9 f5 f6 f7
        ⊢ wp frame (wpE (defs₀ (F := F)) 𝒱 (c : Thread nD τ) bd) E (k1_t1_body (F := F) i a1 h1 a2 h2 a3 h3 a4 h4 a5 h5 a6 h6 a7 h7 a8 h8 a9 h9 k PUnit.unit)
          (fun _ => Held (F := F) c a3 a4 a5 a6 a7 a8 a9 x3 x4 x8 x9 (a5.view.writes (Elt F) f5 du) (a6.view.writes (Elt F) f6 (dw f6))
            (a7.view.writes (Elt F) f7 (ds f7))) } := by
  have hk : k.val < 16 := Nat.lt_of_lt_of_le k.isLt k1_t1_abs.2.1
  refine ⟨?_, ?_, ?_, fun E f5 f6 f7 => ?body⟩
  case body =>
    unfold k1_t1_body
    iintro ⟨H3, H4, H8, H9, H5, H6, H7⟩
    sl_exec
    sl_step
    sl_close

local notation "on(" f ")" => f (F := F) 𝒱 c bd i a1 h1 a2 h2 a3 h3 a4 h4 a5 h5 a6 h6 a7 h7 a8 h8 a9 h9 x3 x4 x8 x9

/-- The stores of the blocks before `k` into the gradient of the rows, the last first. -/
def duStores : ℕ → List (View.Piece (Elt F) S8192x256 .bf16)
  | 0 => []
  | k + 1 => if h : k < k1_t1_loop.trips then (on(blockRun) ⟨k, h⟩).1 ++ duStores k else duStores k

/-- The stores of the blocks before `k` into the accumulator of the weights' gradient, which held `g` at the loop's entry. -/
def dwStores (g : BufTy.Contents (Elt F) a6.view.ty) : ℕ → List (View.Piece (Elt F) S256x256 .f32)
  | 0 => []
  | k + 1 => if h : k < k1_t1_loop.trips then
      (on(blockRun) ⟨k, h⟩).2.1 (a6.view.writes (Elt F) g (dwStores g k)) ++ dwStores g k else dwStores g k

/-- The stores of the blocks before `k` into the accumulator of the scale's gradient, which held `g` at the loop's entry. -/
def dsStores (g : BufTy.Contents (Elt F) a7.view.ty) : ℕ → List (View.Piece (Elt F) S1x256 .f32)
  | 0 => []
  | k + 1 => if h : k < k1_t1_loop.trips then
      (on(blockRun) ⟨k, h⟩).2.2.1 (a7.view.writes (Elt F) g (dsStores g k)) ++ dsStores g k else dsStores g k

theorem duStores_succ (k : Fin k1_t1_loop.trips) :
    on(duStores) (k.val + 1) = (on(blockRun) k).1 ++ on(duStores) k.val := by
  rw [duStores]; exact dif_pos k.isLt

theorem dwStores_succ (g : BufTy.Contents (Elt F) a6.view.ty) (k : Fin k1_t1_loop.trips) :
    on(dwStores) g (k.val + 1)
      = (on(blockRun) k).2.1 (a6.view.writes (Elt F) g (on(dwStores) g k.val)) ++ on(dwStores) g k.val := by
  rw [dwStores]; exact dif_pos k.isLt

theorem dsStores_succ (g : BufTy.Contents (Elt F) a7.view.ty) (k : Fin k1_t1_loop.trips) :
    on(dsStores) g (k.val + 1)
      = (on(blockRun) k).2.2.1 (a7.view.writes (Elt F) g (on(dsStores) g k.val)) ++ on(dsStores) g k.val := by
  rw [dsStores]; exact dif_pos k.isLt

/-- Before block `k`: the inputs as they were, each buffer stored into holding the earlier blocks' stores over its contents at the entry. -/
abbrev before (g5 : BufTy.Contents (Elt F) a5.view.ty) (g6 : BufTy.Contents (Elt F) a6.view.ty)
    (g7 : BufTy.Contents (Elt F) a7.view.ty) (k : ℕ) (_u : PUnit) : sProp 𝕄 :=
  iprop((a3.view.loc (c : Thread nD τ) ↦[a3.view.set]{fullShare} x3) ∗ (a4.view.loc (c : Thread nD τ) ↦[a4.view.set]{fullShare} x4) ∗ (a8.view.loc (c : Thread nD τ) ↦[a8.view.set]{fullShare} x8) ∗ (a9.view.loc (c : Thread nD τ) ↦[a9.view.set]{fullShare} x9)
    ∗ (∃ f, (a5.view.loc (c : Thread nD τ) ↦[a5.view.set]{fullShare} f) ∗ ⌜f = a5.view.writes (Elt F) g5 (on(duStores) k)⌝)
    ∗ (∃ f, (a6.view.loc (c : Thread nD τ) ↦[a6.view.set]{fullShare} f) ∗ ⌜f = a6.view.writes (Elt F) g6 (on(dwStores) g6 k)⌝)
    ∗ (∃ f, (a7.view.loc (c : Thread nD τ) ↦[a7.view.set]{fullShare} f) ∗ ⌜f = a7.view.writes (Elt F) g7 (on(dsStores) g7 k)⌝))

set_option warn.classDefReducibility false in
/-- The loop by that invariant. -/
@[sl_loop] def loopOver (E : Set ℕ) (g5 : BufTy.Contents (Elt F) a5.view.ty) (g6 : BufTy.Contents (Elt F) a6.view.ty)
    (g7 : BufTy.Contents (Elt F) a7.view.ty) :
    Idealize.ShloMosaic.LoopInv (M := 𝕄) Idealize.ShloMosaic.frame (wpE defs₀ 𝒱 (c : Thread nD τ) bd) E
      k1_t1_loop.lb k1_t1_loop.ub k1_t1_loop.st k1_t1_ok () (k1_t1_body (F := F) i a1 h1 a2 h2 a3 h3 a4 h4 a5 h5 a6 h6 a7 h7 a8 h8 a9 h9) where
  inv := on(before) g5 g6 g7
  step k acc := by
    iintro ⟨H3, H4, H8, H9, ⟨%f5, H5, %e5⟩, ⟨%f6, H6, %e6⟩, ⟨%f7, H7, %e7⟩⟩
    iapply (wp_wand_r Idealize.ShloMosaic.frame (wpE (defs₀ (F := F)) 𝒱 (c : Thread nD τ) bd) E)
    isplitl [H3 H4 H8 H9 H5 H6 H7]
    · iapply ((on(blockRun) k).2.2.2 E f5 f6 f7)
      isplitl [H3]; · iexact H3
      isplitl [H4]; · iexact H4
      isplitl [H8]; · iexact H8
      isplitl [H9]; · iexact H9
      isplitl [H5]; · iexact H5
      isplitl [H6]; · iexact H6
      iexact H7
    · iintro %_ ⟨H3, H4, H8, H9, H5, H6, H7⟩
      isplitl [H3]; · iexact H3
      isplitl [H4]; · iexact H4
      isplitl [H8]; · iexact H8
      isplitl [H9]; · iexact H9
      rw [duStores_succ, dwStores_succ, dsStores_succ]
      isplitl [H5]
      · iexists _; isplitl [H5]; · iexact H5
        ipureintro; rw [e5, ← View.writes_append]
      isplitl [H6]
      · iexists _; isplitl [H6]; · iexact H6
        ipureintro; rw [e6, ← View.writes_append]
      iexists _; isplitl [H7]; · iexact H7
      ipureintro; rw [e7, ← View.writes_append]

end Loop

end Cert.PoolBwd

end
-- ==== Proof.PoolBwdRun.lean ====
/- The backward call of the pooling: what its body stores, found by running it. -/
module

public import proofs.«01_k».proof.Proof.Gen.PoolIdeal.Launch
public import proofs.«01_k».proof.Proof.Gen.PoolIdeal.Skeleton
public import proofs.«01_k».proof.Proof.Gen.PoolIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.PoolLoop

@[expose] public section

set_option maxRecDepth 16384

noncomputable section

namespace Cert.PoolBwd

open Cert.PoolIdeal Cert.PoolIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b)) (c : Dev nD)

local notation "own(" m ", " d ")" => owns (c : Thread nD τ) m fullShare d
local notation "some(" m ")" => iprop(∃ d, owns (c : Thread nD τ) m fullShare d)
set_option quotPrecheck false in
local notation "held(" b ")" => iprop(∃ f : Buf (Elt F) ((c : Thread nD τ).loc b), ((c : Thread nD τ).loc b) ↦{fullShare} f)
set_option quotPrecheck false in
local notation "wrote(" a ", " L ")" => iprop(∃ f, (Memref.view a).loc (c : Thread nD τ) ↦[(Memref.view a).set]{fullShare} (Memref.view a).writes (Elt F) f L)

def bwdTile (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev bwdView4 : View sig .tc .vmem S8192x256 .bf16 := (Memref.whole cc1_stg4_0 : Memref sig .tc .vmem S8192x256 .bf16).view
abbrev bwdView5 : View sig .tc .vmem S256x256 .f32 := (Memref.whole cc1_stg5_0 : Memref sig .tc .vmem S256x256 .f32).view
abbrev bwdView6 : View sig .tc .vmem S1x256 .f32 := (Memref.whole cc1_stg6_0 : Memref sig .tc .vmem S1x256 .f32).view
abbrev bwdBuf0 (t : Fin cfg1.N) : Memref sig .tc .vmem S8192x256 .f32 := win1_0.stage (cfg1.slots t 0)
abbrev bwdWhole0 (t : Fin cfg1.N) : (bwdBuf0 t).IsWhole := hstage1_0 ((cfg1.slots t 0).cast nbuf1_0)
abbrev bwdBuf1 (t : Fin cfg1.N) : Memref sig .tc .vmem S8192x256 .f32 := win1_1.stage (cfg1.slots t 1)
abbrev bwdWhole1 (t : Fin cfg1.N) : (bwdBuf1 t).IsWhole := hstage1_1 ((cfg1.slots t 1).cast nbuf1_1)
abbrev bwdBuf2 (t : Fin cfg1.N) : Memref sig .tc .vmem S256x256 .bf16 := win1_2.stage (cfg1.slots t 2)
abbrev bwdWhole2 (t : Fin cfg1.N) : (bwdBuf2 t).IsWhole := hstage1_2 ((cfg1.slots t 2).cast nbuf1_2)
abbrev bwdBuf3 (t : Fin cfg1.N) : Memref sig .tc .vmem S1x256 .f32 := win1_3.stage (cfg1.slots t 3)
abbrev bwdWhole3 (t : Fin cfg1.N) : (bwdBuf3 t).IsWhole := hstage1_3 ((cfg1.slots t 3).cast nbuf1_3)
abbrev bwdBuf4 (t : Fin cfg1.N) : Memref sig .tc .vmem S8192x256 .bf16 := win1_4.stage (cfg1.slots t 4)
abbrev bwdWhole4 (t : Fin cfg1.N) : (bwdBuf4 t).IsWhole := hstage1_4 ((cfg1.slots t 4).cast nbuf1_4)
abbrev bwdBuf5 (t : Fin cfg1.N) : Memref sig .tc .vmem S256x256 .f32 := win1_5.stage (cfg1.slots t 5)
abbrev bwdWhole5 (t : Fin cfg1.N) : (bwdBuf5 t).IsWhole := hstage1_5 ((cfg1.slots t 5).cast nbuf1_5)
abbrev bwdBuf6 (t : Fin cfg1.N) : Memref sig .tc .vmem S1x256 .f32 := win1_6.stage (cfg1.slots t 6)
abbrev bwdWhole6 (t : Fin cfg1.N) : (bwdBuf6 t).IsWhole := hstage1_6 ((cfg1.slots t 6).cast nbuf1_6)
abbrev bwdPad0 : Memref sig .tc .vmem S8208x256 .f32 := Memref.whole cc1_scratch0
abbrev bwdPad1 : Memref sig .tc .vmem S8208x256 .f32 := Memref.whole cc1_scratch1

theorem bwdRest_eq :
    (Pipeline.ΦA spec1 c : sProp 𝕄)
      = iprop(iprop(held(cc0_stg0_0) ∗ held(cc0_stg1_0) ∗ held(cc0_stg2_0) ∗ held(cc0_stg3_0) ∗ held(cc0_scratch0) ∗ some(bwdPad0) ∗ some(bwdPad1)) ∗ (∃ r, prngReg c r)) := by
  unfold Pipeline.ΦA; rw [scopedRest1_eq]; simp only [bwdPad0, bwdPad1, owns_whole]; try rfl

section Body

variable (i : grid1.Coords) (a1 : Memref sig .tc .vmem S8192x256 .f32) (h1 : a1.IsWhole) (a2 : Memref sig .tc .vmem S8192x256 .f32) (h2 : a2.IsWhole) (a3 : Memref sig .tc .vmem S256x256 .bf16) (h3 : a3.IsWhole) (a4 : Memref sig .tc .vmem S1x256 .f32) (h4 : a4.IsWhole) (a5 : Memref sig .tc .vmem S8192x256 .bf16) (h5 : a5.IsWhole) (a6 : Memref sig .tc .vmem S256x256 .f32) (h6 : a6.IsWhole) (a7 : Memref sig .tc .vmem S1x256 .f32) (h7 : a7.IsWhole) (a8 : Memref sig .tc .vmem S8208x256 .f32) (h8 : a8.IsWhole) (a9 : Memref sig .tc .vmem S8208x256 .f32) (h9 : a9.IsWhole)
  (x0 : Vec F S8192x256 .f32) (x1 : Vec F S8192x256 .f32) (x2 : Vec F S256x256 .bf16) (x3 : Vec F S1x256 .f32)

set_option maxHeartbeats 1000000 in
/-- The stores of the backward body into its three results, found by running it: the loop goes by `loopOver`. -/
def bwdRun :
    Σ' (L4 : List (View.Piece (Elt F) S8192x256 .bf16)), Σ' (L5 : List (View.Piece (Elt F) S256x256 .f32)), { L6 : List (View.Piece (Elt F) S1x256 .f32) //
      ∀ (E : Set ℕ) (K : PUnit → sProp 𝕄),
        iprop(own(a1, x0) ∗ own(a2, x1) ∗ own(a3, x2) ∗ own(a4, x3) ∗ some(a5) ∗ some(a6) ∗ some(a7) ∗ some(a8) ∗ some(a9)
            ∗ (iprop(own(a1, x0) ∗ own(a2, x1) ∗ own(a3, x2) ∗ own(a4, x3) ∗ wrote(a5, L4) ∗ wrote(a6, L5) ∗ wrote(a7, L6) ∗ some(a8) ∗ some(a9)) -∗ K ⟨⟩))
          ⊢ wp frame (wpE (defs₀ (F := F)) Variants.none c none) E (cc1_pool_bwd i a1 h1 a2 h2 a3 h3 a4 h4 a5 h5 a6 h6 a7 h7 a8 h8 a9 h9) K } := by
  refine ⟨?_, ?_, ?_, fun E K => ?run⟩
  case run =>
    simp only [cc1_pool_bwd_eq_skeleton]; unfold cc1_pool_bwd_skel
    simp only [k1_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := h1.eq_unread hf0; obtain rfl := h2.eq_unread hf1; obtain rfl := h3.eq_unread hf2; obtain rfl := h4.eq_unread hf3
    sl_exec
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]; · iexists _; iexact H4
    isplitl [H5]; · iexists _; iexact H5
    isplitl [H6]; · iexists _; iexact H6
    isplitl [HS0]
    · iexists _, _; isplitr; swap; · iexact HS0
      ipureintro; rfl
    iexists _, _; isplitr; swap; · iexact HS1
    ipureintro; rfl

local notation "𝕣un" => bwdRun c i a1 h1 a2 h2 a3 h3 a4 h4 a5 h5 a6 h6 a7 h7 a8 h8 a9 h9 x0 x1 x2 x3

theorem bwdCovers4 (y : S8192x256.Idx) :
    ∃ pc ∈ (𝕣un).1, y ∈ pc.1.set :=
  View.cover_of_tiledL (𝕣un).1 S512x256.size (by sl_kernel_rfl) y

def bwdOut4 : Vec F S8192x256 .bf16 :=
  bwdView4.read (Elt F) (bwdView4.writes (Elt F) bwdView4.junk (𝕣un).1)

theorem bwdCovers5 (y : S256x256.Idx) :
    ∃ pc ∈ (𝕣un).2.1, y ∈ pc.1.set :=
  View.cover_of_tiledL (𝕣un).2.1 S256x256.size (by sl_kernel_rfl) y

def bwdOut5 : Vec F S256x256 .f32 :=
  bwdView5.read (Elt F) (bwdView5.writes (Elt F) bwdView5.junk (𝕣un).2.1)

theorem bwdCovers6 (y : S1x256.Idx) :
    ∃ pc ∈ (𝕣un).2.2.1, y ∈ pc.1.set :=
  View.cover_of_tiledL (𝕣un).2.2.1 S1x256.size (by sl_kernel_rfl) y

def bwdOut6 : Vec F S1x256 .f32 :=
  bwdView6.read (Elt F) (bwdView6.writes (Elt F) bwdView6.junk (𝕣un).2.2.1)

end Body

/-! The operands of the body at a point. -/
local notation "at(" f ", " t ")" => f c (grid1.coords t) (bwdBuf0 t) (bwdWhole0 t) (bwdBuf1 t) (bwdWhole1 t) (bwdBuf2 t) (bwdWhole2 t) (bwdBuf3 t) (bwdWhole3 t) (bwdBuf4 t) (bwdWhole4 t) (bwdBuf5 t) (bwdWhole5 t) (bwdBuf6 t) (bwdWhole6 t) bwdPad0 (Memref.isWhole_whole _) bwdPad1 (Memref.isWhole_whole _) (bwdTile V c 0 t) (bwdTile V c 1 t) (bwdTile V c 2 t) (bwdTile V c 3 t)

/-- What the three results hold after a point. -/
def bwdOuts (t : Fin cfg1.N) : Vec F S8192x256 .bf16 × Vec F S256x256 .f32 × Vec F S1x256 .f32 :=
  (at(bwdOut4, t), at(bwdOut5, t), at(bwdOut6, t))

/-- What the windows hold before and after each point. -/
def bwdPipe : Dat τ (Elt F) Unit ℕ (UR sig nD τ) ℕ cfg1 c where
  A w := V c (Pipeline.arrRef spec1 w)
  after w t := match w with
    | ⟨0, _⟩ => bwdTile V c 0 t
    | ⟨1, _⟩ => bwdTile V c 1 t
    | ⟨2, _⟩ => bwdTile V c 2 t
    | ⟨3, _⟩ => bwdTile V c 3 t
    | ⟨4, _⟩ => (bwdOuts V c t).1
    | ⟨5, _⟩ => (bwdOuts V c t).2.1
    | ⟨6, _⟩ => (bwdOuts V c t).2.2
  Φ _ := Pipeline.ΦA spec1 c
  q _ := fullShare
  owed _ := 0

theorem bwdArr (w : Fin cfg1.W) : (bwdPipe V c).A w = V c (Pipeline.arrRef spec1 w) := by
  dsimp only [bwdPipe]

theorem bwdAfter0 (t : Fin cfg1.N) : (bwdPipe V c).after 0 t = bwdTile V c 0 t := by dsimp only [bwdPipe]
theorem bwdAfter1 (t : Fin cfg1.N) : (bwdPipe V c).after 1 t = bwdTile V c 1 t := by dsimp only [bwdPipe]
theorem bwdAfter2 (t : Fin cfg1.N) : (bwdPipe V c).after 2 t = bwdTile V c 2 t := by dsimp only [bwdPipe]
theorem bwdAfter3 (t : Fin cfg1.N) : (bwdPipe V c).after 3 t = bwdTile V c 3 t := by dsimp only [bwdPipe]
theorem bwdAfter4 (t : Fin cfg1.N) : (bwdPipe V c).after 4 t = (bwdOuts V c t).1 := by dsimp only [bwdPipe]
theorem bwdAfter5 (t : Fin cfg1.N) : (bwdPipe V c).after 5 t = (bwdOuts V c t).2.1 := by dsimp only [bwdPipe]
theorem bwdAfter6 (t : Fin cfg1.N) : (bwdPipe V c).after 6 t = (bwdOuts V c t).2.2 := by dsimp only [bwdPipe]

/-- What an operand's window holds before a point, once it holds its block after each. -/
theorem bwdIn_of (w : Fin cfg1.W) (hw : (cfg1.win w).isOut = false) (hl : ∀ i, cfg1.idle w i = false)
    (hc : ∀ t t' : Fin cfg1.N, (cfg1.win w).index t = (cfg1.win w).index t' → (cfg1.win w).clip (cfg1.grid.coords t) = (cfg1.win w).clip (cfg1.grid.coords t'))
    (ha : ∀ t, (cfg1.win w).cut (cfg1.grid.coords t) ((bwdPipe V c).after w t) = bwdTile V c w t) (t : Fin cfg1.N) (d) : (bwdPipe V c).before w t d = (bwdPipe V c).fetched w t d :=
  (bwdPipe V c).before_in_eq_fetched w hw hl hc ha t d
theorem bwdIn0 (t : Fin cfg1.N) (d) : (bwdPipe V c).before 0 t d = bwdTile V c 0 t :=
  bwdIn_of V c 0 rfl (fun _ => rfl) (fun _ _ _ => rfl) (bwdAfter0 V c) t d
theorem bwdIn1 (t : Fin cfg1.N) (d) : (bwdPipe V c).before 1 t d = bwdTile V c 1 t :=
  bwdIn_of V c 1 rfl (fun _ => rfl) (fun _ _ _ => rfl) (bwdAfter1 V c) t d
theorem bwdIn2 (t : Fin cfg1.N) (d) : (bwdPipe V c).before 2 t d = bwdTile V c 2 t :=
  bwdIn_of V c 2 rfl (fun _ => rfl) (fun _ _ _ => rfl) (bwdAfter2 V c) t d
theorem bwdIn3 (t : Fin cfg1.N) (d) : (bwdPipe V c).before 3 t d = bwdTile V c 3 t :=
  bwdIn_of V c 3 rfl (fun _ => rfl) (fun _ _ _ => rfl) (bwdAfter3 V c) t d

def bwdEntry (t : Fin cfg1.N) : sProp 𝕄 :=
  iprop((bwdPipe V c).Φ t.castSucc ∗ (bwdPipe V c).owesAt () t.castSucc
    ∗ (∃ d, own((bwdBuf0 t), ((bwdPipe V c).before 0 t d)))
    ∗ (∃ d, own((bwdBuf1 t), ((bwdPipe V c).before 1 t d)))
    ∗ (∃ d, own((bwdBuf2 t), ((bwdPipe V c).before 2 t d)))
    ∗ (∃ d, own((bwdBuf3 t), ((bwdPipe V c).before 3 t d)))
    ∗ (∃ d, own((bwdBuf4 t), ((bwdPipe V c).before 4 t d)))
    ∗ (∃ d, own((bwdBuf5 t), ((bwdPipe V c).before 5 t d)))
    ∗ (∃ d, own((bwdBuf6 t), ((bwdPipe V c).before 6 t d))))

def bwdExit (t : Fin cfg1.N) : sProp 𝕄 :=
  iprop((bwdPipe V c).Φ t.succ ∗ (bwdPipe V c).owesAt () t.succ
    ∗ own((bwdBuf0 t), ((bwdPipe V c).after 0 t))
    ∗ own((bwdBuf1 t), ((bwdPipe V c).after 1 t))
    ∗ own((bwdBuf2 t), ((bwdPipe V c).after 2 t))
    ∗ own((bwdBuf3 t), ((bwdPipe V c).after 3 t))
    ∗ own((bwdBuf4 t), ((bwdPipe V c).after 4 t))
    ∗ own((bwdBuf5 t), ((bwdPipe V c).after 5 t))
    ∗ own((bwdBuf6 t), ((bwdPipe V c).after 6 t)))

set_option maxHeartbeats 800000 in
theorem bwdStep (t : Fin cfg1.N) :
    bwdEntry V c t ⊢ wp frame (wpE (defs₀ (F := F)) Variants.none c none) Set.univ (bodyAt1 t) (fun _ => bwdExit V c t) := by
  unfold bwdEntry bwdExit bodyAt1
  simp only [bwdIn0, bwdIn1, bwdIn2, bwdIn3]
  rw [show (bwdPipe V c).Φ t.succ = (bwdPipe V c).Φ t.castSucc from rfl,
    show (bwdPipe V c).owesAt () t.succ = (bwdPipe V c).owesAt () t.castSucc from rfl,
    bwdAfter0, bwdAfter1, bwdAfter2, bwdAfter3, bwdAfter4, bwdAfter5, bwdAfter6]
  rw [show (bwdPipe V c).Φ t.castSucc = Pipeline.ΦA spec1 c from rfl, bwdRest_eq]
  unfold bwdOuts
  unfold bwdOut4 bwdOut5 bwdOut6; (try dsimp only)
  iintro ⟨⟨⟨HR0, HR1, HR2, HR3, HR4, HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((bwdRun c (grid1.coords t) _ _ _ _ _ _ _ _ _ _ _ _ _ _ _ _ _ _ (bwdTile V c 0 t) (bwdTile V c 1 t) (bwdTile V c 2 t) (bwdTile V c 3 t)).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, H3, ⟨%e4, H4⟩, ⟨%e5, H5⟩, ⟨%e6, H6⟩, HS0, HS1⟩
  isplitl [HR0 HR1 HR2 HR3 HR4 HS0 HS1 Hg]
  · isplitl [HR0 HR1 HR2 HR3 HR4 HS0 HS1]
    · isplitl [HR0]
      · iexact HR0
      isplitl [HR1]
      · iexact HR1
      isplitl [HR2]
      · iexact HR2
      isplitl [HR3]
      · iexact HR3
      isplitl [HR4]
      · iexact HR4
      isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (bwdCovers4 c _ _ _ _ _ _ _ _ _ _ _ _ _ _ _ _ _ _ _ _ _ _ _)
  isplitl [H5]
  · unfold owns; iexists _; isplitr
    swap; · iexact H5
    ipureintro; exact View.read_writes_of_cover _ _ _ _ _ (bwdCovers5 c _ _ _ _ _ _ _ _ _ _ _ _ _ _ _ _ _ _ _ _ _ _ _)
  unfold owns; iexists _; isplitr
  swap; · iexact H6
  ipureintro; exact View.read_writes_of_cover _ _ _ _ _ (bwdCovers6 c _ _ _ _ _ _ _ _ _ _ _ _ _ _ _ _ _ _ _ _ _ _ _)

theorem bwdDef (t : Fin cfg1.N) :
    defs₀ (F := F) .tc cfg1.body (cfg1.bodyArgs t (cfg1.slots t)) = bodyAt1 t := by
  unfold defs₀; rw [Defs.onTc_tc]

/-- The body keeps to that at every point. -/
theorem bwdBody : BodyObligation (bwdPipe (F := F) V c) (defs₀ (F := F)) Variants.none () Set.univ := fun t => by
  rw [bigSep_W1, bigSep_W1, bwdDef]
  exact triple_restated (bwdStep V c t) rfl .rfl fun _ => .rfl

end

end Cert.PoolBwd

end
-- ==== Proof.PoolRun.lean ====
/- The pooling program, its two calls and the host operations around them, run from the launch to the return. -/
module

public import proofs.«01_k».proof.Proof.PoolFwdRun
public import proofs.«01_k».proof.Proof.PoolBwdRun

@[expose] public section

set_option maxRecDepth 16384

noncomputable section

namespace Cert.PoolRun

open Cert.PoolIdeal Cert.PoolIdeal.Gen Cert.PoolFwd Cert.PoolBwd
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four arguments. -/
abbrev argArrays : List (Ref sig .tc) := [main_arg0, main_arg1, main_arg2, main_arg3]

theorem host0_fresh : (hostOps0 : List (HloOp τ sig (Elt F))).Forall fun op => op.fresh = ∅ := by
  simp only [List.Forall]; repeat' constructor
abbrev host0Writes : List (Ref sig .tc) := [main_v0, main_v1, main_v2, main_c, main_v3, main_v4, main_v5, main_v6, main_v7, main_v8, main_v9, main_v10, main_v11, main_v12, main_v13, main_v14]
theorem host0_writes : (hostOps0 : List (HloOp τ sig (Elt F))).Forall fun op => op.writes ⊆ (host0Writes.map (Proc.devRef (τ := τ) .tc)).toFinset :=
  StableHlo.forall_writes_sub_of_map rfl
theorem host0_args : ∀ a ∈ argArrays, a ∉ host0Writes := ListAll.forall_mem_of_all_decide (by decide +kernel)

theorem host1_fresh : (hostOps1 : List (HloOp τ sig (Elt F))).Forall fun op => op.fresh = ∅ := by
  simp only [List.Forall]; repeat' constructor
abbrev host1Writes : List (Ref sig .tc) := [main_v16, main_v17]
theorem host1_writes : (hostOps1 : List (HloOp τ sig (Elt F))).Forall fun op => op.writes ⊆ (host1Writes.map (Proc.devRef (τ := τ) .tc)).toFinset :=
  StableHlo.forall_writes_sub_of_map rfl
theorem host1_args : ∀ a ∈ argArrays, a ∉ host1Writes := ListAll.forall_mem_of_all_decide (by decide +kernel)

theorem host2_fresh : (hostOps2 : List (HloOp τ sig (Elt F))).Forall fun op => op.fresh = ∅ := by
  simp only [List.Forall]; repeat' constructor
abbrev host2Writes : List (Ref sig .tc) := [main_v19, main_v20, main_v21, main_v22, main_v23, main_v24, main_v25, main_v26, main_v27, main_v28, main_v29]
theorem host2_writes : (hostOps2 : List (HloOp τ sig (Elt F))).Forall fun op => op.writes ⊆ (host2Writes.map (Proc.devRef (τ := τ) .tc)).toFinset :=
  StableHlo.forall_writes_sub_of_map rfl
theorem host2_args : ∀ a ∈ argArrays, a ∉ host2Writes := ListAll.forall_mem_of_all_decide (by decide +kernel)

/-- Memory at the launch; `mem1` … `mem5` are what it holds after each stretch of host operations and each call. -/
abbrev mem0 : Dev nD → Valuation τ sig (Elt F) := fun c b => (s₀ m ρ).mem ((c : Dev nD), b)
theorem mem0_args (c : Dev nD) : ∀ a ∈ argArrays, mem0 m ρ c (Proc.devRef .tc a) = m ((c : Thread nD τ).loc a) := fun _ _ => rfl
abbrev mem1 : Dev nD → Valuation τ sig (Elt F) := fun c => StableHlo.after hostOps0 (mem0 m ρ c)
theorem mem1_of (c : Dev nD) (r : Ref sig .tc) (h : r ∉ host0Writes) : mem1 m ρ c (Proc.devRef .tc r) = mem0 m ρ c (Proc.devRef .tc r) :=
  StableHlo.after_of_writes_sub hostOps0 _ host0_writes h
theorem mem1_args (c : Dev nD) : ∀ a ∈ argArrays, mem1 m ρ c (Proc.devRef .tc a) = m ((c : Thread nD τ).loc a) :=
  fun a ha => (mem1_of m ρ c a (host0_args a ha)).trans (mem0_args m ρ c a ha)
abbrev at1 : (c : Dev nD) → (b : Ref sig .tc) → Buf (Elt F) ((c : Thread nD τ).loc b) := fun c b => mem1 m ρ c b
def mem2 (c : Dev nD) : Valuation τ sig (Elt F) :=
  Pipeline.withArrays spec0 c (mem1 m ρ c) fun w => (fwdPipe (at1 m ρ) c).arrAt w cfg0.N
theorem mem2_arr (c : Dev nD) (w : Fin cfg0.W) :
    mem2 m ρ c (Proc.devRef .tc (Pipeline.arrRef spec0 w)) = (fwdPipe (at1 m ρ) c).arrAt w cfg0.N := by
  unfold mem2; exact Pipeline.withArrays_arr spec0 launch0.win.arr_inj c _ _ w
theorem mem2_of_ne (c : Dev nD) (b : Ref sig .tc) (hb : ∀ w, Pipeline.arrRef spec0 w ≠ b) :
    mem2 m ρ c (Proc.devRef .tc b) = mem1 m ρ c (Proc.devRef .tc b) := by
  unfold mem2; exact Pipeline.withArrays_of_ne spec0 c _ _ b hb
theorem mem2_of (c : Dev nD) (r : Ref sig .tc) (h : ∀ w : Fin cfg0.W, Pipeline.arrRef spec0 w = r → (cfg0.win w).isOut = false) :
    mem2 m ρ c (Proc.devRef .tc r) = mem1 m ρ c (Proc.devRef .tc r) := by
  by_cases hw : ∃ w : Fin cfg0.W, Pipeline.arrRef spec0 w = r
  · obtain ⟨w, rfl⟩ := hw
    exact (mem2_arr m ρ c w).trans (((fwdPipe (at1 m ρ) c).arrAt_in w (h w rfl) _).trans (fwdArr (at1 m ρ) c w))
  · exact mem2_of_ne m ρ c r fun w e => hw ⟨w, e⟩
theorem fwdArgs : ∀ a ∈ argArrays, ∀ w : Fin cfg0.W, Pipeline.arrRef spec0 w = a → (cfg0.win w).isOut = false :=
  ListAll.forall_mem_of_all_decide (by decide +kernel)
theorem mem2_args (c : Dev nD) : ∀ a ∈ argArrays, mem2 m ρ c (Proc.devRef .tc a) = m ((c : Thread nD τ).loc a) :=
  fun a ha => (mem2_of m ρ c a (fwdArgs a ha)).trans (mem1_args m ρ c a ha)
abbrev at2 : (c : Dev nD) → (b : Ref sig .tc) → Buf (Elt F) ((c : Thread nD τ).loc b) := fun c b => mem2 m ρ c b
theorem fwdFinal (c : Dev nD) (w : Fin cfg0.W) : (fwdPipe (at1 m ρ) c).arrAt w cfg0.N = at2 m ρ c (Pipeline.arrRef spec0 w) :=
  (mem2_arr m ρ c w).symm
theorem fwdOthers (c : Dev nD) : ∀ b, b ∉ Finset.univ.image (Pipeline.arrRef spec0) → at2 m ρ c b = at1 m ρ c b :=
  fun b hb => mem2_of_ne m ρ c b fun w e => hb (Finset.mem_image.mpr ⟨w, Finset.mem_univ _, e⟩)

abbrev mem3 : Dev nD → Valuation τ sig (Elt F) := fun c => StableHlo.after hostOps1 (mem2 m ρ c)
theorem mem3_of (c : Dev nD) (r : Ref sig .tc) (h : r ∉ host1Writes) : mem3 m ρ c (Proc.devRef .tc r) = mem2 m ρ c (Proc.devRef .tc r) :=
  StableHlo.after_of_writes_sub hostOps1 _ host1_writes h
theorem mem3_args (c : Dev nD) : ∀ a ∈ argArrays, mem3 m ρ c (Proc.devRef .tc a) = m ((c : Thread nD τ).loc a) :=
  fun a ha => (mem3_of m ρ c a (host1_args a ha)).trans (mem2_args m ρ c a ha)
abbrev at3 : (c : Dev nD) → (b : Ref sig .tc) → Buf (Elt F) ((c : Thread nD τ).loc b) := fun c b => mem3 m ρ c b
def mem4 (c : Dev nD) : Valuation τ sig (Elt F) :=
  Pipeline.withArrays spec1 c (mem3 m ρ c) fun w => (bwdPipe (at3 m ρ) c).arrAt w cfg1.N
theorem mem4_arr (c : Dev nD) (w : Fin cfg1.W) :
    mem4 m ρ c (Proc.devRef .tc (Pipeline.arrRef spec1 w)) = (bwdPipe (at3 m ρ) c).arrAt w cfg1.N := by
  unfold mem4; exact Pipeline.withArrays_arr spec1 launch1.win.arr_inj c _ _ w
theorem mem4_of_ne (c : Dev nD) (b : Ref sig .tc) (hb : ∀ w, Pipeline.arrRef spec1 w ≠ b) :
    mem4 m ρ c (Proc.devRef .tc b) = mem3 m ρ c (Proc.devRef .tc b) := by
  unfold mem4; exact Pipeline.withArrays_of_ne spec1 c _ _ b hb
theorem mem4_of (c : Dev nD) (r : Ref sig .tc) (h : ∀ w : Fin cfg1.W, Pipeline.arrRef spec1 w = r → (cfg1.win w).isOut = false) :
    mem4 m ρ c (Proc.devRef .tc r) = mem3 m ρ c (Proc.devRef .tc r) := by
  by_cases hw : ∃ w : Fin cfg1.W, Pipeline.arrRef spec1 w = r
  · obtain ⟨w, rfl⟩ := hw
    exact (mem4_arr m ρ c w).trans (((bwdPipe (at3 m ρ) c).arrAt_in w (h w rfl) _).trans (bwdArr (at3 m ρ) c w))
  · exact mem4_of_ne m ρ c r fun w e => hw ⟨w, e⟩
theorem bwdArgs : ∀ a ∈ argArrays, ∀ w : Fin cfg1.W, Pipeline.arrRef spec1 w = a → (cfg1.win w).isOut = false :=
  ListAll.forall_mem_of_all_decide (by decide +kernel)
theorem mem4_args (c : Dev nD) : ∀ a ∈ argArrays, mem4 m ρ c (Proc.devRef .tc a) = m ((c : Thread nD τ).loc a) :=
  fun a ha => (mem4_of m ρ c a (bwdArgs a ha)).trans (mem3_args m ρ c a ha)
abbrev at4 : (c : Dev nD) → (b : Ref sig .tc) → Buf (Elt F) ((c : Thread nD τ).loc b) := fun c b => mem4 m ρ c b
theorem bwdFinal (c : Dev nD) (w : Fin cfg1.W) : (bwdPipe (at3 m ρ) c).arrAt w cfg1.N = at4 m ρ c (Pipeline.arrRef spec1 w) :=
  (mem4_arr m ρ c w).symm
theorem bwdOthers (c : Dev nD) : ∀ b, b ∉ Finset.univ.image (Pipeline.arrRef spec1) → at4 m ρ c b = at3 m ρ c b :=
  fun b hb => mem4_of_ne m ρ c b fun w e => hb (Finset.mem_image.mpr ⟨w, Finset.mem_univ _, e⟩)

abbrev mem5 : Dev nD → Valuation τ sig (Elt F) := fun c => StableHlo.after hostOps2 (mem4 m ρ c)
theorem mem5_of (c : Dev nD) (r : Ref sig .tc) (h : r ∉ host2Writes) : mem5 m ρ c (Proc.devRef .tc r) = mem4 m ρ c (Proc.devRef .tc r) :=
  StableHlo.after_of_writes_sub hostOps2 _ host2_writes h
theorem mem5_args (c : Dev nD) : ∀ a ∈ argArrays, mem5 m ρ c (Proc.devRef .tc a) = m ((c : Thread nD τ).loc a) :=
  fun a ha => (mem5_of m ρ c a (host2_args a ha)).trans (mem4_args m ρ c a ha)

theorem mem5_main_arg0 (c : Dev nD) : mem5 m ρ c (Proc.devRef .tc main_arg0) = m ((c : Thread nD τ).loc main_arg0) :=
  mem5_args m ρ c main_arg0 (by decide)
theorem mem5_main_arg1 (c : Dev nD) : mem5 m ρ c (Proc.devRef .tc main_arg1) = m ((c : Thread nD τ).loc main_arg1) :=
  mem5_args m ρ c main_arg1 (by decide)
theorem mem5_main_arg2 (c : Dev nD) : mem5 m ρ c (Proc.devRef .tc main_arg2) = m ((c : Thread nD τ).loc main_arg2) :=
  mem5_args m ρ c main_arg2 (by decide)
theorem mem5_main_arg3 (c : Dev nD) : mem5 m ρ c (Proc.devRef .tc main_arg3) = m ((c : Thread nD τ).loc main_arg3) :=
  mem5_args m ρ c main_arg3 (by decide)

abbrev adm : (p : Fin 2) → (pcfgs (F := F) p).Adm := fun p => (cfgs p).toPCfg_adm
def pipes : (p : Fin 2) → (c : Dev nD) → Dat τ (Elt F) Unit ℕ (UR sig nD τ) ℕ (Pipeline.pin (pcfgs (F := F)) adm p) c
  | ⟨0, _⟩ => fun c => fwdPipe (at1 m ρ) c
  | ⟨1, _⟩ => fun c => bwdPipe (at3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hostPart (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem kept_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (mem5 m ρ c) ∗ ∃ r, prngReg c r)
set_option backward.isDefEq.respectTransparency.types false in
def fwdRegion : Pipeline.RegionSeg (pcfgs (F := F)) adm (pipes m ρ) () defs₀ 𝒱₀ L lv 0 where
  win := launch0.win.to₀
  block_pos := launch0.block_pos
  stage_whole := launch0.stage_whole
  K := PEmpty
  osem k := k.elim
  ho := Pipeline.OwnSemFacts.none _
  hbody c := (fwdBody (at1 m ρ) c).loose
  hwaits := Pipeline.hwaits_of_owed_zero _ _ _ _ L lv 0 fun _ _ => rfl
  pre c := iprop(StableHlo.held (c : Thread nD τ) (Pipeline.ucRefs τ sig) (mem1 m ρ c) ∗ R c)
  post c := iprop(StableHlo.held (c : Thread nD τ) (Pipeline.ucRefs τ sig) (mem2 m ρ c) ∗ R c)
  X c := iprop(∃ r, prngReg c r)
  Y c := iprop(∃ r, prngReg c r)
  Z c := Pipeline.unscopedRest (Ix := Unit) (Name := ℕ) (U := UR sig nD τ) (Lvl := ℕ) spec0 c (at1 m ρ c)
  hentry c := by
    rw [Pipeline.ownSems0_none]
    have hsplit := Pipeline.arrays_of_unscopedBufs (p := 0) (pcfgs (F := F)) adm (pipes m ρ) launch0.win launch0.arr_whole c
      ((pipes m ρ 0 c).share_full fun _ => rfl) (at1 m ρ c) (fwdArr (at1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pipes m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pipes m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pipes m ρ) ((pipes m ρ 0 c).share_full fun _ => rfl)
      (at1 m ρ c) (at2 m ρ c) ((pipes m ρ 0 c).arrAt · cfg0.N) (fwdFinal m ρ c) (fwdOthers m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def bwdRegion : Pipeline.RegionSeg (pcfgs (F := F)) adm (pipes m ρ) () defs₀ 𝒱₀ L lv 1 where
  win := launch1.win.to₀
  block_pos := launch1.block_pos
  stage_whole := launch1.stage_whole
  K := PEmpty
  osem k := k.elim
  ho := Pipeline.OwnSemFacts.none _
  hbody c := (bwdBody (at3 m ρ) c).loose
  hwaits := Pipeline.hwaits_of_owed_zero _ _ _ _ L lv 1 fun _ _ => rfl
  pre c := iprop(StableHlo.held (c : Thread nD τ) (Pipeline.ucRefs τ sig) (mem3 m ρ c) ∗ R c)
  post c := iprop(StableHlo.held (c : Thread nD τ) (Pipeline.ucRefs τ sig) (mem4 m ρ c) ∗ R c)
  X c := iprop(∃ r, prngReg c r)
  Y c := iprop(∃ r, prngReg c r)
  Z c := Pipeline.unscopedRest (Ix := Unit) (Name := ℕ) (U := UR sig nD τ) (Lvl := ℕ) spec1 c (at3 m ρ c)
  hentry c := by
    rw [Pipeline.ownSems0_none]
    have hsplit := Pipeline.arrays_of_unscopedBufs (p := 1) (pcfgs (F := F)) adm (pipes m ρ) launch1.win launch1.arr_whole c
      ((pipes m ρ 1 c).share_full fun _ => rfl) (at3 m ρ c) (bwdArr (at3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pipes m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pipes m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pipes m ρ) ((pipes m ρ 1 c).share_full fun _ => rfl)
      (at3 m ρ c) (at4 m ρ c) ((pipes m ρ 1 c).arrAt · cfg1.N) (bwdFinal m ρ c) (bwdOthers m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program as its host stretches and its two calls. -/
abbrev parts : List (Pipeline.Seg (pcfgs (F := F)) adm (pipes m ρ) () defs₀ 𝒱₀ L lv) :=
  [ .host (hostPart hostOps0 hostOps0_sub host0_fresh (mem0 m ρ)),
    .region (fwdRegion m ρ),
    .host (hostPart hostOps1 hostOps1_sub host1_fresh (mem2 m ρ)),
    .region (bwdRegion m ρ),
    .host (hostPart hostOps2 hostOps2_sub host2_fresh (mem4 m ρ)) ]
theorem main_parts (c : Dev nD) : main (F := F) c = Pipeline.Seg.run (parts m ρ) := (main_chain c).trans (by chain_rfl)

theorem no_unscoped : ∀ sm : SemLoc sig, sm.isScoped .tc = true := by decide
set_option backward.isDefEq.respectTransparency.types false in
/-- Every run of the program ends with each array at what `mem5` says and no semaphore raised. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = mem5 m ρ c b) ∧ r.2.sem = fun _ => 0) :=
  Pipeline.θ_run_regions_kit_sems (pcfgs (F := F)) adm (pipes m ρ) () cellOf_inj emb₁ defs₀ 𝒱₀ L lv m ρ main (parts m ρ)
    (fun c Q => by rw [main_parts m ρ c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m ρ c) ∗ R c)) (Tₙ := Tₙ m ρ)
    (hch := ⟨fun _ => .rfl, fun _ => .rfl, fun _ => .rfl, fun _ => .rfl, fun _ => .rfl, fun c => by
      dsimp only [Pipeline.Seg.post, hostPart, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (mem0 m ρ c)
        from Pipeline.unscopedBufs_held c (mem0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem5 m ρ c b)
    (hfin := fun c s' => by
      iintro ⟨⟨Hh, -⟩, HSI⟩
      unfold StableHlo.held
      imodintro
      iapply (pointsTo_read_all (Pipeline.ucRefs τ sig) (fun b => (((c : Thread nD τ)).1, b)) (mem5 m ρ c) s')
      isplitl [Hh] <;> iassumption)
    (hQ := fun s h hz => ⟨h, funext fun g => hz g (.inr (no_unscoped g.2))⟩)

/-- The arguments end as they began, and no semaphore is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun _ h => ⟨fun c =>
      ⟨(h.1 c _ (kept_mem main_arg0 (by decide))).trans (mem5_main_arg0 m ρ c),
       (h.1 c _ (kept_mem main_arg1 (by decide))).trans (mem5_main_arg1 m ρ c),
       (h.1 c _ (kept_mem main_arg2 (by decide))).trans (mem5_main_arg2 m ρ c),
       (h.1 c _ (kept_mem main_arg3 (by decide))).trans (mem5_main_arg3 m ρ c)⟩, h.2⟩) (run_all m ρ)

end Cert.PoolRun

end
-- ==== Proof.PoolSpec.lean ====
module

public import Idealize.ShloMosaic.Lib.Pointwise
public import Mathlib.Algebra.BigOperators.Intervals

/-! # The pooling step in numbers

A channel of group `g` is averaged over the `2 * 2 ^ g` rows around a row, fewer at the ends; the row itself is
taken off, each group goes through its own square matrix and the result is scaled. Below, `u` and `da` are the
rows and the gradient, `W` the four matrices and `sc` the scale, all as functions of natural numbers. -/

@[expose] public section

noncomputable section

namespace Cert.Pool

/-- Half of the window of a channel. -/
def half (i : ℕ) : ℕ := 2 ^ (i / 64)

/-- The first row of a row's window and the row after its last. -/
def lo (i t : ℕ) : ℕ := t - half i
def hi (i t : ℕ) : ℕ := min (t + half i) 8192

theorem half_pos (i : ℕ) : 0 < half i := Nat.pow_pos (by norm_num)

theorem lo_le (i t : ℕ) (h : t < 8192) : lo i t ≤ t ∧ t < hi i t ∧ hi i t ≤ 8192 := by
  have := half_pos i
  unfold lo hi; omega

/-- The rows in a row's window. -/
def cnt (i t : ℕ) : ℝ := ((hi i t : ℕ) : ℝ) - ((lo i t : ℕ) : ℝ)

theorem cnt_pos (i t : ℕ) (h : t < 8192) : 0 < cnt i t := by
  have := lo_le i t h
  have h' : ((lo i t : ℕ) : ℝ) < ((hi i t : ℕ) : ℝ) := Nat.cast_lt.2 (by omega)
  unfold cnt; linarith

variable (u da : ℕ → ℕ → ℝ) (W : ℕ → ℕ → ℕ → ℝ) (sc : ℕ → ℝ)

/-- The window's average without the row itself. -/
def y (t i : ℕ) : ℝ := (∑ s ∈ Finset.Ico (lo i t) (hi i t), u s i) / cnt i t - u t i

/-- The average through its group's matrix. -/
def yl (t j : ℕ) : ℝ := ∑ c ∈ Finset.range 64, y u t (64 * (j / 64) + c) * W (j / 64) c (j % 64)

def out (t j : ℕ) : ℝ := yl u W t j * sc j

def dyl (t j : ℕ) : ℝ := da t j * sc j

def dsc (j : ℕ) : ℝ := ∑ t ∈ Finset.range 8192, yl u W t j * da t j

def dW (g c d : ℕ) : ℝ := ∑ t ∈ Finset.range 8192, y u t (64 * g + c) * dyl da sc t (64 * g + d)

def dy (t i : ℕ) : ℝ := ∑ d ∈ Finset.range 64, dyl da sc t (64 * (i / 64) + d) * W (i / 64) (i % 64) d

def du (s i : ℕ) : ℝ :=
  (∑ t ∈ Finset.range 8192, if lo i t ≤ s ∧ s < hi i t then dy da W sc t i / cnt i t else 0) - dy da W sc s i

/-! ## Running sums -/

variable (f : ℕ → ℝ)

/-- A window's sum is a difference of running sums. -/
theorem window_sum {a b : ℕ} (h : a ≤ b) :
    (∑ s ∈ Finset.range b, f s) - ∑ s ∈ Finset.range a, f s = ∑ s ∈ Finset.Ico a b, f s :=
  (Finset.sum_Ico_eq_sub f h).symm

/-- A running sum, spelled as a sum over a window of 8192 places that ends at the row. -/
theorem run_sum (t : ℕ) (ht : t < 8192) :
    (∑ m ∈ Finset.range 8192, if 8191 ≤ t + m then f (t + m - 8191) else 0) = ∑ s ∈ Finset.range (t + 1), f s := by
  rw [← Finset.sum_filter]
  refine Finset.sum_nbij' (fun m => t + m - 8191) (fun s => s + 8191 - t) ?_ ?_ ?_ ?_ fun _ _ => rfl <;>
    simp only [Finset.mem_filter, Finset.mem_range] <;> intros <;> omega

/-- The same from the row on. -/
theorem run_back (t : ℕ) (ht : t < 8192) :
    (∑ m ∈ Finset.range 8192, if t + m < 8192 then f (t + m) else 0) = ∑ s ∈ Finset.Ico t 8192, f s := by
  rw [← Finset.sum_filter]
  refine Finset.sum_nbij' (fun m => t + m) (fun s => s - t) ?_ ?_ ?_ ?_ fun _ _ => rfl <;>
    simp only [Finset.mem_filter, Finset.mem_range, Finset.mem_Ico] <;> intros <;> omega

/-- What two sums over the windows' ends leave in a row, summed from the row on: the windows the row lies in. -/
theorem ends_sum (a b : ℕ → ℕ) (hab : ∀ t < 8192, a t ≤ b t ∧ b t ≤ 8192) (s : ℕ) (hs : s < 8192) :
    (∑ k ∈ Finset.Ico s 8192, ((∑ t ∈ Finset.range 8192, if a t = k + 1 then -f t else 0)
        + ∑ t ∈ Finset.range 8192, if b t = k + 1 then f t else 0))
      = ∑ t ∈ Finset.range 8192, if a t ≤ s ∧ s < b t then f t else 0 := by
  rw [Finset.sum_add_distrib, Finset.sum_comm, Finset.sum_comm (s := Finset.Ico s 8192) (t := Finset.range 8192),
    ← Finset.sum_add_distrib]
  refine Finset.sum_congr rfl fun t ht => ?_
  have hb := hab t (Finset.mem_range.1 ht)
  have key : ∀ (n : ℕ) (x : ℝ), n ≤ 8192 → (∑ k ∈ Finset.Ico s 8192, if n = k + 1 then x else 0) = if s < n then x else 0 := by
    intro n x hn
    split_ifs with h
    · rw [Finset.sum_eq_single (n - 1)]
      · rw [if_pos (by omega)]
      · intro k _ hk; rw [if_neg (by omega)]
      · intro hk; exact absurd (Finset.mem_Ico.2 ⟨by omega, by omega⟩) hk
    · refine Finset.sum_eq_zero fun k hk => if_neg ?_
      have := (Finset.mem_Ico.1 hk).1
      omega
  rw [key _ _ (by omega), key _ _ (by omega)]
  split_ifs <;> first | omega | simp

/-- The rows whose window holds a row are a window themselves, one row further on. -/
theorem in_window (g : ℕ → ℝ) (i s : ℕ) (hs : s < 8192) (hg : ∀ t, 8192 ≤ t → g t = 0) :
    (∑ t ∈ Finset.range 8192, if lo i t ≤ s ∧ s < hi i t then g t else 0)
      = ∑ t ∈ Finset.Ico (s + 1 - half i) (s + 1 + half i), g t := by
  rw [← Finset.sum_filter]
  refine Finset.sum_subset_zero_on_sdiff (fun t ht => ?_) (fun t ht => ?_) fun _ _ => rfl
  · obtain ⟨h1, h2, h3⟩ := Finset.mem_filter.1 ht
    have h4 := Finset.mem_range.1 h1
    unfold lo at h2
    unfold hi at h3
    exact Finset.mem_Ico.2 ⟨by omega, by omega⟩
  · have h := Finset.mem_sdiff.1 ht
    refine hg t (Nat.le_of_not_lt fun ht' => h.2 (Finset.mem_filter.2 ⟨Finset.mem_range.2 ht', ?_⟩))
    have h1 := Finset.mem_Ico.1 h.1
    unfold lo hi; omega

/-! ## A product with a matrix of four blocks -/

/-- The entry of the matrix of four blocks. -/
def block (i j : ℕ) : ℝ := if i / 64 = j / 64 then W (i / 64) (i % 64) (j % 64) else 0

theorem block_sum (g : ℕ → ℝ) (k : ℕ) (hk : k < 4) (h : ∀ i < 256, i / 64 ≠ k → g i = 0) :
    ∑ i ∈ Finset.range 256, g i = ∑ c ∈ Finset.range 64, g (64 * k + c) := by
  have e : ∑ c ∈ Finset.range 64, g (64 * k + c) = ∑ i ∈ Finset.Ico (64 * k) (64 * k + 64), g i := by
    rw [Finset.sum_Ico_eq_sum_range]; simp
  rw [e]
  refine (Finset.sum_subset (fun i hi => ?_) fun i hi hn => ?_).symm
  · have := Finset.mem_Ico.1 hi; exact Finset.mem_range.2 (by omega)
  · refine h i (Finset.mem_range.1 hi) fun e' => hn (Finset.mem_Ico.2 ?_)
    omega

theorem yl_block (t j : ℕ) (hj : j < 256) : ∑ i ∈ Finset.range 256, y u t i * block W i j = yl u W t j := by
  rw [block_sum _ (j / 64) (by omega)]
  · refine Finset.sum_congr rfl fun c hc => ?_
    have := Finset.mem_range.1 hc
    unfold block
    rw [show (64 * (j / 64) + c) / 64 = j / 64 by omega, if_pos rfl, show (64 * (j / 64) + c) % 64 = c by omega]
  · intro i _ h; unfold block; rw [if_neg h, mul_zero]

theorem dy_block (t i : ℕ) (hi : i < 256) : ∑ j ∈ Finset.range 256, dyl da sc t j * block W i j = dy da W sc t i := by
  rw [block_sum _ (i / 64) (by omega)]
  · refine Finset.sum_congr rfl fun d hd => ?_
    have := Finset.mem_range.1 hd
    unfold block
    rw [show (64 * (i / 64) + d) / 64 = i / 64 by omega, if_pos rfl, show (64 * (i / 64) + d) % 64 = d by omega]
  · intro j _ h; unfold block; rw [if_neg (Ne.symm h), mul_zero]

end Cert.Pool
-- ==== Proof.PoolCount.lean ====
module

public import proofs.«01_k».proof.Proof.Gen.PoolIdeal.Skeleton
public import proofs.«01_k».proof.Proof.PoolSpec
public import Idealize.ShloMosaic.Lib.Pointwise

/-! # The number of rows in a window, as the words the tiles compute it in -/

@[expose] public section

set_option maxRecDepth 16384

noncomputable section

open Idealize.ShloMosaic Idealize.ShloMosaic.TcCoe Idealize.SL.Sem

namespace Cert.PoolCount

open Cert.PoolIdeal Cert.PoolIdeal.Gen Cert.Pool

/-- The rows in a window, as the word the tile computes it in. -/
def countWord (h t : BitVec 32) : BitVec 32 :=
  IntOp.maxsi (IntOp.subi (IntOp.minsi (IntOp.addi t h) 8192#32) (IntOp.maxsi (IntOp.subi t h) 0#32)) 1#32

/-- At a padded row the word is at least one, and at a row of the array it is the number of rows. -/
def countFact (g p : ℕ) : Prop :=
  1 ≤ (countWord (BitVec.ofNat 32 (2 ^ g)) (BitVec.ofNat 32 p - 8#32)).toInt
    ∧ (8 ≤ p → p < 8200 → (countWord (BitVec.ofNat 32 (2 ^ g)) (BitVec.ofNat 32 p - 8#32)).toInt
      = ((hi (64 * g) (p - 8) : ℕ) : Int) - ((lo (64 * g) (p - 8) : ℕ) : Int))

instance (g p : ℕ) : Decidable (countFact g p) := inferInstanceAs (Decidable (_ ∧ _))

theorem count0 : ∀ p : Fin 8208, countFact 0 p.val := by decide +kernel
theorem count1 : ∀ p : Fin 8208, countFact 1 p.val := by decide +kernel
theorem count2 : ∀ p : Fin 8208, countFact 2 p.val := by decide +kernel
theorem count3 : ∀ p : Fin 8208, countFact 3 p.val := by decide +kernel

theorem count_fact (g p : ℕ) (hg : g < 4) (hp : p < 8208) : countFact g p := by
  have h : g = 0 ∨ g = 1 ∨ g = 2 ∨ g = 3 := by omega
  rcases h with rfl | rfl | rfl | rfl
  · exact count0 ⟨p, hp⟩
  · exact count1 ⟨p, hp⟩
  · exact count2 ⟨p, hp⟩
  · exact count3 ⟨p, hp⟩

/-- At a row of the array the word is the number of rows in the window. -/
theorem count_row (i t : ℕ) (hi' : i < 256) (ht : t < 8192) :
    (((countWord (BitVec.ofNat 32 (half i)) (BitVec.ofNat 32 (t + 8) - 8#32)).toInt : ℤ) : ℝ) = cnt i t := by
  have h := (count_fact (i / 64) (t + 8) (by omega) (by omega)).2 (by omega) (by omega)
  have e : half (64 * (i / 64)) = half i := by
    unfold half; rw [Nat.mul_div_cancel_left _ (by norm_num : 0 < 64)]
  unfold half at h ⊢
  rw [h]
  unfold cnt hi lo
  rw [e, Nat.add_sub_cancel]
  push_cast
  rfl

/-- At a padded row it is not zero. -/
theorem count_ne (i p : ℕ) (hi' : i < 256) (hp : p < 8208) :
    (((countWord (BitVec.ofNat 32 (half i)) (BitVec.ofNat 32 p - 8#32)).toInt : ℤ) : ℝ) ≠ 0 := by
  have h := (count_fact (i / 64) p (by omega) hp).1
  unfold half
  have : ((1 : ℤ) : ℝ) ≤ _ := Int.cast_le.2 h
  intro e
  rw [e] at this
  norm_num at this

end Cert.PoolCount
-- ==== Proof.PoolTile.lean ====
module

public import proofs.«01_k».proof.Proof.PoolCount
public import proofs.«01_k».proof.Proof.RowNorm

/-! # The pooling step's tiles: window sums by rotation -/

@[expose] public section

set_option maxRecDepth 16384

noncomputable section

open Idealize.ShloMosaic Idealize.ShloMosaic.TcCoe Idealize.SL.Sem

namespace Cert.PoolTile

open Cert.PoolIdeal Cert.PoolIdeal.Gen Cert.Pool Cert.PoolCount

/-! ## Sums over a window -/

/-- The sum of `w` consecutive rows. -/
def run (f : ℕ → ℝ) (q w : ℕ) : ℝ := ∑ i ∈ Finset.range w, f (q + i)

theorem run_two (f : ℕ → ℝ) (q : ℕ) : f q + f (q + 1) = run f q 2 := by
  unfold run; rw [Finset.sum_range_succ, Finset.sum_range_one]; rfl

theorem run_double (f : ℕ → ℝ) (q w : ℕ) : run f q w + run f (q + w) w = run f q (w + w) := by
  unfold run
  rw [Finset.sum_range_add]
  simp only [Nat.add_assoc]

section Chain

variable (x : FVec Ideal S528x256 .f32) (c : Fin 256)

theorem back_row (n : ℕ) (hn : n < 528) (r : Fin 528) (h : n ≤ r.val) :
    dynamicRotate 0 (BitVec.ofNat 32 n) none x rotates_S528x256_d0 (ix2 r c) = x (ix2 ⟨r.val - n, by omega⟩ c) := by
  pointwise
  have e : (BitVec.ofNat 32 n).toNat = n := by
    rw [BitVec.toNat_ofNat]; exact Nat.mod_eq_of_lt (by omega)
  refine congrArg x (congrArg (ix2 · c) (Fin.ext ?_))
  show (r.val + 528 - (BitVec.ofNat 32 n).toNat % 528) % 528 = r.val - n
  rw [e]; omega

theorem fore_row (n m : ℕ) (hn : n + m = 528) (h0 : 0 < n) (r : Fin 528) (h : r.val + n < 528) :
    dynamicRotate 0 (BitVec.ofNat 32 m) none x rotates_S528x256_d0 (ix2 r c) = x (ix2 ⟨r.val + n, h⟩ c) := by
  pointwise
  have e : (BitVec.ofNat 32 m).toNat = m := by
    rw [BitVec.toNat_ofNat]; exact Nat.mod_eq_of_lt (by omega)
  refine congrArg x (congrArg (ix2 · c) (Fin.ext ?_))
  show (r.val + 528 - (BitVec.ofNat 32 m).toNat % 528) % 528 = r.val + n
  rw [e]; omega

/-- A column holds, at every row from `a` to `b`, the sum of `w` rows from `s` rows before. -/
def Holds (f : ℕ → ℝ) (a b s w : ℕ) : Prop :=
  ∀ (r : Fin 528), a ≤ r.val → r.val ≤ b → x (ix2 r c) = ((run f (r.val - s) w : ℝ) : EReal)

variable {x c}

/-- A tile rotated both ways and added: the sums double. -/
theorem Holds.double {f : ℕ → ℝ} {a b s w : ℕ} (h : Holds x c f a b s w) (n m a' b' s' w' : ℕ) (hn : n + m = 528) (h0 : 0 < n)
    (hw : w = n + n) (hs : s ≤ a) (hb : b < 528) (ha' : a' = a + n) (hb' : b' + n = b) (hs' : s' = s + n) (hw' : w' = w + w) :
    Holds (addf (dynamicRotate 0 (BitVec.ofNat 32 n) none x rotates_S528x256_d0)
      (dynamicRotate 0 (BitVec.ofNat 32 m) none x rotates_S528x256_d0)) c f a' b' s' w' := by
  intro r h1 h2
  have e : addf (dynamicRotate 0 (BitVec.ofNat 32 n) none x rotates_S528x256_d0)
      (dynamicRotate 0 (BitVec.ofNat 32 m) none x rotates_S528x256_d0) (ix2 r c)
      = dynamicRotate 0 (BitVec.ofNat 32 n) none x rotates_S528x256_d0 (ix2 r c)
        + dynamicRotate 0 (BitVec.ofNat 32 m) none x rotates_S528x256_d0 (ix2 r c) := rfl
  rw [e, back_row x c n (by omega) r (by omega), fore_row x c n m hn h0 r (by omega),
    h _ (by show a ≤ r.val - n; omega) (by show r.val - n ≤ b; omega),
    h _ (by show a ≤ r.val + n; omega) (by show r.val + n ≤ b; omega), ← EReal.coe_add]
  refine congrArg (fun z : ℝ => (z : EReal)) ?_
  show run f (r.val - n - s) w + run f (r.val + n - s) w = run f (r.val - s') w'
  subst hs' hw'
  rw [← run_double, show r.val - n - s = r.val - (s + n) by omega, show r.val + n - s = r.val - (s + n) + w by omega]

/-- A tile and its rotation by one row down, added. -/
theorem pair_back {f : ℕ → ℝ} (h : ∀ r : Fin 528, x (ix2 r c) = ((f r.val : ℝ) : EReal)) :
    Holds (addf x (dynamicRotate 0 (BitVec.ofNat 32 1) none x rotates_S528x256_d0)) c f 1 527 1 2 := by
  intro r h1 h2
  have e : addf x (dynamicRotate 0 (BitVec.ofNat 32 1) none x rotates_S528x256_d0) (ix2 r c)
      = x (ix2 r c) + dynamicRotate 0 (BitVec.ofNat 32 1) none x rotates_S528x256_d0 (ix2 r c) := rfl
  rw [e, back_row x c 1 (by omega) r (by omega), h, h, ← EReal.coe_add, ← run_two, add_comm]
  refine congrArg (fun z : ℝ => (z : EReal)) ?_
  show f (r.val - 1) + f r.val = f (r.val - 1) + f (r.val - 1 + 1)
  rw [Nat.sub_add_cancel h1]

/-- A tile and its rotation by one row up, added. -/
theorem pair_fore {f : ℕ → ℝ} (h : ∀ r : Fin 528, x (ix2 r c) = ((f r.val : ℝ) : EReal)) :
    Holds (addf x (dynamicRotate 0 (BitVec.ofNat 32 527) none x rotates_S528x256_d0)) c f 0 526 0 2 := by
  intro r h1 h2
  have e : addf x (dynamicRotate 0 (BitVec.ofNat 32 527) none x rotates_S528x256_d0) (ix2 r c)
      = x (ix2 r c) + dynamicRotate 0 (BitVec.ofNat 32 527) none x rotates_S528x256_d0 (ix2 r c) := rfl
  rw [e, fore_row x c 1 527 rfl (by omega) r (by omega), h, h, ← EReal.coe_add, ← run_two]
  rfl

variable (x c)

/-- The four sums of a tile over the window behind and before each row, as the forward pass takes them. -/
theorem sums_two {f : ℕ → ℝ} (h : ∀ r : Fin 528, x (ix2 r c) = ((f r.val : ℝ) : EReal)) : Holds (k1_pay2 x) c f 1 527 1 2 :=
  pair_back h
theorem sums_four {f : ℕ → ℝ} (h : ∀ r : Fin 528, x (ix2 r c) = ((f r.val : ℝ) : EReal)) : Holds (k1_pay3 x) c f 2 526 2 4 :=
  (sums_two x c h).double 1 527 _ _ _ _ rfl (by decide) rfl (by decide) (by decide) rfl rfl rfl rfl
theorem sums_eight {f : ℕ → ℝ} (h : ∀ r : Fin 528, x (ix2 r c) = ((f r.val : ℝ) : EReal)) : Holds (k1_pay4 x) c f 4 524 4 8 :=
  (sums_four x c h).double 2 526 _ _ _ _ rfl (by decide) rfl (by decide) (by decide) rfl rfl rfl rfl
theorem sums_sixteen {f : ℕ → ℝ} (h : ∀ r : Fin 528, x (ix2 r c) = ((f r.val : ℝ) : EReal)) : Holds (k1_pay5 x) c f 8 520 8 16 :=
  (sums_eight x c h).double 4 524 _ _ _ _ rfl (by decide) rfl (by decide) (by decide) rfl rfl rfl rfl

end Chain

theorem group_word (r : Fin 528) (l : Fin 256) : k1_pay6 (ix2 r l) = BitVec.ofNat 32 (l.val / 64) := by
  pointwise [k1_pay6]
  revert l; decide +kernel

theorem group_word' (r : Fin 512) (l : Fin 256) : k1_pay9 (ix2 r l) = BitVec.ofNat 32 (l.val / 64) := by
  pointwise [k1_pay9]
  revert l; decide +kernel

theorem div_coe (x y : ℝ) (hy : y ≠ 0) : Ideal.div (x : EReal) (y : EReal) = ((x / y : ℝ) : EReal) := by
  rw [Cert.RowNorm.div_real _ hy, ← EReal.coe_mul, div_eq_mul_inv]

theorem lane_cases (l : Fin 256) : l.val / 64 = 0 ∨ l.val / 64 = 1 ∨ l.val / 64 = 2 ∨ l.val / 64 = 3 := by
  have := l.isLt; omega

/-- The half width of a lane's window, as the tiles pick it. -/
theorem half_word (l : Fin 256) :
    Scalar.select (IntOp.cmpi .eq (BitVec.ofNat 32 (l.val / 64)) 0#32) (1#32)
      (Scalar.select (IntOp.cmpi .eq (BitVec.ofNat 32 (l.val / 64)) 1#32) (2#32)
        (Scalar.select (IntOp.cmpi .eq (BitVec.ofNat 32 (l.val / 64)) 2#32) 4#32 8#32)) = BitVec.ofNat 32 (half l.val) := by
  revert l; decide +kernel

/-- What a lane picks of four, by its group. -/
theorem pick {A B C D : EReal} (l : Fin 256) (G : ℕ → EReal) (hA : A = G 1) (hB : B = G 2) (hC : C = G 4) (hD : D = G 8) :
    Scalar.select (IntOp.cmpi .eq (BitVec.ofNat 32 (l.val / 64)) 0#32) A
      (Scalar.select (IntOp.cmpi .eq (BitVec.ofNat 32 (l.val / 64)) 1#32) B
        (Scalar.select (IntOp.cmpi .eq (BitVec.ofNat 32 (l.val / 64)) 2#32) C D)) = G (half l.val) := by
  unfold half
  rcases lane_cases l with h | h | h | h <;> rw [h]
  · exact hA
  · exact hB
  · exact hC
  · exact hD

/-- Rows of an array between eight rows of zeros at either end. -/
def pad (g : ℕ → ℝ) (p : ℕ) : ℝ := if 8 ≤ p ∧ p < 8200 then g (p - 8) else 0

theorem pad_run (g : ℕ → ℝ) (q w : ℕ) :
    run (pad g) q w = ∑ t ∈ Finset.Ico (q - 8) (q + w - 8), if t < 8192 then g t else 0 := by
  induction w with
  | zero => rw [Nat.add_zero, Finset.Ico_self]; rfl
  | succ w ih =>
    have e : run (pad g) q (w + 1) = run (pad g) q w + pad g (q + w) := Finset.sum_range_succ _ _
    rw [e, ih]
    by_cases h : 8 ≤ q + w
    · rw [show q + (w + 1) - 8 = (q + w - 8) + 1 by omega, Finset.sum_Ico_succ_top (by omega)]
      refine congrArg (_ + ·) ?_
      unfold pad
      by_cases h' : q + w < 8200
      · rw [if_pos ⟨h, h'⟩, if_pos (by omega)]
      · rw [if_neg (fun x => h' x.2), if_neg (by omega)]
    · have e' : pad g (q + w) = 0 := if_neg (fun x => h x.1)
      rw [e', show q + (w + 1) - 8 = q - 8 by omega, show q + w - 8 = q - 8 by omega, add_zero]

/-- The sum over a row's window. -/
theorem window_run (g : ℕ → ℝ) (i t : ℕ) (hi8 : half i ≤ 8) (ht : t < 8192) :
    run (pad g) (t + 8 - half i) (2 * half i) = ∑ s ∈ Finset.Ico (lo i t) (hi i t), g s := by
  have hp := half_pos i
  rw [pad_run, ← Finset.sum_filter]
  refine Finset.sum_congr ?_ fun _ _ => rfl
  ext s
  unfold lo hi
  simp only [Finset.mem_filter, Finset.mem_Ico]
  omega

/-- The sum over the rows whose windows hold a row. -/
theorem within_run (g : ℕ → ℝ) (i t : ℕ) (hi8 : half i ≤ 8) (ht : t < 8192) :
    run (pad g) (t + 8 - (half i - 1)) (2 * half i) = ∑ s ∈ Finset.range 8192, if lo i s ≤ t ∧ t < hi i s then g s else 0 := by
  have hp := half_pos i
  have e := in_window (fun s => if s < 8192 then g s else 0) i t ht (fun s hs => if_neg (by omega))
  rw [pad_run]
  refine Eq.trans ?_ (e.symm.trans ?_)
  · refine Finset.sum_congr ?_ fun _ _ => rfl
    ext s; simp only [Finset.mem_Ico]; omega
  · refine Finset.sum_congr rfl fun s hs => ?_
    rw [if_pos (Finset.mem_range.1 hs)]

theorem half_le (l : Fin 256) : half l.val ≤ 8 := by revert l; decide +kernel

theorem run_shift (f : ℕ → ℝ) (n q w : ℕ) : run (fun r => f (n + r)) q w = run f (n + q) w := by
  unfold run; simp only [Nat.add_assoc]

/-- The tile's rows are those of the padded array from row `512 k` on. -/
def Tile (z : FVec Ideal S528x256 .f32) (k : ℕ) (g : ℕ → ℕ → ℝ) : Prop :=
  ∀ (r : Fin 528) (l : Fin 256), z (ix2 r l) = ((pad (fun t => g t l.val) (512 * k + r.val) : ℝ) : EReal)

section Average

variable (z : FVec Ideal S528x256 .f32) (k : ℕ) (hk : k < 16) (u : ℕ → ℕ → ℝ) (hz : Tile z k u)
variable (r : Fin 512) (l : Fin 256)

include hk hz

/-- The window sum of a row, picked by its group. -/
theorem picked : k1_pay7 (F := Ideal) (k1_pay2 z) (k1_pay3 z) (k1_pay4 z) (k1_pay5 z) k1_pay6 (ix2 r l)
      = ((∑ s ∈ Finset.Ico (lo l.val (512 * k + r.val)) (hi l.val (512 * k + r.val)), u s l.val : ℝ) : EReal) := by
  pointwise [k1_pay7]
  rw [group_word]
  have h : ∀ r : Fin 528, z (ix2 r l) = ((pad (fun t => u t l.val) (512 * k + r.val) : ℝ) : EReal) := fun r => hz r l
  have h2 := sums_two z l (f := fun q => pad (fun t => u t l.val) (512 * k + q)) h ⟨8 + r.val, by omega⟩ (by show 1 ≤ 8 + r.val; omega) (by show 8 + r.val ≤ 527; omega)
  have h4 := sums_four z l (f := fun q => pad (fun t => u t l.val) (512 * k + q)) h ⟨8 + r.val, by omega⟩ (by show 2 ≤ 8 + r.val; omega) (by show 8 + r.val ≤ 526; omega)
  have h8 := sums_eight z l (f := fun q => pad (fun t => u t l.val) (512 * k + q)) h ⟨8 + r.val, by omega⟩ (by show 4 ≤ 8 + r.val; omega) (by show 8 + r.val ≤ 524; omega)
  have h16 := sums_sixteen z l (f := fun q => pad (fun t => u t l.val) (512 * k + q)) h ⟨8 + r.val, by omega⟩ (by show 8 ≤ 8 + r.val; omega) (by show 8 + r.val ≤ 520; omega)
  rw [h2, h4, h8, h16]
  refine (pick l (fun w => ((run (fun q => pad (fun t => u t l.val) (512 * k + q)) (8 + r.val - w) (2 * w) : ℝ) : EReal))
    rfl rfl rfl rfl).trans ?_
  refine congrArg (fun x : ℝ => (x : EReal)) ?_
  have := half_le l
  rw [run_shift, ← window_run _ _ _ (half_le l) (by omega)]
  refine congrArg (fun q => run _ q _) ?_
  omega

/-- The average less the row itself. -/
theorem average :
    k1_pay14 (F := Ideal) z (k1_pay7 (k1_pay2 z) (k1_pay3 z) (k1_pay4 z) (k1_pay5 z) k1_pay6) (k1_pay8 (BitVec.ofNat 32 (512 * k))) k1_pay10
        k1_pay11 k1_pay12 8#32 k1_pay13 (ix2 r l)
      = ((y u (512 * k + r.val) l.val : ℝ) : EReal) := by
  have ht : 512 * k + r.val < 8192 := by omega
  pointwise [k1_pay14, k1_pay8, k1_pay10, k1_pay11, k1_pay12, k1_pay13]
  rw [picked z k hk u hz, show k1_pay9 (ix2 r l) = BitVec.ofNat 32 (l.val / 64) from group_word' r l, half_word, hz,
    show IntOp.addi (BitVec.ofNat 32 (512 * k)) (BitVec.ofNat 32 r.val) = BitVec.ofNat 32 (512 * k + r.val + 8) - 8#32 from ?_]
  · refine (congrArg (· - _) (div_coe _ _ (count_ne l.val (512 * k + r.val + 8) l.isLt (by omega)))).trans ?_
    rw [count_row l.val _ l.isLt ht, ← EReal.coe_sub]
    refine congrArg (fun x : ℝ => (x : EReal)) ?_
    unfold y pad
    rw [if_pos (by show 8 ≤ 512 * k + (8 + r.val) ∧ 512 * k + (8 + r.val) < 8200; omega)]
    refine congrArg (_ - u · _) ?_
    show 512 * k + (8 + r.val) - 8 = _
    omega
  · show BitVec.ofNat 32 (512 * k) + BitVec.ofNat 32 r.val = _
    rw [← BitVec.ofNat_add, BitVec.ofNat_add (512 * k + r.val) 8, BitVec.add_sub_cancel]

end Average

end Cert.PoolTile
-- ==== Proof.PoolTake.lean ====
module

public import proofs.«01_k».proof.Proof.Gen.PoolRefIdeal.Read
public import proofs.«01_k».proof.Proof.PoolSpec
public import Idealize.ShloMosaic.Lib.Routing.OpsPair
public import proofs.«01_k».proof.Proof.RowNorm
public import Idealize.ShloMosaic.Lib.Claim

/-! # Running sums, rows taken at indices and rows added at indices, read at an entry -/

@[expose] public section

set_option maxRecDepth 16384

noncomputable section

open Idealize.ShloMosaic Idealize.ShloMosaic.TcCoe Idealize.SL.Sem

namespace Cert.PoolTake

open Cert.PoolRefIdeal

/-! ## A fold of additions -/

theorem foldl_add (n : ℕ) (g : Fin n → EReal) : (List.finRange n).foldl (fun r i => r + g i) 0 = ∑ i, g i := by
  rw [Fin.sum_univ_def, List.sum_eq_foldl, List.foldl_map]

/-- The places of a window of 8192 rows. -/
def places : (⟨4, ![1, 8192, 1, 1]⟩ : Shape).Idx ≃ Fin 8192 where
  toFun p := p 1
  invFun m := ix4 0 m 0 0
  left_inv p := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
  right_inv _ := rfl

/-- A sum of reals over the naturals below a bound, entry by entry. -/
theorem coe_range (n : ℕ) (f : ℕ → ℝ) : (∑ i : Fin n, ((f i.val : ℝ) : EReal)) = ((∑ i ∈ Finset.range n, f i : ℝ) : EReal) := by
  rw [Finset.sum_range]; exact (Cert.RowNorm.coe_sum _ _).symm

/-- A window sum of an array of reals, as the sum over the window's places. -/
theorem window_read (l h : ℕ) (hw : S1x8192x4x64.ReduceWindows (![1, 8192, 1, 1] : Fin 4 → Nat) ![1, 1, 1, 1] ![0, l, 0, 0] ![0, h, 0, 0] S1x8192x4x64)
    (x : S1x8192x4x64.Idx → EReal) (f : ℕ → ℝ) (g : Fin 4) (c : Fin 64)
    (hx : ∀ s : Fin 8192, x (ix4 0 s g c) = ((f s.val : ℝ) : EReal)) (t : Fin 8192) :
    Ideal.hostReduceWindowAdd ![1, 8192, 1, 1] ![1, 1, 1, 1] ![0, l, 0, 0] ![0, h, 0, 0] hw x 0 (ix4 0 t g c)
      = ((∑ m ∈ Finset.range 8192, if l ≤ t.val + m ∧ t.val + m - l < 8192 then f (t.val + m - l) else 0 : ℝ) : EReal) := by
  unfold Ideal.hostReduceWindowAdd Host.reduceWindow
  dsimp only
  rw [foldl_add, ← coe_range]
  refine Fintype.sum_equiv ((⟨4, ![1, 8192, 1, 1]⟩ : Shape).rowMajor.symm.trans places) _ _ fun n => ?_
  obtain ⟨m, rfl⟩ : ∃ m, n = (⟨4, ![1, 8192, 1, 1]⟩ : Shape).rowMajor (places.symm m) := ⟨places ((⟨4, ![1, 8192, 1, 1]⟩ : Shape).rowMajor.symm n), by simp⟩
  simp only [Equiv.trans_apply, Equiv.symm_apply_apply, Equiv.apply_symm_apply]
  by_cases hm : l ≤ t.val + m.val ∧ t.val + m.val - l < 8192
  · rw [if_pos hm, ← hx ⟨_, hm.2⟩]
    rw [dif_pos]
    · refine congrArg x ?_
      funext a
      match a with
      | ⟨0, _⟩ => exact Subsingleton.elim (α := Fin 1) _ _
      | ⟨1, _⟩ => exact Fin.ext (by show t.val * 1 + m.val - l = t.val + m.val - l; rw [Nat.mul_one])
      | ⟨2, _⟩ => exact Fin.ext (by show g.val * 1 + 0 - 0 = g.val; omega)
      | ⟨3, _⟩ => exact Fin.ext (by show c.val * 1 + 0 - 0 = c.val; omega)
    · intro a
      match a with
      | ⟨0, _⟩ => show 0 ≤ 0 * 1 + 0 ∧ 0 * 1 + 0 - 0 < 1; omega
      | ⟨1, _⟩ => show l ≤ t.val * 1 + m.val ∧ t.val * 1 + m.val - l < 8192; omega
      | ⟨2, _⟩ => show 0 ≤ g.val * 1 + 0 ∧ g.val * 1 + 0 - 0 < 4; omega
      | ⟨3, _⟩ => show 0 ≤ c.val * 1 + 0 ∧ c.val * 1 + 0 - 0 < 64; omega
  · rw [if_neg hm, dif_neg]
    · rfl
    · intro h'
      have h1 : l ≤ t.val * 1 + m.val ∧ t.val * 1 + m.val - l < 8192 := h' 1
      exact hm (by omega)

/-! ## Rows taken at indices -/

abbrev takeAt := gather_S1x8193x64_S8192x1_S1x8192x64_02_1_n_n_1_1_1164

theorem take_read {α : Type} (x : S1x8193x64.Idx → α) (idx : IVec S8192x1 32) (t : Fin 8192) (c : Fin 64) (n : Fin 8193)
    (h : (idx (ix2 t 0)).toInt = (n.val : Int)) : Host.gather takeAt x idx (ix3 0 t c) = x (ix3 0 n c) := by
  unfold Host.gather
  refine congrArg x ?_
  funext a
  apply Fin.ext
  match a with
  | ⟨0, _⟩ => exact congrArg Fin.val (Subsingleton.elim (α := Fin 1) _ _)
  | ⟨1, _⟩ =>
    show takeAt.start (ix3 0 t c) idx 1 + takeAt.batchCoord (ix3 0 t c) 1 + takeAt.offCoord (ix3 0 t c) 1 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ takeAt.startIndexMap from List.mem_singleton.mpr rfl)]
    have hsi : takeAt.siIdx (ix3 0 t c) ⟨List.idxOf (1 : Fin 3) takeAt.startIndexMap,
        List.idxOf_lt_length_iff.2 (List.mem_singleton.mpr rfl)⟩ = ix2 t 0 := by
      funext b
      match b with
      | ⟨0, _⟩ => rfl
      | ⟨1, _⟩ => rfl
    rw [hsi, h]
    show min (n.val : Int).toNat (8193 - 1) = n.val
    omega
  | ⟨2, _⟩ =>
    show takeAt.start (ix3 0 t c) idx 2 + takeAt.batchCoord (ix3 0 t c) 2 + takeAt.offCoord (ix3 0 t c) 2 = c.val
    rw [GatherDims.batchCoord_eq_zero _ _ _ List.not_mem_nil]
    unfold GatherDims.start
    rw [dif_neg (by decide)]
    simp only [Nat.add_zero, Nat.zero_add]
    rfl

/-! ## Rows added at indices -/

abbrev addAt := scatter_S1x8193x64_S8192x1_S1x8192x64_02_1_1_1

theorem add_lands (idx : IVec S8192x1 32) (k : S1x8192x64.Idx) (n : Fin 8193) (c : Fin 64) :
    addAt.resultIdx? k idx = some (ix3 0 n c) ↔ (idx (ix2 (k 1) 0)).toInt = (n.val : Int) ∧ k 2 = c := by
  rw [Routing.resultIdx?_eq_some]
  have s0 : addAt.start k idx 0 = 0 := rfl
  have s2 : addAt.start k idx 2 = 0 := rfl
  have w0 : addAt.window k 0 = (k 0).val := rfl
  have w1 : addAt.window k 1 = 0 := rfl
  have w2 : addAt.window k 2 = (k 2).val := rfl
  have s1 : addAt.start k idx 1 = (idx (ix2 (k 1) 0)).toInt := by
    unfold ScatterDims.start
    rw [dif_pos (show (1 : Fin 3) ∈ addAt.scatterDimsToOperandDims from List.mem_singleton.mpr rfl)]
    have hsi : addAt.siIdx k ⟨List.idxOf (1 : Fin 3) addAt.scatterDimsToOperandDims,
        List.idxOf_lt_length_iff.2 (List.mem_singleton.mpr rfl)⟩ = ix2 (k 1) 0 := by
      funext b
      match b with
      | ⟨0, _⟩ => rfl
      | ⟨1, _⟩ => rfl
    rw [hsi]; rfl
  constructor
  · intro h
    have h1 := h 1
    have h2 := h 2
    rw [s1, w1] at h1
    rw [s2, w2] at h2
    refine ⟨?_, Fin.ext ?_⟩
    · have h1' : (idx (ix2 (k 1) 0)).toInt + ((0 : ℕ) : Int) = ((n.val : ℕ) : Int) := h1
      omega
    · have h2' : (0 : Int) + ((k 2).val : Int) = ((c.val : ℕ) : Int) := h2
      omega
  · rintro ⟨h1, h2⟩ a
    match a with
    | ⟨0, _⟩ =>
      have h0 : (k 0).val < 1 := (k 0).isLt
      show addAt.start k idx 0 + (addAt.window k 0 : Int) = ((0 : ℕ) : Int)
      rw [s0, w0]; omega
    | ⟨1, _⟩ =>
      show addAt.start k idx 1 + (addAt.window k 1 : Int) = ((n.val : ℕ) : Int)
      rw [s1, w1, h1]; omega
    | ⟨2, _⟩ =>
      show addAt.start k idx 2 + (addAt.window k 2 : Int) = ((c.val : ℕ) : Int)
      rw [s2, w2, h2]; omega

/-- Rows of reals added into zeros. -/
theorem add_read (x : S1x8193x64.Idx → EReal) (idx : IVec S8192x1 32) (upd : S1x8192x64.Idx → EReal) (f : ℕ → ℝ) (p : ℕ → ℕ)
    (n : Fin 8193) (c : Fin 64) (hx : x (ix3 0 n c) = 0) (hi : ∀ t : Fin 8192, (idx (ix2 t 0)).toInt = (p t.val : Int))
    (hf : ∀ t : Fin 8192, upd (ix3 0 t c) = ((f t.val : ℝ) : EReal)) :
    Ideal.hostScatterAdd addAt x idx upd (ix3 0 n c)
      = ((∑ t ∈ Finset.range 8192, if p t = n.val then f t else 0 : ℝ) : EReal) := by
  show x (ix3 0 n c) + ∑ j ∈ Finset.univ.filter (fun j => addAt.resultIdx? j idx = some (ix3 0 n c)), upd j = _
  rw [hx, zero_add, ← coe_range]
  have e : ∀ t : Fin 8192, (((if p t.val = n.val then f t.val else 0 : ℝ)) : EReal) = if p t.val = n.val then upd (ix3 0 t c) else 0 := by
    intro t; rw [hf]; split_ifs <;> rfl
  simp only [e]
  rw [← Finset.sum_filter]
  refine Finset.sum_bij' (fun j _ => j 1) (fun t _ => ix3 0 t c) ?_ ?_ ?_ ?_ ?_
  · intro j hj
    have h := (add_lands idx j n c).1 (Finset.mem_filter.1 hj).2
    refine Finset.mem_filter.2 ⟨Finset.mem_univ _, ?_⟩
    have h1 := h.1
    rw [hi (j 1)] at h1
    exact_mod_cast h1
  · intro t ht
    refine Finset.mem_filter.2 ⟨Finset.mem_univ _, (add_lands idx _ n c).2 ⟨?_, rfl⟩⟩
    have h1 := (Finset.mem_filter.1 ht).2
    show (idx (ix2 t 0)).toInt = _
    rw [hi t, h1]
  · intro j hj
    have h := (add_lands idx j n c).1 (Finset.mem_filter.1 hj).2
    rw [← h.2]
    funext a
    match a with
    | ⟨0, _⟩ => exact Subsingleton.elim (α := Fin 1) _ _
    | ⟨1, _⟩ => rfl
    | ⟨2, _⟩ => rfl
  · intro t _; rfl
  · intro j hj
    have h := (add_lands idx j n c).1 (Finset.mem_filter.1 hj).2
    rw [← h.2]
    refine congrArg upd ?_
    funext a
    match a with
    | ⟨0, _⟩ => exact Subsingleton.elim (α := Fin 1) _ _
    | ⟨1, _⟩ => rfl
    | ⟨2, _⟩ => rfl

/-! ## A conjunction of ones -/

theorem and_ones {s t : Shape} {axes : List (Fin s.rank)} (x : s.Idx → BitVec 1) (init : (⟨0, ![]⟩ : Shape).Idx → BitVec 1)
    (h : s.ReducesTo axes t) (hu : 0 < (⟨0, ![]⟩ : Shape).numel) (hi : ∀ i, init i = 1#1) (hx : ∀ i, x i = 1#1) (j : t.Idx) :
    Host.reduce IntOp.andi x init h hu j = 1#1 := by
  unfold Host.reduce
  rw [hi]
  generalize (List.finRange s.numel).filter _ = L
  induction L with
  | nil => rfl
  | cons a L ih => rw [List.foldl_cons, hx]; exact ih

end Cert.PoolTake
-- ==== Proof.PoolStore.lean ====
module

public import proofs.«01_k».proof.Proof.PoolTile
public import proofs.«01_k».proof.Proof.PoolTake

/-! # What a block of the pooling's two calls stores -/

@[expose] public section

set_option maxRecDepth 16384

noncomputable section

open Idealize.ShloMosaic Idealize.ShloMosaic.TcCoe Idealize.SL.Sem

namespace Cert.PoolTile

open Cert.PoolIdeal Cert.PoolIdeal.Gen Cert.Pool Cert.PoolCount

section Stores

variable (z dz : FVec Ideal S528x256 .f32) (k : ℕ) (hk : k < 16) (u da : ℕ → ℕ → ℝ) (hz : Tile z k u) (hdz : Tile dz k da)
variable (w : FVec Ideal S256x256 .bf16) (W : ℕ → ℕ → ℕ → ℝ) (hw : ∀ i j : Fin 256, w (ix2 i j) = ((block W i.val j.val : ℝ) : EReal))
variable (s : FVec Ideal S1x256 .f32) (sc : ℕ → ℝ) (hs : ∀ j : Fin 256, s (ix2 0 j) = ((sc j.val : ℝ) : EReal))

/-- The averages of a tile. -/
abbrev avg : FVec Ideal S512x256 .bf16 :=
  k1_pay14 (F := Ideal) z (k1_pay7 (k1_pay2 z) (k1_pay3 z) (k1_pay4 z) (k1_pay5 z) k1_pay6) (k1_pay8 (BitVec.ofNat 32 (512 * k))) k1_pay10
        k1_pay11 k1_pay12 8#32 k1_pay13

include hk in
theorem pad_mid (g : ℕ → ℝ) (r : Fin 512) : pad g (512 * k + (8 + r.val)) = g (512 * k + r.val) := by
  unfold pad
  rw [if_pos (by omega)]
  exact congrArg g (by omega)

include hk hdz in
theorem mid (r : Fin 512) (l : Fin 256) :
    dz (ix2 ⟨8 + r.val, by omega⟩ l) = ((da (512 * k + r.val) l.val : ℝ) : EReal) :=
  (hdz _ l).trans (congrArg (fun x : ℝ => (x : EReal)) (pad_mid k hk _ r))

include hk hz hw in
/-- The averages through the groups' matrices. -/
theorem linear (r : Fin 512) (j : Fin 256) :
    (∑ i : Fin 256, avg z k (ix2 r i) * w (ix2 i j)) = ((yl u W (512 * k + r.val) j.val : ℝ) : EReal) := by
  rw [← yl_block u W _ _ j.isLt, ← PoolTake.coe_range]
  refine Finset.sum_congr rfl fun i _ => ?_
  exact (congrArg₂ (· * ·) (average z k hk u hz r i) (hw i j)).trans (EReal.coe_mul _ _).symm

include hk hz hw hs in
theorem store_out (r : Fin 512) (j : Fin 256) :
    k0_pay5 (F := Ideal) z (k0_pay12 (k0_pay6 z) (k0_pay7 z) (k0_pay8 z) (k0_pay9 z) k0_pay10 k0_pay11) (k0_pay13 (BitVec.ofNat 32 (512 * k))) k0_pay15
        k0_pay16 k0_pay17 2#32 w s (ix2 r j)
      = ((out u W sc (512 * k + r.val) j.val : ℝ) : EReal) := by
  have e : k0_pay5 (F := Ideal) z (k0_pay12 (k0_pay6 z) (k0_pay7 z) (k0_pay8 z) (k0_pay9 z) k0_pay10 k0_pay11) (k0_pay13 (BitVec.ofNat 32 (512 * k))) k0_pay15
        k0_pay16 k0_pay17 2#32 w s = truncf .bf16 (mulf (matmul dot_S512x256_S256x256_S512x256_1_0_0_1_n_n none (avg z k)
          (shapeCast S256x256 w shapeCasts_S256x256_S256x256) (constant S512x256 .f32 0x00000000#32))
          (broadcastTo S512x256 s broadcasts_S1x256_S512x256)) bitsLt_bf16_f32 := rfl
  rw [e]
  pointwise
  rw [linear z k hk u hz w W hw, hs, ← EReal.coe_mul]
  rfl

include hk hz hdz hw in
theorem store_scale (a : FVec Ideal S1x256 .f32) (j : Fin 256) :
    k1_pay15 (F := Ideal) z dz (k1_pay7 (k1_pay2 z) (k1_pay3 z) (k1_pay4 z) (k1_pay5 z) k1_pay6) (k1_pay8 (BitVec.ofNat 32 (512 * k))) k1_pay10
        k1_pay11 k1_pay12 8#32 k1_pay13 w a (ix2 0 j)
      = a (ix2 0 j) + ((∑ r ∈ Finset.range 512, yl u W (512 * k + r) j.val * da (512 * k + r) j.val : ℝ) : EReal) := by
  pointwise [k1_pay15]
  refine congrArg (_ + ·) ?_
  rw [← PoolTake.coe_range]
  refine Finset.sum_congr rfl fun r _ => ?_
  rw [EReal.coe_mul, mul_comm]
  exact congrArg₂ (· * ·) (linear z k hk u hz w W hw r j) (mid dz k hk da hdz r j)

include hdz hs in
theorem rows_scaled (r : Fin 528) (j : Fin 256) :
    k1_pay16 (F := Ideal) dz s (ix2 r j) = ((pad (fun t => dyl da sc t j.val) (512 * k + r.val) : ℝ) : EReal) := by
  pointwise [k1_pay16]
  rw [hdz, hs, ← EReal.coe_mul]
  refine congrArg (fun x : ℝ => (x : EReal)) ?_
  unfold pad
  split_ifs
  · rfl
  · exact zero_mul _

include hk hz hdz hs in
theorem store_weights (a : FVec Ideal S256x256 .f32) (i j : Fin 256) :
    k1_pay17 (F := Ideal) z dz (k1_pay7 (k1_pay2 z) (k1_pay3 z) (k1_pay4 z) (k1_pay5 z) k1_pay6) (k1_pay8 (BitVec.ofNat 32 (512 * k))) k1_pay10
        k1_pay11 k1_pay12 8#32 k1_pay13 s a (ix2 i j)
      = a (ix2 i j) + ((∑ r ∈ Finset.range 512, y u (512 * k + r) i.val * dyl da sc (512 * k + r) j.val : ℝ) : EReal) := by
  pointwise [k1_pay17]
  refine congrArg (_ + ·) ?_
  rw [← PoolTake.coe_range]
  refine Finset.sum_congr rfl fun r _ => ?_
  rw [EReal.coe_mul]
  refine congrArg₂ (· * ·) (average z k hk u hz r i) ((rows_scaled dz k da hdz s sc hs _ j).trans ?_)
  exact congrArg (fun x : ℝ => (x : EReal)) (pad_mid k hk _ r)

include hdz hw hs in
theorem rows_back (r : Fin 528) (i : Fin 256) :
    k1_pay18 (F := Ideal) (k1_pay16 dz s) w (ix2 r i) = ((pad (fun t => dy da W sc t i.val) (512 * k + r.val) : ℝ) : EReal) := by
  pointwise [k1_pay18]
  have e : ∀ j : Fin 256, k1_pay16 (F := Ideal) dz s (ix2 r j) * w (ix2 i j)
      = ((pad (fun t => dyl da sc t j.val * block W i.val j.val) (512 * k + r.val) : ℝ) : EReal) := fun j => by
    rw [rows_scaled dz k da hdz s sc hs, hw, ← EReal.coe_mul]
    refine congrArg (fun x : ℝ => (x : EReal)) ?_
    unfold pad
    split_ifs
    · rfl
    · exact zero_mul _
  rw [Finset.sum_congr rfl fun j _ => e j, PoolTake.coe_range 256 fun j => pad (fun t => dyl da sc t j * block W i.val j) (512 * k + r.val)]
  refine congrArg (fun x : ℝ => (x : EReal)) ?_
  unfold pad
  split_ifs
  · exact dy_block da W sc _ _ i.isLt
  · exact Finset.sum_const_zero

end Stores

section Spread

variable (x : FVec Ideal S528x256 .f32) (k : ℕ) (hk : k < 16) (g : ℕ → ℕ → ℝ) (hx : Tile x k g)

/-- The half widths of a tile's windows, lane by lane. -/
abbrev halves : IVec S528x256 32 :=
  select k1_pay21 (broadcast S528x256 1#32) (select k1_pay22 (broadcast S528x256 2#32) k1_pay23)

/-- What each row of a tile gives every row of its window. -/
def shares : FVec Ideal S528x256 .f32 :=
  divf x (sitofp .f32 (maxsi (subi (minsi (addi (k1_pay19 (BitVec.ofNat 32 (512 * k))) halves) (broadcast S528x256 8192#32))
    (maxsi (subi (k1_pay19 (BitVec.ofNat 32 (512 * k))) halves) (broadcast S528x256 0#32))) (broadcast S528x256 1#32)))

theorem group_word_back (r : Fin 528) (l : Fin 256) : k1_pay20 (ix2 r l) = BitVec.ofNat 32 (l.val / 64) := by
  pointwise [k1_pay20]
  revert l; decide +kernel

include hk hx in
theorem shared (l : Fin 256) (r : Fin 528) :
    shares x k (ix2 r l) = ((pad (fun t => g t l.val / cnt l.val t) (512 * k + r.val) : ℝ) : EReal) := by
  unfold shares
  pointwise [k1_pay19, k1_pay21, k1_pay22, k1_pay23]
  rw [group_word_back r l, half_word, hx,
    show IntOp.addi (Scalar.subi (BitVec.ofNat 32 (512 * k)) 8#32) (BitVec.ofNat 32 r.val) = BitVec.ofNat 32 (512 * k + r.val) - 8#32 from ?_]
  · refine (div_coe _ _ (count_ne l.val (512 * k + r.val) l.isLt (by omega))).trans ?_
    refine congrArg (fun x : ℝ => (x : EReal)) ?_
    unfold pad
    split_ifs with h
    · have e := count_row l.val (512 * k + r.val - 8) l.isLt (by omega)
      rw [show 512 * k + r.val - 8 + 8 = 512 * k + r.val by omega] at e
      rw [e]
    · exact zero_div _
  · show BitVec.ofNat 32 (512 * k) - 8#32 + BitVec.ofNat 32 r.val = _
    rw [BitVec.ofNat_add, BitVec.sub_eq_add_neg, BitVec.sub_eq_add_neg]
    ac_rfl

abbrev back24 := k1_pay24 (F := Ideal) x (k1_pay19 (BitVec.ofNat 32 (512 * k))) k1_pay21 k1_pay22 k1_pay23
abbrev back25 := k1_pay25 (F := Ideal) x (k1_pay19 (BitVec.ofNat 32 (512 * k))) k1_pay21 k1_pay22 k1_pay23
abbrev back26 := k1_pay26 (F := Ideal) x (k1_pay19 (BitVec.ofNat 32 (512 * k))) k1_pay21 k1_pay22 k1_pay23
abbrev back27 := k1_pay27 (F := Ideal) x (k1_pay19 (BitVec.ofNat 32 (512 * k))) k1_pay21 k1_pay22 k1_pay23

include hk hx in
theorem store_rows (r : Fin 512) (l : Fin 256) :
    k1_pay1 (F := Ideal) x (back24 x k) (back25 x k) (back26 x k) (back27 x k) (iota .tc S528x256 32 [1] iota_S528x256_d1_w32) 64#32
        k1_pay28 k1_pay29 (ix2 r l)
      = (((∑ t ∈ Finset.range 8192, if lo l.val t ≤ 512 * k + r.val ∧ 512 * k + r.val < hi l.val t then g t l.val / cnt l.val t else 0)
          - g (512 * k + r.val) l.val : ℝ) : EReal) := by
  have h := shared x k hk g hx l
  have h2 : Holds (back24 x k) l (fun q => pad (fun t => g t l.val / cnt l.val t) (512 * k + q)) 0 526 0 2 := pair_fore h
  have h4 : Holds (back25 x k) l _ 1 525 1 4 := h2.double 1 527 _ _ _ _ rfl (by decide) rfl (by decide) (by decide) rfl rfl rfl rfl
  have h8 : Holds (back26 x k) l _ 3 523 3 8 := h4.double 2 526 _ _ _ _ rfl (by decide) rfl (by decide) (by decide) rfl rfl rfl rfl
  have h16 : Holds (back27 x k) l _ 7 519 7 16 := h8.double 4 524 _ _ _ _ rfl (by decide) rfl (by decide) (by decide) rfl rfl rfl rfl
  have e : k1_pay1 (F := Ideal) x (back24 x k) (back25 x k) (back26 x k) (back27 x k) (iota .tc S528x256 32 [1] iota_S528x256_d1_w32) 64#32
      k1_pay28 k1_pay29 = truncf .bf16 (extractStridedSlice S512x256 ![8, 0] (subf (select (cmpi .eq k1_pay20 (broadcast S528x256 0#32)) (back24 x k)
        (select (cmpi .eq k1_pay20 (broadcast S528x256 1#32)) (back25 x k) (select (cmpi .eq k1_pay20 (broadcast S528x256 2#32)) (back26 x k)
          (back27 x k)))) x) slices_S528x256_o8_0_S512x256) bitsLt_bf16_f32 := rfl
  rw [e]
  pointwise
  rw [group_word_back, h2 _ (by show 0 ≤ 8 + r.val; omega) (by show 8 + r.val ≤ 526; omega),
    h4 _ (by show 1 ≤ 8 + r.val; omega) (by show 8 + r.val ≤ 525; omega),
    h8 _ (by show 3 ≤ 8 + r.val; omega) (by show 8 + r.val ≤ 523; omega),
    h16 _ (by show 7 ≤ 8 + r.val; omega) (by show 8 + r.val ≤ 519; omega)]
  refine (congrArg₂ (· - ·) (pick l (fun w => ((run (fun q => pad (fun t => g t l.val / cnt l.val t) (512 * k + q)) (8 + r.val - (w - 1)) (2 * w) : ℝ) : EReal))
    rfl rfl rfl rfl) (mid x k hk g hx r l)).trans ?_
  rw [← EReal.coe_sub]
  refine congrArg (fun x : ℝ => (x : EReal)) ?_
  have := half_le l
  rw [run_shift, ← within_run _ _ _ (half_le l) (by omega)]
  refine congrArg (fun q => run _ q _ - _) ?_
  omega

end Spread

end Cert.PoolTile
-- ==== Proof.PoolFwdValue.lean ====
module

public import proofs.«01_k».proof.Proof.PoolFwdRun
public import Idealize.ShloMosaic.Lib.WritesUnit
public import proofs.«01_k».proof.Proof.PoolStore

/-! # What the pooling's forward call leaves -/

@[expose] public section

set_option maxRecDepth 16384

noncomputable section

open Idealize.ShloMosaic Idealize.ShloMosaic.TcCoe Idealize.SL.Sem

namespace Cert.PoolFwd

open Cert.PoolIdeal Cert.PoolIdeal.Gen Cert.Pool Cert.PoolTile

/-! ## Whole loads and stores -/

section Whole

variable {s : Shape} {e : EltTy} (off : Fin s.rank → ℕ) (hoff : ∀ a, off a = 0) (inb : ∀ a, off a + s.size a ≤ s.size a) (y : s.Idx)
variable (M : Memref sig .tc .vmem s e)

include hoff in
/-- A load of a whole buffer. -/
theorem read_all (f : BufTy.Contents (Elt Ideal) M.view.ty) :
    View.readAt (Elt Ideal) M.view (Rect.unit (s := s) off s.size inb).toLoadRect f y = M.view.read (Elt Ideal) f y := by
  rw [View.readAt_apply]
  refine congrArg (M.view.read (Elt Ideal) f) ?_
  funext a
  apply Fin.ext
  show off a + 1 * (y a).val = (y a).val
  rw [hoff]; omega

include hoff in
/-- A load of a whole buffer held at known contents. -/
theorem load_all (h : M.IsWhole) (X : Vec Ideal s e) :
    View.readAt (Elt Ideal) M.view (Rect.unit (s := s) off s.size inb).toLoadRect (h.unread X) y = X y :=
  (read_all off hoff inb y M _).trans (congrFun (h.read_unread X) y)

include hoff in
/-- A buffer after a store of the whole of it. -/
theorem store_all (V : View sig .tc .vmem s e) (f : BufTy.Contents (Elt Ideal) V.ty) (w : Vec Ideal s e) (L : List (View.Piece (Elt Ideal) s e)) :
    V.read (Elt Ideal) (V.writes (Elt Ideal) f (⟨Rect.unit (s := s) off s.size inb, w⟩ :: L)) y = w y := by
  refine View.read_writes_cons_unit_of_mem (Val := Elt Ideal) V f inb w L y y rfl fun a => ?_
  rw [hoff]; exact (Nat.zero_add _).symm

end Whole

theorem start (a : Fin 2) : (![0, 0] : Fin 2 → ℕ) a = 0 := by fin_cases a <;> rfl

/-! ## The padded copy -/

section Pad

variable (M : Memref sig .tc .vmem S8208x256 .f32) (p : Vec Ideal S8192x256 .f32) (a b : Vec Ideal S8x256 .f32)
variable (ip : ∀ d, (![8, 0] : Fin 2 → ℕ) d + S8192x256.size d ≤ S8208x256.size d)
  (ib : ∀ d, (![8200, 0] : Fin 2 → ℕ) d + S8x256.size d ≤ S8208x256.size d)
  (ia : ∀ d, (![0, 0] : Fin 2 → ℕ) d + S8x256.size d ≤ S8208x256.size d)
variable (u : ℕ → ℕ → ℝ) (ha : ∀ y, a y = (0 : EReal)) (hb : ∀ y, b y = (0 : EReal)) (hp : ∀ (r : Fin 8192) (l : Fin 256), p (ix2 r l) = ((u r.val l.val : ℝ) : EReal))

/-- The three stores that fill a padded copy. -/
abbrev padPieces : List (View.Piece (Elt Ideal) S8208x256 .f32) :=
  [⟨Rect.unit (s := S8208x256) ![8, 0] S8192x256.size ip, p⟩, ⟨Rect.unit (s := S8208x256) ![8200, 0] S8x256.size ib, b⟩,
    ⟨Rect.unit (s := S8208x256) ![0, 0] S8x256.size ia, a⟩]

include ha hb hp in
theorem pad_read (r : Fin 8208) (l : Fin 256) :
    M.view.read (Elt Ideal) (M.view.writes (Elt Ideal) M.view.junk (padPieces p a b ip ib ia)) (ix2 r l)
      = ((pad (fun t => u t l.val) r.val : ℝ) : EReal) := by
  refine View.read_writes_apply_of_pieces (Val := Elt Ideal) M.view _
    ((fun y => ((pad (fun t => u t (y 1).val) (y 0).val : ℝ) : EReal)) : S8208x256.Idx → EReal) _ ?_ (ix2 r l) ?_
  · intro q hq x
    simp only [List.mem_cons, List.not_mem_nil, or_false] at hq
    rcases hq with rfl | rfl | rfl
    · rw [eq_ix2 x]
      refine (hp (x 0) (x 1)).trans (congrArg (fun z : ℝ => (z : EReal)) ?_)
      show u (x 0).val (x 1).val = pad (fun t => u t (0 + 1 * (x 1).val)) (8 + 1 * (x 0).val)
      have hr0 : (x 0).val < 8192 := (x 0).isLt
      unfold PoolTile.pad
      rw [if_pos (by omega)]
      exact congrArg₂ u (by omega) (by omega)
    · have hr0 : (x 0).val < 8 := (x 0).isLt
      refine (hb x).trans (congrArg (fun z : ℝ => (z : EReal)) (show (0 : ℝ) = pad _ (8200 + 1 * (x 0).val) from ?_))
      unfold PoolTile.pad
      rw [if_neg (by omega)]
    · have hr0 : (x 0).val < 8 := (x 0).isLt
      refine (ha x).trans (congrArg (fun z : ℝ => (z : EReal)) (show (0 : ℝ) = pad _ (0 + 1 * (x 0).val) from ?_))
      unfold PoolTile.pad
      rw [if_neg (by omega)]
  · have hm : ∀ (o n : ℕ) (inb : ∀ d, (![o, 0] : Fin 2 → ℕ) d + (![n, 256] : Fin 2 → ℕ) d ≤ S8208x256.size d),
        o ≤ r.val → r.val < o + n → ix2 r l ∈ (Rect.unit (s := S8208x256) ![o, 0] ![n, 256] inb).set := by
      intro o n inb hr1 hr2
      rw [Rect.mem_set_unit]
      intro d
      fin_cases d
      · exact ⟨hr1, hr2⟩
      · exact ⟨Nat.zero_le _, (Nat.zero_add 256).symm ▸ l.isLt⟩
    have hr := r.isLt
    rcases Nat.lt_or_ge r.val 8 with h | h
    · exact ⟨_, List.mem_cons_of_mem _ (List.mem_cons_of_mem _ List.mem_cons_self), hm 0 8 ia (by omega) (by omega)⟩
    · rcases Nat.lt_or_ge r.val 8200 with h' | h'
      · exact ⟨_, List.mem_cons_self, hm 8 8192 ip (by omega) (by omega)⟩
      · exact ⟨_, List.mem_cons_of_mem _ List.mem_cons_self, hm 8200 8 ib (by omega) (by omega)⟩

include ha hb hp in
/-- A block's tile of the padded copy. -/
theorem pad_tile (k : ℕ) (hk : k < 16) (off : Fin 2 → ℕ) (ho : off = ![512 * k, 0]) (inb : ∀ d, off d + S528x256.size d ≤ S8208x256.size d) :
    Tile (View.readAt (Elt Ideal) M.view (Rect.unit (s := S8208x256) off S528x256.size inb).toLoadRect
      (M.view.writes (Elt Ideal) M.view.junk (padPieces p a b ip ib ia))) k u := by
  intro r l
  rw [← pad_read M p a b ip ib ia u ha hb hp ⟨512 * k + r.val, by omega⟩ l, View.readAt_apply]
  refine congrArg (M.view.read (Elt Ideal) _) ?_
  subst ho
  funext d
  fin_cases d <;> apply Fin.ext
  · show 512 * k + 1 * r.val = 512 * k + r.val
    omega
  · show 0 + 1 * l.val = l.val
    omega

end Pad

theorem zero_below (y : S8x256.Idx) : (k0_pay2 : FVec Ideal S8x256 .f32) y = (0 : EReal) := by
  rw [eq_ix2 y]; pointwise [k0_pay2, k0_pay1]
theorem zero_above (y : S8x256.Idx) : (k0_pay3 : FVec Ideal S8x256 .f32) y = (0 : EReal) := by
  rw [eq_ix2 y]; pointwise [k0_pay3, k0_pay1]
theorem cast_rows (X : Vec Ideal S8192x256 .f32) (r : Fin 8192) (l : Fin 256) : k0_pay4 (F := Ideal) X (ix2 r l) = X (ix2 r l) := by
  pointwise [k0_pay4]

section Run

variable (c : Dev nD) (a0 : Memref sig .tc .vmem S8192x256 .f32) (h0 : a0.IsWhole) (a1 : Memref sig .tc .vmem S256x256 .bf16) (h1 : a1.IsWhole) (a2 : Memref sig .tc .vmem S1x256 .f32) (h2 : a2.IsWhole) (a3 : Memref sig .tc .vmem S8192x256 .bf16) (h3 : a3.IsWhole) (a4 : Memref sig .tc .vmem S8208x256 .f32) (h4 : a4.IsWhole)

section Trip

variable (X1 : BufTy.Contents (Elt Ideal) a1.view.ty) (X2 : BufTy.Contents (Elt Ideal) a2.view.ty) (X4 : BufTy.Contents (Elt Ideal) a4.view.ty)

/-- A block's first row, as the loop's word counts it. -/
abbrev rowWord (k : Fin k0_t1_loop.trips) : BitVec 32 := Scalar.muli (Scf.iv 0#32 1#32 k) 512#32

theorem row_word : ∀ k : Fin k0_t1_loop.trips, rowWord k = BitVec.ofNat 32 (512 * k.val) := by decide +kernel

/-- The rows a block loads, eight before it and eight after it included. -/
abbrev tileOf (k : Fin k0_t1_loop.trips) : Vec Ideal S528x256 .f32 :=
  View.readAt (Elt Ideal) a4.view (Rect.unit (s := S8208x256) (k0_off1 k) S528x256.size (k0_off1_inb k)).toLoadRect X4

theorem trip_out (k : Fin k0_t1_loop.trips) :
    tripL_k0_t1 (F := Ideal) Variants.none c none a0 h0 a1 h1 a2 h2 a3 h3 a4 h4 X1 X2 X4 k
      = [⟨Rect.unit (s := S8192x256) (k0_off2 k) S512x256.size (k0_off2_inb k),
          k0_pay5 (tileOf a4 X4 k) (k0_pay12 (k0_pay6 (tileOf a4 X4 k)) (k0_pay7 (tileOf a4 X4 k)) (k0_pay8 (tileOf a4 X4 k)) (k0_pay9 (tileOf a4 X4 k)) k0_pay10 k0_pay11)
            (k0_pay13 (rowWord k)) k0_pay15 k0_pay16 k0_pay17 2#32
            (View.readAt (Elt Ideal) a1.view (Rect.unit (s := S256x256) ![0, 0] S256x256.size inb_S256x256_S256x256_0_0).toLoadRect X1)
            (View.readAt (Elt Ideal) a2.view (Rect.unit (s := S1x256) ![0, 0] S1x256.size inb_S1x256_S1x256_0_0).toLoadRect X2)⟩] := by
  unfold tripL_k0_t1 trip_k0_t1; rfl

/-- Every store of the blocks before `n` is a store of one of the blocks. -/
theorem store_block (n : ℕ) : ∀ p ∈ pb_k0_t1 (F := Ideal) Variants.none c none a0 h0 a1 h1 a2 h2 a3 h3 a4 h4 X1 X2 X4 n,
    ∃ k, p ∈ tripL_k0_t1 (F := Ideal) Variants.none c none a0 h0 a1 h1 a2 h2 a3 h3 a4 h4 X1 X2 X4 k := by
  induction n with
  | zero => exact fun p hp => absurd hp List.not_mem_nil
  | succ n ih =>
    rw [pb_k0_t1.eq_2]
    unfold pb_k0_t1Step
    split_ifs with h
    · exact fun p hp => (List.mem_append.1 hp).elim (fun h' => ⟨_, h'⟩) (ih p)
    · exact ih

end Trip

variable (x0 : Vec Ideal S8192x256 .f32) (x1 : Vec Ideal S256x256 .bf16) (x2 : Vec Ideal S1x256 .f32)
variable (u : ℕ → ℕ → ℝ) (W : ℕ → ℕ → ℕ → ℝ) (sc : ℕ → ℝ)
variable (hu : ∀ (r : Fin 8192) (l : Fin 256), x0 (ix2 r l) = ((u r.val l.val : ℝ) : EReal))
  (hw : ∀ i j : Fin 256, x1 (ix2 i j) = ((block W i.val j.val : ℝ) : EReal)) (hs : ∀ j : Fin 256, x2 (ix2 0 j) = ((sc j.val : ℝ) : EReal))

include hu hw hs

/-- The output the call leaves. -/
theorem out_read (r : Fin 8192) (l : Fin 256) :
    fwdOut3 c a0 h0 a1 h1 a2 h2 a3 h3 a4 h4 x0 x1 x2 (ix2 r l) = ((out u W sc r.val l.val : ℝ) : EReal) := by
  refine View.read_writes_apply_of_pieces (Val := Elt Ideal) fwdView3 _
    ((fun y => ((out u W sc (y 0).val (y 1).val : ℝ) : EReal)) : S8192x256.Idx → EReal) _ ?_ (ix2 r l)
    (fwdCovers3 c a0 h0 a1 h1 a2 h2 a3 h3 a4 h4 x0 x1 x2 _)
  unfold fwdRun
  intro p hp x
  obtain ⟨k, hk⟩ := store_block c a0 h0 a1 h1 a2 h2 a3 h3 a4 h4 _ _ _ _ p hp
  have hk16 : k.val < 16 := Nat.lt_of_lt_of_le k.isLt k0_t1_abs.2.1
  rw [trip_out, List.mem_singleton, row_word] at hk
  subst hk
  rw [eq_ix2 x]
  refine (store_out _ k.val hk16 u ?_ _ W ?_ _ sc ?_ (x 0) (x 1)).trans ?_
  · exact pad_tile a4 _ _ _ _ _ _ u zero_below zero_above
      (fun r l => (cast_rows _ r l).trans ((load_all _ start _ _ a0 h0 x0).trans (hu r l))) k.val hk16 _ (k0_off1_eq k) _
  · exact fun i j => (load_all _ start _ _ a1 h1 x1).trans (hw i j)
  · exact fun j => (load_all _ start _ _ a2 h2 x2).trans (hs j)
  · have e0 : k0_off2 k 0 = 512 * k.val := by rw [k0_off2_eq k]; rfl
    have e1 : k0_off2 k 1 = 0 := by rw [k0_off2_eq k]; rfl
    have key : ∀ a b : ℕ, out u W sc (512 * k.val + a) b = out u W sc (k0_off2 k 0 + 1 * a) (k0_off2 k 1 + 1 * b) := by
      intro a b; rw [e0, e1, Nat.zero_add, Nat.one_mul, Nat.one_mul]
    exact congrArg (fun z : ℝ => (z : EReal)) (key (x 0).val (x 1).val)

end Run

end Cert.PoolFwd
-- ==== Proof.PoolBwdValue.lean ====
module

public import proofs.«01_k».proof.Proof.PoolBwdRun
public import proofs.«01_k».proof.Proof.PoolFwdValue

/-! # What the pooling's backward call leaves in its three results -/

@[expose] public section

set_option maxRecDepth 16384

noncomputable section

open Idealize.ShloMosaic Idealize.ShloMosaic.TcCoe Idealize.SL.Sem

namespace Cert.PoolBwd

open Cert.PoolIdeal Cert.PoolIdeal.Gen Cert.Pool Cert.PoolTile
open Cert.PoolFwd (read_all load_all store_all start pad_tile)

theorem trips_eq : Scf.trips k1_t1_loop.lb k1_t1_loop.ub k1_t1_loop.st = 16 := by decide +kernel

theorem zero_below (y : S8x256.Idx) : (k1_pay31 : FVec Ideal S8x256 .f32) y = (0 : EReal) := by
  rw [eq_ix2 y]; pointwise [k1_pay31, k1_pay30]
theorem zero_above (y : S8x256.Idx) : (k1_pay32 : FVec Ideal S8x256 .f32) y = (0 : EReal) := by
  rw [eq_ix2 y]; pointwise [k1_pay32, k1_pay30]
theorem zero_below' (y : S8x256.Idx) : (k1_pay35 : FVec Ideal S8x256 .f32) y = (0 : EReal) := by
  rw [eq_ix2 y]; pointwise [k1_pay35, k1_pay34]
theorem zero_above' (y : S8x256.Idx) : (k1_pay36 : FVec Ideal S8x256 .f32) y = (0 : EReal) := by
  rw [eq_ix2 y]; pointwise [k1_pay36, k1_pay34]
theorem cast_rows (X : Vec Ideal S8192x256 .f32) (r : Fin 8192) (l : Fin 256) : k1_pay33 (F := Ideal) X (ix2 r l) = X (ix2 r l) := by
  pointwise [k1_pay33]
theorem cast_grads (X : Vec Ideal S8192x256 .f32) (r : Fin 8192) (l : Fin 256) : k1_pay37 (F := Ideal) X (ix2 r l) = X (ix2 r l) := by
  pointwise [k1_pay37]
theorem zero_weights (y : S256x256.Idx) : (k1_pay38 : FVec Ideal S256x256 .f32) y = (0 : EReal) := by
  rw [eq_ix2 y]; pointwise [k1_pay38]
theorem zero_scale (y : S1x256.Idx) : (k1_pay39 : FVec Ideal S1x256 .f32) y = (0 : EReal) := by
  rw [eq_ix2 y]; pointwise [k1_pay39]

section Run

variable (c : Dev nD) (i : grid1.Coords)
variable (a1 : Memref sig .tc .vmem S8192x256 .f32) (h1 : a1.IsWhole) (a2 : Memref sig .tc .vmem S8192x256 .f32) (h2 : a2.IsWhole) (a3 : Memref sig .tc .vmem S256x256 .bf16) (h3 : a3.IsWhole) (a4 : Memref sig .tc .vmem S1x256 .f32) (h4 : a4.IsWhole) (a5 : Memref sig .tc .vmem S8192x256 .bf16) (h5 : a5.IsWhole) (a6 : Memref sig .tc .vmem S256x256 .f32) (h6 : a6.IsWhole) (a7 : Memref sig .tc .vmem S1x256 .f32) (h7 : a7.IsWhole) (a8 : Memref sig .tc .vmem S8208x256 .f32) (h8 : a8.IsWhole) (a9 : Memref sig .tc .vmem S8208x256 .f32) (h9 : a9.IsWhole)

local notation "on(" f ")" => f (F := Ideal) Variants.none c none i a1 h1 a2 h2 a3 h3 a4 h4 a5 h5 a6 h6 a7 h7 a8 h8 a9 h9
local notation "at(" f ")" => f c i a1 h1 a2 h2 a3 h3 a4 h4 a5 h5 a6 h6 a7 h7 a8 h8 a9 h9

section Trip

variable (X3 : BufTy.Contents (Elt Ideal) a3.view.ty) (X4 : BufTy.Contents (Elt Ideal) a4.view.ty)
  (X8 : BufTy.Contents (Elt Ideal) a8.view.ty) (X9 : BufTy.Contents (Elt Ideal) a9.view.ty)

/-- A block's first row, as the loop's word counts it. -/
abbrev rowWord (k : Fin k1_t1_loop.trips) : BitVec 32 := Scalar.muli (Scf.iv 0#32 1#32 k) 512#32

theorem row_word : ∀ k : Fin k1_t1_loop.trips, rowWord k = BitVec.ofNat 32 (512 * k.val) := by decide +kernel

/-- What a block loads: its rows of either padded copy, the matrix and the scale. -/
abbrev tileOf (M : Memref sig .tc .vmem S8208x256 .f32) (X : BufTy.Contents (Elt Ideal) M.view.ty) (k : Fin k1_t1_loop.trips) : Vec Ideal S528x256 .f32 :=
  View.readAt (Elt Ideal) M.view (Rect.unit (s := S8208x256) (k1_off1 k) S528x256.size (k1_off1_inb k)).toLoadRect X
abbrev matrixOf : Vec Ideal S256x256 .bf16 :=
  View.readAt (Elt Ideal) a3.view (Rect.unit (s := S256x256) ![0, 0] S256x256.size inb_S256x256_S256x256_0_0).toLoadRect X3
abbrev scaleOf : Vec Ideal S1x256 .f32 :=
  View.readAt (Elt Ideal) a4.view (Rect.unit (s := S1x256) ![0, 0] S1x256.size inb_S1x256_S1x256_0_0).toLoadRect X4

theorem trip_du (k : Fin k1_t1_loop.trips) :
    (on(blockRun) X3 X4 X8 X9 k).1
      = [⟨Rect.unit (s := S8192x256) (k1_off2 k) S512x256.size (k1_off2_inb k),
          k1_pay1 (k1_pay18 (k1_pay16 (tileOf a9 X9 k) (scaleOf a4 X4)) (matrixOf a3 X3))
            (k1_pay24 (k1_pay18 (k1_pay16 (tileOf a9 X9 k) (scaleOf a4 X4)) (matrixOf a3 X3)) (k1_pay19 (rowWord k)) k1_pay21 k1_pay22 k1_pay23)
            (k1_pay25 (k1_pay18 (k1_pay16 (tileOf a9 X9 k) (scaleOf a4 X4)) (matrixOf a3 X3)) (k1_pay19 (rowWord k)) k1_pay21 k1_pay22 k1_pay23)
            (k1_pay26 (k1_pay18 (k1_pay16 (tileOf a9 X9 k) (scaleOf a4 X4)) (matrixOf a3 X3)) (k1_pay19 (rowWord k)) k1_pay21 k1_pay22 k1_pay23)
            (k1_pay27 (k1_pay18 (k1_pay16 (tileOf a9 X9 k) (scaleOf a4 X4)) (matrixOf a3 X3)) (k1_pay19 (rowWord k)) k1_pay21 k1_pay22 k1_pay23)
            (iota .tc S528x256 32 [1] iota_S528x256_d1_w32) 64#32 k1_pay28 k1_pay29⟩] := by
  unfold blockRun; rfl

/-- The averages' window sums of a block. -/
abbrev sumsOf (z : FVec Ideal S528x256 .f32) : FVec Ideal S512x256 .f32 :=
  k1_pay7 (k1_pay2 z) (k1_pay3 z) (k1_pay4 z) (k1_pay5 z) k1_pay6

theorem trip_dw (k : Fin k1_t1_loop.trips) (f : BufTy.Contents (Elt Ideal) a6.view.ty) :
    (on(blockRun) X3 X4 X8 X9 k).2.1 f
      = [⟨Rect.unit (s := S256x256) ![0, 0] S256x256.size inb_S256x256_S256x256_0_0,
          k1_pay17 (tileOf a8 X8 k) (tileOf a9 X9 k) (sumsOf (tileOf a8 X8 k)) (k1_pay8 (rowWord k)) k1_pay10 k1_pay11 k1_pay12 8#32 k1_pay13
            (scaleOf a4 X4) (View.readAt (Elt Ideal) a6.view (Rect.unit (s := S256x256) ![0, 0] S256x256.size inb_S256x256_S256x256_0_0).toLoadRect f)⟩] := by
  unfold blockRun; rfl

theorem trip_ds (k : Fin k1_t1_loop.trips) (f : BufTy.Contents (Elt Ideal) a7.view.ty) :
    (on(blockRun) X3 X4 X8 X9 k).2.2.1 f
      = [⟨Rect.unit (s := S1x256) ![0, 0] S1x256.size inb_S1x256_S1x256_0_0,
          k1_pay15 (tileOf a8 X8 k) (tileOf a9 X9 k) (sumsOf (tileOf a8 X8 k)) (k1_pay8 (rowWord k)) k1_pay10 k1_pay11 k1_pay12 8#32 k1_pay13
            (matrixOf a3 X3) (View.readAt (Elt Ideal) a7.view (Rect.unit (s := S1x256) ![0, 0] S1x256.size inb_S1x256_S1x256_0_0).toLoadRect f)⟩] := by
  unfold blockRun; rfl

end Trip

section Values

variable (X3 : BufTy.Contents (Elt Ideal) a3.view.ty) (X4 : BufTy.Contents (Elt Ideal) a4.view.ty)
  (X8 : BufTy.Contents (Elt Ideal) a8.view.ty) (X9 : BufTy.Contents (Elt Ideal) a9.view.ty)
variable (u da : ℕ → ℕ → ℝ) (W : ℕ → ℕ → ℕ → ℝ) (sc : ℕ → ℝ)
variable (hz : ∀ k, Tile (tileOf a8 X8 k) k.val u) (hdz : ∀ k, Tile (tileOf a9 X9 k) k.val da)
  (hw : ∀ i j : Fin 256, matrixOf a3 X3 (ix2 i j) = ((block W i.val j.val : ℝ) : EReal))
  (hs : ∀ j : Fin 256, scaleOf a4 X4 (ix2 0 j) = ((sc j.val : ℝ) : EReal))

include hz hdz hs in
/-- The weights' accumulator after `n` blocks. -/
theorem dw_read (g : BufTy.Contents (Elt Ideal) a6.view.ty) (hg : ∀ y, a6.view.read (Elt Ideal) g y = (0 : EReal)) (n : ℕ) (hn : n ≤ 16)
    (a b : Fin 256) :
    a6.view.read (Elt Ideal) (a6.view.writes (Elt Ideal) g (on(dwStores) X3 X4 X8 X9 g n)) (ix2 a b)
      = ((∑ t ∈ Finset.range (512 * n), y u t a.val * dyl da sc t b.val : ℝ) : EReal) := by
  induction n generalizing a b with
  | zero => exact (hg _).trans (by simp)
  | succ n ih =>
    have hn' : n < k1_t1_loop.trips := lt_of_lt_of_eq (show n < 16 by omega) (by decide +kernel)
    have e := on(dwStores_succ) X3 X4 X8 X9 g ⟨n, hn'⟩
    rw [e, trip_dw, List.singleton_append, row_word]
    refine (store_all _ start _ _ a6.view g _ _).trans ?_
    refine (store_weights _ _ n (by omega) u da (hz ⟨n, hn'⟩) (hdz ⟨n, hn'⟩) _ sc hs _ a b).trans ?_
    rw [read_all _ start, Nat.mul_succ, Finset.sum_range_add, EReal.coe_add]
    exact congrArg (· + _) (ih (by omega) a b)

include hz hdz hw in
/-- The scale's accumulator after `n` blocks. -/
theorem ds_read (g : BufTy.Contents (Elt Ideal) a7.view.ty) (hg : ∀ y, a7.view.read (Elt Ideal) g y = (0 : EReal)) (n : ℕ) (hn : n ≤ 16)
    (b : Fin 256) :
    a7.view.read (Elt Ideal) (a7.view.writes (Elt Ideal) g (on(dsStores) X3 X4 X8 X9 g n)) (ix2 0 b)
      = ((∑ t ∈ Finset.range (512 * n), yl u W t b.val * da t b.val : ℝ) : EReal) := by
  induction n generalizing b with
  | zero => exact (hg _).trans (by simp)
  | succ n ih =>
    have hn' : n < k1_t1_loop.trips := lt_of_lt_of_eq (show n < 16 by omega) (by decide +kernel)
    have e := on(dsStores_succ) X3 X4 X8 X9 g ⟨n, hn'⟩
    rw [e, trip_ds, List.singleton_append, row_word]
    refine (store_all _ start _ _ a7.view g _ _).trans ?_
    refine (store_scale _ _ n (by omega) u da (hz ⟨n, hn'⟩) (hdz ⟨n, hn'⟩) _ W hw _ b).trans ?_
    rw [read_all _ start, Nat.mul_succ, Finset.sum_range_add, EReal.coe_add]
    exact congrArg (· + _) (ih (by omega) b)

include hdz hw hs in
/-- Every store into the rows' gradient holds that gradient's rows. -/
theorem du_piece (n : ℕ) : ∀ p ∈ on(duStores) X3 X4 X8 X9 n, ∀ x,
    p.2 x = ((fun y => ((du da W sc (y 0).val (y 1).val : ℝ) : EReal)) : S8192x256.Idx → EReal) (p.1.emb x) := by
  induction n with
  | zero => exact fun p hp => absurd hp List.not_mem_nil
  | succ n ih =>
    intro p hp x
    rw [duStores] at hp
    split_ifs at hp with hn'
    · rw [trip_du, List.singleton_append, row_word] at hp
      have hk16 : n < 16 := Nat.lt_of_lt_of_le hn' k1_t1_abs.2.1
      rcases List.mem_cons.1 hp with rfl | hp
      · rw [eq_ix2 x]
        refine (store_rows _ n hk16 (dy da W sc) (fun r l => rows_back _ n da (hdz ⟨n, hn'⟩) _ W hw _ sc hs r l) (x 0) (x 1)).trans ?_
        have e0 : k1_off2 ⟨n, hn'⟩ 0 = 512 * n := by rw [k1_off2_eq]; rfl
        have e1 : k1_off2 ⟨n, hn'⟩ 1 = 0 := by rw [k1_off2_eq]; rfl
        have key : ∀ a b : ℕ, du da W sc (512 * n + a) b = du da W sc (k1_off2 ⟨n, hn'⟩ 0 + 1 * a) (k1_off2 ⟨n, hn'⟩ 1 + 1 * b) := by
          intro a b; rw [e0, e1, Nat.zero_add, Nat.one_mul, Nat.one_mul]
        exact congrArg (fun z : ℝ => (z : EReal)) (key (x 0).val (x 1).val)
      · exact ih p hp x
    · exact ih p hp x

/-- The weights' stores, read in the result's own buffer: the last of them covers it. -/
theorem dw_moved {V : View sig .tc .vmem S256x256 .f32} {f : BufTy.Contents (Elt Ideal) V.ty} {g : BufTy.Contents (Elt Ideal) a6.view.ty} {n : ℕ} (hn : n = 16)
    {Z : List (View.Piece (Elt Ideal) S256x256 .f32)} {y : S256x256.Idx} :
    V.read (Elt Ideal) (V.writes (Elt Ideal) f (on(dwStores) X3 X4 X8 X9 g n ++ Z)) y
      = a6.view.read (Elt Ideal) (a6.view.writes (Elt Ideal) g (on(dwStores) X3 X4 X8 X9 g n)) y := by
  subst hn
  have e := on(dwStores_succ) X3 X4 X8 X9 g ⟨15, lt_of_lt_of_eq (show 15 < 16 by omega) (by decide +kernel)⟩
  rw [trip_dw, List.singleton_append] at e
  rw [e, List.cons_append]
  exact (store_all _ start _ y V f _ _).trans (store_all _ start _ y a6.view g _ _).symm

/-- The scale' stores, read in the result's own buffer: the last of them covers it. -/
theorem ds_moved {V : View sig .tc .vmem S1x256 .f32} {f : BufTy.Contents (Elt Ideal) V.ty} {g : BufTy.Contents (Elt Ideal) a7.view.ty} {n : ℕ} (hn : n = 16)
    {Z : List (View.Piece (Elt Ideal) S1x256 .f32)} {y : S1x256.Idx} :
    V.read (Elt Ideal) (V.writes (Elt Ideal) f (on(dsStores) X3 X4 X8 X9 g n ++ Z)) y
      = a7.view.read (Elt Ideal) (a7.view.writes (Elt Ideal) g (on(dsStores) X3 X4 X8 X9 g n)) y := by
  subst hn
  have e := on(dsStores_succ) X3 X4 X8 X9 g ⟨15, lt_of_lt_of_eq (show 15 < 16 by omega) (by decide +kernel)⟩
  rw [trip_ds, List.singleton_append] at e
  rw [e, List.cons_append]
  exact (store_all _ start _ y V f _ _).trans (store_all _ start _ y a7.view g _ _).symm

end Values

variable (x0 x1 : Vec Ideal S8192x256 .f32) (x2 : Vec Ideal S256x256 .bf16) (x3 : Vec Ideal S1x256 .f32)
variable (u da : ℕ → ℕ → ℝ) (W : ℕ → ℕ → ℕ → ℝ) (sc : ℕ → ℝ)
variable (hu : ∀ (r : Fin 8192) (l : Fin 256), x0 (ix2 r l) = ((u r.val l.val : ℝ) : EReal))
  (hd : ∀ (r : Fin 8192) (l : Fin 256), x1 (ix2 r l) = ((da r.val l.val : ℝ) : EReal))
  (hw : ∀ i j : Fin 256, x2 (ix2 i j) = ((block W i.val j.val : ℝ) : EReal)) (hs : ∀ j : Fin 256, x3 (ix2 0 j) = ((sc j.val : ℝ) : EReal))

include hu in
theorem rows_tile (k : Fin k1_t1_loop.trips) :
    Tile (tileOf a8 (a8.view.writes (Elt Ideal) a8.view.junk (bwdRun.sl.HS0_3 c a1 h1 x0)) k) k.val u :=
  pad_tile a8 _ _ _ _ _ _ u zero_below zero_above (fun r l => (cast_rows _ r l).trans ((load_all _ start _ _ a1 h1 x0).trans (hu r l)))
    k.val (Nat.lt_of_lt_of_le k.isLt k1_t1_abs.2.1) _ (k1_off1_eq k) _

include hd in
theorem grads_tile (k : Fin k1_t1_loop.trips) :
    Tile (tileOf a9 (a9.view.writes (Elt Ideal) a9.view.junk (bwdRun.sl.HS1_3 c a2 h2 x1)) k) k.val da :=
  pad_tile a9 _ _ _ _ _ _ da zero_below' zero_above' (fun r l => (cast_grads _ r l).trans ((load_all _ start _ _ a2 h2 x1).trans (hd r l)))
    k.val (Nat.lt_of_lt_of_le k.isLt k1_t1_abs.2.1) _ (k1_off1_eq k) _

include hd hw hs in
/-- The gradient of the rows the call leaves. -/
theorem du_out (r : Fin 8192) (l : Fin 256) :
    at(bwdOut4) x0 x1 x2 x3 (ix2 r l) = ((du da W sc r.val l.val : ℝ) : EReal) := by
  refine View.read_writes_apply_of_pieces (Val := Elt Ideal) bwdView4 _
    ((fun y => ((du da W sc (y 0).val (y 1).val : ℝ) : EReal)) : S8192x256.Idx → EReal) _ ?_ (ix2 r l)
    (at(bwdCovers4) x0 x1 x2 x3 _)
  unfold bwdRun
  exact at(du_piece) _ _ _ _ da W sc
    (grads_tile c a2 h2 a9 x1 da hd) (fun a b => (load_all _ start _ _ a3 h3 x2).trans (hw a b))
    (fun b => (load_all _ start _ _ a4 h4 x3).trans (hs b)) _

include hu hd hs in
/-- The gradient of the block matrix the call leaves. -/
theorem dw_out (a b : Fin 256) :
    at(bwdOut5) x0 x1 x2 x3 (ix2 a b)
      = ((∑ t ∈ Finset.range 8192, y u t a.val * dyl da sc t b.val : ℝ) : EReal) := by
  unfold bwdOut5 bwdRun
  refine (at(dw_moved) _ _ _ _ trips_eq).trans ((at(dw_read) _ _ _ _ u da sc
    (rows_tile c a1 h1 a8 x0 u hu) (grads_tile c a2 h2 a9 x1 da hd) (fun b => (load_all _ start _ _ a4 h4 x3).trans (hs b)) _
    (fun y => (store_all _ start _ y a6.view _ _ _).trans (zero_weights y)) _ (le_of_eq trips_eq) a b).trans ?_)
  rw [trips_eq]

include hu hd hw in
/-- The gradient of the scale the call leaves. -/
theorem ds_out (b : Fin 256) :
    at(bwdOut6) x0 x1 x2 x3 (ix2 0 b) = ((dsc u da W b.val : ℝ) : EReal) := by
  unfold bwdOut6 bwdRun
  refine (at(ds_moved) _ _ _ _ trips_eq).trans ((at(ds_read) _ _ _ _ u da W
    (rows_tile c a1 h1 a8 x0 u hu) (grads_tile c a2 h2 a9 x1 da hd) (fun a b => (load_all _ start _ _ a3 h3 x2).trans (hw a b)) _
    (fun y => (store_all _ start _ y a7.view _ _ _).trans (zero_scale y)) _ (le_of_eq trips_eq) b).trans ?_)
  rw [trips_eq]
  rfl

end Run

end Cert.PoolBwd
-- ==== Proof.PoolArrays.lean ====
module

public import proofs.«01_k».proof.Proof.PoolRun
public import proofs.«01_k».proof.Proof.PoolFwdValue
public import proofs.«01_k».proof.Proof.PoolBwdValue
public import Idealize.ShloMosaic.Lib.Pipeline.ValueKit
public import Idealize.ShloMosaic.Lib.Pointwise
public import Idealize.ShloMosaic.Lib.Claim

/-! # The pooling program's arrays

The arrays of the program, read at an index: what the host operations hand to the two calls, and what the two
calls and the last host operations leave. -/

@[expose] public section

set_option maxRecDepth 16384

noncomputable section

namespace Cert.PoolArrays

open Idealize.ShloMosaic Idealize.ShloMosaic.TcCoe Idealize.SL.Sem
open Idealize.ShloMosaic.Pipeline (Dat)
open Cert.PoolIdeal Cert.PoolIdeal.Gen Cert.Pool Cert.PoolRun Cert.PoolFwd Cert.PoolBwd

/-- The index `i` counts round. -/
def wrap (n : ℕ) [NeZero n] (i : ℕ) : Fin n := ⟨i % n, Nat.mod_lt _ (Nat.pos_of_neZero n)⟩

theorem wrap_val {n : ℕ} [NeZero n] (i : Fin n) : wrap n i.val = i := Fin.ext (Nat.mod_eq_of_lt i.isLt)

/-- Every entry is a real number. -/
def Real {s : Shape} (a : FVec Ideal s .f32) : Prop := ∀ i, a i = ((a i).toReal : EReal)

/-- The entries of the arguments, as real numbers. -/
def rows (a : FVec Ideal S1x8192x256 .f32) (r l : ℕ) : ℝ := (a (ix3 0 (wrap 8192 r) (wrap 256 l))).toReal
def weights (a : FVec Ideal S1x4x64x64 .f32) (g c d : ℕ) : ℝ := (a (ix4 0 (wrap 4 g) (wrap 64 c) (wrap 64 d))).toReal
def scales (a : FVec Ideal S1x256 .f32) (j : ℕ) : ℝ := (a (ix2 0 (wrap 256 j))).toReal

theorem rows_at {a : FVec Ideal S1x8192x256 .f32} (ha : Real a) (r : Fin 8192) (l : Fin 256) : a (ix3 0 r l) = ((rows a r.val l.val : ℝ) : EReal) := by
  unfold rows
  rw [wrap_val, wrap_val]
  exact ha _

theorem weights_at {a : FVec Ideal S1x4x64x64 .f32} (ha : Real a) (g : Fin 4) (c d : Fin 64) :
    a (ix4 0 g c d) = ((weights a g.val c.val d.val : ℝ) : EReal) := by
  unfold weights
  rw [wrap_val, wrap_val, wrap_val]
  exact ha _

theorem scales_at {a : FVec Ideal S1x256 .f32} (ha : Real a) (j : Fin 256) : a (ix2 0 j) = ((scales a j.val : ℝ) : EReal) := by
  unfold scales
  rw [wrap_val]
  exact ha _

/-- A diagonal block with a leading axis. -/
abbrev lifted (x : FVec Ideal S64x64 .f32) : FVec Ideal S1x64x64 .f32 := broadcastInDim S1x64x64 ![1, 2] bcast_S64x64_S1x64x64_1_2 x

/-- Four blocks, stacked. -/
def stack (a b c d : FVec Ideal S1x64x64 .f32) : FVec Ideal S4x64x64 .f32 :=
  concatenate S4x64x64 0 [⟨S1x64x64, a⟩, ⟨S1x64x64, b⟩, ⟨S1x64x64, c⟩, ⟨S1x64x64, d⟩] concatenates_S1x64x64_S1x64x64_S1x64x64_S1x64x64_S4x64x64_d0

theorem stack_congr {a a' b b' c c' d d' : FVec Ideal S1x64x64 .f32} (ha : a = a') (hb : b = b') (hc : c = c') (hd : d = d') :
    stack a b c d = stack a' b' c' d' := by
  rw [ha, hb, hc, hd]

/-- The diagonal blocks of a matrix, stacked. -/
def stacked (x : FVec Ideal S256x256 .f32) : FVec Ideal S4x64x64 .f32 :=
  stack (lifted (extractStridedSlice S64x64 ![0, 0] x slices_S256x256_S64x64_0_0))
    (lifted (extractStridedSlice S64x64 ![64, 64] x slices_S256x256_S64x64_64_64))
    (lifted (extractStridedSlice S64x64 ![128, 128] x slices_S256x256_S64x64_128_128))
    (lifted (extractStridedSlice S64x64 ![192, 192] x slices_S256x256_S64x64_192_192))

theorem stacked_of (V : Valuation τ sig (Elt Ideal)) :
    StableHlo.after (hostOps2 (F := Ideal)) V (Proc.devRef .tc main_v27) = stacked (V (Proc.devRef .tc main_v18_1)) := by
  unfold hostOps2
  simp only [StableHlo.after_cons, StableHlo.after_nil]
  rw [StableHlo.unary_result_ne, StableHlo.unary_result_ne, StableHlo.nary4_result]
  rotate_left
  · decide
  · decide
  refine stack_congr ?_ ?_ ?_ ?_
  all_goals
    dsimp only [Fin.cons]
    repeat (first | rw [StableHlo.unary_result] | (rw [StableHlo.unary_result_ne]; rotate_left; decide))
    rfl

theorem stacked_at (x : FVec Ideal S256x256 .f32) (g : Fin 4) (i d : Fin 64) :
    stacked x (ix3 g i d) = x (ix2 ⟨64 * g.val + i.val, by omega⟩ ⟨64 * g.val + d.val, by omega⟩) := by
  unfold stacked stack
  fin_cases g
  all_goals pointwise

variable (m : (ℓ : Loc nD τ sig) → Buf (Elt Ideal) ℓ) (ρ : Dev nD → PrngReg) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)

/-- Every argument's entries are real numbers. -/
structure Reals : Prop where
  u : Real (a0 m c)
  w : Real (a1 m c)
  s : Real (a2 m c)
  d : Real (a3 m c)

abbrev U := rows (a0 m c)
abbrev WT := weights (a1 m c)
abbrev SC := scales (a2 m c)
abbrev DA := rows (a3 m c)

/-! ## What the calls are given -/

/-- An entry of the four-by-four matrix of ones on the diagonal. -/
theorem eye_at (a b : Fin 4) : FloatOps.uitofp (F := Ideal) FTy.f32 (IntOp.cmpi CmpIPredicate.eq (IntOp.addi (BitVec.ofNat 32 a.val) 0#32) (BitVec.ofNat 32 b.val))
    = ((if a.val = b.val then 1 else 0 : ℝ) : EReal) := by
  have e : IntOp.cmpi CmpIPredicate.eq (IntOp.addi (BitVec.ofNat 32 a.val) 0#32) (BitVec.ofNat 32 b.val) = if a.val = b.val then 1#1 else 0#1 := by
    revert a b
    decide +kernel
  rw [e]
  split_ifs
  · exact congrArg (fun x : ℝ => (x : EReal)) (by norm_num : (((1#1 : BitVec 1).toNat : ℕ) : ℝ) = 1)
  · exact congrArg (fun x : ℝ => (x : EReal)) (by norm_num : (((0#1 : BitVec 1).toNat : ℕ) : ℝ) = 0)

theorem matrix_at (hm : Reals m c) (i j : Fin 256) :
    mem1 m ρ c (Proc.devRef .tc main_v13) (ix2 i j) = ((block (WT m c) i.val j.val : ℝ) : EReal) := by
  have hw := weights_at hm.w ⟨i.val / 64, by omega⟩ ⟨i.val % 64, by omega⟩ ⟨j.val % 64, by omega⟩
  unfold mem1
  entry_read
  pointwise
  refine (congrArg₂ (· * ·) (eye_at ⟨i.val / 64, by omega⟩ ⟨j.val / 64, by omega⟩) hw).trans ?_
  rw [← EReal.coe_mul]
  refine congrArg _ ?_
  unfold block
  dsimp only
  split_ifs <;> ring

theorem fwd_rows (hm : Reals m c) (r : Fin 8192) (l : Fin 256) :
    mem1 m ρ c (Proc.devRef .tc main_v14) (ix2 r l) = ((U m c r.val l.val : ℝ) : EReal) := by
  unfold mem1
  entry_read
  pointwise
  exact rows_at hm.u r l

theorem bwd_rows (hm : Reals m c) (r : Fin 8192) (l : Fin 256) :
    mem3 m ρ c (Proc.devRef .tc main_v16) (ix2 r l) = ((U m c r.val l.val : ℝ) : EReal) := by
  unfold mem3
  entry_read
  pointwise
  rw [mem2_args m ρ c main_arg0 (by decide)]
  exact rows_at hm.u r l

theorem bwd_grads (hm : Reals m c) (r : Fin 8192) (l : Fin 256) :
    mem3 m ρ c (Proc.devRef .tc main_v17) (ix2 r l) = ((DA m c r.val l.val : ℝ) : EReal) := by
  unfold mem3
  entry_read
  pointwise
  rw [mem2_args m ρ c main_arg3 (by decide)]
  exact rows_at hm.d r l

theorem bwd_matrix (hm : Reals m c) (i j : Fin 256) :
    mem3 m ρ c (Proc.devRef .tc main_v13) (ix2 i j) = ((block (WT m c) i.val j.val : ℝ) : EReal) :=
  (congrFun ((mem3_of m ρ c _ (by decide)).trans (mem2_of m ρ c _ (by decide +kernel))) _).trans (matrix_at m ρ c hm i j)

/-! ## The forward call -/

theorem fwd_idx : ∀ t : Fin cfg0.N, win0_0.index t = ![0, 0] ∧ win0_1.index t = ![0, 0] ∧ win0_2.index t = ![0, 0] ∧ win0_3.index t = ![0, 0] :=
  (by decide +kernel : ∀ t : Fin grid0.N, _)

section Fwd

variable (t : Fin cfg0.N)

theorem fwd_tile0 (hm : Reals m c) (r : Fin 8192) (l : Fin 256) : fwdTile (at1 m ρ) c 0 t (ix2 r l) = ((U m c r.val l.val : ℝ) : EReal) := by
  refine Eq.trans ?_ (fwd_rows m ρ c hm r l)
  blk_simp [fwdTile]
  blk_point [fwd_idx t]

theorem fwd_tile1 (hm : Reals m c) (i j : Fin 256) : fwdTile (at1 m ρ) c 1 t (ix2 i j) = ((block (WT m c) i.val j.val : ℝ) : EReal) := by
  refine Eq.trans ?_ (matrix_at m ρ c hm i j)
  blk_simp [fwdTile]
  blk_point [fwd_idx t]

theorem fwd_tile2 (hm : Reals m c) (j : Fin 256) : fwdTile (at1 m ρ) c 2 t (ix2 0 j) = ((SC m c j.val : ℝ) : EReal) := by
  refine Eq.trans ?_ ((congrFun (mem1_args m ρ c main_arg2 (by decide)) _).trans (scales_at hm.s j))
  blk_simp [fwdTile]
  blk_point [fwd_idx t]

end Fwd

theorem out_array (hm : Reals m c) (r : Fin 8192) (l : Fin 256) :
    mem2 m ρ c (Proc.devRef .tc main_v15) (ix2 r l) = ((out (U m c) (WT m c) (SC m c) r.val l.val : ℝ) : EReal) := by
  refine (congrFun (mem2_arr m ρ c 3) (ix2 r l)).trans ?_
  refine congrFun ((fwdPipe (at1 m ρ) c).arrAt_eq_of_covers 3
    ((fun y => ((out (U m c) (WT m c) (SC m c) (y 0).val (y 1).val : ℝ) : EReal)) : S8192x256.Idx → EReal)
    (by decide +kernel) fun t hf y => ?_) (ix2 r l)
  blk_simp
  obtain ⟨r, l, rfl⟩ : ∃ (r : Fin 8192) (l : Fin 256), y = ix2 r l := ⟨y 0, y 1, eq_ix2 y⟩
  rw [fwdAfter3]
  unfold fwdOuts
  have e : win0_3.index t 0 = 0 ∧ win0_3.index t 1 = 0 := by simp [fwd_idx t]
  rw [e.1, e.2]
  show _ = ((out (U m c) (WT m c) (SC m c) (0 * 8192 + r.val) (0 * 256 + l.val) : ℝ) : EReal)
  rw [zero_mul, zero_mul, zero_add, zero_add]
  exact Cert.PoolFwd.out_read c _ _ _ _ _ _ _ _ _ _ _ _ _ (U m c) (WT m c) (SC m c) (fwd_tile0 m ρ c t hm) (fwd_tile1 m ρ c t hm) (fwd_tile2 m ρ c t hm) r l

/-! ## The backward call -/

theorem bwd_idx : ∀ t : Fin cfg1.N, win1_0.index t = ![0, 0] ∧ win1_1.index t = ![0, 0] ∧ win1_2.index t = ![0, 0] ∧ win1_3.index t = ![0, 0]
    ∧ win1_4.index t = ![0, 0] ∧ win1_5.index t = ![0, 0] ∧ win1_6.index t = ![0, 0] :=
  (by decide +kernel : ∀ t : Fin grid1.N, _)

section Bwd

variable (t : Fin cfg1.N)

theorem bwd_tile0 (hm : Reals m c) (r : Fin 8192) (l : Fin 256) : bwdTile (at3 m ρ) c 0 t (ix2 r l) = ((U m c r.val l.val : ℝ) : EReal) := by
  refine Eq.trans ?_ (bwd_rows m ρ c hm r l)
  blk_simp [bwdTile]
  blk_point [bwd_idx t]

theorem bwd_tile1 (hm : Reals m c) (r : Fin 8192) (l : Fin 256) : bwdTile (at3 m ρ) c 1 t (ix2 r l) = ((DA m c r.val l.val : ℝ) : EReal) := by
  refine Eq.trans ?_ (bwd_grads m ρ c hm r l)
  blk_simp [bwdTile]
  blk_point [bwd_idx t]

theorem bwd_tile2 (hm : Reals m c) (i j : Fin 256) : bwdTile (at3 m ρ) c 2 t (ix2 i j) = ((block (WT m c) i.val j.val : ℝ) : EReal) := by
  refine Eq.trans ?_ (bwd_matrix m ρ c hm i j)
  blk_simp [bwdTile]
  blk_point [bwd_idx t]

theorem bwd_tile3 (hm : Reals m c) (j : Fin 256) : bwdTile (at3 m ρ) c 3 t (ix2 0 j) = ((SC m c j.val : ℝ) : EReal) := by
  refine Eq.trans ?_ ((congrFun (mem3_args m ρ c main_arg2 (by decide)) _).trans (scales_at hm.s j))
  blk_simp [bwdTile]
  blk_point [bwd_idx t]

end Bwd

theorem rows_array (hm : Reals m c) (r : Fin 8192) (l : Fin 256) :
    mem4 m ρ c (Proc.devRef .tc main_v18_0) (ix2 r l) = ((du (DA m c) (WT m c) (SC m c) r.val l.val : ℝ) : EReal) := by
  refine (congrFun (mem4_arr m ρ c 4) (ix2 r l)).trans ?_
  refine congrFun ((bwdPipe (at3 m ρ) c).arrAt_eq_of_covers 4
    ((fun y => ((du (DA m c) (WT m c) (SC m c) (y 0).val (y 1).val : ℝ) : EReal)) : S8192x256.Idx → EReal)
    (by decide +kernel) fun t hf y => ?_) (ix2 r l)
  blk_simp
  obtain ⟨r, l, rfl⟩ : ∃ (r : Fin 8192) (l : Fin 256), y = ix2 r l := ⟨y 0, y 1, eq_ix2 y⟩
  rw [bwdAfter4]
  unfold bwdOuts
  have e : win1_4.index t 0 = 0 ∧ win1_4.index t 1 = 0 := by simp [bwd_idx t]
  rw [e.1, e.2]
  show _ = ((du (DA m c) (WT m c) (SC m c) (0 * 8192 + r.val) (0 * 256 + l.val) : ℝ) : EReal)
  rw [zero_mul, zero_mul, zero_add, zero_add]
  exact Cert.PoolBwd.du_out c _ _ _ _ _ _ _ _ _ _ _ _ _ _ _ _ _ _ _ _ _ _ _ (DA m c) (WT m c) (SC m c) (bwd_tile1 m ρ c t hm) (bwd_tile2 m ρ c t hm) (bwd_tile3 m ρ c t hm) r l

theorem weights_array (hm : Reals m c) (a b : Fin 256) :
    mem4 m ρ c (Proc.devRef .tc main_v18_1) (ix2 a b)
      = ((∑ t ∈ Finset.range 8192, y (U m c) t a.val * dyl (DA m c) (SC m c) t b.val : ℝ) : EReal) := by
  refine (congrFun (mem4_arr m ρ c 5) (ix2 a b)).trans ?_
  refine congrFun ((bwdPipe (at3 m ρ) c).arrAt_eq_of_covers 5
    ((fun q => ((∑ t ∈ Finset.range 8192, y (U m c) t (q 0).val * dyl (DA m c) (SC m c) t (q 1).val : ℝ) : EReal)) : S256x256.Idx → EReal)
    (by decide +kernel) fun t hf y => ?_) (ix2 a b)
  blk_simp
  obtain ⟨r, l, rfl⟩ : ∃ (r : Fin 256) (l : Fin 256), y = ix2 r l := ⟨y 0, y 1, eq_ix2 y⟩
  rw [bwdAfter5]
  unfold bwdOuts
  have e : win1_5.index t 0 = 0 ∧ win1_5.index t 1 = 0 := by simp [bwd_idx t]
  rw [e.1, e.2]
  show _ = ((∑ t ∈ Finset.range 8192, Cert.Pool.y (U m c) t (0 * 256 + r.val) * dyl (DA m c) (SC m c) t (0 * 256 + l.val) : ℝ) : EReal)
  rw [zero_mul, zero_add, zero_add]
  exact Cert.PoolBwd.dw_out c _ _ _ _ _ _ _ _ _ _ _ _ _ _ _ _ _ _ _ _ _ _ _ (U m c) (DA m c) (SC m c) (bwd_tile0 m ρ c t hm) (bwd_tile1 m ρ c t hm) (bwd_tile3 m ρ c t hm) r l

theorem scale_array (hm : Reals m c) (b : Fin 256) :
    mem4 m ρ c (Proc.devRef .tc main_v18_2) (ix2 0 b) = ((dsc (U m c) (DA m c) (WT m c) b.val : ℝ) : EReal) := by
  refine (congrFun (mem4_arr m ρ c 6) (ix2 0 b)).trans ?_
  refine congrFun ((bwdPipe (at3 m ρ) c).arrAt_eq_of_covers 6
    ((fun q => ((dsc (U m c) (DA m c) (WT m c) (q 1).val : ℝ) : EReal)) : S1x256.Idx → EReal)
    (by decide +kernel) fun t hf y => ?_) (ix2 0 b)
  blk_simp
  obtain ⟨r, l, rfl⟩ : ∃ (r : Fin 1) (l : Fin 256), y = ix2 r l := ⟨y 0, y 1, eq_ix2 y⟩
  obtain rfl : r = 0 := Subsingleton.elim _ _
  rw [bwdAfter6]
  unfold bwdOuts
  have e : win1_6.index t 1 = 0 := by simp [bwd_idx t]
  rw [e]
  show _ = ((dsc (U m c) (DA m c) (WT m c) (0 * 256 + l.val) : ℝ) : EReal)
  rw [zero_mul, zero_add]
  exact Cert.PoolBwd.ds_out c _ _ _ _ _ _ _ _ _ _ _ _ _ _ _ _ _ _ _ _ _ _ _ (U m c) (DA m c) (WT m c) (bwd_tile0 m ρ c t hm) (bwd_tile1 m ρ c t hm) (bwd_tile2 m ρ c t hm) l

/-! ## The results -/

theorem out_result (hm : Reals m c) (r : Fin 8192) (l : Fin 256) :
    mem5 m ρ c (Proc.devRef .tc main_v28) (ix2 r l) = ((out (U m c) (WT m c) (SC m c) r.val l.val : ℝ) : EReal) := by
  refine Eq.trans ?_ (out_array m ρ c hm r l)
  refine Eq.trans ?_ (congrFun ((mem4_of m ρ c main_v15 (by decide +kernel)).trans (mem3_of m ρ c main_v15 (by decide))) _)
  unfold mem5
  entry_read
  pointwise

theorem rows_result (hm : Reals m c) (r : Fin 8192) (l : Fin 256) :
    mem5 m ρ c (Proc.devRef .tc main_v29) (ix2 r l) = ((du (DA m c) (WT m c) (SC m c) r.val l.val : ℝ) : EReal) := by
  refine Eq.trans ?_ (rows_array m ρ c hm r l)
  unfold mem5
  entry_read
  pointwise

theorem scale_result (hm : Reals m c) (b : Fin 256) :
    mem5 m ρ c (Proc.devRef .tc main_v18_2) (ix2 0 b) = ((dsc (U m c) (DA m c) (WT m c) b.val : ℝ) : EReal) :=
  (congrFun (mem5_of m ρ c main_v18_2 (by decide)) _).trans (scale_array m ρ c hm b)

theorem weights_result (hm : Reals m c) (g : Fin 4) (i d : Fin 64) :
    mem5 m ρ c (Proc.devRef .tc main_v27) (ix3 g i d) = ((dW (U m c) (DA m c) (SC m c) g.val i.val d.val : ℝ) : EReal) :=
  (congrFun (stacked_of (mem4 m ρ c)) _).trans ((stacked_at _ g i d).trans
    (weights_array m ρ c hm ⟨64 * g.val + i.val, by omega⟩ ⟨64 * g.val + d.val, by omega⟩))

end Cert.PoolArrays

end
-- ==== Proof.PoolWords.lean ====
module

public import proofs.«01_k».proof.Proof.PoolTake
public import proofs.«01_k».proof.Proof.PoolSpec
public import proofs.«01_k».proof.Proof.RowNorm
public import proofs.«01_k».proof.Proof.UnitSum
public import Idealize.ShloMosaic.Lib.Pointwise

/-! # The pooling step's reference: the windows as words -/

@[expose] public section

set_option maxRecDepth 16384

noncomputable section

open Idealize.ShloMosaic Idealize.ShloMosaic.TcCoe Idealize.SL.Sem

namespace Cert.PoolRef

open Cert.PoolRefIdeal Cert.PoolRefIdeal.Read Cert.Pool Cert.PoolTake

/-! ## The rows at which a window begins and ends, as words -/

/-- A row's window, kept inside the array: its first row and the row after its last, for half a window `h`. -/
def firstWord (h : BitVec 32) (t : ℕ) : BitVec 32 :=
  IntOp.minsi 8192#32 (IntOp.maxsi 0#32 (IntOp.subi (BitVec.ofNat 32 t) h))
def lastWord (h : BitVec 32) (t : ℕ) : BitVec 32 :=
  IntOp.minsi 8192#32 (IntOp.maxsi 0#32 (IntOp.addi (IntOp.subi (BitVec.ofNat 32 t) h) (IntOp.addi h h)))

/-- An index from the end where it is negative. -/
def wrapped (x : BitVec 32) : BitVec 32 := Scalar.select (IntOp.cmpi .slt x 0#32) (IntOp.addi x 8193#32) x

theorem wrapped_nat : ∀ n : Fin 8193, wrapped (BitVec.ofNat 32 n.val) = BitVec.ofNat 32 n.val := by decide +kernel
theorem inside_nat : ∀ n : Fin 8193, IntOp.andi (IntOp.cmpi .sge (BitVec.ofNat 32 n.val) 0#32) (IntOp.cmpi .sle (BitVec.ofNat 32 n.val) 8192#32) = 1#1 := by
  decide +kernel
theorem int_nat : ∀ n : Fin 8193, (BitVec.ofNat 32 n.val).toInt = (n.val : Int) := by decide +kernel
theorem gap_nat (a b : ℕ) (h : a ≤ b) (hb : b ≤ 8192) :
    (IntOp.subi (BitVec.ofNat 32 b) (BitVec.ofNat 32 a)).toInt = (b : Int) - (a : Int) := by
  have e : IntOp.subi (BitVec.ofNat 32 b) (BitVec.ofNat 32 a) = BitVec.ofNat 32 (b - a) := by
    apply BitVec.eq_of_toNat_eq
    unfold IntOp.subi
    rw [BitVec.toNat_sub, BitVec.toNat_ofNat, BitVec.toNat_ofNat, BitVec.toNat_ofNat]
    omega
  rw [e, int_nat ⟨b - a, by omega⟩]
  show ((b - a : ℕ) : Int) = _
  omega

theorem first_word0 : ∀ t : Fin 8192, firstWord 1#32 t.val = BitVec.ofNat 32 (lo 0 t.val) := by decide +kernel
theorem last_word0 : ∀ t : Fin 8192, lastWord 1#32 t.val = BitVec.ofNat 32 (hi 0 t.val) := by decide +kernel
theorem first_word1 : ∀ t : Fin 8192, firstWord 2#32 t.val = BitVec.ofNat 32 (lo 64 t.val) := by decide +kernel
theorem last_word1 : ∀ t : Fin 8192, lastWord 2#32 t.val = BitVec.ofNat 32 (hi 64 t.val) := by decide +kernel
theorem first_word2 : ∀ t : Fin 8192, firstWord 4#32 t.val = BitVec.ofNat 32 (lo 128 t.val) := by decide +kernel
theorem last_word2 : ∀ t : Fin 8192, lastWord 4#32 t.val = BitVec.ofNat 32 (hi 128 t.val) := by decide +kernel
theorem first_word3 : ∀ t : Fin 8192, firstWord 8#32 t.val = BitVec.ofNat 32 (lo 192 t.val) := by decide +kernel
theorem last_word3 : ∀ t : Fin 8192, lastWord 8#32 t.val = BitVec.ofNat 32 (hi 192 t.val) := by decide +kernel

theorem first_at0 (t : Fin 8192) : val_main_v10 (F := Ideal) (ix1 t) = BitVec.ofNat 32 (lo 0 t.val) := by
  rw [← first_word0]; pointwise [val_main_v10, val_main_call1_v4, val_main_call1_v3, val_main_c_2, val_main_call1_v2, val_main_call1_v1, val_main_call1_v0, val_main_c_1, val_main_v9, val_main_v7, val_main_v8, val_main_c]; rfl
theorem last_at0 (t : Fin 8192) : val_main_v15 (F := Ideal) (ix1 t) = BitVec.ofNat 32 (hi 0 t.val) := by
  rw [← last_word0]; pointwise [val_main_v15, val_main_call2_v4, val_main_call2_v3, val_main_c_6, val_main_call2_v2, val_main_call2_v1, val_main_call2_v0, val_main_c_5, val_main_v14, val_main_v12, val_main_v7, val_main_v11, val_main_c_3, val_main_v13, val_main_c_4]; rfl
theorem from0 (t : Fin 8192) : val_main_v19_1 (F := Ideal) (ix2 t 0) = BitVec.ofNat 32 (lo 0 t.val) := by
  have h := lo_le 0 t.val t.isLt
  rw [← wrapped_nat ⟨lo 0 t.val, by omega⟩]
  pointwise [val_main_v19_1, val_main_call4_v4, val_main_call4_v1, val_main_call4_v0, val_main_call4_c, val_main_call4_v3, val_main_call4_v2, val_main_call4_c_0]
  rw [first_at0]; rfl
theorem upto0 (t : Fin 8192) : val_main_v18_1 (F := Ideal) (ix2 t 0) = BitVec.ofNat 32 (hi 0 t.val) := by
  have h := lo_le 0 t.val t.isLt
  rw [← wrapped_nat ⟨hi 0 t.val, by omega⟩]
  pointwise [val_main_v18_1, val_main_call3_v4, val_main_call3_v1, val_main_call3_v0, val_main_call3_c, val_main_call3_v3, val_main_call3_v2, val_main_call3_c_0]
  rw [last_at0]; rfl
theorem first_at1 (t : Fin 8192) : val_main_v31 (F := Ideal) (ix1 t) = BitVec.ofNat 32 (lo 64 t.val) := by
  rw [← first_word1]; pointwise [val_main_v31, val_main_call5_v4, val_main_call5_v3, val_main_c_9, val_main_call5_v2, val_main_call5_v1, val_main_call5_v0, val_main_c_8, val_main_v30, val_main_v7, val_main_v29, val_main_c_7]; rfl
theorem last_at1 (t : Fin 8192) : val_main_v36 (F := Ideal) (ix1 t) = BitVec.ofNat 32 (hi 64 t.val) := by
  rw [← last_word1]; pointwise [val_main_v36, val_main_call6_v4, val_main_call6_v3, val_main_c_13, val_main_call6_v2, val_main_call6_v1, val_main_call6_v0, val_main_c_12, val_main_v35, val_main_v33, val_main_v7, val_main_v32, val_main_c_10, val_main_v34, val_main_c_11]; rfl
theorem from1 (t : Fin 8192) : val_main_v40_1 (F := Ideal) (ix2 t 0) = BitVec.ofNat 32 (lo 64 t.val) := by
  have h := lo_le 64 t.val t.isLt
  rw [← wrapped_nat ⟨lo 64 t.val, by omega⟩]
  pointwise [val_main_v40_1, val_main_call8_v4, val_main_call8_v1, val_main_call8_v0, val_main_call8_c, val_main_call8_v3, val_main_call8_v2, val_main_call8_c_0]
  rw [first_at1]; rfl
theorem upto1 (t : Fin 8192) : val_main_v39_1 (F := Ideal) (ix2 t 0) = BitVec.ofNat 32 (hi 64 t.val) := by
  have h := lo_le 64 t.val t.isLt
  rw [← wrapped_nat ⟨hi 64 t.val, by omega⟩]
  pointwise [val_main_v39_1, val_main_call7_v4, val_main_call7_v1, val_main_call7_v0, val_main_call7_c, val_main_call7_v3, val_main_call7_v2, val_main_call7_c_0]
  rw [last_at1]; rfl
theorem first_at2 (t : Fin 8192) : val_main_v52 (F := Ideal) (ix1 t) = BitVec.ofNat 32 (lo 128 t.val) := by
  rw [← first_word2]; pointwise [val_main_v52, val_main_call9_v4, val_main_call9_v3, val_main_c_16, val_main_call9_v2, val_main_call9_v1, val_main_call9_v0, val_main_c_15, val_main_v51, val_main_v7, val_main_v50, val_main_c_14]; rfl
theorem last_at2 (t : Fin 8192) : val_main_v57 (F := Ideal) (ix1 t) = BitVec.ofNat 32 (hi 128 t.val) := by
  rw [← last_word2]; pointwise [val_main_v57, val_main_call10_v4, val_main_call10_v3, val_main_c_20, val_main_call10_v2, val_main_call10_v1, val_main_call10_v0, val_main_c_19, val_main_v56, val_main_v54, val_main_v7, val_main_v53, val_main_c_17, val_main_v55, val_main_c_18]; rfl
theorem from2 (t : Fin 8192) : val_main_v61_1 (F := Ideal) (ix2 t 0) = BitVec.ofNat 32 (lo 128 t.val) := by
  have h := lo_le 128 t.val t.isLt
  rw [← wrapped_nat ⟨lo 128 t.val, by omega⟩]
  pointwise [val_main_v61_1, val_main_call12_v4, val_main_call12_v1, val_main_call12_v0, val_main_call12_c, val_main_call12_v3, val_main_call12_v2, val_main_call12_c_0]
  rw [first_at2]; rfl
theorem upto2 (t : Fin 8192) : val_main_v60_1 (F := Ideal) (ix2 t 0) = BitVec.ofNat 32 (hi 128 t.val) := by
  have h := lo_le 128 t.val t.isLt
  rw [← wrapped_nat ⟨hi 128 t.val, by omega⟩]
  pointwise [val_main_v60_1, val_main_call11_v4, val_main_call11_v1, val_main_call11_v0, val_main_call11_c, val_main_call11_v3, val_main_call11_v2, val_main_call11_c_0]
  rw [last_at2]; rfl
theorem first_at3 (t : Fin 8192) : val_main_v73 (F := Ideal) (ix1 t) = BitVec.ofNat 32 (lo 192 t.val) := by
  rw [← first_word3]; pointwise [val_main_v73, val_main_call13_v4, val_main_call13_v3, val_main_c_23, val_main_call13_v2, val_main_call13_v1, val_main_call13_v0, val_main_c_22, val_main_v72, val_main_v7, val_main_v71, val_main_c_21]; rfl
theorem last_at3 (t : Fin 8192) : val_main_v78 (F := Ideal) (ix1 t) = BitVec.ofNat 32 (hi 192 t.val) := by
  rw [← last_word3]; pointwise [val_main_v78, val_main_call14_v4, val_main_call14_v3, val_main_c_27, val_main_call14_v2, val_main_call14_v1, val_main_call14_v0, val_main_c_26, val_main_v77, val_main_v75, val_main_v7, val_main_v74, val_main_c_24, val_main_v76, val_main_c_25]; rfl
theorem from3 (t : Fin 8192) : val_main_v82_1 (F := Ideal) (ix2 t 0) = BitVec.ofNat 32 (lo 192 t.val) := by
  have h := lo_le 192 t.val t.isLt
  rw [← wrapped_nat ⟨lo 192 t.val, by omega⟩]
  pointwise [val_main_v82_1, val_main_call16_v4, val_main_call16_v1, val_main_call16_v0, val_main_call16_c, val_main_call16_v3, val_main_call16_v2, val_main_call16_c_0]
  rw [first_at3]; rfl
theorem upto3 (t : Fin 8192) : val_main_v81_1 (F := Ideal) (ix2 t 0) = BitVec.ofNat 32 (hi 192 t.val) := by
  have h := lo_le 192 t.val t.isLt
  rw [← wrapped_nat ⟨hi 192 t.val, by omega⟩]
  pointwise [val_main_v81_1, val_main_call15_v4, val_main_call15_v1, val_main_call15_v0, val_main_call15_c, val_main_call15_v3, val_main_call15_v2, val_main_call15_c_0]
  rw [last_at3]; rfl

end Cert.PoolRef
-- ==== Proof.PoolRef.lean ====
module

public import proofs.«01_k».proof.Proof.PoolWords

/-! # The pooling step's reference: the running sums and the averages -/

@[expose] public section

set_option maxRecDepth 16384

noncomputable section

open Idealize.ShloMosaic Idealize.ShloMosaic.TcCoe Idealize.SL.Sem

namespace Cert.PoolRef

open Cert.PoolRefIdeal Cert.PoolRefIdeal.Read Cert.Pool Cert.PoolTake

theorem div_coe (x y : ℝ) (hy : y ≠ 0) : Ideal.div (x : EReal) (y : EReal) = ((x / y : ℝ) : EReal) := by
  rw [Cert.RowNorm.div_real _ hy, ← EReal.coe_mul, div_eq_mul_inv]

theorem window_host {s t u : Shape} (w st lo hi : Fin s.rank → ℕ) (h : s.ReduceWindows w st lo hi t) (hu : 0 < u.numel)
    (x : FVec Ideal s .f32) (init : u.Idx → Ideal .f32) (hi0 : ∀ i, init i = (0 : EReal)) :
    Host.reduceWindowAdd w st lo hi x init h hu = Ideal.hostReduceWindowAdd w st lo hi h x 0 :=
  congrArg (Ideal.hostReduceWindowAdd w st lo hi h x) (hi0 _)

theorem add_host {s si su : Shape} (d : ScatterDims s si su) (x : FVec Ideal s .f32) (idx : IVec si 32) (upd : FVec Ideal su .f32) :
    Host.scatterAdd d x idx upd = Ideal.hostScatterAdd d x idx upd := rfl

/-- A channel's number in its group's block. -/
def chan (g c : ℕ) : ℕ := 64 * g + c

theorem window_group (g c t : ℕ) (h : c < 64) : lo (chan g c) t = lo (64 * g) t ∧ hi (chan g c) t = hi (64 * g) t := by
  have e : chan g c / 64 = 64 * g / 64 := by unfold chan; omega
  unfold lo hi half; rw [e]; exact ⟨rfl, rfl⟩

theorem one_row (i : S8192x1.Idx) : ∃ t : Fin 8192, i = ix2 t 0 :=
  ⟨i 0, (eq_ix2 i).trans (congrArg (ix2 (i 0)) (Subsingleton.elim (α := Fin 1) _ _))⟩

/-! ## The running sums -/

section Rows

variable (x0 : (⟨S1x8192x256, .f32⟩ : BufTy).Contents (Elt Ideal)) (u : ℕ → ℕ → ℝ)
variable (hu : ∀ (s : Fin 8192) (i : Fin 256), x0 (ix3 0 s i) = ((u s.val i.val : ℝ) : EReal))

include hu

theorem rows_at (s : Fin 8192) (g : Fin 4) (c : Fin 64) :
    val_main_v2 (F := Ideal) x0 (ix4 0 s g c) = ((u s.val (chan g c) : ℝ) : EReal) := by
  pointwise [val_main_v2]
  rw [hu]
  show ((u s.val (g.val * 64 + c.val) : ℝ) : EReal) = ((u s.val (64 * g.val + c.val) : ℝ) : EReal)
  rw [mul_comm]

theorem run_at (t : Fin 8192) (g : Fin 4) (c : Fin 64) :
    val_main_v4 (F := Ideal) x0 (ix4 0 t g c) = ((∑ s ∈ Finset.range (t.val + 1), u s (chan g c) : ℝ) : EReal) := by
  unfold val_main_v4
  rw [window_host _ _ _ _ _ _ _ _ (fun _ => by pointwise [val_main_call0_call0_v0, val_main_call0_call0_cst])]
  rw [window_read 8191 0 _ _ (fun s => u s (chan g c)) g c (fun s => rows_at x0 u hu s g c) t,
    ← run_sum (fun s => u s (chan g c)) t.val t.isLt]
  congr 1
  refine Finset.sum_congr rfl fun m hm => ?_
  have := Finset.mem_range.1 hm
  have := t.isLt
  by_cases h : 8191 ≤ t.val + m
  · rw [if_pos ⟨h, by omega⟩, if_pos h]
  · rw [if_neg fun h' => h h'.1, if_neg h]

theorem before_at (n : Fin 8193) (g : Fin 4) (c : Fin 64) :
    val_main_v5 (F := Ideal) x0 (ix4 0 n g c) = ((∑ s ∈ Finset.range n.val, u s (chan g c) : ℝ) : EReal) := by
  pointwise [val_main_v5, val_main_v3, val_main_cst]
  split_ifs with h
  · rw [show n.val = 0 by omega]; simp
  all_goals
    rw [run_at x0 u hu]
    show ((∑ s ∈ Finset.range (n.val - 1 + 1), u s (chan g c) : ℝ) : EReal) = _
    rw [Nat.sub_add_cancel (by omega)]

theorem sum_upto0 (t : Fin 8192) (c : Fin 64) :
    val_main_v18_0 (F := Ideal) x0 (ix3 0 t c) = ((∑ s ∈ Finset.range (hi 0 t.val), u s (chan 0 c) : ℝ) : EReal) := by
  have h := lo_le 0 t.val t.isLt
  have one : ∀ j, val_main_call3_v12 (F := Ideal) j = 1#1 := by
    intro j
    unfold val_main_call3_v12
    refine and_ones _ _ _ _ (fun _ => by pointwise [val_main_call3_c_3]) (fun i => ?_) j
    obtain ⟨a, rfl⟩ := one_row i
    have ha := lo_le 0 a.val a.isLt
    rw [← inside_nat ⟨hi 0 a.val, by omega⟩]
    pointwise [val_main_call3_v11, val_main_call3_v7, val_main_call3_v6, val_main_call3_c_2, val_main_call3_v10, val_main_call3_v9, val_main_call3_v8, val_main_call3_c_1]
    rw [upto0]
  unfold val_main_v18_0
  show Scalar.select (val_main_call3_v14 (F := Ideal) (ix3 0 t c)) _ _ = _
  rw [show val_main_call3_v14 (F := Ideal) (ix3 0 t c) = 1#1 from one _]
  show val_main_call3_v13 (F := Ideal) x0 (ix3 0 t c) = _
  refine (take_read _ _ t c ⟨hi 0 t.val, by omega⟩ ?_).trans ?_
  · rw [upto0]; exact int_nat ⟨hi 0 t.val, by omega⟩
  · pointwise [val_main_v17, val_main_v16]
    exact before_at x0 u hu _ 0 c

theorem sum_from0 (t : Fin 8192) (c : Fin 64) :
    val_main_v19_0 (F := Ideal) x0 (ix3 0 t c) = ((∑ s ∈ Finset.range (lo 0 t.val), u s (chan 0 c) : ℝ) : EReal) := by
  have h := lo_le 0 t.val t.isLt
  have one : ∀ j, val_main_call4_v12 (F := Ideal) j = 1#1 := by
    intro j
    unfold val_main_call4_v12
    refine and_ones _ _ _ _ (fun _ => by pointwise [val_main_call4_c_3]) (fun i => ?_) j
    obtain ⟨a, rfl⟩ := one_row i
    have ha := lo_le 0 a.val a.isLt
    rw [← inside_nat ⟨lo 0 a.val, by omega⟩]
    pointwise [val_main_call4_v11, val_main_call4_v7, val_main_call4_v6, val_main_call4_c_2, val_main_call4_v10, val_main_call4_v9, val_main_call4_v8, val_main_call4_c_1]
    rw [from0]
  unfold val_main_v19_0
  show Scalar.select (val_main_call4_v14 (F := Ideal) (ix3 0 t c)) _ _ = _
  rw [show val_main_call4_v14 (F := Ideal) (ix3 0 t c) = 1#1 from one _]
  show val_main_call4_v13 (F := Ideal) x0 (ix3 0 t c) = _
  refine (take_read _ _ t c ⟨lo 0 t.val, by omega⟩ ?_).trans ?_
  · rw [from0]; exact int_nat ⟨lo 0 t.val, by omega⟩
  · pointwise [val_main_v17, val_main_v16]
    exact before_at x0 u hu _ 0 c

omit hu in
theorem count0 (t : Fin 8192) (c : Fin 64) : val_main_v24 (F := Ideal) (ix3 0 t c) = ((cnt (chan 0 c) t.val : ℝ) : EReal) := by
  have h := lo_le 0 t.val t.isLt
  pointwise [val_main_v24, val_main_v23, val_main_v22, val_main_v21]
  rw [first_at0, last_at0]
  show (((IntOp.subi (BitVec.ofNat 32 (hi 0 t.val)) (BitVec.ofNat 32 (lo 0 t.val))).toInt : ℝ) : EReal) = _
  rw [gap_nat _ _ (by omega) (by omega)]
  unfold cnt
  rw [(window_group 0 c t.val c.isLt).1, (window_group 0 c t.val c.isLt).2]
  push_cast
  rfl

theorem away0 (t : Fin 8192) (c : Fin 64) :
    val_main_v28 (F := Ideal) x0 (ix3 0 t c) = ((y u t.val (chan 0 c) : ℝ) : EReal) := by
  have e : lo (chan 0 c) t.val = lo 0 t.val ∧ hi (chan 0 c) t.val = hi 0 t.val := window_group 0 c t.val c.isLt
  have h := lo_le 0 t.val t.isLt
  unfold val_main_v28 val_main_v25 val_main_v20
  show Ideal.div (val_main_v18_0 (F := Ideal) x0 (ix3 0 t c) - val_main_v19_0 (F := Ideal) x0 (ix3 0 t c))
    (val_main_v24 (F := Ideal) (ix3 0 t c)) - val_main_v27 (F := Ideal) x0 (ix3 0 t c) = _
  rw [sum_upto0 x0 u hu, sum_from0 x0 u hu, count0, ← EReal.coe_sub, div_coe _ _ (cnt_pos _ _ t.isLt).ne']
  have hr : val_main_v27 (F := Ideal) x0 (ix3 0 t c) = ((u t.val (chan 0 c) : ℝ) : EReal) := by
    pointwise [val_main_v27, val_main_v26]
    exact rows_at x0 u hu t 0 c
  rw [hr, ← EReal.coe_sub]
  congr 1
  rw [window_sum _ (show lo 0 t.val ≤ hi 0 t.val by omega)]
  unfold y
  rw [e.1, e.2]

theorem sum_upto1 (t : Fin 8192) (c : Fin 64) :
    val_main_v39_0 (F := Ideal) x0 (ix3 0 t c) = ((∑ s ∈ Finset.range (hi 64 t.val), u s (chan 1 c) : ℝ) : EReal) := by
  have h := lo_le 64 t.val t.isLt
  have one : ∀ j, val_main_call7_v12 (F := Ideal) j = 1#1 := by
    intro j
    unfold val_main_call7_v12
    refine and_ones _ _ _ _ (fun _ => by pointwise [val_main_call7_c_3]) (fun i => ?_) j
    obtain ⟨a, rfl⟩ := one_row i
    have ha := lo_le 64 a.val a.isLt
    rw [← inside_nat ⟨hi 64 a.val, by omega⟩]
    pointwise [val_main_call7_v11, val_main_call7_v7, val_main_call7_v6, val_main_call7_c_2, val_main_call7_v10, val_main_call7_v9, val_main_call7_v8, val_main_call7_c_1]
    rw [upto1]
  unfold val_main_v39_0
  show Scalar.select (val_main_call7_v14 (F := Ideal) (ix3 0 t c)) _ _ = _
  rw [show val_main_call7_v14 (F := Ideal) (ix3 0 t c) = 1#1 from one _]
  show val_main_call7_v13 (F := Ideal) x0 (ix3 0 t c) = _
  refine (take_read _ _ t c ⟨hi 64 t.val, by omega⟩ ?_).trans ?_
  · rw [upto1]; exact int_nat ⟨hi 64 t.val, by omega⟩
  · pointwise [val_main_v38, val_main_v37]
    exact before_at x0 u hu _ 1 c

theorem sum_from1 (t : Fin 8192) (c : Fin 64) :
    val_main_v40_0 (F := Ideal) x0 (ix3 0 t c) = ((∑ s ∈ Finset.range (lo 64 t.val), u s (chan 1 c) : ℝ) : EReal) := by
  have h := lo_le 64 t.val t.isLt
  have one : ∀ j, val_main_call8_v12 (F := Ideal) j = 1#1 := by
    intro j
    unfold val_main_call8_v12
    refine and_ones _ _ _ _ (fun _ => by pointwise [val_main_call8_c_3]) (fun i => ?_) j
    obtain ⟨a, rfl⟩ := one_row i
    have ha := lo_le 64 a.val a.isLt
    rw [← inside_nat ⟨lo 64 a.val, by omega⟩]
    pointwise [val_main_call8_v11, val_main_call8_v7, val_main_call8_v6, val_main_call8_c_2, val_main_call8_v10, val_main_call8_v9, val_main_call8_v8, val_main_call8_c_1]
    rw [from1]
  unfold val_main_v40_0
  show Scalar.select (val_main_call8_v14 (F := Ideal) (ix3 0 t c)) _ _ = _
  rw [show val_main_call8_v14 (F := Ideal) (ix3 0 t c) = 1#1 from one _]
  show val_main_call8_v13 (F := Ideal) x0 (ix3 0 t c) = _
  refine (take_read _ _ t c ⟨lo 64 t.val, by omega⟩ ?_).trans ?_
  · rw [from1]; exact int_nat ⟨lo 64 t.val, by omega⟩
  · pointwise [val_main_v38, val_main_v37]
    exact before_at x0 u hu _ 1 c

omit hu in
theorem count1 (t : Fin 8192) (c : Fin 64) : val_main_v45 (F := Ideal) (ix3 0 t c) = ((cnt (chan 1 c) t.val : ℝ) : EReal) := by
  have h := lo_le 64 t.val t.isLt
  pointwise [val_main_v45, val_main_v44, val_main_v43, val_main_v42]
  rw [first_at1, last_at1]
  show (((IntOp.subi (BitVec.ofNat 32 (hi 64 t.val)) (BitVec.ofNat 32 (lo 64 t.val))).toInt : ℝ) : EReal) = _
  rw [gap_nat _ _ (by omega) (by omega)]
  unfold cnt
  rw [(window_group 1 c t.val c.isLt).1, (window_group 1 c t.val c.isLt).2]
  push_cast
  rfl

theorem away1 (t : Fin 8192) (c : Fin 64) :
    val_main_v49 (F := Ideal) x0 (ix3 0 t c) = ((y u t.val (chan 1 c) : ℝ) : EReal) := by
  have e : lo (chan 1 c) t.val = lo 64 t.val ∧ hi (chan 1 c) t.val = hi 64 t.val := window_group 1 c t.val c.isLt
  have h := lo_le 64 t.val t.isLt
  unfold val_main_v49 val_main_v46 val_main_v41
  show Ideal.div (val_main_v39_0 (F := Ideal) x0 (ix3 0 t c) - val_main_v40_0 (F := Ideal) x0 (ix3 0 t c))
    (val_main_v45 (F := Ideal) (ix3 0 t c)) - val_main_v48 (F := Ideal) x0 (ix3 0 t c) = _
  rw [sum_upto1 x0 u hu, sum_from1 x0 u hu, count1, ← EReal.coe_sub, div_coe _ _ (cnt_pos _ _ t.isLt).ne']
  have hr : val_main_v48 (F := Ideal) x0 (ix3 0 t c) = ((u t.val (chan 1 c) : ℝ) : EReal) := by
    pointwise [val_main_v48, val_main_v47]
    exact rows_at x0 u hu t 1 c
  rw [hr, ← EReal.coe_sub]
  congr 1
  rw [window_sum _ (show lo 64 t.val ≤ hi 64 t.val by omega)]
  unfold y
  rw [e.1, e.2]

theorem sum_upto2 (t : Fin 8192) (c : Fin 64) :
    val_main_v60_0 (F := Ideal) x0 (ix3 0 t c) = ((∑ s ∈ Finset.range (hi 128 t.val), u s (chan 2 c) : ℝ) : EReal) := by
  have h := lo_le 128 t.val t.isLt
  have one : ∀ j, val_main_call11_v12 (F := Ideal) j = 1#1 := by
    intro j
    unfold val_main_call11_v12
    refine and_ones _ _ _ _ (fun _ => by pointwise [val_main_call11_c_3]) (fun i => ?_) j
    obtain ⟨a, rfl⟩ := one_row i
    have ha := lo_le 128 a.val a.isLt
    rw [← inside_nat ⟨hi 128 a.val, by omega⟩]
    pointwise [val_main_call11_v11, val_main_call11_v7, val_main_call11_v6, val_main_call11_c_2, val_main_call11_v10, val_main_call11_v9, val_main_call11_v8, val_main_call11_c_1]
    rw [upto2]
  unfold val_main_v60_0
  show Scalar.select (val_main_call11_v14 (F := Ideal) (ix3 0 t c)) _ _ = _
  rw [show val_main_call11_v14 (F := Ideal) (ix3 0 t c) = 1#1 from one _]
  show val_main_call11_v13 (F := Ideal) x0 (ix3 0 t c) = _
  refine (take_read _ _ t c ⟨hi 128 t.val, by omega⟩ ?_).trans ?_
  · rw [upto2]; exact int_nat ⟨hi 128 t.val, by omega⟩
  · pointwise [val_main_v59, val_main_v58]
    exact before_at x0 u hu _ 2 c

theorem sum_from2 (t : Fin 8192) (c : Fin 64) :
    val_main_v61_0 (F := Ideal) x0 (ix3 0 t c) = ((∑ s ∈ Finset.range (lo 128 t.val), u s (chan 2 c) : ℝ) : EReal) := by
  have h := lo_le 128 t.val t.isLt
  have one : ∀ j, val_main_call12_v12 (F := Ideal) j = 1#1 := by
    intro j
    unfold val_main_call12_v12
    refine and_ones _ _ _ _ (fun _ => by pointwise [val_main_call12_c_3]) (fun i => ?_) j
    obtain ⟨a, rfl⟩ := one_row i
    have ha := lo_le 128 a.val a.isLt
    rw [← inside_nat ⟨lo 128 a.val, by omega⟩]
    pointwise [val_main_call12_v11, val_main_call12_v7, val_main_call12_v6, val_main_call12_c_2, val_main_call12_v10, val_main_call12_v9, val_main_call12_v8, val_main_call12_c_1]
    rw [from2]
  unfold val_main_v61_0
  show Scalar.select (val_main_call12_v14 (F := Ideal) (ix3 0 t c)) _ _ = _
  rw [show val_main_call12_v14 (F := Ideal) (ix3 0 t c) = 1#1 from one _]
  show val_main_call12_v13 (F := Ideal) x0 (ix3 0 t c) = _
  refine (take_read _ _ t c ⟨lo 128 t.val, by omega⟩ ?_).trans ?_
  · rw [from2]; exact int_nat ⟨lo 128 t.val, by omega⟩
  · pointwise [val_main_v59, val_main_v58]
    exact before_at x0 u hu _ 2 c

omit hu in
theorem count2 (t : Fin 8192) (c : Fin 64) : val_main_v66 (F := Ideal) (ix3 0 t c) = ((cnt (chan 2 c) t.val : ℝ) : EReal) := by
  have h := lo_le 128 t.val t.isLt
  pointwise [val_main_v66, val_main_v65, val_main_v64, val_main_v63]
  rw [first_at2, last_at2]
  show (((IntOp.subi (BitVec.ofNat 32 (hi 128 t.val)) (BitVec.ofNat 32 (lo 128 t.val))).toInt : ℝ) : EReal) = _
  rw [gap_nat _ _ (by omega) (by omega)]
  unfold cnt
  rw [(window_group 2 c t.val c.isLt).1, (window_group 2 c t.val c.isLt).2]
  push_cast
  rfl

theorem away2 (t : Fin 8192) (c : Fin 64) :
    val_main_v70 (F := Ideal) x0 (ix3 0 t c) = ((y u t.val (chan 2 c) : ℝ) : EReal) := by
  have e : lo (chan 2 c) t.val = lo 128 t.val ∧ hi (chan 2 c) t.val = hi 128 t.val := window_group 2 c t.val c.isLt
  have h := lo_le 128 t.val t.isLt
  unfold val_main_v70 val_main_v67 val_main_v62
  show Ideal.div (val_main_v60_0 (F := Ideal) x0 (ix3 0 t c) - val_main_v61_0 (F := Ideal) x0 (ix3 0 t c))
    (val_main_v66 (F := Ideal) (ix3 0 t c)) - val_main_v69 (F := Ideal) x0 (ix3 0 t c) = _
  rw [sum_upto2 x0 u hu, sum_from2 x0 u hu, count2, ← EReal.coe_sub, div_coe _ _ (cnt_pos _ _ t.isLt).ne']
  have hr : val_main_v69 (F := Ideal) x0 (ix3 0 t c) = ((u t.val (chan 2 c) : ℝ) : EReal) := by
    pointwise [val_main_v69, val_main_v68]
    exact rows_at x0 u hu t 2 c
  rw [hr, ← EReal.coe_sub]
  congr 1
  rw [window_sum _ (show lo 128 t.val ≤ hi 128 t.val by omega)]
  unfold y
  rw [e.1, e.2]

theorem sum_upto3 (t : Fin 8192) (c : Fin 64) :
    val_main_v81_0 (F := Ideal) x0 (ix3 0 t c) = ((∑ s ∈ Finset.range (hi 192 t.val), u s (chan 3 c) : ℝ) : EReal) := by
  have h := lo_le 192 t.val t.isLt
  have one : ∀ j, val_main_call15_v12 (F := Ideal) j = 1#1 := by
    intro j
    unfold val_main_call15_v12
    refine and_ones _ _ _ _ (fun _ => by pointwise [val_main_call15_c_3]) (fun i => ?_) j
    obtain ⟨a, rfl⟩ := one_row i
    have ha := lo_le 192 a.val a.isLt
    rw [← inside_nat ⟨hi 192 a.val, by omega⟩]
    pointwise [val_main_call15_v11, val_main_call15_v7, val_main_call15_v6, val_main_call15_c_2, val_main_call15_v10, val_main_call15_v9, val_main_call15_v8, val_main_call15_c_1]
    rw [upto3]
  unfold val_main_v81_0
  show Scalar.select (val_main_call15_v14 (F := Ideal) (ix3 0 t c)) _ _ = _
  rw [show val_main_call15_v14 (F := Ideal) (ix3 0 t c) = 1#1 from one _]
  show val_main_call15_v13 (F := Ideal) x0 (ix3 0 t c) = _
  refine (take_read _ _ t c ⟨hi 192 t.val, by omega⟩ ?_).trans ?_
  · rw [upto3]; exact int_nat ⟨hi 192 t.val, by omega⟩
  · pointwise [val_main_v80, val_main_v79]
    exact before_at x0 u hu _ 3 c

theorem sum_from3 (t : Fin 8192) (c : Fin 64) :
    val_main_v82_0 (F := Ideal) x0 (ix3 0 t c) = ((∑ s ∈ Finset.range (lo 192 t.val), u s (chan 3 c) : ℝ) : EReal) := by
  have h := lo_le 192 t.val t.isLt
  have one : ∀ j, val_main_call16_v12 (F := Ideal) j = 1#1 := by
    intro j
    unfold val_main_call16_v12
    refine and_ones _ _ _ _ (fun _ => by pointwise [val_main_call16_c_3]) (fun i => ?_) j
    obtain ⟨a, rfl⟩ := one_row i
    have ha := lo_le 192 a.val a.isLt
    rw [← inside_nat ⟨lo 192 a.val, by omega⟩]
    pointwise [val_main_call16_v11, val_main_call16_v7, val_main_call16_v6, val_main_call16_c_2, val_main_call16_v10, val_main_call16_v9, val_main_call16_v8, val_main_call16_c_1]
    rw [from3]
  unfold val_main_v82_0
  show Scalar.select (val_main_call16_v14 (F := Ideal) (ix3 0 t c)) _ _ = _
  rw [show val_main_call16_v14 (F := Ideal) (ix3 0 t c) = 1#1 from one _]
  show val_main_call16_v13 (F := Ideal) x0 (ix3 0 t c) = _
  refine (take_read _ _ t c ⟨lo 192 t.val, by omega⟩ ?_).trans ?_
  · rw [from3]; exact int_nat ⟨lo 192 t.val, by omega⟩
  · pointwise [val_main_v80, val_main_v79]
    exact before_at x0 u hu _ 3 c

omit hu in
theorem count3 (t : Fin 8192) (c : Fin 64) : val_main_v87 (F := Ideal) (ix3 0 t c) = ((cnt (chan 3 c) t.val : ℝ) : EReal) := by
  have h := lo_le 192 t.val t.isLt
  pointwise [val_main_v87, val_main_v86, val_main_v85, val_main_v84]
  rw [first_at3, last_at3]
  show (((IntOp.subi (BitVec.ofNat 32 (hi 192 t.val)) (BitVec.ofNat 32 (lo 192 t.val))).toInt : ℝ) : EReal) = _
  rw [gap_nat _ _ (by omega) (by omega)]
  unfold cnt
  rw [(window_group 3 c t.val c.isLt).1, (window_group 3 c t.val c.isLt).2]
  push_cast
  rfl

theorem away3 (t : Fin 8192) (c : Fin 64) :
    val_main_v91 (F := Ideal) x0 (ix3 0 t c) = ((y u t.val (chan 3 c) : ℝ) : EReal) := by
  have e : lo (chan 3 c) t.val = lo 192 t.val ∧ hi (chan 3 c) t.val = hi 192 t.val := window_group 3 c t.val c.isLt
  have h := lo_le 192 t.val t.isLt
  unfold val_main_v91 val_main_v88 val_main_v83
  show Ideal.div (val_main_v81_0 (F := Ideal) x0 (ix3 0 t c) - val_main_v82_0 (F := Ideal) x0 (ix3 0 t c))
    (val_main_v87 (F := Ideal) (ix3 0 t c)) - val_main_v90 (F := Ideal) x0 (ix3 0 t c) = _
  rw [sum_upto3 x0 u hu, sum_from3 x0 u hu, count3, ← EReal.coe_sub, div_coe _ _ (cnt_pos _ _ t.isLt).ne']
  have hr : val_main_v90 (F := Ideal) x0 (ix3 0 t c) = ((u t.val (chan 3 c) : ℝ) : EReal) := by
    pointwise [val_main_v90, val_main_v89]
    exact rows_at x0 u hu t 3 c
  rw [hr, ← EReal.coe_sub]
  congr 1
  rw [window_sum _ (show lo 192 t.val ≤ hi 192 t.val by omega)]
  unfold y
  rw [e.1, e.2]

end Rows

end Cert.PoolRef
-- ==== Proof.PoolRefOut.lean ====
module

public import proofs.«01_k».proof.Proof.PoolRef

/-! # The pooling step's reference: the output and the first gradients -/

@[expose] public section

set_option maxRecDepth 16384

noncomputable section

open Idealize.ShloMosaic Idealize.ShloMosaic.TcCoe Idealize.SL.Sem

namespace Cert.PoolRef

open Cert.PoolRefIdeal Cert.PoolRefIdeal.Read Cert.Pool Cert.PoolTake

theorem chan_split (g c : ℕ) (h : c < 64) : chan g c / 64 = g ∧ chan g c % 64 = c := by
  unfold chan; omega

section Out

variable (x0 x3 : (⟨S1x8192x256, .f32⟩ : BufTy).Contents (Elt Ideal)) (x1 : (⟨S1x4x64x64, .f32⟩ : BufTy).Contents (Elt Ideal))
  (x2 : (⟨S1x256, .f32⟩ : BufTy).Contents (Elt Ideal)) (u da : ℕ → ℕ → ℝ) (W : ℕ → ℕ → ℕ → ℝ) (sc : ℕ → ℝ)
variable (hu : ∀ (s : Fin 8192) (i : Fin 256), x0 (ix3 0 s i) = ((u s.val i.val : ℝ) : EReal))
variable (hW : ∀ (g : Fin 4) (c d : Fin 64), x1 (ix4 0 g c d) = ((W g.val c.val d.val : ℝ) : EReal))
variable (hs : ∀ j : Fin 256, x2 (ix2 0 j) = ((sc j.val : ℝ) : EReal))
variable (hd : ∀ (t : Fin 8192) (j : Fin 256), x3 (ix3 0 t j) = ((da t.val j.val : ℝ) : EReal))

include hu in
theorem away (t : Fin 8192) (g : Fin 4) (c : Fin 64) :
    val_main_v96 (F := Ideal) x0 (ix4 0 t g c) = ((y u t.val (chan g.val c.val) : ℝ) : EReal) := by
  match g with
  | ⟨0, _⟩ => pointwise [val_main_v96, val_main_v92]; exact away0 x0 u hu t c
  | ⟨1, _⟩ => pointwise [val_main_v96, val_main_v93]; exact away1 x0 u hu t c
  | ⟨2, _⟩ => pointwise [val_main_v96, val_main_v94]; exact away2 x0 u hu t c
  | ⟨3, _⟩ => pointwise [val_main_v96, val_main_v95]; exact away3 x0 u hu t c

include hu hW in
theorem linear_at (t : Fin 8192) (j : Fin 256) :
    val_main_v99 (F := Ideal) x0 x1 (ix3 0 t j) = ((yl u W t.val j.val : ℝ) : EReal) := by
  pointwise [val_main_v99, val_main_v98, val_main_v97, val_main_v0]
  refine Eq.trans ?_ (coe_range 64 fun c => y u t.val (64 * (j.val / 64) + c) * W (j.val / 64) c (j.val % 64))
  refine Finset.sum_congr rfl fun c _ => ?_
  rw [hW, away x0 u hu, ← EReal.coe_mul, mul_comm]
  rfl

include hu hW hs in
theorem out_at (t : Fin 8192) (j : Fin 256) :
    val_main_v180 (F := Ideal) x0 x1 x2 (ix2 t j) = ((out u W sc t.val j.val : ℝ) : EReal) := by
  pointwise [val_main_v180, val_main_v102, val_main_v101, val_main_v100, val_main_v1]
  rw [linear_at x0 x1 u W hu hW, hs, ← EReal.coe_mul]
  rfl

include hu hW hd in
theorem dscale_at (j : Fin 256) : val_main_v178 (F := Ideal) x0 x1 x3 (ix2 0 j) = ((dsc u da W j.val : ℝ) : EReal) := by
  pointwise [val_main_v178, val_main_v108, val_main_v105, val_main_v104, val_main_v103, val_main_cst_28, val_main_cst_29]
  refine Eq.trans ?_ (coe_range 8192 fun t => yl u W t j.val * da t j.val)
  refine Finset.sum_congr rfl fun t _ => ?_
  rw [linear_at x0 x1 u W hu hW, hd, ← EReal.coe_mul]

include hs hd in
theorem dlinear_at (t : Fin 8192) (g : Fin 4) (d : Fin 64) :
    val_main_v110 (F := Ideal) x2 x3 (ix4 g d 0 t) = ((dyl da sc t.val (chan g.val d.val) : ℝ) : EReal) := by
  pointwise [val_main_v110, val_main_v109, val_main_v107, val_main_v106, val_main_v100, val_main_v1]
  rw [hd, hs, ← EReal.coe_mul]
  show ((da t.val (g.val * 64 + d.val) * sc (g.val * 64 + d.val) : ℝ) : EReal) = _
  rw [mul_comm g.val 64]
  rfl

include hu hs hd in
theorem dweight_at (g : Fin 4) (c d : Fin 64) :
    val_main_v182 (F := Ideal) x0 x2 x3 (ix3 g c d) = ((dW u da sc g.val c.val d.val : ℝ) : EReal) := by
  pointwise [val_main_v182, val_main_v179, val_main_v114, val_main_v113]
  rw [Fintype.sum_unique]
  refine Eq.trans ?_ (coe_range 8192 fun t => y u t (64 * g.val + c.val) * dyl da sc t (64 * g.val + d.val))
  refine Finset.sum_congr rfl fun t _ => ?_
  refine (congrArg₂ (· * ·) (dlinear_at x3 x2 da sc hs hd t g d) (away x0 u hu t g c)).trans ?_
  rw [← EReal.coe_mul, mul_comm]
  rfl

include hW hs hd in
theorem daway_at (t : Fin 8192) (g : Fin 4) (c : Fin 64) :
    val_main_v112 (F := Ideal) x1 x2 x3 (ix4 0 t g c) = ((dy da W sc t.val (chan g.val c.val) : ℝ) : EReal) := by
  pointwise [val_main_v112, val_main_v111, val_main_v0]
  refine Eq.trans ?_ (coe_range 64 fun d => dyl da sc t.val (64 * (chan g.val c.val / 64) + d) * W (chan g.val c.val / 64) (chan g.val c.val % 64) d)
  refine Finset.sum_congr rfl fun d _ => ?_
  have e := chan_split g.val c.val c.isLt
  rw [dlinear_at x3 x2 da sc hs hd, hW, ← EReal.coe_mul, e.1, e.2]
  rfl

end Out

end Cert.PoolRef
-- ==== Proof.PoolRefBack.lean ====
module

public import proofs.«01_k».proof.Proof.PoolRefOut

/-! # The pooling step's reference: the gradient of the rows -/

@[expose] public section

set_option maxRecDepth 16384

noncomputable section

open Idealize.ShloMosaic Idealize.ShloMosaic.TcCoe Idealize.SL.Sem

namespace Cert.PoolRef

open Cert.PoolRefIdeal Cert.PoolRefIdeal.Read Cert.Pool Cert.PoolTake

/-- What the running sum takes in at a row: each window's share at its end, and less it at its beginning. -/
def ends (da : ℕ → ℕ → ℝ) (W : ℕ → ℕ → ℕ → ℝ) (sc : ℕ → ℝ) (i n : ℕ) : ℝ :=
  (∑ t ∈ Finset.range 8192, if lo i t = n then -(dy da W sc t i / cnt i t) else 0)
    + ∑ t ∈ Finset.range 8192, if hi i t = n then dy da W sc t i / cnt i t else 0

/-- What the two scatters of a group add up to: `f` the gradient over the count, `I` and `J` the rows the windows begin and end at. -/
theorem ends_group {g : ℕ} {da : ℕ → ℕ → ℝ} {W : ℕ → ℕ → ℕ → ℝ} {sc : ℕ → ℝ} {X Y : (⟨S1x8193x64, .f32⟩ : BufTy).Contents (Elt Ideal)}
    {I J : (⟨S8192x1, .i32⟩ : BufTy).Contents (Elt Ideal)} {P Q : (⟨S1x8192x64, .f32⟩ : BufTy).Contents (Elt Ideal)} (n : Fin 8193) (c : Fin 64)
    (hX : X (ix3 0 n c) = 0) (hY : Y (ix3 0 n c) = 0) (hI : ∀ t : Fin 8192, I (ix2 t 0) = BitVec.ofNat 32 (lo (64 * g) t.val))
    (hJ : ∀ t : Fin 8192, J (ix2 t 0) = BitVec.ofNat 32 (hi (64 * g) t.val)) (hP : ∀ i, P i = -Q i)
    (hQ : ∀ t : Fin 8192, Q (ix3 0 t c) = ((dy da W sc t.val (chan g c.val) / cnt (chan g c.val) t.val : ℝ) : EReal)) :
    Ideal.hostScatterAdd addAt X I P (ix3 0 n c) + Ideal.hostScatterAdd addAt Y J Q (ix3 0 n c) = ((ends da W sc (chan g c.val) n.val : ℝ) : EReal) := by
  have w := fun t => window_group g c.val t c.isLt
  have h := fun t : Fin 8192 => lo_le (64 * g) t.val t.isLt
  rw [add_read X I P (fun t => -(dy da W sc t (chan g c.val) / cnt (chan g c.val) t)) (lo (chan g c.val)) n c hX
      (fun t => ((congrArg BitVec.toInt (hI t)).trans (int_nat ⟨lo (64 * g) t.val, by have := h t; omega⟩)).trans (by rw [(w t.val).1]))
      (fun t => by rw [hP, hQ, ← EReal.coe_neg]),
    add_read Y J Q (fun t => dy da W sc t (chan g c.val) / cnt (chan g c.val) t) (hi (chan g c.val)) n c hY
      (fun t => ((congrArg BitVec.toInt (hJ t)).trans (int_nat ⟨hi (64 * g) t.val, by have := h t; omega⟩)).trans (by rw [(w t.val).2])) hQ, ← EReal.coe_add]
  rfl

section Back

variable (x3 : (⟨S1x8192x256, .f32⟩ : BufTy).Contents (Elt Ideal)) (x1 : (⟨S1x4x64x64, .f32⟩ : BufTy).Contents (Elt Ideal))
  (x2 : (⟨S1x256, .f32⟩ : BufTy).Contents (Elt Ideal)) (da : ℕ → ℕ → ℝ) (W : ℕ → ℕ → ℕ → ℝ) (sc : ℕ → ℝ)
variable (hW : ∀ (g : Fin 4) (c d : Fin 64), x1 (ix4 0 g c d) = ((W g.val c.val d.val : ℝ) : EReal))
variable (hs : ∀ j : Fin 256, x2 (ix2 0 j) = ((sc j.val : ℝ) : EReal))
variable (hd : ∀ (t : Fin 8192) (j : Fin 256), x3 (ix3 0 t j) = ((da t.val j.val : ℝ) : EReal))

include hW hs hd

theorem daway0 (t : Fin 8192) (c : Fin 64) :
    val_main_v116 (F := Ideal) x1 x2 x3 (ix3 0 t c) = ((dy da W sc t.val (chan 0 c.val) : ℝ) : EReal) := by
  pointwise [val_main_v116, val_main_v115]
  exact daway_at x3 x1 x2 da W sc hW hs hd t 0 c

theorem share0 (t : Fin 8192) (c : Fin 64) : val_main_v165 (F := Ideal) x1 x2 x3 (ix3 0 t c)
      = ((dy da W sc t.val (chan 0 c.val) / cnt (chan 0 c.val) t.val : ℝ) : EReal) := by
  show Ideal.div (val_main_v116 (F := Ideal) x1 x2 x3 (ix3 0 t c)) (val_main_v24 (F := Ideal) (ix3 0 t c)) = _
  rw [daway0 x3 x1 x2 da W sc hW hs hd, count0, div_coe _ _ (cnt_pos _ _ t.isLt).ne']

theorem ends0 (n : Fin 8193) (c : Fin 64) : val_main_v169 (F := Ideal) x1 x2 x3 (ix3 0 n c)
      = ((ends da W sc (chan 0 c.val) n.val : ℝ) : EReal) := by
  show val_main_v167 (F := Ideal) x1 x2 x3 (ix3 0 n c) + val_main_v168 (F := Ideal) x1 x2 x3 (ix3 0 n c) = _
  unfold val_main_v167 val_main_v168
  rw [add_host, add_host]
  exact ends_group n c (by pointwise [val_main_call23_v0, val_main_call23_cst]) (by pointwise [val_main_call24_v0, val_main_call24_cst]) from0 upto0 (fun _ => rfl)
    fun t => share0 x3 x1 x2 da W sc hW hs hd t c

theorem daway1 (t : Fin 8192) (c : Fin 64) :
    val_main_v118 (F := Ideal) x1 x2 x3 (ix3 0 t c) = ((dy da W sc t.val (chan 1 c.val) : ℝ) : EReal) := by
  pointwise [val_main_v118, val_main_v117]
  exact daway_at x3 x1 x2 da W sc hW hs hd t 1 c

theorem share1 (t : Fin 8192) (c : Fin 64) : val_main_v152 (F := Ideal) x1 x2 x3 (ix3 0 t c)
      = ((dy da W sc t.val (chan 1 c.val) / cnt (chan 1 c.val) t.val : ℝ) : EReal) := by
  show Ideal.div (val_main_v118 (F := Ideal) x1 x2 x3 (ix3 0 t c)) (val_main_v45 (F := Ideal) (ix3 0 t c)) = _
  rw [daway1 x3 x1 x2 da W sc hW hs hd, count1, div_coe _ _ (cnt_pos _ _ t.isLt).ne']

theorem ends1 (n : Fin 8193) (c : Fin 64) : val_main_v156 (F := Ideal) x1 x2 x3 (ix3 0 n c)
      = ((ends da W sc (chan 1 c.val) n.val : ℝ) : EReal) := by
  show val_main_v154 (F := Ideal) x1 x2 x3 (ix3 0 n c) + val_main_v155 (F := Ideal) x1 x2 x3 (ix3 0 n c) = _
  unfold val_main_v154 val_main_v155
  rw [add_host, add_host]
  exact ends_group n c (by pointwise [val_main_call21_v0, val_main_call21_cst]) (by pointwise [val_main_call22_v0, val_main_call22_cst]) from1 upto1 (fun _ => rfl)
    fun t => share1 x3 x1 x2 da W sc hW hs hd t c

theorem daway2 (t : Fin 8192) (c : Fin 64) :
    val_main_v120 (F := Ideal) x1 x2 x3 (ix3 0 t c) = ((dy da W sc t.val (chan 2 c.val) : ℝ) : EReal) := by
  pointwise [val_main_v120, val_main_v119]
  exact daway_at x3 x1 x2 da W sc hW hs hd t 2 c

theorem share2 (t : Fin 8192) (c : Fin 64) : val_main_v139 (F := Ideal) x1 x2 x3 (ix3 0 t c)
      = ((dy da W sc t.val (chan 2 c.val) / cnt (chan 2 c.val) t.val : ℝ) : EReal) := by
  show Ideal.div (val_main_v120 (F := Ideal) x1 x2 x3 (ix3 0 t c)) (val_main_v66 (F := Ideal) (ix3 0 t c)) = _
  rw [daway2 x3 x1 x2 da W sc hW hs hd, count2, div_coe _ _ (cnt_pos _ _ t.isLt).ne']

theorem ends2 (n : Fin 8193) (c : Fin 64) : val_main_v143 (F := Ideal) x1 x2 x3 (ix3 0 n c)
      = ((ends da W sc (chan 2 c.val) n.val : ℝ) : EReal) := by
  show val_main_v141 (F := Ideal) x1 x2 x3 (ix3 0 n c) + val_main_v142 (F := Ideal) x1 x2 x3 (ix3 0 n c) = _
  unfold val_main_v141 val_main_v142
  rw [add_host, add_host]
  exact ends_group n c (by pointwise [val_main_call19_v0, val_main_call19_cst]) (by pointwise [val_main_call20_v0, val_main_call20_cst]) from2 upto2 (fun _ => rfl)
    fun t => share2 x3 x1 x2 da W sc hW hs hd t c

theorem daway3 (t : Fin 8192) (c : Fin 64) :
    val_main_v122 (F := Ideal) x1 x2 x3 (ix3 0 t c) = ((dy da W sc t.val (chan 3 c.val) : ℝ) : EReal) := by
  pointwise [val_main_v122, val_main_v121]
  exact daway_at x3 x1 x2 da W sc hW hs hd t 3 c

theorem share3 (t : Fin 8192) (c : Fin 64) : val_main_v127 (F := Ideal) x1 x2 x3 (ix3 0 t c)
      = ((dy da W sc t.val (chan 3 c.val) / cnt (chan 3 c.val) t.val : ℝ) : EReal) := by
  show Ideal.div (val_main_v122 (F := Ideal) x1 x2 x3 (ix3 0 t c)) (val_main_v87 (F := Ideal) (ix3 0 t c)) = _
  rw [daway3 x3 x1 x2 da W sc hW hs hd, count3, div_coe _ _ (cnt_pos _ _ t.isLt).ne']

theorem ends3 (n : Fin 8193) (c : Fin 64) : val_main_v131 (F := Ideal) x1 x2 x3 (ix3 0 n c)
      = ((ends da W sc (chan 3 c.val) n.val : ℝ) : EReal) := by
  show val_main_v129 (F := Ideal) x1 x2 x3 (ix3 0 n c) + val_main_v130 (F := Ideal) x1 x2 x3 (ix3 0 n c) = _
  unfold val_main_v129 val_main_v130
  rw [add_host, add_host]
  exact ends_group n c (by pointwise [val_main_call17_v0, val_main_call17_cst]) (by pointwise [val_main_call18_v0, val_main_call18_cst]) from3 upto3 (fun _ => rfl)
    fun t => share3 x3 x1 x2 da W sc hW hs hd t c

theorem ends_all (n : Fin 8193) (g : Fin 4) (c : Fin 64) : val_main_v172 (F := Ideal) x1 x2 x3 (ix4 0 n g c)
      = ((ends da W sc (chan g.val c.val) n.val : ℝ) : EReal) := by
  refine match g with
    | ⟨0, _⟩ => ?_ | ⟨1, _⟩ => ?_ | ⟨2, _⟩ => ?_ | ⟨3, _⟩ => ?_
  all_goals pointwise [val_main_v172, val_main_v159, val_main_v146, val_main_v133, val_main_v132, val_main_cst_31, val_main_v145, val_main_v144,
      val_main_cst_33, val_main_v158, val_main_v157, val_main_cst_35, val_main_v171, val_main_v170, val_main_cst_37]
  exacts [ends0 x3 x1 x2 da W sc hW hs hd n c,
    ends1 x3 x1 x2 da W sc hW hs hd n c,
    ends2 x3 x1 x2 da W sc hW hs hd n c,
    ends3 x3 x1 x2 da W sc hW hs hd n c]

theorem ends_at (k : Fin 8192) (g : Fin 4) (c : Fin 64) : val_main_v174 (F := Ideal) x1 x2 x3 (ix4 0 k g c)
      = ((ends da W sc (chan g.val c.val) (k.val + 1) : ℝ) : EReal) := by
  pointwise [val_main_v174]
  refine (ends_all x3 x1 x2 da W sc hW hs hd ⟨1 + k.val, by omega⟩ g c).trans ?_
  show ((ends da W sc (chan g.val c.val) (1 + k.val) : ℝ) : EReal) = _
  rw [add_comm]

theorem minus_at (t : Fin 8192) (g : Fin 4) (c : Fin 64) : val_main_v163 (F := Ideal) x1 x2 x3 (ix4 0 t g c)
      = ((-dy da W sc t.val (chan g.val c.val) : ℝ) : EReal) := by
  rw [EReal.coe_neg]
  refine match g with
    | ⟨0, _⟩ => ?_ | ⟨1, _⟩ => ?_ | ⟨2, _⟩ => ?_ | ⟨3, _⟩ => ?_
  all_goals pointwise [val_main_v163, val_main_v150, val_main_v137, val_main_v125, val_main_v124, val_main_v123, val_main_cst_30, val_main_v136,
      val_main_v135, val_main_v134, val_main_cst_32, val_main_v149, val_main_v148, val_main_v147, val_main_cst_34,
      val_main_v162, val_main_v161, val_main_v160, val_main_cst_36]
  exacts [congrArg (fun z : EReal => -z) (daway0 x3 x1 x2 da W sc hW hs hd t c),
    congrArg (fun z : EReal => -z) (daway1 x3 x1 x2 da W sc hW hs hd t c),
    congrArg (fun z : EReal => -z) (daway2 x3 x1 x2 da W sc hW hs hd t c),
    congrArg (fun z : EReal => -z) (daway3 x3 x1 x2 da W sc hW hs hd t c)]

theorem back_at (s : Fin 8192) (g : Fin 4) (c : Fin 64) : val_main_v175 (F := Ideal) x1 x2 x3 (ix4 0 s g c)
      = ((∑ t ∈ Finset.range 8192, if lo (chan g.val c.val) t ≤ s.val ∧ s.val < hi (chan g.val c.val) t
          then dy da W sc t (chan g.val c.val) / cnt (chan g.val c.val) t else 0 : ℝ) : EReal) := by
  unfold val_main_v175
  rw [window_host _ _ _ _ _ _ _ _ (fun _ => by pointwise [val_main_call25_call0_v0, val_main_call25_call0_v0, val_main_call25_call0_cst])]
  rw [window_read 0 8191 _ _ (fun k => ends da W sc (chan g.val c.val) (k + 1)) g c (fun k => ends_at x3 x1 x2 da W sc hW hs hd k g c) s]
  congr 1
  refine Eq.trans (Finset.sum_congr rfl fun m hm => ?_) ((run_back (fun k => ends da W sc (chan g.val c.val) (k + 1)) s.val s.isLt).trans
    (ends_sum _ _ _ ?_ s.val s.isLt))
  · have := Finset.mem_range.1 hm
    have := s.isLt
    rw [Nat.sub_zero]
    by_cases h : s.val + m < 8192
    · rw [if_pos ⟨Nat.zero_le _, h⟩, if_pos h]
    · rw [if_neg fun h' => h h'.2, if_neg h]
  · intro t ht
    have := lo_le (chan g.val c.val) t ht
    omega

theorem drows_at (s : Fin 8192) (i : Fin 256) : val_main_v181 (F := Ideal) x1 x2 x3 (ix2 s i) = ((du da W sc s.val i.val : ℝ) : EReal) := by
  have hi : chan (i.val / 64) (i.val % 64) = i.val := by unfold chan; omega
  pointwise [val_main_v181, val_main_v177, val_main_v176]
  refine (congrArg₂ (· + ·) (minus_at x3 x1 x2 da W sc hW hs hd s ⟨i.val / 64, by omega⟩ ⟨i.val % 64, by omega⟩)
    (back_at x3 x1 x2 da W sc hW hs hd s ⟨i.val / 64, by omega⟩ ⟨i.val % 64, by omega⟩)).trans ?_
  rw [← EReal.coe_add]
  show ((-dy da W sc s.val (chan (i.val / 64) (i.val % 64)) + _ : ℝ) : EReal) = _
  rw [hi, neg_add_eq_sub]
  rfl

end Back

end Cert.PoolRef
-- ==== Proof.PoolClaims.lean ====
module

public import proofs.«01_k».proof.Defs
public import proofs.«01_k».proof.Proof.Gen.Pre_pool_finite
public import proofs.«01_k».proof.Proof.Gen.Pool
public import proofs.«01_k».proof.Proof.Gen.PoolRefIdeal.Run
public import proofs.«01_k».proof.Proof.FfnClaims
public import proofs.«01_k».proof.Proof.PoolArrays
public import proofs.«01_k».proof.Proof.PoolRefOut
public import proofs.«01_k».proof.Proof.PoolRefBack
public import Idealize.ShloMosaic.Lib.Pointwise
public import Idealize.ShloMosaic.Lib.Quiescent
public import Idealize.ShloMosaic.Lib.Claim

/-! # The pooling program's claims -/

@[expose] public section

set_option maxRecDepth 16384

noncomputable section

namespace Cert.PoolClaims

open Idealize.ShloMosaic Idealize.ShloMosaic.TcCoe Idealize.SL.Sem
open Cert.AttnClaims (and_one)
open Cert.PoolArrays (Real Reals)
open Cert.Ffn1 (IsReal)
open Cert.PoolIdeal (nD τ sig)

theorem finite_entries (u : FVec Ideal Cert.PoolIdeal.S1x8192x256 .f32) (w : FVec Ideal Cert.PoolIdeal.S1x4x64x64 .f32)
    (s : FVec Ideal Cert.PoolIdeal.S1x256 .f32) (d : FVec Ideal Cert.PoolIdeal.S1x8192x256 .f32)
    (h : Cert.Pre_pool_finite.fn (F := Ideal) u w s d = fun _ => 1#1) : Real u ∧ Real w ∧ Real s ∧ Real d := by
  have real : ∀ {x : EReal}, IsReal x → x = (x.toReal : EReal) := by rintro _ ⟨r, rfl⟩; rfl
  have e := congrFun h (fun k => k.elim0)
  unfold Cert.Pre_pool_finite.fn Cert.Pre_pool_finite.fn_part1 at e
  replace ⟨e, hd⟩ := and_one e
  replace ⟨e, hs⟩ := and_one e
  obtain ⟨hu, hw⟩ := and_one e
  clear h e
  exact ⟨fun i => real (FfnArrays.real_entry u _ _ (by intro _; rfl) _ _ _ hu i), fun i => real (FfnArrays.real_entry w _ _ (by intro _; rfl) _ _ _ hw i),
    fun i => real (FfnArrays.real_entry s _ _ (by intro _; rfl) _ _ _ hs i), fun i => real (FfnArrays.real_entry d _ _ (by intro _; rfl) _ _ _ hd i)⟩

theorem reals (m : (ℓ : Loc nD τ sig) → Buf (Elt Ideal) ℓ) (h : Cert.Pre_PoolIdeal_pool_finite m) (c : Dev nD) : Reals m c := by
  obtain ⟨hu, hw, hs, hd⟩ := finite_entries _ _ _ _ (h c)
  exact ⟨hu, hw, hs, hd⟩

/-- The frame of the kernel's program at bit patterns: the two programs have one text. -/
theorem frame_kernel : Cert.quiescent_Pool := by
  have e : Cert.quiescent_Pool = (∀ (m : (ℓ : Loc nD τ sig) → Buf (Elt Bits) ℓ) (g : Dev nD → PrngReg), True →
      θ_run (Cert.PoolIdeal.defs (F := Bits)) (onTc (τ := τ) (Cert.PoolIdeal.main (F := Bits))) ⟨m, fun _ => 0, g⟩ (fun r => (∀ c : Dev nD,
        r.2.mem ((c.tc : Thread nD τ).loc Cert.PoolIdeal.main_arg0) = m ((c.tc : Thread nD τ).loc Cert.PoolIdeal.main_arg0)
        ∧ r.2.mem ((c.tc : Thread nD τ).loc Cert.PoolIdeal.main_arg1) = m ((c.tc : Thread nD τ).loc Cert.PoolIdeal.main_arg1)
        ∧ r.2.mem ((c.tc : Thread nD τ).loc Cert.PoolIdeal.main_arg2) = m ((c.tc : Thread nD τ).loc Cert.PoolIdeal.main_arg2)
        ∧ r.2.mem ((c.tc : Thread nD τ).loc Cert.PoolIdeal.main_arg3) = m ((c.tc : Thread nD τ).loc Cert.PoolIdeal.main_arg3))
        ∧ r.2.sem = fun _ => 0)) := by
    sl_kernel_rfl
  exact e.mpr fun m ρ _ => Cert.PoolRun.frame (F := Bits) m ρ

theorem frame_ideal : Cert.quiescent_PoolIdeal := fun m ρ _ => Cert.PoolRun.frame (F := Ideal) m ρ

theorem frame_ideal_pre : Cert.quiescent_PoolIdeal_pre_pool_finite := fun m ρ _ => Cert.PoolRun.frame (F := Ideal) m ρ

theorem frame_ref : Cert.quiescent_PoolRefIdeal := by
  intro m g _
  exact (θ_run _ _ _).mono (fun r h => ⟨fun c => (h c).2.2.2.2, sem_eq_zero_of_no_sems rfl _⟩) (Cert.PoolRefIdeal.Value.run m g)

theorem frame_ref_pre : Cert.quiescent_PoolRefIdeal_pre_pool_finite := fun m g _ => frame_ref m g trivial

open Cert.PoolArrays in
open Cert.PoolRun in
set_option maxHeartbeats 1000000 in
theorem algebraic : Cert.algebraic_PoolIdeal_PoolRefIdeal_pre_pool_finite := by
  intro m g m' g' hpre hagree
  have hr := fun c => reals m hpre c
  refine ⟨fun c => mem5 m g c (Proc.devRef .tc Cert.PoolIdeal.main_v28), fun c => mem5 m g c (Proc.devRef .tc Cert.PoolIdeal.main_v29),
    fun c => mem5 m g c (Proc.devRef .tc Cert.PoolIdeal.main_v27), fun c => mem5 m g c (Proc.devRef .tc Cert.PoolIdeal.main_v18_2), ?_, ?_⟩
  · refine (θ_run _ _ _).mono (fun r h c => ?_) (run_all m g)
    exact ⟨h.1 c _ (kept_mem Cert.PoolIdeal.main_v28 (by decide)), h.1 c _ (kept_mem Cert.PoolIdeal.main_v29 (by decide)),
      h.1 c _ (kept_mem Cert.PoolIdeal.main_v27 (by decide)), h.1 c _ (kept_mem Cert.PoolIdeal.main_v18_2 (by decide)),
      (h.1 c _ (kept_mem Cert.PoolIdeal.main_arg0 (by decide))).trans (mem5_main_arg0 m g c),
      (h.1 c _ (kept_mem Cert.PoolIdeal.main_arg1 (by decide))).trans (mem5_main_arg1 m g c),
      (h.1 c _ (kept_mem Cert.PoolIdeal.main_arg2 (by decide))).trans (mem5_main_arg2 m g c),
      (h.1 c _ (kept_mem Cert.PoolIdeal.main_arg3 (by decide))).trans (mem5_main_arg3 m g c)⟩
  · refine (θ_run _ _ _).mono (fun r h c => ?_) (Cert.PoolRefIdeal.Value.run m' g')
    have hc := h c
    have b0 : StableHlo.launchContents m' c (Proc.devRef .tc Cert.PoolRefIdeal.main_arg0) = a0 m c := (hagree c).1
    have b1 : StableHlo.launchContents m' c (Proc.devRef .tc Cert.PoolRefIdeal.main_arg1) = a1 m c := (hagree c).2.1
    have b2 : StableHlo.launchContents m' c (Proc.devRef .tc Cert.PoolRefIdeal.main_arg2) = a2 m c := (hagree c).2.2.1
    have b3 : StableHlo.launchContents m' c (Proc.devRef .tc Cert.PoolRefIdeal.main_arg3) = a3 m c := (hagree c).2.2.2
    have hu := rows_at (hr c).u
    have hd := rows_at (hr c).d
    have hw := weights_at (hr c).w
    have hs := scales_at (hr c).s
    refine ⟨hc.1.trans ?_, hc.2.1.trans ?_, hc.2.2.1.trans ?_, hc.2.2.2.1.trans ?_, hc.2.2.2.2⟩
    · rw [Cert.PoolRefIdeal.Read.val_main_v180_eq, b0, b1, b2]
      funext i
      rw [eq_ix2 i]
      exact (PoolRef.out_at (a0 m c) (a1 m c) (a2 m c) (U m c) (WT m c) (SC m c) hu hw hs _ _).trans (out_result m g c (hr c) _ _).symm
    · rw [Cert.PoolRefIdeal.Read.val_main_v181_eq, b1, b2, b3]
      funext i
      rw [eq_ix2 i]
      exact (PoolRef.drows_at (a3 m c) (a1 m c) (a2 m c) (DA m c) (WT m c) (SC m c) hw hs hd _ _).trans (rows_result m g c (hr c) _ _).symm
    · rw [Cert.PoolRefIdeal.Read.val_main_v182_eq, b0, b2, b3]
      funext i
      rw [eq_ix3 i]
      exact (PoolRef.dweight_at (a0 m c) (a3 m c) (a2 m c) (U m c) (DA m c) (SC m c) hu hs hd _ _ _).trans (weights_result m g c (hr c) _ _ _).symm
    · rw [Cert.PoolRefIdeal.Read.val_main_v178_eq, b0, b1, b3]
      funext i
      obtain ⟨r, j, rfl⟩ : ∃ (r : Fin 1) (j : Fin 256), i = ix2 r j := ⟨i 0, i 1, eq_ix2 i⟩
      obtain rfl : r = 0 := Subsingleton.elim _ _
      exact (PoolRef.dscale_at (a0 m c) (a3 m c) (a1 m c) (U m c) (DA m c) (WT m c) hu hw hd _).trans (scale_result m g c (hr c) _).symm

end Cert.PoolClaims

end
-- ==== Proof.lean ====
module

public import proofs.«01_k».proof.Proof.Gen.Attn1
public import proofs.«01_k».proof.Proof.Gen.Attn1Ideal
public import proofs.«01_k».proof.Proof.Gen.Attn1Ideal.Skeleton
public import proofs.«01_k».proof.Proof.Gen.Attn1Ideal.Loops
public import proofs.«01_k».proof.Proof.Gen.Attn1Ideal.Launch
public import proofs.«01_k».proof.Proof.Gen.Attn1Ideal.Regions
public import proofs.«01_k».proof.Proof.Gen.Attn1Ideal.Points
public import proofs.«01_k».proof.Proof.Gen.Attn1RefIdeal
public import proofs.«01_k».proof.Proof.Gen.Attn1RefIdeal.Run
public import proofs.«01_k».proof.Proof.Gen.Attn1RefIdeal.Read
public import proofs.«01_k».proof.Proof.Gen.Pre_attn_finite
public import proofs.«01_k».proof.Defs
public import proofs.«01_k».proof.Proof.Gen.InBwd
public import proofs.«01_k».proof.Proof.Gen.InBwd.Frame
public import proofs.«01_k».proof.Proof.Gen.InBwdIdeal
public import proofs.«01_k».proof.Proof.Gen.InBwdIdeal.Frame
public import proofs.«01_k».proof.Proof.Gen.InRefIdeal
public import proofs.«01_k».proof.Proof.Gen.InBwdIdeal.Value
public import proofs.«01_k».proof.Proof.Gen.InRefIdeal.Run
public import proofs.«01_k».proof.Proof.Gen.InRefIdeal.Read
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Pre_ffn_finite
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.Gen.OutRefIdeal.Run
public import proofs.«01_k».proof.Proof.Gen.OutRefIdeal.Read
public import proofs.«01_k».proof.Proof.Gen.Pre_out_finite
public import proofs.«01_k».proof.Proof.Gen.Pool
public import proofs.«01_k».proof.Proof.Gen.PoolIdeal
public import proofs.«01_k».proof.Proof.Gen.PoolIdeal.Skeleton
public import proofs.«01_k».proof.Proof.Gen.PoolIdeal.Loops
public import proofs.«01_k».proof.Proof.Gen.PoolIdeal.Launch
public import proofs.«01_k».proof.Proof.Gen.PoolIdeal.Regions
public import proofs.«01_k».proof.Proof.Gen.PoolIdeal.Points
public import proofs.«01_k».proof.Proof.Gen.PoolRefIdeal
public import proofs.«01_k».proof.Proof.Gen.PoolRefIdeal.Run
public import proofs.«01_k».proof.Proof.Gen.PoolRefIdeal.Read
public import proofs.«01_k».proof.Proof.Gen.Pre_pool_finite
public import proofs.«01_k».proof.Proof.Gen.InFwd
public import proofs.«01_k».proof.Proof.Gen.InFwd.Frame
public import proofs.«01_k».proof.Proof.Gen.InFwdIdeal
public import proofs.«01_k».proof.Proof.Gen.InFwdIdeal.Frame
public import proofs.«01_k».proof.Proof.Gen.InFwdIdeal.Value
public import proofs.«01_k».proof.Proof.Gen.InFwdRefIdeal
public import proofs.«01_k».proof.Proof.Gen.InFwdRefIdeal.Run
public import proofs.«01_k».proof.Proof.Gen.InFwdRefIdeal.Read
public import proofs.«01_k».proof.Proof.InBwdValue
public import proofs.«01_k».proof.Proof.InFwdValue
public import proofs.«01_k».proof.Proof.AttnClaims
public import proofs.«01_k».proof.Proof.FfnClaims
public import proofs.«01_k».proof.Proof.OutClaims
public import proofs.«01_k».proof.Proof.PoolClaims

@[expose] public section

noncomputable section

namespace Cert.Proof

open Idealize.ShloMosaic Idealize.SL.Sem

theorem claim : Cert.Claim :=
  ⟨Cert.InBwd.Gen.facts, Cert.InBwdIdeal.Gen.facts, Cert.InRefIdeal.Gen.facts,
    Cert.Attn1.Gen.facts, Cert.Attn1Ideal.Gen.facts, Cert.Attn1RefIdeal.Gen.facts,
    Cert.Ffn.Gen.facts, Cert.FfnIdeal.Gen.facts, Cert.FfnRefIdeal.Gen.facts,
    Cert.Out.Gen.facts, Cert.OutIdeal.Gen.facts, Cert.OutRefIdeal.Gen.facts,
    Cert.Pool.Gen.facts, Cert.PoolIdeal.Gen.facts, Cert.PoolRefIdeal.Gen.facts,
    Cert.InFwd.Gen.facts, Cert.InFwdIdeal.Gen.facts, Cert.InFwdRefIdeal.Gen.facts,
    Cert.Pre_attn_finite.Gen.facts, Cert.Pre_ffn_finite.Gen.facts, Cert.Pre_out_finite.Gen.facts, Cert.Pre_pool_finite.Gen.facts,
    fun m ρ _ => Cert.InBwd.Gen.frame m ρ, fun m ρ _ => Cert.InBwdIdeal.Gen.frame m ρ, Cert.InBwdClaims.frame_ref,
    Cert.AttnClaims.frame_kernel, Cert.AttnClaims.frame_ideal, Cert.AttnClaims.frame_ideal_pre,
    Cert.AttnClaims.frame_ref, Cert.AttnClaims.frame_ref_pre,
    fun m ρ _ => Cert.Ffn.Gen.frame m ρ, fun m ρ _ => Cert.FfnIdeal.Gen.frame m ρ, fun m ρ _ => Cert.FfnIdeal.Gen.frame m ρ,
    Cert.FfnClaims.frame_ref, Cert.FfnClaims.frame_ref_pre,
    fun m ρ _ => Cert.Out.Gen.frame m ρ, fun m ρ _ => Cert.OutIdeal.Gen.frame m ρ, fun m ρ _ => Cert.OutIdeal.Gen.frame m ρ,
    Cert.OutClaims.frame_ref, Cert.OutClaims.frame_ref_pre,
    Cert.PoolClaims.frame_kernel, Cert.PoolClaims.frame_ideal, Cert.PoolClaims.frame_ideal_pre,
    Cert.PoolClaims.frame_ref, Cert.PoolClaims.frame_ref_pre,
    fun m ρ _ => Cert.InFwd.Gen.frame m ρ, fun m ρ _ => Cert.InFwdIdeal.Gen.frame m ρ, Cert.InFwdClaims.frame_ref,
    trivial, Cert.InBwdClaims.algebraic, Cert.AttnClaims.preserves, Cert.AttnClaims.algebraic,
    trivial, Cert.FfnClaims.algebraic, trivial, Cert.OutClaims.algebraic, trivial, Cert.PoolClaims.algebraic,
    trivial, Cert.InFwdClaims.algebraic⟩

end Cert.Proof

end
